-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_finite_in [hPre_finite_in : Cert.Pre_finite_in.Facts] (m : (ℓ : Loc Cert.InprojIdeal.nD Cert.InprojIdeal.τ Cert.InprojIdeal.sig) → Buf (Elt Ideal) ℓ) : Prop :=
  ∀ c : Dev Cert.InprojIdeal.nD,
    (Cert.Pre_finite_in.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10))).1 = (fun _ => 1#1)
    ∧ (Cert.Pre_finite_in.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10))).2.1 = (fun _ => 1#1)
    ∧ (Cert.Pre_finite_in.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10))).2.2.1 = (fun _ => 1#1)
    ∧ (Cert.Pre_finite_in.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10))).2.2.2.1 = (fun _ => 1#1)
    ∧ (Cert.Pre_finite_in.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10))).2.2.2.2.1 = (fun _ => 1#1)
    ∧ (Cert.Pre_finite_in.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10))).2.2.2.2.2.1 = (fun _ => 1#1)
    ∧ (Cert.Pre_finite_in.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10))).2.2.2.2.2.2.1 = (fun _ => 1#1)
    ∧ (Cert.Pre_finite_in.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10))).2.2.2.2.2.2.2.1 = (fun _ => 1#1)
    ∧ (Cert.Pre_finite_in.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10))).2.2.2.2.2.2.2.2.1 = (fun _ => 1#1)
    ∧ (Cert.Pre_finite_in.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10))).2.2.2.2.2.2.2.2.2 = (fun _ => 1#1)

def Pre_InprojRefIdeal (m : (ℓ : Loc Cert.InprojRefIdeal.nD Cert.InprojRefIdeal.τ Cert.InprojRefIdeal.sig) → Buf (Elt Ideal) ℓ) : Prop :=
  True

def Pre_InprojRefIdeal_finite_in [hPre_finite_in : Cert.Pre_finite_in.Facts] (m : (ℓ : Loc Cert.InprojRefIdeal.nD Cert.InprojRefIdeal.τ Cert.InprojRefIdeal.sig) → Buf (Elt Ideal) ℓ) : Prop :=
  ∀ c : Dev Cert.InprojRefIdeal.nD,
    (Cert.Pre_finite_in.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10))).1 = (fun _ => 1#1)
    ∧ (Cert.Pre_finite_in.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10))).2.1 = (fun _ => 1#1)
    ∧ (Cert.Pre_finite_in.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10))).2.2.1 = (fun _ => 1#1)
    ∧ (Cert.Pre_finite_in.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10))).2.2.2.1 = (fun _ => 1#1)
    ∧ (Cert.Pre_finite_in.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10))).2.2.2.2.1 = (fun _ => 1#1)
    ∧ (Cert.Pre_finite_in.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10))).2.2.2.2.2.1 = (fun _ => 1#1)
    ∧ (Cert.Pre_finite_in.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10))).2.2.2.2.2.2.1 = (fun _ => 1#1)
    ∧ (Cert.Pre_finite_in.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10))).2.2.2.2.2.2.2.1 = (fun _ => 1#1)
    ∧ (Cert.Pre_finite_in.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10))).2.2.2.2.2.2.2.2.1 = (fun _ => 1#1)
    ∧ (Cert.Pre_finite_in.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10))).2.2.2.2.2.2.2.2.2 = (fun _ => 1#1)

def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdIdeal_finite_ssd [hPre_finite_ssd : Cert.Pre_finite_ssd.Facts] (m : (ℓ : Loc Cert.SsdIdeal.nD Cert.SsdIdeal.τ Cert.SsdIdeal.sig) → Buf (Elt Ideal) ℓ) : Prop :=
  ∀ c : Dev Cert.SsdIdeal.nD,
    (Cert.Pre_finite_ssd.fn (F := Ideal) (m ((c.tc : Thread Cert.SsdIdeal.nD Cert.SsdIdeal.τ).loc Cert.SsdIdeal.main_arg0)) (m ((c.tc : Thread Cert.SsdIdeal.nD Cert.SsdIdeal.τ).loc Cert.SsdIdeal.main_arg1)) (m ((c.tc : Thread Cert.SsdIdeal.nD Cert.SsdIdeal.τ).loc Cert.SsdIdeal.main_arg2)) (m ((c.tc : Thread Cert.SsdIdeal.nD Cert.SsdIdeal.τ).loc Cert.SsdIdeal.main_arg3)) (m ((c.tc : Thread Cert.SsdIdeal.nD Cert.SsdIdeal.τ).loc Cert.SsdIdeal.main_arg4)) (m ((c.tc : Thread Cert.SsdIdeal.nD Cert.SsdIdeal.τ).loc Cert.SsdIdeal.main_arg5))).1 = (fun _ => 1#1)
    ∧ (Cert.Pre_finite_ssd.fn (F := Ideal) (m ((c.tc : Thread Cert.SsdIdeal.nD Cert.SsdIdeal.τ).loc Cert.SsdIdeal.main_arg0)) (m ((c.tc : Thread Cert.SsdIdeal.nD Cert.SsdIdeal.τ).loc Cert.SsdIdeal.main_arg1)) (m ((c.tc : Thread Cert.SsdIdeal.nD Cert.SsdIdeal.τ).loc Cert.SsdIdeal.main_arg2)) (m ((c.tc : Thread Cert.SsdIdeal.nD Cert.SsdIdeal.τ).loc Cert.SsdIdeal.main_arg3)) (m ((c.tc : Thread Cert.SsdIdeal.nD Cert.SsdIdeal.τ).loc Cert.SsdIdeal.main_arg4)) (m ((c.tc : Thread Cert.SsdIdeal.nD Cert.SsdIdeal.τ).loc Cert.SsdIdeal.main_arg5))).2.1 = (fun _ => 1#1)
    ∧ (Cert.Pre_finite_ssd.fn (F := Ideal) (m ((c.tc : Thread Cert.SsdIdeal.nD Cert.SsdIdeal.τ).loc Cert.SsdIdeal.main_arg0)) (m ((c.tc : Thread Cert.SsdIdeal.nD Cert.SsdIdeal.τ).loc Cert.SsdIdeal.main_arg1)) (m ((c.tc : Thread Cert.SsdIdeal.nD Cert.SsdIdeal.τ).loc Cert.SsdIdeal.main_arg2)) (m ((c.tc : Thread Cert.SsdIdeal.nD Cert.SsdIdeal.τ).loc Cert.SsdIdeal.main_arg3)) (m ((c.tc : Thread Cert.SsdIdeal.nD Cert.SsdIdeal.τ).loc Cert.SsdIdeal.main_arg4)) (m ((c.tc : Thread Cert.SsdIdeal.nD Cert.SsdIdeal.τ).loc Cert.SsdIdeal.main_arg5))).2.2.1 = (fun _ => 1#1)
    ∧ (Cert.Pre_finite_ssd.fn (F := Ideal) (m ((c.tc : Thread Cert.SsdIdeal.nD Cert.SsdIdeal.τ).loc Cert.SsdIdeal.main_arg0)) (m ((c.tc : Thread Cert.SsdIdeal.nD Cert.SsdIdeal.τ).loc Cert.SsdIdeal.main_arg1)) (m ((c.tc : Thread Cert.SsdIdeal.nD Cert.SsdIdeal.τ).loc Cert.SsdIdeal.main_arg2)) (m ((c.tc : Thread Cert.SsdIdeal.nD Cert.SsdIdeal.τ).loc Cert.SsdIdeal.main_arg3)) (m ((c.tc : Thread Cert.SsdIdeal.nD Cert.SsdIdeal.τ).loc Cert.SsdIdeal.main_arg4)) (m ((c.tc : Thread Cert.SsdIdeal.nD Cert.SsdIdeal.τ).loc Cert.SsdIdeal.main_arg5))).2.2.2.1 = (fun _ => 1#1)
    ∧ (Cert.Pre_finite_ssd.fn (F := Ideal) (m ((c.tc : Thread Cert.SsdIdeal.nD Cert.SsdIdeal.τ).loc Cert.SsdIdeal.main_arg0)) (m ((c.tc : Thread Cert.SsdIdeal.nD Cert.SsdIdeal.τ).loc Cert.SsdIdeal.main_arg1)) (m ((c.tc : Thread Cert.SsdIdeal.nD Cert.SsdIdeal.τ).loc Cert.SsdIdeal.main_arg2)) (m ((c.tc : Thread Cert.SsdIdeal.nD Cert.SsdIdeal.τ).loc Cert.SsdIdeal.main_arg3)) (m ((c.tc : Thread Cert.SsdIdeal.nD Cert.SsdIdeal.τ).loc Cert.SsdIdeal.main_arg4)) (m ((c.tc : Thread Cert.SsdIdeal.nD Cert.SsdIdeal.τ).loc Cert.SsdIdeal.main_arg5))).2.2.2.2.1 = (fun _ => 1#1)
    ∧ (Cert.Pre_finite_ssd.fn (F := Ideal) (m ((c.tc : Thread Cert.SsdIdeal.nD Cert.SsdIdeal.τ).loc Cert.SsdIdeal.main_arg0)) (m ((c.tc : Thread Cert.SsdIdeal.nD Cert.SsdIdeal.τ).loc Cert.SsdIdeal.main_arg1)) (m ((c.tc : Thread Cert.SsdIdeal.nD Cert.SsdIdeal.τ).loc Cert.SsdIdeal.main_arg2)) (m ((c.tc : Thread Cert.SsdIdeal.nD Cert.SsdIdeal.τ).loc Cert.SsdIdeal.main_arg3)) (m ((c.tc : Thread Cert.SsdIdeal.nD Cert.SsdIdeal.τ).loc Cert.SsdIdeal.main_arg4)) (m ((c.tc : Thread Cert.SsdIdeal.nD Cert.SsdIdeal.τ).loc Cert.SsdIdeal.main_arg5))).2.2.2.2.2 = (fun _ => 1#1)

def Pre_SsdRefIdeal (m : (ℓ : Loc Cert.SsdRefIdeal.nD Cert.SsdRefIdeal.τ Cert.SsdRefIdeal.sig) → Buf (Elt Ideal) ℓ) : Prop :=
  True

def Pre_SsdRefIdeal_finite_ssd [hPre_finite_ssd : Cert.Pre_finite_ssd.Facts] (m : (ℓ : Loc Cert.SsdRefIdeal.nD Cert.SsdRefIdeal.τ Cert.SsdRefIdeal.sig) → Buf (Elt Ideal) ℓ) : Prop :=
  ∀ c : Dev Cert.SsdRefIdeal.nD,
    (Cert.Pre_finite_ssd.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2)) (m ((c.tc : Thread Cert.SsdRefIdeal.nD Cert.SsdRefIdeal.τ).loc Cert.SsdRefIdeal.main_arg3)) (m ((c.tc : Thread Cert.SsdRefIdeal.nD Cert.SsdRefIdeal.τ).loc Cert.SsdRefIdeal.main_arg4)) (m ((c.tc : Thread Cert.SsdRefIdeal.nD Cert.SsdRefIdeal.τ).loc Cert.SsdRefIdeal.main_arg5))).1 = (fun _ => 1#1)
    ∧ (Cert.Pre_finite_ssd.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2)) (m ((c.tc : Thread Cert.SsdRefIdeal.nD Cert.SsdRefIdeal.τ).loc Cert.SsdRefIdeal.main_arg3)) (m ((c.tc : Thread Cert.SsdRefIdeal.nD Cert.SsdRefIdeal.τ).loc Cert.SsdRefIdeal.main_arg4)) (m ((c.tc : Thread Cert.SsdRefIdeal.nD Cert.SsdRefIdeal.τ).loc Cert.SsdRefIdeal.main_arg5))).2.1 = (fun _ => 1#1)
    ∧ (Cert.Pre_finite_ssd.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2)) (m ((c.tc : Thread Cert.SsdRefIdeal.nD Cert.SsdRefIdeal.τ).loc Cert.SsdRefIdeal.main_arg3)) (m ((c.tc : Thread Cert.SsdRefIdeal.nD Cert.SsdRefIdeal.τ).loc Cert.SsdRefIdeal.main_arg4)) (m ((c.tc : Thread Cert.SsdRefIdeal.nD Cert.SsdRefIdeal.τ).loc Cert.SsdRefIdeal.main_arg5))).2.2.1 = (fun _ => 1#1)
    ∧ (Cert.Pre_finite_ssd.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2)) (m ((c.tc : Thread Cert.SsdRefIdeal.nD Cert.SsdRefIdeal.τ).loc Cert.SsdRefIdeal.main_arg3)) (m ((c.tc : Thread Cert.SsdRefIdeal.nD Cert.SsdRefIdeal.τ).loc Cert.SsdRefIdeal.main_arg4)) (m ((c.tc : Thread Cert.SsdRefIdeal.nD Cert.SsdRefIdeal.τ).loc Cert.SsdRefIdeal.main_arg5))).2.2.2.1 = (fun _ => 1#1)
    ∧ (Cert.Pre_finite_ssd.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2)) (m ((c.tc : Thread Cert.SsdRefIdeal.nD Cert.SsdRefIdeal.τ).loc Cert.SsdRefIdeal.main_arg3)) (m ((c.tc : Thread Cert.SsdRefIdeal.nD Cert.SsdRefIdeal.τ).loc Cert.SsdRefIdeal.main_arg4)) (m ((c.tc : Thread Cert.SsdRefIdeal.nD Cert.SsdRefIdeal.τ).loc Cert.SsdRefIdeal.main_arg5))).2.2.2.2.1 = (fun _ => 1#1)
    ∧ (Cert.Pre_finite_ssd.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2)) (m ((c.tc : Thread Cert.SsdRefIdeal.nD Cert.SsdRefIdeal.τ).loc Cert.SsdRefIdeal.main_arg3)) (m ((c.tc : Thread Cert.SsdRefIdeal.nD Cert.SsdRefIdeal.τ).loc Cert.SsdRefIdeal.main_arg4)) (m ((c.tc : Thread Cert.SsdRefIdeal.nD Cert.SsdRefIdeal.τ).loc Cert.SsdRefIdeal.main_arg5))).2.2.2.2.2 = (fun _ => 1#1)

def Pre_Prenorm (m : (ℓ : Loc Cert.Prenorm.nD Cert.Prenorm.τ Cert.Prenorm.sig) → Buf (Elt Bits) ℓ) : Prop :=
  True

def Pre_PrenormIdeal (m : (ℓ : Loc Cert.PrenormIdeal.nD Cert.PrenormIdeal.τ Cert.PrenormIdeal.sig) → Buf (Elt Ideal) ℓ) : Prop :=
  True

def Pre_PrenormRefIdeal (m : (ℓ : Loc Cert.PrenormRefIdeal.nD Cert.PrenormRefIdeal.τ Cert.PrenormRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8)
      ∧ r.2.mem ((c.tc : Thread Cert.Inproj.nD Cert.Inproj.τ).loc Cert.Inproj.main_arg9) = m ((c.tc : Thread Cert.Inproj.nD Cert.Inproj.τ).loc Cert.Inproj.main_arg9)
      ∧ r.2.mem ((c.tc : Thread Cert.Inproj.nD Cert.Inproj.τ).loc Cert.Inproj.main_arg10) = m ((c.tc : Thread Cert.Inproj.nD Cert.Inproj.τ).loc Cert.Inproj.main_arg10))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
      ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
      ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10))
      ∧ r.2.sem = fun _ => 0)

def quiescent_InprojIdeal_pre_finite_in [hInprojIdeal : Cert.InprojIdeal.Facts] [hPre_finite_in : Cert.Pre_finite_in.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_finite_in m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
      ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
      ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8)
      ∧ r.2.mem ((c.tc : Thread Cert.InprojRefIdeal.nD Cert.InprojRefIdeal.τ).loc Cert.InprojRefIdeal.main_arg9) = m ((c.tc : Thread Cert.InprojRefIdeal.nD Cert.InprojRefIdeal.τ).loc Cert.InprojRefIdeal.main_arg9)
      ∧ r.2.mem ((c.tc : Thread Cert.InprojRefIdeal.nD Cert.InprojRefIdeal.τ).loc Cert.InprojRefIdeal.main_arg10) = m ((c.tc : Thread Cert.InprojRefIdeal.nD Cert.InprojRefIdeal.τ).loc Cert.InprojRefIdeal.main_arg10))
      ∧ r.2.sem = fun _ => 0)

def quiescent_InprojRefIdeal_pre_finite_in [hInprojRefIdeal : Cert.InprojRefIdeal.Facts] [hPre_finite_in : Cert.Pre_finite_in.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal_finite_in m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8)
      ∧ r.2.mem ((c.tc : Thread Cert.InprojRefIdeal.nD Cert.InprojRefIdeal.τ).loc Cert.InprojRefIdeal.main_arg9) = m ((c.tc : Thread Cert.InprojRefIdeal.nD Cert.InprojRefIdeal.τ).loc Cert.InprojRefIdeal.main_arg9)
      ∧ r.2.mem ((c.tc : Thread Cert.InprojRefIdeal.nD Cert.InprojRefIdeal.τ).loc Cert.InprojRefIdeal.main_arg10) = m ((c.tc : Thread Cert.InprojRefIdeal.nD Cert.InprojRefIdeal.τ).loc Cert.InprojRefIdeal.main_arg10))
      ∧ r.2.sem = fun _ => 0)

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5))
      ∧ r.2.sem = fun _ => 0)

def quiescent_SsdIdeal_pre_finite_ssd [hSsdIdeal : Cert.SsdIdeal.Facts] [hPre_finite_ssd : Cert.Pre_finite_ssd.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal_finite_ssd m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5))
      ∧ r.2.sem = fun _ => 0)

def quiescent_SsdRefIdeal [hSsdRefIdeal : Cert.SsdRefIdeal.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5))
      ∧ r.2.sem = fun _ => 0)

def quiescent_SsdRefIdeal_pre_finite_ssd [hSsdRefIdeal : Cert.SsdRefIdeal.Facts] [hPre_finite_ssd : Cert.Pre_finite_ssd.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal_finite_ssd m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5))
      ∧ r.2.sem = fun _ => 0)

def quiescent_Prenorm [hPrenorm : Cert.Prenorm.Facts] : Prop :=
  ∀ (m : (ℓ : Loc Cert.Prenorm.nD Cert.Prenorm.τ Cert.Prenorm.sig) → Buf (Elt Bits) ℓ) (g : Dev Cert.Prenorm.nD → PrngReg), Pre_Prenorm m →
    θ_run (Cert.Prenorm.defs (F := Bits)) (onTc (τ := Cert.Prenorm.τ) (Cert.Prenorm.main (F := Bits))) ⟨m, fun _ => 0, g⟩ (fun r => (∀ c : Dev Cert.Prenorm.nD,
      r.2.mem ((c.tc : Thread Cert.Prenorm.nD Cert.Prenorm.τ).loc Cert.Prenorm.main_arg0) = m ((c.tc : Thread Cert.Prenorm.nD Cert.Prenorm.τ).loc Cert.Prenorm.main_arg0)
      ∧ r.2.mem ((c.tc : Thread Cert.Prenorm.nD Cert.Prenorm.τ).loc Cert.Prenorm.main_arg1) = m ((c.tc : Thread Cert.Prenorm.nD Cert.Prenorm.τ).loc Cert.Prenorm.main_arg1)
      ∧ r.2.mem ((c.tc : Thread Cert.Prenorm.nD Cert.Prenorm.τ).loc Cert.Prenorm.main_arg2) = m ((c.tc : Thread Cert.Prenorm.nD Cert.Prenorm.τ).loc Cert.Prenorm.main_arg2))
      ∧ r.2.sem = fun _ => 0)

def quiescent_PrenormIdeal [hPrenormIdeal : Cert.PrenormIdeal.Facts] : Prop :=
  ∀ (m : (ℓ : Loc Cert.PrenormIdeal.nD Cert.PrenormIdeal.τ Cert.PrenormIdeal.sig) → Buf (Elt Ideal) ℓ) (g : Dev Cert.PrenormIdeal.nD → PrngReg), Pre_PrenormIdeal m →
    θ_run (Cert.PrenormIdeal.defs (F := Ideal)) (onTc (τ := Cert.PrenormIdeal.τ) (Cert.PrenormIdeal.main (F := Ideal))) ⟨m, fun _ => 0, g⟩ (fun r => (∀ c : Dev Cert.PrenormIdeal.nD,
      r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
      ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
      ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2))
      ∧ r.2.sem = fun _ => 0)

def quiescent_PrenormRefIdeal [hPrenormRefIdeal : Cert.PrenormRefIdeal.Facts] : Prop :=
  ∀ (m : (ℓ : Loc Cert.PrenormRefIdeal.nD Cert.PrenormRefIdeal.τ Cert.PrenormRefIdeal.sig) → Buf (Elt Ideal) ℓ) (g : Dev Cert.PrenormRefIdeal.nD → PrngReg), Pre_PrenormRefIdeal m →
    θ_run (Cert.PrenormRefIdeal.defs (F := Ideal)) (onTc (τ := Cert.PrenormRefIdeal.τ) (Cert.PrenormRefIdeal.main (F := Ideal))) ⟨m, fun _ => 0, g⟩ (fun r => (∀ c : Dev Cert.PrenormRefIdeal.nD,
      r.2.mem ((c.tc : Thread Cert.PrenormRefIdeal.nD Cert.PrenormRefIdeal.τ).loc Cert.PrenormRefIdeal.main_arg0) = m ((c.tc : Thread Cert.PrenormRefIdeal.nD Cert.PrenormRefIdeal.τ).loc Cert.PrenormRefIdeal.main_arg0)
      ∧ r.2.mem ((c.tc : Thread Cert.PrenormRefIdeal.nD Cert.PrenormRefIdeal.τ).loc Cert.PrenormRefIdeal.main_arg1) = m ((c.tc : Thread Cert.PrenormRefIdeal.nD Cert.PrenormRefIdeal.τ).loc Cert.PrenormRefIdeal.main_arg1)
      ∧ r.2.mem ((c.tc : Thread Cert.PrenormRefIdeal.nD Cert.PrenormRefIdeal.τ).loc Cert.PrenormRefIdeal.main_arg2) = m ((c.tc : Thread Cert.PrenormRefIdeal.nD Cert.PrenormRefIdeal.τ).loc Cert.PrenormRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_v55) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Inproj_InprojIdeal : Prop :=
  True

def algebraic_InprojIdeal_InprojRefIdeal_pre_finite_in [hInprojIdeal : Cert.InprojIdeal.Facts] [hInprojRefIdeal : Cert.InprojRefIdeal.Facts] [hPre_finite_in : Cert.Pre_finite_in.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal_finite_in m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)
      ∧ m' ((c.tc : Thread Cert.InprojRefIdeal.nD Cert.InprojRefIdeal.τ).loc Cert.InprojRefIdeal.main_arg7) = m ((c.tc : Thread Cert.InprojIdeal.nD Cert.InprojIdeal.τ).loc Cert.InprojIdeal.main_arg7)
      ∧ m' ((c.tc : Thread Cert.InprojRefIdeal.nD Cert.InprojRefIdeal.τ).loc Cert.InprojRefIdeal.main_arg8) = m ((c.tc : Thread Cert.InprojIdeal.nD Cert.InprojIdeal.τ).loc Cert.InprojIdeal.main_arg8)
      ∧ m' ((c.tc : Thread Cert.InprojRefIdeal.nD Cert.InprojRefIdeal.τ).loc Cert.InprojRefIdeal.main_arg9) = m ((c.tc : Thread Cert.InprojIdeal.nD Cert.InprojIdeal.τ).loc Cert.InprojIdeal.main_arg9)
      ∧ m' ((c.tc : Thread Cert.InprojRefIdeal.nD Cert.InprojRefIdeal.τ).loc Cert.InprojRefIdeal.main_arg10) = m ((c.tc : Thread Cert.InprojIdeal.nD Cert.InprojIdeal.τ).loc Cert.InprojIdeal.main_arg10)) →
    ∃ (v0 : (c : Dev Cert.InprojIdeal.nD) → Buf (Elt Ideal) ((c.tc : Thread Cert.InprojIdeal.nD Cert.InprojIdeal.τ).loc Cert.InprojIdeal.main_v5_0)) (v1 : (c : Dev Cert.InprojIdeal.nD) → Buf (Elt Ideal) ((c.tc : Thread Cert.InprojIdeal.nD Cert.InprojIdeal.τ).loc Cert.InprojIdeal.main_v5_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v5_0) = v0 c
          ∧ r.2.mem ((c.tc : Thread Cert.InprojIdeal.nD Cert.InprojIdeal.τ).loc Cert.InprojIdeal.main_v5_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
          ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
          ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
          ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v44) = v0 c
          ∧ r.2.mem ((c.tc : Thread Cert.InprojRefIdeal.nD Cert.InprojRefIdeal.τ).loc Cert.InprojRefIdeal.main_v46) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6)
          ∧ r.2.mem ((c.tc : Thread Cert.InprojRefIdeal.nD Cert.InprojRefIdeal.τ).loc Cert.InprojRefIdeal.main_arg7) = m' ((c.tc : Thread Cert.InprojRefIdeal.nD Cert.InprojRefIdeal.τ).loc Cert.InprojRefIdeal.main_arg7)
          ∧ r.2.mem ((c.tc : Thread Cert.InprojRefIdeal.nD Cert.InprojRefIdeal.τ).loc Cert.InprojRefIdeal.main_arg8) = m' ((c.tc : Thread Cert.InprojRefIdeal.nD Cert.InprojRefIdeal.τ).loc Cert.InprojRefIdeal.main_arg8)
          ∧ r.2.mem ((c.tc : Thread Cert.InprojRefIdeal.nD Cert.InprojRefIdeal.τ).loc Cert.InprojRefIdeal.main_arg9) = m' ((c.tc : Thread Cert.InprojRefIdeal.nD Cert.InprojRefIdeal.τ).loc Cert.InprojRefIdeal.main_arg9)
          ∧ r.2.mem ((c.tc : Thread Cert.InprojRefIdeal.nD Cert.InprojRefIdeal.τ).loc Cert.InprojRefIdeal.main_arg10) = m' ((c.tc : Thread Cert.InprojRefIdeal.nD Cert.InprojRefIdeal.τ).loc Cert.InprojRefIdeal.main_arg10))

def preserves_Ssd_SsdIdeal : Prop :=
  True

def algebraic_SsdIdeal_SsdRefIdeal_pre_finite_ssd [hSsdIdeal : Cert.SsdIdeal.Facts] [hSsdRefIdeal : Cert.SsdRefIdeal.Facts] [hPre_finite_ssd : Cert.Pre_finite_ssd.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdRefIdeal.nD Cert.SsdRefIdeal.τ Cert.SsdRefIdeal.sig) → Buf (Elt Ideal) ℓ) (g' : Dev Cert.SsdRefIdeal.nD → PrngReg), Pre_SsdIdeal_finite_ssd m →
    (∀ c : Dev Cert.SsdIdeal.nD,
      m' ((c.tc : Thread Cert.SsdRefIdeal.nD Cert.SsdRefIdeal.τ).loc Cert.SsdRefIdeal.main_arg0) = m ((c.tc : Thread Cert.SsdIdeal.nD Cert.SsdIdeal.τ).loc Cert.SsdIdeal.main_arg0)
      ∧ m' ((c.tc : Thread Cert.SsdRefIdeal.nD Cert.SsdRefIdeal.τ).loc Cert.SsdRefIdeal.main_arg1) = m ((c.tc : Thread Cert.SsdIdeal.nD Cert.SsdIdeal.τ).loc Cert.SsdIdeal.main_arg1)
      ∧ m' ((c.tc : Thread Cert.SsdRefIdeal.nD Cert.SsdRefIdeal.τ).loc Cert.SsdRefIdeal.main_arg2) = m ((c.tc : Thread Cert.SsdIdeal.nD Cert.SsdIdeal.τ).loc Cert.SsdIdeal.main_arg2)
      ∧ m' ((c.tc : Thread Cert.SsdRefIdeal.nD Cert.SsdRefIdeal.τ).loc Cert.SsdRefIdeal.main_arg3) = m ((c.tc : Thread Cert.SsdIdeal.nD Cert.SsdIdeal.τ).loc Cert.SsdIdeal.main_arg3)
      ∧ m' ((c.tc : Thread Cert.SsdRefIdeal.nD Cert.SsdRefIdeal.τ).loc Cert.SsdRefIdeal.main_arg4) = m ((c.tc : Thread Cert.SsdIdeal.nD Cert.SsdIdeal.τ).loc Cert.SsdIdeal.main_arg4)
      ∧ m' ((c.tc : Thread Cert.SsdRefIdeal.nD Cert.SsdRefIdeal.τ).loc Cert.SsdRefIdeal.main_arg5) = m ((c.tc : Thread Cert.SsdIdeal.nD Cert.SsdIdeal.τ).loc Cert.SsdIdeal.main_arg5)) →
    ∃ (v0 : (c : Dev Cert.SsdIdeal.nD) → Buf (Elt Ideal) ((c.tc : Thread Cert.SsdIdeal.nD Cert.SsdIdeal.τ).loc Cert.SsdIdeal.main_v340_0)) (v1 : (c : Dev Cert.SsdIdeal.nD) → Buf (Elt Ideal) ((c.tc : Thread Cert.SsdIdeal.nD Cert.SsdIdeal.τ).loc Cert.SsdIdeal.main_v340_1)) (v2 : (c : Dev Cert.SsdIdeal.nD) → Buf (Elt Ideal) ((c.tc : Thread Cert.SsdIdeal.nD Cert.SsdIdeal.τ).loc Cert.SsdIdeal.main_v344)) (v3 : (c : Dev Cert.SsdIdeal.nD) → Buf (Elt Ideal) ((c.tc : Thread Cert.SsdIdeal.nD Cert.SsdIdeal.τ).loc Cert.SsdIdeal.main_v343)) (v4 : (c : Dev Cert.SsdIdeal.nD) → Buf (Elt Ideal) ((c.tc : Thread Cert.SsdIdeal.nD Cert.SsdIdeal.τ).loc Cert.SsdIdeal.main_v340_3)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v340_0) = v0 c
          ∧ r.2.mem ((c.tc : Thread Cert.SsdIdeal.nD Cert.SsdIdeal.τ).loc Cert.SsdIdeal.main_v340_1) = v1 c
          ∧ r.2.mem ((c.tc : Thread Cert.SsdIdeal.nD Cert.SsdIdeal.τ).loc Cert.SsdIdeal.main_v344) = v2 c
          ∧ r.2.mem ((c.tc : Thread Cert.SsdIdeal.nD Cert.SsdIdeal.τ).loc Cert.SsdIdeal.main_v343) = v3 c
          ∧ r.2.mem ((c.tc : Thread Cert.SsdIdeal.nD Cert.SsdIdeal.τ).loc Cert.SsdIdeal.main_v340_3) = v4 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
          ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
          ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
          ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
          ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5))
      ∧ θ_run (Cert.SsdRefIdeal.defs (F := Ideal)) (onTc (τ := Cert.SsdRefIdeal.τ) (Cert.SsdRefIdeal.main (F := Ideal))) ⟨m', fun _ => 0, g'⟩ (fun r => ∀ c : Dev Cert.SsdRefIdeal.nD,
          r.2.mem ((c.tc : Thread Cert.SsdRefIdeal.nD Cert.SsdRefIdeal.τ).loc Cert.SsdRefIdeal.main_v886) = v0 c
          ∧ r.2.mem ((c.tc : Thread Cert.SsdRefIdeal.nD Cert.SsdRefIdeal.τ).loc Cert.SsdRefIdeal.main_v888) = v1 c
          ∧ r.2.mem ((c.tc : Thread Cert.SsdRefIdeal.nD Cert.SsdRefIdeal.τ).loc Cert.SsdRefIdeal.main_v350) = v2 c
          ∧ r.2.mem ((c.tc : Thread Cert.SsdRefIdeal.nD Cert.SsdRefIdeal.τ).loc Cert.SsdRefIdeal.main_v890) = v3 c
          ∧ r.2.mem ((c.tc : Thread Cert.SsdRefIdeal.nD Cert.SsdRefIdeal.τ).loc Cert.SsdRefIdeal.main_v889) = v4 c
          ∧ r.2.mem ((c.tc : Thread Cert.SsdRefIdeal.nD Cert.SsdRefIdeal.τ).loc Cert.SsdRefIdeal.main_arg0) = m' ((c.tc : Thread Cert.SsdRefIdeal.nD Cert.SsdRefIdeal.τ).loc Cert.SsdRefIdeal.main_arg0)
          ∧ r.2.mem ((c.tc : Thread Cert.SsdRefIdeal.nD Cert.SsdRefIdeal.τ).loc Cert.SsdRefIdeal.main_arg1) = m' ((c.tc : Thread Cert.SsdRefIdeal.nD Cert.SsdRefIdeal.τ).loc Cert.SsdRefIdeal.main_arg1)
          ∧ r.2.mem ((c.tc : Thread Cert.SsdRefIdeal.nD Cert.SsdRefIdeal.τ).loc Cert.SsdRefIdeal.main_arg2) = m' ((c.tc : Thread Cert.SsdRefIdeal.nD Cert.SsdRefIdeal.τ).loc Cert.SsdRefIdeal.main_arg2)
          ∧ r.2.mem ((c.tc : Thread Cert.SsdRefIdeal.nD Cert.SsdRefIdeal.τ).loc Cert.SsdRefIdeal.main_arg3) = m' ((c.tc : Thread Cert.SsdRefIdeal.nD Cert.SsdRefIdeal.τ).loc Cert.SsdRefIdeal.main_arg3)
          ∧ r.2.mem ((c.tc : Thread Cert.SsdRefIdeal.nD Cert.SsdRefIdeal.τ).loc Cert.SsdRefIdeal.main_arg4) = m' ((c.tc : Thread Cert.SsdRefIdeal.nD Cert.SsdRefIdeal.τ).loc Cert.SsdRefIdeal.main_arg4)
          ∧ r.2.mem ((c.tc : Thread Cert.SsdRefIdeal.nD Cert.SsdRefIdeal.τ).loc Cert.SsdRefIdeal.main_arg5) = m' ((c.tc : Thread Cert.SsdRefIdeal.nD Cert.SsdRefIdeal.τ).loc Cert.SsdRefIdeal.main_arg5))

def preserves_Prenorm_PrenormIdeal : Prop :=
  True

def algebraic_PrenormIdeal_PrenormRefIdeal [hPrenormIdeal : Cert.PrenormIdeal.Facts] [hPrenormRefIdeal : Cert.PrenormRefIdeal.Facts] : Prop :=
  ∀ (m : (ℓ : Loc Cert.PrenormIdeal.nD Cert.PrenormIdeal.τ Cert.PrenormIdeal.sig) → Buf (Elt Ideal) ℓ) (g : Dev Cert.PrenormIdeal.nD → PrngReg)
    (m' : (ℓ : Loc Cert.PrenormRefIdeal.nD Cert.PrenormRefIdeal.τ Cert.PrenormRefIdeal.sig) → Buf (Elt Ideal) ℓ) (g' : Dev Cert.PrenormRefIdeal.nD → PrngReg), Pre_PrenormIdeal m →
    (∀ c : Dev Cert.PrenormIdeal.nD,
      m' ((c.tc : Thread Cert.PrenormRefIdeal.nD Cert.PrenormRefIdeal.τ).loc Cert.PrenormRefIdeal.main_arg0) = m ((c.tc : Thread Cert.PrenormIdeal.nD Cert.PrenormIdeal.τ).loc Cert.PrenormIdeal.main_arg0)
      ∧ m' ((c.tc : Thread Cert.PrenormRefIdeal.nD Cert.PrenormRefIdeal.τ).loc Cert.PrenormRefIdeal.main_arg1) = m ((c.tc : Thread Cert.PrenormIdeal.nD Cert.PrenormIdeal.τ).loc Cert.PrenormIdeal.main_arg1)
      ∧ m' ((c.tc : Thread Cert.PrenormRefIdeal.nD Cert.PrenormRefIdeal.τ).loc Cert.PrenormRefIdeal.main_arg2) = m ((c.tc : Thread Cert.PrenormIdeal.nD Cert.PrenormIdeal.τ).loc Cert.PrenormIdeal.main_arg2)) →
    ∃ (v0 : (c : Dev Cert.PrenormIdeal.nD) → Buf (Elt Ideal) ((c.tc : Thread Cert.PrenormIdeal.nD Cert.PrenormIdeal.τ).loc Cert.PrenormIdeal.main_v3_0)) (v1 : (c : Dev Cert.PrenormIdeal.nD) → Buf (Elt Ideal) ((c.tc : Thread Cert.PrenormIdeal.nD Cert.PrenormIdeal.τ).loc Cert.PrenormIdeal.main_v3_1)),
      θ_run (Cert.PrenormIdeal.defs (F := Ideal)) (onTc (τ := Cert.PrenormIdeal.τ) (Cert.PrenormIdeal.main (F := Ideal))) ⟨m, fun _ => 0, g⟩ (fun r => ∀ c : Dev Cert.PrenormIdeal.nD,
          r.2.mem ((c.tc : Thread Cert.PrenormIdeal.nD Cert.PrenormIdeal.τ).loc Cert.PrenormIdeal.main_v3_0) = v0 c
          ∧ r.2.mem ((c.tc : Thread Cert.PrenormIdeal.nD Cert.PrenormIdeal.τ).loc Cert.PrenormIdeal.main_v3_1) = v1 c
          ∧ r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
          ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
          ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2))
      ∧ θ_run (Cert.PrenormRefIdeal.defs (F := Ideal)) (onTc (τ := Cert.PrenormRefIdeal.τ) (Cert.PrenormRefIdeal.main (F := Ideal))) ⟨m', fun _ => 0, g'⟩ (fun r => ∀ c : Dev Cert.PrenormRefIdeal.nD,
          r.2.mem ((c.tc : Thread Cert.PrenormRefIdeal.nD Cert.PrenormRefIdeal.τ).loc Cert.PrenormRefIdeal.main_v13) = v0 c
          ∧ r.2.mem ((c.tc : Thread Cert.PrenormRefIdeal.nD Cert.PrenormRefIdeal.τ).loc Cert.PrenormRefIdeal.main_v14) = v1 c
          ∧ r.2.mem ((c.tc : Thread Cert.PrenormRefIdeal.nD Cert.PrenormRefIdeal.τ).loc Cert.PrenormRefIdeal.main_arg0) = m' ((c.tc : Thread Cert.PrenormRefIdeal.nD Cert.PrenormRefIdeal.τ).loc Cert.PrenormRefIdeal.main_arg0)
          ∧ r.2.mem ((c.tc : Thread Cert.PrenormRefIdeal.nD Cert.PrenormRefIdeal.τ).loc Cert.PrenormRefIdeal.main_arg1) = m' ((c.tc : Thread Cert.PrenormRefIdeal.nD Cert.PrenormRefIdeal.τ).loc Cert.PrenormRefIdeal.main_arg1)
          ∧ r.2.mem ((c.tc : Thread Cert.PrenormRefIdeal.nD Cert.PrenormRefIdeal.τ).loc Cert.PrenormRefIdeal.main_arg2) = m' ((c.tc : Thread Cert.PrenormRefIdeal.nD Cert.PrenormRefIdeal.τ).loc Cert.PrenormRefIdeal.main_arg2))

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hInprojRefIdeal : Cert.InprojRefIdeal.Facts) (hSsd : Cert.Ssd.Facts) (hSsdIdeal : Cert.SsdIdeal.Facts) (hSsdRefIdeal : Cert.SsdRefIdeal.Facts) (hPrenorm : Cert.Prenorm.Facts) (hPrenormIdeal : Cert.PrenormIdeal.Facts) (hPrenormRefIdeal : Cert.PrenormRefIdeal.Facts) (hPre_finite : Cert.Pre_finite.Facts) (hPre_finite_in : Cert.Pre_finite_in.Facts) (hPre_finite_ssd : Cert.Pre_finite_ssd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Inproj (hInproj := hInproj)
    ∧ quiescent_InprojIdeal (hInprojIdeal := hInprojIdeal)
    ∧ quiescent_InprojIdeal_pre_finite_in (hInprojIdeal := hInprojIdeal) (hPre_finite_in := hPre_finite_in)
    ∧ quiescent_InprojRefIdeal (hInprojRefIdeal := hInprojRefIdeal)
    ∧ quiescent_InprojRefIdeal_pre_finite_in (hInprojRefIdeal := hInprojRefIdeal) (hPre_finite_in := hPre_finite_in)
    ∧ quiescent_Ssd (hSsd := hSsd)
    ∧ quiescent_SsdIdeal (hSsdIdeal := hSsdIdeal)
    ∧ quiescent_SsdIdeal_pre_finite_ssd (hSsdIdeal := hSsdIdeal) (hPre_finite_ssd := hPre_finite_ssd)
    ∧ quiescent_SsdRefIdeal (hSsdRefIdeal := hSsdRefIdeal)
    ∧ quiescent_SsdRefIdeal_pre_finite_ssd (hSsdRefIdeal := hSsdRefIdeal) (hPre_finite_ssd := hPre_finite_ssd)
    ∧ quiescent_Prenorm (hPrenorm := hPrenorm)
    ∧ quiescent_PrenormIdeal (hPrenormIdeal := hPrenormIdeal)
    ∧ quiescent_PrenormRefIdeal (hPrenormRefIdeal := hPrenormRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Inproj_InprojIdeal
    ∧ algebraic_InprojIdeal_InprojRefIdeal_pre_finite_in (hInprojIdeal := hInprojIdeal) (hInprojRefIdeal := hInprojRefIdeal) (hPre_finite_in := hPre_finite_in)
    ∧ preserves_Ssd_SsdIdeal
    ∧ algebraic_SsdIdeal_SsdRefIdeal_pre_finite_ssd (hSsdIdeal := hSsdIdeal) (hSsdRefIdeal := hSsdRefIdeal) (hPre_finite_ssd := hPre_finite_ssd)
    ∧ preserves_Prenorm_PrenormIdeal
    ∧ algebraic_PrenormIdeal_PrenormRefIdeal (hPrenormIdeal := hPrenormIdeal) (hPrenormRefIdeal := hPrenormRefIdeal)
-- ==== Pre_finite.lean ====
abbrev S4096x1024 : Shape := ⟨2, ![4096, 1024]⟩
abbrev S2048x1024 : Shape := ⟨2, ![2048, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  bcast_S_S2048x1024 : S_.BroadcastsInDim S2048x1024 (![] : Fin 0 → Fin S2048x1024.rank)
  bcast_S_S1x1024 : S_.BroadcastsInDim S1x1024 (![] : Fin 0 → Fin S1x1024.rank)

variable [Facts]

def fn {F : FTy → Type} [FloatOps F] (main_arg0 : FVec F S4096x1024 .bf16) (main_arg1 : FVec F S4096x1024 .bf16) (main_arg2 : FVec F S2048x1024 .f32) (main_arg3 : FVec F S4096x1024 .f32) (main_arg4 : FVec F S4096x1024 .f32) (main_arg5 : FVec F S1x1024 .f32) : IVec S4096x1024 1 × IVec S4096x1024 1 × IVec S2048x1024 1 × IVec S4096x1024 1 × IVec S4096x1024 1 × IVec S1x1024 1 :=
  let main_v0 : FVec F S4096x1024 .bf16 := Host.absf main_arg0
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_v3 : FVec F S4096x1024 .bf16 := Host.absf main_arg1
  let main_cst_0 : FVec F S_ .bf16 := constant S_ .bf16 0x7F80#16
  let main_v4 : FVec F S4096x1024 .bf16 := broadcastInDim S4096x1024 ![] bcast_S_S4096x1024 main_cst_0
  let main_v5 : IVec S4096x1024 1 := cmpf .olt main_v3 main_v4
  let main_v6 : FVec F S2048x1024 .f32 := Host.absf main_arg2
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  (main_v2, main_v5, main_v8, main_v11, main_v14, main_v17)
-- ==== Pre_finite_in.lean ====
abbrev S4096x1024 : Shape := ⟨2, ![4096, 1024]⟩
abbrev S4096x1536 : Shape := ⟨2, ![4096, 1536]⟩
abbrev S4096x16 : Shape := ⟨2, ![4096, 16]⟩
abbrev S1024x6672 : Shape := ⟨2, ![1024, 6672]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  bcast_S_S4096x1536 : S_.BroadcastsInDim S4096x1536 (![] : Fin 0 → Fin S4096x1536.rank)
  bcast_S_S4096x16 : S_.BroadcastsInDim S4096x16 (![] : Fin 0 → Fin S4096x16.rank)
  bcast_S_S1024x6672 : S_.BroadcastsInDim S1024x6672 (![] : Fin 0 → Fin S1024x6672.rank)
  bcast_S_S1x1024 : S_.BroadcastsInDim S1x1024 (![] : Fin 0 → Fin S1x1024.rank)

variable [Facts]

def fn_part1 {F : FTy → Type} [FloatOps F] (main_arg6 : FVec F S4096x16 .bf16) (main_arg7 : FVec F S1024x6672 .f32) (main_arg8 : FVec F S4096x1024 .f32) (main_arg9 : FVec F S1x1024 .f32) (main_v2 : IVec S4096x1024 1) (main_v5 : IVec S4096x1024 1) (main_v8 : IVec S4096x1024 1) (main_v11 : IVec S4096x1024 1) (main_v14 : IVec S4096x1024 1) (main_v17 : IVec S4096x1536 1) : IVec S4096x1024 1 × IVec S4096x1024 1 × IVec S4096x1024 1 × IVec S4096x1024 1 × IVec S4096x1024 1 × IVec S4096x1536 1 × IVec S4096x16 1 × IVec S1024x6672 1 × IVec S4096x1024 1 × IVec S1x1024 1 :=
  let main_v18 : FVec F S4096x16 .bf16 := Host.absf main_arg6
  let main_cst_5 : FVec F S_ .bf16 := constant S_ .bf16 0x7F80#16
  let main_v19 : FVec F S4096x16 .bf16 := broadcastInDim S4096x16 ![] bcast_S_S4096x16 main_cst_5
  let main_v20 : IVec S4096x16 1 := cmpf .olt main_v18 main_v19
  let main_v21 : FVec F S1024x6672 .f32 := Host.absf main_arg7
  let main_cst_6 : FVec F S_ .f32 := constant S_ .f32 0x7F800000#32
  let main_v22 : FVec F S1024x6672 .f32 := broadcastInDim S1024x6672 ![] bcast_S_S1024x6672 main_cst_6
  let main_v23 : IVec S1024x6672 1 := cmpf .olt main_v21 main_v22
  let main_v24 : FVec F S4096x1024 .f32 := Host.absf main_arg8
  let main_cst_7 : FVec F S_ .f32 := constant S_ .f32 0x7F800000#32
  let main_v25 : FVec F S4096x1024 .f32 := broadcastInDim S4096x1024 ![] bcast_S_S4096x1024 main_cst_7
  let main_v26 : IVec S4096x1024 1 := cmpf .olt main_v24 main_v25
  let main_v27 : FVec F S1x1024 .f32 := Host.absf main_arg9
  let main_cst_8 : FVec F S_ .f32 := constant S_ .f32 0x7F800000#32
  let main_v28 : FVec F S1x1024 .f32 := broadcastInDim S1x1024 ![] bcast_S_S1x1024 main_cst_8
  let main_v29 : IVec S1x1024 1 := cmpf .olt main_v27 main_v28
  (main_v2, main_v5, main_v8, main_v11, main_v14, main_v17, main_v20, main_v23, main_v26, main_v29)

def fn {F : FTy → Type} [FloatOps F] (main_arg0 : FVec F S4096x1024 .bf16) (main_arg1 : FVec F S4096x1024 .bf16) (main_arg2 : FVec F S4096x1024 .bf16) (main_arg3 : FVec F S4096x1024 .bf16) (main_arg4 : FVec F S4096x1024 .bf16) (main_arg5 : FVec F S4096x1536 .bf16) (main_arg6 : FVec F S4096x16 .bf16) (main_arg7 : FVec F S1024x6672 .f32) (main_arg8 : FVec F S4096x1024 .f32) (main_arg9 : FVec F S1x1024 .f32) (main_arg10 : FVec F S4096x1024 .f32) : IVec S4096x1024 1 × IVec S4096x1024 1 × IVec S4096x1024 1 × IVec S4096x1024 1 × IVec S4096x1024 1 × IVec S4096x1536 1 × IVec S4096x16 1 × IVec S1024x6672 1 × IVec S4096x1024 1 × IVec S1x1024 1 :=
  let main_v0 : FVec F S4096x1024 .bf16 := Host.absf main_arg0
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_v3 : FVec F S4096x1024 .bf16 := Host.absf main_arg1
  let main_cst_0 : FVec F S_ .bf16 := constant S_ .bf16 0x7F80#16
  let main_v4 : FVec F S4096x1024 .bf16 := broadcastInDim S4096x1024 ![] bcast_S_S4096x1024 main_cst_0
  let main_v5 : IVec S4096x1024 1 := cmpf .olt main_v3 main_v4
  let main_v6 : FVec F S4096x1024 .bf16 := Host.absf main_arg2
  let main_cst_1 : FVec F S_ .bf16 := constant S_ .bf16 0x7F80#16
  let main_v7 : FVec F S4096x1024 .bf16 := broadcastInDim S4096x1024 ![] bcast_S_S4096x1024 main_cst_1
  let main_v8 : IVec S4096x1024 1 := cmpf .olt main_v6 main_v7
  let main_v9 : FVec F S4096x1024 .bf16 := Host.absf main_arg3
  let main_cst_2 : FVec F S_ .bf16 := constant S_ .bf16 0x7F80#16
  let main_v10 : FVec F S4096x1024 .bf16 := broadcastInDim S4096x1024 ![] bcast_S_S4096x1024 main_cst_2
  let main_v11 : IVec S4096x1024 1 := cmpf .olt main_v9 main_v10
  let main_v12 : FVec F S4096x1024 .bf16 := Host.absf main_arg4
  let main_cst_3 : FVec F S_ .bf16 := constant S_ .bf16 0x7F80#16
  let main_v13 : FVec F S4096x1024 .bf16 := broadcastInDim S4096x1024 ![] bcast_S_S4096x1024 main_cst_3
  let main_v14 : IVec S4096x1024 1 := cmpf .olt main_v12 main_v13
  let main_v15 : FVec F S4096x1536 .bf16 := Host.absf main_arg5
  let main_cst_4 : FVec F S_ .bf16 := constant S_ .bf16 0x7F80#16
  let main_v16 : FVec F S4096x1536 .bf16 := broadcastInDim S4096x1536 ![] bcast_S_S4096x1536 main_cst_4
  let main_v17 : IVec S4096x1536 1 := cmpf .olt main_v15 main_v16
  fn_part1 (F := F) main_arg6 main_arg7 main_arg8 main_arg9 main_v2 main_v5 main_v8 main_v11 main_v14 main_v17
-- ==== Pre_finite_ssd.lean ====
abbrev S4096x2576 : Shape := ⟨2, ![4096, 2576]⟩
abbrev S4096x1024 : Shape := ⟨2, ![4096, 1024]⟩
abbrev S4x1536 : Shape := ⟨2, ![4, 1536]⟩
abbrev S1x1536 : Shape := ⟨2, ![1, 1536]⟩
abbrev S3x16 : Shape := ⟨2, ![3, 16]⟩
abbrev S1x1024 : Shape := ⟨2, ![1, 1024]⟩
abbrev S_ : Shape := ⟨0, ![]⟩

class Facts : Prop where
  bcast_S_S4096x2576 : S_.BroadcastsInDim S4096x2576 (![] : Fin 0 → Fin S4096x2576.rank)
  bcast_S_S4096x1024 : S_.BroadcastsInDim S4096x1024 (![] : Fin 0 → Fin S4096x1024.rank)
  bcast_S_S4x1536 : S_.BroadcastsInDim S4x1536 (![] : Fin 0 → Fin S4x1536.rank)
  bcast_S_S1x1536 : S_.BroadcastsInDim S1x1536 (![] : Fin 0 → Fin S1x1536.rank)
  bcast_S_S3x16 : S_.BroadcastsInDim S3x16 (![] : Fin 0 → Fin S3x16.rank)
  bcast_S_S1x1024 : S_.BroadcastsInDim S1x1024 (![] : Fin 0 → Fin S1x1024.rank)

variable [Facts]

def fn {F : FTy → Type} [FloatOps F] (main_arg0 : FVec F S4096x2576 .f32) (main_arg1 : FVec F S4096x1024 .f32) (main_arg2 : FVec F S4x1536 .f32) (main_arg3 : FVec F S1x1536 .f32) (main_arg4 : FVec F S3x16 .f32) (main_arg5 : FVec F S1x1024 .f32) : IVec S4096x2576 1 × IVec S4096x1024 1 × IVec S4x1536 1 × IVec S1x1536 1 × IVec S3x16 1 × IVec S1x1024 1 :=
  let main_v0 : FVec F S4096x2576 .f32 := Host.absf main_arg0
  let main_cst : FVec F S_ .f32 := constant S_ .f32 0x7F800000#32
  let main_v1 : FVec F S4096x2576 .f32 := broadcastInDim S4096x2576 ![] bcast_S_S4096x2576 main_cst
  let main_v2 : IVec S4096x2576 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4x1536 .f32 := Host.absf main_arg2
  let main_cst_1 : FVec F S_ .f32 := constant S_ .f32 0x7F800000#32
  let main_v7 : FVec F S4x1536 .f32 := broadcastInDim S4x1536 ![] bcast_S_S4x1536 main_cst_1
  let main_v8 : IVec S4x1536 1 := cmpf .olt main_v6 main_v7
  let main_v9 : FVec F S1x1536 .f32 := Host.absf main_arg3
  let main_cst_2 : FVec F S_ .f32 := constant S_ .f32 0x7F800000#32
  let main_v10 : FVec F S1x1536 .f32 := broadcastInDim S1x1536 ![] bcast_S_S1x1536 main_cst_2
  let main_v11 : IVec S1x1536 1 := cmpf .olt main_v9 main_v10
  let main_v12 : FVec F S3x16 .f32 := Host.absf main_arg4
  let main_cst_3 : FVec F S_ .f32 := constant S_ .f32 0x7F800000#32
  let main_v13 : FVec F S3x16 .f32 := broadcastInDim S3x16 ![] bcast_S_S3x16 main_cst_3
  let main_v14 : IVec S3x16 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  (main_v2, main_v5, main_v8, main_v11, main_v14, main_v17)
-- ==== Kernel.lean ====
abbrev S4096x1024 : Shape := ⟨2, ![4096, 1024]⟩
abbrev S2048x1024 : Shape := ⟨2, ![2048, 1024]⟩
abbrev S1x1024 : Shape := ⟨2, ![1, 1024]⟩
abbrev S4096x2048 : Shape := ⟨2, ![4096, 2048]⟩
abbrev S8x1024 : Shape := ⟨2, ![8, 1024]⟩
abbrev S512x1024 : Shape := ⟨2, ![512, 1024]⟩
abbrev S512x2048 : Shape := ⟨2, ![512, 2048]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 16
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2048x1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S2048x1024, .bf16⟩
  | .hbm, ⟨7, _⟩ => ⟨S4096x2048, .f32⟩
  | .hbm, ⟨8, _⟩ => ⟨S4096x1024, .f32⟩
  | .hbm, ⟨9, _⟩ => ⟨S8x1024, .f32⟩
  | .hbm, ⟨10, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x2048, .f32⟩
  | .local _ .vmem, ⟨11, _⟩ => ⟨S512x2048, .f32⟩
  | .local _ .vmem, ⟨12, _⟩ => ⟨S512x1024, .f32⟩
  | .local _ .vmem, ⟨13, _⟩ => ⟨S512x1024, .f32⟩
  | .local _ .vmem, ⟨14, _⟩ => ⟨S8x1024, .f32⟩
  | .local _ .vmem, ⟨15, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S4096x1024 : Shape := ⟨2, ![4096, 1024]⟩
abbrev S2048x1024 : Shape := ⟨2, ![2048, 1024]⟩
abbrev S1x1024 : Shape := ⟨2, ![1, 1024]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1024x2048 : Shape := ⟨2, ![1024, 2048]⟩
abbrev S6x1024 : Shape := ⟨2, ![6, 1024]⟩
abbrev S8x1024 : Shape := ⟨2, ![8, 1024]⟩

abbrev nBuf : Space → Nat
  | .hbm => 88
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2048x1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x2048, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x1024, .f32⟩
  | .hbm, ⟨64, _⟩ => ⟨S4096x1024, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S1024x2048, .f32⟩
  | .hbm, ⟨77, _⟩ => ⟨S2048x1024, .f32⟩
  | .hbm, ⟨78, _⟩ => ⟨S4096x2048, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S_, .f32⟩
  | .hbm, ⟨85, _⟩ => ⟨S6x1024, .f32⟩
  | .hbm, ⟨86, _⟩ => ⟨S8x1024, .f32⟩
  | .hbm, ⟨87, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_cst_8 : Ref sig .tc := ⟨.hbm, 44, rfl⟩
abbrev main_cst_9 : Ref sig .tc := ⟨.hbm, 45, rfl⟩
abbrev main_v29 : Ref sig .tc := ⟨.hbm, 46, rfl⟩
abbrev main_v30 : Ref sig .tc := ⟨.hbm, 47, rfl⟩
abbrev main_cst_10 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_11 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_12 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_13 : Ref sig .tc := ⟨.hbm, 66, rfl⟩
abbrev main_v46 : Ref sig .tc := ⟨.hbm, 67, rfl⟩
abbrev main_v47 : Ref sig .tc := ⟨.hbm, 68, rfl⟩
abbrev main_cst_14 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_15 : Ref sig .tc := ⟨.hbm, 81, rfl⟩
abbrev main_v59 : Ref sig .tc := ⟨.hbm, 82, rfl⟩
abbrev main_v60 : Ref sig .tc := ⟨.hbm, 83, rfl⟩
abbrev main_cst_16 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩

abbrev nD : Nat := 1
abbrev τ : Topo := Topo.v7x

variable {F : FTy → Type} [FloatOps F]
-- ==== Inproj.lean ====
abbrev S4096x1024 : Shape := ⟨2, ![4096, 1024]⟩
abbrev S4096x1536 : Shape := ⟨2, ![4096, 1536]⟩
abbrev S4096x16 : Shape := ⟨2, ![4096, 16]⟩
abbrev S1024x6672 : Shape := ⟨2, ![1024, 6672]⟩
abbrev S1x1024 : Shape := ⟨2, ![1, 1024]⟩
abbrev S_ : Shape := ⟨0, ![]⟩
abbrev S4096x496 : Shape := ⟨2, ![4096, 496]⟩
abbrev S4096x3072 : Shape := ⟨2, ![4096, 3072]⟩
abbrev S6672x1024 : Shape := ⟨2, ![6672, 1024]⟩
abbrev S7168x1024 : Shape := ⟨2, ![7168, 1024]⟩
abbrev S8x1024 : Shape := ⟨2, ![8, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 21
  | .vmem => 21
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1536, .bf16⟩
  | .hbm, ⟨6, _⟩ => ⟨S4096x16, .bf16⟩
  | .hbm, ⟨7, _⟩ => ⟨S1024x6672, .f32⟩
  | .hbm, ⟨8, _⟩ => ⟨S4096x1024, .f32⟩
  | .hbm, ⟨9, _⟩ => ⟨S1x1024, .f32⟩
  | .hbm, ⟨10, _⟩ => ⟨S4096x1024, .f32⟩
  | .hbm, ⟨11, _⟩ => ⟨S_, .bf16⟩
  | .hbm, ⟨12, _⟩ => ⟨S4096x496, .bf16⟩
  | .hbm, ⟨13, _⟩ => ⟨S4096x3072, .bf16⟩
  | .hbm, ⟨14, _⟩ => ⟨S6672x1024, .f32⟩
  | .hbm, ⟨15, _⟩ => ⟨S6672x1024, .bf16⟩
  | .hbm, ⟨16, _⟩ => ⟨S_, .i32⟩
  | .hbm, ⟨17, _⟩ => ⟨S_, .bf16⟩
  | .hbm, ⟨18, _⟩ => ⟨S7168x1024, .bf16⟩
  | .hbm, ⟨19, _⟩ => ⟨S4096x1024, .f32⟩
  | .hbm, ⟨20, _⟩ => ⟨S8x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | .local _ .vmem, ⟨19, _⟩ => ⟨S8x1024, .f32⟩
  | .local _ .vmem, ⟨20, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_call0_v0 : Ref sig .tc := ⟨.hbm, 17, rfl⟩
abbrev main_v4 : Ref sig .tc := ⟨.hbm, 18, rfl⟩
abbrev main_v5_0 : Ref sig .tc := ⟨.hbm, 19, rfl⟩
abbrev main_v5_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![4, 7], ![false, false]⟩

def k0_cond8 (i : grid0.Coords) : BitVec 1 :=
  let arg1 : BitVec 32 := BitVec.ofNat 32 (i 1).val
  let c6_i32 : BitVec 32 := 6#32
  let v33 : BitVec 1 := Scalar.cmpi .eq arg1 c6_i32
  let v34 : BitVec 32 := Scalar.extui v33
  let c0_i32_14 : BitVec 32 := 0#32
  let v35 : BitVec 1 := Scalar.cmpi .ne v34 c0_i32_14
  v35

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== InprojRefIdeal.lean ====
abbrev S4096x1024 : Shape := ⟨2, ![4096, 1024]⟩
abbrev S4096x1536 : Shape := ⟨2, ![4096, 1536]⟩
abbrev S4096x16 : Shape := ⟨2, ![4096, 16]⟩
abbrev S1024x6672 : Shape := ⟨2, ![1024, 6672]⟩
abbrev S1x1024 : Shape := ⟨2, ![1, 1024]⟩
abbrev S4096x6672 : Shape := ⟨2, ![4096, 6672]⟩
abbrev S_ : Shape := ⟨0, ![]⟩
abbrev S4096 : Shape := ⟨1, ![4096]⟩
abbrev S4096x1 : Shape := ⟨2, ![4096, 1]⟩
abbrev S1024 : Shape := ⟨1, ![1024]⟩
abbrev S7x1024 : Shape := ⟨2, ![7, 1024]⟩
abbrev S8x1024 : Shape := ⟨2, ![8, 1024]⟩

abbrev nBuf : Space → Nat
  | .hbm => 67
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1536, .bf16⟩
  | .hbm, ⟨6, _⟩ => ⟨S4096x16, .bf16⟩
  | .hbm, ⟨7, _⟩ => ⟨S1024x6672, .f32⟩
  | .hbm, ⟨8, _⟩ => ⟨S4096x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1536, .f32⟩
  | .hbm, ⟨17, _⟩ => ⟨S4096x16, .f32⟩
  | .hbm, ⟨18, _⟩ => ⟨S4096x6672, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x6672, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S_, .f32⟩
  | .hbm, ⟨57, _⟩ => ⟨S4096, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S7x1024, .f32⟩
  | .hbm, ⟨66, _⟩ => ⟨S8x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== Ssd.lean ====
abbrev S4096x2576 : Shape := ⟨2, ![4096, 2576]⟩
abbrev S4096x1024 : Shape := ⟨2, ![4096, 1024]⟩
abbrev S4x1536 : Shape := ⟨2, ![4, 1536]⟩
abbrev S1x1536 : Shape := ⟨2, ![1, 1536]⟩
abbrev S3x16 : Shape := ⟨2, ![3, 16]⟩
abbrev S1x1024 : Shape := ⟨2, ![1, 1024]⟩
abbrev S4096x1536 : Shape := ⟨2, ![4096, 1536]⟩
abbrev S4096x16 : Shape := ⟨2, ![4096, 16]⟩
abbrev S1x16 : Shape := ⟨2, ![1, 16]⟩
abbrev S_ : Shape := ⟨0, ![]⟩
abbrev S1x128 : Shape := ⟨2, ![1, 128]⟩
abbrev S3x1536 : Shape := ⟨2, ![3, 1536]⟩
abbrev S4099x1536 : Shape := ⟨2, ![4099, 1536]⟩
abbrev S32x128x2x8x64 : Shape := ⟨5, ![32, 128, 2, 8, 64]⟩
abbrev S4096x256 : Shape := ⟨2, ![4096, 256]⟩
abbrev S32x128x2x128 : Shape := ⟨4, ![32, 128, 2, 128]⟩
abbrev S32x128x2x8x1 : Shape := ⟨5, ![32, 128, 2, 8, 1]⟩
abbrev S32x128x2x8 : Shape := ⟨4, ![32, 128, 2, 8]⟩
abbrev S32x2x8x128 : Shape := ⟨4, ![32, 2, 8, 128]⟩
abbrev S128x128 : Shape := ⟨2, ![128, 128]⟩
abbrev S32x2x8x1x128 : Shape := ⟨5, ![32, 2, 8, 1, 128]⟩
abbrev S32x2x8x128x128 : Shape := ⟨5, ![32, 2, 8, 128, 128]⟩
abbrev S32x2x8x128x1 : Shape := ⟨5, ![32, 2, 8, 128, 1]⟩
abbrev S32x2x128x128 : Shape := ⟨4, ![32, 2, 128, 128]⟩
abbrev S32x2x1x128x128 : Shape := ⟨5, ![32, 2, 1, 128, 128]⟩
abbrev S32x2x8x64x128 : Shape := ⟨5, ![32, 2, 8, 64, 128]⟩
abbrev S32x2x8x1 : Shape := ⟨4, ![32, 2, 8, 1]⟩
abbrev S4096x2048 : Shape := ⟨2, ![4096, 2048]⟩
abbrev S32x2x8 : Shape := ⟨3, ![32, 2, 8]⟩
abbrev S32x2x8x1x1 : Shape := ⟨5, ![32, 2, 8, 1, 1]⟩
abbrev S2x8x64x128 : Shape := ⟨4, ![2, 8, 64, 128]⟩
abbrev S0x2x8x64x128 : Shape := ⟨5, ![0, 2, 8, 64, 128]⟩
abbrev S1x2x8x64x128 : Shape := ⟨5, ![1, 2, 8, 64, 128]⟩
abbrev S16x2x8x64x128 : Shape := ⟨5, ![16, 2, 8, 64, 128]⟩
abbrev S2x8x1 : Shape := ⟨3, ![2, 8, 1]⟩
abbrev S1x1x2x8x1 : Shape := ⟨5, ![1, 1, 2, 8, 1]⟩
abbrev S4096x4096 : Shape := ⟨2, ![4096, 4096]⟩
abbrev S4096x496 : Shape := ⟨2, ![4096, 496]⟩
abbrev S4096x7168 : Shape := ⟨2, ![4096, 7168]⟩
abbrev S1x16x64 : Shape := ⟨3, ![1, 16, 64]⟩
abbrev S32x128x1024 : Shape := ⟨3, ![32, 128, 1024]⟩
abbrev S4096x3072 : Shape := ⟨2, ![4096, 3072]⟩
abbrev S8x1536 : Shape := ⟨2, ![8, 1536]⟩
abbrev S8x1024 : Shape := ⟨2, ![8, 1024]⟩
abbrev S8x128 : Shape := ⟨2, ![8, 128]⟩
abbrev S128x1024 : Shape := ⟨2, ![128, 1024]⟩
abbrev S128x512 : Shape := ⟨2, ![128, 512]⟩
abbrev S8x512 : Shape := ⟨2, ![8, 512]⟩
abbrev S1x128x1024 : Shape := ⟨3, ![1, 128, 1024]⟩
abbrev S128x1536 : Shape := ⟨2, ![128, 1536]⟩
abbrev S128x3072 : Shape := ⟨2, ![128, 3072]⟩
abbrev S136x1536 : Shape := ⟨2, ![136, 1536]⟩
abbrev S128x2048 : Shape := ⟨2, ![128, 2048]⟩
abbrev S1024x128 : Shape := ⟨2, ![1024, 128]⟩
abbrev S128x384 : Shape := ⟨2, ![128, 384]⟩
abbrev S384x2048 : Shape := ⟨2, ![384, 2048]⟩
abbrev S128 : Shape := ⟨1, ![128]⟩
abbrev S128x1 : Shape := ⟨2, ![128, 1]⟩
abbrev S1x512 : Shape := ⟨2, ![1, 512]⟩
abbrev S512 : Shape := ⟨1, ![512]⟩
abbrev S1024 : Shape := ⟨1, ![1024]⟩
abbrev S1x128x128 : Shape := ⟨3, ![1, 128, 128]⟩
abbrev S128x256 : Shape := ⟨2, ![128, 256]⟩
abbrev S256x1024 : Shape := ⟨2, ![256, 1024]⟩
abbrev S2048x128 : Shape := ⟨2, ![2048, 128]⟩
abbrev S1536 : Shape := ⟨1, ![1536]⟩
abbrev S2x1024 : Shape := ⟨2, ![2, 1024]⟩
abbrev S2x16x64 : Shape := ⟨3, ![2, 16, 64]⟩
abbrev S2x16 : Shape := ⟨2, ![2, 16]⟩

abbrev nBuf : Space → Nat
  | .hbm => 405
  | .vmem => 40
  | .smem => 0
  | _ => 0

abbrev hbmTy0_0 (i : Nat) : BufTy := match i % 128 with
  | 0 => ⟨S4096x2576, .f32⟩
  | 1 => ⟨S4096x1024, .f32⟩
  | 2 => ⟨S4x1536, .f32⟩
  | 3 => ⟨S1x1536, .f32⟩
  | 4 => ⟨S3x16, .f32⟩
  | 5 => ⟨S1x1024, .f32⟩
  | 6 => ⟨S4096x1024, .f32⟩
  | 7 => ⟨S4096x1536, .f32⟩
  | 8 => ⟨S4096x16, .f32⟩
  | 9 => ⟨S1x16, .f32⟩
  | 10 => ⟨S1x16, .f32⟩
  | 11 => ⟨S1x16, .f32⟩
  | 12 => ⟨S_, .i32⟩
  | 13 => ⟨S_, .f32⟩
  | 14 => ⟨S1x128, .f32⟩
  | 15 => ⟨S_, .i32⟩
  | 16 => ⟨S_, .f32⟩
  | 17 => ⟨S1x128, .f32⟩
  | 18 => ⟨S_, .f32⟩
  | 19 => ⟨S3x1536, .f32⟩
  | 20 => ⟨S4099x1536, .f32⟩
  | 21 => ⟨S1x1536, .f32⟩
  | 22 => ⟨S4096x1536, .f32⟩
  | 23 => ⟨S4096x1536, .f32⟩
  | 24 => ⟨S4096x1536, .f32⟩
  | 25 => ⟨S4096x1536, .f32⟩
  | 26 => ⟨S1x1536, .f32⟩
  | 27 => ⟨S4096x1536, .f32⟩
  | 28 => ⟨S4096x1536, .f32⟩
  | 29 => ⟨S4096x1536, .f32⟩
  | 30 => ⟨S4096x1536, .f32⟩
  | 31 => ⟨S1x1536, .f32⟩
  | 32 => ⟨S4096x1536, .f32⟩
  | 33 => ⟨S4096x1536, .f32⟩
  | 34 => ⟨S4096x1536, .f32⟩
  | 35 => ⟨S4096x1536, .f32⟩
  | 36 => ⟨S1x1536, .f32⟩
  | 37 => ⟨S4096x1536, .f32⟩
  | 38 => ⟨S4096x1536, .f32⟩
  | 39 => ⟨S4096x1536, .f32⟩
  | 40 => ⟨S4096x1536, .f32⟩
  | 41 => ⟨S4096x1536, .f32⟩
  | 42 => ⟨S4096x1536, .f32⟩
  | 43 => ⟨S_, .f32⟩
  | 44 => ⟨S4096x1536, .f32⟩
  | 45 => ⟨S4096x1536, .f32⟩
  | 46 => ⟨S_, .f32⟩
  | 47 => ⟨S4096x1536, .f32⟩
  | 48 => ⟨S4096x1536, .f32⟩
  | 49 => ⟨S4096x1536, .f32⟩
  | 50 => ⟨S4096x1024, .f32⟩
  | 51 => ⟨S32x128x2x8x64, .f32⟩
  | 52 => ⟨S4096x256, .f32⟩
  | 53 => ⟨S32x128x2x128, .f32⟩
  | 54 => ⟨S4096x256, .f32⟩
  | 55 => ⟨S32x128x2x128, .f32⟩
  | 56 => ⟨S4096x16, .f32⟩
  | 57 => ⟨S4096x16, .f32⟩
  | 58 => ⟨S_, .f32⟩
  | 59 => ⟨S4096x16, .f32⟩
  | 60 => ⟨S4096x16, .f32⟩
  | 61 => ⟨S4096x16, .f32⟩
  | 62 => ⟨S4096x16, .f32⟩
  | 63 => ⟨S4096x16, .i1⟩
  | 64 => ⟨S4096x16, .f32⟩
  | 65 => ⟨S4096x16, .f32⟩
  | 66 => ⟨S4096x16, .f32⟩
  | 67 => ⟨S4096x16, .f32⟩
  | 68 => ⟨S4096x16, .f32⟩
  | 69 => ⟨S4096x16, .f32⟩
  | 70 => ⟨S4096x16, .f32⟩
  | 71 => ⟨S4096x16, .f32⟩
  | 72 => ⟨S1x16, .f32⟩
  | 73 => ⟨S1x16, .f32⟩
  | 74 => ⟨S32x128x2x8x1, .f32⟩
  | 75 => ⟨S32x128x2x8x64, .f32⟩
  | 76 => ⟨S32x128x2x8x64, .f32⟩
  | 77 => ⟨S4096x16, .f32⟩
  | 78 => ⟨S4096x16, .f32⟩
  | 79 => ⟨S32x128x2x8, .f32⟩
  | 80 => ⟨S32x2x8x128, .f32⟩
  | 81 => ⟨S_, .i1⟩
  | 82 => ⟨S128x128, .i1⟩
  | 83 => ⟨S128x128, .i32⟩
  | 84 => ⟨S_, .i32⟩
  | 85 => ⟨S128x128, .i32⟩
  | 86 => ⟨S128x128, .i32⟩
  | 87 => ⟨S128x128, .i32⟩
  | 88 => ⟨S128x128, .i1⟩
  | 89 => ⟨S_, .i1⟩
  | 90 => ⟨S128x128, .i1⟩
  | 91 => ⟨S128x128, .i1⟩
  | 92 => ⟨S32x2x8x1x128, .f32⟩
  | 93 => ⟨S_, .f32⟩
  | 94 => ⟨S_, .f32⟩
  | 95 => ⟨S32x2x8x128x128, .i1⟩
  | 96 => ⟨S32x2x8x128x128, .f32⟩
  | 97 => ⟨S32x2x8x128x128, .f32⟩
  | 98 => ⟨S32x2x8x128x128, .f32⟩
  | 99 => ⟨S_, .f32⟩
  | 100 => ⟨S32x2x8x128, .f32⟩
  | 101 => ⟨S32x2x8x128x1, .f32⟩
  | 102 => ⟨S32x2x8x1x128, .f32⟩
  | 103 => ⟨S32x2x8x128x128, .f32⟩
  | 104 => ⟨S32x2x8x128x128, .f32⟩
  | 105 => ⟨S32x2x8x128x128, .f32⟩
  | 106 => ⟨S_, .f32⟩
  | 107 => ⟨S_, .f32⟩
  | 108 => ⟨S32x2x8x128x128, .i1⟩
  | 109 => ⟨S32x2x8x128x128, .f32⟩
  | 110 => ⟨S32x2x8x128x128, .f32⟩
  | 111 => ⟨S32x2x8x128x128, .f32⟩
  | 112 => ⟨S32x2x128x128, .f32⟩
  | 113 => ⟨S32x2x1x128x128, .f32⟩
  | 114 => ⟨S32x2x8x128x128, .f32⟩
  | 115 => ⟨S32x2x8x128x128, .f32⟩
  | 116 => ⟨S32x2x8x64x128, .f32⟩
  | 117 => ⟨S32x128x2x8x64, .f32⟩
  | 118 => ⟨S32x2x8x1, .f32⟩
  | 119 => ⟨S32x2x8x128, .f32⟩
  | 120 => ⟨S32x2x8x128, .f32⟩
  | 121 => ⟨S32x2x8x128, .f32⟩
  | 122 => ⟨S32x128x2x8, .f32⟩
  | 123 => ⟨S32x128x2x8x1, .f32⟩
  | 124 => ⟨S32x128x2x8x64, .f32⟩
  | 125 => ⟨S32x128x2x8x64, .f32⟩
  | 126 => ⟨S32x2x8x64x128, .f32⟩
  | 127 => ⟨S_, .f32⟩
  | _ => ⟨S4096x2576, .f32⟩

abbrev hbmTy0_1 (i : Nat) : BufTy := match i % 128 with
  | 0 => ⟨S4096x1024, .f32⟩
  | 1 => ⟨S4096x2048, .f32⟩
  | 2 => ⟨S32x2x8x1, .f32⟩
  | 3 => ⟨S32x2x8, .f32⟩
  | 4 => ⟨S32x2x8, .f32⟩
  | 5 => ⟨S32x2x8x1x1, .f32⟩
  | 6 => ⟨S32x2x8x64x128, .f32⟩
  | 7 => ⟨S_, .f32⟩
  | 8 => ⟨S2x8x64x128, .f32⟩
  | 9 => ⟨S0x2x8x64x128, .f32⟩
  | 10 => ⟨S32x2x8x64x128, .f32⟩
  | 11 => ⟨S0x2x8x64x128, .f32⟩
  | 12 => ⟨S32x2x8x64x128, .f32⟩
  | 13 => ⟨S_, .f32⟩
  | 14 => ⟨S0x2x8x64x128, .f32⟩
  | 15 => ⟨S1x2x8x64x128, .f32⟩
  | 16 => ⟨S2x8x64x128, .f32⟩
  | 17 => ⟨S1x2x8x64x128, .f32⟩
  | 18 => ⟨S2x8x64x128, .f32⟩
  | 19 => ⟨S2x8x64x128, .f32⟩
  | 20 => ⟨S2x8x64x128, .f32⟩
  | 21 => ⟨S1x2x8x64x128, .f32⟩
  | 22 => ⟨S2x8x64x128, .f32⟩
  | 23 => ⟨S1x2x8x64x128, .f32⟩
  | 24 => ⟨S2x8x64x128, .f32⟩
  | 25 => ⟨S2x8x64x128, .f32⟩
  | 26 => ⟨S2x8x64x128, .f32⟩
  | 27 => ⟨S1x2x8x64x128, .f32⟩
  | 28 => ⟨S2x8x64x128, .f32⟩
  | 29 => ⟨S1x2x8x64x128, .f32⟩
  | 30 => ⟨S2x8x64x128, .f32⟩
  | 31 => ⟨S2x8x64x128, .f32⟩
  | 32 => ⟨S2x8x64x128, .f32⟩
  | 33 => ⟨S1x2x8x64x128, .f32⟩
  | 34 => ⟨S2x8x64x128, .f32⟩
  | 35 => ⟨S1x2x8x64x128, .f32⟩
  | 36 => ⟨S2x8x64x128, .f32⟩
  | 37 => ⟨S2x8x64x128, .f32⟩
  | 38 => ⟨S2x8x64x128, .f32⟩
  | 39 => ⟨S1x2x8x64x128, .f32⟩
  | 40 => ⟨S2x8x64x128, .f32⟩
  | 41 => ⟨S1x2x8x64x128, .f32⟩
  | 42 => ⟨S2x8x64x128, .f32⟩
  | 43 => ⟨S2x8x64x128, .f32⟩
  | 44 => ⟨S2x8x64x128, .f32⟩
  | 45 => ⟨S1x2x8x64x128, .f32⟩
  | 46 => ⟨S2x8x64x128, .f32⟩
  | 47 => ⟨S1x2x8x64x128, .f32⟩
  | 48 => ⟨S2x8x64x128, .f32⟩
  | 49 => ⟨S2x8x64x128, .f32⟩
  | 50 => ⟨S2x8x64x128, .f32⟩
  | 51 => ⟨S1x2x8x64x128, .f32⟩
  | 52 => ⟨S2x8x64x128, .f32⟩
  | 53 => ⟨S1x2x8x64x128, .f32⟩
  | 54 => ⟨S2x8x64x128, .f32⟩
  | 55 => ⟨S2x8x64x128, .f32⟩
  | 56 => ⟨S2x8x64x128, .f32⟩
  | 57 => ⟨S1x2x8x64x128, .f32⟩
  | 58 => ⟨S2x8x64x128, .f32⟩
  | 59 => ⟨S1x2x8x64x128, .f32⟩
  | 60 => ⟨S2x8x64x128, .f32⟩
  | 61 => ⟨S2x8x64x128, .f32⟩
  | 62 => ⟨S2x8x64x128, .f32⟩
  | 63 => ⟨S1x2x8x64x128, .f32⟩
  | 64 => ⟨S2x8x64x128, .f32⟩
  | 65 => ⟨S1x2x8x64x128, .f32⟩
  | 66 => ⟨S2x8x64x128, .f32⟩
  | 67 => ⟨S2x8x64x128, .f32⟩
  | 68 => ⟨S2x8x64x128, .f32⟩
  | 69 => ⟨S1x2x8x64x128, .f32⟩
  | 70 => ⟨S2x8x64x128, .f32⟩
  | 71 => ⟨S1x2x8x64x128, .f32⟩
  | 72 => ⟨S2x8x64x128, .f32⟩
  | 73 => ⟨S2x8x64x128, .f32⟩
  | 74 => ⟨S2x8x64x128, .f32⟩
  | 75 => ⟨S1x2x8x64x128, .f32⟩
  | 76 => ⟨S2x8x64x128, .f32⟩
  | 77 => ⟨S1x2x8x64x128, .f32⟩
  | 78 => ⟨S2x8x64x128, .f32⟩
  | 79 => ⟨S2x8x64x128, .f32⟩
  | 80 => ⟨S2x8x64x128, .f32⟩
  | 81 => ⟨S1x2x8x64x128, .f32⟩
  | 82 => ⟨S2x8x64x128, .f32⟩
  | 83 => ⟨S1x2x8x64x128, .f32⟩
  | 84 => ⟨S2x8x64x128, .f32⟩
  | 85 => ⟨S2x8x64x128, .f32⟩
  | 86 => ⟨S2x8x64x128, .f32⟩
  | 87 => ⟨S1x2x8x64x128, .f32⟩
  | 88 => ⟨S2x8x64x128, .f32⟩
  | 89 => ⟨S1x2x8x64x128, .f32⟩
  | 90 => ⟨S2x8x64x128, .f32⟩
  | 91 => ⟨S2x8x64x128, .f32⟩
  | 92 => ⟨S2x8x64x128, .f32⟩
  | 93 => ⟨S1x2x8x64x128, .f32⟩
  | 94 => ⟨S2x8x64x128, .f32⟩
  | 95 => ⟨S1x2x8x64x128, .f32⟩
  | 96 => ⟨S2x8x64x128, .f32⟩
  | 97 => ⟨S2x8x64x128, .f32⟩
  | 98 => ⟨S2x8x64x128, .f32⟩
  | 99 => ⟨S1x2x8x64x128, .f32⟩
  | 100 => ⟨S2x8x64x128, .f32⟩
  | 101 => ⟨S1x2x8x64x128, .f32⟩
  | 102 => ⟨S2x8x64x128, .f32⟩
  | 103 => ⟨S2x8x64x128, .f32⟩
  | 104 => ⟨S2x8x64x128, .f32⟩
  | 105 => ⟨S1x2x8x64x128, .f32⟩
  | 106 => ⟨S2x8x64x128, .f32⟩
  | 107 => ⟨S1x2x8x64x128, .f32⟩
  | 108 => ⟨S2x8x64x128, .f32⟩
  | 109 => ⟨S2x8x64x128, .f32⟩
  | 110 => ⟨S2x8x64x128, .f32⟩
  | 111 => ⟨S1x2x8x64x128, .f32⟩
  | 112 => ⟨S2x8x64x128, .f32⟩
  | 113 => ⟨S1x2x8x64x128, .f32⟩
  | 114 => ⟨S2x8x64x128, .f32⟩
  | 115 => ⟨S2x8x64x128, .f32⟩
  | 116 => ⟨S2x8x64x128, .f32⟩
  | 117 => ⟨S1x2x8x64x128, .f32⟩
  | 118 => ⟨S2x8x64x128, .f32⟩
  | 119 => ⟨S1x2x8x64x128, .f32⟩
  | 120 => ⟨S2x8x64x128, .f32⟩
  | 121 => ⟨S2x8x64x128, .f32⟩
  | 122 => ⟨S2x8x64x128, .f32⟩
  | 123 => ⟨S1x2x8x64x128, .f32⟩
  | 124 => ⟨S2x8x64x128, .f32⟩
  | 125 => ⟨S1x2x8x64x128, .f32⟩
  | 126 => ⟨S2x8x64x128, .f32⟩
  | 127 => ⟨S2x8x64x128, .f32⟩
  | _ => ⟨S4096x2576, .f32⟩

abbrev hbmTy0_2 (i : Nat) : BufTy := match i % 128 with
  | 0 => ⟨S2x8x64x128, .f32⟩
  | 1 => ⟨S1x2x8x64x128, .f32⟩
  | 2 => ⟨S2x8x64x128, .f32⟩
  | 3 => ⟨S1x2x8x64x128, .f32⟩
  | 4 => ⟨S2x8x64x128, .f32⟩
  | 5 => ⟨S2x8x64x128, .f32⟩
  | 6 => ⟨S2x8x64x128, .f32⟩
  | 7 => ⟨S1x2x8x64x128, .f32⟩
  | 8 => ⟨S2x8x64x128, .f32⟩
  | 9 => ⟨S1x2x8x64x128, .f32⟩
  | 10 => ⟨S2x8x64x128, .f32⟩
  | 11 => ⟨S2x8x64x128, .f32⟩
  | 12 => ⟨S2x8x64x128, .f32⟩
  | 13 => ⟨S1x2x8x64x128, .f32⟩
  | 14 => ⟨S2x8x64x128, .f32⟩
  | 15 => ⟨S1x2x8x64x128, .f32⟩
  | 16 => ⟨S2x8x64x128, .f32⟩
  | 17 => ⟨S2x8x64x128, .f32⟩
  | 18 => ⟨S2x8x64x128, .f32⟩
  | 19 => ⟨S1x2x8x64x128, .f32⟩
  | 20 => ⟨S2x8x64x128, .f32⟩
  | 21 => ⟨S1x2x8x64x128, .f32⟩
  | 22 => ⟨S2x8x64x128, .f32⟩
  | 23 => ⟨S2x8x64x128, .f32⟩
  | 24 => ⟨S2x8x64x128, .f32⟩
  | 25 => ⟨S1x2x8x64x128, .f32⟩
  | 26 => ⟨S2x8x64x128, .f32⟩
  | 27 => ⟨S1x2x8x64x128, .f32⟩
  | 28 => ⟨S2x8x64x128, .f32⟩
  | 29 => ⟨S2x8x64x128, .f32⟩
  | 30 => ⟨S2x8x64x128, .f32⟩
  | 31 => ⟨S1x2x8x64x128, .f32⟩
  | 32 => ⟨S2x8x64x128, .f32⟩
  | 33 => ⟨S1x2x8x64x128, .f32⟩
  | 34 => ⟨S2x8x64x128, .f32⟩
  | 35 => ⟨S2x8x64x128, .f32⟩
  | 36 => ⟨S2x8x64x128, .f32⟩
  | 37 => ⟨S1x2x8x64x128, .f32⟩
  | 38 => ⟨S2x8x64x128, .f32⟩
  | 39 => ⟨S1x2x8x64x128, .f32⟩
  | 40 => ⟨S2x8x64x128, .f32⟩
  | 41 => ⟨S2x8x64x128, .f32⟩
  | 42 => ⟨S2x8x64x128, .f32⟩
  | 43 => ⟨S1x2x8x64x128, .f32⟩
  | 44 => ⟨S2x8x64x128, .f32⟩
  | 45 => ⟨S1x2x8x64x128, .f32⟩
  | 46 => ⟨S2x8x64x128, .f32⟩
  | 47 => ⟨S2x8x64x128, .f32⟩
  | 48 => ⟨S2x8x64x128, .f32⟩
  | 49 => ⟨S1x2x8x64x128, .f32⟩
  | 50 => ⟨S2x8x64x128, .f32⟩
  | 51 => ⟨S1x2x8x64x128, .f32⟩
  | 52 => ⟨S2x8x64x128, .f32⟩
  | 53 => ⟨S2x8x64x128, .f32⟩
  | 54 => ⟨S2x8x64x128, .f32⟩
  | 55 => ⟨S1x2x8x64x128, .f32⟩
  | 56 => ⟨S2x8x64x128, .f32⟩
  | 57 => ⟨S1x2x8x64x128, .f32⟩
  | 58 => ⟨S2x8x64x128, .f32⟩
  | 59 => ⟨S2x8x64x128, .f32⟩
  | 60 => ⟨S2x8x64x128, .f32⟩
  | 61 => ⟨S1x2x8x64x128, .f32⟩
  | 62 => ⟨S2x8x64x128, .f32⟩
  | 63 => ⟨S1x2x8x64x128, .f32⟩
  | 64 => ⟨S2x8x64x128, .f32⟩
  | 65 => ⟨S2x8x64x128, .f32⟩
  | 66 => ⟨S2x8x64x128, .f32⟩
  | 67 => ⟨S1x2x8x64x128, .f32⟩
  | 68 => ⟨S2x8x64x128, .f32⟩
  | 69 => ⟨S1x2x8x64x128, .f32⟩
  | 70 => ⟨S2x8x64x128, .f32⟩
  | 71 => ⟨S2x8x64x128, .f32⟩
  | 72 => ⟨S2x8x64x128, .f32⟩
  | 73 => ⟨S1x2x8x64x128, .f32⟩
  | 74 => ⟨S2x8x64x128, .f32⟩
  | 75 => ⟨S1x2x8x64x128, .f32⟩
  | 76 => ⟨S2x8x64x128, .f32⟩
  | 77 => ⟨S2x8x64x128, .f32⟩
  | 78 => ⟨S2x8x64x128, .f32⟩
  | 79 => ⟨S1x2x8x64x128, .f32⟩
  | 80 => ⟨S1x2x8x64x128, .f32⟩
  | 81 => ⟨S1x2x8x64x128, .f32⟩
  | 82 => ⟨S1x2x8x64x128, .f32⟩
  | 83 => ⟨S1x2x8x64x128, .f32⟩
  | 84 => ⟨S1x2x8x64x128, .f32⟩
  | 85 => ⟨S1x2x8x64x128, .f32⟩
  | 86 => ⟨S1x2x8x64x128, .f32⟩
  | 87 => ⟨S1x2x8x64x128, .f32⟩
  | 88 => ⟨S1x2x8x64x128, .f32⟩
  | 89 => ⟨S1x2x8x64x128, .f32⟩
  | 90 => ⟨S1x2x8x64x128, .f32⟩
  | 91 => ⟨S1x2x8x64x128, .f32⟩
  | 92 => ⟨S1x2x8x64x128, .f32⟩
  | 93 => ⟨S1x2x8x64x128, .f32⟩
  | 94 => ⟨S1x2x8x64x128, .f32⟩
  | 95 => ⟨S1x2x8x64x128, .f32⟩
  | 96 => ⟨S1x2x8x64x128, .f32⟩
  | 97 => ⟨S1x2x8x64x128, .f32⟩
  | 98 => ⟨S1x2x8x64x128, .f32⟩
  | 99 => ⟨S1x2x8x64x128, .f32⟩
  | 100 => ⟨S1x2x8x64x128, .f32⟩
  | 101 => ⟨S1x2x8x64x128, .f32⟩
  | 102 => ⟨S1x2x8x64x128, .f32⟩
  | 103 => ⟨S1x2x8x64x128, .f32⟩
  | 104 => ⟨S1x2x8x64x128, .f32⟩
  | 105 => ⟨S1x2x8x64x128, .f32⟩
  | 106 => ⟨S1x2x8x64x128, .f32⟩
  | 107 => ⟨S1x2x8x64x128, .f32⟩
  | 108 => ⟨S1x2x8x64x128, .f32⟩
  | 109 => ⟨S1x2x8x64x128, .f32⟩
  | 110 => ⟨S1x2x8x64x128, .f32⟩
  | 111 => ⟨S16x2x8x64x128, .f32⟩
  | 112 => ⟨S16x2x8x64x128, .f32⟩
  | 113 => ⟨S32x2x8x64x128, .f32⟩
  | 114 => ⟨S32x2x8x64x128, .f32⟩
  | 115 => ⟨S32x2x8x128, .f32⟩
  | 116 => ⟨S32x128x2x8, .f32⟩
  | 117 => ⟨S32x128x2x8x1, .f32⟩
  | 118 => ⟨S32x2x8x64x128, .f32⟩
  | 119 => ⟨S32x128x2x8x64, .f32⟩
  | 120 => ⟨S32x128x2x8x64, .f32⟩
  | 121 => ⟨S32x128x2x8x64, .f32⟩
  | 122 => ⟨S32x128x2x8x64, .f32⟩
  | 123 => ⟨S2x8x1, .f32⟩
  | 124 => ⟨S1x1x2x8x1, .f32⟩
  | 125 => ⟨S32x128x2x8x64, .f32⟩
  | 126 => ⟨S32x128x2x8x64, .f32⟩
  | 127 => ⟨S32x128x2x8x64, .f32⟩
  | _ => ⟨S4096x2576, .f32⟩

abbrev hbmTy0_3 (i : Nat) : BufTy := match i % 128 with
  | 0 => ⟨S4096x1024, .f32⟩
  | 1 => ⟨S_, .f32⟩
  | 2 => ⟨S4096x4096, .f32⟩
  | 3 => ⟨S_, .f32⟩
  | 4 => ⟨S4096x496, .f32⟩
  | 5 => ⟨S4096x7168, .f32⟩
  | 6 => ⟨S1x16x64, .f32⟩
  | 7 => ⟨S1x1024, .f32⟩
  | 8 => ⟨S1x16x64, .f32⟩
  | 9 => ⟨S1x1024, .f32⟩
  | 10 => ⟨S32x128x2x8x64, .f32⟩
  | 11 => ⟨S32x128x1024, .f32⟩
  | 12 => ⟨S4096x3072, .bf16⟩
  | 13 => ⟨S8x1536, .f32⟩
  | 14 => ⟨S8x1024, .f32⟩
  | 15 => ⟨S8x128, .f32⟩
  | 16 => ⟨S2x1024, .f32⟩
  | 17 => ⟨S2x16x64, .f32⟩
  | 18 => ⟨S_, .f32⟩
  | 19 => ⟨S2x16, .f32⟩
  | 20 => ⟨S1x1024, .f32⟩
  | _ => ⟨S4096x2576, .f32⟩

abbrev hbmTy (i : Nat) : BufTy := match i / 128 with
  | 0 => hbmTy0_0 i
  | 1 => hbmTy0_1 i
  | 2 => hbmTy0_2 i
  | 3 => hbmTy0_3 i
  | _ => ⟨S4096x2576, .f32⟩

abbrev bufTy : (tb : Table) → Fin (tcTables nBuf tb) → BufTy
  | .hbm, ⟨i, _⟩ => hbmTy i
  | .local _ .vmem, ⟨0, _⟩ => ⟨S128x1024, .f32⟩
  | .local _ .vmem, ⟨1, _⟩ => ⟨S128x1024, .f32⟩
  | .local _ .vmem, ⟨2, _⟩ => ⟨S128x512, .f32⟩
  | .local _ .vmem, ⟨3, _⟩ => ⟨S128x512, .f32⟩
  | .local _ .vmem, ⟨4, _⟩ => ⟨S8x1024, .f32⟩
  | .local _ .vmem, ⟨5, _⟩ => ⟨S8x1024, .f32⟩
  | .local _ .vmem, ⟨6, _⟩ => ⟨S8x512, .f32⟩
  | .local _ .vmem, ⟨7, _⟩ => ⟨S8x512, .f32⟩
  | .local _ .vmem, ⟨8, _⟩ => ⟨S128x128, .f32⟩
  | .local _ .vmem, ⟨9, _⟩ => ⟨S128x128, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S1x128x1024, .f32⟩
  | .local _ .vmem, ⟨15, _⟩ => ⟨S1x128x1024, .f32⟩
  | .local _ .vmem, ⟨16, _⟩ => ⟨S128x1024, .f32⟩
  | .local _ .vmem, ⟨17, _⟩ => ⟨S128x1024, .f32⟩
  | .local _ .vmem, ⟨18, _⟩ => ⟨S4x1536, .f32⟩
  | .local _ .vmem, ⟨19, _⟩ => ⟨S1x1536, .f32⟩
  | .local _ .vmem, ⟨20, _⟩ => ⟨S1x128, .f32⟩
  | .local _ .vmem, ⟨21, _⟩ => ⟨S1x128, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S128x1536, .f32⟩
  | .local _ .vmem, ⟨26, _⟩ => ⟨S128x1536, .f32⟩
  | .local _ .vmem, ⟨27, _⟩ => ⟨S128x3072, .bf16⟩
  | .local _ .vmem, ⟨28, _⟩ => ⟨S128x3072, .bf16⟩
  | .local _ .vmem, ⟨29, _⟩ => ⟨S8x1536, .f32⟩
  | .local _ .vmem, ⟨30, _⟩ => ⟨S8x1024, .f32⟩
  | .local _ .vmem, ⟨31, _⟩ => ⟨S8x128, .f32⟩
  | .local _ .vmem, ⟨32, _⟩ => ⟨S128x1024, .f32⟩
  | .local _ .vmem, ⟨33, _⟩ => ⟨S8x1536, .f32⟩
  | .local _ .vmem, ⟨34, _⟩ => ⟨S136x1536, .f32⟩
  | .local _ .vmem, ⟨35, _⟩ => ⟨S128x1024, .f32⟩
  | .local _ .vmem, ⟨36, _⟩ => ⟨S128x1024, .f32⟩
  | .local _ .vmem, ⟨37, _⟩ => ⟨S128x512, .f32⟩
  | .local _ .vmem, ⟨38, _⟩ => ⟨S128x2048, .bf16⟩
  | .local _ .vmem, ⟨39, _⟩ => ⟨S1024x128, .bf16⟩
  | _, _ => ⟨S4096x2576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_c_0 : Ref sig .tc := ⟨.hbm, 15, rfl⟩
abbrev main_call1_v0 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_call2_v0 : Ref sig .tc := ⟨.hbm, 41, rfl⟩
abbrev main_call2_v1 : Ref sig .tc := ⟨.hbm, 42, rfl⟩
abbrev main_call2_cst : Ref sig .tc := ⟨.hbm, 43, rfl⟩
abbrev main_call2_v2 : Ref sig .tc := ⟨.hbm, 44, rfl⟩
abbrev main_call2_v3 : Ref sig .tc := ⟨.hbm, 45, rfl⟩
abbrev main_call2_cst_0 : Ref sig .tc := ⟨.hbm, 46, rfl⟩
abbrev main_call2_v4 : Ref sig .tc := ⟨.hbm, 47, rfl⟩
abbrev main_call2_v5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call3_cst : Ref sig .tc := ⟨.hbm, 58, rfl⟩
abbrev main_call3_v0 : Ref sig .tc := ⟨.hbm, 59, rfl⟩
abbrev main_call3_v1 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_call3_v5 : Ref sig .tc := ⟨.hbm, 64, rfl⟩
abbrev main_call3_v6 : Ref sig .tc := ⟨.hbm, 65, rfl⟩
abbrev main_call3_v7 : Ref sig .tc := ⟨.hbm, 66, rfl⟩
abbrev main_call3_v8 : Ref sig .tc := ⟨.hbm, 67, rfl⟩
abbrev main_call3_v9 : Ref sig .tc := ⟨.hbm, 68, rfl⟩
abbrev main_call3_v10 : Ref sig .tc := ⟨.hbm, 69, rfl⟩
abbrev main_call3_v11 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_c_1 : Ref sig .tc := ⟨.hbm, 81, rfl⟩
abbrev main_v49 : Ref sig .tc := ⟨.hbm, 82, rfl⟩
abbrev main_call4_v0 : Ref sig .tc := ⟨.hbm, 83, rfl⟩
abbrev main_call4_c : Ref sig .tc := ⟨.hbm, 84, rfl⟩
abbrev main_call4_v1 : Ref sig .tc := ⟨.hbm, 85, rfl⟩
abbrev main_call4_v2 : Ref sig .tc := ⟨.hbm, 86, rfl⟩
abbrev main_call4_v3 : Ref sig .tc := ⟨.hbm, 87, rfl⟩
abbrev main_call4_v4 : Ref sig .tc := ⟨.hbm, 88, rfl⟩
abbrev main_call4_c_0 : Ref sig .tc := ⟨.hbm, 89, rfl⟩
abbrev main_call4_v5 : Ref sig .tc := ⟨.hbm, 90, rfl⟩
abbrev main_v50 : Ref sig .tc := ⟨.hbm, 91, rfl⟩
abbrev main_v51 : Ref sig .tc := ⟨.hbm, 92, rfl⟩
abbrev main_cst_2 : Ref sig .tc := ⟨.hbm, 93, rfl⟩
abbrev main_call5_v0 : Ref sig .tc := ⟨.hbm, 94, rfl⟩
abbrev main_call5_v1 : Ref sig .tc := ⟨.hbm, 95, rfl⟩
abbrev main_call5_v2 : Ref sig .tc := ⟨.hbm, 96, rfl⟩
abbrev main_call5_v3 : Ref sig .tc := ⟨.hbm, 97, rfl⟩
abbrev main_v52 : Ref sig .tc := ⟨.hbm, 98, rfl⟩
abbrev main_cst_3 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_cst_4 : Ref sig .tc := ⟨.hbm, 106, rfl⟩
abbrev main_call6_v0 : Ref sig .tc := ⟨.hbm, 107, rfl⟩
abbrev main_call6_v1 : Ref sig .tc := ⟨.hbm, 108, rfl⟩
abbrev main_call6_v2 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_cst_5 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_cst_6 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_cst_7 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_v205 : Ref sig .tc := ⟨.hbm, 259, rfl⟩
abbrev main_v206 : Ref sig .tc := ⟨.hbm, 260, rfl⟩
abbrev main_v207 : Ref sig .tc := ⟨.hbm, 261, rfl⟩
abbrev main_v208 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩
abbrev main_v220 : Ref sig .tc := ⟨.hbm, 274, rfl⟩
abbrev main_v221 : Ref sig .tc := ⟨.hbm, 275, rfl⟩
abbrev main_v222 : Ref sig .tc := ⟨.hbm, 276, rfl⟩
abbrev main_v223 : Ref sig .tc := ⟨.hbm, 277, rfl⟩
abbrev main_v224 : Ref sig .tc := ⟨.hbm, 278, rfl⟩
abbrev main_v225 : Ref sig .tc := ⟨.hbm, 279, rfl⟩
abbrev main_v226 : Ref sig .tc := ⟨.hbm, 280, rfl⟩
abbrev main_v227 : Ref sig .tc := ⟨.hbm, 281, rfl⟩
abbrev main_v228 : Ref sig .tc := ⟨.hbm, 282, rfl⟩
abbrev main_v229 : Ref sig .tc := ⟨.hbm, 283, rfl⟩
abbrev main_v230 : Ref sig .tc := ⟨.hbm, 284, rfl⟩
abbrev main_v231 : Ref sig .tc := ⟨.hbm, 285, rfl⟩
abbrev main_v232 : Ref sig .tc := ⟨.hbm, 286, rfl⟩
abbrev main_v233 : Ref sig .tc := ⟨.hbm, 287, rfl⟩
abbrev main_v234 : Ref sig .tc := ⟨.hbm, 288, rfl⟩
abbrev main_v235 : Ref sig .tc := ⟨.hbm, 289, rfl⟩
abbrev main_v236 : Ref sig .tc := ⟨.hbm, 290, rfl⟩
abbrev main_v237 : Ref sig .tc := ⟨.hbm, 291, rfl⟩
abbrev main_v238 : Ref sig .tc := ⟨.hbm, 292, rfl⟩
abbrev main_v239 : Ref sig .tc := ⟨.hbm, 293, rfl⟩
abbrev main_v240 : Ref sig .tc := ⟨.hbm, 294, rfl⟩
abbrev main_v241 : Ref sig .tc := ⟨.hbm, 295, rfl⟩
abbrev main_v242 : Ref sig .tc := ⟨.hbm, 296, rfl⟩
abbrev main_v243 : Ref sig .tc := ⟨.hbm, 297, rfl⟩
abbrev main_v244 : Ref sig .tc := ⟨.hbm, 298, rfl⟩
abbrev main_v245 : Ref sig .tc := ⟨.hbm, 299, rfl⟩
abbrev main_v246 : Ref sig .tc := ⟨.hbm, 300, rfl⟩
abbrev main_v247 : Ref sig .tc := ⟨.hbm, 301, rfl⟩
abbrev main_v248 : Ref sig .tc := ⟨.hbm, 302, rfl⟩
abbrev main_v249 : Ref sig .tc := ⟨.hbm, 303, rfl⟩
abbrev main_v250 : Ref sig .tc := ⟨.hbm, 304, rfl⟩
abbrev main_v251 : Ref sig .tc := ⟨.hbm, 305, rfl⟩
abbrev main_v252 : Ref sig .tc := ⟨.hbm, 306, rfl⟩
abbrev main_v253 : Ref sig .tc := ⟨.hbm, 307, rfl⟩
abbrev main_v254 : Ref sig .tc := ⟨.hbm, 308, rfl⟩
abbrev main_v255 : Ref sig .tc := ⟨.hbm, 309, rfl⟩
abbrev main_v256 : Ref sig .tc := ⟨.hbm, 310, rfl⟩
abbrev main_v257 : Ref sig .tc := ⟨.hbm, 311, rfl⟩
abbrev main_v258 : Ref sig .tc := ⟨.hbm, 312, rfl⟩
abbrev main_v259 : Ref sig .tc := ⟨.hbm, 313, rfl⟩
abbrev main_v260 : Ref sig .tc := ⟨.hbm, 314, rfl⟩
abbrev main_v261 : Ref sig .tc := ⟨.hbm, 315, rfl⟩
abbrev main_v262 : Ref sig .tc := ⟨.hbm, 316, rfl⟩
abbrev main_v263 : Ref sig .tc := ⟨.hbm, 317, rfl⟩
abbrev main_v264 : Ref sig .tc := ⟨.hbm, 318, rfl⟩
abbrev main_v265 : Ref sig .tc := ⟨.hbm, 319, rfl⟩
abbrev main_v266 : Ref sig .tc := ⟨.hbm, 320, rfl⟩
abbrev main_v267 : Ref sig .tc := ⟨.hbm, 321, rfl⟩
abbrev main_v268 : Ref sig .tc := ⟨.hbm, 322, rfl⟩
abbrev main_v269 : Ref sig .tc := ⟨.hbm, 323, rfl⟩
abbrev main_v270 : Ref sig .tc := ⟨.hbm, 324, rfl⟩
abbrev main_v271 : Ref sig .tc := ⟨.hbm, 325, rfl⟩
abbrev main_v272 : Ref sig .tc := ⟨.hbm, 326, rfl⟩
abbrev main_v273 : Ref sig .tc := ⟨.hbm, 327, rfl⟩
abbrev main_v274 : Ref sig .tc := ⟨.hbm, 328, rfl⟩
abbrev main_v275 : Ref sig .tc := ⟨.hbm, 329, rfl⟩
abbrev main_v276 : Ref sig .tc := ⟨.hbm, 330, rfl⟩
abbrev main_v277 : Ref sig .tc := ⟨.hbm, 331, rfl⟩
abbrev main_v278 : Ref sig .tc := ⟨.hbm, 332, rfl⟩
abbrev main_v279 : Ref sig .tc := ⟨.hbm, 333, rfl⟩
abbrev main_v280 : Ref sig .tc := ⟨.hbm, 334, rfl⟩
abbrev main_v281 : Ref sig .tc := ⟨.hbm, 335, rfl⟩
abbrev main_v282 : Ref sig .tc := ⟨.hbm, 336, rfl⟩
abbrev main_v283 : Ref sig .tc := ⟨.hbm, 337, rfl⟩
abbrev main_v284 : Ref sig .tc := ⟨.hbm, 338, rfl⟩
abbrev main_v285 : Ref sig .tc := ⟨.hbm, 339, rfl⟩
abbrev main_v286 : Ref sig .tc := ⟨.hbm, 340, rfl⟩
abbrev main_v287 : Ref sig .tc := ⟨.hbm, 341, rfl⟩
abbrev main_v288 : Ref sig .tc := ⟨.hbm, 342, rfl⟩
abbrev main_v289 : Ref sig .tc := ⟨.hbm, 343, rfl⟩
abbrev main_v290 : Ref sig .tc := ⟨.hbm, 344, rfl⟩
abbrev main_v291 : Ref sig .tc := ⟨.hbm, 345, rfl⟩
abbrev main_v292 : Ref sig .tc := ⟨.hbm, 346, rfl⟩
abbrev main_v293 : Ref sig .tc := ⟨.hbm, 347, rfl⟩
abbrev main_v294 : Ref sig .tc := ⟨.hbm, 348, rfl⟩
abbrev main_v295 : Ref sig .tc := ⟨.hbm, 349, rfl⟩
abbrev main_v296 : Ref sig .tc := ⟨.hbm, 350, rfl⟩
abbrev main_v297 : Ref sig .tc := ⟨.hbm, 351, rfl⟩
abbrev main_v298 : Ref sig .tc := ⟨.hbm, 352, rfl⟩
abbrev main_v299 : Ref sig .tc := ⟨.hbm, 353, rfl⟩
abbrev main_v300 : Ref sig .tc := ⟨.hbm, 354, rfl⟩
abbrev main_v301 : Ref sig .tc := ⟨.hbm, 355, rfl⟩
abbrev main_v302 : Ref sig .tc := ⟨.hbm, 356, rfl⟩
abbrev main_v303 : Ref sig .tc := ⟨.hbm, 357, rfl⟩
abbrev main_v304 : Ref sig .tc := ⟨.hbm, 358, rfl⟩
abbrev main_v305 : Ref sig .tc := ⟨.hbm, 359, rfl⟩
abbrev main_v306 : Ref sig .tc := ⟨.hbm, 360, rfl⟩
abbrev main_v307 : Ref sig .tc := ⟨.hbm, 361, rfl⟩
abbrev main_v308 : Ref sig .tc := ⟨.hbm, 362, rfl⟩
abbrev main_v309 : Ref sig .tc := ⟨.hbm, 363, rfl⟩
abbrev main_v310 : Ref sig .tc := ⟨.hbm, 364, rfl⟩
abbrev main_v311 : Ref sig .tc := ⟨.hbm, 365, rfl⟩
abbrev main_v312 : Ref sig .tc := ⟨.hbm, 366, rfl⟩
abbrev main_v313 : Ref sig .tc := ⟨.hbm, 367, rfl⟩
abbrev main_v314 : Ref sig .tc := ⟨.hbm, 368, rfl⟩
abbrev main_v315 : Ref sig .tc := ⟨.hbm, 369, rfl⟩
abbrev main_v316 : Ref sig .tc := ⟨.hbm, 370, rfl⟩
abbrev main_v317 : Ref sig .tc := ⟨.hbm, 371, rfl⟩
abbrev main_v318 : Ref sig .tc := ⟨.hbm, 372, rfl⟩
abbrev main_v319 : Ref sig .tc := ⟨.hbm, 373, rfl⟩
abbrev main_v320 : Ref sig .tc := ⟨.hbm, 374, rfl⟩
abbrev main_v321 : Ref sig .tc := ⟨.hbm, 375, rfl⟩
abbrev main_v322 : Ref sig .tc := ⟨.hbm, 376, rfl⟩
abbrev main_v323 : Ref sig .tc := ⟨.hbm, 377, rfl⟩
abbrev main_v324 : Ref sig .tc := ⟨.hbm, 378, rfl⟩
abbrev main_v325 : Ref sig .tc := ⟨.hbm, 379, rfl⟩
abbrev main_v326 : Ref sig .tc := ⟨.hbm, 380, rfl⟩
abbrev main_v327 : Ref sig .tc := ⟨.hbm, 381, rfl⟩
abbrev main_v328 : Ref sig .tc := ⟨.hbm, 382, rfl⟩
abbrev main_v329 : Ref sig .tc := ⟨.hbm, 383, rfl⟩
abbrev main_v330 : Ref sig .tc := ⟨.hbm, 384, rfl⟩
abbrev main_cst_8 : Ref sig .tc := ⟨.hbm, 385, rfl⟩
abbrev main_v331 : Ref sig .tc := ⟨.hbm, 386, rfl⟩
abbrev main_cst_9 : Ref sig .tc := ⟨.hbm, 387, rfl⟩
abbrev main_v332 : Ref sig .tc := ⟨.hbm, 388, rfl⟩
abbrev main_v333 : Ref sig .tc := ⟨.hbm, 389, rfl⟩
abbrev main_v334 : Ref sig .tc := ⟨.hbm, 390, rfl⟩
abbrev main_v335 : Ref sig .tc := ⟨.hbm, 391, rfl⟩
abbrev main_v336 : Ref sig .tc := ⟨.hbm, 392, rfl⟩
abbrev main_v337 : Ref sig .tc := ⟨.hbm, 393, rfl⟩
abbrev main_v338 : Ref sig .tc := ⟨.hbm, 394, rfl⟩
abbrev main_v339 : Ref sig .tc := ⟨.hbm, 395, rfl⟩
abbrev main_v340_0 : Ref sig .tc := ⟨.hbm, 396, rfl⟩
abbrev main_v340_1 : Ref sig .tc := ⟨.hbm, 397, rfl⟩
abbrev main_v340_2 : Ref sig .tc := ⟨.hbm, 398, rfl⟩
abbrev main_v340_3 : Ref sig .tc := ⟨.hbm, 399, rfl⟩
abbrev main_v341 : Ref sig .tc := ⟨.hbm, 400, rfl⟩
abbrev main_v342 : Ref sig .tc := ⟨.hbm, 401, rfl⟩
abbrev main_cst_10 : Ref sig .tc := ⟨.hbm, 402, rfl⟩
abbrev main_v343 : Ref sig .tc := ⟨.hbm, 403, rfl⟩
abbrev main_v344 : Ref sig .tc := ⟨.hbm, 404, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_scratch5 : Ref sig .tc := ⟨.vmem, 37, rfl⟩
abbrev cc0_scratch6 : Ref sig .tc := ⟨.vmem, 38, rfl⟩
abbrev cc0_scratch7 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem19_0 : DmaSem sig := 30
abbrev cc0_sem20_0 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c5_i32 : BitVec 32 := 5#32
  let c0_i32 : BitVec 32 := 0#32
  ![v0.toNat, c5_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c12_i32 : BitVec 32 := 12#32
  let c0_i32 : BitVec 32 := 0#32
  ![v0.toNat, c12_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c16_i32 : BitVec 32 := 16#32
  let v1 : BitVec 32 := Scalar.muli c16_i32 v0
  let c1_i32 : BitVec 32 := 1#32
  let v2 : BitVec 32 := Scalar.subi v1 c1_i32
  let c0_i32 : BitVec 32 := 0#32
  let v3 : BitVec 32 := Scalar.maxsi v2 c0_i32
  let c5_i32 : BitVec 32 := 5#32
  let c0_i32_0 : BitVec 32 := 0#32
  ![v3.toNat, c5_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c16_i32 : BitVec 32 := 16#32
  let v1 : BitVec 32 := Scalar.muli c16_i32 v0
  let c1_i32 : BitVec 32 := 1#32
  let v2 : BitVec 32 := Scalar.subi v1 c1_i32
  let c0_i32 : BitVec 32 := 0#32
  let v3 : BitVec 32 := Scalar.maxsi v2 c0_i32
  let c12_i32 : BitVec 32 := 12#32
  let c0_i32_0 : BitVec 32 := 0#32
  ![v3.toNat, c12_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c52_i32 : BitVec 32 := 52#32
  let c0_i32 : BitVec 32 := 0#32
  ![v0.toNat, c52_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c4_i32 : BitVec 32 := 4#32
  let c0_i32 : BitVec 32 := 0#32
  ![v0.toNat, c4_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S128x1536 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x3072 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S8x1536 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S8x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== SsdRefIdeal.lean ====
abbrev S4096x2576 : Shape := ⟨2, ![4096, 2576]⟩
abbrev S4096x1024 : Shape := ⟨2, ![4096, 1024]⟩
abbrev S4x1536 : Shape := ⟨2, ![4, 1536]⟩
abbrev S1x1536 : Shape := ⟨2, ![1, 1536]⟩
abbrev S3x16 : Shape := ⟨2, ![3, 16]⟩
abbrev S1x1024 : Shape := ⟨2, ![1, 1024]⟩
abbrev S4096x1536 : Shape := ⟨2, ![4096, 1536]⟩
abbrev S4096x16 : Shape := ⟨2, ![4096, 16]⟩
abbrev S1x16 : Shape := ⟨2, ![1, 16]⟩
abbrev S_ : Shape := ⟨0, ![]⟩
abbrev S3x1536 : Shape := ⟨2, ![3, 1536]⟩
abbrev S4099x1536 : Shape := ⟨2, ![4099, 1536]⟩
abbrev S32x128x2x8x64 : Shape := ⟨5, ![32, 128, 2, 8, 64]⟩
abbrev S4096x256 : Shape := ⟨2, ![4096, 256]⟩
abbrev S32x128x2x128 : Shape := ⟨4, ![32, 128, 2, 128]⟩
abbrev S32x128x2x8x1 : Shape := ⟨5, ![32, 128, 2, 8, 1]⟩
abbrev S32x128x2x8 : Shape := ⟨4, ![32, 128, 2, 8]⟩
abbrev S32x2x8x128 : Shape := ⟨4, ![32, 2, 8, 128]⟩
abbrev S128x128 : Shape := ⟨2, ![128, 128]⟩
abbrev S32x2x8x1x128 : Shape := ⟨5, ![32, 2, 8, 1, 128]⟩
abbrev S32x2x8x128x128 : Shape := ⟨5, ![32, 2, 8, 128, 128]⟩
abbrev S32x2x8x128x1 : Shape := ⟨5, ![32, 2, 8, 128, 1]⟩
abbrev S32x2x128x128 : Shape := ⟨4, ![32, 2, 128, 128]⟩
abbrev S32x2x1x128x128 : Shape := ⟨5, ![32, 2, 1, 128, 128]⟩
abbrev S32x2x8x64x128 : Shape := ⟨5, ![32, 2, 8, 64, 128]⟩
abbrev S32x2x8x1 : Shape := ⟨4, ![32, 2, 8, 1]⟩
abbrev S32x2x8 : Shape := ⟨3, ![32, 2, 8]⟩
abbrev S32x2x8x1x1 : Shape := ⟨5, ![32, 2, 8, 1, 1]⟩
abbrev S2x8x64x128 : Shape := ⟨4, ![2, 8, 64, 128]⟩
abbrev S0x2x8x64x128 : Shape := ⟨5, ![0, 2, 8, 64, 128]⟩
abbrev S1x2x8x64x128 : Shape := ⟨5, ![1, 2, 8, 64, 128]⟩
abbrev S16x2x8x64x128 : Shape := ⟨5, ![16, 2, 8, 64, 128]⟩
abbrev S2x8x1 : Shape := ⟨3, ![2, 8, 1]⟩
abbrev S1x1x2x8x1 : Shape := ⟨5, ![1, 1, 2, 8, 1]⟩
abbrev S4096x2x512 : Shape := ⟨3, ![4096, 2, 512]⟩
abbrev S4096x2 : Shape := ⟨2, ![4096, 2]⟩
abbrev S4096x2x1 : Shape := ⟨3, ![4096, 2, 1]⟩
abbrev S1024 : Shape := ⟨1, ![1024]⟩
abbrev S2x8 : Shape := ⟨2, ![2, 8]⟩
abbrev S16 : Shape := ⟨1, ![16]⟩
abbrev S1536 : Shape := ⟨1, ![1536]⟩
abbrev S4096x496 : Shape := ⟨2, ![4096, 496]⟩
abbrev S4096x3072 : Shape := ⟨2, ![4096, 3072]⟩
abbrev S8x1536 : Shape := ⟨2, ![8, 1536]⟩
abbrev S8x128 : Shape := ⟨2, ![8, 128]⟩
abbrev S2x16 : Shape := ⟨2, ![2, 16]⟩

abbrev nBuf : Space → Nat
  | .hbm => 1058
  | .vmem => 0
  | .smem => 0
  | _ => 0

abbrev hbmTy0_0 (i : Nat) : BufTy := match i % 128 with
  | 0 => ⟨S4096x2576, .f32⟩
  | 1 => ⟨S4096x1024, .f32⟩
  | 2 => ⟨S4x1536, .f32⟩
  | 3 => ⟨S1x1536, .f32⟩
  | 4 => ⟨S3x16, .f32⟩
  | 5 => ⟨S1x1024, .f32⟩
  | 6 => ⟨S4096x1024, .f32⟩
  | 7 => ⟨S4096x1536, .f32⟩
  | 8 => ⟨S4096x16, .f32⟩
  | 9 => ⟨S1x16, .f32⟩
  | 10 => ⟨S1x16, .f32⟩
  | 11 => ⟨S1x16, .f32⟩
  | 12 => ⟨S_, .f32⟩
  | 13 => ⟨S3x1536, .f32⟩
  | 14 => ⟨S4099x1536, .f32⟩
  | 15 => ⟨S_, .f32⟩
  | 16 => ⟨S3x1536, .f32⟩
  | 17 => ⟨S1x1536, .f32⟩
  | 18 => ⟨S4096x1536, .f32⟩
  | 19 => ⟨S4096x1536, .f32⟩
  | 20 => ⟨S4096x1536, .f32⟩
  | 21 => ⟨S4096x1536, .f32⟩
  | 22 => ⟨S1x1536, .f32⟩
  | 23 => ⟨S4096x1536, .f32⟩
  | 24 => ⟨S4096x1536, .f32⟩
  | 25 => ⟨S4096x1536, .f32⟩
  | 26 => ⟨S4096x1536, .f32⟩
  | 27 => ⟨S1x1536, .f32⟩
  | 28 => ⟨S4096x1536, .f32⟩
  | 29 => ⟨S4096x1536, .f32⟩
  | 30 => ⟨S4096x1536, .f32⟩
  | 31 => ⟨S4096x1536, .f32⟩
  | 32 => ⟨S1x1536, .f32⟩
  | 33 => ⟨S4096x1536, .f32⟩
  | 34 => ⟨S4096x1536, .f32⟩
  | 35 => ⟨S4096x1536, .f32⟩
  | 36 => ⟨S4096x1536, .f32⟩
  | 37 => ⟨S4096x1536, .f32⟩
  | 38 => ⟨S4096x1536, .f32⟩
  | 39 => ⟨S_, .f32⟩
  | 40 => ⟨S4096x1536, .f32⟩
  | 41 => ⟨S4096x1536, .f32⟩
  | 42 => ⟨S_, .f32⟩
  | 43 => ⟨S4096x1536, .f32⟩
  | 44 => ⟨S4096x1536, .f32⟩
  | 45 => ⟨S_, .f32⟩
  | 46 => ⟨S4096x1536, .f32⟩
  | 47 => ⟨S4096x1536, .f32⟩
  | 48 => ⟨S4096x1536, .f32⟩
  | 49 => ⟨S4096x1536, .f32⟩
  | 50 => ⟨S4096x1024, .f32⟩
  | 51 => ⟨S32x128x2x8x64, .f32⟩
  | 52 => ⟨S4096x256, .f32⟩
  | 53 => ⟨S32x128x2x128, .f32⟩
  | 54 => ⟨S4096x256, .f32⟩
  | 55 => ⟨S32x128x2x128, .f32⟩
  | 56 => ⟨S4096x16, .f32⟩
  | 57 => ⟨S4096x16, .f32⟩
  | 58 => ⟨S_, .f32⟩
  | 59 => ⟨S4096x16, .f32⟩
  | 60 => ⟨S4096x16, .f32⟩
  | 61 => ⟨S4096x16, .f32⟩
  | 62 => ⟨S4096x16, .f32⟩
  | 63 => ⟨S4096x16, .i1⟩
  | 64 => ⟨S4096x16, .f32⟩
  | 65 => ⟨S4096x16, .f32⟩
  | 66 => ⟨S4096x16, .f32⟩
  | 67 => ⟨S4096x16, .f32⟩
  | 68 => ⟨S4096x16, .f32⟩
  | 69 => ⟨S4096x16, .f32⟩
  | 70 => ⟨S4096x16, .f32⟩
  | 71 => ⟨S4096x16, .f32⟩
  | 72 => ⟨S_, .f32⟩
  | 73 => ⟨S4096x16, .f32⟩
  | 74 => ⟨S4096x16, .i1⟩
  | 75 => ⟨S_, .f32⟩
  | 76 => ⟨S4096x16, .f32⟩
  | 77 => ⟨S4096x16, .f32⟩
  | 78 => ⟨S_, .f32⟩
  | 79 => ⟨S4096x16, .f32⟩
  | 80 => ⟨S4096x16, .i1⟩
  | 81 => ⟨S_, .f32⟩
  | 82 => ⟨S4096x16, .f32⟩
  | 83 => ⟨S4096x16, .f32⟩
  | 84 => ⟨S4096x16, .f32⟩
  | 85 => ⟨S4096x16, .f32⟩
  | 86 => ⟨S_, .f32⟩
  | 87 => ⟨S_, .f32⟩
  | 88 => ⟨S_, .i1⟩
  | 89 => ⟨S_, .f32⟩
  | 90 => ⟨S_, .f32⟩
  | 91 => ⟨S_, .f32⟩
  | 92 => ⟨S_, .f32⟩
  | 93 => ⟨S4096x16, .f32⟩
  | 94 => ⟨S4096x16, .i1⟩
  | 95 => ⟨S_, .f32⟩
  | 96 => ⟨S4096x16, .f32⟩
  | 97 => ⟨S4096x16, .f32⟩
  | 98 => ⟨S4096x16, .f32⟩
  | 99 => ⟨S4096x16, .f32⟩
  | 100 => ⟨S4096x16, .f32⟩
  | 101 => ⟨S_, .f32⟩
  | 102 => ⟨S4096x16, .f32⟩
  | 103 => ⟨S4096x16, .f32⟩
  | 104 => ⟨S1x16, .f32⟩
  | 105 => ⟨S1x16, .f32⟩
  | 106 => ⟨S32x128x2x8x1, .f32⟩
  | 107 => ⟨S32x128x2x8x64, .f32⟩
  | 108 => ⟨S32x128x2x8x64, .f32⟩
  | 109 => ⟨S4096x16, .f32⟩
  | 110 => ⟨S4096x16, .f32⟩
  | 111 => ⟨S32x128x2x8, .f32⟩
  | 112 => ⟨S32x2x8x128, .f32⟩
  | 113 => ⟨S_, .i1⟩
  | 114 => ⟨S128x128, .i1⟩
  | 115 => ⟨S128x128, .i32⟩
  | 116 => ⟨S_, .i32⟩
  | 117 => ⟨S128x128, .i32⟩
  | 118 => ⟨S128x128, .i32⟩
  | 119 => ⟨S128x128, .i32⟩
  | 120 => ⟨S128x128, .i1⟩
  | 121 => ⟨S_, .i1⟩
  | 122 => ⟨S128x128, .i1⟩
  | 123 => ⟨S128x128, .i1⟩
  | 124 => ⟨S32x2x8x1x128, .f32⟩
  | 125 => ⟨S_, .f32⟩
  | 126 => ⟨S_, .f32⟩
  | 127 => ⟨S32x2x8x128x128, .i1⟩
  | _ => ⟨S4096x2576, .f32⟩

abbrev hbmTy0_1 (i : Nat) : BufTy := match i % 128 with
  | 0 => ⟨S32x2x8x128x128, .f32⟩
  | 1 => ⟨S32x2x8x128x128, .f32⟩
  | 2 => ⟨S32x2x8x128x128, .f32⟩
  | 3 => ⟨S_, .f32⟩
  | 4 => ⟨S32x2x8x128x128, .f32⟩
  | 5 => ⟨S_, .f32⟩
  | 6 => ⟨S32x2x8x128, .f32⟩
  | 7 => ⟨S32x2x8x128x1, .f32⟩
  | 8 => ⟨S32x2x8x1x128, .f32⟩
  | 9 => ⟨S32x2x8x128x128, .f32⟩
  | 10 => ⟨S32x2x8x128x128, .f32⟩
  | 11 => ⟨S32x2x8x128x128, .f32⟩
  | 12 => ⟨S_, .f32⟩
  | 13 => ⟨S_, .f32⟩
  | 14 => ⟨S32x2x8x128x128, .i1⟩
  | 15 => ⟨S32x2x8x128x128, .f32⟩
  | 16 => ⟨S32x2x8x128x128, .f32⟩
  | 17 => ⟨S_, .f32⟩
  | 18 => ⟨S32x2x8x128x128, .f32⟩
  | 19 => ⟨S32x2x8x128x128, .f32⟩
  | 20 => ⟨S32x2x128x128, .f32⟩
  | 21 => ⟨S32x2x1x128x128, .f32⟩
  | 22 => ⟨S32x2x8x128x128, .f32⟩
  | 23 => ⟨S32x2x8x128x128, .f32⟩
  | 24 => ⟨S32x2x8x64x128, .f32⟩
  | 25 => ⟨S32x128x2x8x64, .f32⟩
  | 26 => ⟨S32x2x8x1, .f32⟩
  | 27 => ⟨S32x2x8x128, .f32⟩
  | 28 => ⟨S32x2x8x128, .f32⟩
  | 29 => ⟨S32x2x8x128, .f32⟩
  | 30 => ⟨S32x128x2x8, .f32⟩
  | 31 => ⟨S32x128x2x8x1, .f32⟩
  | 32 => ⟨S32x128x2x8x64, .f32⟩
  | 33 => ⟨S32x128x2x8x64, .f32⟩
  | 34 => ⟨S32x2x8x64x128, .f32⟩
  | 35 => ⟨S32x2x8x1, .f32⟩
  | 36 => ⟨S32x2x8, .f32⟩
  | 37 => ⟨S32x2x8, .f32⟩
  | 38 => ⟨S32x2x8x1x1, .f32⟩
  | 39 => ⟨S32x2x8x64x128, .f32⟩
  | 40 => ⟨S_, .f32⟩
  | 41 => ⟨S2x8x64x128, .f32⟩
  | 42 => ⟨S0x2x8x64x128, .f32⟩
  | 43 => ⟨S32x2x8x64x128, .f32⟩
  | 44 => ⟨S0x2x8x64x128, .f32⟩
  | 45 => ⟨S32x2x8x64x128, .f32⟩
  | 46 => ⟨S_, .f32⟩
  | 47 => ⟨S0x2x8x64x128, .f32⟩
  | 48 => ⟨S1x2x8x64x128, .f32⟩
  | 49 => ⟨S2x8x64x128, .f32⟩
  | 50 => ⟨S1x2x8x64x128, .f32⟩
  | 51 => ⟨S2x8x64x128, .f32⟩
  | 52 => ⟨S2x8x64x128, .f32⟩
  | 53 => ⟨S2x8x64x128, .f32⟩
  | 54 => ⟨S1x2x8x64x128, .f32⟩
  | 55 => ⟨S2x8x64x128, .f32⟩
  | 56 => ⟨S1x2x8x64x128, .f32⟩
  | 57 => ⟨S2x8x64x128, .f32⟩
  | 58 => ⟨S2x8x64x128, .f32⟩
  | 59 => ⟨S2x8x64x128, .f32⟩
  | 60 => ⟨S1x2x8x64x128, .f32⟩
  | 61 => ⟨S2x8x64x128, .f32⟩
  | 62 => ⟨S1x2x8x64x128, .f32⟩
  | 63 => ⟨S2x8x64x128, .f32⟩
  | 64 => ⟨S2x8x64x128, .f32⟩
  | 65 => ⟨S2x8x64x128, .f32⟩
  | 66 => ⟨S1x2x8x64x128, .f32⟩
  | 67 => ⟨S2x8x64x128, .f32⟩
  | 68 => ⟨S1x2x8x64x128, .f32⟩
  | 69 => ⟨S2x8x64x128, .f32⟩
  | 70 => ⟨S2x8x64x128, .f32⟩
  | 71 => ⟨S2x8x64x128, .f32⟩
  | 72 => ⟨S1x2x8x64x128, .f32⟩
  | 73 => ⟨S2x8x64x128, .f32⟩
  | 74 => ⟨S1x2x8x64x128, .f32⟩
  | 75 => ⟨S2x8x64x128, .f32⟩
  | 76 => ⟨S2x8x64x128, .f32⟩
  | 77 => ⟨S2x8x64x128, .f32⟩
  | 78 => ⟨S1x2x8x64x128, .f32⟩
  | 79 => ⟨S2x8x64x128, .f32⟩
  | 80 => ⟨S1x2x8x64x128, .f32⟩
  | 81 => ⟨S2x8x64x128, .f32⟩
  | 82 => ⟨S2x8x64x128, .f32⟩
  | 83 => ⟨S2x8x64x128, .f32⟩
  | 84 => ⟨S1x2x8x64x128, .f32⟩
  | 85 => ⟨S2x8x64x128, .f32⟩
  | 86 => ⟨S1x2x8x64x128, .f32⟩
  | 87 => ⟨S2x8x64x128, .f32⟩
  | 88 => ⟨S2x8x64x128, .f32⟩
  | 89 => ⟨S2x8x64x128, .f32⟩
  | 90 => ⟨S1x2x8x64x128, .f32⟩
  | 91 => ⟨S2x8x64x128, .f32⟩
  | 92 => ⟨S1x2x8x64x128, .f32⟩
  | 93 => ⟨S2x8x64x128, .f32⟩
  | 94 => ⟨S2x8x64x128, .f32⟩
  | 95 => ⟨S2x8x64x128, .f32⟩
  | 96 => ⟨S1x2x8x64x128, .f32⟩
  | 97 => ⟨S2x8x64x128, .f32⟩
  | 98 => ⟨S1x2x8x64x128, .f32⟩
  | 99 => ⟨S2x8x64x128, .f32⟩
  | 100 => ⟨S2x8x64x128, .f32⟩
  | 101 => ⟨S2x8x64x128, .f32⟩
  | 102 => ⟨S1x2x8x64x128, .f32⟩
  | 103 => ⟨S2x8x64x128, .f32⟩
  | 104 => ⟨S1x2x8x64x128, .f32⟩
  | 105 => ⟨S2x8x64x128, .f32⟩
  | 106 => ⟨S2x8x64x128, .f32⟩
  | 107 => ⟨S2x8x64x128, .f32⟩
  | 108 => ⟨S1x2x8x64x128, .f32⟩
  | 109 => ⟨S2x8x64x128, .f32⟩
  | 110 => ⟨S1x2x8x64x128, .f32⟩
  | 111 => ⟨S2x8x64x128, .f32⟩
  | 112 => ⟨S2x8x64x128, .f32⟩
  | 113 => ⟨S2x8x64x128, .f32⟩
  | 114 => ⟨S1x2x8x64x128, .f32⟩
  | 115 => ⟨S2x8x64x128, .f32⟩
  | 116 => ⟨S1x2x8x64x128, .f32⟩
  | 117 => ⟨S2x8x64x128, .f32⟩
  | 118 => ⟨S2x8x64x128, .f32⟩
  | 119 => ⟨S2x8x64x128, .f32⟩
  | 120 => ⟨S1x2x8x64x128, .f32⟩
  | 121 => ⟨S2x8x64x128, .f32⟩
  | 122 => ⟨S1x2x8x64x128, .f32⟩
  | 123 => ⟨S2x8x64x128, .f32⟩
  | 124 => ⟨S2x8x64x128, .f32⟩
  | 125 => ⟨S2x8x64x128, .f32⟩
  | 126 => ⟨S1x2x8x64x128, .f32⟩
  | 127 => ⟨S2x8x64x128, .f32⟩
  | _ => ⟨S4096x2576, .f32⟩

abbrev hbmTy0_2 (i : Nat) : BufTy := match i % 128 with
  | 0 => ⟨S1x2x8x64x128, .f32⟩
  | 1 => ⟨S2x8x64x128, .f32⟩
  | 2 => ⟨S2x8x64x128, .f32⟩
  | 3 => ⟨S2x8x64x128, .f32⟩
  | 4 => ⟨S1x2x8x64x128, .f32⟩
  | 5 => ⟨S2x8x64x128, .f32⟩
  | 6 => ⟨S1x2x8x64x128, .f32⟩
  | 7 => ⟨S2x8x64x128, .f32⟩
  | 8 => ⟨S2x8x64x128, .f32⟩
  | 9 => ⟨S2x8x64x128, .f32⟩
  | 10 => ⟨S1x2x8x64x128, .f32⟩
  | 11 => ⟨S2x8x64x128, .f32⟩
  | 12 => ⟨S1x2x8x64x128, .f32⟩
  | 13 => ⟨S2x8x64x128, .f32⟩
  | 14 => ⟨S2x8x64x128, .f32⟩
  | 15 => ⟨S2x8x64x128, .f32⟩
  | 16 => ⟨S1x2x8x64x128, .f32⟩
  | 17 => ⟨S2x8x64x128, .f32⟩
  | 18 => ⟨S1x2x8x64x128, .f32⟩
  | 19 => ⟨S2x8x64x128, .f32⟩
  | 20 => ⟨S2x8x64x128, .f32⟩
  | 21 => ⟨S2x8x64x128, .f32⟩
  | 22 => ⟨S1x2x8x64x128, .f32⟩
  | 23 => ⟨S2x8x64x128, .f32⟩
  | 24 => ⟨S1x2x8x64x128, .f32⟩
  | 25 => ⟨S2x8x64x128, .f32⟩
  | 26 => ⟨S2x8x64x128, .f32⟩
  | 27 => ⟨S2x8x64x128, .f32⟩
  | 28 => ⟨S1x2x8x64x128, .f32⟩
  | 29 => ⟨S2x8x64x128, .f32⟩
  | 30 => ⟨S1x2x8x64x128, .f32⟩
  | 31 => ⟨S2x8x64x128, .f32⟩
  | 32 => ⟨S2x8x64x128, .f32⟩
  | 33 => ⟨S2x8x64x128, .f32⟩
  | 34 => ⟨S1x2x8x64x128, .f32⟩
  | 35 => ⟨S2x8x64x128, .f32⟩
  | 36 => ⟨S1x2x8x64x128, .f32⟩
  | 37 => ⟨S2x8x64x128, .f32⟩
  | 38 => ⟨S2x8x64x128, .f32⟩
  | 39 => ⟨S2x8x64x128, .f32⟩
  | 40 => ⟨S1x2x8x64x128, .f32⟩
  | 41 => ⟨S2x8x64x128, .f32⟩
  | 42 => ⟨S1x2x8x64x128, .f32⟩
  | 43 => ⟨S2x8x64x128, .f32⟩
  | 44 => ⟨S2x8x64x128, .f32⟩
  | 45 => ⟨S2x8x64x128, .f32⟩
  | 46 => ⟨S1x2x8x64x128, .f32⟩
  | 47 => ⟨S2x8x64x128, .f32⟩
  | 48 => ⟨S1x2x8x64x128, .f32⟩
  | 49 => ⟨S2x8x64x128, .f32⟩
  | 50 => ⟨S2x8x64x128, .f32⟩
  | 51 => ⟨S2x8x64x128, .f32⟩
  | 52 => ⟨S1x2x8x64x128, .f32⟩
  | 53 => ⟨S2x8x64x128, .f32⟩
  | 54 => ⟨S1x2x8x64x128, .f32⟩
  | 55 => ⟨S2x8x64x128, .f32⟩
  | 56 => ⟨S2x8x64x128, .f32⟩
  | 57 => ⟨S2x8x64x128, .f32⟩
  | 58 => ⟨S1x2x8x64x128, .f32⟩
  | 59 => ⟨S2x8x64x128, .f32⟩
  | 60 => ⟨S1x2x8x64x128, .f32⟩
  | 61 => ⟨S2x8x64x128, .f32⟩
  | 62 => ⟨S2x8x64x128, .f32⟩
  | 63 => ⟨S2x8x64x128, .f32⟩
  | 64 => ⟨S1x2x8x64x128, .f32⟩
  | 65 => ⟨S2x8x64x128, .f32⟩
  | 66 => ⟨S1x2x8x64x128, .f32⟩
  | 67 => ⟨S2x8x64x128, .f32⟩
  | 68 => ⟨S2x8x64x128, .f32⟩
  | 69 => ⟨S2x8x64x128, .f32⟩
  | 70 => ⟨S1x2x8x64x128, .f32⟩
  | 71 => ⟨S2x8x64x128, .f32⟩
  | 72 => ⟨S1x2x8x64x128, .f32⟩
  | 73 => ⟨S2x8x64x128, .f32⟩
  | 74 => ⟨S2x8x64x128, .f32⟩
  | 75 => ⟨S2x8x64x128, .f32⟩
  | 76 => ⟨S1x2x8x64x128, .f32⟩
  | 77 => ⟨S2x8x64x128, .f32⟩
  | 78 => ⟨S1x2x8x64x128, .f32⟩
  | 79 => ⟨S2x8x64x128, .f32⟩
  | 80 => ⟨S2x8x64x128, .f32⟩
  | 81 => ⟨S2x8x64x128, .f32⟩
  | 82 => ⟨S1x2x8x64x128, .f32⟩
  | 83 => ⟨S2x8x64x128, .f32⟩
  | 84 => ⟨S1x2x8x64x128, .f32⟩
  | 85 => ⟨S2x8x64x128, .f32⟩
  | 86 => ⟨S2x8x64x128, .f32⟩
  | 87 => ⟨S2x8x64x128, .f32⟩
  | 88 => ⟨S1x2x8x64x128, .f32⟩
  | 89 => ⟨S2x8x64x128, .f32⟩
  | 90 => ⟨S1x2x8x64x128, .f32⟩
  | 91 => ⟨S2x8x64x128, .f32⟩
  | 92 => ⟨S2x8x64x128, .f32⟩
  | 93 => ⟨S2x8x64x128, .f32⟩
  | 94 => ⟨S1x2x8x64x128, .f32⟩
  | 95 => ⟨S2x8x64x128, .f32⟩
  | 96 => ⟨S1x2x8x64x128, .f32⟩
  | 97 => ⟨S2x8x64x128, .f32⟩
  | 98 => ⟨S2x8x64x128, .f32⟩
  | 99 => ⟨S2x8x64x128, .f32⟩
  | 100 => ⟨S1x2x8x64x128, .f32⟩
  | 101 => ⟨S2x8x64x128, .f32⟩
  | 102 => ⟨S1x2x8x64x128, .f32⟩
  | 103 => ⟨S2x8x64x128, .f32⟩
  | 104 => ⟨S2x8x64x128, .f32⟩
  | 105 => ⟨S2x8x64x128, .f32⟩
  | 106 => ⟨S1x2x8x64x128, .f32⟩
  | 107 => ⟨S2x8x64x128, .f32⟩
  | 108 => ⟨S1x2x8x64x128, .f32⟩
  | 109 => ⟨S2x8x64x128, .f32⟩
  | 110 => ⟨S2x8x64x128, .f32⟩
  | 111 => ⟨S2x8x64x128, .f32⟩
  | 112 => ⟨S1x2x8x64x128, .f32⟩
  | 113 => ⟨S1x2x8x64x128, .f32⟩
  | 114 => ⟨S1x2x8x64x128, .f32⟩
  | 115 => ⟨S1x2x8x64x128, .f32⟩
  | 116 => ⟨S1x2x8x64x128, .f32⟩
  | 117 => ⟨S1x2x8x64x128, .f32⟩
  | 118 => ⟨S1x2x8x64x128, .f32⟩
  | 119 => ⟨S1x2x8x64x128, .f32⟩
  | 120 => ⟨S1x2x8x64x128, .f32⟩
  | 121 => ⟨S1x2x8x64x128, .f32⟩
  | 122 => ⟨S1x2x8x64x128, .f32⟩
  | 123 => ⟨S1x2x8x64x128, .f32⟩
  | 124 => ⟨S1x2x8x64x128, .f32⟩
  | 125 => ⟨S1x2x8x64x128, .f32⟩
  | 126 => ⟨S1x2x8x64x128, .f32⟩
  | 127 => ⟨S1x2x8x64x128, .f32⟩
  | _ => ⟨S4096x2576, .f32⟩

abbrev hbmTy0_3 (i : Nat) : BufTy := match i % 128 with
  | 0 => ⟨S1x2x8x64x128, .f32⟩
  | 1 => ⟨S1x2x8x64x128, .f32⟩
  | 2 => ⟨S1x2x8x64x128, .f32⟩
  | 3 => ⟨S1x2x8x64x128, .f32⟩
  | 4 => ⟨S1x2x8x64x128, .f32⟩
  | 5 => ⟨S1x2x8x64x128, .f32⟩
  | 6 => ⟨S1x2x8x64x128, .f32⟩
  | 7 => ⟨S1x2x8x64x128, .f32⟩
  | 8 => ⟨S1x2x8x64x128, .f32⟩
  | 9 => ⟨S1x2x8x64x128, .f32⟩
  | 10 => ⟨S1x2x8x64x128, .f32⟩
  | 11 => ⟨S1x2x8x64x128, .f32⟩
  | 12 => ⟨S1x2x8x64x128, .f32⟩
  | 13 => ⟨S1x2x8x64x128, .f32⟩
  | 14 => ⟨S1x2x8x64x128, .f32⟩
  | 15 => ⟨S1x2x8x64x128, .f32⟩
  | 16 => ⟨S16x2x8x64x128, .f32⟩
  | 17 => ⟨S16x2x8x64x128, .f32⟩
  | 18 => ⟨S32x2x8x64x128, .f32⟩
  | 19 => ⟨S32x2x8x64x128, .f32⟩
  | 20 => ⟨S32x2x8x128, .f32⟩
  | 21 => ⟨S32x128x2x8, .f32⟩
  | 22 => ⟨S32x128x2x8x1, .f32⟩
  | 23 => ⟨S32x2x8x64x128, .f32⟩
  | 24 => ⟨S32x128x2x8x64, .f32⟩
  | 25 => ⟨S32x128x2x8x64, .f32⟩
  | 26 => ⟨S32x128x2x8x64, .f32⟩
  | 27 => ⟨S32x128x2x8x64, .f32⟩
  | 28 => ⟨S2x8x1, .f32⟩
  | 29 => ⟨S1x1x2x8x1, .f32⟩
  | 30 => ⟨S32x128x2x8x64, .f32⟩
  | 31 => ⟨S32x128x2x8x64, .f32⟩
  | 32 => ⟨S32x128x2x8x64, .f32⟩
  | 33 => ⟨S4096x1024, .f32⟩
  | 34 => ⟨S4096x1024, .f32⟩
  | 35 => ⟨S4096x1024, .f32⟩
  | 36 => ⟨S_, .f32⟩
  | 37 => ⟨S4096x1024, .f32⟩
  | 38 => ⟨S4096x1024, .f32⟩
  | 39 => ⟨S_, .f32⟩
  | 40 => ⟨S4096x1024, .f32⟩
  | 41 => ⟨S4096x1024, .f32⟩
  | 42 => ⟨S_, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S4096x2x512, .f32⟩
  | 49 => ⟨S4096x2x512, .f32⟩
  | 50 => ⟨S_, .f32⟩
  | 51 => ⟨S4096x2, .f32⟩
  | 52 => ⟨S4096x2x1, .f32⟩
  | 53 => ⟨S_, .f32⟩
  | 54 => ⟨S4096x2x1, .f32⟩
  | 55 => ⟨S4096x2x1, .f32⟩
  | 56 => ⟨S_, .f32⟩
  | 57 => ⟨S4096x2x1, .f32⟩
  | 58 => ⟨S4096x2x1, .f32⟩
  | 59 => ⟨S4096x2x1, .f32⟩
  | 60 => ⟨S4096x2x1, .f32⟩
  | 61 => ⟨S_, .f32⟩
  | 62 => ⟨S4096x2x1, .f32⟩
  | 63 => ⟨S4096x2x1, .f32⟩
  | 64 => ⟨S4096x2x512, .f32⟩
  | 65 => ⟨S4096x2x512, .f32⟩
  | 66 => ⟨S4096x1024, .f32⟩
  | 67 => ⟨S4096x1024, .f32⟩
  | 68 => ⟨S4096x1024, .f32⟩
  | 69 => ⟨S_, .f32⟩
  | 70 => ⟨S2x8x64x128, .f32⟩
  | 71 => ⟨S4096x1024, .f32⟩
  | 72 => ⟨S_, .f32⟩
  | 73 => ⟨S1024, .f32⟩
  | 74 => ⟨S1x1024, .f32⟩
  | 75 => ⟨S4096x1024, .f32⟩
  | 76 => ⟨S4096x1024, .f32⟩
  | 77 => ⟨S4096x2x512, .f32⟩
  | 78 => ⟨S4096x2x512, .f32⟩
  | 79 => ⟨S_, .f32⟩
  | 80 => ⟨S4096x2, .f32⟩
  | 81 => ⟨S4096x2x1, .f32⟩
  | 82 => ⟨S4096x2x512, .f32⟩
  | 83 => ⟨S4096x2x512, .f32⟩
  | 84 => ⟨S4096x2x1, .f32⟩
  | 85 => ⟨S_, .f32⟩
  | 86 => ⟨S4096x2x1, .f32⟩
  | 87 => ⟨S4096x2x1, .f32⟩
  | 88 => ⟨S_, .f32⟩
  | 89 => ⟨S4096x2, .f32⟩
  | 90 => ⟨S4096x2x512, .f32⟩
  | 91 => ⟨S4096x2x512, .f32⟩
  | 92 => ⟨S4096x2x512, .f32⟩
  | 93 => ⟨S4096x2x512, .f32⟩
  | 94 => ⟨S4096x2x512, .f32⟩
  | 95 => ⟨S4096x1024, .f32⟩
  | 96 => ⟨S4096x1024, .f32⟩
  | 97 => ⟨S4096x1024, .f32⟩
  | 98 => ⟨S4096x1024, .f32⟩
  | 99 => ⟨S4096x1024, .f32⟩
  | 100 => ⟨S4096x1024, .f32⟩
  | 101 => ⟨S4096x1024, .f32⟩
  | 102 => ⟨S32x128x2x8x64, .f32⟩
  | 103 => ⟨S32x128x2x8x64, .f32⟩
  | 104 => ⟨S32x128x2x8x64, .f32⟩
  | 105 => ⟨S32x128x2x8x64, .f32⟩
  | 106 => ⟨S_, .f32⟩
  | 107 => ⟨S2x8, .f32⟩
  | 108 => ⟨S1x1x2x8x1, .f32⟩
  | 109 => ⟨S_, .f32⟩
  | 110 => ⟨S2x8, .f32⟩
  | 111 => ⟨S2x8x1, .f32⟩
  | 112 => ⟨S1x16, .f32⟩
  | 113 => ⟨S32x128x2x8x64, .f32⟩
  | 114 => ⟨S32x128x2x8x64, .f32⟩
  | 115 => ⟨S32x128x2x8x64, .f32⟩
  | 116 => ⟨S_, .f32⟩
  | 117 => ⟨S32x128x2x8, .f32⟩
  | 118 => ⟨S32x128x2x8x1, .f32⟩
  | 119 => ⟨S32x2x8x64x128, .f32⟩
  | 120 => ⟨S32x2x128x128, .f32⟩
  | 121 => ⟨S32x128x2x128, .f32⟩
  | 122 => ⟨S32x2x8x64x128, .f32⟩
  | 123 => ⟨S_, .f32⟩
  | 124 => ⟨S32x128x2x8, .f32⟩
  | 125 => ⟨S32x2x8x128, .f32⟩
  | 126 => ⟨S32x2x8x128, .f32⟩
  | 127 => ⟨S_, .f32⟩
  | _ => ⟨S4096x2576, .f32⟩

abbrev hbmTy0_4 (i : Nat) : BufTy := match i % 128 with
  | 0 => ⟨S2x8x64x128, .f32⟩
  | 1 => ⟨S32x2x8x64x128, .f32⟩
  | 2 => ⟨S0x2x8x64x128, .f32⟩
  | 3 => ⟨S32x2x8x64x128, .f32⟩
  | 4 => ⟨S0x2x8x64x128, .f32⟩
  | 5 => ⟨S32x2x8x64x128, .f32⟩
  | 6 => ⟨S0x2x8x64x128, .f32⟩
  | 7 => ⟨S_, .f32⟩
  | 8 => ⟨S0x2x8x64x128, .f32⟩
  | 9 => ⟨S_, .f32⟩
  | 10 => ⟨S0x2x8x64x128, .f32⟩
  | 11 => ⟨S1x2x8x64x128, .f32⟩
  | 12 => ⟨S2x8x64x128, .f32⟩
  | 13 => ⟨S1x2x8x64x128, .f32⟩
  | 14 => ⟨S2x8x64x128, .f32⟩
  | 15 => ⟨S1x2x8x64x128, .f32⟩
  | 16 => ⟨S2x8x64x128, .f32⟩
  | 17 => ⟨S2x8x64x128, .f32⟩
  | 18 => ⟨S2x8x64x128, .f32⟩
  | 19 => ⟨S2x8x64x128, .f32⟩
  | 20 => ⟨S1x2x8x64x128, .f32⟩
  | 21 => ⟨S2x8x64x128, .f32⟩
  | 22 => ⟨S1x2x8x64x128, .f32⟩
  | 23 => ⟨S2x8x64x128, .f32⟩
  | 24 => ⟨S1x2x8x64x128, .f32⟩
  | 25 => ⟨S2x8x64x128, .f32⟩
  | 26 => ⟨S2x8x64x128, .f32⟩
  | 27 => ⟨S2x8x64x128, .f32⟩
  | 28 => ⟨S2x8x64x128, .f32⟩
  | 29 => ⟨S1x2x8x64x128, .f32⟩
  | 30 => ⟨S2x8x64x128, .f32⟩
  | 31 => ⟨S1x2x8x64x128, .f32⟩
  | 32 => ⟨S2x8x64x128, .f32⟩
  | 33 => ⟨S1x2x8x64x128, .f32⟩
  | 34 => ⟨S2x8x64x128, .f32⟩
  | 35 => ⟨S2x8x64x128, .f32⟩
  | 36 => ⟨S2x8x64x128, .f32⟩
  | 37 => ⟨S2x8x64x128, .f32⟩
  | 38 => ⟨S1x2x8x64x128, .f32⟩
  | 39 => ⟨S2x8x64x128, .f32⟩
  | 40 => ⟨S1x2x8x64x128, .f32⟩
  | 41 => ⟨S2x8x64x128, .f32⟩
  | 42 => ⟨S1x2x8x64x128, .f32⟩
  | 43 => ⟨S2x8x64x128, .f32⟩
  | 44 => ⟨S2x8x64x128, .f32⟩
  | 45 => ⟨S2x8x64x128, .f32⟩
  | 46 => ⟨S2x8x64x128, .f32⟩
  | 47 => ⟨S1x2x8x64x128, .f32⟩
  | 48 => ⟨S2x8x64x128, .f32⟩
  | 49 => ⟨S1x2x8x64x128, .f32⟩
  | 50 => ⟨S2x8x64x128, .f32⟩
  | 51 => ⟨S1x2x8x64x128, .f32⟩
  | 52 => ⟨S2x8x64x128, .f32⟩
  | 53 => ⟨S2x8x64x128, .f32⟩
  | 54 => ⟨S2x8x64x128, .f32⟩
  | 55 => ⟨S2x8x64x128, .f32⟩
  | 56 => ⟨S1x2x8x64x128, .f32⟩
  | 57 => ⟨S2x8x64x128, .f32⟩
  | 58 => ⟨S1x2x8x64x128, .f32⟩
  | 59 => ⟨S2x8x64x128, .f32⟩
  | 60 => ⟨S1x2x8x64x128, .f32⟩
  | 61 => ⟨S2x8x64x128, .f32⟩
  | 62 => ⟨S2x8x64x128, .f32⟩
  | 63 => ⟨S2x8x64x128, .f32⟩
  | 64 => ⟨S2x8x64x128, .f32⟩
  | 65 => ⟨S1x2x8x64x128, .f32⟩
  | 66 => ⟨S2x8x64x128, .f32⟩
  | 67 => ⟨S1x2x8x64x128, .f32⟩
  | 68 => ⟨S2x8x64x128, .f32⟩
  | 69 => ⟨S1x2x8x64x128, .f32⟩
  | 70 => ⟨S2x8x64x128, .f32⟩
  | 71 => ⟨S2x8x64x128, .f32⟩
  | 72 => ⟨S2x8x64x128, .f32⟩
  | 73 => ⟨S2x8x64x128, .f32⟩
  | 74 => ⟨S1x2x8x64x128, .f32⟩
  | 75 => ⟨S2x8x64x128, .f32⟩
  | 76 => ⟨S1x2x8x64x128, .f32⟩
  | 77 => ⟨S2x8x64x128, .f32⟩
  | 78 => ⟨S1x2x8x64x128, .f32⟩
  | 79 => ⟨S2x8x64x128, .f32⟩
  | 80 => ⟨S2x8x64x128, .f32⟩
  | 81 => ⟨S2x8x64x128, .f32⟩
  | 82 => ⟨S2x8x64x128, .f32⟩
  | 83 => ⟨S1x2x8x64x128, .f32⟩
  | 84 => ⟨S2x8x64x128, .f32⟩
  | 85 => ⟨S1x2x8x64x128, .f32⟩
  | 86 => ⟨S2x8x64x128, .f32⟩
  | 87 => ⟨S1x2x8x64x128, .f32⟩
  | 88 => ⟨S2x8x64x128, .f32⟩
  | 89 => ⟨S2x8x64x128, .f32⟩
  | 90 => ⟨S2x8x64x128, .f32⟩
  | 91 => ⟨S2x8x64x128, .f32⟩
  | 92 => ⟨S1x2x8x64x128, .f32⟩
  | 93 => ⟨S2x8x64x128, .f32⟩
  | 94 => ⟨S1x2x8x64x128, .f32⟩
  | 95 => ⟨S2x8x64x128, .f32⟩
  | 96 => ⟨S1x2x8x64x128, .f32⟩
  | 97 => ⟨S2x8x64x128, .f32⟩
  | 98 => ⟨S2x8x64x128, .f32⟩
  | 99 => ⟨S2x8x64x128, .f32⟩
  | 100 => ⟨S2x8x64x128, .f32⟩
  | 101 => ⟨S1x2x8x64x128, .f32⟩
  | 102 => ⟨S2x8x64x128, .f32⟩
  | 103 => ⟨S1x2x8x64x128, .f32⟩
  | 104 => ⟨S2x8x64x128, .f32⟩
  | 105 => ⟨S1x2x8x64x128, .f32⟩
  | 106 => ⟨S2x8x64x128, .f32⟩
  | 107 => ⟨S2x8x64x128, .f32⟩
  | 108 => ⟨S2x8x64x128, .f32⟩
  | 109 => ⟨S2x8x64x128, .f32⟩
  | 110 => ⟨S1x2x8x64x128, .f32⟩
  | 111 => ⟨S2x8x64x128, .f32⟩
  | 112 => ⟨S1x2x8x64x128, .f32⟩
  | 113 => ⟨S2x8x64x128, .f32⟩
  | 114 => ⟨S1x2x8x64x128, .f32⟩
  | 115 => ⟨S2x8x64x128, .f32⟩
  | 116 => ⟨S2x8x64x128, .f32⟩
  | 117 => ⟨S2x8x64x128, .f32⟩
  | 118 => ⟨S2x8x64x128, .f32⟩
  | 119 => ⟨S1x2x8x64x128, .f32⟩
  | 120 => ⟨S2x8x64x128, .f32⟩
  | 121 => ⟨S1x2x8x64x128, .f32⟩
  | 122 => ⟨S2x8x64x128, .f32⟩
  | 123 => ⟨S1x2x8x64x128, .f32⟩
  | 124 => ⟨S2x8x64x128, .f32⟩
  | 125 => ⟨S2x8x64x128, .f32⟩
  | 126 => ⟨S2x8x64x128, .f32⟩
  | 127 => ⟨S2x8x64x128, .f32⟩
  | _ => ⟨S4096x2576, .f32⟩

abbrev hbmTy0_5 (i : Nat) : BufTy := match i % 128 with
  | 0 => ⟨S1x2x8x64x128, .f32⟩
  | 1 => ⟨S2x8x64x128, .f32⟩
  | 2 => ⟨S1x2x8x64x128, .f32⟩
  | 3 => ⟨S2x8x64x128, .f32⟩
  | 4 => ⟨S1x2x8x64x128, .f32⟩
  | 5 => ⟨S2x8x64x128, .f32⟩
  | 6 => ⟨S2x8x64x128, .f32⟩
  | 7 => ⟨S2x8x64x128, .f32⟩
  | 8 => ⟨S2x8x64x128, .f32⟩
  | 9 => ⟨S1x2x8x64x128, .f32⟩
  | 10 => ⟨S2x8x64x128, .f32⟩
  | 11 => ⟨S1x2x8x64x128, .f32⟩
  | 12 => ⟨S2x8x64x128, .f32⟩
  | 13 => ⟨S1x2x8x64x128, .f32⟩
  | 14 => ⟨S2x8x64x128, .f32⟩
  | 15 => ⟨S2x8x64x128, .f32⟩
  | 16 => ⟨S2x8x64x128, .f32⟩
  | 17 => ⟨S2x8x64x128, .f32⟩
  | 18 => ⟨S1x2x8x64x128, .f32⟩
  | 19 => ⟨S2x8x64x128, .f32⟩
  | 20 => ⟨S1x2x8x64x128, .f32⟩
  | 21 => ⟨S2x8x64x128, .f32⟩
  | 22 => ⟨S1x2x8x64x128, .f32⟩
  | 23 => ⟨S2x8x64x128, .f32⟩
  | 24 => ⟨S2x8x64x128, .f32⟩
  | 25 => ⟨S2x8x64x128, .f32⟩
  | 26 => ⟨S2x8x64x128, .f32⟩
  | 27 => ⟨S1x2x8x64x128, .f32⟩
  | 28 => ⟨S2x8x64x128, .f32⟩
  | 29 => ⟨S1x2x8x64x128, .f32⟩
  | 30 => ⟨S2x8x64x128, .f32⟩
  | 31 => ⟨S1x2x8x64x128, .f32⟩
  | 32 => ⟨S2x8x64x128, .f32⟩
  | 33 => ⟨S2x8x64x128, .f32⟩
  | 34 => ⟨S2x8x64x128, .f32⟩
  | 35 => ⟨S2x8x64x128, .f32⟩
  | 36 => ⟨S1x2x8x64x128, .f32⟩
  | 37 => ⟨S2x8x64x128, .f32⟩
  | 38 => ⟨S1x2x8x64x128, .f32⟩
  | 39 => ⟨S2x8x64x128, .f32⟩
  | 40 => ⟨S1x2x8x64x128, .f32⟩
  | 41 => ⟨S2x8x64x128, .f32⟩
  | 42 => ⟨S2x8x64x128, .f32⟩
  | 43 => ⟨S2x8x64x128, .f32⟩
  | 44 => ⟨S2x8x64x128, .f32⟩
  | 45 => ⟨S1x2x8x64x128, .f32⟩
  | 46 => ⟨S2x8x64x128, .f32⟩
  | 47 => ⟨S1x2x8x64x128, .f32⟩
  | 48 => ⟨S2x8x64x128, .f32⟩
  | 49 => ⟨S1x2x8x64x128, .f32⟩
  | 50 => ⟨S2x8x64x128, .f32⟩
  | 51 => ⟨S2x8x64x128, .f32⟩
  | 52 => ⟨S2x8x64x128, .f32⟩
  | 53 => ⟨S2x8x64x128, .f32⟩
  | 54 => ⟨S1x2x8x64x128, .f32⟩
  | 55 => ⟨S2x8x64x128, .f32⟩
  | 56 => ⟨S1x2x8x64x128, .f32⟩
  | 57 => ⟨S2x8x64x128, .f32⟩
  | 58 => ⟨S1x2x8x64x128, .f32⟩
  | 59 => ⟨S2x8x64x128, .f32⟩
  | 60 => ⟨S2x8x64x128, .f32⟩
  | 61 => ⟨S2x8x64x128, .f32⟩
  | 62 => ⟨S2x8x64x128, .f32⟩
  | 63 => ⟨S1x2x8x64x128, .f32⟩
  | 64 => ⟨S2x8x64x128, .f32⟩
  | 65 => ⟨S1x2x8x64x128, .f32⟩
  | 66 => ⟨S2x8x64x128, .f32⟩
  | 67 => ⟨S1x2x8x64x128, .f32⟩
  | 68 => ⟨S2x8x64x128, .f32⟩
  | 69 => ⟨S2x8x64x128, .f32⟩
  | 70 => ⟨S2x8x64x128, .f32⟩
  | 71 => ⟨S2x8x64x128, .f32⟩
  | 72 => ⟨S1x2x8x64x128, .f32⟩
  | 73 => ⟨S2x8x64x128, .f32⟩
  | 74 => ⟨S1x2x8x64x128, .f32⟩
  | 75 => ⟨S2x8x64x128, .f32⟩
  | 76 => ⟨S1x2x8x64x128, .f32⟩
  | 77 => ⟨S2x8x64x128, .f32⟩
  | 78 => ⟨S2x8x64x128, .f32⟩
  | 79 => ⟨S2x8x64x128, .f32⟩
  | 80 => ⟨S2x8x64x128, .f32⟩
  | 81 => ⟨S1x2x8x64x128, .f32⟩
  | 82 => ⟨S2x8x64x128, .f32⟩
  | 83 => ⟨S1x2x8x64x128, .f32⟩
  | 84 => ⟨S2x8x64x128, .f32⟩
  | 85 => ⟨S1x2x8x64x128, .f32⟩
  | 86 => ⟨S2x8x64x128, .f32⟩
  | 87 => ⟨S2x8x64x128, .f32⟩
  | 88 => ⟨S2x8x64x128, .f32⟩
  | 89 => ⟨S2x8x64x128, .f32⟩
  | 90 => ⟨S1x2x8x64x128, .f32⟩
  | 91 => ⟨S2x8x64x128, .f32⟩
  | 92 => ⟨S1x2x8x64x128, .f32⟩
  | 93 => ⟨S2x8x64x128, .f32⟩
  | 94 => ⟨S1x2x8x64x128, .f32⟩
  | 95 => ⟨S2x8x64x128, .f32⟩
  | 96 => ⟨S2x8x64x128, .f32⟩
  | 97 => ⟨S2x8x64x128, .f32⟩
  | 98 => ⟨S2x8x64x128, .f32⟩
  | 99 => ⟨S1x2x8x64x128, .f32⟩
  | 100 => ⟨S2x8x64x128, .f32⟩
  | 101 => ⟨S1x2x8x64x128, .f32⟩
  | 102 => ⟨S2x8x64x128, .f32⟩
  | 103 => ⟨S1x2x8x64x128, .f32⟩
  | 104 => ⟨S2x8x64x128, .f32⟩
  | 105 => ⟨S2x8x64x128, .f32⟩
  | 106 => ⟨S2x8x64x128, .f32⟩
  | 107 => ⟨S2x8x64x128, .f32⟩
  | 108 => ⟨S1x2x8x64x128, .f32⟩
  | 109 => ⟨S2x8x64x128, .f32⟩
  | 110 => ⟨S1x2x8x64x128, .f32⟩
  | 111 => ⟨S2x8x64x128, .f32⟩
  | 112 => ⟨S1x2x8x64x128, .f32⟩
  | 113 => ⟨S2x8x64x128, .f32⟩
  | 114 => ⟨S2x8x64x128, .f32⟩
  | 115 => ⟨S2x8x64x128, .f32⟩
  | 116 => ⟨S2x8x64x128, .f32⟩
  | 117 => ⟨S1x2x8x64x128, .f32⟩
  | 118 => ⟨S2x8x64x128, .f32⟩
  | 119 => ⟨S1x2x8x64x128, .f32⟩
  | 120 => ⟨S2x8x64x128, .f32⟩
  | 121 => ⟨S1x2x8x64x128, .f32⟩
  | 122 => ⟨S2x8x64x128, .f32⟩
  | 123 => ⟨S2x8x64x128, .f32⟩
  | 124 => ⟨S2x8x64x128, .f32⟩
  | 125 => ⟨S2x8x64x128, .f32⟩
  | 126 => ⟨S1x2x8x64x128, .f32⟩
  | 127 => ⟨S2x8x64x128, .f32⟩
  | _ => ⟨S4096x2576, .f32⟩

abbrev hbmTy0_6 (i : Nat) : BufTy := match i % 128 with
  | 0 => ⟨S1x2x8x64x128, .f32⟩
  | 1 => ⟨S2x8x64x128, .f32⟩
  | 2 => ⟨S1x2x8x64x128, .f32⟩
  | 3 => ⟨S2x8x64x128, .f32⟩
  | 4 => ⟨S2x8x64x128, .f32⟩
  | 5 => ⟨S2x8x64x128, .f32⟩
  | 6 => ⟨S2x8x64x128, .f32⟩
  | 7 => ⟨S1x2x8x64x128, .f32⟩
  | 8 => ⟨S2x8x64x128, .f32⟩
  | 9 => ⟨S1x2x8x64x128, .f32⟩
  | 10 => ⟨S2x8x64x128, .f32⟩
  | 11 => ⟨S1x2x8x64x128, .f32⟩
  | 12 => ⟨S2x8x64x128, .f32⟩
  | 13 => ⟨S2x8x64x128, .f32⟩
  | 14 => ⟨S2x8x64x128, .f32⟩
  | 15 => ⟨S2x8x64x128, .f32⟩
  | 16 => ⟨S1x2x8x64x128, .f32⟩
  | 17 => ⟨S2x8x64x128, .f32⟩
  | 18 => ⟨S1x2x8x64x128, .f32⟩
  | 19 => ⟨S2x8x64x128, .f32⟩
  | 20 => ⟨S1x2x8x64x128, .f32⟩
  | 21 => ⟨S2x8x64x128, .f32⟩
  | 22 => ⟨S2x8x64x128, .f32⟩
  | 23 => ⟨S2x8x64x128, .f32⟩
  | 24 => ⟨S2x8x64x128, .f32⟩
  | 25 => ⟨S1x2x8x64x128, .f32⟩
  | 26 => ⟨S2x8x64x128, .f32⟩
  | 27 => ⟨S1x2x8x64x128, .f32⟩
  | 28 => ⟨S2x8x64x128, .f32⟩
  | 29 => ⟨S1x2x8x64x128, .f32⟩
  | 30 => ⟨S2x8x64x128, .f32⟩
  | 31 => ⟨S2x8x64x128, .f32⟩
  | 32 => ⟨S2x8x64x128, .f32⟩
  | 33 => ⟨S2x8x64x128, .f32⟩
  | 34 => ⟨S1x2x8x64x128, .f32⟩
  | 35 => ⟨S2x8x64x128, .f32⟩
  | 36 => ⟨S1x2x8x64x128, .f32⟩
  | 37 => ⟨S2x8x64x128, .f32⟩
  | 38 => ⟨S1x2x8x64x128, .f32⟩
  | 39 => ⟨S2x8x64x128, .f32⟩
  | 40 => ⟨S2x8x64x128, .f32⟩
  | 41 => ⟨S2x8x64x128, .f32⟩
  | 42 => ⟨S2x8x64x128, .f32⟩
  | 43 => ⟨S1x2x8x64x128, .f32⟩
  | 44 => ⟨S1x2x8x64x128, .f32⟩
  | 45 => ⟨S1x2x8x64x128, .f32⟩
  | 46 => ⟨S1x2x8x64x128, .f32⟩
  | 47 => ⟨S1x2x8x64x128, .f32⟩
  | 48 => ⟨S1x2x8x64x128, .f32⟩
  | 49 => ⟨S1x2x8x64x128, .f32⟩
  | 50 => ⟨S1x2x8x64x128, .f32⟩
  | 51 => ⟨S1x2x8x64x128, .f32⟩
  | 52 => ⟨S1x2x8x64x128, .f32⟩
  | 53 => ⟨S1x2x8x64x128, .f32⟩
  | 54 => ⟨S1x2x8x64x128, .f32⟩
  | 55 => ⟨S1x2x8x64x128, .f32⟩
  | 56 => ⟨S1x2x8x64x128, .f32⟩
  | 57 => ⟨S1x2x8x64x128, .f32⟩
  | 58 => ⟨S1x2x8x64x128, .f32⟩
  | 59 => ⟨S1x2x8x64x128, .f32⟩
  | 60 => ⟨S1x2x8x64x128, .f32⟩
  | 61 => ⟨S1x2x8x64x128, .f32⟩
  | 62 => ⟨S1x2x8x64x128, .f32⟩
  | 63 => ⟨S1x2x8x64x128, .f32⟩
  | 64 => ⟨S1x2x8x64x128, .f32⟩
  | 65 => ⟨S1x2x8x64x128, .f32⟩
  | 66 => ⟨S1x2x8x64x128, .f32⟩
  | 67 => ⟨S1x2x8x64x128, .f32⟩
  | 68 => ⟨S1x2x8x64x128, .f32⟩
  | 69 => ⟨S1x2x8x64x128, .f32⟩
  | 70 => ⟨S1x2x8x64x128, .f32⟩
  | 71 => ⟨S1x2x8x64x128, .f32⟩
  | 72 => ⟨S1x2x8x64x128, .f32⟩
  | 73 => ⟨S1x2x8x64x128, .f32⟩
  | 74 => ⟨S1x2x8x64x128, .f32⟩
  | 75 => ⟨S16x2x8x64x128, .f32⟩
  | 76 => ⟨S16x2x8x64x128, .f32⟩
  | 77 => ⟨S32x2x8x64x128, .f32⟩
  | 78 => ⟨S1x2x8x64x128, .f32⟩
  | 79 => ⟨S1x2x8x64x128, .f32⟩
  | 80 => ⟨S1x2x8x64x128, .f32⟩
  | 81 => ⟨S1x2x8x64x128, .f32⟩
  | 82 => ⟨S1x2x8x64x128, .f32⟩
  | 83 => ⟨S1x2x8x64x128, .f32⟩
  | 84 => ⟨S1x2x8x64x128, .f32⟩
  | 85 => ⟨S1x2x8x64x128, .f32⟩
  | 86 => ⟨S1x2x8x64x128, .f32⟩
  | 87 => ⟨S1x2x8x64x128, .f32⟩
  | 88 => ⟨S1x2x8x64x128, .f32⟩
  | 89 => ⟨S1x2x8x64x128, .f32⟩
  | 90 => ⟨S1x2x8x64x128, .f32⟩
  | 91 => ⟨S1x2x8x64x128, .f32⟩
  | 92 => ⟨S1x2x8x64x128, .f32⟩
  | 93 => ⟨S1x2x8x64x128, .f32⟩
  | 94 => ⟨S1x2x8x64x128, .f32⟩
  | 95 => ⟨S1x2x8x64x128, .f32⟩
  | 96 => ⟨S1x2x8x64x128, .f32⟩
  | 97 => ⟨S1x2x8x64x128, .f32⟩
  | 98 => ⟨S1x2x8x64x128, .f32⟩
  | 99 => ⟨S1x2x8x64x128, .f32⟩
  | 100 => ⟨S1x2x8x64x128, .f32⟩
  | 101 => ⟨S1x2x8x64x128, .f32⟩
  | 102 => ⟨S1x2x8x64x128, .f32⟩
  | 103 => ⟨S1x2x8x64x128, .f32⟩
  | 104 => ⟨S1x2x8x64x128, .f32⟩
  | 105 => ⟨S1x2x8x64x128, .f32⟩
  | 106 => ⟨S1x2x8x64x128, .f32⟩
  | 107 => ⟨S1x2x8x64x128, .f32⟩
  | 108 => ⟨S1x2x8x64x128, .f32⟩
  | 109 => ⟨S1x2x8x64x128, .f32⟩
  | 110 => ⟨S16x2x8x64x128, .f32⟩
  | 111 => ⟨S16x2x8x64x128, .f32⟩
  | 112 => ⟨S32x2x8x64x128, .f32⟩
  | 113 => ⟨S32x2x8x64x128, .f32⟩
  | 114 => ⟨S32x2x8x64x128, .f32⟩
  | 115 => ⟨S_, .f32⟩
  | 116 => ⟨S32x2x8, .f32⟩
  | 117 => ⟨S32x2x8x1x1, .f32⟩
  | 118 => ⟨S_, .f32⟩
  | 119 => ⟨S32x2x8, .f32⟩
  | 120 => ⟨S32x2x8, .f32⟩
  | 121 => ⟨S32x2x8x1, .f32⟩
  | 122 => ⟨S_, .f32⟩
  | 123 => ⟨S32x2x8x128, .f32⟩
  | 124 => ⟨S32x2x8x128, .f32⟩
  | 125 => ⟨S32x2x128x128, .f32⟩
  | 126 => ⟨S32x128x2x128, .f32⟩
  | 127 => ⟨S32x2x8x64x128, .f32⟩
  | _ => ⟨S4096x2576, .f32⟩

abbrev hbmTy0_7 (i : Nat) : BufTy := match i % 128 with
  | 0 => ⟨S32x128x2x8x64, .f32⟩
  | 1 => ⟨S32x128x2x8x64, .f32⟩
  | 2 => ⟨S32x128x2x8x64, .f32⟩
  | 3 => ⟨S32x128x2x8x64, .f32⟩
  | 4 => ⟨S_, .f32⟩
  | 5 => ⟨S32x128x2x8, .f32⟩
  | 6 => ⟨S32x128x2x8x1, .f32⟩
  | 7 => ⟨S_, .f32⟩
  | 8 => ⟨S32x128x2x8, .f32⟩
  | 9 => ⟨S32x2x8x128, .f32⟩
  | 10 => ⟨S32x2x8x128, .f32⟩
  | 11 => ⟨S_, .f32⟩
  | 12 => ⟨S32x2x8, .f32⟩
  | 13 => ⟨S32x2x8x1, .f32⟩
  | 14 => ⟨S32x2x8x128, .f32⟩
  | 15 => ⟨S32x2x8x128, .f32⟩
  | 16 => ⟨S_, .f32⟩
  | 17 => ⟨S32x2x8x128, .f32⟩
  | 18 => ⟨S32x2x8x128, .f32⟩
  | 19 => ⟨S32x2x8x64x128, .f32⟩
  | 20 => ⟨S32x2x8x128x128, .f32⟩
  | 21 => ⟨S32x2x8x64x128, .f32⟩
  | 22 => ⟨S32x128x2x8x64, .f32⟩
  | 23 => ⟨S32x128x2x8x64, .f32⟩
  | 24 => ⟨S32x2x8x128x128, .f32⟩
  | 25 => ⟨S32x2x8x128x128, .f32⟩
  | 26 => ⟨S32x2x8x128x128, .f32⟩
  | 27 => ⟨S_, .f32⟩
  | 28 => ⟨S32x2x128x128, .f32⟩
  | 29 => ⟨S32x2x1x128x128, .f32⟩
  | 30 => ⟨S_, .f32⟩
  | 31 => ⟨S32x2x128x128, .f32⟩
  | 32 => ⟨S32x2x128x128, .f32⟩
  | 33 => ⟨S32x128x2x128, .f32⟩
  | 34 => ⟨S32x128x2x128, .f32⟩
  | 35 => ⟨S32x2x128x128, .f32⟩
  | 36 => ⟨S32x128x2x128, .f32⟩
  | 37 => ⟨S32x128x2x128, .f32⟩
  | 38 => ⟨S32x2x8x128x128, .f32⟩
  | 39 => ⟨S_, .f32⟩
  | 40 => ⟨S32x2x8x128x128, .f32⟩
  | 41 => ⟨S32x2x8x128x128, .f32⟩
  | 42 => ⟨S_, .f32⟩
  | 43 => ⟨S32x2x8x128, .f32⟩
  | 44 => ⟨S32x2x8x128x1, .f32⟩
  | 45 => ⟨S32x2x8x128x128, .f32⟩
  | 46 => ⟨S_, .f32⟩
  | 47 => ⟨S32x2x8x128, .f32⟩
  | 48 => ⟨S32x2x8x1x128, .f32⟩
  | 49 => ⟨S_, .f32⟩
  | 50 => ⟨S32x2x8x128, .f32⟩
  | 51 => ⟨S32x2x8x128, .f32⟩
  | 52 => ⟨S_, .f32⟩
  | 53 => ⟨S32x2x8x128, .f32⟩
  | 54 => ⟨S32x2x8x128, .f32⟩
  | 55 => ⟨S32x2x8x128x128, .f32⟩
  | 56 => ⟨S_, .f32⟩
  | 57 => ⟨S32x2x8x128x128, .f32⟩
  | 58 => ⟨S32x2x8x128x128, .f32⟩
  | 59 => ⟨S_, .f32⟩
  | 60 => ⟨S32x2x8x128, .f32⟩
  | 61 => ⟨S32x2x8x1x128, .f32⟩
  | 62 => ⟨S_, .f32⟩
  | 63 => ⟨S32x2x8x128, .f32⟩
  | 64 => ⟨S32x128x2x8, .f32⟩
  | 65 => ⟨S4096x16, .f32⟩
  | 66 => ⟨S4096x16, .f32⟩
  | 67 => ⟨S_, .f32⟩
  | 68 => ⟨S16, .f32⟩
  | 69 => ⟨S1x16, .f32⟩
  | 70 => ⟨S4096x16, .f32⟩
  | 71 => ⟨S4096x16, .f32⟩
  | 72 => ⟨S32x128x2x8x64, .f32⟩
  | 73 => ⟨S_, .f32⟩
  | 74 => ⟨S32x128x2x8, .f32⟩
  | 75 => ⟨S32x128x2x8x1, .f32⟩
  | 76 => ⟨S32x128x2x8x64, .f32⟩
  | 77 => ⟨S32x128x2x8x64, .f32⟩
  | 78 => ⟨S32x128x2x8x64, .f32⟩
  | 79 => ⟨S4096x16, .f32⟩
  | 80 => ⟨S4096x16, .f32⟩
  | 81 => ⟨S1x16, .f32⟩
  | 82 => ⟨S1x16, .f32⟩
  | 83 => ⟨S4096x16, .f32⟩
  | 84 => ⟨S_, .f32⟩
  | 85 => ⟨S16, .f32⟩
  | 86 => ⟨S1x16, .f32⟩
  | 87 => ⟨S4096x256, .f32⟩
  | 88 => ⟨S_, .f32⟩
  | 89 => ⟨S4096x1536, .f32⟩
  | 90 => ⟨S4096x256, .f32⟩
  | 91 => ⟨S_, .f32⟩
  | 92 => ⟨S4096x1536, .f32⟩
  | 93 => ⟨S4096x1536, .f32⟩
  | 94 => ⟨S4096x1024, .f32⟩
  | 95 => ⟨S_, .f32⟩
  | 96 => ⟨S4096x1536, .f32⟩
  | 97 => ⟨S4096x1536, .f32⟩
  | 98 => ⟨S4096x1536, .f32⟩
  | 99 => ⟨S4096x1536, .f32⟩
  | 100 => ⟨S4096x1536, .f32⟩
  | 101 => ⟨S4096x1536, .f32⟩
  | 102 => ⟨S4096x1536, .f32⟩
  | 103 => ⟨S4096x1536, .f32⟩
  | 104 => ⟨S4096x1536, .f32⟩
  | 105 => ⟨S_, .f32⟩
  | 106 => ⟨S1536, .f32⟩
  | 107 => ⟨S1x1536, .f32⟩
  | 108 => ⟨S_, .f32⟩
  | 109 => ⟨S4099x1536, .f32⟩
  | 110 => ⟨S_, .f32⟩
  | 111 => ⟨S4x1536, .f32⟩
  | 112 => ⟨S4096x1536, .f32⟩
  | 113 => ⟨S4096x1536, .f32⟩
  | 114 => ⟨S4096x1536, .f32⟩
  | 115 => ⟨S_, .f32⟩
  | 116 => ⟨S1536, .f32⟩
  | 117 => ⟨S1x1536, .f32⟩
  | 118 => ⟨S_, .f32⟩
  | 119 => ⟨S4099x1536, .f32⟩
  | 120 => ⟨S4099x1536, .f32⟩
  | 121 => ⟨S_, .f32⟩
  | 122 => ⟨S4x1536, .f32⟩
  | 123 => ⟨S4x1536, .f32⟩
  | 124 => ⟨S4096x1536, .f32⟩
  | 125 => ⟨S4096x1536, .f32⟩
  | 126 => ⟨S4096x1536, .f32⟩
  | 127 => ⟨S_, .f32⟩
  | _ => ⟨S4096x2576, .f32⟩

abbrev hbmTy0_8 (i : Nat) : BufTy := match i % 128 with
  | 0 => ⟨S1536, .f32⟩
  | 1 => ⟨S1x1536, .f32⟩
  | 2 => ⟨S_, .f32⟩
  | 3 => ⟨S4099x1536, .f32⟩
  | 4 => ⟨S4099x1536, .f32⟩
  | 5 => ⟨S_, .f32⟩
  | 6 => ⟨S4x1536, .f32⟩
  | 7 => ⟨S4x1536, .f32⟩
  | 8 => ⟨S_, .f32⟩
  | 9 => ⟨S1536, .f32⟩
  | 10 => ⟨S1x1536, .f32⟩
  | 11 => ⟨S4096x1536, .f32⟩
  | 12 => ⟨S4096x1536, .f32⟩
  | 13 => ⟨S4096x1536, .f32⟩
  | 14 => ⟨S_, .f32⟩
  | 15 => ⟨S1536, .f32⟩
  | 16 => ⟨S1x1536, .f32⟩
  | 17 => ⟨S_, .f32⟩
  | 18 => ⟨S4x1536, .f32⟩
  | 19 => ⟨S4x1536, .f32⟩
  | 20 => ⟨S3x1536, .f32⟩
  | 21 => ⟨S4096x1536, .f32⟩
  | 22 => ⟨S4096x1536, .f32⟩
  | 23 => ⟨S_, .f32⟩
  | 24 => ⟨S4096x496, .f32⟩
  | 25 => ⟨S4096x3072, .f32⟩
  | 26 => ⟨S4096x3072, .bf16⟩
  | 27 => ⟨S_, .f32⟩
  | 28 => ⟨S3x1536, .f32⟩
  | 29 => ⟨S8x1536, .f32⟩
  | 30 => ⟨S_, .i32⟩
  | 31 => ⟨S_, .f32⟩
  | 32 => ⟨S8x128, .f32⟩
  | 33 => ⟨S2x16, .f32⟩
  | _ => ⟨S4096x2576, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S4096x2576, .f32⟩

abbrev bufTy : (tb : Table) → Fin (tcTables nBuf tb) → BufTy
  | .hbm, ⟨i, _⟩ => hbmTy i
  | _, _ => ⟨S4096x2576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v29_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v29_1 : Ref sig .tc := ⟨.hbm, 48, rfl⟩
abbrev main_v29_0 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call1_cst : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_v38_0 : Ref sig .tc := ⟨.hbm, 71, rfl⟩
abbrev main_call1_cst_0 : Ref sig .tc := ⟨.hbm, 72, rfl⟩
abbrev main_call1_v13 : Ref sig .tc := ⟨.hbm, 73, rfl⟩
abbrev main_call1_v14 : Ref sig .tc := ⟨.hbm, 74, rfl⟩
abbrev main_call1_cst_1 : Ref sig .tc := ⟨.hbm, 75, rfl⟩
abbrev main_call1_v15 : Ref sig .tc := ⟨.hbm, 76, rfl⟩
abbrev main_call1_v16 : Ref sig .tc := ⟨.hbm, 77, rfl⟩
abbrev main_call1_cst_2 : Ref sig .tc := ⟨.hbm, 78, rfl⟩
abbrev main_call1_v17 : Ref sig .tc := ⟨.hbm, 79, rfl⟩
abbrev main_call1_v18 : Ref sig .tc := ⟨.hbm, 80, rfl⟩
abbrev main_call1_cst_3 : Ref sig .tc := ⟨.hbm, 81, rfl⟩
abbrev main_call1_v19 : Ref sig .tc := ⟨.hbm, 82, rfl⟩
abbrev main_call1_v20 : Ref sig .tc := ⟨.hbm, 83, rfl⟩
abbrev main_call1_v21 : Ref sig .tc := ⟨.hbm, 84, rfl⟩
abbrev main_v38_1 : Ref sig .tc := ⟨.hbm, 85, rfl⟩
abbrev main_call1_cst_4 : Ref sig .tc := ⟨.hbm, 86, rfl⟩
abbrev main_call1_cst_5 : Ref sig .tc := ⟨.hbm, 87, rfl⟩
abbrev main_call1_v23 : Ref sig .tc := ⟨.hbm, 88, rfl⟩
abbrev main_call1_cst_6 : Ref sig .tc := ⟨.hbm, 89, rfl⟩
abbrev main_call1_cst_7 : Ref sig .tc := ⟨.hbm, 90, rfl⟩
abbrev main_call1_v24 : Ref sig .tc := ⟨.hbm, 91, rfl⟩
abbrev main_call1_cst_8 : Ref sig .tc := ⟨.hbm, 92, rfl⟩
abbrev main_call1_v25 : Ref sig .tc := ⟨.hbm, 93, rfl⟩
abbrev main_call1_v26 : Ref sig .tc := ⟨.hbm, 94, rfl⟩
abbrev main_call1_cst_9 : Ref sig .tc := ⟨.hbm, 95, rfl⟩
abbrev main_call1_v27 : Ref sig .tc := ⟨.hbm, 96, rfl⟩
abbrev main_call1_v28 : Ref sig .tc := ⟨.hbm, 97, rfl⟩
abbrev main_call1_v29 : Ref sig .tc := ⟨.hbm, 98, rfl⟩
abbrev main_call1_v30 : Ref sig .tc := ⟨.hbm, 99, rfl⟩
abbrev main_call1_v31 : Ref sig .tc := ⟨.hbm, 100, rfl⟩
abbrev main_call1_cst_10 : Ref sig .tc := ⟨.hbm, 101, rfl⟩
abbrev main_call1_v32 : Ref sig .tc := ⟨.hbm, 102, rfl⟩
abbrev main_v38_2 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_c : Ref sig .tc := ⟨.hbm, 113, rfl⟩
abbrev main_v48 : Ref sig .tc := ⟨.hbm, 114, rfl⟩
abbrev main_call2_v0 : Ref sig .tc := ⟨.hbm, 115, rfl⟩
abbrev main_call2_c : Ref sig .tc := ⟨.hbm, 116, rfl⟩
abbrev main_call2_v1 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_call2_c_0 : Ref sig .tc := ⟨.hbm, 121, rfl⟩
abbrev main_call2_v5 : Ref sig .tc := ⟨.hbm, 122, rfl⟩
abbrev main_v49 : Ref sig .tc := ⟨.hbm, 123, rfl⟩
abbrev main_v50 : Ref sig .tc := ⟨.hbm, 124, rfl⟩
abbrev main_cst_1 : Ref sig .tc := ⟨.hbm, 125, rfl⟩
abbrev main_call3_v0 : Ref sig .tc := ⟨.hbm, 126, rfl⟩
abbrev main_v51_1 : Ref sig .tc := ⟨.hbm, 127, rfl⟩
abbrev main_call3_v2 : Ref sig .tc := ⟨.hbm, 128, rfl⟩
abbrev main_call3_v3 : Ref sig .tc := ⟨.hbm, 129, rfl⟩
abbrev main_v51_0 : Ref sig .tc := ⟨.hbm, 130, rfl⟩
abbrev main_call3_cst : Ref sig .tc := ⟨.hbm, 131, rfl⟩
abbrev main_v51_2 : Ref sig .tc := ⟨.hbm, 132, rfl⟩
abbrev main_cst_2 : Ref sig .tc := ⟨.hbm, 133, rfl⟩
abbrev main_v52 : Ref sig .tc := ⟨.hbm, 134, rfl⟩
abbrev main_v53 : Ref sig .tc := ⟨.hbm, 135, rfl⟩
abbrev main_v54 : Ref sig .tc := ⟨.hbm, 136, rfl⟩
abbrev main_v55 : Ref sig .tc := ⟨.hbm, 137, rfl⟩
abbrev main_v56 : Ref sig .tc := ⟨.hbm, 138, rfl⟩
abbrev main_v57 : Ref sig .tc := ⟨.hbm, 139, rfl⟩
abbrev main_cst_3 : Ref sig .tc := ⟨.hbm, 140, rfl⟩
abbrev main_call4_v0 : Ref sig .tc := ⟨.hbm, 141, rfl⟩
abbrev main_v58_1 : Ref sig .tc := ⟨.hbm, 142, rfl⟩
abbrev main_call4_v2 : Ref sig .tc := ⟨.hbm, 143, rfl⟩
abbrev main_v58_0 : Ref sig .tc := ⟨.hbm, 144, rfl⟩
abbrev main_call4_cst : Ref sig .tc := ⟨.hbm, 145, rfl⟩
abbrev main_v58_2 : Ref sig .tc := ⟨.hbm, 146, rfl⟩
abbrev main_v59 : Ref sig .tc := ⟨.hbm, 147, rfl⟩
abbrev main_v60 : Ref sig .tc := ⟨.hbm, 148, rfl⟩
abbrev main_v61 : Ref sig .tc := ⟨.hbm, 149, rfl⟩
abbrev main_v62 : Ref sig .tc := ⟨.hbm, 150, rfl⟩
abbrev main_v63 : Ref sig .tc := ⟨.hbm, 151, rfl⟩
abbrev main_v64 : Ref sig .tc := ⟨.hbm, 152, rfl⟩
abbrev main_v65 : Ref sig .tc := ⟨.hbm, 153, rfl⟩
abbrev main_v66 : Ref sig .tc := ⟨.hbm, 154, rfl⟩
abbrev main_v67 : Ref sig .tc := ⟨.hbm, 155, rfl⟩
abbrev main_v68 : Ref sig .tc := ⟨.hbm, 156, rfl⟩
abbrev main_v69 : Ref sig .tc := ⟨.hbm, 157, rfl⟩
abbrev main_v70 : Ref sig .tc := ⟨.hbm, 158, rfl⟩
abbrev main_v71 : Ref sig .tc := ⟨.hbm, 159, rfl⟩
abbrev main_v72 : Ref sig .tc := ⟨.hbm, 160, rfl⟩
abbrev main_v73 : Ref sig .tc := ⟨.hbm, 161, rfl⟩
abbrev main_v74 : Ref sig .tc := ⟨.hbm, 162, rfl⟩
abbrev main_v75 : Ref sig .tc := ⟨.hbm, 163, rfl⟩
abbrev main_v76 : Ref sig .tc := ⟨.hbm, 164, rfl⟩
abbrev main_v77 : Ref sig .tc := ⟨.hbm, 165, rfl⟩
abbrev main_v78 : Ref sig .tc := ⟨.hbm, 166, rfl⟩
abbrev main_v79 : Ref sig .tc := ⟨.hbm, 167, rfl⟩
abbrev main_cst_4 : Ref sig .tc := ⟨.hbm, 168, rfl⟩
abbrev main_v80 : Ref sig .tc := ⟨.hbm, 169, rfl⟩
abbrev main_v81 : Ref sig .tc := ⟨.hbm, 170, rfl⟩
abbrev main_v82 : Ref sig .tc := ⟨.hbm, 171, rfl⟩
abbrev main_v83 : Ref sig .tc := ⟨.hbm, 172, rfl⟩
abbrev main_v84 : Ref sig .tc := ⟨.hbm, 173, rfl⟩
abbrev main_cst_5 : Ref sig .tc := ⟨.hbm, 174, rfl⟩
abbrev main_v85 : Ref sig .tc := ⟨.hbm, 175, rfl⟩
abbrev main_v86 : Ref sig .tc := ⟨.hbm, 176, rfl⟩
abbrev main_v87 : Ref sig .tc := ⟨.hbm, 177, rfl⟩
abbrev main_v88 : Ref sig .tc := ⟨.hbm, 178, rfl⟩
abbrev main_v89 : Ref sig .tc := ⟨.hbm, 179, rfl⟩
abbrev main_v90 : Ref sig .tc := ⟨.hbm, 180, rfl⟩
abbrev main_v91 : Ref sig .tc := ⟨.hbm, 181, rfl⟩
abbrev main_v92 : Ref sig .tc := ⟨.hbm, 182, rfl⟩
abbrev main_v93 : Ref sig .tc := ⟨.hbm, 183, rfl⟩
abbrev main_v94 : Ref sig .tc := ⟨.hbm, 184, rfl⟩
abbrev main_v95 : Ref sig .tc := ⟨.hbm, 185, rfl⟩
abbrev main_v96 : Ref sig .tc := ⟨.hbm, 186, rfl⟩
abbrev main_v97 : Ref sig .tc := ⟨.hbm, 187, rfl⟩
abbrev main_v98 : Ref sig .tc := ⟨.hbm, 188, rfl⟩
abbrev main_v99 : Ref sig .tc := ⟨.hbm, 189, rfl⟩
abbrev main_v100 : Ref sig .tc := ⟨.hbm, 190, rfl⟩
abbrev main_v101 : Ref sig .tc := ⟨.hbm, 191, rfl⟩
abbrev main_v102 : Ref sig .tc := ⟨.hbm, 192, rfl⟩
abbrev main_v103 : Ref sig .tc := ⟨.hbm, 193, rfl⟩
abbrev main_v104 : Ref sig .tc := ⟨.hbm, 194, rfl⟩
abbrev main_v105 : Ref sig .tc := ⟨.hbm, 195, rfl⟩
abbrev main_v106 : Ref sig .tc := ⟨.hbm, 196, rfl⟩
abbrev main_v107 : Ref sig .tc := ⟨.hbm, 197, rfl⟩
abbrev main_v108 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_v112 : Ref sig .tc := ⟨.hbm, 202, rfl⟩
abbrev main_v113 : Ref sig .tc := ⟨.hbm, 203, rfl⟩
abbrev main_v114 : Ref sig .tc := ⟨.hbm, 204, rfl⟩
abbrev main_v115 : Ref sig .tc := ⟨.hbm, 205, rfl⟩
abbrev main_v116 : Ref sig .tc := ⟨.hbm, 206, rfl⟩
abbrev main_v117 : Ref sig .tc := ⟨.hbm, 207, rfl⟩
abbrev main_v118 : Ref sig .tc := ⟨.hbm, 208, rfl⟩
abbrev main_v119 : Ref sig .tc := ⟨.hbm, 209, rfl⟩
abbrev main_v120 : Ref sig .tc := ⟨.hbm, 210, rfl⟩
abbrev main_v121 : Ref sig .tc := ⟨.hbm, 211, rfl⟩
abbrev main_v122 : Ref sig .tc := ⟨.hbm, 212, rfl⟩
abbrev main_v123 : Ref sig .tc := ⟨.hbm, 213, rfl⟩
abbrev main_v124 : Ref sig .tc := ⟨.hbm, 214, rfl⟩
abbrev main_v125 : Ref sig .tc := ⟨.hbm, 215, rfl⟩
abbrev main_v126 : Ref sig .tc := ⟨.hbm, 216, rfl⟩
abbrev main_v127 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_v131 : Ref sig .tc := ⟨.hbm, 221, rfl⟩
abbrev main_v132 : Ref sig .tc := ⟨.hbm, 222, rfl⟩
abbrev main_v133 : Ref sig .tc := ⟨.hbm, 223, rfl⟩
abbrev main_v134 : Ref sig .tc := ⟨.hbm, 224, rfl⟩
abbrev main_v135 : Ref sig .tc := ⟨.hbm, 225, rfl⟩
abbrev main_v136 : Ref sig .tc := ⟨.hbm, 226, rfl⟩
abbrev main_v137 : Ref sig .tc := ⟨.hbm, 227, rfl⟩
abbrev main_v138 : Ref sig .tc := ⟨.hbm, 228, rfl⟩
abbrev main_v139 : Ref sig .tc := ⟨.hbm, 229, rfl⟩
abbrev main_v140 : Ref sig .tc := ⟨.hbm, 230, rfl⟩
abbrev main_v141 : Ref sig .tc := ⟨.hbm, 231, rfl⟩
abbrev main_v142 : Ref sig .tc := ⟨.hbm, 232, rfl⟩
abbrev main_v143 : Ref sig .tc := ⟨.hbm, 233, rfl⟩
abbrev main_v144 : Ref sig .tc := ⟨.hbm, 234, rfl⟩
abbrev main_v145 : Ref sig .tc := ⟨.hbm, 235, rfl⟩
abbrev main_v146 : Ref sig .tc := ⟨.hbm, 236, rfl⟩
abbrev main_v147 : Ref sig .tc := ⟨.hbm, 237, rfl⟩
abbrev main_v148 : Ref sig .tc := ⟨.hbm, 238, rfl⟩
abbrev main_v149 : Ref sig .tc := ⟨.hbm, 239, rfl⟩
abbrev main_v150 : Ref sig .tc := ⟨.hbm, 240, rfl⟩
abbrev main_v151 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_v155 : Ref sig .tc := ⟨.hbm, 245, rfl⟩
abbrev main_v156 : Ref sig .tc := ⟨.hbm, 246, rfl⟩
abbrev main_v157 : Ref sig .tc := ⟨.hbm, 247, rfl⟩
abbrev main_v158 : Ref sig .tc := ⟨.hbm, 248, rfl⟩
abbrev main_v159 : Ref sig .tc := ⟨.hbm, 249, rfl⟩
abbrev main_v160 : Ref sig .tc := ⟨.hbm, 250, rfl⟩
abbrev main_v161 : Ref sig .tc := ⟨.hbm, 251, rfl⟩
abbrev main_v162 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_v166 : Ref sig .tc := ⟨.hbm, 256, rfl⟩
abbrev main_v167 : Ref sig .tc := ⟨.hbm, 257, rfl⟩
abbrev main_v168 : Ref sig .tc := ⟨.hbm, 258, rfl⟩
abbrev main_v169 : Ref sig .tc := ⟨.hbm, 259, rfl⟩
abbrev main_v170 : Ref sig .tc := ⟨.hbm, 260, rfl⟩
abbrev main_v171 : Ref sig .tc := ⟨.hbm, 261, rfl⟩
abbrev main_v172 : Ref sig .tc := ⟨.hbm, 262, rfl⟩
abbrev main_v173 : Ref sig .tc := ⟨.hbm, 263, rfl⟩
abbrev main_v174 : Ref sig .tc := ⟨.hbm, 264, rfl⟩
abbrev main_v175 : Ref sig .tc := ⟨.hbm, 265, rfl⟩
abbrev main_v176 : Ref sig .tc := ⟨.hbm, 266, rfl⟩
abbrev main_v177 : Ref sig .tc := ⟨.hbm, 267, rfl⟩
abbrev main_v178 : Ref sig .tc := ⟨.hbm, 268, rfl⟩
abbrev main_v179 : Ref sig .tc := ⟨.hbm, 269, rfl⟩
abbrev main_v180 : Ref sig .tc := ⟨.hbm, 270, rfl⟩
abbrev main_v181 : Ref sig .tc := ⟨.hbm, 271, rfl⟩
abbrev main_v182 : Ref sig .tc := ⟨.hbm, 272, rfl⟩
abbrev main_v183 : Ref sig .tc := ⟨.hbm, 273, rfl⟩
abbrev main_v184 : Ref sig .tc := ⟨.hbm, 274, rfl⟩
abbrev main_v185 : Ref sig .tc := ⟨.hbm, 275, rfl⟩
abbrev main_v186 : Ref sig .tc := ⟨.hbm, 276, rfl⟩
abbrev main_v187 : Ref sig .tc := ⟨.hbm, 277, rfl⟩
abbrev main_v188 : Ref sig .tc := ⟨.hbm, 278, rfl⟩
abbrev main_v189 : Ref sig .tc := ⟨.hbm, 279, rfl⟩
abbrev main_v190 : Ref sig .tc := ⟨.hbm, 280, rfl⟩
abbrev main_v191 : Ref sig .tc := ⟨.hbm, 281, rfl⟩
abbrev main_v192 : Ref sig .tc := ⟨.hbm, 282, rfl⟩
abbrev main_v193 : Ref sig .tc := ⟨.hbm, 283, rfl⟩
abbrev main_v194 : Ref sig .tc := ⟨.hbm, 284, rfl⟩
abbrev main_v195 : Ref sig .tc := ⟨.hbm, 285, rfl⟩
abbrev main_v196 : Ref sig .tc := ⟨.hbm, 286, rfl⟩
abbrev main_v197 : Ref sig .tc := ⟨.hbm, 287, rfl⟩
abbrev main_v198 : Ref sig .tc := ⟨.hbm, 288, rfl⟩
abbrev main_v199 : Ref sig .tc := ⟨.hbm, 289, rfl⟩
abbrev main_v200 : Ref sig .tc := ⟨.hbm, 290, rfl⟩
abbrev main_v201 : Ref sig .tc := ⟨.hbm, 291, rfl⟩
abbrev main_v202 : Ref sig .tc := ⟨.hbm, 292, rfl⟩
abbrev main_v203 : Ref sig .tc := ⟨.hbm, 293, rfl⟩
abbrev main_v204 : Ref sig .tc := ⟨.hbm, 294, rfl⟩
abbrev main_v205 : Ref sig .tc := ⟨.hbm, 295, rfl⟩
abbrev main_v206 : Ref sig .tc := ⟨.hbm, 296, rfl⟩
abbrev main_v207 : Ref sig .tc := ⟨.hbm, 297, rfl⟩
abbrev main_v208 : Ref sig .tc := ⟨.hbm, 298, rfl⟩
abbrev main_v209 : Ref sig .tc := ⟨.hbm, 299, rfl⟩
abbrev main_v210 : Ref sig .tc := ⟨.hbm, 300, rfl⟩
abbrev main_v211 : Ref sig .tc := ⟨.hbm, 301, rfl⟩
abbrev main_v212 : Ref sig .tc := ⟨.hbm, 302, rfl⟩
abbrev main_v213 : Ref sig .tc := ⟨.hbm, 303, rfl⟩
abbrev main_v214 : Ref sig .tc := ⟨.hbm, 304, rfl⟩
abbrev main_v215 : Ref sig .tc := ⟨.hbm, 305, rfl⟩
abbrev main_v216 : Ref sig .tc := ⟨.hbm, 306, rfl⟩
abbrev main_v217 : Ref sig .tc := ⟨.hbm, 307, rfl⟩
abbrev main_v218 : Ref sig .tc := ⟨.hbm, 308, rfl⟩
abbrev main_v219 : Ref sig .tc := ⟨.hbm, 309, rfl⟩
abbrev main_v220 : Ref sig .tc := ⟨.hbm, 310, rfl⟩
abbrev main_v221 : Ref sig .tc := ⟨.hbm, 311, rfl⟩
abbrev main_v222 : Ref sig .tc := ⟨.hbm, 312, rfl⟩
abbrev main_v223 : Ref sig .tc := ⟨.hbm, 313, rfl⟩
abbrev main_v224 : Ref sig .tc := ⟨.hbm, 314, rfl⟩
abbrev main_v225 : Ref sig .tc := ⟨.hbm, 315, rfl⟩
abbrev main_v226 : Ref sig .tc := ⟨.hbm, 316, rfl⟩
abbrev main_v227 : Ref sig .tc := ⟨.hbm, 317, rfl⟩
abbrev main_v228 : Ref sig .tc := ⟨.hbm, 318, rfl⟩
abbrev main_v229 : Ref sig .tc := ⟨.hbm, 319, rfl⟩
abbrev main_v230 : Ref sig .tc := ⟨.hbm, 320, rfl⟩
abbrev main_v231 : Ref sig .tc := ⟨.hbm, 321, rfl⟩
abbrev main_v232 : Ref sig .tc := ⟨.hbm, 322, rfl⟩
abbrev main_v233 : Ref sig .tc := ⟨.hbm, 323, rfl⟩
abbrev main_v234 : Ref sig .tc := ⟨.hbm, 324, rfl⟩
abbrev main_v235 : Ref sig .tc := ⟨.hbm, 325, rfl⟩
abbrev main_v236 : Ref sig .tc := ⟨.hbm, 326, rfl⟩
abbrev main_v237 : Ref sig .tc := ⟨.hbm, 327, rfl⟩
abbrev main_v238 : Ref sig .tc := ⟨.hbm, 328, rfl⟩
abbrev main_v239 : Ref sig .tc := ⟨.hbm, 329, rfl⟩
abbrev main_v240 : Ref sig .tc := ⟨.hbm, 330, rfl⟩
abbrev main_v241 : Ref sig .tc := ⟨.hbm, 331, rfl⟩
abbrev main_v242 : Ref sig .tc := ⟨.hbm, 332, rfl⟩
abbrev main_v243 : Ref sig .tc := ⟨.hbm, 333, rfl⟩
abbrev main_v244 : Ref sig .tc := ⟨.hbm, 334, rfl⟩
abbrev main_v245 : Ref sig .tc := ⟨.hbm, 335, rfl⟩
abbrev main_v246 : Ref sig .tc := ⟨.hbm, 336, rfl⟩
abbrev main_v247 : Ref sig .tc := ⟨.hbm, 337, rfl⟩
abbrev main_v248 : Ref sig .tc := ⟨.hbm, 338, rfl⟩
abbrev main_v249 : Ref sig .tc := ⟨.hbm, 339, rfl⟩
abbrev main_v250 : Ref sig .tc := ⟨.hbm, 340, rfl⟩
abbrev main_v251 : Ref sig .tc := ⟨.hbm, 341, rfl⟩
abbrev main_v252 : Ref sig .tc := ⟨.hbm, 342, rfl⟩
abbrev main_v253 : Ref sig .tc := ⟨.hbm, 343, rfl⟩
abbrev main_v254 : Ref sig .tc := ⟨.hbm, 344, rfl⟩
abbrev main_v255 : Ref sig .tc := ⟨.hbm, 345, rfl⟩
abbrev main_v256 : Ref sig .tc := ⟨.hbm, 346, rfl⟩
abbrev main_v257 : Ref sig .tc := ⟨.hbm, 347, rfl⟩
abbrev main_v258 : Ref sig .tc := ⟨.hbm, 348, rfl⟩
abbrev main_v259 : Ref sig .tc := ⟨.hbm, 349, rfl⟩
abbrev main_v260 : Ref sig .tc := ⟨.hbm, 350, rfl⟩
abbrev main_v261 : Ref sig .tc := ⟨.hbm, 351, rfl⟩
abbrev main_v262 : Ref sig .tc := ⟨.hbm, 352, rfl⟩
abbrev main_v263 : Ref sig .tc := ⟨.hbm, 353, rfl⟩
abbrev main_v264 : Ref sig .tc := ⟨.hbm, 354, rfl⟩
abbrev main_v265 : Ref sig .tc := ⟨.hbm, 355, rfl⟩
abbrev main_v266 : Ref sig .tc := ⟨.hbm, 356, rfl⟩
abbrev main_v267 : Ref sig .tc := ⟨.hbm, 357, rfl⟩
abbrev main_v268 : Ref sig .tc := ⟨.hbm, 358, rfl⟩
abbrev main_v269 : Ref sig .tc := ⟨.hbm, 359, rfl⟩
abbrev main_v270 : Ref sig .tc := ⟨.hbm, 360, rfl⟩
abbrev main_v271 : Ref sig .tc := ⟨.hbm, 361, rfl⟩
abbrev main_v272 : Ref sig .tc := ⟨.hbm, 362, rfl⟩
abbrev main_v273 : Ref sig .tc := ⟨.hbm, 363, rfl⟩
abbrev main_v274 : Ref sig .tc := ⟨.hbm, 364, rfl⟩
abbrev main_v275 : Ref sig .tc := ⟨.hbm, 365, rfl⟩
abbrev main_v276 : Ref sig .tc := ⟨.hbm, 366, rfl⟩
abbrev main_v277 : Ref sig .tc := ⟨.hbm, 367, rfl⟩
abbrev main_v278 : Ref sig .tc := ⟨.hbm, 368, rfl⟩
abbrev main_v279 : Ref sig .tc := ⟨.hbm, 369, rfl⟩
abbrev main_v280 : Ref sig .tc := ⟨.hbm, 370, rfl⟩
abbrev main_v281 : Ref sig .tc := ⟨.hbm, 371, rfl⟩
abbrev main_v282 : Ref sig .tc := ⟨.hbm, 372, rfl⟩
abbrev main_v283 : Ref sig .tc := ⟨.hbm, 373, rfl⟩
abbrev main_v284 : Ref sig .tc := ⟨.hbm, 374, rfl⟩
abbrev main_v285 : Ref sig .tc := ⟨.hbm, 375, rfl⟩
abbrev main_v286 : Ref sig .tc := ⟨.hbm, 376, rfl⟩
abbrev main_v287 : Ref sig .tc := ⟨.hbm, 377, rfl⟩
abbrev main_v288 : Ref sig .tc := ⟨.hbm, 378, rfl⟩
abbrev main_v289 : Ref sig .tc := ⟨.hbm, 379, rfl⟩
abbrev main_v290 : Ref sig .tc := ⟨.hbm, 380, rfl⟩
abbrev main_v291 : Ref sig .tc := ⟨.hbm, 381, rfl⟩
abbrev main_v292 : Ref sig .tc := ⟨.hbm, 382, rfl⟩
abbrev main_v293 : Ref sig .tc := ⟨.hbm, 383, rfl⟩
abbrev main_v294 : Ref sig .tc := ⟨.hbm, 384, rfl⟩
abbrev main_v295 : Ref sig .tc := ⟨.hbm, 385, rfl⟩
abbrev main_v296 : Ref sig .tc := ⟨.hbm, 386, rfl⟩
abbrev main_v297 : Ref sig .tc := ⟨.hbm, 387, rfl⟩
abbrev main_v298 : Ref sig .tc := ⟨.hbm, 388, rfl⟩
abbrev main_v299 : Ref sig .tc := ⟨.hbm, 389, rfl⟩
abbrev main_v300 : Ref sig .tc := ⟨.hbm, 390, rfl⟩
abbrev main_v301 : Ref sig .tc := ⟨.hbm, 391, rfl⟩
abbrev main_v302 : Ref sig .tc := ⟨.hbm, 392, rfl⟩
abbrev main_v303 : Ref sig .tc := ⟨.hbm, 393, rfl⟩
abbrev main_v304 : Ref sig .tc := ⟨.hbm, 394, rfl⟩
abbrev main_v305 : Ref sig .tc := ⟨.hbm, 395, rfl⟩
abbrev main_v306 : Ref sig .tc := ⟨.hbm, 396, rfl⟩
abbrev main_v307 : Ref sig .tc := ⟨.hbm, 397, rfl⟩
abbrev main_v308 : Ref sig .tc := ⟨.hbm, 398, rfl⟩
abbrev main_v309 : Ref sig .tc := ⟨.hbm, 399, rfl⟩
abbrev main_v310 : Ref sig .tc := ⟨.hbm, 400, rfl⟩
abbrev main_v311 : Ref sig .tc := ⟨.hbm, 401, rfl⟩
abbrev main_v312 : Ref sig .tc := ⟨.hbm, 402, rfl⟩
abbrev main_v313 : Ref sig .tc := ⟨.hbm, 403, rfl⟩
abbrev main_v314 : Ref sig .tc := ⟨.hbm, 404, rfl⟩
abbrev main_v315 : Ref sig .tc := ⟨.hbm, 405, rfl⟩
abbrev main_v316 : Ref sig .tc := ⟨.hbm, 406, rfl⟩
abbrev main_v317 : Ref sig .tc := ⟨.hbm, 407, rfl⟩
abbrev main_v318 : Ref sig .tc := ⟨.hbm, 408, rfl⟩
abbrev main_v319 : Ref sig .tc := ⟨.hbm, 409, rfl⟩
abbrev main_v320 : Ref sig .tc := ⟨.hbm, 410, rfl⟩
abbrev main_v321 : Ref sig .tc := ⟨.hbm, 411, rfl⟩
abbrev main_v322 : Ref sig .tc := ⟨.hbm, 412, rfl⟩
abbrev main_v323 : Ref sig .tc := ⟨.hbm, 413, rfl⟩
abbrev main_v324 : Ref sig .tc := ⟨.hbm, 414, rfl⟩
abbrev main_v325 : Ref sig .tc := ⟨.hbm, 415, rfl⟩
abbrev main_v326 : Ref sig .tc := ⟨.hbm, 416, rfl⟩
abbrev main_v327 : Ref sig .tc := ⟨.hbm, 417, rfl⟩
abbrev main_call5_v0 : Ref sig .tc := ⟨.hbm, 418, rfl⟩
abbrev main_call5_v1 : Ref sig .tc := ⟨.hbm, 419, rfl⟩
abbrev main_call5_cst : Ref sig .tc := ⟨.hbm, 420, rfl⟩
abbrev main_call5_v2 : Ref sig .tc := ⟨.hbm, 421, rfl⟩
abbrev main_call5_v3 : Ref sig .tc := ⟨.hbm, 422, rfl⟩
abbrev main_call5_cst_0 : Ref sig .tc := ⟨.hbm, 423, rfl⟩
abbrev main_call5_v4 : Ref sig .tc := ⟨.hbm, 424, rfl⟩
abbrev main_v328_2 : Ref sig .tc := ⟨.hbm, 425, rfl⟩
abbrev main_call5_cst_1 : Ref sig .tc := ⟨.hbm, 426, rfl⟩
abbrev main_call5_v6 : Ref sig .tc := ⟨.hbm, 427, rfl⟩
abbrev main_call5_v7 : Ref sig .tc := ⟨.hbm, 428, rfl⟩
abbrev main_v328_1 : Ref sig .tc := ⟨.hbm, 429, rfl⟩
abbrev main_v328_0 : Ref sig .tc := ⟨.hbm, 430, rfl⟩
abbrev main_v329 : Ref sig .tc := ⟨.hbm, 431, rfl⟩
abbrev main_v330 : Ref sig .tc := ⟨.hbm, 432, rfl⟩
abbrev main_v331 : Ref sig .tc := ⟨.hbm, 433, rfl⟩
abbrev main_cst_6 : Ref sig .tc := ⟨.hbm, 434, rfl⟩
abbrev main_v332 : Ref sig .tc := ⟨.hbm, 435, rfl⟩
abbrev main_v333 : Ref sig .tc := ⟨.hbm, 436, rfl⟩
abbrev main_cst_7 : Ref sig .tc := ⟨.hbm, 437, rfl⟩
abbrev main_v334 : Ref sig .tc := ⟨.hbm, 438, rfl⟩
abbrev main_v335 : Ref sig .tc := ⟨.hbm, 439, rfl⟩
abbrev main_cst_8 : Ref sig .tc := ⟨.hbm, 440, rfl⟩
abbrev main_v336 : Ref sig .tc := ⟨.hbm, 441, rfl⟩
abbrev main_v337 : Ref sig .tc := ⟨.hbm, 442, rfl⟩
abbrev main_v338 : Ref sig .tc := ⟨.hbm, 443, rfl⟩
abbrev main_v339 : Ref sig .tc := ⟨.hbm, 444, rfl⟩
abbrev main_cst_9 : Ref sig .tc := ⟨.hbm, 445, rfl⟩
abbrev main_v340 : Ref sig .tc := ⟨.hbm, 446, rfl⟩
abbrev main_v341 : Ref sig .tc := ⟨.hbm, 447, rfl⟩
abbrev main_v342 : Ref sig .tc := ⟨.hbm, 448, rfl⟩
abbrev main_v343 : Ref sig .tc := ⟨.hbm, 449, rfl⟩
abbrev main_v344 : Ref sig .tc := ⟨.hbm, 450, rfl⟩
abbrev main_v345 : Ref sig .tc := ⟨.hbm, 451, rfl⟩
abbrev main_v346 : Ref sig .tc := ⟨.hbm, 452, rfl⟩
abbrev main_cst_10 : Ref sig .tc := ⟨.hbm, 453, rfl⟩
abbrev main_v347 : Ref sig .tc := ⟨.hbm, 454, rfl⟩
abbrev main_v348 : Ref sig .tc := ⟨.hbm, 455, rfl⟩
abbrev main_cst_11 : Ref sig .tc := ⟨.hbm, 456, rfl⟩
abbrev main_v349 : Ref sig .tc := ⟨.hbm, 457, rfl⟩
abbrev main_v350 : Ref sig .tc := ⟨.hbm, 458, rfl⟩
abbrev main_v351 : Ref sig .tc := ⟨.hbm, 459, rfl⟩
abbrev main_v352 : Ref sig .tc := ⟨.hbm, 460, rfl⟩
abbrev main_v353 : Ref sig .tc := ⟨.hbm, 461, rfl⟩
abbrev main_v354 : Ref sig .tc := ⟨.hbm, 462, rfl⟩
abbrev main_cst_12 : Ref sig .tc := ⟨.hbm, 463, rfl⟩
abbrev main_v355 : Ref sig .tc := ⟨.hbm, 464, rfl⟩
abbrev main_v356 : Ref sig .tc := ⟨.hbm, 465, rfl⟩
abbrev main_v357 : Ref sig .tc := ⟨.hbm, 466, rfl⟩
abbrev main_v358 : Ref sig .tc := ⟨.hbm, 467, rfl⟩
abbrev main_v359 : Ref sig .tc := ⟨.hbm, 468, rfl⟩
abbrev main_cst_13 : Ref sig .tc := ⟨.hbm, 469, rfl⟩
abbrev main_v360 : Ref sig .tc := ⟨.hbm, 470, rfl⟩
abbrev main_v361 : Ref sig .tc := ⟨.hbm, 471, rfl⟩
abbrev main_cst_14 : Ref sig .tc := ⟨.hbm, 472, rfl⟩
abbrev main_v362 : Ref sig .tc := ⟨.hbm, 473, rfl⟩
abbrev main_v363 : Ref sig .tc := ⟨.hbm, 474, rfl⟩
abbrev main_v364 : Ref sig .tc := ⟨.hbm, 475, rfl⟩
abbrev main_v365 : Ref sig .tc := ⟨.hbm, 476, rfl⟩
abbrev main_v366 : Ref sig .tc := ⟨.hbm, 477, rfl⟩
abbrev main_v367 : Ref sig .tc := ⟨.hbm, 478, rfl⟩
abbrev main_v368 : Ref sig .tc := ⟨.hbm, 479, rfl⟩
abbrev main_v369 : Ref sig .tc := ⟨.hbm, 480, rfl⟩
abbrev main_v370 : Ref sig .tc := ⟨.hbm, 481, rfl⟩
abbrev main_call6_v0 : Ref sig .tc := ⟨.hbm, 482, rfl⟩
abbrev main_call6_v1 : Ref sig .tc := ⟨.hbm, 483, rfl⟩
abbrev main_call6_v2 : Ref sig .tc := ⟨.hbm, 484, rfl⟩
abbrev main_v371 : Ref sig .tc := ⟨.hbm, 485, rfl⟩
abbrev main_v372 : Ref sig .tc := ⟨.hbm, 486, rfl⟩
abbrev main_v373 : Ref sig .tc := ⟨.hbm, 487, rfl⟩
abbrev main_v374 : Ref sig .tc := ⟨.hbm, 488, rfl⟩
abbrev main_v375 : Ref sig .tc := ⟨.hbm, 489, rfl⟩
abbrev main_cst_15 : Ref sig .tc := ⟨.hbm, 490, rfl⟩
abbrev main_v376 : Ref sig .tc := ⟨.hbm, 491, rfl⟩
abbrev main_v377 : Ref sig .tc := ⟨.hbm, 492, rfl⟩
abbrev main_cst_16 : Ref sig .tc := ⟨.hbm, 493, rfl⟩
abbrev main_v378 : Ref sig .tc := ⟨.hbm, 494, rfl⟩
abbrev main_v379 : Ref sig .tc := ⟨.hbm, 495, rfl⟩
abbrev main_v380 : Ref sig .tc := ⟨.hbm, 496, rfl⟩
abbrev main_v381 : Ref sig .tc := ⟨.hbm, 497, rfl⟩
abbrev main_v382 : Ref sig .tc := ⟨.hbm, 498, rfl⟩
abbrev main_v383 : Ref sig .tc := ⟨.hbm, 499, rfl⟩
abbrev main_cst_17 : Ref sig .tc := ⟨.hbm, 500, rfl⟩
abbrev main_v384 : Ref sig .tc := ⟨.hbm, 501, rfl⟩
abbrev main_v385 : Ref sig .tc := ⟨.hbm, 502, rfl⟩
abbrev main_v386 : Ref sig .tc := ⟨.hbm, 503, rfl⟩
abbrev main_v387 : Ref sig .tc := ⟨.hbm, 504, rfl⟩
abbrev main_v388 : Ref sig .tc := ⟨.hbm, 505, rfl⟩
abbrev main_v389 : Ref sig .tc := ⟨.hbm, 506, rfl⟩
abbrev main_cst_18 : Ref sig .tc := ⟨.hbm, 507, rfl⟩
abbrev main_v390 : Ref sig .tc := ⟨.hbm, 508, rfl⟩
abbrev main_v391 : Ref sig .tc := ⟨.hbm, 509, rfl⟩
abbrev main_v392 : Ref sig .tc := ⟨.hbm, 510, rfl⟩
abbrev main_cst_19 : Ref sig .tc := ⟨.hbm, 511, rfl⟩
abbrev main_v393 : Ref sig .tc := ⟨.hbm, 512, rfl⟩
abbrev main_v394 : Ref sig .tc := ⟨.hbm, 513, rfl⟩
abbrev main_v395 : Ref sig .tc := ⟨.hbm, 514, rfl⟩
abbrev main_v396 : Ref sig .tc := ⟨.hbm, 515, rfl⟩
abbrev main_v397 : Ref sig .tc := ⟨.hbm, 516, rfl⟩
abbrev main_v398 : Ref sig .tc := ⟨.hbm, 517, rfl⟩
abbrev main_v399 : Ref sig .tc := ⟨.hbm, 518, rfl⟩
abbrev main_cst_20 : Ref sig .tc := ⟨.hbm, 519, rfl⟩
abbrev main_v400 : Ref sig .tc := ⟨.hbm, 520, rfl⟩
abbrev main_cst_21 : Ref sig .tc := ⟨.hbm, 521, rfl⟩
abbrev main_v401 : Ref sig .tc := ⟨.hbm, 522, rfl⟩
abbrev main_v402 : Ref sig .tc := ⟨.hbm, 523, rfl⟩
abbrev main_v403 : Ref sig .tc := ⟨.hbm, 524, rfl⟩
abbrev main_v404 : Ref sig .tc := ⟨.hbm, 525, rfl⟩
abbrev main_v405 : Ref sig .tc := ⟨.hbm, 526, rfl⟩
abbrev main_v406 : Ref sig .tc := ⟨.hbm, 527, rfl⟩
abbrev main_v407 : Ref sig .tc := ⟨.hbm, 528, rfl⟩
abbrev main_v408 : Ref sig .tc := ⟨.hbm, 529, rfl⟩
abbrev main_v409 : Ref sig .tc := ⟨.hbm, 530, rfl⟩
abbrev main_v410 : Ref sig .tc := ⟨.hbm, 531, rfl⟩
abbrev main_v411 : Ref sig .tc := ⟨.hbm, 532, rfl⟩
abbrev main_v412 : Ref sig .tc := ⟨.hbm, 533, rfl⟩
abbrev main_v413 : Ref sig .tc := ⟨.hbm, 534, rfl⟩
abbrev main_v414 : Ref sig .tc := ⟨.hbm, 535, rfl⟩
abbrev main_v415 : Ref sig .tc := ⟨.hbm, 536, rfl⟩
abbrev main_v416 : Ref sig .tc := ⟨.hbm, 537, rfl⟩
abbrev main_v417 : Ref sig .tc := ⟨.hbm, 538, rfl⟩
abbrev main_v418 : Ref sig .tc := ⟨.hbm, 539, rfl⟩
abbrev main_v419 : Ref sig .tc := ⟨.hbm, 540, rfl⟩
abbrev main_v420 : Ref sig .tc := ⟨.hbm, 541, rfl⟩
abbrev main_v421 : Ref sig .tc := ⟨.hbm, 542, rfl⟩
abbrev main_v422 : Ref sig .tc := ⟨.hbm, 543, rfl⟩
abbrev main_v423 : Ref sig .tc := ⟨.hbm, 544, rfl⟩
abbrev main_v424 : Ref sig .tc := ⟨.hbm, 545, rfl⟩
abbrev main_v425 : Ref sig .tc := ⟨.hbm, 546, rfl⟩
abbrev main_v426 : Ref sig .tc := ⟨.hbm, 547, rfl⟩
abbrev main_v427 : Ref sig .tc := ⟨.hbm, 548, rfl⟩
abbrev main_v428 : Ref sig .tc := ⟨.hbm, 549, rfl⟩
abbrev main_v429 : Ref sig .tc := ⟨.hbm, 550, rfl⟩
abbrev main_v430 : Ref sig .tc := ⟨.hbm, 551, rfl⟩
abbrev main_v431 : Ref sig .tc := ⟨.hbm, 552, rfl⟩
abbrev main_v432 : Ref sig .tc := ⟨.hbm, 553, rfl⟩
abbrev main_v433 : Ref sig .tc := ⟨.hbm, 554, rfl⟩
abbrev main_v434 : Ref sig .tc := ⟨.hbm, 555, rfl⟩
abbrev main_v435 : Ref sig .tc := ⟨.hbm, 556, rfl⟩
abbrev main_v436 : Ref sig .tc := ⟨.hbm, 557, rfl⟩
abbrev main_v437 : Ref sig .tc := ⟨.hbm, 558, rfl⟩
abbrev main_v438 : Ref sig .tc := ⟨.hbm, 559, rfl⟩
abbrev main_v439 : Ref sig .tc := ⟨.hbm, 560, rfl⟩
abbrev main_v440 : Ref sig .tc := ⟨.hbm, 561, rfl⟩
abbrev main_v441 : Ref sig .tc := ⟨.hbm, 562, rfl⟩
abbrev main_v442 : Ref sig .tc := ⟨.hbm, 563, rfl⟩
abbrev main_v443 : Ref sig .tc := ⟨.hbm, 564, rfl⟩
abbrev main_v444 : Ref sig .tc := ⟨.hbm, 565, rfl⟩
abbrev main_v445 : Ref sig .tc := ⟨.hbm, 566, rfl⟩
abbrev main_v446 : Ref sig .tc := ⟨.hbm, 567, rfl⟩
abbrev main_v447 : Ref sig .tc := ⟨.hbm, 568, rfl⟩
abbrev main_v448 : Ref sig .tc := ⟨.hbm, 569, rfl⟩
abbrev main_v449 : Ref sig .tc := ⟨.hbm, 570, rfl⟩
abbrev main_v450 : Ref sig .tc := ⟨.hbm, 571, rfl⟩
abbrev main_v451 : Ref sig .tc := ⟨.hbm, 572, rfl⟩
abbrev main_v452 : Ref sig .tc := ⟨.hbm, 573, rfl⟩
abbrev main_v453 : Ref sig .tc := ⟨.hbm, 574, rfl⟩
abbrev main_v454 : Ref sig .tc := ⟨.hbm, 575, rfl⟩
abbrev main_v455 : Ref sig .tc := ⟨.hbm, 576, rfl⟩
abbrev main_v456 : Ref sig .tc := ⟨.hbm, 577, rfl⟩
abbrev main_v457 : Ref sig .tc := ⟨.hbm, 578, rfl⟩
abbrev main_v458 : Ref sig .tc := ⟨.hbm, 579, rfl⟩
abbrev main_v459 : Ref sig .tc := ⟨.hbm, 580, rfl⟩
abbrev main_v460 : Ref sig .tc := ⟨.hbm, 581, rfl⟩
abbrev main_v461 : Ref sig .tc := ⟨.hbm, 582, rfl⟩
abbrev main_v462 : Ref sig .tc := ⟨.hbm, 583, rfl⟩
abbrev main_v463 : Ref sig .tc := ⟨.hbm, 584, rfl⟩
abbrev main_v464 : Ref sig .tc := ⟨.hbm, 585, rfl⟩
abbrev main_v465 : Ref sig .tc := ⟨.hbm, 586, rfl⟩
abbrev main_v466 : Ref sig .tc := ⟨.hbm, 587, rfl⟩
abbrev main_v467 : Ref sig .tc := ⟨.hbm, 588, rfl⟩
abbrev main_v468 : Ref sig .tc := ⟨.hbm, 589, rfl⟩
abbrev main_v469 : Ref sig .tc := ⟨.hbm, 590, rfl⟩
abbrev main_v470 : Ref sig .tc := ⟨.hbm, 591, rfl⟩
abbrev main_v471 : Ref sig .tc := ⟨.hbm, 592, rfl⟩
abbrev main_v472 : Ref sig .tc := ⟨.hbm, 593, rfl⟩
abbrev main_v473 : Ref sig .tc := ⟨.hbm, 594, rfl⟩
abbrev main_v474 : Ref sig .tc := ⟨.hbm, 595, rfl⟩
abbrev main_v475 : Ref sig .tc := ⟨.hbm, 596, rfl⟩
abbrev main_v476 : Ref sig .tc := ⟨.hbm, 597, rfl⟩
abbrev main_v477 : Ref sig .tc := ⟨.hbm, 598, rfl⟩
abbrev main_v478 : Ref sig .tc := ⟨.hbm, 599, rfl⟩
abbrev main_v479 : Ref sig .tc := ⟨.hbm, 600, rfl⟩
abbrev main_v480 : Ref sig .tc := ⟨.hbm, 601, rfl⟩
abbrev main_v481 : Ref sig .tc := ⟨.hbm, 602, rfl⟩
abbrev main_v482 : Ref sig .tc := ⟨.hbm, 603, rfl⟩
abbrev main_v483 : Ref sig .tc := ⟨.hbm, 604, rfl⟩
abbrev main_v484 : Ref sig .tc := ⟨.hbm, 605, rfl⟩
abbrev main_v485 : Ref sig .tc := ⟨.hbm, 606, rfl⟩
abbrev main_v486 : Ref sig .tc := ⟨.hbm, 607, rfl⟩
abbrev main_v487 : Ref sig .tc := ⟨.hbm, 608, rfl⟩
abbrev main_v488 : Ref sig .tc := ⟨.hbm, 609, rfl⟩
abbrev main_v489 : Ref sig .tc := ⟨.hbm, 610, rfl⟩
abbrev main_v490 : Ref sig .tc := ⟨.hbm, 611, rfl⟩
abbrev main_v491 : Ref sig .tc := ⟨.hbm, 612, rfl⟩
abbrev main_v492 : Ref sig .tc := ⟨.hbm, 613, rfl⟩
abbrev main_v493 : Ref sig .tc := ⟨.hbm, 614, rfl⟩
abbrev main_v494 : Ref sig .tc := ⟨.hbm, 615, rfl⟩
abbrev main_v495 : Ref sig .tc := ⟨.hbm, 616, rfl⟩
abbrev main_v496 : Ref sig .tc := ⟨.hbm, 617, rfl⟩
abbrev main_v497 : Ref sig .tc := ⟨.hbm, 618, rfl⟩
abbrev main_v498 : Ref sig .tc := ⟨.hbm, 619, rfl⟩
abbrev main_v499 : Ref sig .tc := ⟨.hbm, 620, rfl⟩
abbrev main_v500 : Ref sig .tc := ⟨.hbm, 621, rfl⟩
abbrev main_v501 : Ref sig .tc := ⟨.hbm, 622, rfl⟩
abbrev main_v502 : Ref sig .tc := ⟨.hbm, 623, rfl⟩
abbrev main_v503 : Ref sig .tc := ⟨.hbm, 624, rfl⟩
abbrev main_v504 : Ref sig .tc := ⟨.hbm, 625, rfl⟩
abbrev main_v505 : Ref sig .tc := ⟨.hbm, 626, rfl⟩
abbrev main_v506 : Ref sig .tc := ⟨.hbm, 627, rfl⟩
abbrev main_v507 : Ref sig .tc := ⟨.hbm, 628, rfl⟩
abbrev main_v508 : Ref sig .tc := ⟨.hbm, 629, rfl⟩
abbrev main_v509 : Ref sig .tc := ⟨.hbm, 630, rfl⟩
abbrev main_v510 : Ref sig .tc := ⟨.hbm, 631, rfl⟩
abbrev main_v511 : Ref sig .tc := ⟨.hbm, 632, rfl⟩
abbrev main_v512 : Ref sig .tc := ⟨.hbm, 633, rfl⟩
abbrev main_v513 : Ref sig .tc := ⟨.hbm, 634, rfl⟩
abbrev main_v514 : Ref sig .tc := ⟨.hbm, 635, rfl⟩
abbrev main_v515 : Ref sig .tc := ⟨.hbm, 636, rfl⟩
abbrev main_v516 : Ref sig .tc := ⟨.hbm, 637, rfl⟩
abbrev main_v517 : Ref sig .tc := ⟨.hbm, 638, rfl⟩
abbrev main_v518 : Ref sig .tc := ⟨.hbm, 639, rfl⟩
abbrev main_v519 : Ref sig .tc := ⟨.hbm, 640, rfl⟩
abbrev main_v520 : Ref sig .tc := ⟨.hbm, 641, rfl⟩
abbrev main_v521 : Ref sig .tc := ⟨.hbm, 642, rfl⟩
abbrev main_v522 : Ref sig .tc := ⟨.hbm, 643, rfl⟩
abbrev main_v523 : Ref sig .tc := ⟨.hbm, 644, rfl⟩
abbrev main_v524 : Ref sig .tc := ⟨.hbm, 645, rfl⟩
abbrev main_v525 : Ref sig .tc := ⟨.hbm, 646, rfl⟩
abbrev main_v526 : Ref sig .tc := ⟨.hbm, 647, rfl⟩
abbrev main_v527 : Ref sig .tc := ⟨.hbm, 648, rfl⟩
abbrev main_v528 : Ref sig .tc := ⟨.hbm, 649, rfl⟩
abbrev main_v529 : Ref sig .tc := ⟨.hbm, 650, rfl⟩
abbrev main_v530 : Ref sig .tc := ⟨.hbm, 651, rfl⟩
abbrev main_v531 : Ref sig .tc := ⟨.hbm, 652, rfl⟩
abbrev main_v532 : Ref sig .tc := ⟨.hbm, 653, rfl⟩
abbrev main_v533 : Ref sig .tc := ⟨.hbm, 654, rfl⟩
abbrev main_v534 : Ref sig .tc := ⟨.hbm, 655, rfl⟩
abbrev main_v535 : Ref sig .tc := ⟨.hbm, 656, rfl⟩
abbrev main_v536 : Ref sig .tc := ⟨.hbm, 657, rfl⟩
abbrev main_v537 : Ref sig .tc := ⟨.hbm, 658, rfl⟩
abbrev main_v538 : Ref sig .tc := ⟨.hbm, 659, rfl⟩
abbrev main_v539 : Ref sig .tc := ⟨.hbm, 660, rfl⟩
abbrev main_v540 : Ref sig .tc := ⟨.hbm, 661, rfl⟩
abbrev main_v541 : Ref sig .tc := ⟨.hbm, 662, rfl⟩
abbrev main_v542 : Ref sig .tc := ⟨.hbm, 663, rfl⟩
abbrev main_v543 : Ref sig .tc := ⟨.hbm, 664, rfl⟩
abbrev main_v544 : Ref sig .tc := ⟨.hbm, 665, rfl⟩
abbrev main_v545 : Ref sig .tc := ⟨.hbm, 666, rfl⟩
abbrev main_v546 : Ref sig .tc := ⟨.hbm, 667, rfl⟩
abbrev main_v547 : Ref sig .tc := ⟨.hbm, 668, rfl⟩
abbrev main_v548 : Ref sig .tc := ⟨.hbm, 669, rfl⟩
abbrev main_v549 : Ref sig .tc := ⟨.hbm, 670, rfl⟩
abbrev main_v550 : Ref sig .tc := ⟨.hbm, 671, rfl⟩
abbrev main_v551 : Ref sig .tc := ⟨.hbm, 672, rfl⟩
abbrev main_v552 : Ref sig .tc := ⟨.hbm, 673, rfl⟩
abbrev main_v553 : Ref sig .tc := ⟨.hbm, 674, rfl⟩
abbrev main_v554 : Ref sig .tc := ⟨.hbm, 675, rfl⟩
abbrev main_v555 : Ref sig .tc := ⟨.hbm, 676, rfl⟩
abbrev main_v556 : Ref sig .tc := ⟨.hbm, 677, rfl⟩
abbrev main_v557 : Ref sig .tc := ⟨.hbm, 678, rfl⟩
abbrev main_v558 : Ref sig .tc := ⟨.hbm, 679, rfl⟩
abbrev main_v559 : Ref sig .tc := ⟨.hbm, 680, rfl⟩
abbrev main_v560 : Ref sig .tc := ⟨.hbm, 681, rfl⟩
abbrev main_v561 : Ref sig .tc := ⟨.hbm, 682, rfl⟩
abbrev main_v562 : Ref sig .tc := ⟨.hbm, 683, rfl⟩
abbrev main_v563 : Ref sig .tc := ⟨.hbm, 684, rfl⟩
abbrev main_v564 : Ref sig .tc := ⟨.hbm, 685, rfl⟩
abbrev main_v565 : Ref sig .tc := ⟨.hbm, 686, rfl⟩
abbrev main_v566 : Ref sig .tc := ⟨.hbm, 687, rfl⟩
abbrev main_v567 : Ref sig .tc := ⟨.hbm, 688, rfl⟩
abbrev main_v568 : Ref sig .tc := ⟨.hbm, 689, rfl⟩
abbrev main_v569 : Ref sig .tc := ⟨.hbm, 690, rfl⟩
abbrev main_v570 : Ref sig .tc := ⟨.hbm, 691, rfl⟩
abbrev main_v571 : Ref sig .tc := ⟨.hbm, 692, rfl⟩
abbrev main_v572 : Ref sig .tc := ⟨.hbm, 693, rfl⟩
abbrev main_v573 : Ref sig .tc := ⟨.hbm, 694, rfl⟩
abbrev main_v574 : Ref sig .tc := ⟨.hbm, 695, rfl⟩
abbrev main_v575 : Ref sig .tc := ⟨.hbm, 696, rfl⟩
abbrev main_v576 : Ref sig .tc := ⟨.hbm, 697, rfl⟩
abbrev main_v577 : Ref sig .tc := ⟨.hbm, 698, rfl⟩
abbrev main_v578 : Ref sig .tc := ⟨.hbm, 699, rfl⟩
abbrev main_v579 : Ref sig .tc := ⟨.hbm, 700, rfl⟩
abbrev main_v580 : Ref sig .tc := ⟨.hbm, 701, rfl⟩
abbrev main_v581 : Ref sig .tc := ⟨.hbm, 702, rfl⟩
abbrev main_v582 : Ref sig .tc := ⟨.hbm, 703, rfl⟩
abbrev main_v583 : Ref sig .tc := ⟨.hbm, 704, rfl⟩
abbrev main_v584 : Ref sig .tc := ⟨.hbm, 705, rfl⟩
abbrev main_v585 : Ref sig .tc := ⟨.hbm, 706, rfl⟩
abbrev main_v586 : Ref sig .tc := ⟨.hbm, 707, rfl⟩
abbrev main_v587 : Ref sig .tc := ⟨.hbm, 708, rfl⟩
abbrev main_v588 : Ref sig .tc := ⟨.hbm, 709, rfl⟩
abbrev main_v589 : Ref sig .tc := ⟨.hbm, 710, rfl⟩
abbrev main_v590 : Ref sig .tc := ⟨.hbm, 711, rfl⟩
abbrev main_v591 : Ref sig .tc := ⟨.hbm, 712, rfl⟩
abbrev main_v592 : Ref sig .tc := ⟨.hbm, 713, rfl⟩
abbrev main_v593 : Ref sig .tc := ⟨.hbm, 714, rfl⟩
abbrev main_v594 : Ref sig .tc := ⟨.hbm, 715, rfl⟩
abbrev main_v595 : Ref sig .tc := ⟨.hbm, 716, rfl⟩
abbrev main_v596 : Ref sig .tc := ⟨.hbm, 717, rfl⟩
abbrev main_v597 : Ref sig .tc := ⟨.hbm, 718, rfl⟩
abbrev main_v598 : Ref sig .tc := ⟨.hbm, 719, rfl⟩
abbrev main_v599 : Ref sig .tc := ⟨.hbm, 720, rfl⟩
abbrev main_v600 : Ref sig .tc := ⟨.hbm, 721, rfl⟩
abbrev main_v601 : Ref sig .tc := ⟨.hbm, 722, rfl⟩
abbrev main_v602 : Ref sig .tc := ⟨.hbm, 723, rfl⟩
abbrev main_v603 : Ref sig .tc := ⟨.hbm, 724, rfl⟩
abbrev main_v604 : Ref sig .tc := ⟨.hbm, 725, rfl⟩
abbrev main_v605 : Ref sig .tc := ⟨.hbm, 726, rfl⟩
abbrev main_v606 : Ref sig .tc := ⟨.hbm, 727, rfl⟩
abbrev main_v607 : Ref sig .tc := ⟨.hbm, 728, rfl⟩
abbrev main_v608 : Ref sig .tc := ⟨.hbm, 729, rfl⟩
abbrev main_v609 : Ref sig .tc := ⟨.hbm, 730, rfl⟩
abbrev main_v610 : Ref sig .tc := ⟨.hbm, 731, rfl⟩
abbrev main_v611 : Ref sig .tc := ⟨.hbm, 732, rfl⟩
abbrev main_v612 : Ref sig .tc := ⟨.hbm, 733, rfl⟩
abbrev main_v613 : Ref sig .tc := ⟨.hbm, 734, rfl⟩
abbrev main_v614 : Ref sig .tc := ⟨.hbm, 735, rfl⟩
abbrev main_v615 : Ref sig .tc := ⟨.hbm, 736, rfl⟩
abbrev main_v616 : Ref sig .tc := ⟨.hbm, 737, rfl⟩
abbrev main_v617 : Ref sig .tc := ⟨.hbm, 738, rfl⟩
abbrev main_v618 : Ref sig .tc := ⟨.hbm, 739, rfl⟩
abbrev main_v619 : Ref sig .tc := ⟨.hbm, 740, rfl⟩
abbrev main_v620 : Ref sig .tc := ⟨.hbm, 741, rfl⟩
abbrev main_v621 : Ref sig .tc := ⟨.hbm, 742, rfl⟩
abbrev main_v622 : Ref sig .tc := ⟨.hbm, 743, rfl⟩
abbrev main_v623 : Ref sig .tc := ⟨.hbm, 744, rfl⟩
abbrev main_v624 : Ref sig .tc := ⟨.hbm, 745, rfl⟩
abbrev main_v625 : Ref sig .tc := ⟨.hbm, 746, rfl⟩
abbrev main_v626 : Ref sig .tc := ⟨.hbm, 747, rfl⟩
abbrev main_v627 : Ref sig .tc := ⟨.hbm, 748, rfl⟩
abbrev main_v628 : Ref sig .tc := ⟨.hbm, 749, rfl⟩
abbrev main_v629 : Ref sig .tc := ⟨.hbm, 750, rfl⟩
abbrev main_v630 : Ref sig .tc := ⟨.hbm, 751, rfl⟩
abbrev main_v631 : Ref sig .tc := ⟨.hbm, 752, rfl⟩
abbrev main_v632 : Ref sig .tc := ⟨.hbm, 753, rfl⟩
abbrev main_v633 : Ref sig .tc := ⟨.hbm, 754, rfl⟩
abbrev main_v634 : Ref sig .tc := ⟨.hbm, 755, rfl⟩
abbrev main_v635 : Ref sig .tc := ⟨.hbm, 756, rfl⟩
abbrev main_v636 : Ref sig .tc := ⟨.hbm, 757, rfl⟩
abbrev main_v637 : Ref sig .tc := ⟨.hbm, 758, rfl⟩
abbrev main_v638 : Ref sig .tc := ⟨.hbm, 759, rfl⟩
abbrev main_v639 : Ref sig .tc := ⟨.hbm, 760, rfl⟩
abbrev main_v640 : Ref sig .tc := ⟨.hbm, 761, rfl⟩
abbrev main_v641 : Ref sig .tc := ⟨.hbm, 762, rfl⟩
abbrev main_v642 : Ref sig .tc := ⟨.hbm, 763, rfl⟩
abbrev main_v643 : Ref sig .tc := ⟨.hbm, 764, rfl⟩
abbrev main_v644 : Ref sig .tc := ⟨.hbm, 765, rfl⟩
abbrev main_v645 : Ref sig .tc := ⟨.hbm, 766, rfl⟩
abbrev main_v646 : Ref sig .tc := ⟨.hbm, 767, rfl⟩
abbrev main_v647 : Ref sig .tc := ⟨.hbm, 768, rfl⟩
abbrev main_v648 : Ref sig .tc := ⟨.hbm, 769, rfl⟩
abbrev main_v649 : Ref sig .tc := ⟨.hbm, 770, rfl⟩
abbrev main_v650 : Ref sig .tc := ⟨.hbm, 771, rfl⟩
abbrev main_v651 : Ref sig .tc := ⟨.hbm, 772, rfl⟩
abbrev main_v652 : Ref sig .tc := ⟨.hbm, 773, rfl⟩
abbrev main_v653 : Ref sig .tc := ⟨.hbm, 774, rfl⟩
abbrev main_v654 : Ref sig .tc := ⟨.hbm, 775, rfl⟩
abbrev main_v655 : Ref sig .tc := ⟨.hbm, 776, rfl⟩
abbrev main_v656 : Ref sig .tc := ⟨.hbm, 777, rfl⟩
abbrev main_v657 : Ref sig .tc := ⟨.hbm, 778, rfl⟩
abbrev main_v658 : Ref sig .tc := ⟨.hbm, 779, rfl⟩
abbrev main_v659 : Ref sig .tc := ⟨.hbm, 780, rfl⟩
abbrev main_v660 : Ref sig .tc := ⟨.hbm, 781, rfl⟩
abbrev main_v661 : Ref sig .tc := ⟨.hbm, 782, rfl⟩
abbrev main_v662 : Ref sig .tc := ⟨.hbm, 783, rfl⟩
abbrev main_v663 : Ref sig .tc := ⟨.hbm, 784, rfl⟩
abbrev main_v664 : Ref sig .tc := ⟨.hbm, 785, rfl⟩
abbrev main_v665 : Ref sig .tc := ⟨.hbm, 786, rfl⟩
abbrev main_v666 : Ref sig .tc := ⟨.hbm, 787, rfl⟩
abbrev main_v667 : Ref sig .tc := ⟨.hbm, 788, rfl⟩
abbrev main_v668 : Ref sig .tc := ⟨.hbm, 789, rfl⟩
abbrev main_v669 : Ref sig .tc := ⟨.hbm, 790, rfl⟩
abbrev main_v670 : Ref sig .tc := ⟨.hbm, 791, rfl⟩
abbrev main_v671 : Ref sig .tc := ⟨.hbm, 792, rfl⟩
abbrev main_v672 : Ref sig .tc := ⟨.hbm, 793, rfl⟩
abbrev main_v673 : Ref sig .tc := ⟨.hbm, 794, rfl⟩
abbrev main_v674 : Ref sig .tc := ⟨.hbm, 795, rfl⟩
abbrev main_v675 : Ref sig .tc := ⟨.hbm, 796, rfl⟩
abbrev main_v676 : Ref sig .tc := ⟨.hbm, 797, rfl⟩
abbrev main_v677 : Ref sig .tc := ⟨.hbm, 798, rfl⟩
abbrev main_v678 : Ref sig .tc := ⟨.hbm, 799, rfl⟩
abbrev main_v679 : Ref sig .tc := ⟨.hbm, 800, rfl⟩
abbrev main_v680 : Ref sig .tc := ⟨.hbm, 801, rfl⟩
abbrev main_v681 : Ref sig .tc := ⟨.hbm, 802, rfl⟩
abbrev main_v682 : Ref sig .tc := ⟨.hbm, 803, rfl⟩
abbrev main_v683 : Ref sig .tc := ⟨.hbm, 804, rfl⟩
abbrev main_v684 : Ref sig .tc := ⟨.hbm, 805, rfl⟩
abbrev main_v685 : Ref sig .tc := ⟨.hbm, 806, rfl⟩
abbrev main_v686 : Ref sig .tc := ⟨.hbm, 807, rfl⟩
abbrev main_v687 : Ref sig .tc := ⟨.hbm, 808, rfl⟩
abbrev main_v688 : Ref sig .tc := ⟨.hbm, 809, rfl⟩
abbrev main_v689 : Ref sig .tc := ⟨.hbm, 810, rfl⟩
abbrev main_v690 : Ref sig .tc := ⟨.hbm, 811, rfl⟩
abbrev main_v691 : Ref sig .tc := ⟨.hbm, 812, rfl⟩
abbrev main_v692 : Ref sig .tc := ⟨.hbm, 813, rfl⟩
abbrev main_v693 : Ref sig .tc := ⟨.hbm, 814, rfl⟩
abbrev main_v694 : Ref sig .tc := ⟨.hbm, 815, rfl⟩
abbrev main_v695 : Ref sig .tc := ⟨.hbm, 816, rfl⟩
abbrev main_v696 : Ref sig .tc := ⟨.hbm, 817, rfl⟩
abbrev main_v697 : Ref sig .tc := ⟨.hbm, 818, rfl⟩
abbrev main_v698 : Ref sig .tc := ⟨.hbm, 819, rfl⟩
abbrev main_v699 : Ref sig .tc := ⟨.hbm, 820, rfl⟩
abbrev main_v700 : Ref sig .tc := ⟨.hbm, 821, rfl⟩
abbrev main_v701 : Ref sig .tc := ⟨.hbm, 822, rfl⟩
abbrev main_v702 : Ref sig .tc := ⟨.hbm, 823, rfl⟩
abbrev main_v703 : Ref sig .tc := ⟨.hbm, 824, rfl⟩
abbrev main_v704 : Ref sig .tc := ⟨.hbm, 825, rfl⟩
abbrev main_v705 : Ref sig .tc := ⟨.hbm, 826, rfl⟩
abbrev main_v706 : Ref sig .tc := ⟨.hbm, 827, rfl⟩
abbrev main_v707 : Ref sig .tc := ⟨.hbm, 828, rfl⟩
abbrev main_v708 : Ref sig .tc := ⟨.hbm, 829, rfl⟩
abbrev main_v709 : Ref sig .tc := ⟨.hbm, 830, rfl⟩
abbrev main_v710 : Ref sig .tc := ⟨.hbm, 831, rfl⟩
abbrev main_v711 : Ref sig .tc := ⟨.hbm, 832, rfl⟩
abbrev main_v712 : Ref sig .tc := ⟨.hbm, 833, rfl⟩
abbrev main_v713 : Ref sig .tc := ⟨.hbm, 834, rfl⟩
abbrev main_v714 : Ref sig .tc := ⟨.hbm, 835, rfl⟩
abbrev main_v715 : Ref sig .tc := ⟨.hbm, 836, rfl⟩
abbrev main_v716 : Ref sig .tc := ⟨.hbm, 837, rfl⟩
abbrev main_v717 : Ref sig .tc := ⟨.hbm, 838, rfl⟩
abbrev main_v718 : Ref sig .tc := ⟨.hbm, 839, rfl⟩
abbrev main_v719 : Ref sig .tc := ⟨.hbm, 840, rfl⟩
abbrev main_v720 : Ref sig .tc := ⟨.hbm, 841, rfl⟩
abbrev main_v721 : Ref sig .tc := ⟨.hbm, 842, rfl⟩
abbrev main_v722 : Ref sig .tc := ⟨.hbm, 843, rfl⟩
abbrev main_v723 : Ref sig .tc := ⟨.hbm, 844, rfl⟩
abbrev main_v724 : Ref sig .tc := ⟨.hbm, 845, rfl⟩
abbrev main_v725 : Ref sig .tc := ⟨.hbm, 846, rfl⟩
abbrev main_v726 : Ref sig .tc := ⟨.hbm, 847, rfl⟩
abbrev main_v727 : Ref sig .tc := ⟨.hbm, 848, rfl⟩
abbrev main_v728 : Ref sig .tc := ⟨.hbm, 849, rfl⟩
abbrev main_v729 : Ref sig .tc := ⟨.hbm, 850, rfl⟩
abbrev main_v730 : Ref sig .tc := ⟨.hbm, 851, rfl⟩
abbrev main_v731 : Ref sig .tc := ⟨.hbm, 852, rfl⟩
abbrev main_v732 : Ref sig .tc := ⟨.hbm, 853, rfl⟩
abbrev main_v733 : Ref sig .tc := ⟨.hbm, 854, rfl⟩
abbrev main_v734 : Ref sig .tc := ⟨.hbm, 855, rfl⟩
abbrev main_v735 : Ref sig .tc := ⟨.hbm, 856, rfl⟩
abbrev main_v736 : Ref sig .tc := ⟨.hbm, 857, rfl⟩
abbrev main_v737 : Ref sig .tc := ⟨.hbm, 858, rfl⟩
abbrev main_v738 : Ref sig .tc := ⟨.hbm, 859, rfl⟩
abbrev main_v739 : Ref sig .tc := ⟨.hbm, 860, rfl⟩
abbrev main_v740 : Ref sig .tc := ⟨.hbm, 861, rfl⟩
abbrev main_v741 : Ref sig .tc := ⟨.hbm, 862, rfl⟩
abbrev main_v742 : Ref sig .tc := ⟨.hbm, 863, rfl⟩
abbrev main_v743 : Ref sig .tc := ⟨.hbm, 864, rfl⟩
abbrev main_v744 : Ref sig .tc := ⟨.hbm, 865, rfl⟩
abbrev main_v745 : Ref sig .tc := ⟨.hbm, 866, rfl⟩
abbrev main_v746 : Ref sig .tc := ⟨.hbm, 867, rfl⟩
abbrev main_v747 : Ref sig .tc := ⟨.hbm, 868, rfl⟩
abbrev main_v748 : Ref sig .tc := ⟨.hbm, 869, rfl⟩
abbrev main_v749 : Ref sig .tc := ⟨.hbm, 870, rfl⟩
abbrev main_v750 : Ref sig .tc := ⟨.hbm, 871, rfl⟩
abbrev main_v751 : Ref sig .tc := ⟨.hbm, 872, rfl⟩
abbrev main_v752 : Ref sig .tc := ⟨.hbm, 873, rfl⟩
abbrev main_v753 : Ref sig .tc := ⟨.hbm, 874, rfl⟩
abbrev main_v754 : Ref sig .tc := ⟨.hbm, 875, rfl⟩
abbrev main_v755 : Ref sig .tc := ⟨.hbm, 876, rfl⟩
abbrev main_v756 : Ref sig .tc := ⟨.hbm, 877, rfl⟩
abbrev main_v757 : Ref sig .tc := ⟨.hbm, 878, rfl⟩
abbrev main_v758 : Ref sig .tc := ⟨.hbm, 879, rfl⟩
abbrev main_v759 : Ref sig .tc := ⟨.hbm, 880, rfl⟩
abbrev main_v760 : Ref sig .tc := ⟨.hbm, 881, rfl⟩
abbrev main_v761 : Ref sig .tc := ⟨.hbm, 882, rfl⟩
abbrev main_cst_22 : Ref sig .tc := ⟨.hbm, 883, rfl⟩
abbrev main_v762 : Ref sig .tc := ⟨.hbm, 884, rfl⟩
abbrev main_v763 : Ref sig .tc := ⟨.hbm, 885, rfl⟩
abbrev main_cst_23 : Ref sig .tc := ⟨.hbm, 886, rfl⟩
abbrev main_v764 : Ref sig .tc := ⟨.hbm, 887, rfl⟩
abbrev main_v765 : Ref sig .tc := ⟨.hbm, 888, rfl⟩
abbrev main_v766 : Ref sig .tc := ⟨.hbm, 889, rfl⟩
abbrev main_cst_24 : Ref sig .tc := ⟨.hbm, 890, rfl⟩
abbrev main_v767 : Ref sig .tc := ⟨.hbm, 891, rfl⟩
abbrev main_v768 : Ref sig .tc := ⟨.hbm, 892, rfl⟩
abbrev main_v769 : Ref sig .tc := ⟨.hbm, 893, rfl⟩
abbrev main_v770 : Ref sig .tc := ⟨.hbm, 894, rfl⟩
abbrev main_v771 : Ref sig .tc := ⟨.hbm, 895, rfl⟩
abbrev main_v772 : Ref sig .tc := ⟨.hbm, 896, rfl⟩
abbrev main_v773 : Ref sig .tc := ⟨.hbm, 897, rfl⟩
abbrev main_v774 : Ref sig .tc := ⟨.hbm, 898, rfl⟩
abbrev main_v775 : Ref sig .tc := ⟨.hbm, 899, rfl⟩
abbrev main_cst_25 : Ref sig .tc := ⟨.hbm, 900, rfl⟩
abbrev main_v776 : Ref sig .tc := ⟨.hbm, 901, rfl⟩
abbrev main_v777 : Ref sig .tc := ⟨.hbm, 902, rfl⟩
abbrev main_cst_26 : Ref sig .tc := ⟨.hbm, 903, rfl⟩
abbrev main_v778 : Ref sig .tc := ⟨.hbm, 904, rfl⟩
abbrev main_v779 : Ref sig .tc := ⟨.hbm, 905, rfl⟩
abbrev main_v780 : Ref sig .tc := ⟨.hbm, 906, rfl⟩
abbrev main_cst_27 : Ref sig .tc := ⟨.hbm, 907, rfl⟩
abbrev main_v781 : Ref sig .tc := ⟨.hbm, 908, rfl⟩
abbrev main_v782 : Ref sig .tc := ⟨.hbm, 909, rfl⟩
abbrev main_v783 : Ref sig .tc := ⟨.hbm, 910, rfl⟩
abbrev main_v784 : Ref sig .tc := ⟨.hbm, 911, rfl⟩
abbrev main_cst_28 : Ref sig .tc := ⟨.hbm, 912, rfl⟩
abbrev main_v785 : Ref sig .tc := ⟨.hbm, 913, rfl⟩
abbrev main_v786 : Ref sig .tc := ⟨.hbm, 914, rfl⟩
abbrev main_v787 : Ref sig .tc := ⟨.hbm, 915, rfl⟩
abbrev main_v788 : Ref sig .tc := ⟨.hbm, 916, rfl⟩
abbrev main_v789 : Ref sig .tc := ⟨.hbm, 917, rfl⟩
abbrev main_v790 : Ref sig .tc := ⟨.hbm, 918, rfl⟩
abbrev main_v791 : Ref sig .tc := ⟨.hbm, 919, rfl⟩
abbrev main_v792 : Ref sig .tc := ⟨.hbm, 920, rfl⟩
abbrev main_v793 : Ref sig .tc := ⟨.hbm, 921, rfl⟩
abbrev main_v794 : Ref sig .tc := ⟨.hbm, 922, rfl⟩
abbrev main_cst_29 : Ref sig .tc := ⟨.hbm, 923, rfl⟩
abbrev main_v795 : Ref sig .tc := ⟨.hbm, 924, rfl⟩
abbrev main_v796 : Ref sig .tc := ⟨.hbm, 925, rfl⟩
abbrev main_cst_30 : Ref sig .tc := ⟨.hbm, 926, rfl⟩
abbrev main_v797 : Ref sig .tc := ⟨.hbm, 927, rfl⟩
abbrev main_v798 : Ref sig .tc := ⟨.hbm, 928, rfl⟩
abbrev main_v799 : Ref sig .tc := ⟨.hbm, 929, rfl⟩
abbrev main_v800 : Ref sig .tc := ⟨.hbm, 930, rfl⟩
abbrev main_v801 : Ref sig .tc := ⟨.hbm, 931, rfl⟩
abbrev main_v802 : Ref sig .tc := ⟨.hbm, 932, rfl⟩
abbrev main_v803 : Ref sig .tc := ⟨.hbm, 933, rfl⟩
abbrev main_v804 : Ref sig .tc := ⟨.hbm, 934, rfl⟩
abbrev main_call7_cst : Ref sig .tc := ⟨.hbm, 935, rfl⟩
abbrev main_call7_v0 : Ref sig .tc := ⟨.hbm, 936, rfl⟩
abbrev main_v805 : Ref sig .tc := ⟨.hbm, 937, rfl⟩
abbrev main_cst_31 : Ref sig .tc := ⟨.hbm, 938, rfl⟩
abbrev main_v806 : Ref sig .tc := ⟨.hbm, 939, rfl⟩
abbrev main_v807 : Ref sig .tc := ⟨.hbm, 940, rfl⟩
abbrev main_v808 : Ref sig .tc := ⟨.hbm, 941, rfl⟩
abbrev main_cst_32 : Ref sig .tc := ⟨.hbm, 942, rfl⟩
abbrev main_v809 : Ref sig .tc := ⟨.hbm, 943, rfl⟩
abbrev main_v810 : Ref sig .tc := ⟨.hbm, 944, rfl⟩
abbrev main_cst_33 : Ref sig .tc := ⟨.hbm, 945, rfl⟩
abbrev main_v811 : Ref sig .tc := ⟨.hbm, 946, rfl⟩
abbrev main_v812 : Ref sig .tc := ⟨.hbm, 947, rfl⟩
abbrev main_cst_34 : Ref sig .tc := ⟨.hbm, 948, rfl⟩
abbrev main_v813 : Ref sig .tc := ⟨.hbm, 949, rfl⟩
abbrev main_v814 : Ref sig .tc := ⟨.hbm, 950, rfl⟩
abbrev main_v815 : Ref sig .tc := ⟨.hbm, 951, rfl⟩
abbrev main_call8_cst : Ref sig .tc := ⟨.hbm, 952, rfl⟩
abbrev main_call8_v0 : Ref sig .tc := ⟨.hbm, 953, rfl⟩
abbrev main_call8_v1 : Ref sig .tc := ⟨.hbm, 954, rfl⟩
abbrev main_call8_cst_0 : Ref sig .tc := ⟨.hbm, 955, rfl⟩
abbrev main_call8_v2 : Ref sig .tc := ⟨.hbm, 956, rfl⟩
abbrev main_v816 : Ref sig .tc := ⟨.hbm, 957, rfl⟩
abbrev main_cst_35 : Ref sig .tc := ⟨.hbm, 958, rfl⟩
abbrev main_v817 : Ref sig .tc := ⟨.hbm, 959, rfl⟩
abbrev main_v818 : Ref sig .tc := ⟨.hbm, 960, rfl⟩
abbrev main_v819 : Ref sig .tc := ⟨.hbm, 961, rfl⟩
abbrev main_v820 : Ref sig .tc := ⟨.hbm, 962, rfl⟩
abbrev main_cst_36 : Ref sig .tc := ⟨.hbm, 963, rfl⟩
abbrev main_v821 : Ref sig .tc := ⟨.hbm, 964, rfl⟩
abbrev main_v822 : Ref sig .tc := ⟨.hbm, 965, rfl⟩
abbrev main_v823 : Ref sig .tc := ⟨.hbm, 966, rfl⟩
abbrev main_v824 : Ref sig .tc := ⟨.hbm, 967, rfl⟩
abbrev main_v825 : Ref sig .tc := ⟨.hbm, 968, rfl⟩
abbrev main_cst_37 : Ref sig .tc := ⟨.hbm, 969, rfl⟩
abbrev main_v826 : Ref sig .tc := ⟨.hbm, 970, rfl⟩
abbrev main_v827 : Ref sig .tc := ⟨.hbm, 971, rfl⟩
abbrev main_v828 : Ref sig .tc := ⟨.hbm, 972, rfl⟩
abbrev main_v829 : Ref sig .tc := ⟨.hbm, 973, rfl⟩
abbrev main_v830 : Ref sig .tc := ⟨.hbm, 974, rfl⟩
abbrev main_v831 : Ref sig .tc := ⟨.hbm, 975, rfl⟩
abbrev main_v832 : Ref sig .tc := ⟨.hbm, 976, rfl⟩
abbrev main_v833 : Ref sig .tc := ⟨.hbm, 977, rfl⟩
abbrev main_v834 : Ref sig .tc := ⟨.hbm, 978, rfl⟩
abbrev main_v835 : Ref sig .tc := ⟨.hbm, 979, rfl⟩
abbrev main_cst_38 : Ref sig .tc := ⟨.hbm, 980, rfl⟩
abbrev main_v836 : Ref sig .tc := ⟨.hbm, 981, rfl⟩
abbrev main_v837 : Ref sig .tc := ⟨.hbm, 982, rfl⟩
abbrev main_v838 : Ref sig .tc := ⟨.hbm, 983, rfl⟩
abbrev main_cst_39 : Ref sig .tc := ⟨.hbm, 984, rfl⟩
abbrev main_v839 : Ref sig .tc := ⟨.hbm, 985, rfl⟩
abbrev main_v840 : Ref sig .tc := ⟨.hbm, 986, rfl⟩
abbrev main_cst_40 : Ref sig .tc := ⟨.hbm, 987, rfl⟩
abbrev main_v841 : Ref sig .tc := ⟨.hbm, 988, rfl⟩
abbrev main_v842 : Ref sig .tc := ⟨.hbm, 989, rfl⟩
abbrev main_v843 : Ref sig .tc := ⟨.hbm, 990, rfl⟩
abbrev main_cst_41 : Ref sig .tc := ⟨.hbm, 991, rfl⟩
abbrev main_v844 : Ref sig .tc := ⟨.hbm, 992, rfl⟩
abbrev main_v845 : Ref sig .tc := ⟨.hbm, 993, rfl⟩
abbrev main_call10_v0 : Ref sig .tc := ⟨.hbm, 994, rfl⟩
abbrev main_call10_v1 : Ref sig .tc := ⟨.hbm, 995, rfl⟩
abbrev main_call10_v2 : Ref sig .tc := ⟨.hbm, 996, rfl⟩
abbrev main_v846 : Ref sig .tc := ⟨.hbm, 997, rfl⟩
abbrev main_v847 : Ref sig .tc := ⟨.hbm, 998, rfl⟩
abbrev main_v848 : Ref sig .tc := ⟨.hbm, 999, rfl⟩
abbrev main_v849 : Ref sig .tc := ⟨.hbm, 1000, rfl⟩
abbrev main_cst_42 : Ref sig .tc := ⟨.hbm, 1001, rfl⟩
abbrev main_v850 : Ref sig .tc := ⟨.hbm, 1002, rfl⟩
abbrev main_v851 : Ref sig .tc := ⟨.hbm, 1003, rfl⟩
abbrev main_cst_43 : Ref sig .tc := ⟨.hbm, 1004, rfl⟩
abbrev main_v852 : Ref sig .tc := ⟨.hbm, 1005, rfl⟩
abbrev main_cst_44 : Ref sig .tc := ⟨.hbm, 1006, rfl⟩
abbrev main_v853 : Ref sig .tc := ⟨.hbm, 1007, rfl⟩
abbrev main_v854 : Ref sig .tc := ⟨.hbm, 1008, rfl⟩
abbrev main_v855 : Ref sig .tc := ⟨.hbm, 1009, rfl⟩
abbrev main_v856 : Ref sig .tc := ⟨.hbm, 1010, rfl⟩
abbrev main_cst_45 : Ref sig .tc := ⟨.hbm, 1011, rfl⟩
abbrev main_v857 : Ref sig .tc := ⟨.hbm, 1012, rfl⟩
abbrev main_v858 : Ref sig .tc := ⟨.hbm, 1013, rfl⟩
abbrev main_cst_46 : Ref sig .tc := ⟨.hbm, 1014, rfl⟩
abbrev main_v859 : Ref sig .tc := ⟨.hbm, 1015, rfl⟩
abbrev main_v860 : Ref sig .tc := ⟨.hbm, 1016, rfl⟩
abbrev main_cst_47 : Ref sig .tc := ⟨.hbm, 1017, rfl⟩
abbrev main_v861 : Ref sig .tc := ⟨.hbm, 1018, rfl⟩
abbrev main_v862 : Ref sig .tc := ⟨.hbm, 1019, rfl⟩
abbrev main_v863 : Ref sig .tc := ⟨.hbm, 1020, rfl⟩
abbrev main_v864 : Ref sig .tc := ⟨.hbm, 1021, rfl⟩
abbrev main_v865 : Ref sig .tc := ⟨.hbm, 1022, rfl⟩
abbrev main_cst_48 : Ref sig .tc := ⟨.hbm, 1023, rfl⟩
abbrev main_v866 : Ref sig .tc := ⟨.hbm, 1024, rfl⟩
abbrev main_v867 : Ref sig .tc := ⟨.hbm, 1025, rfl⟩
abbrev main_cst_49 : Ref sig .tc := ⟨.hbm, 1026, rfl⟩
abbrev main_v868 : Ref sig .tc := ⟨.hbm, 1027, rfl⟩
abbrev main_v869 : Ref sig .tc := ⟨.hbm, 1028, rfl⟩
abbrev main_cst_50 : Ref sig .tc := ⟨.hbm, 1029, rfl⟩
abbrev main_v870 : Ref sig .tc := ⟨.hbm, 1030, rfl⟩
abbrev main_v871 : Ref sig .tc := ⟨.hbm, 1031, rfl⟩
abbrev main_cst_51 : Ref sig .tc := ⟨.hbm, 1032, rfl⟩
abbrev main_v872 : Ref sig .tc := ⟨.hbm, 1033, rfl⟩
abbrev main_v873 : Ref sig .tc := ⟨.hbm, 1034, rfl⟩
abbrev main_v874 : Ref sig .tc := ⟨.hbm, 1035, rfl⟩
abbrev main_v875 : Ref sig .tc := ⟨.hbm, 1036, rfl⟩
abbrev main_v876 : Ref sig .tc := ⟨.hbm, 1037, rfl⟩
abbrev main_cst_52 : Ref sig .tc := ⟨.hbm, 1038, rfl⟩
abbrev main_v877 : Ref sig .tc := ⟨.hbm, 1039, rfl⟩
abbrev main_v878 : Ref sig .tc := ⟨.hbm, 1040, rfl⟩
abbrev main_cst_53 : Ref sig .tc := ⟨.hbm, 1041, rfl⟩
abbrev main_v879 : Ref sig .tc := ⟨.hbm, 1042, rfl⟩
abbrev main_v880 : Ref sig .tc := ⟨.hbm, 1043, rfl⟩
abbrev main_v881 : Ref sig .tc := ⟨.hbm, 1044, rfl⟩
abbrev main_v882 : Ref sig .tc := ⟨.hbm, 1045, rfl⟩
abbrev main_v883 : Ref sig .tc := ⟨.hbm, 1046, rfl⟩
abbrev main_cst_54 : Ref sig .tc := ⟨.hbm, 1047, rfl⟩
abbrev main_v884 : Ref sig .tc := ⟨.hbm, 1048, rfl⟩
abbrev main_v885 : Ref sig .tc := ⟨.hbm, 1049, rfl⟩
abbrev main_v886 : Ref sig .tc := ⟨.hbm, 1050, rfl⟩
abbrev main_cst_55 : Ref sig .tc := ⟨.hbm, 1051, rfl⟩
abbrev main_v887 : Ref sig .tc := ⟨.hbm, 1052, rfl⟩
abbrev main_v888 : Ref sig .tc := ⟨.hbm, 1053, rfl⟩
abbrev main_c_56 : Ref sig .tc := ⟨.hbm, 1054, rfl⟩
abbrev main_call11_v0 : Ref sig .tc := ⟨.hbm, 1055, rfl⟩
abbrev main_v889 : Ref sig .tc := ⟨.hbm, 1056, rfl⟩
abbrev main_v890 : Ref sig .tc := ⟨.hbm, 1057, rfl⟩

abbrev nD : Nat := 1
abbrev τ : Topo := Topo.v7x

variable {F : FTy → Type} [FloatOps F]
-- ==== Prenorm.lean ====
abbrev S4096x1024 : Shape := ⟨2, ![4096, 1024]⟩
abbrev S1x1024 : Shape := ⟨2, ![1, 1024]⟩
abbrev S1024x6672 : Shape := ⟨2, ![1024, 6672]⟩
abbrev S6672x1024 : Shape := ⟨2, ![6672, 1024]⟩
abbrev S_ : Shape := ⟨0, ![]⟩
abbrev S7168x1024 : Shape := ⟨2, ![7168, 1024]⟩
abbrev S4096x7168 : Shape := ⟨2, ![4096, 7168]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 10
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x6672, .f32⟩
  | .hbm, ⟨3, _⟩ => ⟨S6672x1024, .f32⟩
  | .hbm, ⟨4, _⟩ => ⟨S6672x1024, .bf16⟩
  | .hbm, ⟨5, _⟩ => ⟨S_, .i32⟩
  | .hbm, ⟨6, _⟩ => ⟨S_, .bf16⟩
  | .hbm, ⟨7, _⟩ => ⟨S7168x1024, .bf16⟩
  | .hbm, ⟨8, _⟩ => ⟨S4096x7168, .f32⟩
  | .hbm, ⟨9, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S7168x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 7], ![false, false]⟩

def k0_mult1 (i : grid0.Coords) : BitVec 32 :=
  let arg1 : BitVec 32 := BitVec.ofNat 32 (i 1).val
  let c1024_i32 : BitVec 32 := 1024#32
  let v5 : BitVec 32 := Scalar.muli arg1 c1024_i32
  v5
def k0_off1 (i : grid0.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S7168x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== PrenormRefIdeal.lean ====
abbrev S4096x1024 : Shape := ⟨2, ![4096, 1024]⟩
abbrev S1x1024 : Shape := ⟨2, ![1, 1024]⟩
abbrev S1024x6672 : Shape := ⟨2, ![1024, 6672]⟩
abbrev S_ : Shape := ⟨0, ![]⟩
abbrev S4096 : Shape := ⟨1, ![4096]⟩
abbrev S4096x1 : Shape := ⟨2, ![4096, 1]⟩
abbrev S1024x7168 : Shape := ⟨2, ![1024, 7168]⟩
abbrev S4096x7168 : Shape := ⟨2, ![4096, 7168]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x6672, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .i32⟩
  | .hbm, ⟨19, _⟩ => ⟨S_, .f32⟩
  | .hbm, ⟨20, _⟩ => ⟨S1024x7168, .f32⟩
  | .hbm, ⟨21, _⟩ => ⟨S4096x7168, .f32⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_call0_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Proof.Lift.lean ====
/- Arrays of real numbers as arrays of extended reals, and the operations of a program on them: on finite
   operands every operation used here stays finite, so that the two programs can be compared over ℝ. -/
module

public import Idealize.ShloMosaic.PureOps.Ideal
public import Idealize.ShloMosaic.Lib.Pointwise
public import Mathlib.Tactic.NormNum

@[expose] public section

set_option maxRecDepth 16384

noncomputable section

namespace Cert.Lift

open Idealize.ShloMosaic

/-- A real vector as an array of extended reals. -/
def up1 {n : ℕ} (a : Fin n → ℝ) : (⟨1, ![n]⟩ : Shape).Idx → EReal := fun i => ((a (i 0) : ℝ) : EReal)

/-- A real matrix as an array of extended reals. -/
def up2 {n k : ℕ} (a : Fin n → Fin k → ℝ) : (⟨2, ![n, k]⟩ : Shape).Idx → EReal := fun i => ((a (i 0) (i 1) : ℝ) : EReal)

theorem coe_sum {ι : Type} (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

theorem div_coe_coe (x : ℝ) {y : ℝ} (h : y ≠ 0) : Ideal.div (x : EReal) (y : EReal) = ((x / y : ℝ) : EReal) := by
  rw [Ideal.div_coe h, ← EReal.coe_mul, mul_one_div]

theorem rsqrt_coe {x : ℝ} (h : 0 < x) : Ideal.rsqrt (x : EReal) = (((Real.sqrt x)⁻¹ : ℝ) : EReal) := by
  show (if x < 0 then ⊥ else if x = 0 then ⊤ else (((Real.sqrt x)⁻¹ : ℝ) : EReal)) = _
  rw [if_neg (not_lt.2 h.le), if_neg h.ne']

/-- An array with no infinite entry is a real array. -/
theorem eq_up2 {n k : ℕ} (X : (⟨2, ![n, k]⟩ : Shape).Idx → EReal) (h : ∀ i, X i ≠ ⊤ ∧ X i ≠ ⊥) :
    X = up2 fun r d => (X (ix2 r d)).toReal := by
  funext i
  rw [eq_ix2 i]
  exact (EReal.coe_toReal (h _).1 (h _).2).symm

/-- The comparison of an absolute value with infinity: the entry is finite. -/
theorem finite_of_abs_lt {x : EReal} (h : max x (-x) < ⊤) : x ≠ ⊤ ∧ x ≠ ⊥ := by
  constructor
  · rintro rfl; simp at h
  · rintro rfl; simp at h

/-- An array whose absolute values all compare below infinity. -/
theorem finite_of_cmp {s : Shape} {φ : FTy} (X B : FVec Ideal s φ) (hB : ∀ i, B i = (⊤ : EReal)) (h : cmpf .olt (Host.absf X) B = fun _ => 1#1) (i : s.Idx) :
    X i ≠ (⊤ : EReal) ∧ X i ≠ (⊥ : EReal) := by
  have h' : Ideal.cmp .olt (max (X i) (-(X i))) (B i) = 1#1 := congrFun h i
  rw [hB] at h'
  refine finite_of_abs_lt ?_
  by_contra hn
  simp [Ideal.cmp, hn] at h'

/-- A sum over rows, block by block. -/
theorem sum_blocks {N : ℕ} (m n : ℕ) (hN : m * n = N) (F : Fin N → ℝ) (row : Fin m → Fin n → Fin N)
    (hrow : ∀ k p, (row k p).val = n * k.val + p.val) : ∑ k, ∑ p, F (row k p) = ∑ r, F r := by
  subst hN
  rw [← Fintype.sum_prod_type' (f := fun k p => F (row k p))]
  refine Fintype.sum_equiv finProdFinEquiv _ _ fun x => congrArg F (Fin.ext ?_)
  rw [hrow, finProdFinEquiv_apply_val, Nat.add_comm]

theorem bits_1024 : Ideal.ofBits .f32 0x44800000#32 = ((1024 : ℝ) : EReal) := by
  simp [Ideal.ofBits, Ideal.ieee]; rw [← EReal.coe_mul]; norm_num
theorem bits_inv1024 : Ideal.ofBits .f32 0x3A800000#32 = ((1 / 1024 : ℝ) : EReal) := by
  simp [Ideal.ofBits, Ideal.ieee]; rw [← EReal.coe_mul]; norm_num
theorem bits_half : Ideal.ofBits .f32 0x3F000000#32 = ((1 / 2 : ℝ) : EReal) := by
  simp [Ideal.ofBits, Ideal.ieee]; rw [← EReal.coe_mul]; norm_num
theorem bits_neg_half : Ideal.ofBits .f32 0xBF000000#32 = ((-1 / 2 : ℝ) : EReal) := by
  simp [Ideal.ofBits, Ideal.ieee]; rw [← EReal.coe_mul]; norm_num
theorem bits_two : Ideal.ofBits .f32 0x40000000#32 = ((2 : ℝ) : EReal) := by
  simp [Ideal.ofBits, Ideal.ieee]; rw [← EReal.coe_mul]; norm_num
theorem bits_inf : Ideal.ofBits .f32 0x7F800000#32 = ⊤ := by
  simp [Ideal.ofBits, Ideal.ieee]
theorem bits_inf_bf16 : Ideal.ofBits .bf16 0x7F80#16 = ⊤ := by
  simp [Ideal.ofBits, Ideal.ieee]
/-- The single-precision number nearest to a millionth. -/
def eps : ℝ := 8796093 / 2 ^ 43
theorem eps_pos : 0 < eps := by unfold eps; positivity
theorem bits_eps : Ideal.ofBits .f32 0x358637BD#32 = ((eps : ℝ) : EReal) := by
  simp [Ideal.ofBits, Ideal.ieee, eps]; rw [← EReal.coe_mul]; norm_num

end Cert.Lift

end
-- ==== Proof.Outproj.Spec.lean ====
/- The out-projection, the norm after it and the loss, with their gradients, as functions of real arrays. The row index is
   any finite type, so that a block of rows and the whole array are read by the same definitions. -/
module

public import proofs.«01_k».proof.Proof.Lift

@[expose] public section

noncomputable section

namespace Cert.Outproj

open Cert.Lift

/-- The first and the second half of the rows of the weight. -/
def lo (w : Fin 2048 → Fin 1024 → ℝ) : Fin 1024 → Fin 1024 → ℝ := fun k => w ⟨k.val, by omega⟩
def hi (w : Fin 2048 → Fin 1024 → ℝ) : Fin 1024 → Fin 1024 → ℝ := fun k => w ⟨1024 + k.val, by omega⟩

variable {n : ℕ} (a s : Fin n → Fin 1024 → ℝ) (w : Fin 2048 → Fin 1024 → ℝ) (x t : Fin n → Fin 1024 → ℝ) (g : Fin 1 → Fin 1024 → ℝ)

def mix : Fin n → Fin 2048 → ℝ := fun r e => if h : e.val < 1024 then a r ⟨e.val, h⟩ else s r ⟨e.val - 1024, by omega⟩
def out : Fin n → Fin 1024 → ℝ := fun r d => ∑ k, a r k * lo w k d + ∑ k, s r k * hi w k d
def msq : Fin n → ℝ := fun r => (∑ d, out a s w r d * out a s w r d) / 1024 + eps
def rs : Fin n → ℝ := fun r => (Real.sqrt (msq a s w r))⁻¹
def nrm : Fin n → Fin 1024 → ℝ := fun r d => out a s w r d * rs a s w r
def diff : Fin n → Fin 1024 → ℝ := fun r d => x r d + nrm a s w r d * g 0 d - t r d
def dres : Fin n → Fin 1024 → ℝ := fun r d => diff a s w x t g r d * (1 / 1024)
def dn : Fin n → Fin 1024 → ℝ := fun r d => dres a s w x t g r d * g 0 d
def dout : Fin n → Fin 1024 → ℝ := fun r d =>
  rs a s w r * (dn a s w x t g r d - nrm a s w r d * ((∑ e, dn a s w x t g r e * nrm a s w r e) / 1024))
def dmix : Fin n → Fin 2048 → ℝ := fun r e => ∑ d, dout a s w x t g r d * w e d
def dwo : Fin 2048 → Fin 1024 → ℝ := fun e d => ∑ r, mix a s r e * dout a s w x t g r d
def err : Fin 1024 → ℝ := fun d => ∑ r, diff a s w x t g r d * diff a s w x t g r d
def dg : Fin 1024 → ℝ := fun d => ∑ r, dres a s w x t g r d * nrm a s w r d
/-- The two rows of sums, over zeros. -/
def sums : Fin 8 → Fin 1024 → ℝ := fun q d => if q.val = 0 then err a s w x t g d else if q.val = 1 then dg a s w x t g d else 0

theorem sums_rest (q : Fin 8) (d : Fin 1024) (h0 : q ≠ 0) (h1 : q ≠ 1) : sums a s w x t g q d = 0 := by
  unfold sums
  rw [if_neg (fun e : q.val = 0 => h0 (Fin.ext e)), if_neg (fun e : q.val = 1 => h1 (Fin.ext e))]

theorem msq_pos (r : Fin n) : 0 < msq a s w r :=
  add_pos_of_nonneg_of_pos (div_nonneg (Finset.sum_nonneg fun _ _ => mul_self_nonneg _) (by norm_num)) eps_pos

theorem rs_sq (r : Fin n) : rs a s w r / msq a s w r = rs a s w r * rs a s w r * rs a s w r := by
  have h : rs a s w r * rs a s w r = (msq a s w r)⁻¹ := by
    unfold rs; rw [← mul_inv, Real.mul_self_sqrt (msq_pos a s w r).le]
  rw [h, div_eq_mul_inv, mul_comm]

/-- The gradient as differentiating the root mean square writes it. -/
theorem dout_eq (r : Fin n) (d : Fin 1024) :
    dout a s w x t g r d = dn a s w x t g r d * rs a s w r
      + out a s w r d * ((∑ e, out a s w r e * dn a s w x t g r e) * (-1 / 2 * (rs a s w r / msq a s w r)) / 1024)
      + ((∑ e, out a s w r e * dn a s w x t g r e) * (-1 / 2 * (rs a s w r / msq a s w r)) / 1024) * out a s w r d := by
  have h : ∑ e, dn a s w x t g r e * nrm a s w r e = (∑ e, out a s w r e * dn a s w x t g r e) * rs a s w r := by
    rw [Finset.sum_mul]; exact Finset.sum_congr rfl fun e _ => by unfold nrm; ring
  rw [rs_sq]; unfold dout; rw [h]; unfold nrm; ring

end Cert.Outproj

end
-- ==== Proof.Outproj.Ref.lean ====
/- The reference's operations on real arrays, one at a time. -/
module

public import proofs.«01_k».proof.Proof.Outproj.Spec
public import proofs.«01_k».proof.Proof.Gen.ReferenceIdeal.Read

@[expose] public section

set_option maxRecDepth 16384

noncomputable section

namespace Cert.Outproj.Ref

open Idealize.ShloMosaic Idealize.ShloMosaic.TcCoe Idealize.SL.Sem
open Cert.ReferenceIdeal Cert.ReferenceIdeal.Gen Cert.ReferenceIdeal.Read Cert.Lift Cert.Outproj

variable (a s : Fin 4096 → Fin 1024 → ℝ) (w : Fin 2048 → Fin 1024 → ℝ) (x t : Fin 4096 → Fin 1024 → ℝ) (g : Fin 1 → Fin 1024 → ℝ)

theorem v3 : val_main_v3 (F := Ideal) (up2 a) (up2 s) (up2 w) = up2 (out a s w) := by
  funext i; idx_vars i
  pointwise [val_main_v3, val_main_v2, val_main_v0, val_main_v1, up2]
  simp only [← EReal.coe_mul, coe_sum, ← EReal.coe_add]; rfl

theorem v10 : val_main_v10 (F := Ideal) (up2 a) (up2 s) (up2 w) = up2 (fun r (_ : Fin 1) => msq a s w r) := by
  funext i; idx_vars i
  pointwise [val_main_v10, val_main_v8, val_main_v6, val_main_v5, val_main_v4, v3, up2, val_main_v7, val_main_v9, val_main_cst, val_main_cst_0, val_main_cst_1]
  simp only [bits_1024, bits_eps, ← EReal.coe_mul, coe_sum, div_coe_coe _ (by norm_num : (1024 : ℝ) ≠ 0), ← EReal.coe_add]; rfl

theorem v11 : val_main_v11 (F := Ideal) (up2 a) (up2 s) (up2 w) = up2 (fun r (_ : Fin 1) => rs a s w r) := by
  funext i; idx_vars i
  pointwise [val_main_v11, v10, up2]
  rw [rsqrt_coe (msq_pos a s w i0)]; rfl

theorem v14 : val_main_v14 (F := Ideal) (up2 a) (up2 s) (up2 w) = up2 (fun r (_ : Fin 1) => -1 / 2 * (rs a s w r / msq a s w r)) := by
  funext i; idx_vars i
  pointwise [val_main_v14, val_main_v13, val_main_cst_2, val_main_v12, v11, v10, up2]
  simp only [bits_neg_half, div_coe_coe _ (msq_pos a s w i0).ne', ← EReal.coe_mul]

theorem v16 : val_main_v16 (F := Ideal) (up2 a) (up2 s) (up2 w) = up2 (nrm a s w) := by
  funext i; idx_vars i
  pointwise [val_main_v16, val_main_v15, v3, v11, up2]
  simp only [← EReal.coe_mul]; rfl

theorem v20 : val_main_v20 (F := Ideal) (up2 a) (up2 s) (up2 w) (up2 x) (up2 t) (up2 g) = up2 (diff a s w x t g) := by
  funext i; idx_vars i
  pointwise [val_main_v20, val_main_v19, val_main_v18, val_main_v17, v16, up2]
  simp only [← EReal.coe_mul, ← EReal.coe_add, ← EReal.coe_sub]; rfl

theorem v34 : val_main_v34 (F := Ideal) (up2 a) (up2 s) (up2 w) (up2 x) (up2 t) (up2 g) = up2 (dres a s w x t g) := by
  funext i; idx_vars i
  pointwise [val_main_v34, val_main_v33, val_main_v32, val_main_v31, val_main_v30, val_main_v29, val_main_v23, val_main_v22,
    val_main_cst_3, val_main_cst_8, val_main_cst_9, val_main_cst_10, v20, up2]
  simp only [bits_half, bits_1024, bits_two, div_coe_coe _ (by norm_num : (1024 : ℝ) ≠ 0), ← EReal.coe_mul]
  congr 1; unfold dres; ring

theorem v39 : val_main_v39 (F := Ideal) (up2 a) (up2 s) (up2 w) (up2 x) (up2 t) (up2 g) = up2 (dn a s w x t g) := by
  funext i; idx_vars i
  pointwise [val_main_v39, val_main_v38, v34, up2]
  simp only [← EReal.coe_mul]; rfl

theorem v47 : val_main_v47 (F := Ideal) (up2 a) (up2 s) (up2 w) (up2 x) (up2 t) (up2 g) = up2 (fun r (_ : Fin 1) =>
    (∑ e, out a s w r e * dn a s w x t g r e) * (-1 / 2 * (rs a s w r / msq a s w r)) / 1024) := by
  funext i; idx_vars i
  pointwise [val_main_v47, val_main_v46, val_main_v45, val_main_v42, val_main_v41, val_main_v40, val_main_cst_12, val_main_cst_13,
    v39, v3, v14, up2]
  simp only [bits_1024, ← EReal.coe_mul, coe_sum, div_coe_coe _ (by norm_num : (1024 : ℝ) ≠ 0)]

theorem v53 : val_main_v53 (F := Ideal) (up2 a) (up2 s) (up2 w) (up2 x) (up2 t) (up2 g) = up2 (dout a s w x t g) := by
  funext i; idx_vars i
  pointwise [val_main_v53, val_main_v52, val_main_v51, val_main_v50, val_main_v49, val_main_v48, val_main_v44, val_main_v43,
    val_main_cst_14, v47, v39, v3, v11, up2]
  simp only [← EReal.coe_mul, ← EReal.coe_add, coe_sum, Finset.univ_unique, Finset.sum_singleton]
  rw [dout_eq]

theorem v63 : val_main_v63 (F := Ideal) (up2 a) (up2 s) (up2 w) (up2 x) (up2 t) (up2 g) = up2 (dmix a s w x t g) := by
  funext i; idx_vars i
  pointwise [val_main_v63, val_main_v58, val_main_v57, val_main_v56, v53, up2]
  simp only [← EReal.coe_mul, coe_sum]
  by_cases h : i1.val < 1024
  · rw [dif_pos h]; rfl
  · rw [dif_neg h]; unfold dmix; congr 1
    exact Finset.sum_congr rfl fun k _ => congrArg (fun e => dout a s w x t g i0 k * w e k) (Fin.ext (by show 1024 + (i1.val - 1024) = i1.val; omega))

theorem v62 : val_main_v62 (F := Ideal) (up2 a) (up2 s) (up2 w) (up2 x) (up2 t) (up2 g) = up2 (sums a s w x t g) := by
  funext i; idx_vars i
  pointwise [val_main_v62, val_main_v61, val_main_v60, val_main_v59, val_main_v37, val_main_v36, val_main_v35, val_main_v21, v34, v20, v16,
    val_main_cst_15, val_main_cst_11, val_main_cst_16, up2]
  simp only [← EReal.coe_mul, coe_sum]
  have hz : (0 : EReal) = ((0 : ℝ) : EReal) := rfl
  rw [hz]; unfold sums err dg
  split_ifs <;> first | rfl | (exfalso; omega) | (congr 1; exact Finset.sum_congr rfl fun _ _ => mul_comm _ _)

theorem v55 : val_main_v55 (F := Ideal) (up2 a) (up2 s) (up2 w) (up2 x) (up2 t) (up2 g) = up2 (dwo a s w x t g) := by
  funext i; idx_vars i
  pointwise [val_main_v55, val_main_v54, val_main_v2, val_main_v0, val_main_v1, v53, up2]
  unfold dwo mix
  split_ifs with h <;> simp only [← EReal.coe_mul, coe_sum] <;> (congr 1; exact Finset.sum_congr rfl fun _ _ => mul_comm _ _)

end Cert.Outproj.Ref

end
-- ==== Proof.Outproj.Pay.lean ====
/- The values one grid point of the kernel computes, on real arrays. -/
module

public import proofs.«01_k».proof.Proof.Outproj.Spec
public import proofs.«01_k».proof.Proof.Gen.KernelIdeal.Skeleton

@[expose] public section

set_option maxRecDepth 16384

noncomputable section

namespace Cert.Outproj.Pay

open Idealize.ShloMosaic Idealize.ShloMosaic.TcCoe Idealize.SL.Sem
open Cert.KernelIdeal Cert.KernelIdeal.Gen Cert.Lift Cert.Outproj

variable (a s : Fin 512 → Fin 1024 → ℝ) (w : Fin 2048 → Fin 1024 → ℝ) (x t : Fin 512 → Fin 1024 → ℝ) (g : Fin 1 → Fin 1024 → ℝ)

theorem p5 : k0_pay5 (F := Ideal) (up2 a) (up2 (lo w)) (up2 s) (up2 (hi w)) = up2 (out a s w) := by
  funext i; idx_vars i
  pointwise [k0_pay5, up2]
  simp only [← EReal.coe_mul, coe_sum, ← EReal.coe_add]; rfl

theorem p6 : k0_pay6 (F := Ideal) (up2 a) (up2 (lo w)) (up2 s) (up2 (hi w)) = up2 (fun r (_ : Fin 1) => rs a s w r) := by
  funext i; idx_vars i
  pointwise [k0_pay6, p5, up2]
  simp only [bits_1024, bits_eps, ← EReal.coe_mul, coe_sum, div_coe_coe _ (by norm_num : (1024 : ℝ) ≠ 0), ← EReal.coe_add]
  exact rsqrt_coe (msq_pos a s w i0)

theorem p7 : k0_pay7 (F := Ideal) (up2 a) (up2 (lo w)) (up2 s) (up2 (hi w)) = up2 (nrm a s w) := by
  funext i; idx_vars i
  pointwise [k0_pay7, p5, p6, up2]
  simp only [← EReal.coe_mul]; rfl

theorem p8 : k0_pay8 (F := Ideal) (up2 a) (up2 (lo w)) (up2 s) (up2 (hi w)) (up2 x) (up2 g) (up2 t) = up2 (diff a s w x t g) := by
  funext i; idx_vars i
  pointwise [k0_pay8, p7, up2]
  simp only [← EReal.coe_mul, ← EReal.coe_add, ← EReal.coe_sub]; rfl

theorem p9 : k0_pay9 (F := Ideal) (up2 a) (up2 (lo w)) (up2 s) (up2 (hi w)) (up2 x) (up2 g) (up2 t) = up2 (dres a s w x t g) := by
  funext i; idx_vars i
  pointwise [k0_pay9, p8, up2]
  simp only [bits_inv1024, ← EReal.coe_mul]; rfl

theorem p10 (y : Fin 1 → Fin 1024 → ℝ) : k0_pay10 (F := Ideal) (up2 (diff a s w x t g)) (up2 y)
    = up2 (fun (q : Fin 1) d => y q d + err a s w x t g d) := by
  funext i; idx_vars i
  pointwise [k0_pay10, up2]
  simp only [← EReal.coe_mul, coe_sum, ← EReal.coe_add]; rfl

theorem p11 (y : Fin 1 → Fin 1024 → ℝ) : k0_pay11 (F := Ideal) (up2 (nrm a s w)) (up2 (dres a s w x t g)) (up2 y)
    = up2 (fun (q : Fin 1) d => y q d + dg a s w x t g d) := by
  funext i; idx_vars i
  pointwise [k0_pay11, up2]
  simp only [← EReal.coe_mul, coe_sum, ← EReal.coe_add]; rfl

theorem p12 : k0_pay12 (F := Ideal) (up2 (fun r (_ : Fin 1) => rs a s w r)) (up2 (nrm a s w)) (up2 (dres a s w x t g)) (up2 g)
    = up2 (dout a s w x t g) := by
  funext i; idx_vars i
  pointwise [k0_pay12, up2]
  simp only [bits_1024, ← EReal.coe_mul, coe_sum, div_coe_coe _ (by norm_num : (1024 : ℝ) ≠ 0), ← EReal.coe_sub]; rfl

theorem p13 : k0_pay13 (F := Ideal) (up2 (fun r (_ : Fin 1) => rs a s w r)) (up2 (nrm a s w)) (up2 (dres a s w x t g)) (up2 g) (up2 w)
    = up2 (dmix a s w x t g) := by
  funext i; idx_vars i
  pointwise [k0_pay13, p12, up2]
  simp only [← EReal.coe_mul, coe_sum]; rfl

theorem p1 (y : Fin 1024 → Fin 1024 → ℝ) : k0_pay1 (F := Ideal) (up2 (dout a s w x t g)) (up2 y) (up2 a)
    = up2 (fun e d => y e d + ∑ r, a r e * dout a s w x t g r d) := by
  funext i; idx_vars i
  pointwise [k0_pay1, up2]
  simp only [← EReal.coe_mul, coe_sum, ← EReal.coe_add]

theorem p2 (y : Fin 1024 → Fin 1024 → ℝ) : k0_pay2 (F := Ideal) (up2 (dout a s w x t g)) (up2 y) (up2 s)
    = up2 (fun e d => y e d + ∑ r, s r e * dout a s w x t g r d) := by
  funext i; idx_vars i
  pointwise [k0_pay2, up2]
  simp only [← EReal.coe_mul, coe_sum, ← EReal.coe_add]

theorem p14 (y : Vec Ideal S1024x1024 .f32) : k0_pay14 (F := Ideal) y = y := by
  funext i; idx_vars i
  pointwise [k0_pay14]

end Cert.Outproj.Pay

end
-- ==== Proof.Stores.lean ====
/- Stores of rectangles into a matrix, and loads of rectangles of it. -/
module

public import Idealize.ShloMosaic.Lib.Pipeline.ValueKit
public import Idealize.ShloMosaic.Lib.WritesUnit
public import Idealize.ShloMosaic.Lib.Pointwise
public import proofs.«01_k».proof.Proof.Lift

@[expose] public section

set_option maxRecDepth 16384

noncomputable section

namespace Cert.Lift

open Idealize.ShloMosaic

variable {Val : EltTy → Type} {e : EltTy} {n d k l o q : ℕ}

/-- A load of a rectangle. -/
theorem ld_tile (X : (⟨2, ![n, d]⟩ : Shape).Idx → Val e) (inb : ∀ a, (![o, q] : Fin 2 → ℕ) a + (![k, l] : Fin 2 → ℕ) a ≤ (⟨2, ![n, d]⟩ : Shape).size a)
    (r : Fin k) (c : Fin l) :
    View.ld X (Rect.unit (s := ⟨2, ![n, d]⟩) ![o, q] ![k, l] inb) (ix2 r c)
      = X (ix2 ⟨o + r.val, Nat.lt_of_lt_of_le (Nat.add_lt_add_left r.isLt o) (inb 0)⟩ ⟨q + c.val, Nat.lt_of_lt_of_le (Nat.add_lt_add_left c.isLt q) (inb 1)⟩) := by
  refine View.ld_unit_apply_of X _ _ inb _ _ fun a => ?_
  match a with
  | ⟨0, _⟩ => rfl
  | ⟨1, _⟩ => rfl

variable (inb : ∀ a, (![o, q] : Fin 2 → ℕ) a + (![k, l] : Fin 2 → ℕ) a ≤ (⟨2, ![n, d]⟩ : Shape).size a)
  (w : (⟨2, ![k, l]⟩ : Shape).Idx → Val e) (L : List (View.Piece Val (⟨2, ![n, d]⟩ : Shape) e)) (r : Fin n) (c : Fin d)

theorem not_mem_tile (h : ¬((o ≤ r.val ∧ r.val < o + k) ∧ q ≤ c.val ∧ c.val < q + l)) :
    (ix2 r c) ∉ (Rect.unit (s := ⟨2, ![n, d]⟩) ![o, q] ![k, l] inb).set :=
  fun hm => h ⟨Rect.mem_set_unit.1 hm 0, Rect.mem_set_unit.1 hm 1⟩

theorem emb_tile (h : (o ≤ r.val ∧ r.val < o + k) ∧ q ≤ c.val ∧ c.val < q + l) :
    (Rect.unit (s := ⟨2, ![n, d]⟩) ![o, q] ![k, l] inb).emb (ix2 (⟨r.val - o, by omega⟩ : Fin k) (⟨c.val - q, by omega⟩ : Fin l)) = ix2 r c := by
  funext a
  match a with
  | ⟨0, _⟩ => exact Fin.ext (by show o + 1 * (r.val - o) = r.val; omega)
  | ⟨1, _⟩ => exact Fin.ext (by show q + 1 * (c.val - q) = c.val; omega)

/-- What a list of stores leaves at an entry. -/
theorem canon_tile [∀ e, Nonempty (Val e)] :
    View.canon ((⟨Rect.unit (s := ⟨2, ![n, d]⟩) ![o, q] ![k, l] inb, w⟩ : View.Piece Val _ e) :: L) (ix2 r c)
      = if h : (o ≤ r.val ∧ r.val < o + k) ∧ q ≤ c.val ∧ c.val < q + l then w (ix2 ⟨r.val - o, by omega⟩ ⟨c.val - q, by omega⟩)
        else View.canon L (ix2 r c) := by
  split_ifs with h
  · rw [← emb_tile inb r c h]
    exact View.canon_cons_emb (Rect.unit (s := ⟨2, ![n, d]⟩) ![o, q] ![k, l] inb) w L _
  · exact View.canon_cons_of_not_mem _ L (not_mem_tile inb r c h)

/-- The same over contents already there. -/
theorem read_tile {sig : RefSig} {κ : Kind} {sp : Space} (v : View sig κ sp (⟨2, ![n, d]⟩ : Shape) e) (f : v.ty.Contents Val) :
    v.read Val (v.writes Val f ((⟨Rect.unit (s := ⟨2, ![n, d]⟩) ![o, q] ![k, l] inb, w⟩ : View.Piece Val _ e) :: L)) (ix2 r c)
      = if h : (o ≤ r.val ∧ r.val < o + k) ∧ q ≤ c.val ∧ c.val < q + l then w (ix2 ⟨r.val - o, by omega⟩ ⟨c.val - q, by omega⟩)
        else v.read Val (v.writes Val f L) (ix2 r c) := by
  split_ifs with h
  · refine View.read_writes_cons_unit_of_mem v f inb w L (ix2 r c) (ix2 (⟨r.val - o, by omega⟩ : Fin k) (⟨c.val - q, by omega⟩ : Fin l)) rfl fun a => ?_
    match a with
    | ⟨0, _⟩ => show r.val = o + (r.val - o); omega
    | ⟨1, _⟩ => show c.val = q + (c.val - q); omega
  · rw [View.writes_cons]
    exact View.read_slice_write_of_not_mem _ _ _ _ (by rw [Rect.map_emb_univ]; exact not_mem_tile inb r c h)

end Cert.Lift

end
-- ==== Proof.Outproj.Final.lean ====
/- What the kernel leaves in its four results, on real arrays. -/
module

public import proofs.«01_k».proof.Proof.Outproj.Pay
public import proofs.«01_k».proof.Proof.Stores
public import proofs.«01_k».proof.Proof.Gen.KernelIdeal.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.Outproj.Final

open Idealize.ShloMosaic Idealize.ShloMosaic.TcCoe Idealize.SL.Sem
open Idealize.ShloMosaic.Pipeline (Dat)
open Cert.KernelIdeal Cert.KernelIdeal.Gen Cert.Lift Cert.Outproj

theorem idx : ∀ t : Fin cfg0.N, win0_0.index t = ![t.val, 0] ∧ win0_1.index t = ![t.val, 0] ∧ win0_2.index t = ![0, 0] ∧
    win0_3.index t = ![t.val, 0] ∧ win0_4.index t = ![t.val, 0] ∧ win0_5.index t = ![0, 0] ∧ win0_6.index t = ![t.val, 0] ∧
    win0_7.index t = ![t.val, 0] ∧ win0_8.index t = ![0, 0] ∧ win0_9.index t = ![0, 0] :=
  (by decide +kernel : ∀ t : Fin grid0.N, _)

/-- The rows of a matrix one grid point works on. -/
def rows (t : Fin 8) (a : Fin 4096 → Fin 1024 → ℝ) : Fin 512 → Fin 1024 → ℝ := fun p => a ⟨512 * t.val + p.val, by omega⟩

variable (m : (ℓ : Loc nD τ sig) → Buf (Elt Ideal) ℓ) (c : Dev nD)
  (a s : Fin 4096 → Fin 1024 → ℝ) (w : Fin 2048 → Fin 1024 → ℝ) (x t : Fin 4096 → Fin 1024 → ℝ) (g : Fin 1 → Fin 1024 → ℝ)

/-- The arguments are these real arrays. -/
structure Args : Prop where
  a : m ((c.tc : Thread nD τ).loc main_arg0) = up2 a
  s : m ((c.tc : Thread nD τ).loc main_arg1) = up2 s
  w : m ((c.tc : Thread nD τ).loc main_arg2) = up2 w
  x : m ((c.tc : Thread nD τ).loc main_arg3) = up2 x
  t : m ((c.tc : Thread nD τ).loc main_arg4) = up2 t
  g : m ((c.tc : Thread nD τ).loc main_arg5) = up2 g

variable {m c a s w x t g} (h : Args m c a s w x t g) (p : Fin cfg0.N)

/-- A row of a block as a row of the array. -/
def row (p : Fin 8) (r : Fin 512) : Fin 4096 := ⟨512 * p.val + r.val, by omega⟩

include h in
theorem blk0 : iblk m c 0 p = up2 (rows p a) := by
  funext i; idx_vars i
  have e : iblk m c 0 p (ix2 i0 i1) = m ((c.tc : Thread nD τ).loc main_arg0) (ix2 (row p i0) i1) := by blk_ext [iblk, V, idx p, row]
  rw [e, h.a]; rfl

include h in
theorem blk1 : iblk m c 1 p = up2 (rows p s) := by
  funext i; idx_vars i
  have e : iblk m c 1 p (ix2 i0 i1) = m ((c.tc : Thread nD τ).loc main_arg1) (ix2 (row p i0) i1) := by blk_ext [iblk, V, idx p, row]
  rw [e, h.s]; rfl

include h in
theorem blk2 : iblk m c 2 p = up2 w := by
  funext i; idx_vars i
  have e : iblk m c 2 p (ix2 i0 i1) = V m c main_v0 (ix2 i0 i1) := by blk_ext [iblk, idx p]
  have e' : V m c main_v0 = m ((c.tc : Thread nD τ).loc main_arg2) := by
    funext j; idx_vars j; entry_read; pointwise []
  rw [e, e', h.w]

include h in
theorem blk3 : iblk m c 3 p = up2 (rows p x) := by
  funext i; idx_vars i
  have e : iblk m c 3 p (ix2 i0 i1) = m ((c.tc : Thread nD τ).loc main_arg3) (ix2 (row p i0) i1) := by blk_ext [iblk, V, idx p, row]
  rw [e, h.x]; rfl

include h in
theorem blk4 : iblk m c 4 p = up2 (rows p t) := by
  funext i; idx_vars i
  have e : iblk m c 4 p (ix2 i0 i1) = m ((c.tc : Thread nD τ).loc main_arg4) (ix2 (row p i0) i1) := by blk_ext [iblk, V, idx p, row]
  rw [e, h.t]; rfl

include h in
theorem blk5 : iblk m c 5 p = up2 g := by
  funext i; idx_vars i
  have e : iblk m c 5 p (ix2 i0 i1) = m ((c.tc : Thread nD τ).loc main_arg5) (ix2 i0 i1) := by blk_ext [iblk, V, idx p]
  rw [e, h.g]

theorem ld_lo (w : Fin 2048 → Fin 1024 → ℝ) : View.ld (Val := Elt Ideal) (e' := .bf16) (up2 w) (Rect.unit (s := S2048x1024) ![0, 0] ![1024, 1024] inb_S2048x1024_S1024x1024_0_0) = up2 (lo w) := by
  funext i; idx_vars i
  rw [ld_tile]; simp [up2, lo]

theorem ld_hi (w : Fin 2048 → Fin 1024 → ℝ) : View.ld (Val := Elt Ideal) (e' := .bf16) (up2 w) (Rect.unit (s := S2048x1024) ![1024, 0] ![1024, 1024] inb_S2048x1024_S1024x1024_1024_0) = up2 (hi w) := by
  funext i; idx_vars i
  rw [ld_tile]; simp [up2, hi]

/-- One row of the sums. -/
theorem ld_row (y : Fin 8 → Fin 1024 → ℝ) (q : ℕ) (hq : q < 8) (inb : ∀ a, (![q, 0] : Fin 2 → ℕ) a + (![1, 1024] : Fin 2 → ℕ) a ≤ S8x1024.size a) :
    View.ld (Val := Elt Ideal) (e' := .f32) (up2 y) (Rect.unit (s := S8x1024) ![q, 0] ![1, 1024] inb) = up2 fun (_ : Fin 1) => y ⟨q, hq⟩ := by
  funext i; idx_vars i
  rw [ld_tile]; simp [up2]

include h in
theorem final7 : (dats m 0 c).arrAt 7 cfg0.N = up2 (dres a s w x t g) := by
  refine (dats m 0 c).arrAt_eq_of_covers 7 _ (by decide +kernel) fun p hf y => ?_
  have hv : up2 (dres (rows p a) (rows p s) w (rows p x) (rows p t) g) y
      = up2 (dres a s w x t g) (((View.whole main_v1_1).slice (win0_7.rect p)).emb y) := by
    have e : ((View.whole main_v1_1).slice (win0_7.rect p)).emb y = ix2 (row p (y 0)) (y 1) := by blk_ext [idx p, row]
    rw [e]; rfl
  blk_simp
  rw [after0_7]
  by_cases hp : p.val % 8 = 0
  · rw [outsAt0_A m c p hp]
    frame_out
    rw [blk0 h, blk1 h, blk2 h, blk3 h, blk4 h, blk5 h, ld_lo, ld_hi, Pay.p9, ← hv]
  · rw [outsAt0_B m c p hp]
    frame_out
    rw [blk0 h, blk1 h, blk2 h, blk3 h, blk4 h, blk5 h, ld_lo, ld_hi, Pay.p9, ← hv]

include h in
theorem final6 : (dats m 0 c).arrAt 6 cfg0.N = up2 (dmix a s w x t g) := by
  refine (dats m 0 c).arrAt_eq_of_covers 6 _ (by decide +kernel) fun p hf y => ?_
  have hv : up2 (dmix (rows p a) (rows p s) w (rows p x) (rows p t) g) y
      = up2 (dmix a s w x t g) (((View.whole main_v1_0).slice (win0_6.rect p)).emb y) := by
    have e : ((View.whole main_v1_0).slice (win0_6.rect p)).emb y = ix2 (row p (y 0)) (y 1) := by blk_ext [idx p, row]
    rw [e]; rfl
  blk_simp
  rw [after0_6]
  by_cases hp : p.val % 8 = 0
  · rw [outsAt0_A m c p hp]
    frame_out
    rw [blk0 h, blk1 h, blk2 h, blk3 h, blk4 h, blk5 h, ld_lo, ld_hi, Pay.p6, Pay.p7, Pay.p9, Pay.p13, ← hv]
  · rw [outsAt0_B m c p hp]
    frame_out
    rw [blk0 h, blk1 h, blk2 h, blk3 h, blk4 h, blk5 h, ld_lo, ld_hi, Pay.p6, Pay.p7, Pay.p9, Pay.p13, ← hv]

theorem pay3 : k0_pay3 (F := Ideal) = up2 fun _ _ => 0 := by
  funext i; idx_vars i
  pointwise [k0_pay3, up2]; rfl

theorem pay4 : k0_pay4 (F := Ideal) = up2 fun _ _ => 0 := by
  funext i; idx_vars i
  pointwise [k0_pay4, up2]; rfl

/-- Row one over row zero over what was there. -/
theorem rows_eq (F z : Fin 8 → Fin 1024 → ℝ) (u v : Fin 1 → Fin 1024 → ℝ) (j0 : Fin 8) (j1 : Fin 1024) (hu : ∀ d, F 1 d = u 0 d)
    (hv : ∀ d, F 0 d = v 0 d) (hz : ∀ q d, q ≠ 0 → q ≠ 1 → F q d = z q d) :
    (if h : (1 ≤ j0.val ∧ j0.val < 1 + 1) ∧ 0 ≤ j1.val ∧ j1.val < 0 + 1024 then up2 u (ix2 ⟨j0.val - 1, by omega⟩ ⟨j1.val - 0, by omega⟩)
      else if h : (0 ≤ j0.val ∧ j0.val < 0 + 1) ∧ 0 ≤ j1.val ∧ j1.val < 0 + 1024 then up2 v (ix2 ⟨j0.val - 0, by omega⟩ ⟨j1.val - 0, by omega⟩)
      else up2 z (ix2 j0 j1)) = up2 F (ix2 j0 j1) := by
  split_ifs with h1 h0
  · have e : j0 = 1 := Fin.ext (by show j0.val = 1; omega)
    subst e; simp [up2, hu]
  · have e : j0 = 0 := Fin.ext (by show j0.val = 0; omega)
    subst e; simp [up2, hv]
  · simp only [up2]
    exact congrArg _ (hz _ _ (fun e => h0 ⟨by rw [show j0 = 0 from e]; decide, by omega⟩) (fun e => h1 ⟨by rw [show j0 = 1 from e]; decide, by omega⟩)).symm

include h in
theorem acc8_A (hp : p.val % 8 = 0) : (outsAt0 m c p.val p.isLt).2.2.1 = up2 (sums (rows p a) (rows p s) w (rows p x) (rows p t) g) := by
  rw [outsAt0_A m c p hp]
  funext j; idx_vars j
  frame_out
  rw [View.readCov_skip _ _ _ _ _ (by decide +kernel), View.readCov_fill _ _ _ _ _ (by decide), View.readCov_fill _ _ _ _ _ (by decide), pay3]
  rw [blk0 h, blk1 h, blk2 h, blk3 h, blk4 h, blk5 h, ld_lo, ld_hi, Pay.p7, Pay.p8, Pay.p9, ld_row _ 1 (by norm_num), ld_row _ 0 (by norm_num), Pay.p10, Pay.p11,
    canon_tile, canon_tile, View.canon_cons_unit_lit _ _ _ (by decide)]
  refine rows_eq _ _ _ _ _ _ (fun d => ?_) (fun d => ?_) fun q d h0 h1 => ?_
  · simp [sums]
  · simp [sums]
  · exact sums_rest _ _ _ _ _ _ q d h0 h1

include h in
theorem acc8_B (hp : ¬p.val % 8 = 0) (y : Fin 8 → Fin 1024 → ℝ) (hy : (outsAt0 m c (p.val - 1) (Nat.lt_of_le_of_lt (Nat.sub_le _ _) p.isLt)).2.2.1 = up2 y) :
    (outsAt0 m c p.val p.isLt).2.2.1 = up2 fun q d => y q d + sums (rows p a) (rows p s) w (rows p x) (rows p t) g q d := by
  rw [outsAt0_B m c p hp, hy]
  funext j; idx_vars j
  frame_out
  rw [blk0 h, blk1 h, blk2 h, blk3 h, blk4 h, blk5 h, ld_lo, ld_hi, Pay.p7, Pay.p8, Pay.p9, ld_row _ 1 (by norm_num), ld_row _ 0 (by norm_num), Pay.p10, Pay.p11, read_tile, read_tile,
    View.writes_nil, Memref.IsWhole.read_unread]
  refine rows_eq _ _ _ _ _ _ (fun d => ?_) (fun d => ?_) fun q d h0 h1 => ?_
  · simp [sums]
  · simp [sums]
  · exact (congrArg (y q d + ·) (sums_rest _ _ _ _ _ _ q d h0 h1)).trans (add_zero _)

theorem ld_half (y : Fin 2048 → Fin 1024 → ℝ) :
    View.ld (Val := Elt Ideal) (e' := .f32) (up2 y) (Rect.unit (s := S2048x1024) ![0, 0] ![1024, 1024] inb_S2048x1024_S1024x1024_0_0) = up2 (lo y)
    ∧ View.ld (Val := Elt Ideal) (e' := .f32) (up2 y) (Rect.unit (s := S2048x1024) ![1024, 0] ![1024, 1024] inb_S2048x1024_S1024x1024_1024_0) = up2 (hi y) := by
  constructor <;> (funext i; idx_vars i; rw [ld_tile]; simp [up2, lo, hi])

/-- The lower half over the upper half. -/
theorem halves_eq (F : Fin 2048 → Fin 1024 → ℝ) (u v : Fin 1024 → Fin 1024 → ℝ) (z : EReal) (j0 : Fin 2048) (j1 : Fin 1024) (hu : u = hi F) (hv : v = lo F) :
    (if h : (1024 ≤ j0.val ∧ j0.val < 1024 + 1024) ∧ 0 ≤ j1.val ∧ j1.val < 0 + 1024 then up2 u (ix2 ⟨j0.val - 1024, by omega⟩ ⟨j1.val - 0, by omega⟩)
      else if h : (0 ≤ j0.val ∧ j0.val < 0 + 1024) ∧ 0 ≤ j1.val ∧ j1.val < 0 + 1024 then up2 v (ix2 ⟨j0.val - 0, by omega⟩ ⟨j1.val - 0, by omega⟩)
      else z) = up2 F (ix2 j0 j1) := by
  subst hu hv
  split_ifs with h1 h0
  · simp only [up2, hi]
    exact congrArg (fun e : Fin 2048 => ((F e j1 : ℝ) : EReal)) (Fin.ext (by show 1024 + (j0.val - 1024) = j0.val; omega))
  · simp [up2, lo]
  · exfalso; omega

theorem dwo_lo {n : ℕ} (a s x t : Fin n → Fin 1024 → ℝ) : lo (dwo a s w x t g) = fun e d => ∑ r, a r e * dout a s w x t g r d := by
  funext e d
  simp [lo, dwo, mix]

theorem dwo_hi {n : ℕ} (a s x t : Fin n → Fin 1024 → ℝ) : hi (dwo a s w x t g) = fun e d => ∑ r, s r e * dout a s w x t g r d := by
  funext e d
  simp [hi, dwo, mix]

include h in
theorem acc9_A (hp : p.val % 8 = 0) : (outsAt0 m c p.val p.isLt).2.2.2 = up2 (dwo (rows p a) (rows p s) w (rows p x) (rows p t) g) := by
  rw [outsAt0_A m c p hp]
  funext j; idx_vars j
  frame_out
  rw [View.readCov_skip _ _ _ _ _ (by decide +kernel), View.readCov_fill _ _ _ _ _ (by decide), View.readCov_fill _ _ _ _ _ (by decide), pay4]
  rw [blk0 h, blk1 h, blk2 h, blk3 h, blk4 h, blk5 h, ld_lo, ld_hi, Pay.p6, Pay.p7, Pay.p9, Pay.p12, Pay.p14, (ld_half _).1, (ld_half _).2,
    Pay.p1, Pay.p2, canon_tile, canon_tile]
  refine halves_eq _ _ _ _ _ _ ?_ ?_
  · rw [dwo_hi]; funext e d; exact zero_add _
  · rw [dwo_lo]; funext e d; exact zero_add _

include h in
theorem acc9_B (hp : ¬p.val % 8 = 0) (y : Fin 2048 → Fin 1024 → ℝ) (hy : (outsAt0 m c (p.val - 1) (Nat.lt_of_le_of_lt (Nat.sub_le _ _) p.isLt)).2.2.2 = up2 y) :
    (outsAt0 m c p.val p.isLt).2.2.2 = up2 fun q d => y q d + dwo (rows p a) (rows p s) w (rows p x) (rows p t) g q d := by
  rw [outsAt0_B m c p hp, hy]
  funext j; idx_vars j
  frame_out
  rw [blk0 h, blk1 h, blk2 h, blk3 h, blk4 h, blk5 h, ld_lo, ld_hi, Pay.p6, Pay.p7, Pay.p9, Pay.p12, Pay.p14, (ld_half _).1, (ld_half _).2,
    Pay.p1, Pay.p2, canon_tile, canon_tile]
  refine halves_eq _ _ _ _ _ _ ?_ ?_
  · exact (congrArg (fun f : Fin 1024 → Fin 1024 → ℝ => fun e d => hi y e d + f e d) (dwo_hi _ _ _ _)).symm
  · exact (congrArg (fun f : Fin 1024 → Fin 1024 → ℝ => fun e d => lo y e d + f e d) (dwo_lo _ _ _ _)).symm

/-- The terms of the points, one for each natural number. -/
def term {n k : ℕ} (F : Fin 8 → Fin n → Fin k → ℝ) (p : ℕ) : Fin n → Fin k → ℝ := fun q d => if h : p < 8 then F ⟨p, h⟩ q d else 0

include h in
theorem acc8 (n : ℕ) (hn : n < cfg0.N) : (outsAt0 m c n hn).2.2.1
    = up2 fun q d => ∑ k ∈ Finset.range (n + 1), term (fun p => sums (rows p a) (rows p s) w (rows p x) (rows p t) g) k q d := by
  induction n with
  | zero =>
    rw [acc8_A h ⟨0, hn⟩ rfl]
    simp [term]
  | succ n ih =>
    have hn' : n + 1 < 8 := hn
    rw [acc8_B h ⟨n + 1, hn⟩ (by show ¬(n + 1) % 8 = 0; omega) _ (ih (by omega))]
    congr 1; funext q d
    rw [Finset.sum_range_succ _ (n + 1)]; congr 1
    simp only [term]; rw [dif_pos hn']; rfl

include h in
theorem acc9 (n : ℕ) (hn : n < cfg0.N) : (outsAt0 m c n hn).2.2.2
    = up2 fun q d => ∑ k ∈ Finset.range (n + 1), term (fun p => dwo (rows p a) (rows p s) w (rows p x) (rows p t) g) k q d := by
  induction n with
  | zero =>
    rw [acc9_A h ⟨0, hn⟩ rfl]
    simp [term]
  | succ n ih =>
    have hn' : n + 1 < 8 := hn
    rw [acc9_B h ⟨n + 1, hn⟩ (by show ¬(n + 1) % 8 = 0; omega) _ (ih (by omega))]
    congr 1; funext q d
    rw [Finset.sum_range_succ _ (n + 1)]; congr 1
    simp only [term]; rw [dif_pos hn']; rfl

theorem sum_term {n k : ℕ} (F : Fin 8 → Fin n → Fin k → ℝ) (q : Fin n) (d : Fin k) :
    ∑ p ∈ Finset.range 8, term F p q d = ∑ p, F p q d := by
  rw [Finset.sum_range]
  exact Finset.sum_congr rfl fun p _ => dif_pos p.isLt

theorem sum_row (F : Fin 4096 → ℝ) : ∑ p : Fin 8, ∑ r : Fin 512, F (row p r) = ∑ r, F r := sum_blocks 8 512 rfl F row fun _ _ => rfl

theorem sum_sums (q : Fin 8) (d : Fin 1024) : ∑ p, sums (rows p a) (rows p s) w (rows p x) (rows p t) g q d = sums a s w x t g q d := by
  unfold sums
  split_ifs
  · exact sum_row fun r => diff a s w x t g r d * diff a s w x t g r d
  · exact sum_row fun r => dres a s w x t g r d * nrm a s w r d
  · simp

theorem sum_dwo (e : Fin 2048) (d : Fin 1024) : ∑ p, dwo (rows p a) (rows p s) w (rows p x) (rows p t) g e d = dwo a s w x t g e d :=
  sum_row fun r => mix a s r e * dout a s w x t g r d

include h in
theorem final8 : (dats m 0 c).arrAt 8 cfg0.N = up2 (sums a s w x t g) := by
  refine (dats m 0 c).arrAt_eq_of_after_last 8 t0_7 (by decide +kernel) _ fun j => ?_
  blk_simp
  rw [after0_8, acc8 h]
  exact congrArg (fun z : ℝ => (z : EReal)) ((sum_term _ _ _).trans (sum_sums _ _))

include h in
theorem final9 : (dats m 0 c).arrAt 9 cfg0.N = up2 (dwo a s w x t g) := by
  refine (dats m 0 c).arrAt_eq_of_after_last 9 t0_7 (by decide +kernel) _ fun j => ?_
  blk_simp
  rw [after0_9, acc9 h]
  exact congrArg (fun z : ℝ => (z : EReal)) ((sum_term _ _ _).trans (sum_dwo _ _))

end Cert.Outproj.Final

end
-- ==== Proof.Outproj.Claim.lean ====
/- The two programs of the out-projection's gradient agree. -/
module

public import proofs.«01_k».proof.Defs
public import proofs.«01_k».proof.Proof.Outproj.Ref
public import proofs.«01_k».proof.Proof.Outproj.Final

@[expose] public section

set_option maxRecDepth 16384

noncomputable section

namespace Cert.Outproj

open Idealize.ShloMosaic Idealize.ShloMosaic.TcCoe Idealize.SL.Sem Cert.Lift

theorem preFacts : Cert.Pre_finite.Facts where
  bcast_S_S4096x1024 := by decide
  bcast_S_S2048x1024 := by decide
  bcast_S_S1x1024 := by decide

/-- Finite arguments are real arrays. -/
theorem args_of_finite (m : (ℓ : Loc Cert.KernelIdeal.nD Cert.KernelIdeal.τ Cert.KernelIdeal.sig) → Buf (Elt Ideal) ℓ)
    (h : @Cert.Pre_KernelIdeal_finite preFacts m) (c : Dev Cert.KernelIdeal.nD) :
    ∃ a s w x t g, Final.Args m c a s w x t g := by
  obtain ⟨h0, h1, h2, h3, h4, h5⟩ := h c
  refine ⟨_, _, _, _, _, _, ⟨eq_up2 _ (finite_of_cmp _ _ ?_ h0), eq_up2 _ (finite_of_cmp _ _ ?_ h1), eq_up2 _ (finite_of_cmp _ _ ?_ h2),
    eq_up2 _ (finite_of_cmp _ _ ?_ h3), eq_up2 _ (finite_of_cmp _ _ ?_ h4), eq_up2 _ (finite_of_cmp _ _ ?_ h5)⟩⟩
  all_goals intro i; first | exact bits_inf | exact bits_inf_bf16

/-- The reference writes none of its arguments and declares no semaphore. -/
theorem frameRef : @Cert.quiescent_ReferenceIdeal Cert.ReferenceIdeal.Gen.facts := fun m ρ _ =>
  (θ_run Cert.ReferenceIdeal.defs _ _).mono
    (fun r h => ⟨fun c => (h c).2.2.2.2, sem_eq_zero_of_no_sems (by decide) r.2⟩) (Cert.ReferenceIdeal.Value.run (F := Ideal) m ρ)

theorem algebraic : @Cert.algebraic_KernelIdeal_ReferenceIdeal_pre_finite Cert.KernelIdeal.Gen.facts Cert.ReferenceIdeal.Gen.facts preFacts := by
  pair_intro
  · run_from Cert.KernelIdeal.Value.run_blocks m g
  · run_from Cert.ReferenceIdeal.Value.run m' g'
    all_goals obtain ⟨a, s, w, x, t, n, h⟩ := args_of_finite m hpre c
    all_goals obtain ⟨e0, e1, e2, e3, e4, e5⟩ := hagree c
    · rw [Cert.ReferenceIdeal.Read.val_main_v63_eq, e0, e1, e2, e3, e4, e5, h.a, h.s, h.w, h.x, h.t, h.g, Final.final6 h]
      exact Ref.v63 a s w x t n
    · rw [h.a, h.s, h.w, h.x, h.t, h.g, Final.final7 h]
      exact Ref.v34 a s w x t n
    · rw [Cert.ReferenceIdeal.Read.val_main_v62_eq, e0, e1, e2, e3, e4, e5, h.a, h.s, h.w, h.x, h.t, h.g, Final.final8 h]
      exact Ref.v62 a s w x t n
    · rw [Cert.ReferenceIdeal.Read.val_main_v55_eq, e0, e1, e2, e3, e4, e5, h.a, h.s, h.w, h.x, h.t, h.g, Final.final9 h]
      exact Ref.v55 a s w x t n

end Cert.Outproj

end
-- ==== Proof.Inproj.Spec.lean ====
/- The gradient of a product of a normalised matrix with a weight, as functions of real arrays. The row index is any finite
   type, so that a block of rows and the whole array are read by the same definitions. -/
module

public import proofs.«01_k».proof.Proof.Lift

@[expose] public section

noncomputable section

namespace Cert.Inproj

open Cert.Lift

/-- The gradients of the columns of the projection: queries, keys, values, gate, then the state space's gate, convolved
    columns and steps. -/
structure Parts (n : ℕ) where
  q : Fin n → Fin 1024 → ℝ
  k : Fin n → Fin 1024 → ℝ
  v : Fin n → Fin 1024 → ℝ
  g : Fin n → Fin 1024 → ℝ
  z : Fin n → Fin 1024 → ℝ
  b : Fin n → Fin 1536 → ℝ
  t : Fin n → Fin 16 → ℝ

/-- The same column by another name. -/
theorem coe_at {n : ℕ} (f : Fin n → ℝ) (a b : ℕ) (ha : a < n) (hb : b < n) (e : a = b) : ((f ⟨a, ha⟩ : ℝ) : EReal) = ((f ⟨b, hb⟩ : ℝ) : EReal) := by
  subst e; rfl

variable {n : ℕ}

/-- The last three parts side by side, zeros after them. -/
def Parts.tail (P : Parts n) : Fin n → Fin 3072 → ℝ := fun r e =>
  if h : e.val < 1024 then P.z r ⟨e.val, h⟩
  else if h : e.val < 2560 then P.b r ⟨e.val - 1024, by omega⟩
  else if h : e.val < 2576 then P.t r ⟨e.val - 2560, by omega⟩
  else 0

/-- All the columns, zeros after them. -/
def Parts.all (P : Parts n) : Fin n → Fin 7168 → ℝ := fun r e =>
  if h : e.val < 1024 then P.q r ⟨e.val, h⟩
  else if h : e.val < 2048 then P.k r ⟨e.val - 1024, by omega⟩
  else if h : e.val < 3072 then P.v r ⟨e.val - 2048, by omega⟩
  else if h : e.val < 4096 then P.g r ⟨e.val - 3072, by omega⟩
  else P.tail r ⟨e.val - 4096, by omega⟩

/-- The weight's rows, zeros after them. -/
def padded (w : Fin 1024 → Fin 6672 → ℝ) : Fin 7168 → Fin 1024 → ℝ := fun e d => if h : e.val < 6672 then w d ⟨e.val, h⟩ else 0

/-- The gradient at the normalised matrix. -/
def du (P : Parts n) (w : Fin 1024 → Fin 6672 → ℝ) : Fin n → Fin 1024 → ℝ := fun r d => ∑ e, P.all r e * padded w e d

variable (u x : Fin n → Fin 1024 → ℝ) (g : Fin 1 → Fin 1024 → ℝ)

def msq : Fin n → ℝ := fun r => (∑ d, x r d * x r d) / 1024 + eps
def rs : Fin n → ℝ := fun r => (Real.sqrt (msq x r))⁻¹
def nrm : Fin n → Fin 1024 → ℝ := fun r d => x r d * rs x r
def dn : Fin n → Fin 1024 → ℝ := fun r d => u r d * g 0 d
def dx : Fin n → Fin 1024 → ℝ := fun r d => rs x r * (dn u g r d - nrm x r d * ((∑ e, dn u g r e * nrm x r e) / 1024))
def dg : Fin 1024 → ℝ := fun d => ∑ r, u r d * nrm x r d
/-- The row of sums, over zeros. -/
def sums : Fin 8 → Fin 1024 → ℝ := fun q d => if q.val = 0 then dg u x d else 0

theorem msq_pos (r : Fin n) : 0 < msq x r :=
  add_pos_of_nonneg_of_pos (div_nonneg (Finset.sum_nonneg fun _ _ => mul_self_nonneg _) (by norm_num)) eps_pos

theorem rs_sq (r : Fin n) : rs x r / msq x r = rs x r * rs x r * rs x r := by
  have h : rs x r * rs x r = (msq x r)⁻¹ := by
    unfold rs; rw [← mul_inv, Real.mul_self_sqrt (msq_pos x r).le]
  rw [h, div_eq_mul_inv, mul_comm]

/-- The gradient as differentiating the root mean square writes it. -/
theorem dx_eq (r : Fin n) (d : Fin 1024) :
    dx u x g r d = dn u g r d * rs x r
      + x r d * ((∑ e, x r e * dn u g r e) * (-1 / 2 * (rs x r / msq x r)) / 1024)
      + ((∑ e, x r e * dn u g r e) * (-1 / 2 * (rs x r / msq x r)) / 1024) * x r d := by
  have h : ∑ e, dn u g r e * nrm x r e = (∑ e, x r e * dn u g r e) * rs x r := by
    rw [Finset.sum_mul]; exact Finset.sum_congr rfl fun e _ => by unfold nrm; ring
  rw [rs_sq]; unfold dx; rw [h]; unfold nrm; ring

/-- The padding contributes nothing. -/
theorem du_eq (P : Parts n) (w : Fin 1024 → Fin 6672 → ℝ) (r : Fin n) (d : Fin 1024) :
    du P w r d = ∑ e : Fin 6672, P.all r ⟨e.val, by omega⟩ * w d e := by
  have h := Fin.sum_univ_add (a := 6672) (b := 496) (fun e : Fin (6672 + 496) => P.all r e * padded w e d)
  refine h.trans ?_
  have hz : ∑ i : Fin 496, P.all r (Fin.natAdd 6672 i) * padded w (Fin.natAdd 6672 i) d = 0 :=
    Finset.sum_eq_zero fun i _ => by
      have : padded w (Fin.natAdd 6672 i) d = 0 := dif_neg (by simp)
      rw [this, mul_zero]
  rw [hz, add_zero]
  refine Finset.sum_congr rfl fun e _ => ?_
  have : padded w (Fin.castAdd 496 e) d = w d e := dif_pos e.isLt
  rw [this]; rfl

end Cert.Inproj

end
-- ==== Proof.Inproj.Ref.lean ====
/- The reference's operations on real arrays, one at a time. -/
module

public import proofs.«01_k».proof.Proof.Inproj.Spec
public import proofs.«01_k».proof.Proof.Gen.InprojRefIdeal.Read

@[expose] public section

set_option maxRecDepth 16384

noncomputable section

namespace Cert.Inproj.Ref

open Idealize.ShloMosaic Idealize.ShloMosaic.TcCoe Idealize.SL.Sem
open Cert.InprojRefIdeal Cert.InprojRefIdeal.Gen Cert.InprojRefIdeal.Read Cert.Lift Cert.Inproj

variable (P : Parts 4096) (w : Fin 1024 → Fin 6672 → ℝ) (x : Fin 4096 → Fin 1024 → ℝ) (g : Fin 1 → Fin 1024 → ℝ)
  (R : Vec Ideal S4096x1024 .f32)

theorem v7 : val_main_v7 (F := Ideal) (up2 P.q) (up2 P.k) (up2 P.v) (up2 P.g) (up2 P.z) (up2 P.b) (up2 P.t)
    = up2 fun r (e : Fin 6672) => P.all r ⟨e.val, by omega⟩ := by
  funext i; idx_vars i
  pointwise [val_main_v7, val_main_v0, val_main_v1, val_main_v2, val_main_v3, val_main_v4, val_main_v5, val_main_v6, up2]
  unfold Parts.all Parts.tail
  dsimp only
  by_cases h0 : i1.val < 1024
  · rw [dif_pos (show i1.val < 1024 by omega), dif_pos h0]
  rw [dif_neg (show ¬i1.val < 1024 by omega), dif_neg h0]
  by_cases h1 : i1.val < 2048
  · rw [dif_pos (show i1.val - 1024 < 1024 by omega), dif_pos h1]
  rw [dif_neg (show ¬i1.val - 1024 < 1024 by omega), dif_neg h1]
  by_cases h2 : i1.val < 3072
  · rw [dif_pos (show i1.val - 1024 - 1024 < 1024 by omega), dif_pos h2]
    exact coe_at _ _ _ _ _ (by omega)
  rw [dif_neg (show ¬i1.val - 1024 - 1024 < 1024 by omega), dif_neg h2]
  by_cases h3 : i1.val < 4096
  · rw [dif_pos (show i1.val - 1024 - 1024 - 1024 < 1024 by omega), dif_pos h3]
    exact coe_at _ _ _ _ _ (by omega)
  rw [dif_neg (show ¬i1.val - 1024 - 1024 - 1024 < 1024 by omega), dif_neg h3]
  by_cases h4 : i1.val - 4096 < 1024
  · rw [dif_pos (show i1.val - 1024 - 1024 - 1024 - 1024 < 1024 by omega), dif_pos h4]
    exact coe_at _ _ _ _ _ (by omega)
  rw [dif_neg (show ¬i1.val - 1024 - 1024 - 1024 - 1024 < 1024 by omega), dif_neg h4]
  by_cases h5 : i1.val - 4096 < 2560
  · rw [dif_pos (show i1.val - 1024 - 1024 - 1024 - 1024 - 1024 < 1536 by omega), dif_pos h5]
    exact coe_at _ _ _ _ _ (by omega)
  rw [dif_neg (show ¬i1.val - 1024 - 1024 - 1024 - 1024 - 1024 < 1536 by omega), dif_neg h5]
  rw [dif_pos (show i1.val - 4096 < 2576 by omega)]
  exact coe_at _ _ _ _ _ (by omega)

theorem v14 : val_main_v14 (F := Ideal) (up2 x) = up2 (fun r (_ : Fin 1) => msq x r) := by
  funext i; idx_vars i
  pointwise [val_main_v14, val_main_v13, val_main_v12, val_main_v11, val_main_v10, val_main_v9, val_main_v8, up2, val_main_cst, val_main_cst_0, val_main_cst_1]
  simp only [bits_1024, bits_eps, ← EReal.coe_mul, coe_sum, div_coe_coe _ (by norm_num : (1024 : ℝ) ≠ 0), ← EReal.coe_add]; rfl

theorem v15 : val_main_v15 (F := Ideal) (up2 x) = up2 (fun r (_ : Fin 1) => rs x r) := by
  funext i; idx_vars i
  pointwise [val_main_v15, v14, up2]
  rw [rsqrt_coe (msq_pos x i0)]; rfl

theorem v18 : val_main_v18 (F := Ideal) (up2 x) = up2 (fun r (_ : Fin 1) => -1 / 2 * (rs x r / msq x r)) := by
  funext i; idx_vars i
  pointwise [val_main_v18, val_main_v17, val_main_cst_2, val_main_v16, v14, v15, up2]
  simp only [bits_neg_half, div_coe_coe _ (msq_pos x i0).ne', ← EReal.coe_mul]

theorem v24 : val_main_v24 (F := Ideal) (up2 P.q) (up2 P.k) (up2 P.v) (up2 P.g) (up2 P.z) (up2 P.b) (up2 P.t) (up2 w) = up2 (du P w) := by
  funext i; idx_vars i
  pointwise [val_main_v24, v7, up2]
  simp only [← EReal.coe_mul, coe_sum]
  rw [du_eq]

theorem v29 : val_main_v29 (F := Ideal) (up2 P.q) (up2 P.k) (up2 P.v) (up2 P.g) (up2 P.z) (up2 P.b) (up2 P.t) (up2 w) (up2 g)
    = up2 (dn (du P w) g) := by
  funext i; idx_vars i
  pointwise [val_main_v29, val_main_v28, v24, up2]
  simp only [← EReal.coe_mul]; rfl

theorem v37 : val_main_v37 (F := Ideal) (up2 P.q) (up2 P.k) (up2 P.v) (up2 P.g) (up2 P.z) (up2 P.b) (up2 P.t) (up2 w) (up2 x) (up2 g)
    = up2 (fun r (_ : Fin 1) => (∑ e, x r e * dn (du P w) g r e) * (-1 / 2 * (rs x r / msq x r)) / 1024) := by
  funext i; idx_vars i
  pointwise [val_main_v37, val_main_v36, val_main_v35, val_main_v32, val_main_v31, val_main_v30, val_main_cst_4, val_main_cst_5,
    v29, v18, up2]
  simp only [bits_1024, ← EReal.coe_mul, coe_sum, div_coe_coe _ (by norm_num : (1024 : ℝ) ≠ 0)]

theorem v43 : val_main_v43 (F := Ideal) (up2 P.q) (up2 P.k) (up2 P.v) (up2 P.g) (up2 P.z) (up2 P.b) (up2 P.t) (up2 w) (up2 x) (up2 g)
    = up2 (dx (du P w) x g) := by
  funext i; idx_vars i
  pointwise [val_main_v43, val_main_v42, val_main_v41, val_main_v40, val_main_v39, val_main_v38, val_main_v34, val_main_v33,
    val_main_cst_6, v37, v29, v15, up2]
  simp only [← EReal.coe_mul, ← EReal.coe_add, coe_sum, Finset.univ_unique, Finset.sum_singleton]
  rw [dx_eq]

theorem v44 : val_main_v44 (F := Ideal) (up2 P.q) (up2 P.k) (up2 P.v) (up2 P.g) (up2 P.z) (up2 P.b) (up2 P.t) (up2 w) (up2 x) (up2 g) R
    = fun i => R i + up2 (dx (du P w) x g) i := by
  funext i
  pointwise [val_main_v44, v43]

theorem v46 : val_main_v46 (F := Ideal) (up2 P.q) (up2 P.k) (up2 P.v) (up2 P.g) (up2 P.z) (up2 P.b) (up2 P.t) (up2 w) (up2 x)
    = up2 (sums (du P w) x) := by
  funext i; idx_vars i
  pointwise [val_main_v46, val_main_v45, val_main_v27, val_main_v26, val_main_v25, val_main_v20, val_main_v19, v24, v15,
    val_main_cst_7, val_main_cst_3, up2]
  simp only [← EReal.coe_mul, coe_sum]
  have hz : (0 : EReal) = ((0 : ℝ) : EReal) := rfl
  rw [hz]; unfold sums dg nrm
  split_ifs <;> first | rfl | (exfalso; omega) | (congr 1; exact Finset.sum_congr rfl fun _ _ => mul_comm _ _)

end Cert.Inproj.Ref

end
-- ==== Proof.Inproj.Pay.lean ====
/- The values one grid point of the kernel computes, on real arrays. -/
module

public import proofs.«01_k».proof.Proof.Inproj.Spec
public import proofs.«01_k».proof.Proof.Gen.InprojIdeal.Skeleton

@[expose] public section

set_option maxRecDepth 16384

noncomputable section

namespace Cert.Inproj.Pay

open Idealize.ShloMosaic Idealize.ShloMosaic.TcCoe Idealize.SL.Sem
open Cert.InprojIdeal Cert.InprojIdeal.Gen Cert.Lift Cert.Inproj

variable (y a b u x : Fin 1024 → Fin 1024 → ℝ) (g : Fin 1 → Fin 1024 → ℝ)

/-- A product of two blocks. -/
def prod : Fin 1024 → Fin 1024 → ℝ := fun r d => ∑ e, a r e * b e d

theorem p7 : k0_pay7 (F := Ideal) (up2 a) (up2 b) = up2 (prod a b) := by
  funext i; idx_vars i
  pointwise [k0_pay7, up2]
  simp only [← EReal.coe_mul, coe_sum]; rfl

theorem p1 : k0_pay1 (F := Ideal) (up2 y) (up2 a) (up2 b) = up2 fun r d => y r d + prod a b r d := by
  funext i; idx_vars i
  pointwise [k0_pay1, up2]
  simp only [← EReal.coe_mul, coe_sum, ← EReal.coe_add]; rfl

theorem p8 : k0_pay8 (F := Ideal) (up2 y) (up2 a) (up2 b) = up2 fun r d => y r d + prod a b r d := by
  funext i; idx_vars i
  pointwise [k0_pay8, up2]
  simp only [← EReal.coe_mul, coe_sum, ← EReal.coe_add]; rfl

theorem p9 : k0_pay9 (F := Ideal) (up2 y) (up2 a) (up2 b) = up2 fun r d => y r d + prod a b r d := p8 y a b
theorem p10 : k0_pay10 (F := Ideal) (up2 y) (up2 a) (up2 b) = up2 fun r d => y r d + prod a b r d := p8 y a b
theorem p11 : k0_pay11 (F := Ideal) (up2 y) (up2 a) (up2 b) = up2 fun r d => y r d + prod a b r d := p8 y a b

theorem p2 : k0_pay2 (F := Ideal) (up2 x) = up2 (fun r (_ : Fin 1) => rs x r) := by
  funext i; idx_vars i
  pointwise [k0_pay2, up2]
  simp only [bits_1024, bits_eps, ← EReal.coe_mul, coe_sum, div_coe_coe _ (by norm_num : (1024 : ℝ) ≠ 0), ← EReal.coe_add]
  exact rsqrt_coe (msq_pos x i0)

theorem p3 : k0_pay3 (F := Ideal) (up2 x) = up2 (nrm x) := by
  funext i; idx_vars i
  pointwise [k0_pay3, p2, up2]
  simp only [← EReal.coe_mul]; rfl

theorem p4 (z : Fin 1 → Fin 1024 → ℝ) : k0_pay4 (F := Ideal) (up2 x) (up2 u) (up2 z) = up2 (fun (q : Fin 1) d => z q d + dg u x d) := by
  funext i; idx_vars i
  pointwise [k0_pay4, p3, up2]
  simp only [← EReal.coe_mul, coe_sum, ← EReal.coe_add]; rfl

theorem p5 (R : Vec Ideal S1024x1024 .f32) : k0_pay5 (F := Ideal) (up2 x) (up2 u) (up2 g) R = fun i => R i + up2 (dx u x g) i := by
  funext i; idx_vars i
  pointwise [k0_pay5, p3, p2, up2]
  simp only [bits_1024, ← EReal.coe_mul, coe_sum, div_coe_coe _ (by norm_num : (1024 : ℝ) ≠ 0), ← EReal.coe_sub]; rfl

theorem p6 : k0_pay6 (F := Ideal) = up2 fun _ _ => 0 := by
  funext i; idx_vars i
  pointwise [k0_pay6, up2]; rfl

end Cert.Inproj.Pay

end
-- ==== Proof.Inproj.Final.lean ====
/- What the kernel leaves in its two results, on real arrays. -/
module

public import proofs.«01_k».proof.Proof.Inproj.Pay
public import proofs.«01_k».proof.Proof.Stores
public import proofs.«01_k».proof.Proof.Gen.InprojIdeal.Value
public import Idealize.ShloMosaic.Lib.Pipeline.ValueKit
public import Idealize.ShloMosaic.Lib.Pipeline.ReadBack
public import Idealize.ShloMosaic.Lib.Claim
public import Idealize.ShloMosaic.Lib.StableHlo.RunRead
public import Idealize.ShloMosaic.Lib.KernelVsHost

@[expose] public section

set_option maxRecDepth 16384

noncomputable section

namespace Cert.Inproj.Final

open Idealize.ShloMosaic Idealize.ShloMosaic.TcCoe Idealize.SL.Sem
open Idealize.ShloMosaic.Pipeline (Dat)
open Cert.InprojIdeal Cert.InprojIdeal.Gen Cert.Lift Cert.Inproj

theorem idx : ∀ t : Fin cfg0.N, win0_0.index t = ![t.val / 7, 0] ∧ win0_1.index t = ![t.val / 7, 0] ∧ win0_2.index t = ![t.val / 7, 0] ∧
    win0_3.index t = ![t.val / 7, 0] ∧ win0_4.index t = ![t.val / 7, t.val % 7 - 4] ∧ win0_5.index t = ![t.val % 7, 0] ∧
    win0_6.index t = ![t.val / 7, 0] ∧ win0_7.index t = ![0, 0] ∧ win0_8.index t = ![t.val / 7, 0] ∧ win0_9.index t = ![t.val / 7, 0] ∧
    win0_10.index t = ![0, 0] :=
  (by decide +kernel : ∀ t : Fin grid0.N, _)

/-- A row of a block as a row of the array. -/
def row (p : Fin 28) (r : Fin 1024) : Fin 4096 := ⟨1024 * (p.val / 7) + r.val, by omega⟩

/-- The rows of a matrix one grid point works on. -/
def rows {α : Type} (p : Fin 28) (a : Fin 4096 → α) : Fin 1024 → α := fun r => a (row p r)

/-- A column of the block of columns one grid point works on. -/
def col (p : Fin 28) (e : Fin 1024) : Fin 7168 := ⟨1024 * (p.val % 7) + e.val, by omega⟩

variable (m : (ℓ : Loc nD τ sig) → Buf (Elt Ideal) ℓ) (c : Dev nD)
  (P : Parts 4096) (w : Fin 1024 → Fin 6672 → ℝ) (x : Fin 4096 → Fin 1024 → ℝ) (g : Fin 1 → Fin 1024 → ℝ)
  (R : Vec Ideal S4096x1024 .f32)

/-- The arguments are these real arrays. -/
structure Args : Prop where
  q : m ((c.tc : Thread nD τ).loc main_arg0) = up2 P.q
  k : m ((c.tc : Thread nD τ).loc main_arg1) = up2 P.k
  v : m ((c.tc : Thread nD τ).loc main_arg2) = up2 P.v
  gt : m ((c.tc : Thread nD τ).loc main_arg3) = up2 P.g
  z : m ((c.tc : Thread nD τ).loc main_arg4) = up2 P.z
  b : m ((c.tc : Thread nD τ).loc main_arg5) = up2 P.b
  t : m ((c.tc : Thread nD τ).loc main_arg6) = up2 P.t
  w : m ((c.tc : Thread nD τ).loc main_arg7) = up2 w
  x : m ((c.tc : Thread nD τ).loc main_arg8) = up2 x
  g : m ((c.tc : Thread nD τ).loc main_arg9) = up2 g
  r : m ((c.tc : Thread nD τ).loc main_arg10) = R

variable {m c P w x g R} (h : Args m c P w x g R) (p : Fin cfg0.N)

include h in
theorem blk0 : iblk m c 0 p = up2 (rows p P.q) := by
  funext i; idx_vars i
  have e : iblk m c 0 p (ix2 i0 i1) = m ((c.tc : Thread nD τ).loc main_arg0) (ix2 (row p i0) i1) := by blk_ext [iblk, V, idx p, row]
  rw [e, h.q]; rfl

include h in
theorem blk1 : iblk m c 1 p = up2 (rows p P.k) := by
  funext i; idx_vars i
  have e : iblk m c 1 p (ix2 i0 i1) = m ((c.tc : Thread nD τ).loc main_arg1) (ix2 (row p i0) i1) := by blk_ext [iblk, V, idx p, row]
  rw [e, h.k]; rfl

include h in
theorem blk2 : iblk m c 2 p = up2 (rows p P.v) := by
  funext i; idx_vars i
  have e : iblk m c 2 p (ix2 i0 i1) = m ((c.tc : Thread nD τ).loc main_arg2) (ix2 (row p i0) i1) := by blk_ext [iblk, V, idx p, row]
  rw [e, h.v]; rfl

include h in
theorem blk3 : iblk m c 3 p = up2 (rows p P.g) := by
  funext i; idx_vars i
  have e : iblk m c 3 p (ix2 i0 i1) = m ((c.tc : Thread nD τ).loc main_arg3) (ix2 (row p i0) i1) := by blk_ext [iblk, V, idx p, row]
  rw [e, h.gt]; rfl

/-- The packed last parts are the operands side by side, zeros after them. -/
theorem opTail_eq : V m c main_v1 = concatenate S4096x3072 1 [⟨S4096x1024, (m ((c.tc : Thread nD τ).loc main_arg4) : Vec Ideal S4096x1024 .bf16)⟩,
    ⟨S4096x1536, (m ((c.tc : Thread nD τ).loc main_arg5) : Vec Ideal S4096x1536 .bf16)⟩,
    ⟨S4096x16, (m ((c.tc : Thread nD τ).loc main_arg6) : Vec Ideal S4096x16 .bf16)⟩,
    ⟨S4096x496, (broadcastInDim S4096x496 ![] bcast_S_S4096x496 (constant (F := Ideal) S_ .bf16 0x0000#16 : Vec Ideal S_ .bf16) : Vec Ideal S4096x496 .bf16)⟩]
    concatenates_S4096x1024_S4096x1536_S4096x16_S4096x496_S4096x3072_d1 := by
  refine (StableHlo.after_last_write (i := 2) [main_v2, main_v3, main_c, main_call0_v0, main_v4] rfl rfl (by decide) _).trans ?_
  rw [StableHlo.nary_result']
  rfl

include h in
theorem opTail : V m c main_v1 = up2 P.tail := by
  rw [opTail_eq, h.z, h.b, h.t]
  funext j; idx_vars j
  pointwise [up2]
  unfold Parts.tail
  by_cases h0 : j1.val < 1024
  · rw [dif_pos h0, dif_pos h0]
  rw [dif_neg h0, dif_neg h0]
  by_cases h1 : j1.val < 2560
  · rw [dif_pos (show j1.val - 1024 < 1536 by omega), dif_pos h1]
  rw [dif_neg (show ¬j1.val - 1024 < 1536 by omega), dif_neg h1]
  by_cases h2 : j1.val < 2576
  · rw [dif_pos (show j1.val - 1024 - 1536 < 16 by omega), dif_pos h2]
    exact coe_at _ _ _ _ _ (by omega)
  · rw [dif_neg (show ¬j1.val - 1024 - 1536 < 16 by omega), dif_neg h2]; rfl

/-- The weight the kernel reads is the transposed weight over zeros. -/
theorem opW_eq : V m c main_v4 = pad S7168x1024 ![0, 0] ![496, 0] ![0, 0]
    (truncf (F := Ideal) .bf16 (transpose S6672x1024 [1, 0] (m ((c.tc : Thread nD τ).loc main_arg7) : Vec Ideal S1024x6672 .f32) transposes_S1024x6672_S6672x1024_1_0) bitsLt_bf16_f32)
    (sitofp (F := Ideal) .bf16 (constantI S_ 32 0#32)) pads_S6672x1024_S7168x1024_04960_000 h_S_ := by
  simp only [V, hostOps0, hostOps0_1, List.flatten_cons, List.flatten_nil, List.append_nil, List.cons_append, List.nil_append]
  entry_read
  rfl

include h in
theorem opW : V m c main_v4 = up2 (padded w) := by
  rw [opW_eq, h.w]
  funext j; idx_vars j
  pointwise [up2]
  unfold padded
  by_cases h0 : j0.val < 6672
  · rw [dif_pos h0, dif_pos h0]
  · rw [dif_neg h0, dif_neg h0]; exact (Idealize.ShloMosaic.sitofp_zero).trans EReal.coe_zero.symm

include h in
theorem blk4 (hp : 4 ≤ p.val % 7) : iblk m c 4 p = up2 (fun r e => P.all (row p r) (col p e)) := by
  funext i; idx_vars i
  have e : iblk m c 4 p (ix2 i0 i1) = V m c main_v1 (ix2 (row p i0) ⟨1024 * (p.val % 7 - 4) + i1.val, by omega⟩) := by blk_ext [iblk, idx p, row]
  rw [e, opTail h]
  simp only [up2, Parts.all]
  rw [dif_neg (by simp only [col]; omega), dif_neg (by simp only [col]; omega), dif_neg (by simp only [col]; omega), dif_neg (by simp only [col]; omega)]
  exact congrArg (fun e => ((P.tail (row p i0) e : ℝ) : EReal)) (Fin.ext (by show 1024 * (p.val % 7 - 4) + i1.val = 1024 * (p.val % 7) + i1.val - 4096; omega))

include h in
theorem blk5 : iblk m c 5 p = up2 (fun e d => padded w (col p e) d) := by
  funext i; idx_vars i
  have e : iblk m c 5 p (ix2 i0 i1) = V m c main_v4 (ix2 (col p i0) i1) := by blk_ext [iblk, idx p, col]
  rw [e, opW h]; rfl

include h in
theorem blk6 : iblk m c 6 p = up2 (rows p x) := by
  funext i; idx_vars i
  have e : iblk m c 6 p (ix2 i0 i1) = m ((c.tc : Thread nD τ).loc main_arg8) (ix2 (row p i0) i1) := by blk_ext [iblk, V, idx p, row]
  rw [e, h.x]; rfl

include h in
theorem blk7 : iblk m c 7 p = up2 g := by
  funext i; idx_vars i
  have e : iblk m c 7 p (ix2 i0 i1) = m ((c.tc : Thread nD τ).loc main_arg9) (ix2 i0 i1) := by blk_ext [iblk, V, idx p]
  rw [e, h.g]

variable (P w) in
/-- One block of columns' part of the gradient at the normalised matrix. -/
def part (p : Fin 28) : Fin 1024 → Fin 1024 → ℝ := fun r d => ∑ e, P.all (row p r) (col p e) * padded w (col p e) d

theorem part_eq (a : Fin 1024 → Fin 1024 → ℝ) (ha : ∀ r e, a r e = P.all (row p r) (col p e)) :
    Pay.prod a (fun e d => padded w (col p e) d) = part P w p := by
  funext r d
  exact Finset.sum_congr rfl fun e _ => by rw [ha]

theorem all_q (hp : p.val % 7 = 0) (r e : Fin 1024) : rows p P.q r e = P.all (row p r) (col p e) := by
  unfold Parts.all
  rw [dif_pos (by simp only [col]; omega)]
  exact congrArg (P.q _) (Fin.ext (by simp only [col]; omega))

theorem all_k (hp : p.val % 7 = 1) (r e : Fin 1024) : rows p P.k r e = P.all (row p r) (col p e) := by
  unfold Parts.all
  rw [dif_neg (by simp only [col]; omega), dif_pos (by simp only [col]; omega)]
  exact congrArg (P.k _) (Fin.ext (by simp only [col]; omega))

theorem all_v (hp : p.val % 7 = 2) (r e : Fin 1024) : rows p P.v r e = P.all (row p r) (col p e) := by
  unfold Parts.all
  rw [dif_neg (by simp only [col]; omega), dif_neg (by simp only [col]; omega), dif_pos (by simp only [col]; omega)]
  exact congrArg (P.v _) (Fin.ext (by simp only [col]; omega))

theorem all_g (hp : p.val % 7 = 3) (r e : Fin 1024) : rows p P.g r e = P.all (row p r) (col p e) := by
  unfold Parts.all
  rw [dif_neg (by simp only [col]; omega), dif_neg (by simp only [col]; omega), dif_neg (by simp only [col]; omega), dif_pos (by simp only [col]; omega)]
  exact congrArg (P.g _) (Fin.ext (by simp only [col]; omega))

/-- What the point before left. -/
abbrev before (m : (ℓ : Loc nD τ sig) → Buf (Elt Ideal) ℓ) (c : Dev nD) (p : Fin cfg0.N) := outsAt0 m c (p.val - 1) (Nat.lt_of_le_of_lt (Nat.sub_le _ _) p.isLt)

/-- The kept block, read whole. -/
theorem scr (z : Vec Ideal S1024x1024 .f32) : View.read (Elt Ideal) (View.whole cc0_scratch0) ((Memref.isWhole_whole cc0_scratch0).unread z) = z :=
  Memref.IsWhole.read_unread _ _

include h in
/-- A block of rows begins. -/
theorem acc_first (h1 : p.val % 7 = 0) : (outsAt0 m c p.val p.isLt).2.2 = up2 (part P w p) := by
  by_cases h0 : p.val % 28 = 0
  · rw [outsAt0_A m c p h0 h1 (by omega) (by omega) (by omega) (by omega) (by omega)]
    frame_out
    rw [blk0 h, blk5 h, Pay.p7, part_eq p _ (all_q p h1)]
  · rw [outsAt0_G m c p h0 h1 (by omega) (by omega) (by omega) (by omega) (by omega)]
    frame_out
    rw [blk0 h, blk5 h, Pay.p7, part_eq p _ (all_q p h1)]

include h in
/-- A further block of columns. -/
theorem acc_next (h1 : ¬p.val % 7 = 0) (y : Fin 1024 → Fin 1024 → ℝ) (hy : (before m c p).2.2 = up2 y) :
    (outsAt0 m c p.val p.isLt).2.2 = up2 fun r d => y r d + part P w p r d := by
  have h0 : ¬p.val % 28 = 0 := by omega
  by_cases h3 : p.val % 7 = 1
  · rw [outsAt0_B m c p h0 h1 h3 (by omega) (by omega) (by omega) (by omega), hy]
    frame_out
    rw [scr, blk1 h, blk5 h, Pay.p9, part_eq p _ (all_k p h3)]
  by_cases h4 : p.val % 7 = 2
  · rw [outsAt0_C m c p h0 h1 h3 h4 (by omega) (by omega) (by omega), hy]
    frame_out
    rw [scr, blk2 h, blk5 h, Pay.p10, part_eq p _ (all_v p h4)]
  by_cases h5 : p.val % 7 = 3
  · rw [outsAt0_D m c p h0 h1 h3 h4 h5 (by omega) (by omega), hy]
    frame_out
    rw [scr, blk3 h, blk5 h, Pay.p11, part_eq p _ (all_g p h5)]
  have h6 : 4 ≤ p.val % 7 := by omega
  by_cases h7 : p.val % 7 = 6
  · rw [outsAt0_F m c p h0 h1 h3 h4 h5 h6 h7, hy]
    frame_out
    rw [scr, blk4 h p h6, blk5 h, Pay.p1, part_eq p _ fun _ _ => rfl]
  · rw [outsAt0_E m c p h0 h1 h3 h4 h5 h6 h7, hy]
    frame_out
    rw [scr, blk4 h p h6, blk5 h, Pay.p1, part_eq p _ fun _ _ => rfl]

variable (P w) in
/-- The part of the `j`-th block of columns for the `i`-th block of rows. -/
def pt (i j : ℕ) : Fin 1024 → Fin 1024 → ℝ := fun r d => if h : 7 * i + j < 28 then part P w ⟨7 * i + j, h⟩ r d else 0

theorem pt_eq (n i j : ℕ) (hn : n < 28) (e : 7 * i + j = n) (r d : Fin 1024) : pt P w i j r d = part P w ⟨n, hn⟩ r d := by
  subst e
  exact dif_pos hn

include h in
/-- The parts so far. -/
theorem acc (n : ℕ) (hn : n < cfg0.N) : (outsAt0 m c n hn).2.2
    = up2 fun r d => ∑ j ∈ Finset.range (n % 7 + 1), pt P w (n / 7) j r d := by
  induction n with
  | zero =>
    rw [acc_first h ⟨0, hn⟩ rfl]
    congr 1; funext r d
    refine ((Finset.sum_range_one fun j => pt P w 0 j r d).trans ?_).symm
    exact pt_eq 0 0 0 (by norm_num) rfl r d
  | succ n ih =>
    have hn' : n + 1 < 28 := hn
    by_cases h1 : (n + 1) % 7 = 0
    · rw [acc_first h ⟨n + 1, hn⟩ h1]
      congr 1; funext r d
      rw [h1, Finset.sum_range_one]
      exact (pt_eq (n + 1) _ 0 hn (by omega) r d).symm
    · rw [acc_next h ⟨n + 1, hn⟩ h1 _ (ih (by omega))]
      congr 1; funext r d
      rw [show (n + 1) % 7 = n % 7 + 1 by omega, show (n + 1) / 7 = n / 7 by omega, Finset.sum_range_succ _ (n % 7 + 1)]
      congr 1
      exact (pt_eq (n + 1) _ _ hn (by omega) r d).symm

/-- All the parts of a block of rows. -/
theorem parts_all (p : Fin 28) (h7 : p.val % 7 = 6) (r d : Fin 1024) :
    (∑ j ∈ Finset.range 6, pt P w (p.val / 7) j r d) + part P w p r d = rows p (du P w) r d := by
  rw [← pt_eq p.val (p.val / 7) 6 p.isLt (by omega) r d, ← Finset.sum_range_succ, Finset.sum_range]
  refine Eq.trans ?_ (sum_blocks 7 1024 rfl (fun e => P.all (row p r) e * padded w e d) (fun j e => ⟨1024 * j.val + e.val, by omega⟩) fun _ _ => rfl)
  refine Finset.sum_congr rfl fun j _ => ?_
  rw [pt_eq (7 * (p.val / 7) + j.val) _ _ (by omega) rfl]
  unfold part
  refine Finset.sum_congr rfl fun e _ => ?_
  have e1 : row ⟨7 * (p.val / 7) + j.val, by omega⟩ r = row p r := Fin.ext (by simp only [row]; omega)
  have e2 : col ⟨7 * (p.val / 7) + j.val, by omega⟩ e = ⟨1024 * j.val + e.val, by omega⟩ := Fin.ext (by simp only [col]; omega)
  rw [e1, e2]

include h in
theorem before_last (h7 : p.val % 7 = 6) : (before m c p).2.2 = up2 fun r d => ∑ j ∈ Finset.range 6, pt P w (p.val / 7) j r d := by
  have hp : p.val < 28 := p.isLt
  unfold before
  rw [acc h, show (p.val - 1) % 7 + 1 = 6 by omega, show (p.val - 1) / 7 = p.val / 7 by omega]

include h in
theorem blk8 : iblk m c 8 p = fun i : S1024x1024.Idx => R (ix2 (row p (i 0)) (i 1)) := by
  funext i; idx_vars i
  have e : iblk m c 8 p (ix2 i0 i1) = m ((c.tc : Thread nD τ).loc main_arg10) (ix2 (row p i0) i1) := by blk_ext [iblk, V, idx p, row]
  rw [e, h.r]

include h in
theorem last9 (h7 : p.val % 7 = 6) : (outsAt0 m c p.val p.isLt).1 = fun i : S1024x1024.Idx => R (ix2 (row p (i 0)) (i 1)) + up2 (dx (rows p (du P w)) (rows p x) g) i := by
  rw [outsAt0_F m c p (by omega) (by omega) (by omega) (by omega) (by omega) (by omega) h7, before_last h p h7]
  frame_out
  rw [scr, blk4 h p (by omega), blk5 h, blk6 h, blk7 h, blk8 h, Pay.p1, part_eq p _ fun _ _ => rfl, Pay.p5]
  simp only [parts_all p h7]

include h in
theorem final9 : (dats m 0 c).arrAt 9 cfg0.N = fun i : S4096x1024.Idx => R i + up2 (dx (du P w) x g) i := by
  refine (dats m 0 c).arrAt_eq_of_covers 9 _ (by decide +kernel) fun p hf y => ?_
  have h7 : p.val % 7 = 6 := (by decide +kernel : ∀ q : Fin cfg0.N, win0_9.flush q → q.val % 7 = 6) p hf
  have e : ((View.whole main_v5_0).slice (win0_9.rect p)).emb y = ix2 (row p (y 0)) (y 1) := by blk_ext [idx p, row]
  blk_simp
  rw [after0_9, last9 h p h7]
  rw [e]; rfl

/-- The first row of the sums. -/
theorem ld_row (y : Fin 8 → Fin 1024 → ℝ) :
    View.ld (Val := Elt Ideal) (e' := .f32) (up2 y) (Rect.unit (s := S8x1024) ![0, 0] ![1, 1024] inb_S8x1024_S1x1024_0_0) = up2 fun (_ : Fin 1) => y 0 := by
  funext i; idx_vars i
  rw [ld_tile]; simp [up2]

/-- Row zero over what was there. -/
theorem rows_eq (F z : Fin 8 → Fin 1024 → ℝ) (v : Fin 1 → Fin 1024 → ℝ) (j0 : Fin 8) (j1 : Fin 1024)
    (hv : ∀ d, F 0 d = v 0 d) (hz : ∀ q d, q ≠ 0 → F q d = z q d) :
    (if h : (0 ≤ j0.val ∧ j0.val < 0 + 1) ∧ 0 ≤ j1.val ∧ j1.val < 0 + 1024 then up2 v (ix2 ⟨j0.val - 0, by omega⟩ ⟨j1.val - 0, by omega⟩)
      else up2 z (ix2 j0 j1)) = up2 F (ix2 j0 j1) := by
  split_ifs with h0
  · have e : j0 = 0 := Fin.ext (by show j0.val = 0; omega)
    subst e; simp [up2, hv]
  · simp only [up2]
    exact congrArg _ (hz _ _ (fun e => h0 ⟨by rw [show j0 = 0 from e]; decide, by omega⟩)).symm

include h in
theorem acc10_A (h0 : p.val % 28 = 0) : (outsAt0 m c p.val p.isLt).2.1 = up2 fun _ _ => 0 := by
  rw [outsAt0_A m c p h0 (by omega) (by omega) (by omega) (by omega) (by omega) (by omega)]
  frame_out
  rw [Pay.p6]

include h in
theorem acc10_keep (h0 : ¬p.val % 28 = 0) (h7 : ¬p.val % 7 = 6) : (outsAt0 m c p.val p.isLt).2.1 = (before m c p).2.1 := by
  by_cases h1 : p.val % 7 = 0
  · rw [outsAt0_G m c p h0 h1 (by omega) (by omega) (by omega) (by omega) (by omega)]
    frame_out; try rfl
  by_cases h3 : p.val % 7 = 1
  · rw [outsAt0_B m c p h0 h1 h3 (by omega) (by omega) (by omega) (by omega)]
    frame_out; try rfl
  by_cases h4 : p.val % 7 = 2
  · rw [outsAt0_C m c p h0 h1 h3 h4 (by omega) (by omega) (by omega)]
    frame_out; try rfl
  by_cases h5 : p.val % 7 = 3
  · rw [outsAt0_D m c p h0 h1 h3 h4 h5 (by omega) (by omega)]
    frame_out; try rfl
  rw [outsAt0_E m c p h0 h1 h3 h4 h5 (by omega) h7]
  frame_out; try rfl

include h in
theorem acc10_F (h7 : p.val % 7 = 6) (y : Fin 8 → Fin 1024 → ℝ) (hy : (before m c p).2.1 = up2 y) :
    (outsAt0 m c p.val p.isLt).2.1 = up2 fun q d => y q d + sums (rows p (du P w)) (rows p x) q d := by
  rw [outsAt0_F m c p (by omega) (by omega) (by omega) (by omega) (by omega) (by omega) h7, before_last h p h7, hy]
  funext j; idx_vars j
  frame_out
  rw [scr, blk4 h p (by omega), blk5 h, blk6 h, Pay.p1, part_eq p _ fun _ _ => rfl]
  simp only [parts_all p h7]
  rw [ld_row, Pay.p4, read_tile, View.writes_nil, Memref.IsWhole.read_unread]
  refine rows_eq _ _ _ _ _ (fun d => ?_) fun q d h0 => ?_
  · simp [sums]
  · have : q.val ≠ 0 := fun e => h0 (Fin.ext e)
    simp [sums, this]

/-- What the `i`-th block of rows adds to the sums. -/
def tm (P : Parts 4096) (w : Fin 1024 → Fin 6672 → ℝ) (x : Fin 4096 → Fin 1024 → ℝ) (i : ℕ) : Fin 8 → Fin 1024 → ℝ := fun q d =>
  if h : 7 * i < 28 then sums (rows ⟨7 * i, h⟩ (du P w)) (rows ⟨7 * i, h⟩ x) q d else 0

include h in
theorem acc10 (n : ℕ) (hn : n < cfg0.N) : (outsAt0 m c n hn).2.1
    = up2 fun q d => ∑ i ∈ Finset.range ((n + 1) / 7), tm P w x i q d := by
  induction n with
  | zero =>
    rw [acc10_A h ⟨0, hn⟩ rfl]
    simp
  | succ n ih =>
    have hn' : n + 1 < 28 := hn
    by_cases h7 : (n + 1) % 7 = 6
    · rw [acc10_F h ⟨n + 1, hn⟩ h7 _ (ih (by omega))]
      congr 1; funext q d
      rw [show (n + 1 + 1) / 7 = (n + 1) / 7 + 1 by omega, Finset.sum_range_succ]
      congr 1
      have e : ∀ r, row ⟨7 * ((n + 1) / 7), by omega⟩ r = row ⟨n + 1, hn'⟩ r := fun r => Fin.ext (by simp only [row]; omega)
      unfold tm
      rw [dif_pos (show 7 * ((n + 1) / 7) < 28 by omega)]
      unfold rows
      simp only [e]; rfl
    · rw [acc10_keep h ⟨n + 1, hn⟩ (by show ¬(n + 1) % 28 = 0; omega) h7]
      refine (ih (by omega)).trans ?_
      rw [show (n + 1 + 1) / 7 = (n + 1) / 7 by omega]

theorem sum_tm (q : Fin 8) (d : Fin 1024) : ∑ i ∈ Finset.range 4, tm P w x i q d = sums (du P w) x q d := by
  rw [Finset.sum_range]
  have e : ∀ i : Fin 4, tm P w x i q d = sums (rows ⟨7 * i.val, by omega⟩ (du P w)) (rows ⟨7 * i.val, by omega⟩ x) q d := fun i => dif_pos _
  simp only [e]
  unfold sums
  split_ifs
  · exact sum_blocks 4 1024 rfl (fun r => du P w r d * nrm x r d) (fun i r => row ⟨7 * i.val, by omega⟩ r)
      fun i r => by simp only [row]; omega
  · simp

/-- The last point. -/
def last : Fin cfg0.N := ⟨27, by decide +kernel⟩

include h in
theorem final10 : (dats m 0 c).arrAt 10 cfg0.N = up2 (sums (du P w) x) := by
  refine (dats m 0 c).arrAt_eq_of_after_last 10 last (by decide +kernel) _ fun j => ?_
  blk_simp
  show (dats m 0 c).after 10 last _ = _
  rw [after0_10, acc10 h]
  exact congrArg (fun z : ℝ => (z : EReal)) (sum_tm _ _)

end Cert.Inproj.Final

end
-- ==== Proof.Inproj.Claim.lean ====
/- The two programs of the in-projection's gradient agree. -/
module

public import proofs.«01_k».proof.Defs
public import proofs.«01_k».proof.Proof.Inproj.Ref
public import proofs.«01_k».proof.Proof.Inproj.Final

@[expose] public section

set_option maxRecDepth 16384

noncomputable section

namespace Cert.Inproj

open Idealize.ShloMosaic Idealize.ShloMosaic.TcCoe Idealize.SL.Sem Cert.Lift

theorem preFacts : Cert.Pre_finite_in.Facts where
  bcast_S_S4096x1024 := by decide
  bcast_S_S4096x1536 := by decide
  bcast_S_S4096x16 := by decide
  bcast_S_S1024x6672 := by decide
  bcast_S_S1x1024 := by decide

/-- Finite arguments are real arrays. -/
theorem args_of_finite (m : (ℓ : Loc Cert.InprojIdeal.nD Cert.InprojIdeal.τ Cert.InprojIdeal.sig) → Buf (Elt Ideal) ℓ)
    (h : @Cert.Pre_InprojIdeal_finite_in preFacts m) (c : Dev Cert.InprojIdeal.nD) :
    ∃ P w x g R, Final.Args m c P w x g R := by
  obtain ⟨h0, h1, h2, h3, h4, h5, h6, h7, h8, h9⟩ := h c
  refine ⟨⟨_, _, _, _, _, _, _⟩, _, _, _, _, ⟨eq_up2 _ (finite_of_cmp _ _ ?_ h0), eq_up2 _ (finite_of_cmp _ _ ?_ h1), eq_up2 _ (finite_of_cmp _ _ ?_ h2),
    eq_up2 _ (finite_of_cmp _ _ ?_ h3), eq_up2 _ (finite_of_cmp _ _ ?_ h4), eq_up2 _ (finite_of_cmp _ _ ?_ h5), eq_up2 _ (finite_of_cmp _ _ ?_ h6),
    eq_up2 _ (finite_of_cmp _ _ ?_ h7), eq_up2 _ (finite_of_cmp _ _ ?_ h8), eq_up2 _ (finite_of_cmp _ _ ?_ h9), rfl⟩⟩
  all_goals intro i; first | exact bits_inf | exact bits_inf_bf16

/-- The reference writes none of its arguments and declares no semaphore. -/
theorem frameRef : @Cert.quiescent_InprojRefIdeal Cert.InprojRefIdeal.Gen.facts := fun m ρ _ =>
  (θ_run Cert.InprojRefIdeal.defs _ _).mono
    (fun r h => ⟨fun c => (h c).2.2, sem_eq_zero_of_no_sems (by decide) r.2⟩) (Cert.InprojRefIdeal.Value.run (F := Ideal) m ρ)

theorem algebraic : @Cert.algebraic_InprojIdeal_InprojRefIdeal_pre_finite_in Cert.InprojIdeal.Gen.facts Cert.InprojRefIdeal.Gen.facts preFacts := by
  pair_intro
  · run_from Cert.InprojIdeal.Value.run_blocks m g
  · run_from Cert.InprojRefIdeal.Value.run m' g'
    all_goals obtain ⟨P, w, x, n, R, h⟩ := args_of_finite m hpre c
    all_goals obtain ⟨e0, e1, e2, e3, e4, e5, e6, e7, e8, e9, e10⟩ := hagree c
    · rw [Cert.InprojRefIdeal.Read.val_main_v44_eq, e0, e1, e2, e3, e4, e5, e6, e7, e8, e9, e10, h.q, h.k, h.v, h.gt, h.z, h.b, h.t, h.w, h.x, h.g, h.r, Final.final9 h]
      exact Ref.v44 P w x n R
    · rw [h.q, h.k, h.v, h.gt, e4, e5, e6, e7, e8, h.z, h.b, h.t, h.w, h.x, Final.final10 h]
      exact Ref.v46 P w x

end Cert.Inproj

end
-- ==== Proof.Ssd.Frame.lean ====
/- The reference of the SSD call changes nothing of what it is given. -/
module

public import proofs.«01_k».proof.Defs
public import proofs.«01_k».proof.Proof.Gen.SsdRefIdeal.Run

@[expose] public section

noncomputable section

namespace Cert.Ssd

open Idealize.ShloMosaic Idealize.SL.Sem

/-- The reference writes none of its arguments and declares no semaphore. -/
theorem frameRef : @Cert.quiescent_SsdRefIdeal Cert.SsdRefIdeal.Gen.facts := fun m ρ _ =>
  (θ_run Cert.SsdRefIdeal.defs _ _).mono
    (fun r h => ⟨fun c => (h c).2.2.2.2.2, sem_eq_zero_of_no_sems (by decide) r.2⟩) (Cert.SsdRefIdeal.Value.run (F := Ideal) m ρ)

end Cert.Ssd

end
-- ==== Proof.Ssd.Bufs.lean ====
/- The buffers one grid point of the SSD backward kernel runs on, what they hold before it, and what is common to its two
cases: the first point, which clears every accumulator, and the later ones, which add to them. -/
module

public import proofs.«01_k».proof.Proof.Gen.SsdIdeal.Frame
public import proofs.«01_k».proof.Proof.Gen.SsdIdeal.Skeleton
public import Idealize.ShloMosaic.Lib.Ring
public import Idealize.ShloMosaic.Lib.Tactic
public import Idealize.ShloMosaic.Lib.WordCmp

@[expose] public section

set_option maxRecDepth 16384

noncomputable section

namespace Cert.SsdIdeal.Run

open Cert.SsdIdeal Cert.SsdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The memrefs the body is called with: the 17 inputs, the 4 outputs, the 8 scratch buffers. -/
structure Bufs where
  (a1 : Memref sig .tc .vmem S128x1024 .f32) (h1 : a1.IsWhole)
  (a2 : Memref sig .tc .vmem S128x512 .f32) (h2 : a2.IsWhole)
  (a3 : Memref sig .tc .vmem S8x1024 .f32) (h3 : a3.IsWhole)
  (a4 : Memref sig .tc .vmem S8x512 .f32) (h4 : a4.IsWhole)
  (a5 : Memref sig .tc .vmem S128x128 .f32) (h5 : a5.IsWhole)
  (a6 : Memref sig .tc .vmem S128x1024 .f32) (h6 : a6.IsWhole)
  (a7 : Memref sig .tc .vmem S128x1024 .f32) (h7 : a7.IsWhole)
  (a8 : Memref sig .tc .vmem S1x128x1024 .f32) (h8 : a8.IsWhole)
  (a9 : Memref sig .tc .vmem S128x1024 .f32) (h9 : a9.IsWhole)
  (a10 : Memref sig .tc .vmem S4x1536 .f32) (h10 : a10.IsWhole)
  (a11 : Memref sig .tc .vmem S1x1536 .f32) (h11 : a11.IsWhole)
  (a12 : Memref sig .tc .vmem S1x128 .f32) (h12 : a12.IsWhole)
  (a13 : Memref sig .tc .vmem S1x128 .f32) (h13 : a13.IsWhole)
  (a14 : Memref sig .tc .vmem S1x1024 .f32) (h14 : a14.IsWhole)
  (a15 : Memref sig .tc .vmem S1x1024 .f32) (h15 : a15.IsWhole)
  (a16 : Memref sig .tc .vmem S1x1024 .f32) (h16 : a16.IsWhole)
  (a17 : Memref sig .tc .vmem S128x1536 .f32) (h17 : a17.IsWhole)
  (a18 : Memref sig .tc .vmem S128x3072 .bf16) (h18 : a18.IsWhole)
  (a19 : Memref sig .tc .vmem S8x1536 .f32) (h19 : a19.IsWhole)
  (a20 : Memref sig .tc .vmem S8x1024 .f32) (h20 : a20.IsWhole)
  (a21 : Memref sig .tc .vmem S8x128 .f32) (h21 : a21.IsWhole)
  (a22 : Memref sig .tc .vmem S128x1024 .f32) (h22 : a22.IsWhole)
  (a23 : Memref sig .tc .vmem S8x1536 .f32) (h23 : a23.IsWhole)
  (a24 : Memref sig .tc .vmem S136x1536 .f32) (h24 : a24.IsWhole)
  (a25 : Memref sig .tc .vmem S128x1024 .f32) (h25 : a25.IsWhole)
  (a26 : Memref sig .tc .vmem S128x1024 .f32) (h26 : a26.IsWhole)
  (a27 : Memref sig .tc .vmem S128x512 .f32) (h27 : a27.IsWhole)
  (a28 : Memref sig .tc .vmem S128x2048 .bf16) (h28 : a28.IsWhole)
  (a29 : Memref sig .tc .vmem S1024x128 .bf16) (h29 : a29.IsWhole)

variable (F) in
/-- What the inputs hold. -/
structure Ins where
  x0 : Vec F S128x1024 .f32
  x1 : Vec F S128x512 .f32
  x2 : Vec F S8x1024 .f32
  x3 : Vec F S8x512 .f32
  x4 : Vec F S128x128 .f32
  x5 : Vec F S128x1024 .f32
  x6 : Vec F S128x1024 .f32
  x7 : Vec F S1x128x1024 .f32
  x8 : Vec F S128x1024 .f32
  x9 : Vec F S4x1536 .f32
  x10 : Vec F S1x1536 .f32
  x11 : Vec F S1x128 .f32
  x12 : Vec F S1x128 .f32
  x13 : Vec F S1x1024 .f32
  x14 : Vec F S1x1024 .f32
  x15 : Vec F S1x1024 .f32
  x16 : Vec F S128x1536 .f32

variable (F) in
/-- What one point leaves for the next: the three accumulated outputs, the state gradient, the first rows of the
convolution's gradient, and the two tables of zeros and ones. -/
structure Acc where
  g : Vec F S8x1536 .f32
  v : Vec F S8x1024 .f32
  t : Vec F S8x128 .f32
  d : Vec F S128x1024 .f32
  h : Vec F S8x1536 .f32
  e : Vec F S128x2048 .bf16
  f : Vec F S1024x128 .bf16

/-- A whole memref with its contents. -/
abbrev own (c : Dev nD) {s : Shape} {e : EltTy} (a : Memref sig .tc .vmem s e) (x : Vec F s e) : sProp 𝕄 :=
  owns (c : Thread nD τ) a fullShare x

/-- A whole memref over which the pieces `L` have been written. -/
abbrev left (c : Dev nD) {s : Shape} {e : EltTy} (a : Memref sig .tc .vmem s e) (L : List (View.Piece (Elt F) s e)) : sProp 𝕄 :=
  iprop(∃ f, a.view.loc (c : Thread nD τ) ↦[a.view.set]{fullShare} a.view.writes (Elt F) f L)

theorem own_unread (c : Dev nD) {s : Shape} {e : EltTy} {a : Memref sig .tc .vmem s e} (h : a.IsWhole) (x : Vec F s e) :
    (a.view.loc (c : Thread nD τ) ↦[a.view.set]{fullShare} h.unread x : sProp 𝕄)
      ⊢ iprop(∃ f, ⌜View.read (Elt F) a.view f = x⌝ ∗ a.view.loc (c : Thread nD τ) ↦[a.view.set]{fullShare} f) := by
  iintro H; iexists _; isplitr
  · ipureintro; exact h.read_unread _
  · iexact H

theorem own_any (c : Dev nD) {s : Shape} {e : EltTy} (a : Memref sig .tc .vmem s e) (f) :
    (a.view.loc (c : Thread nD τ) ↦[a.view.set]{fullShare} f : sProp 𝕄)
      ⊢ iprop(∃ d f, ⌜View.read (Elt F) a.view f = d⌝ ∗ a.view.loc (c : Thread nD τ) ↦[a.view.set]{fullShare} f) := by
  iintro H; iexists _, _; isplitr; swap
  · iexact H
  · ipureintro; rfl

/-- The inputs at their contents. -/
def inputs (c : Dev nD) (B : Bufs) (X : Ins F) : sProp 𝕄 :=
  iprop(own c B.a1 X.x0 ∗ own c B.a2 X.x1 ∗ own c B.a3 X.x2 ∗ own c B.a4 X.x3 ∗ own c B.a5 X.x4 ∗ own c B.a6 X.x5 ∗ own c B.a7 X.x6 ∗ own c B.a8 X.x7 ∗ own c B.a9 X.x8 ∗ own c B.a10 X.x9 ∗ own c B.a11 X.x10 ∗ own c B.a12 X.x11 ∗ own c B.a13 X.x12 ∗ own c B.a14 X.x13 ∗ own c B.a15 X.x14 ∗ own c B.a16 X.x15 ∗ own c B.a17 X.x16)

/-- The body on the buffers `B`. -/
abbrev body (i : grid0.Coords) (B : Bufs) : Prog (TpuEff nD τ sig (Elt F) Λ₀ .tc) PUnit :=
  cc0_ssd_bwd i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26 B.a27 B.h27 B.a28 B.h28 B.a29 B.h29

/-- The condition under which the accumulators are cleared, from the grid coordinates. -/
abbrev isFirst (i : grid0.Coords) : Prop :=
  Scalar.cmpi .ne (Scalar.extui (Scalar.cmpi .eq (BitVec.ofNat 32 (i 0).val) 0#32)) 0#32 = 1#1

end Cert.SsdIdeal.Run

end
-- ==== Proof.Ssd.RunA.lean ====
/- The first grid point of the SSD backward kernel: it clears the accumulators and fills the tables. -/
module

public import proofs.«01_k».proof.Proof.Ssd.Bufs

@[expose] public section

set_option maxRecDepth 16384

noncomputable section

namespace Cert.SsdIdeal.Run

open Cert.SsdIdeal Cert.SsdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the first point leaves in the outputs and in the scratch buffers that are carried on, whatever was there
before, found by running the body. -/
def runA (c : Dev nD) (i : grid0.Coords) (B : Bufs) (hc : isFirst i) (X : Ins F) :
    Σ' (L17 : List (View.Piece (Elt F) S128x3072 .bf16)) (L18 : List (View.Piece (Elt F) S8x1536 .f32))
      (L19 : List (View.Piece (Elt F) S8x1024 .f32)) (L20 : List (View.Piece (Elt F) S8x128 .f32))
      (LS0 : List (View.Piece (Elt F) S128x1024 .f32)) (LS1 : List (View.Piece (Elt F) S8x1536 .f32))
      (LS6 : List (View.Piece (Elt F) S128x2048 .bf16)), { LS7 : List (View.Piece (Elt F) S1024x128 .bf16) //
      ∀ (E : Set ℕ) (K : PUnit → sProp 𝕄),
        iprop(inputs c B X ∗ (∃ d, own c B.a18 d) ∗ (∃ d, own c B.a19 d) ∗ (∃ d, own c B.a20 d) ∗ (∃ d, own c B.a21 d) ∗ (∃ d, own c B.a22 d) ∗ (∃ d, own c B.a23 d) ∗ (∃ d, own c B.a24 d) ∗ (∃ d, own c B.a25 d) ∗ (∃ d, own c B.a26 d) ∗ (∃ d, own c B.a27 d) ∗ (∃ d, own c B.a28 d) ∗ (∃ d, own c B.a29 d)
            ∗ (iprop(inputs c B X ∗ left c B.a18 L17 ∗ left c B.a19 L18 ∗ left c B.a20 L19 ∗ left c B.a21 L20
                ∗ left c B.a22 LS0 ∗ left c B.a23 LS1 ∗ (∃ d, own c B.a24 d) ∗ (∃ d, own c B.a25 d) ∗ (∃ d, own c B.a26 d) ∗ (∃ d, own c B.a27 d)
                ∗ left c B.a28 LS6 ∗ left c B.a29 LS7) -∗ K ⟨⟩))
          ⊢ wp frame (wpE (defs₀ (F := F)) Variants.none c none) E (body i B) K } := by
  refine ⟨?_, ?_, ?_, ?_, ?_, ?_, ?_, ?_, fun E K => ?run⟩
  case run =>
    unfold body; simp only [cc0_ssd_bwd_eq_skeleton]; unfold cc0_ssd_bwd_skel
    simp only [k0_part33_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
    unfold inputs own left owns
    iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩⟩, ⟨%d17, %f17, -, H17⟩, ⟨%d18, %f18, -, H18⟩, ⟨%d19, %f19, -, H19⟩, ⟨%d20, %f20, -, H20⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := B.h1.eq_unread e0; obtain rfl := B.h2.eq_unread e1; obtain rfl := B.h3.eq_unread e2; obtain rfl := B.h4.eq_unread e3; obtain rfl := B.h5.eq_unread e4; obtain rfl := B.h6.eq_unread e5; obtain rfl := B.h7.eq_unread e6; obtain rfl := B.h8.eq_unread e7; obtain rfl := B.h9.eq_unread e8; obtain rfl := B.h10.eq_unread e9; obtain rfl := B.h11.eq_unread e10; obtain rfl := B.h12.eq_unread e11; obtain rfl := B.h13.eq_unread e12; obtain rfl := B.h14.eq_unread e13; obtain rfl := B.h15.eq_unread e14; obtain rfl := B.h16.eq_unread e15; obtain rfl := B.h17.eq_unread e16
    sl_exec (disch := first | sl_exact hc)
    sl_step
    iapply Hk
    isplitl [H0 H1 H2 H3 H4 H5 H6 H7 H8 H9 H10 H11 H12 H13 H14 H15 H16]
    · isplitl [H0]; · exact own_unread c B.h1 _
      isplitl [H1]; · exact own_unread c B.h2 _
      isplitl [H2]; · exact own_unread c B.h3 _
      isplitl [H3]; · exact own_unread c B.h4 _
      isplitl [H4]; · exact own_unread c B.h5 _
      isplitl [H5]; · exact own_unread c B.h6 _
      isplitl [H6]; · exact own_unread c B.h7 _
      isplitl [H7]; · exact own_unread c B.h8 _
      isplitl [H8]; · exact own_unread c B.h9 _
      isplitl [H9]; · exact own_unread c B.h10 _
      isplitl [H10]; · exact own_unread c B.h11 _
      isplitl [H11]; · exact own_unread c B.h12 _
      isplitl [H12]; · exact own_unread c B.h13 _
      isplitl [H13]; · exact own_unread c B.h14 _
      isplitl [H14]; · exact own_unread c B.h15 _
      isplitl [H15]; · exact own_unread c B.h16 _
      exact own_unread c B.h17 _
    isplitl [H17]; · iexists _; iexact H17
    isplitl [H18]; · iexists _; iexact H18
    isplitl [H19]; · iexists _; iexact H19
    isplitl [H20]; · iexists _; iexact H20
    isplitl [HS0]; · iexists _; iexact HS0
    isplitl [HS1]; · iexists _; iexact HS1
    isplitl [HS2]; · exact own_any c _ _
    isplitl [HS3]; · exact own_any c _ _
    isplitl [HS4]; · exact own_any c _ _
    isplitl [HS5]; · exact own_any c _ _
    isplitl [HS6]; · iexists _; iexact HS6
    iexists _; iexact HS7

end Cert.SsdIdeal.Run

end
-- ==== Proof.Ssd.RunB.lean ====
/- A later grid point of the SSD backward kernel: it adds to what the point before left. -/
module

public import proofs.«01_k».proof.Proof.Ssd.RunA

@[expose] public section

set_option maxRecDepth 16384

noncomputable section

namespace Cert.SsdIdeal.Run

open Cert.SsdIdeal Cert.SsdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces a later point leaves: over anything in the first output and the two scratch buffers it rewrites, and over
what the point before left in the three accumulated outputs. -/
def runB (c : Dev nD) (i : grid0.Coords) (B : Bufs) (hc : ¬isFirst i) (X : Ins F) (S : Acc F) :
    Σ' (L17 : List (View.Piece (Elt F) S128x3072 .bf16)) (L18 : List (View.Piece (Elt F) S8x1536 .f32))
      (L19 : List (View.Piece (Elt F) S8x1024 .f32)) (L20 : List (View.Piece (Elt F) S8x128 .f32))
      (LS0 : List (View.Piece (Elt F) S128x1024 .f32)), { LS1 : List (View.Piece (Elt F) S8x1536 .f32) //
      ∀ (E : Set ℕ) (K : PUnit → sProp 𝕄),
        iprop(inputs c B X ∗ (∃ d, own c B.a18 d) ∗ own c B.a19 S.g ∗ own c B.a20 S.v ∗ own c B.a21 S.t
            ∗ own c B.a22 S.d ∗ own c B.a23 S.h ∗ (∃ d, own c B.a24 d) ∗ (∃ d, own c B.a25 d) ∗ (∃ d, own c B.a26 d) ∗ (∃ d, own c B.a27 d)
            ∗ own c B.a28 S.e ∗ own c B.a29 S.f
            ∗ (iprop(inputs c B X ∗ left c B.a18 L17
                ∗ (B.a19.view.loc (c : Thread nD τ) ↦[B.a19.view.set]{fullShare} B.a19.view.writes (Elt F) (B.h19.unread S.g) L18)
                ∗ (B.a20.view.loc (c : Thread nD τ) ↦[B.a20.view.set]{fullShare} B.a20.view.writes (Elt F) (B.h20.unread S.v) L19)
                ∗ (B.a21.view.loc (c : Thread nD τ) ↦[B.a21.view.set]{fullShare} B.a21.view.writes (Elt F) (B.h21.unread S.t) L20)
                ∗ left c B.a22 LS0 ∗ left c B.a23 LS1 ∗ (∃ d, own c B.a24 d) ∗ (∃ d, own c B.a25 d) ∗ (∃ d, own c B.a26 d) ∗ (∃ d, own c B.a27 d)
                ∗ own c B.a28 S.e ∗ own c B.a29 S.f) -∗ K ⟨⟩))
          ⊢ wp frame (wpE (defs₀ (F := F)) Variants.none c none) E (body i B) K } := by
  refine ⟨?_, ?_, ?_, ?_, ?_, ?_, fun E K => ?run⟩
  case run =>
    unfold body; simp only [cc0_ssd_bwd_eq_skeleton]; unfold cc0_ssd_bwd_skel
    simp only [k0_part33_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
    unfold inputs own left owns
    iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩⟩, ⟨%d17, %f17, -, H17⟩, ⟨%f18, %e18, H18⟩, ⟨%f19, %e19, H19⟩, ⟨%f20, %e20, H20⟩, ⟨%fs0, %es0, HS0⟩, ⟨%fs1, %es1, HS1⟩, ⟨%ds2, %fs2, -, HS2⟩, ⟨%ds3, %fs3, -, HS3⟩, ⟨%ds4, %fs4, -, HS4⟩, ⟨%ds5, %fs5, -, HS5⟩, ⟨%fs6, %es6, HS6⟩, ⟨%fs7, %es7, HS7⟩, Hk⟩
    obtain rfl := B.h1.eq_unread e0; obtain rfl := B.h2.eq_unread e1; obtain rfl := B.h3.eq_unread e2; obtain rfl := B.h4.eq_unread e3; obtain rfl := B.h5.eq_unread e4; obtain rfl := B.h6.eq_unread e5; obtain rfl := B.h7.eq_unread e6; obtain rfl := B.h8.eq_unread e7; obtain rfl := B.h9.eq_unread e8; obtain rfl := B.h10.eq_unread e9; obtain rfl := B.h11.eq_unread e10; obtain rfl := B.h12.eq_unread e11; obtain rfl := B.h13.eq_unread e12; obtain rfl := B.h14.eq_unread e13; obtain rfl := B.h15.eq_unread e14; obtain rfl := B.h16.eq_unread e15; obtain rfl := B.h17.eq_unread e16
    obtain rfl := B.h19.eq_unread e18; obtain rfl := B.h20.eq_unread e19; obtain rfl := B.h21.eq_unread e20
    obtain rfl := B.h22.eq_unread es0; obtain rfl := B.h23.eq_unread es1; obtain rfl := B.h28.eq_unread es6; obtain rfl := B.h29.eq_unread es7
    sl_exec (disch := first | sl_exact hc)
    sl_step
    iapply Hk
    isplitl [H0 H1 H2 H3 H4 H5 H6 H7 H8 H9 H10 H11 H12 H13 H14 H15 H16]
    · isplitl [H0]; · exact own_unread c B.h1 _
      isplitl [H1]; · exact own_unread c B.h2 _
      isplitl [H2]; · exact own_unread c B.h3 _
      isplitl [H3]; · exact own_unread c B.h4 _
      isplitl [H4]; · exact own_unread c B.h5 _
      isplitl [H5]; · exact own_unread c B.h6 _
      isplitl [H6]; · exact own_unread c B.h7 _
      isplitl [H7]; · exact own_unread c B.h8 _
      isplitl [H8]; · exact own_unread c B.h9 _
      isplitl [H9]; · exact own_unread c B.h10 _
      isplitl [H10]; · exact own_unread c B.h11 _
      isplitl [H11]; · exact own_unread c B.h12 _
      isplitl [H12]; · exact own_unread c B.h13 _
      isplitl [H13]; · exact own_unread c B.h14 _
      isplitl [H14]; · exact own_unread c B.h15 _
      isplitl [H15]; · exact own_unread c B.h16 _
      exact own_unread c B.h17 _
    isplitl [H17]; · iexists _; iexact H17
    isplitl [H18]; · iexact H18
    isplitl [H19]; · iexact H19
    isplitl [H20]; · iexact H20
    isplitl [HS0]; · iexists _; iexact HS0
    isplitl [HS1]; · iexists _; iexact HS1
    isplitl [HS2]; · exact own_any c _ _
    isplitl [HS3]; · exact own_any c _ _
    isplitl [HS4]; · exact own_any c _ _
    isplitl [HS5]; · exact own_any c _ _
    isplitl [HS6]; · exact own_unread c B.h28 _
    exact own_unread c B.h29 _

end Cert.SsdIdeal.Run

end
-- ==== Proof.Ssd.Data.lean ====
/- What the SSD backward kernel leaves after every grid point, and its run: the accumulators as a recursion over the points,
the proof data of the pipeline, the body's obligation at every point, and the launch. -/
module

public import proofs.«01_k».proof.Proof.Ssd.RunB
public import Idealize.ShloMosaic.Lib.Pipeline.FrameBody
public import Idealize.ShloMosaic.Lib.Pipeline.FrameSuffix

@[expose] public section

set_option maxRecDepth 16384

noncomputable section

namespace Cert.SsdIdeal.Run

open Cert.SsdIdeal Cert.SsdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What pieces that cover a buffer leave in it. -/
def fill {s : Shape} {e : EltTy} (a : Memref sig .tc .vmem s e) (L : List (View.Piece (Elt F) s e)) : Vec F s e :=
  a.view.read (Elt F) (a.view.writes (Elt F) a.view.junk L)

/-- What pieces leave over the contents `x`. -/
def over {s : Shape} {e : EltTy} {a : Memref sig .tc .vmem s e} (h : a.IsWhole) (x : Vec F s e)
    (L : List (View.Piece (Elt F) s e)) : Vec F s e :=
  a.view.read (Elt F) (a.view.writes (Elt F) (h.unread x) L)

/-- A buffer over which covering pieces were written holds what they leave. -/
theorem left_fill (c : Dev nD) {s : Shape} {e : EltTy} (a : Memref sig .tc .vmem s e) (L : List (View.Piece (Elt F) s e))
    (h : ∀ y : s.Idx, ∃ p ∈ L, y ∈ p.1.set) : left c a L ⊢ (own c a (fill a L) : sProp 𝕄) := by
  unfold left own owns fill
  iintro ⟨%f, H⟩; iexists _; isplitr; swap
  · iexact H
  · ipureintro; exact View.read_writes_of_cover _ _ _ _ _ h

theorem owned_over (c : Dev nD) {s : Shape} {e : EltTy} {a : Memref sig .tc .vmem s e} (h : a.IsWhole) (x : Vec F s e)
    (L : List (View.Piece (Elt F) s e)) :
    (a.view.loc (c : Thread nD τ) ↦[a.view.set]{fullShare} a.view.writes (Elt F) (h.unread x) L : sProp 𝕄) ⊢ own c a (over h x L) := by
  unfold own owns over
  iintro H; iexists _; isplitr; swap
  · iexact H
  · ipureintro; rfl

section Cases

variable (c : Dev nD) (i : grid0.Coords) (B : Bufs) (X : Ins F)

theorem coverA17 (hc : isFirst i) : ∀ y : S128x3072.Idx, ∃ p ∈ (runA c i B hc X).1, y ∈ p.1.set :=
  View.cover_of_tiledBy _ ![128, 128] (by sl_kernel_rfl)
theorem coverA18 (hc : isFirst i) : ∀ y : S8x1536.Idx, ∃ p ∈ (runA c i B hc X).2.1, y ∈ p.1.set :=
  View.cover_of_wholeMem _ (by sl_whole_mem)
theorem coverA19 (hc : isFirst i) : ∀ y : S8x1024.Idx, ∃ p ∈ (runA c i B hc X).2.2.1, y ∈ p.1.set :=
  View.cover_of_wholeMem _ (by sl_whole_mem)
theorem coverA20 (hc : isFirst i) : ∀ y : S8x128.Idx, ∃ p ∈ (runA c i B hc X).2.2.2.1, y ∈ p.1.set :=
  View.cover_of_wholeMem _ (by sl_whole_mem)
theorem coverAd (hc : isFirst i) : ∀ y : S128x1024.Idx, ∃ p ∈ (runA c i B hc X).2.2.2.2.1, y ∈ p.1.set :=
  View.cover_of_wholeMem _ (by sl_whole_mem)
theorem coverAh (hc : isFirst i) : ∀ y : S8x1536.Idx, ∃ p ∈ (runA c i B hc X).2.2.2.2.2.1, y ∈ p.1.set :=
  View.cover_of_wholeMem _ (by sl_whole_mem)
theorem coverAe (hc : isFirst i) : ∀ y : S128x2048.Idx, ∃ p ∈ (runA c i B hc X).2.2.2.2.2.2.1, y ∈ p.1.set :=
  View.cover_of_wholeMem _ (by sl_whole_mem)
theorem coverAf (hc : isFirst i) : ∀ y : S1024x128.Idx, ∃ p ∈ (runA c i B hc X).2.2.2.2.2.2.2.1, y ∈ p.1.set :=
  View.cover_of_wholeMem _ (by sl_whole_mem)
theorem coverB17 (hc : ¬isFirst i) (S : Acc F) : ∀ y : S128x3072.Idx, ∃ p ∈ (runB c i B hc X S).1, y ∈ p.1.set :=
  View.cover_of_tiledBy _ ![128, 128] (by sl_kernel_rfl)
theorem coverBd (hc : ¬isFirst i) (S : Acc F) : ∀ y : S128x1024.Idx, ∃ p ∈ (runB c i B hc X S).2.2.2.2.1, y ∈ p.1.set :=
  View.cover_of_tiledBy _ ![128, 128] (by sl_kernel_rfl)
theorem coverBh (hc : ¬isFirst i) (S : Acc F) : ∀ y : S8x1536.Idx, ∃ p ∈ (runB c i B hc X S).2.2.2.2.2.1, y ∈ p.1.set :=
  View.cover_of_wholeMem _ (by sl_whole_mem)

/-- What the first point leaves. -/
def accA (hc : isFirst i) : Acc F :=
  let r := runA c i B hc X
  ⟨fill B.a19 r.2.1, fill B.a20 r.2.2.1, fill B.a21 r.2.2.2.1, fill B.a22 r.2.2.2.2.1, fill B.a23 r.2.2.2.2.2.1,
    fill B.a28 r.2.2.2.2.2.2.1, fill B.a29 r.2.2.2.2.2.2.2.1⟩

/-- What a later point leaves over `S`. -/
def accB (hc : ¬isFirst i) (S : Acc F) : Acc F :=
  let r := runB c i B hc X S
  ⟨over B.h19 S.g r.2.1, over B.h20 S.v r.2.2.1, over B.h21 S.t r.2.2.2.1, fill B.a22 r.2.2.2.2.1, fill B.a23 r.2.2.2.2.2.1,
    S.e, S.f⟩

end Cases

/-- The buffers of point `t`. -/
abbrev bufs (t : Fin cfg0.N) : Bufs :=
  ⟨win0_0.stage (cfg0.slots t 0), hstage0_0 ((cfg0.slots t 0).cast nbuf0_0), win0_1.stage (cfg0.slots t 1), hstage0_1 ((cfg0.slots t 1).cast nbuf0_1), win0_2.stage (cfg0.slots t 2), hstage0_2 ((cfg0.slots t 2).cast nbuf0_2), win0_3.stage (cfg0.slots t 3), hstage0_3 ((cfg0.slots t 3).cast nbuf0_3), win0_4.stage (cfg0.slots t 4), hstage0_4 ((cfg0.slots t 4).cast nbuf0_4), win0_5.stage (cfg0.slots t 5), hstage0_5 ((cfg0.slots t 5).cast nbuf0_5), win0_6.stage (cfg0.slots t 6), hstage0_6 ((cfg0.slots t 6).cast nbuf0_6), win0_7.stage (cfg0.slots t 7), hstage0_7 ((cfg0.slots t 7).cast nbuf0_7), win0_8.stage (cfg0.slots t 8), hstage0_8 ((cfg0.slots t 8).cast nbuf0_8), win0_9.stage (cfg0.slots t 9), hstage0_9 ((cfg0.slots t 9).cast nbuf0_9), win0_10.stage (cfg0.slots t 10), hstage0_10 ((cfg0.slots t 10).cast nbuf0_10), win0_11.stage (cfg0.slots t 11), hstage0_11 ((cfg0.slots t 11).cast nbuf0_11), win0_12.stage (cfg0.slots t 12), hstage0_12 ((cfg0.slots t 12).cast nbuf0_12), win0_13.stage (cfg0.slots t 13), hstage0_13 ((cfg0.slots t 13).cast nbuf0_13), win0_14.stage (cfg0.slots t 14), hstage0_14 ((cfg0.slots t 14).cast nbuf0_14), win0_15.stage (cfg0.slots t 15), hstage0_15 ((cfg0.slots t 15).cast nbuf0_15), win0_16.stage (cfg0.slots t 16), hstage0_16 ((cfg0.slots t 16).cast nbuf0_16), win0_17.stage (cfg0.slots t 17), hstage0_17 ((cfg0.slots t 17).cast nbuf0_17), win0_18.stage (cfg0.slots t 18), hstage0_18 ((cfg0.slots t 18).cast nbuf0_18), win0_19.stage (cfg0.slots t 19), hstage0_19 ((cfg0.slots t 19).cast nbuf0_19), win0_20.stage (cfg0.slots t 20), hstage0_20 ((cfg0.slots t 20).cast nbuf0_20),
   Memref.whole cc0_scratch0, Memref.isWhole_whole cc0_scratch0, Memref.whole cc0_scratch1, Memref.isWhole_whole cc0_scratch1, Memref.whole cc0_scratch2, Memref.isWhole_whole cc0_scratch2, Memref.whole cc0_scratch3, Memref.isWhole_whole cc0_scratch3, Memref.whole cc0_scratch4, Memref.isWhole_whole cc0_scratch4, Memref.whole cc0_scratch5, Memref.isWhole_whole cc0_scratch5, Memref.whole cc0_scratch6, Memref.isWhole_whole cc0_scratch6, Memref.whole cc0_scratch7, Memref.isWhole_whole cc0_scratch7⟩

/-- The inputs of point `t`. -/
abbrev ins (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t⟩

/-- The accumulators are cleared at the first point only. -/
theorem isFirst_iff : ∀ t : Fin cfg0.N, isFirst (grid0.coords t) ↔ t.val = 0 :=
  (fun t => by
    have ht : t.val < 32 := Nat.lt_of_lt_of_eq t.isLt N_0
    have e0 : (grid0.coords t 0).val = t.val / 1 % 32 := Pipeline.Grid.coords_val t 0 (by decide) rfl
    simp only [isFirst, e0]
    word_cmp
   : ∀ t : Fin grid0.N, isFirst (grid0.coords t) ↔ t.val = 0)

/-- What is carried after point `n`. -/
def acc (c : Dev nD) : (n : ℕ) → n < cfg0.N → Acc F
  | 0, h => accA c (grid0.coords ⟨0, h⟩) (bufs ⟨0, h⟩) (ins m c ⟨0, h⟩) ((isFirst_iff ⟨0, h⟩).2 rfl)
  | n + 1, h => accB c (grid0.coords ⟨n + 1, h⟩) (bufs ⟨n + 1, h⟩) (ins m c ⟨n + 1, h⟩)
      (fun e => Nat.succ_ne_zero n ((isFirst_iff ⟨n + 1, h⟩).1 e)) (acc c n (Nat.lt_of_succ_lt h))

/-- The block of the first output that point `n` writes. -/
def tile (c : Dev nD) : (n : ℕ) → n < cfg0.N → Vec F S128x3072 .bf16
  | 0, h => fill (bufs ⟨0, h⟩).a18 (runA c (grid0.coords ⟨0, h⟩) (bufs ⟨0, h⟩) ((isFirst_iff ⟨0, h⟩).2 rfl) (ins m c ⟨0, h⟩)).1
  | n + 1, h => fill (bufs ⟨n + 1, h⟩).a18 (runB c (grid0.coords ⟨n + 1, h⟩) (bufs ⟨n + 1, h⟩)
      (fun e => Nat.succ_ne_zero n ((isFirst_iff ⟨n + 1, h⟩).1 e)) (ins m c ⟨n + 1, h⟩) (acc m c n (Nat.lt_of_succ_lt h))).1

/-- The scratch buffers after point `n`: what is carried, and the others at anything. -/
def kept (c : Dev nD) (S : Acc F) : sProp 𝕄 :=
  iprop(own c (Memref.whole cc0_scratch0) S.d ∗ own c (Memref.whole cc0_scratch1) S.h
    ∗ (∃ d, own c (Memref.whole cc0_scratch2) d) ∗ (∃ d, own c (Memref.whole cc0_scratch3) d)
    ∗ (∃ d, own c (Memref.whole cc0_scratch4) d) ∗ (∃ d, own c (Memref.whole cc0_scratch5) d)
    ∗ own c (Memref.whole cc0_scratch6) S.e ∗ own c (Memref.whole cc0_scratch7) S.f)

/-- The scratch buffers at anything. -/
def loose (c : Dev nD) : sProp 𝕄 :=
  iprop((∃ d, own (F := F) c (Memref.whole cc0_scratch0) d) ∗ (∃ d, own (F := F) c (Memref.whole cc0_scratch1) d) ∗ (∃ d, own (F := F) c (Memref.whole cc0_scratch2) d) ∗ (∃ d, own (F := F) c (Memref.whole cc0_scratch3) d) ∗ (∃ d, own (F := F) c (Memref.whole cc0_scratch4) d) ∗ (∃ d, own (F := F) c (Memref.whole cc0_scratch5) d) ∗ (∃ d, own (F := F) c (Memref.whole cc0_scratch6) d) ∗ (∃ d, own (F := F) c (Memref.whole cc0_scratch7) d))

theorem start_eq (c : Dev nD) :
    (Pipeline.ΦA spec0 c : sProp 𝕄) = iprop(loose (F := F) c ∗ (∃ r, prngReg c r)) := by
  unfold Pipeline.ΦA loose own; rw [scopedRest0_eq]; simp only [owns_whole]; try rfl

/-- The invariant before point `n`. -/
def inv (c : Dev nD) : (n : ℕ) → n ≤ cfg0.N → sProp 𝕄
  | 0, _ => Pipeline.ΦA spec0 c
  | n + 1, h => iprop(kept c (acc m c n h) ∗ (∃ r, prngReg c r))

/-- The proof data: every input at its block, the first output at the point's block, the accumulated ones at what is carried. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => tile m c t.val t.isLt
    | ⟨18, _⟩ => (acc m c t.val t.isLt).g
    | ⟨19, _⟩ => (acc m c t.val t.isLt).v
    | ⟨20, _⟩ => (acc m c t.val t.isLt).t
    | ⟨_ + 21, h⟩ => absurd h (Nat.not_lt.2 (Nat.le_add_left _ _))
  Φ t := inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem before0 (c : Dev nD) (t : Fin cfg0.N) (d) : (dats m 0 c).before 0 t d = iblk m c 0 t :=
  before0_0_of m (dats m 0 c) (A_eq m c 0) (fun t => by dsimp only [dats]) t d
theorem before1 (c : Dev nD) (t : Fin cfg0.N) (d) : (dats m 0 c).before 1 t d = iblk m c 1 t :=
  before0_1_of m (dats m 0 c) (A_eq m c 1) (fun t => by dsimp only [dats]) t d
theorem before2 (c : Dev nD) (t : Fin cfg0.N) (d) : (dats m 0 c).before 2 t d = iblk m c 2 t :=
  before0_2_of m (dats m 0 c) (A_eq m c 2) (fun t => by dsimp only [dats]) t d
theorem before3 (c : Dev nD) (t : Fin cfg0.N) (d) : (dats m 0 c).before 3 t d = iblk m c 3 t :=
  before0_3_of m (dats m 0 c) (A_eq m c 3) (fun t => by dsimp only [dats]) t d
theorem before4 (c : Dev nD) (t : Fin cfg0.N) (d) : (dats m 0 c).before 4 t d = iblk m c 4 t :=
  before0_4_of m (dats m 0 c) (A_eq m c 4) (fun t => by dsimp only [dats]) t d
theorem before5 (c : Dev nD) (t : Fin cfg0.N) (d) : (dats m 0 c).before 5 t d = iblk m c 5 t :=
  before0_5_of m (dats m 0 c) (A_eq m c 5) (fun t => by dsimp only [dats]) t d
theorem before6 (c : Dev nD) (t : Fin cfg0.N) (d) : (dats m 0 c).before 6 t d = iblk m c 6 t :=
  before0_6_of m (dats m 0 c) (A_eq m c 6) (fun t => by dsimp only [dats]) t d
theorem before7 (c : Dev nD) (t : Fin cfg0.N) (d) : (dats m 0 c).before 7 t d = iblk m c 7 t :=
  before0_7_of m (dats m 0 c) (A_eq m c 7) (fun t => by dsimp only [dats]) t d
theorem before8 (c : Dev nD) (t : Fin cfg0.N) (d) : (dats m 0 c).before 8 t d = iblk m c 8 t :=
  before0_8_of m (dats m 0 c) (A_eq m c 8) (fun t => by dsimp only [dats]) t d
theorem before9 (c : Dev nD) (t : Fin cfg0.N) (d) : (dats m 0 c).before 9 t d = iblk m c 9 t :=
  before0_9_of m (dats m 0 c) (A_eq m c 9) (fun t => by dsimp only [dats]) t d
theorem before10 (c : Dev nD) (t : Fin cfg0.N) (d) : (dats m 0 c).before 10 t d = iblk m c 10 t :=
  before0_10_of m (dats m 0 c) (A_eq m c 10) (fun t => by dsimp only [dats]) t d
theorem before11 (c : Dev nD) (t : Fin cfg0.N) (d) : (dats m 0 c).before 11 t d = iblk m c 11 t :=
  before0_11_of m (dats m 0 c) (A_eq m c 11) (fun t => by dsimp only [dats]) t d
theorem before12 (c : Dev nD) (t : Fin cfg0.N) (d) : (dats m 0 c).before 12 t d = iblk m c 12 t :=
  before0_12_of m (dats m 0 c) (A_eq m c 12) (fun t => by dsimp only [dats]) t d
theorem before13 (c : Dev nD) (t : Fin cfg0.N) (d) : (dats m 0 c).before 13 t d = iblk m c 13 t :=
  before0_13_of m (dats m 0 c) (A_eq m c 13) (fun t => by dsimp only [dats]) t d
theorem before14 (c : Dev nD) (t : Fin cfg0.N) (d) : (dats m 0 c).before 14 t d = iblk m c 14 t :=
  before0_14_of m (dats m 0 c) (A_eq m c 14) (fun t => by dsimp only [dats]) t d
theorem before15 (c : Dev nD) (t : Fin cfg0.N) (d) : (dats m 0 c).before 15 t d = iblk m c 15 t :=
  before0_15_of m (dats m 0 c) (A_eq m c 15) (fun t => by dsimp only [dats]) t d
theorem before16 (c : Dev nD) (t : Fin cfg0.N) (d) : (dats m 0 c).before 16 t d = iblk m c 16 t :=
  before0_16_of m (dats m 0 c) (A_eq m c 16) (fun t => by dsimp only [dats]) t d

/-- An accumulated output is not written back before the last point, so it holds what the point before left. -/
theorem before18 (c : Dev nD) (n : ℕ) (h : n + 1 < cfg0.N) (d) :
    (dats m 0 c).before 18 ⟨n + 1, h⟩ d = (acc m c n (Nat.lt_of_succ_lt h)).g := by
  have hN : n + 1 < 32 := lt_of_lt_of_eq h N_0
  rw [Dat.before_out_kept _ 18 rfl ⟨n + 1, h⟩ (Nat.succ_ne_zero n) (Bool.eq_false_iff.mpr fun e => by
    have := (flush0_18 _).mp e; dsimp only at this; omega) (fun _ => rfl) (fun _ _ => rfl)]
  dsimp only [dats]; rfl
theorem before19 (c : Dev nD) (n : ℕ) (h : n + 1 < cfg0.N) (d) :
    (dats m 0 c).before 19 ⟨n + 1, h⟩ d = (acc m c n (Nat.lt_of_succ_lt h)).v := by
  have hN : n + 1 < 32 := lt_of_lt_of_eq h N_0
  rw [Dat.before_out_kept _ 19 rfl ⟨n + 1, h⟩ (Nat.succ_ne_zero n) (Bool.eq_false_iff.mpr fun e => by
    have := (flush0_19 _).mp e; dsimp only at this; omega) (fun _ => rfl) (fun _ _ => rfl)]
  dsimp only [dats]; rfl
theorem before20 (c : Dev nD) (n : ℕ) (h : n + 1 < cfg0.N) (d) :
    (dats m 0 c).before 20 ⟨n + 1, h⟩ d = (acc m c n (Nat.lt_of_succ_lt h)).t := by
  have hN : n + 1 < 32 := lt_of_lt_of_eq h N_0
  rw [Dat.before_out_kept _ 20 rfl ⟨n + 1, h⟩ (Nat.succ_ne_zero n) (Bool.eq_false_iff.mpr fun e => by
    have := (flush0_20 _).mp e; dsimp only at this; omega) (fun _ => rfl) (fun _ _ => rfl)]
  dsimp only [dats]; rfl

/-- What the body is called with at point `t`, window by window. -/
def pre (c : Dev nD) (t : Fin cfg0.N) : sProp 𝕄 :=
  iprop((dats m 0 c).Φ t.castSucc ∗ (dats m 0 c).owesAt () t.castSucc
    ∗ (∃ d, own c (bufs t).a1 ((dats m 0 c).before 0 t d))
    ∗ (∃ d, own c (bufs t).a2 ((dats m 0 c).before 1 t d))
    ∗ (∃ d, own c (bufs t).a3 ((dats m 0 c).before 2 t d))
    ∗ (∃ d, own c (bufs t).a4 ((dats m 0 c).before 3 t d))
    ∗ (∃ d, own c (bufs t).a5 ((dats m 0 c).before 4 t d))
    ∗ (∃ d, own c (bufs t).a6 ((dats m 0 c).before 5 t d))
    ∗ (∃ d, own c (bufs t).a7 ((dats m 0 c).before 6 t d))
    ∗ (∃ d, own c (bufs t).a8 ((dats m 0 c).before 7 t d))
    ∗ (∃ d, own c (bufs t).a9 ((dats m 0 c).before 8 t d))
    ∗ (∃ d, own c (bufs t).a10 ((dats m 0 c).before 9 t d))
    ∗ (∃ d, own c (bufs t).a11 ((dats m 0 c).before 10 t d))
    ∗ (∃ d, own c (bufs t).a12 ((dats m 0 c).before 11 t d))
    ∗ (∃ d, own c (bufs t).a13 ((dats m 0 c).before 12 t d))
    ∗ (∃ d, own c (bufs t).a14 ((dats m 0 c).before 13 t d))
    ∗ (∃ d, own c (bufs t).a15 ((dats m 0 c).before 14 t d))
    ∗ (∃ d, own c (bufs t).a16 ((dats m 0 c).before 15 t d))
    ∗ (∃ d, own c (bufs t).a17 ((dats m 0 c).before 16 t d))
    ∗ (∃ d, own c (bufs t).a18 ((dats m 0 c).before 17 t d))
    ∗ (∃ d, own c (bufs t).a19 ((dats m 0 c).before 18 t d))
    ∗ (∃ d, own c (bufs t).a20 ((dats m 0 c).before 19 t d))
    ∗ (∃ d, own c (bufs t).a21 ((dats m 0 c).before 20 t d)))

/-- What it returns. -/
def post (c : Dev nD) (t : Fin cfg0.N) : sProp 𝕄 :=
  iprop((dats m 0 c).Φ t.succ ∗ (dats m 0 c).owesAt () t.succ
    ∗ own c (bufs t).a1 ((dats m 0 c).after 0 t)
    ∗ own c (bufs t).a2 ((dats m 0 c).after 1 t)
    ∗ own c (bufs t).a3 ((dats m 0 c).after 2 t)
    ∗ own c (bufs t).a4 ((dats m 0 c).after 3 t)
    ∗ own c (bufs t).a5 ((dats m 0 c).after 4 t)
    ∗ own c (bufs t).a6 ((dats m 0 c).after 5 t)
    ∗ own c (bufs t).a7 ((dats m 0 c).after 6 t)
    ∗ own c (bufs t).a8 ((dats m 0 c).after 7 t)
    ∗ own c (bufs t).a9 ((dats m 0 c).after 8 t)
    ∗ own c (bufs t).a10 ((dats m 0 c).after 9 t)
    ∗ own c (bufs t).a11 ((dats m 0 c).after 10 t)
    ∗ own c (bufs t).a12 ((dats m 0 c).after 11 t)
    ∗ own c (bufs t).a13 ((dats m 0 c).after 12 t)
    ∗ own c (bufs t).a14 ((dats m 0 c).after 13 t)
    ∗ own c (bufs t).a15 ((dats m 0 c).after 14 t)
    ∗ own c (bufs t).a16 ((dats m 0 c).after 15 t)
    ∗ own c (bufs t).a17 ((dats m 0 c).after 16 t)
    ∗ own c (bufs t).a18 ((dats m 0 c).after 17 t)
    ∗ own c (bufs t).a19 ((dats m 0 c).after 18 t)
    ∗ own c (bufs t).a20 ((dats m 0 c).after 19 t)
    ∗ own c (bufs t).a21 ((dats m 0 c).after 20 t))

/-- The inputs' buffers hold the inputs of the point. -/
theorem pre_eq (c : Dev nD) (t : Fin cfg0.N) : pre m c t
    ⊢ iprop((dats m 0 c).Φ t.castSucc ∗ (dats m 0 c).owesAt () t.castSucc ∗ inputs c (bufs t) (ins m c t)
      ∗ (∃ d, own c (bufs t).a18 ((dats m 0 c).before 17 t d)) ∗ (∃ d, own c (bufs t).a19 ((dats m 0 c).before 18 t d))
      ∗ (∃ d, own c (bufs t).a20 ((dats m 0 c).before 19 t d)) ∗ (∃ d, own c (bufs t).a21 ((dats m 0 c).before 20 t d))) := by
  unfold pre inputs
  simp only [before0, before1, before2, before3, before4, before5, before6, before7, before8, before9, before10, before11, before12, before13, before14, before15, before16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iframe HΦ Ho H0 H1 H2 H3 H4 H5 H6 H7 H8 H9 H10 H11 H12 H13 H14 H15 H16
  isplitl [H17]; · iexists _; iexact H17
  isplitl [H18]; · iexists _; iexact H18
  isplitl [H19]; · iexists _; iexact H19
  iexists _; iexact H20

theorem post_eq (c : Dev nD) (t : Fin cfg0.N) (S : Acc F) (hS : acc m c t.val t.isLt = S) (T : Vec F S128x3072 .bf16)
    (hT : tile m c t.val t.isLt = T) :
    iprop(kept c S ∗ (∃ r, prngReg c r) ∗ (dats m 0 c).owesAt () t.castSucc ∗ inputs c (bufs t) (ins m c t)
      ∗ own c (bufs t).a18 T ∗ own c (bufs t).a19 S.g
      ∗ own c (bufs t).a20 S.v ∗ own c (bufs t).a21 S.t) ⊢ post m c t := by
  subst hS hT
  unfold post inputs
  rw [show (dats m 0 c).owesAt () t.succ = (dats m 0 c).owesAt () t.castSucc from rfl,
    show (dats m 0 c).Φ t.succ = iprop(kept c (acc m c t.val t.isLt) ∗ (∃ r, prngReg c r)) from rfl]
  dsimp only [dats]
  iintro ⟨Hk, Hr, Ho, ⟨H0, H1, H2, H3, H4, H5, H6, H7, H8, H9, H10, H11, H12, H13, H14, H15, H16⟩, H17, H18, H19, H20⟩
  iframe Hk Hr Ho H0 H1 H2 H3 H4 H5 H6 H7 H8 H9 H10 H11 H12 H13 H14 H15 H16 H17 H18 H19 H20

end Cert.SsdIdeal.Run

end
-- ==== Proof.Ssd.Launch.lean ====
/- The body's obligation at every point of the SSD backward kernel, and the launch. -/
module

public import proofs.«01_k».proof.Proof.Ssd.Data
public import Idealize.ShloMosaic.Lib.Pipeline.FrameBody
public import Idealize.ShloMosaic.Lib.Pipeline.FrameSuffix

@[expose] public section

set_option maxRecDepth 16384

noncomputable section

namespace Cert.SsdIdeal.Run

open Cert.SsdIdeal Cert.SsdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The first point. -/
theorem first_point (c : Dev nD) (h : 0 < cfg0.N) :
    pre m c ⟨0, h⟩ ⊢ wp frame (wpE (defs₀ (F := F)) Variants.none c none) Set.univ
      (body (grid0.coords ⟨0, h⟩) (bufs ⟨0, h⟩)) (fun _ => post m c ⟨0, h⟩) := by
  have hc : isFirst (grid0.coords (⟨0, h⟩ : Fin cfg0.N)) := (isFirst_iff ⟨0, h⟩).2 rfl
  refine (pre_eq m c _).trans ?_
  rw [show (dats m 0 c).Φ (⟨0, h⟩ : Fin cfg0.N).castSucc = Pipeline.ΦA spec0 c from rfl, start_eq]
  unfold loose
  iintro ⟨⟨⟨S0, S1, S2, S3, S4, S5, S6, S7⟩, Hr⟩, Ho, HI, ⟨%d17, H17⟩, ⟨%d18, H18⟩, ⟨%d19, H19⟩, ⟨%d20, H20⟩⟩
  iapply ((runA c (grid0.coords ⟨0, h⟩) (bufs ⟨0, h⟩) hc (ins m c ⟨0, h⟩)).2.2.2.2.2.2.2.2 _ _)
  iframe HI S0 S1 S2 S3 S4 S5 S6 S7
  isplitl [H17]; · iexists _; iexact H17
  isplitl [H18]; · iexists _; iexact H18
  isplitl [H19]; · iexists _; iexact H19
  isplitl [H20]; · iexists _; iexact H20
  iintro ⟨HI, H17, H18, H19, H20, S0, S1, S2, S3, S4, S5, S6, S7⟩
  iapply (post_eq m c ⟨0, h⟩ (accA c (grid0.coords ⟨0, h⟩) (bufs ⟨0, h⟩) (ins m c ⟨0, h⟩) hc) rfl _ rfl)
  unfold kept accA
  dsimp only
  iframe S2 S3 S4 S5 Hr Ho HI
  isplitl [S0 S1 S6 S7]
  · isplitl [S0]; · exact left_fill c _ _ (coverAd c _ _ _ hc)
    isplitl [S1]; · exact left_fill c _ _ (coverAh c _ _ _ hc)
    isplitl [S6]; · exact left_fill c _ _ (coverAe c _ _ _ hc)
    exact left_fill c _ _ (coverAf c _ _ _ hc)
  isplitl [H17]; · exact left_fill c _ _ (coverA17 c _ _ _ hc)
  isplitl [H18]; · exact left_fill c _ _ (coverA18 c _ _ _ hc)
  isplitl [H19]; · exact left_fill c _ _ (coverA19 c _ _ _ hc)
  exact left_fill c _ _ (coverA20 c _ _ _ hc)

set_option maxHeartbeats 8000000 in
/-- A later point. -/
theorem later_point (c : Dev nD) (n : ℕ) (h : n + 1 < cfg0.N) :
    pre m c ⟨n + 1, h⟩ ⊢ wp frame (wpE (defs₀ (F := F)) Variants.none c none) Set.univ
      (body (grid0.coords ⟨n + 1, h⟩) (bufs ⟨n + 1, h⟩)) (fun _ => post m c ⟨n + 1, h⟩) := by
  have hc : ¬isFirst (grid0.coords (⟨n + 1, h⟩ : Fin cfg0.N)) := fun e => Nat.succ_ne_zero n ((isFirst_iff ⟨n + 1, h⟩).1 e)
  refine (pre_eq m c _).trans ?_
  rw [show (dats m 0 c).Φ (⟨n + 1, h⟩ : Fin cfg0.N).castSucc
    = iprop(kept c (acc m c n (Nat.lt_of_succ_lt h)) ∗ (∃ r, prngReg c r)) from rfl]
  simp only [before18, before19, before20]
  unfold kept
  iintro ⟨⟨⟨S0, S1, S2, S3, S4, S5, S6, S7⟩, Hr⟩, Ho, HI, ⟨%d17, H17⟩, ⟨%d18, H18⟩, ⟨%d19, H19⟩, ⟨%d20, H20⟩⟩
  iapply ((runB c (grid0.coords ⟨n + 1, h⟩) (bufs ⟨n + 1, h⟩) hc (ins m c ⟨n + 1, h⟩) (acc m c n (Nat.lt_of_succ_lt h))).2.2.2.2.2.2 _ _)
  iframe HI H18 H19 H20 S0 S1 S2 S3 S4 S5 S6 S7
  isplitl [H17]; · iexists _; iexact H17
  iintro ⟨HI, H17, H18, H19, H20, S0, S1, S2, S3, S4, S5, S6, S7⟩
  iapply (post_eq m c ⟨n + 1, h⟩ (accB c (grid0.coords ⟨n + 1, h⟩) (bufs ⟨n + 1, h⟩) (ins m c ⟨n + 1, h⟩) hc
    (acc m c n (Nat.lt_of_succ_lt h))) rfl _ rfl)
  unfold kept accB
  dsimp only
  iframe S2 S3 S4 S5 S6 S7 Hr Ho HI
  isplitl [S0 S1]
  · isplitl [S0]; · exact left_fill c _ _ (coverBd c _ _ _ hc _)
    exact left_fill c _ _ (coverBh c _ _ _ hc _)
  isplitl [H17]; · exact left_fill c _ _ (coverB17 c _ _ _ hc _)
  isplitl [H18]; · exact owned_over c (bufs ⟨n + 1, h⟩).h19 _ _
  isplitl [H19]; · exact owned_over c (bufs ⟨n + 1, h⟩).h20 _ _
  exact owned_over c (bufs ⟨n + 1, h⟩).h21 _ _

theorem point (c : Dev nD) (t : Fin cfg0.N) :
    pre m c t ⊢ wp frame (wpE (defs₀ (F := F)) Variants.none c none) Set.univ (bodyAt0 t) (fun _ => post m c t) := by
  obtain ⟨_ | n, h⟩ := t
  · exact first_point m c h
  · exact later_point m c n h

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (point m c t) rfl .rfl fun _ => .rfl

theorem enter (c : Dev nD) : Pipeline.ΦA spec0 c ⊢ (dats m 0 c).Φ 0 := by
  rw [show (dats m 0 c).Φ 0 = Pipeline.ΦA spec0 c from rfl]

theorem leave_succ (c : Dev nD) (n : ℕ) (h : n + 1 ≤ cfg0.N) : inv m c (n + 1) h ⊢ Pipeline.ΦA spec0 c := by
  rw [start_eq]
  unfold inv kept loose
  iintro ⟨⟨S0, S1, S2, S3, S4, S5, S6, S7⟩, Hr⟩
  iframe Hr S2 S3 S4 S5
  isplitl [S0]; · iexists _; iexact S0
  isplitl [S1]; · iexists _; iexact S1
  isplitl [S6]; · iexists _; iexact S6
  iexists _; iexact S7

theorem leave (c : Dev nD) : (dats m 0 c).Φ (Fin.last cfg0.N) ⊢ Pipeline.ΦA spec0 c :=
  leave_succ m c 31 (le_of_eq N_0.symm)

set_option backward.isDefEq.respectTransparency.types false in
set_option maxHeartbeats 800000 in
/-- The launch: every execution ends with the arrays at what the proof data computes and every counter at zero. -/
theorem launch : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track_shared (Q' := _) cfgs (dats m) (0 : Fin 1) launch₀0 defs₀ Variants.none m ρ main
    (hbody := fun c => (obligation m c).loose) (hq := fun _ _ _ => rfl) (howed := fun _ _ => rfl) (V₀ := V0 m)
    (opss := [hostOps1]) (hsub := sfx_sub) (hfresh := sfx_fresh) (hkeep := sfx_keeps) (hmain := hmain m Variants.none)
    (hA := A_eq m) (hin := enter m) (hout := leave m)

end Cert.SsdIdeal.Run

end
-- ==== Proof.Ssd.KernelFrame.lean ====
/- The SSD backward kernel changes none of its arguments. The printed program and its idealized one have the same
text; each is run at its own names. -/
module

public import proofs.«01_k».proof.Defs
public import proofs.«01_k».proof.Proof.Ssd.Launch
public import proofs.«01_k».proof.Proof.SsdBits.Launch
public import Idealize.ShloMosaic.Lib.Claim

@[expose] public section

set_option maxRecDepth 16384

noncomputable section

namespace Cert.Ssd

open Idealize.ShloMosaic Idealize.ShloMosaic.TcCoe Idealize.SL.Sem

/-- The kernel changes none of its arguments and ends with every counter at zero. -/
theorem frameIdeal : @Cert.quiescent_SsdIdeal Cert.SsdIdeal.Gen.facts := fun m ρ _ =>
  θ_run_and (Cert.SsdIdeal.Gen.frame_of m ρ (Cert.SsdIdeal.Run.dats m) (Cert.SsdIdeal.Run.A_eq m)
      ((θ_run Cert.SsdIdeal.defs _ _).mono (fun _ h => h.1) (Cert.SsdIdeal.Run.launch m ρ)))
    ((θ_run Cert.SsdIdeal.defs _ _).mono (fun _ h => h.2) (Cert.SsdIdeal.Run.launch m ρ))

/-- The same of the printed program. -/
theorem frame : @Cert.quiescent_Ssd Cert.Ssd.Gen.facts := fun m ρ _ =>
  θ_run_and (Cert.Ssd.Gen.frame_of m ρ (Cert.Ssd.Run.dats m) (Cert.Ssd.Run.A_eq m)
      ((θ_run Cert.Ssd.defs _ _).mono (fun _ h => h.1) (Cert.Ssd.Run.launch m ρ)))
    ((θ_run Cert.Ssd.defs _ _).mono (fun _ h => h.2) (Cert.Ssd.Run.launch m ρ))

end Cert.Ssd

end
-- ==== Proof.Ssd.Host.lean ====
/- What the host lines hand the SSD backward kernel: the forward's output, its carried states and its convolution are the
arrays the reference's own forward lines compute. -/
module

public import proofs.«01_k».proof.Proof.Gen.SsdIdeal.Frame
public import proofs.«01_k».proof.Proof.Gen.SsdRefIdeal.Read
public import Idealize.ShloMosaic.Lib.Claim
public import Idealize.ShloMosaic.Lib.StableHlo.RunRead

@[expose] public section

set_option maxRecDepth 65536

noncomputable section

namespace Cert.Ssd.Host

open Idealize.ShloMosaic Idealize.ShloMosaic.TcCoe Idealize.SL.Sem Idealize.ShloMosaic.StableHlo
open Cert.SsdIdeal Cert.SsdIdeal.Gen
open Cert.SsdRefIdeal.Read

variable {F : FTy → Type} [FloatOps F]

theorem after_append (l k : List (HloOp τ sig (Elt F))) (W : Valuation τ sig (Elt F)) :
    after (l ++ k) W = after k (after l W) := by
  induction l generalizing W with
  | nil => rfl
  | cons op l ih => exact ih _

variable (W : Valuation τ sig (Elt F))
  (x0 : (⟨S4096x2576, .f32⟩ : BufTy).Contents (Elt F))
  (x2 : (⟨S4x1536, .f32⟩ : BufTy).Contents (Elt F)) (x3 : (⟨S1x1536, .f32⟩ : BufTy).Contents (Elt F))
  (x4 : (⟨S3x16, .f32⟩ : BufTy).Contents (Elt F))

/-- The arguments the forward lines read. -/
structure Args (W : Valuation τ sig (Elt F)) : Prop where
  h0 : W (Proc.devRef .tc main_arg0) = x0
  h2 : W (Proc.devRef .tc main_arg2) = x2
  h3 : W (Proc.devRef .tc main_arg3) = x3
  h4 : W (Proc.devRef .tc main_arg4) = x4

/-- The parts of the packed arguments. -/
structure Parts (W : Valuation τ sig (Elt F)) : Prop where
  t2 : W (Proc.devRef .tc main_v2) = val_main_v2 x0
  t3 : W (Proc.devRef .tc main_v3) = val_main_v3 x4
  t4 : W (Proc.devRef .tc main_v4) = val_main_v4 x4
  t5 : W (Proc.devRef .tc main_v5) = val_main_v5 x4

/-- The valuations between the segments. -/
abbrev at5 := after (hostOps0_4 (F := F)) (after (hostOps0_3 (F := F)) (after (hostOps0_2 (F := F)) (after (hostOps0_1 (F := F)) (after (hostOps0 (F := F)) W))))
abbrev at7 := after (hostOps0_6 (F := F)) (after (hostOps0_5 (F := F)) W)
abbrev at9 := after (hostOps0_8 (F := F)) (after (hostOps0_7 (F := F)) W)
abbrev at12 := after (hostOps0_11 (F := F)) (after (hostOps0_10 (F := F)) (after (hostOps0_9 (F := F)) W))
abbrev at14 := after (hostOps0_13 (F := F)) (after (hostOps0_12 (F := F)) W)

section Zero
variable (h : Args x0 x2 x3 x4 W)
include h

theorem parts5 : Parts x0 x4 (at5 W) := by
  obtain ⟨rfl, rfl, rfl, rfl⟩ := h
  constructor <;> simp only [at5, hostOps0, hostOps0_1, hostOps0_2, hostOps0_3, hostOps0_4] <;> entry_read <;> rfl

theorem cv5 : at5 W (Proc.devRef .tc main_v29) = val_main_v28 x0 x2 x3 := by
  obtain ⟨rfl, rfl, rfl, rfl⟩ := h
  simp only [at5, hostOps0, hostOps0_1, hostOps0_2, hostOps0_3, hostOps0_4]
  entry_read
  rfl
end Zero

section One
variable (h : Parts x0 x4 W)
include h

theorem parts7 : Parts x0 x4 (at7 W) := by
  obtain ⟨h1, h2, h3, h4⟩ := h
  constructor <;> simp only [at7, hostOps0_5, hostOps0_6] <;> entry_read <;> assumption
theorem parts9 : Parts x0 x4 (at9 W) := by
  obtain ⟨h1, h2, h3, h4⟩ := h
  constructor <;> simp only [at9, hostOps0_7, hostOps0_8] <;> entry_read <;> assumption
theorem parts12 : Parts x0 x4 (at12 W) := by
  obtain ⟨h1, h2, h3, h4⟩ := h
  constructor <;> simp only [at12, hostOps0_9, hostOps0_10, hostOps0_11] <;> entry_read <;> assumption
theorem parts14 : Parts x0 x4 (at14 W) := by
  obtain ⟨h1, h2, h3, h4⟩ := h
  constructor <;> simp only [at14, hostOps0_12, hostOps0_13] <;> entry_read <;> assumption

section Seven
variable (hcv : W (Proc.devRef .tc main_v29) = val_main_v28 x0 x2 x3)
include hcv

theorem xs7 : at7 W (Proc.devRef .tc main_v32) = val_main_v31 x0 x2 x3 := by
  simp only [at7, hostOps0_5, hostOps0_6]; entry_read; rw [hcv]; rfl
theorem bc7 : at7 W (Proc.devRef .tc main_v34) = val_main_v33 x0 x2 x3 := by
  simp only [at7, hostOps0_5, hostOps0_6]; entry_read; rw [hcv]; rfl
theorem cc7 : at7 W (Proc.devRef .tc main_v36) = val_main_v35 x0 x2 x3 := by
  simp only [at7, hostOps0_5, hostOps0_6]; entry_read; rw [hcv]; rfl
theorem pre7 : at7 W (Proc.devRef .tc main_v38) = val_main_v37 x0 x4 := by
  simp only [at7, hostOps0_5, hostOps0_6]; entry_read; rw [h.t2, h.t3]; rfl
end Seven

end One

/-- What is live after the second segment. -/
structure Mid (W : Valuation τ sig (Elt F)) : Prop where
  cv : W (Proc.devRef .tc main_v29) = val_main_v28 x0 x2 x3
  xs : W (Proc.devRef .tc main_v32) = val_main_v31 x0 x2 x3
  bc : W (Proc.devRef .tc main_v34) = val_main_v33 x0 x2 x3
  cc : W (Proc.devRef .tc main_v36) = val_main_v35 x0 x2 x3

theorem mid9 (h : Mid x0 x2 x3 W) : Mid x0 x2 x3 (at9 W) := by
  obtain ⟨h1, h2, h3, h4⟩ := h
  constructor <;> simp only [at9, hostOps0_7, hostOps0_8] <;> entry_read <;> assumption
theorem mid12 (h : Mid x0 x2 x3 W) : Mid x0 x2 x3 (at12 W) := by
  obtain ⟨h1, h2, h3, h4⟩ := h
  constructor <;> simp only [at12, hostOps0_9, hostOps0_10, hostOps0_11] <;> entry_read <;> assumption
theorem mid14 (h : Mid x0 x2 x3 W) : Mid x0 x2 x3 (at14 W) := by
  obtain ⟨h1, h2, h3, h4⟩ := h
  constructor <;> simp only [at14, hostOps0_12, hostOps0_13] <;> entry_read <;> assumption

section Nine
variable (h : Parts x0 x4 W) (hm : Mid x0 x2 x3 W) (hp : W (Proc.devRef .tc main_v38) = val_main_v37 x0 x4)
include h hm hp

theorem xdt9 : at9 W (Proc.devRef .tc main_v44) = val_main_v43 x0 x2 x3 x4 := by
  simp only [at9, hostOps0_7, hostOps0_8]; entry_read; rw [hp, hm.xs]; rfl
theorem adt9 : at9 W (Proc.devRef .tc main_v48) = val_main_v47 x0 x4 := by
  simp only [at9, hostOps0_7, hostOps0_8]; entry_read; rw [hp, h.t4]; rfl
theorem one9 : at9 W (Proc.devRef .tc main_v49) = val_main_v48 := by
  simp only [at9, hostOps0_7, hostOps0_8]; entry_read; rfl
end Nine

section Twelve
variable (ha : W (Proc.devRef .tc main_v48) = val_main_v47 x0 x4) (h1 : W (Proc.devRef .tc main_v49) = val_main_v48)
include ha h1

theorem mask12 : at12 W (Proc.devRef .tc main_v50) = val_main_v49 := by
  simp only [at12, hostOps0_9, hostOps0_10, hostOps0_11]; entry_read; rw [h1]; rfl
theorem sum12 : at12 W (Proc.devRef .tc main_v52) = val_main_v51_0 x0 x4 := by
  simp only [at12, hostOps0_9, hostOps0_10, hostOps0_11]; entry_read; rw [h1, ha]; rfl
end Twelve

theorem keep12 : at12 W (Proc.devRef .tc main_v44) = W (Proc.devRef .tc main_v44) := by
  simp only [at12, hostOps0_9, hostOps0_10, hostOps0_11]; entry_read; rfl
theorem keep14 : at14 W (Proc.devRef .tc main_v44) = W (Proc.devRef .tc main_v44) := by
  simp only [at14, hostOps0_12, hostOps0_13]; entry_read; rfl

section Fourteen
variable (hs : W (Proc.devRef .tc main_v52) = val_main_v51_0 x0 x4) (h1 : W (Proc.devRef .tc main_v50) = val_main_v49)
include hs

theorem acs14 : at14 W (Proc.devRef .tc main_v53) = val_main_v52 x0 x4 := by
  simp only [at14, hostOps0_12, hostOps0_13]; entry_read; rw [hs]; rfl
include h1
theorem seg14 : at14 W (Proc.devRef .tc main_v59) = val_main_v58_0 x0 x4 := by
  simp only [at14, hostOps0_12, hostOps0_13]; entry_read; rw [hs, h1]; rfl
end Fourteen

/-- The last segment before its scan, the scan, and after it. -/
abbrev headOps := (hostOps0_14 (F := F)).take 32
abbrev scanOps := ((hostOps0_14 (F := F)).drop 32).take 228
abbrev tailOps := ((hostOps0_14 (F := F)).drop 32).drop 228

theorem split14 : after (hostOps0_14 (F := F)) W = after tailOps (after scanOps (after headOps W)) := by
  rw [← after_append, ← after_append, List.take_append_drop, List.take_append_drop]

/-- What the head of the last segment reads. -/
structure Pre (W : Valuation τ sig (Elt F)) : Prop extends Mid x0 x2 x3 W where
  xdt : W (Proc.devRef .tc main_v44) = val_main_v43 x0 x2 x3 x4
  acs : W (Proc.devRef .tc main_v53) = val_main_v52 x0 x4
  seg : W (Proc.devRef .tc main_v59) = val_main_v58_0 x0 x4

theorem diagH (h : Pre x0 x2 x3 x4 W) : after headOps W (Proc.devRef .tc main_v66) = val_main_v65 x0 x2 x3 x4 := by
  simp only [headOps, hostOps0_14, List.take]; entry_read; rw [h.xdt, h.cc, h.bc, h.seg]; rfl
theorem statesH (h : Pre x0 x2 x3 x4 W) : after headOps W (Proc.devRef .tc main_v85) = val_main_v82 x0 x2 x3 x4 := by
  simp only [headOps, hostOps0_14, List.take]; entry_read; rw [h.xdt, h.acs, h.bc]; rfl
theorem decayH (h : Pre x0 x2 x3 x4 W) : after headOps W (Proc.devRef .tc main_v87) = val_main_v84 x0 x4 := by
  simp only [headOps, hostOps0_14, List.take]; entry_read; rw [h.acs]; rfl
theorem zeroH : after headOps W (Proc.devRef .tc main_v83) = val_main_v80 := by
  simp only [headOps, hostOps0_14, List.take]; entry_read; rfl
theorem emptyH : after headOps W (Proc.devRef .tc main_v88) = val_main_v85 := by
  simp only [headOps, hostOps0_14, List.take]; entry_read; rfl
theorem preH (h : Pre x0 x2 x3 x4 W) : Pre x0 x2 x3 x4 (after headOps W) := by
  obtain ⟨⟨h1, h2, h3, h4⟩, h5, h6, h7⟩ := h
  constructor <;> (try constructor) <;> simp only [headOps, hostOps0_14, List.take] <;> entry_read <;> assumption

/-- Four steps of the scan. -/
abbrev steps (b : ℕ) := ((scanOps (F := F)).drop (24 * b)).take 24
abbrev catOps := (scanOps (F := F)).drop 192

/-- The carried states, one after each step. -/
def carried : List (Valuation τ sig (Elt F) → Prop) :=
  [fun W => W (Proc.devRef .tc main_v83) = val_main_v80,
   fun W => W (Proc.devRef .tc main_v94) = val_main_v91 x0 x2 x3 x4,
   fun W => W (Proc.devRef .tc main_v100) = val_main_v97 x0 x2 x3 x4,
   fun W => W (Proc.devRef .tc main_v106) = val_main_v103 x0 x2 x3 x4,
   fun W => W (Proc.devRef .tc main_v112) = val_main_v109 x0 x2 x3 x4,
   fun W => W (Proc.devRef .tc main_v118) = val_main_v115 x0 x2 x3 x4,
   fun W => W (Proc.devRef .tc main_v124) = val_main_v121 x0 x2 x3 x4,
   fun W => W (Proc.devRef .tc main_v130) = val_main_v127 x0 x2 x3 x4,
   fun W => W (Proc.devRef .tc main_v136) = val_main_v133 x0 x2 x3 x4,
   fun W => W (Proc.devRef .tc main_v142) = val_main_v139 x0 x2 x3 x4,
   fun W => W (Proc.devRef .tc main_v148) = val_main_v145 x0 x2 x3 x4,
   fun W => W (Proc.devRef .tc main_v154) = val_main_v151 x0 x2 x3 x4,
   fun W => W (Proc.devRef .tc main_v160) = val_main_v157 x0 x2 x3 x4,
   fun W => W (Proc.devRef .tc main_v166) = val_main_v163 x0 x2 x3 x4,
   fun W => W (Proc.devRef .tc main_v172) = val_main_v169 x0 x2 x3 x4,
   fun W => W (Proc.devRef .tc main_v178) = val_main_v175 x0 x2 x3 x4,
   fun W => W (Proc.devRef .tc main_v184) = val_main_v181 x0 x2 x3 x4,
   fun W => W (Proc.devRef .tc main_v190) = val_main_v187 x0 x2 x3 x4,
   fun W => W (Proc.devRef .tc main_v196) = val_main_v193 x0 x2 x3 x4,
   fun W => W (Proc.devRef .tc main_v202) = val_main_v199 x0 x2 x3 x4,
   fun W => W (Proc.devRef .tc main_v208) = val_main_v205 x0 x2 x3 x4,
   fun W => W (Proc.devRef .tc main_v214) = val_main_v211 x0 x2 x3 x4,
   fun W => W (Proc.devRef .tc main_v220) = val_main_v217 x0 x2 x3 x4,
   fun W => W (Proc.devRef .tc main_v226) = val_main_v223 x0 x2 x3 x4,
   fun W => W (Proc.devRef .tc main_v232) = val_main_v229 x0 x2 x3 x4,
   fun W => W (Proc.devRef .tc main_v238) = val_main_v235 x0 x2 x3 x4,
   fun W => W (Proc.devRef .tc main_v244) = val_main_v241 x0 x2 x3 x4,
   fun W => W (Proc.devRef .tc main_v250) = val_main_v247 x0 x2 x3 x4,
   fun W => W (Proc.devRef .tc main_v256) = val_main_v253 x0 x2 x3 x4,
   fun W => W (Proc.devRef .tc main_v262) = val_main_v259 x0 x2 x3 x4,
   fun W => W (Proc.devRef .tc main_v268) = val_main_v265 x0 x2 x3 x4,
   fun W => W (Proc.devRef .tc main_v274) = val_main_v271 x0 x2 x3 x4]

/-- The first `n` states are there, and what the steps read. -/
structure Good (n : ℕ) (W : Valuation τ sig (Elt F)) : Prop where
  s : W (Proc.devRef .tc main_v85) = val_main_v82 x0 x2 x3 x4
  d : W (Proc.devRef .tc main_v87) = val_main_v84 x0 x4
  e : W (Proc.devRef .tc main_v88) = val_main_v85
  st : ∀ e ∈ (carried x0 x2 x3 x4).take n, e W

set_option maxHeartbeats 16000000 in
theorem good (b : Fin 8) (W : Valuation τ sig (Elt F)) (h : Good x0 x2 x3 x4 (4 * b.val + 1) W) :
    Good x0 x2 x3 x4 (4 * b.val + 5) (after (steps b.val) W) := by
  obtain ⟨hs, hd, he, h⟩ := h
  fin_cases b <;>
  · simp only [carried, List.take, List.forall_mem_cons, List.not_mem_nil, false_imp_iff, implies_true, and_true, Nat.reduceMul, Nat.reduceAdd] at h
    constructor <;>
    simp only [carried, List.take, List.forall_mem_cons, List.not_mem_nil, false_imp_iff, implies_true, and_true, Nat.reduceMul, Nat.reduceAdd] <;>
    (repeat' apply And.intro) <;>
    (simp only [steps, scanOps, hostOps0_14, List.take, List.drop, Nat.reduceMul]; entry_read; simp only [h, hs, hd, he]; try rfl)

/-- What the scan keeps. -/
structure Late (W : Valuation τ sig (Elt F)) : Prop where
  cv : W (Proc.devRef .tc main_v29) = val_main_v28 x0 x2 x3
  xs : W (Proc.devRef .tc main_v32) = val_main_v31 x0 x2 x3
  cc : W (Proc.devRef .tc main_v36) = val_main_v35 x0 x2 x3
  acs : W (Proc.devRef .tc main_v53) = val_main_v52 x0 x4
  diag : W (Proc.devRef .tc main_v66) = val_main_v65 x0 x2 x3 x4
  d : W (Proc.devRef .tc main_v5) = val_main_v5 x4

theorem lateS (h : Late x0 x2 x3 x4 W) : Late x0 x2 x3 x4 (after scanOps W) := by
  obtain ⟨h1, h2, h3, h4, h5, h6⟩ := h
  constructor <;> simp only [scanOps, hostOps0_14, List.take, List.drop] <;> entry_read <;> assumption

section Tail
variable (h : Late x0 x2 x3 x4 W) (hp : W (Proc.devRef .tc main_v316) = val_main_v313 x0 x2 x3 x4)
include h
theorem cvT : after tailOps W (Proc.devRef .tc main_v29) = val_main_v28 x0 x2 x3 := by
  simp only [tailOps, hostOps0_14, List.drop]; entry_read; rw [h.cv]
include hp
theorem yT : after tailOps W (Proc.devRef .tc main_v330) = val_main_v327 x0 x2 x3 x4 := by
  simp only [tailOps, hostOps0_14, List.drop]; entry_read; rw [hp, h.xs, h.cc, h.acs, h.diag, h.d]; rfl
theorem prevT : after tailOps W (Proc.devRef .tc main_v339) = shapeCast S32x128x1024 (transpose S32x128x2x8x64 [0, 4, 1, 2, 3] (val_main_v313 x0 x2 x3 x4) transposes_S32x2x8x64x128_S32x128x2x8x64_0_4_1_2_3) shapeCasts_S32x128x2x8x64_S32x128x1024 := by
  simp only [tailOps, hostOps0_14, List.drop]; entry_read; rw [hp]; rfl
end Tail

end Cert.Ssd.Host

end
-- ==== Proof.Ssd.Scan.lean ====
/- The host's scan carries the reference's states, and what the host lines before the kernel leave in its operands. -/
module

public import proofs.«01_k».proof.Proof.Ssd.Host

@[expose] public section

set_option maxRecDepth 65536

noncomputable section

namespace Cert.Ssd.Host

open Idealize.ShloMosaic Idealize.ShloMosaic.TcCoe Idealize.SL.Sem Idealize.ShloMosaic.StableHlo
open Cert.SsdIdeal Cert.SsdIdeal.Gen
open Cert.SsdRefIdeal.Read

variable {F : FTy → Type} [FloatOps F]

variable (W : Valuation τ sig (Elt F))
  (x0 : (⟨S4096x2576, .f32⟩ : BufTy).Contents (Elt F))
  (x2 : (⟨S4x1536, .f32⟩ : BufTy).Contents (Elt F)) (x3 : (⟨S1x1536, .f32⟩ : BufTy).Contents (Elt F))
  (x4 : (⟨S3x16, .f32⟩ : BufTy).Contents (Elt F))

theorem after_drop (l : List (HloOp τ sig (Elt F))) (k : ℕ) :
    after (l.drop k) W = after (l.drop (k + 24)) (after ((l.drop k).take 24) W) := by
  rw [← after_append, ← List.drop_drop, List.take_append_drop]

/-- The scan is its steps and then the stacking of the states. -/
theorem scan_split : after scanOps W = after catOps (after (steps 7) (after (steps 6) (after (steps 5) (after (steps 4)
    (after (steps 3) (after (steps 2) (after (steps 1) (after (steps 0) W)))))))) := by
  have := after_drop W scanOps 0
  rw [List.drop_zero] at this
  rw [this, after_drop _ scanOps 24, after_drop _ scanOps 48, after_drop _ scanOps 72, after_drop _ scanOps 96,
    after_drop _ scanOps 120, after_drop _ scanOps 144, after_drop _ scanOps 168]
  rfl

theorem good_all (h : Good x0 x2 x3 x4 1 W) : ∃ U, after scanOps W = after catOps U ∧ Good x0 x2 x3 x4 33 U :=
  ⟨_, scan_split W, good _ _ _ _ 7 _ (good _ _ _ _ 6 _ (good _ _ _ _ 5 _ (good _ _ _ _ 4 _ (good _ _ _ _ 3 _
    (good _ _ _ _ 2 _ (good _ _ _ _ 1 _ (good _ _ _ _ 0 _ h)))))))⟩

/-- The states with an axis for the chunk, before they are stacked. -/
def stacked : List (Valuation τ sig (Elt F) → Prop) :=
  [fun U => U (Proc.devRef .tc main_v281) = val_main_v278,
   fun U => U (Proc.devRef .tc main_v282) = val_main_v279 x0 x2 x3 x4,
   fun U => U (Proc.devRef .tc main_v283) = val_main_v280 x0 x2 x3 x4,
   fun U => U (Proc.devRef .tc main_v284) = val_main_v281 x0 x2 x3 x4,
   fun U => U (Proc.devRef .tc main_v285) = val_main_v282 x0 x2 x3 x4,
   fun U => U (Proc.devRef .tc main_v286) = val_main_v283 x0 x2 x3 x4,
   fun U => U (Proc.devRef .tc main_v287) = val_main_v284 x0 x2 x3 x4,
   fun U => U (Proc.devRef .tc main_v288) = val_main_v285 x0 x2 x3 x4,
   fun U => U (Proc.devRef .tc main_v289) = val_main_v286 x0 x2 x3 x4,
   fun U => U (Proc.devRef .tc main_v290) = val_main_v287 x0 x2 x3 x4,
   fun U => U (Proc.devRef .tc main_v291) = val_main_v288 x0 x2 x3 x4,
   fun U => U (Proc.devRef .tc main_v292) = val_main_v289 x0 x2 x3 x4,
   fun U => U (Proc.devRef .tc main_v293) = val_main_v290 x0 x2 x3 x4,
   fun U => U (Proc.devRef .tc main_v294) = val_main_v291 x0 x2 x3 x4,
   fun U => U (Proc.devRef .tc main_v295) = val_main_v292 x0 x2 x3 x4,
   fun U => U (Proc.devRef .tc main_v296) = val_main_v293 x0 x2 x3 x4,
   fun U => U (Proc.devRef .tc main_v297) = val_main_v294 x0 x2 x3 x4,
   fun U => U (Proc.devRef .tc main_v298) = val_main_v295 x0 x2 x3 x4,
   fun U => U (Proc.devRef .tc main_v299) = val_main_v296 x0 x2 x3 x4,
   fun U => U (Proc.devRef .tc main_v300) = val_main_v297 x0 x2 x3 x4,
   fun U => U (Proc.devRef .tc main_v301) = val_main_v298 x0 x2 x3 x4,
   fun U => U (Proc.devRef .tc main_v302) = val_main_v299 x0 x2 x3 x4,
   fun U => U (Proc.devRef .tc main_v303) = val_main_v300 x0 x2 x3 x4,
   fun U => U (Proc.devRef .tc main_v304) = val_main_v301 x0 x2 x3 x4,
   fun U => U (Proc.devRef .tc main_v305) = val_main_v302 x0 x2 x3 x4,
   fun U => U (Proc.devRef .tc main_v306) = val_main_v303 x0 x2 x3 x4,
   fun U => U (Proc.devRef .tc main_v307) = val_main_v304 x0 x2 x3 x4,
   fun U => U (Proc.devRef .tc main_v308) = val_main_v305 x0 x2 x3 x4,
   fun U => U (Proc.devRef .tc main_v309) = val_main_v306 x0 x2 x3 x4,
   fun U => U (Proc.devRef .tc main_v310) = val_main_v307 x0 x2 x3 x4,
   fun U => U (Proc.devRef .tc main_v311) = val_main_v308 x0 x2 x3 x4,
   fun U => U (Proc.devRef .tc main_v312) = val_main_v309 x0 x2 x3 x4]

theorem stack_all (h : Good x0 x2 x3 x4 33 W) : ∀ e ∈ stacked x0 x2 x3 x4, e (after (catOps.take 32) W) := by
  have h := h.st
  rw [show (carried x0 x2 x3 x4).take 33 = carried x0 x2 x3 x4 from List.take_of_length_le (by simp [carried])] at h
  simp only [carried, List.forall_mem_cons, List.not_mem_nil, false_imp_iff, implies_true, and_true] at h
  simp only [stacked, List.forall_mem_cons, List.not_mem_nil, false_imp_iff, implies_true, and_true]
  (repeat' apply And.intro) <;>
    (simp only [catOps, scanOps, hostOps0_14, List.take, List.drop]; entry_read; simp only [h]; try rfl)

/-- The states stacked, after an empty block. -/
def catAll (e : Vec F S0x2x8x64x128 .f32) (a0 a1 a2 a3 a4 a5 a6 a7 a8 a9 a10 a11 a12 a13 a14 a15 a16 a17 a18 a19 a20 a21 a22 a23 a24 a25 a26 a27 a28 a29 a30 a31 : Vec F S1x2x8x64x128 .f32) : Vec F S32x2x8x64x128 .f32 :=
  concatenate S32x2x8x64x128 0 [⟨S0x2x8x64x128, e⟩, ⟨S32x2x8x64x128, concatenate S32x2x8x64x128 0
    [⟨S16x2x8x64x128, concatenate S16x2x8x64x128 0 [⟨S1x2x8x64x128, a0⟩, ⟨S1x2x8x64x128, a1⟩, ⟨S1x2x8x64x128, a2⟩, ⟨S1x2x8x64x128, a3⟩, ⟨S1x2x8x64x128, a4⟩, ⟨S1x2x8x64x128, a5⟩, ⟨S1x2x8x64x128, a6⟩, ⟨S1x2x8x64x128, a7⟩, ⟨S1x2x8x64x128, a8⟩, ⟨S1x2x8x64x128, a9⟩, ⟨S1x2x8x64x128, a10⟩, ⟨S1x2x8x64x128, a11⟩, ⟨S1x2x8x64x128, a12⟩, ⟨S1x2x8x64x128, a13⟩, ⟨S1x2x8x64x128, a14⟩, ⟨S1x2x8x64x128, a15⟩] concatenates_S1x2x8x64x128_S1x2x8x64x128_S1x2x8x64x128_S1x2x8x64x128_S1x2x8x64x128_S1x2x8x64x128_S1x2x8x64x128_S1x2x8x64x128_S1x2x8x64x128_S1x2x8x64x128_S1x2x8x64x128_S1x2x8x64x128_S1x2x8x64x128_S1x2x8x64x128_S1x2x8x64x128_S1x2x8x64x128_S16x2x8x64x128_d0⟩,
     ⟨S16x2x8x64x128, concatenate S16x2x8x64x128 0 [⟨S1x2x8x64x128, a16⟩, ⟨S1x2x8x64x128, a17⟩, ⟨S1x2x8x64x128, a18⟩, ⟨S1x2x8x64x128, a19⟩, ⟨S1x2x8x64x128, a20⟩, ⟨S1x2x8x64x128, a21⟩, ⟨S1x2x8x64x128, a22⟩, ⟨S1x2x8x64x128, a23⟩, ⟨S1x2x8x64x128, a24⟩, ⟨S1x2x8x64x128, a25⟩, ⟨S1x2x8x64x128, a26⟩, ⟨S1x2x8x64x128, a27⟩, ⟨S1x2x8x64x128, a28⟩, ⟨S1x2x8x64x128, a29⟩, ⟨S1x2x8x64x128, a30⟩, ⟨S1x2x8x64x128, a31⟩] concatenates_S1x2x8x64x128_S1x2x8x64x128_S1x2x8x64x128_S1x2x8x64x128_S1x2x8x64x128_S1x2x8x64x128_S1x2x8x64x128_S1x2x8x64x128_S1x2x8x64x128_S1x2x8x64x128_S1x2x8x64x128_S1x2x8x64x128_S1x2x8x64x128_S1x2x8x64x128_S1x2x8x64x128_S1x2x8x64x128_S16x2x8x64x128_d0⟩]
    concatenates_S16x2x8x64x128_S16x2x8x64x128_S32x2x8x64x128_d0⟩] concatenates_S0x2x8x64x128_S32x2x8x64x128_S32x2x8x64x128_d0

theorem cat_end (U : Valuation τ sig (Elt F)) (he : U (Proc.devRef .tc main_v88) = val_main_v85) (h : ∀ e ∈ stacked x0 x2 x3 x4, e U) :
    after (catOps.drop 32) U (Proc.devRef .tc main_v316) = val_main_v313 x0 x2 x3 x4 := by
  simp only [stacked, List.forall_mem_cons, List.not_mem_nil, false_imp_iff, implies_true, and_true] at h
  obtain ⟨h0, h1, h2, h3, h4, h5, h6, h7, h8, h9, h10, h11, h12, h13, h14, h15, h16, h17, h18, h19, h20, h21, h22, h23, h24, h25, h26, h27, h28, h29, h30, h31⟩ := h
  simp only [catOps, scanOps, hostOps0_14, List.take, List.drop]
  entry_read
  show catAll (U (Proc.devRef .tc main_v88)) (U (Proc.devRef .tc main_v281)) (U (Proc.devRef .tc main_v282)) (U (Proc.devRef .tc main_v283)) (U (Proc.devRef .tc main_v284)) (U (Proc.devRef .tc main_v285)) (U (Proc.devRef .tc main_v286)) (U (Proc.devRef .tc main_v287)) (U (Proc.devRef .tc main_v288)) (U (Proc.devRef .tc main_v289)) (U (Proc.devRef .tc main_v290)) (U (Proc.devRef .tc main_v291)) (U (Proc.devRef .tc main_v292)) (U (Proc.devRef .tc main_v293)) (U (Proc.devRef .tc main_v294)) (U (Proc.devRef .tc main_v295)) (U (Proc.devRef .tc main_v296)) (U (Proc.devRef .tc main_v297)) (U (Proc.devRef .tc main_v298)) (U (Proc.devRef .tc main_v299)) (U (Proc.devRef .tc main_v300)) (U (Proc.devRef .tc main_v301)) (U (Proc.devRef .tc main_v302)) (U (Proc.devRef .tc main_v303)) (U (Proc.devRef .tc main_v304)) (U (Proc.devRef .tc main_v305)) (U (Proc.devRef .tc main_v306)) (U (Proc.devRef .tc main_v307)) (U (Proc.devRef .tc main_v308)) (U (Proc.devRef .tc main_v309)) (U (Proc.devRef .tc main_v310)) (U (Proc.devRef .tc main_v311)) (U (Proc.devRef .tc main_v312)) = _
  rw [he, h0, h1, h2, h3, h4, h5, h6, h7, h8, h9, h10, h11, h12, h13, h14, h15, h16, h17, h18, h19, h20, h21, h22, h23, h24, h25, h26, h27, h28, h29, h30, h31]
  rfl

theorem cat_prev (h : Good x0 x2 x3 x4 33 W) : after catOps W (Proc.devRef .tc main_v316) = val_main_v313 x0 x2 x3 x4 := by
  have s : after catOps W = after (catOps.drop 32) (after (catOps.take 32) W) := by rw [← after_append, List.take_append_drop]
  rw [s]
  refine cat_end _ _ _ _ _ ?_ (stack_all _ _ _ _ _ h)
  have := h.e
  simp only [catOps, scanOps, hostOps0_14, List.take, List.drop]; entry_read; exact this

/-- Everything the tail reads, after the scan, from what stands before the head of the last segment. -/
theorem lateH (h : Pre x0 x2 x3 x4 W) (ha : W (Proc.devRef .tc main_v5) = val_main_v5 x4) :
    Late x0 x2 x3 x4 (after headOps W) where
  cv := (preH W _ _ _ _ h).cv
  xs := (preH W _ _ _ _ h).xs
  cc := (preH W _ _ _ _ h).cc
  acs := (preH W _ _ _ _ h).acs
  diag := diagH W _ _ _ _ h
  d := by rw [← ha]; simp only [headOps, hostOps0_14, List.take]; entry_read; try rfl

theorem goodH (h : Pre x0 x2 x3 x4 W) : Good x0 x2 x3 x4 1 (after headOps W) where
  s := statesH W _ _ _ _ h
  d := decayH W _ _ _ _ h
  e := emptyH W
  st := by
    simp only [carried, List.take, List.forall_mem_cons, List.not_mem_nil, false_imp_iff, implies_true, and_true]
    exact zeroH W

theorem seg_all (h : Pre x0 x2 x3 x4 W) (ha : W (Proc.devRef .tc main_v5) = val_main_v5 x4) :
    after (hostOps0_14 (F := F)) W (Proc.devRef .tc main_v29) = val_main_v28 x0 x2 x3 ∧
    after (hostOps0_14 (F := F)) W (Proc.devRef .tc main_v330) = val_main_v327 x0 x2 x3 x4 ∧
    after (hostOps0_14 (F := F)) W (Proc.devRef .tc main_v339) = shapeCast S32x128x1024 (transpose S32x128x2x8x64 [0, 4, 1, 2, 3] (val_main_v313 x0 x2 x3 x4) transposes_S32x2x8x64x128_S32x128x2x8x64_0_4_1_2_3) shapeCasts_S32x128x2x8x64_S32x128x1024 := by
  rw [split14]
  have hl := lateS _ _ _ _ _ (lateH W _ _ _ _ h ha)
  have hp : after scanOps (after headOps W) (Proc.devRef .tc main_v316) = val_main_v313 x0 x2 x3 x4 := by
    obtain ⟨U, e, hU⟩ := good_all _ _ _ _ _ (goodH W _ _ _ _ h)
    rw [e]; exact cat_prev U _ _ _ _ hU
  exact ⟨cvT _ _ _ _ _ hl, yT _ _ _ _ _ hl hp, prevT _ _ _ _ _ hl hp⟩

/-- The valuation before the last segment. -/
abbrev at14' := at14 (at12 (at9 (at7 (at5 W))))

theorem cv7 (h : W (Proc.devRef .tc main_v29) = val_main_v28 x0 x2 x3) : at7 W (Proc.devRef .tc main_v29) = val_main_v28 x0 x2 x3 := by
  simp only [at7, hostOps0_5, hostOps0_6]; entry_read; rw [h]

theorem pre_all (h : Args x0 x2 x3 x4 W) :
    Pre x0 x2 x3 x4 (at14' W) ∧ (at14' W) (Proc.devRef .tc main_v5) = val_main_v5 x4 := by
  have h5 := parts5 (h := h)
  have c5 := cv5 (h := h)
  have h7 := parts7 (h := h5)
  have m7 : Mid x0 x2 x3 (at7 (at5 W)) := ⟨cv7 _ _ _ _ c5,
    xs7 (h := h5) (hcv := c5), bc7 (h := h5) (hcv := c5), cc7 (h := h5) (hcv := c5)⟩
  have p7 := pre7 (h := h5) (hcv := c5)
  have h9 := parts9 (h := h7)
  have m9 := mid9 (h := m7)
  have x9 := xdt9 (h := h7) (hm := m7) (hp := p7)
  have a9 := adt9 (h := h7) (hm := m7) (hp := p7)
  have o9 := one9 (h := h7) (hm := m7) (hp := p7)
  have m12 := mid12 (h := m9)
  have h12 := parts12 (h := h9)
  have k12 := mask12 (ha := a9) (h1 := o9)
  have s12 := sum12 (ha := a9) (h1 := o9)
  have a14 := acs14 (hs := s12)
  have g14 := seg14 (hs := s12) (h1 := k12)
  exact ⟨⟨mid14 (h := m12), (keep14 _).trans ((keep12 _).trans x9), a14, g14⟩, (parts14 (h := h12)).t5⟩

variable (m : (ℓ : Loc nD τ sig) → Buf (Elt F) ℓ) (c : Dev nD)

theorem V0_split : V0 m c = after hostOps0_14 (at14' (fun b => m (c, b))) := by
  simp only [V0, List.flatten_cons, List.flatten_nil, List.append_nil, after_append]

theorem ops_all (h : Args x0 x2 x3 x4 (fun b => m (c, b))) :
    V m c main_v29 = val_main_v28 x0 x2 x3 ∧ V m c main_v330 = val_main_v327 x0 x2 x3 x4 ∧
    V m c main_v339 = shapeCast S32x128x1024 (transpose S32x128x2x8x64 [0, 4, 1, 2, 3] (val_main_v313 x0 x2 x3 x4) transposes_S32x2x8x64x128_S32x128x2x8x64_0_4_1_2_3) shapeCasts_S32x128x2x8x64_S32x128x1024 := by
  obtain ⟨p, a⟩ := pre_all _ _ _ _ _ h
  have := seg_all _ _ _ _ _ p a
  rw [← V0_split] at this
  exact this

end Cert.Ssd.Host

end
-- ==== Proof.Ssd.Operands.lean ====
/- The other operands of the SSD backward kernel: the packed activations, the packed cotangent and the rows of parameters. -/
module

public import proofs.«01_k».proof.Proof.Ssd.Scan

@[expose] public section

set_option maxRecDepth 65536

noncomputable section

namespace Cert.Ssd.Host

open Idealize.ShloMosaic Idealize.ShloMosaic.TcCoe Idealize.SL.Sem Idealize.ShloMosaic.StableHlo
open Cert.SsdIdeal Cert.SsdIdeal.Gen Cert.SsdRefIdeal.Read

variable {F : FTy → Type} [FloatOps F]

variable (W : Valuation τ sig (Elt F))
  (x0 x3 : (⟨S4096x1024, .f32⟩ : BufTy).Contents (Elt F))
  (x1 : (⟨S4096x1536, .f32⟩ : BufTy).Contents (Elt F)) (x2 : (⟨S4096x16, .f32⟩ : BufTy).Contents (Elt F))
  (x6 x7 x8 : (⟨S1x16, .f32⟩ : BufTy).Contents (Elt F))

def zeros (s : Shape) (h : S_.BroadcastsInDim s (![] : Fin 0 → Fin s.rank)) : Vec F s .f32 := broadcastInDim s ![] h (constant (F := F) S_ .f32 0x00000000#32 : Vec F S_ .f32)

/-- The activations side by side, in the columns the step keeps them in. -/
def packed : Vec F S4096x7168 .f32 := concatenate S4096x7168 1 [⟨S4096x4096, zeros (F := F) S4096x4096 bcast_S_S4096x4096⟩, ⟨S4096x1024, (x0 : Vec F S4096x1024 .f32)⟩,
  ⟨S4096x1536, (x1 : Vec F S4096x1536 .f32)⟩, ⟨S4096x16, (x2 : Vec F S4096x16 .f32)⟩, ⟨S4096x496, zeros (F := F) S4096x496 bcast_S_S4096x496⟩]
  concatenates_S4096x4096_S4096x1024_S4096x1536_S4096x16_S4096x496_S4096x7168_d1
def packedD : Vec F S4096x2048 .f32 := concatenate S4096x2048 1 [⟨S4096x1024, zeros (F := F) S4096x1024 bcast_S_S4096x1024⟩, ⟨S4096x1024, (x3 : Vec F S4096x1024 .f32)⟩]
  concatenates_S4096x1024_S4096x1024_S4096x2048_d1
def wide (x : Vec F S1x16 .f32) : Vec F S1x128 .f32 := pad S1x128 ![0, 0] ![0, 112] ![0, 0] x (sitofp (F := F) .f32 (constantI S_ 32 0#32)) pads_S1x16_S1x128_000_01120 h_S_
def spread (x : Vec F S1x16 .f32) : Vec F S1x1024 .f32 := shapeCast S1x1024 (broadcastInDim S1x16x64 ![0, 1] bcast_S1x16_S1x16x64_0_1 x : Vec F S1x16x64 .f32) shapeCasts_S1x16x64_S1x1024

/-- The parts and the first operands, before the last segment. -/
structure Held (W : Valuation τ sig (Elt F)) : Prop where
  s0 : W (Proc.devRef .tc main_v0) = x0
  s1 : W (Proc.devRef .tc main_v1) = x1
  s2 : W (Proc.devRef .tc main_v2) = x2
  s4 : W (Proc.devRef .tc main_v4) = x7
  s5 : W (Proc.devRef .tc main_v5) = x8
  d : W (Proc.devRef .tc main_arg1) = x3
  o5 : W (Proc.devRef .tc main_v6) = wide x6
  o6 : W (Proc.devRef .tc main_v7) = wide x7

/-- The operands held by a valuation. -/
structure Ends (W : Valuation τ sig (Elt F)) : Prop where
  o2 : W (Proc.devRef .tc main_v333) = packed x0 x1 x2
  o4 : W (Proc.devRef .tc main_v77) = packedD x3
  o5 : W (Proc.devRef .tc main_v6) = wide x6
  o6 : W (Proc.devRef .tc main_v7) = wide x7
  o8 : W (Proc.devRef .tc main_v335) = spread x7
  o10 : W (Proc.devRef .tc main_v337) = spread x8

theorem held5 : Held (val_main_v0 (W (Proc.devRef .tc main_arg0))) (W (Proc.devRef .tc main_arg1)) (val_main_v1 (W (Proc.devRef .tc main_arg0)))
    (val_main_v2 (W (Proc.devRef .tc main_arg0))) (val_main_v3 (W (Proc.devRef .tc main_arg4))) (val_main_v4 (W (Proc.devRef .tc main_arg4)))
    (val_main_v5 (W (Proc.devRef .tc main_arg4))) (at5 W) := by
  constructor <;> simp only [at5, hostOps0, hostOps0_1, hostOps0_2, hostOps0_3, hostOps0_4] <;> entry_read <;> rfl

/-- The last segment up to the packing of the activations, and from there. -/
abbrev upOps := (hostOps0_14 (F := F)).take 274
abbrev packOps := (hostOps0_14 (F := F)).drop 274
theorem splitP : after (hostOps0_14 (F := F)) W = after packOps (after upOps W) := by
  rw [← after_append, List.take_append_drop]
theorem pack_at : after (packOps (F := F)) W (Proc.devRef .tc main_v333) = packed (W (Proc.devRef .tc main_v0)) (W (Proc.devRef .tc main_v1)) (W (Proc.devRef .tc main_v2)) := by
  refine (StableHlo.after_last_write (i := 4) [main_v334, main_v335, main_v336, main_v337, main_v338, main_v339] rfl rfl (by decide) _).trans ?_
  rw [StableHlo.nary_result']
  rfl
set_option maxHeartbeats 4000000 in
theorem up_keeps : after (upOps (F := F)) W (Proc.devRef .tc main_v0) = W (Proc.devRef .tc main_v0) ∧
    after (upOps (F := F)) W (Proc.devRef .tc main_v1) = W (Proc.devRef .tc main_v1) ∧
    after (upOps (F := F)) W (Proc.devRef .tc main_v2) = W (Proc.devRef .tc main_v2) := by
  refine ⟨?_, ?_, ?_⟩ <;> simp only [upOps, hostOps0_14, List.take] <;> entry_read <;> rfl

variable {W x0 x3 x1 x2 x6 x7 x8}
theorem held7 (h : Held x0 x3 x1 x2 x6 x7 x8 W) : Held x0 x3 x1 x2 x6 x7 x8 (at7 W) := by
  obtain ⟨h1, h2, h3, h4, h5, h6, h7, h8⟩ := h
  constructor <;> simp only [at7, hostOps0_5, hostOps0_6] <;> entry_read <;> assumption
theorem held9 (h : Held x0 x3 x1 x2 x6 x7 x8 W) : Held x0 x3 x1 x2 x6 x7 x8 (at9 W) := by
  obtain ⟨h1, h2, h3, h4, h5, h6, h7, h8⟩ := h
  constructor <;> simp only [at9, hostOps0_7, hostOps0_8] <;> entry_read <;> assumption
theorem held12 (h : Held x0 x3 x1 x2 x6 x7 x8 W) : Held x0 x3 x1 x2 x6 x7 x8 (at12 W) := by
  obtain ⟨h1, h2, h3, h4, h5, h6, h7, h8⟩ := h
  constructor <;> simp only [at12, hostOps0_9, hostOps0_10, hostOps0_11] <;> entry_read <;> assumption
theorem held14 (h : Held x0 x3 x1 x2 x6 x7 x8 W) : Held x0 x3 x1 x2 x6 x7 x8 (at14 W) := by
  obtain ⟨h1, h2, h3, h4, h5, h6, h7, h8⟩ := h
  constructor <;> simp only [at14, hostOps0_12, hostOps0_13] <;> entry_read <;> assumption
set_option maxHeartbeats 4000000 in
theorem heldEnd (h : Held x0 x3 x1 x2 x6 x7 x8 W) : Ends x0 x3 x1 x2 x6 x7 x8 (after (hostOps0_14 (F := F)) W) where
  o2 := by rw [splitP, pack_at, (up_keeps W).1, (up_keeps W).2.1, (up_keeps W).2.2, h.s0, h.s1, h.s2]
  o4 := by simp only [hostOps0_14]; entry_read; rw [h.d]; rfl
  o5 := by simp only [hostOps0_14]; entry_read; exact h.o5
  o6 := by simp only [hostOps0_14]; entry_read; exact h.o6
  o8 := by simp only [hostOps0_14]; entry_read; rw [h.s4]; rfl
  o10 := by simp only [hostOps0_14]; entry_read; rw [h.s5]; rfl

theorem held (m : (ℓ : Loc nD τ sig) → Buf (Elt F) ℓ) (c : Dev nD) :
    Ends (val_main_v0 (m (c, Proc.devRef .tc main_arg0))) (m (c, Proc.devRef .tc main_arg1)) (val_main_v1 (m (c, Proc.devRef .tc main_arg0)))
      (val_main_v2 (m (c, Proc.devRef .tc main_arg0))) (val_main_v3 (m (c, Proc.devRef .tc main_arg4))) (val_main_v4 (m (c, Proc.devRef .tc main_arg4)))
      (val_main_v5 (m (c, Proc.devRef .tc main_arg4))) (V0 m c) := by
  rw [V0_split]
  exact heldEnd (held14 (held12 (held9 (held7 (held5 fun b => m (c, b))))))

end Cert.Ssd.Host

end
-- ==== Proof.Ssd.Pair.lean ====
/- One pair of heads of the SSD backward kernel's body, as functions of the vectors it reads. -/
module

public import proofs.«01_k».proof.Proof.Lift
public import proofs.«01_k».proof.Proof.Gen.SsdIdeal.Skeleton

@[expose] public section

set_option maxRecDepth 16384

noncomputable section

namespace Cert.Ssd.Pair

open Idealize.ShloMosaic Idealize.ShloMosaic.TcCoe Idealize.SL.Sem
open Cert.SsdIdeal Cert.SsdIdeal.Gen Cert.Lift

section Terms
variable {F : FTy → Type} [FloatOps F]

/-- The lanes of a pair's first head. -/
def lanes : IVec S128x128 1 := cmpi .slt (iota .tc S128x128 32 [1] iota_S128x128_d1_w32) (broadcast S128x128 64#32)

/-- A block of 128 columns. -/
abbrev Sq (F : FTy → Type) := Vec F S128x128 .f32

variable (x dt al dy : Sq F) (hp : Vec F S1x128x128 .f32) (dh : Sq F) (bm cm : Vec F S128x128 .bf16) (gm : Sq F)
  (c0 c1 : Sq F) (r0 r1 : Vec F S1x128 .f32)

def zero : Sq F := constant S128x128 .f32 0x00000000#32
def nt (a b : Vec F S128x128 .bf16) : Sq F := matmul dot_S128x128_S128x128_S128x128_1_1_0_0_n_n none a b zero
def nn (a b : Vec F S128x128 .bf16) : Sq F := matmul dot_S128x128_S128x128_S128x128_1_0_0_1_n_n none a b zero
def tn (a b : Vec F S128x128 .bf16) : Sq F := matmul dot_S128x128_S128x128_S128x128_0_0_1_1_n_n none a b zero
def half (a : Sq F) : Vec F S128x128 .bf16 := truncf .bf16 a bitsLt_bf16_f32

def xdt : Sq F := mulf x dt
def lastRow : Vec F S1x128 .f32 := extractStridedSlice S1x128 ![127, 0] al slices_S128x128_o127_0_S1x128
def toEnd : Sq F := exp (subf (broadcastTo S128x128 (lastRow al) broadcasts_S1x128_S128x128) al)
def prev : Sq F := shapeCast S128x128 hp shapeCasts_S1x128x128_S128x128
def dyE : Vec F S128x128 .bf16 := half (mulf dy (exp al))
def dcV (dc : Sq F) : Sq F := addf dc (nt (dyE al dy) (half (prev hp)))
def dbV (db : Sq F) : Sq F := addf db (nt (half (mulf (toEnd al) (xdt x dt))) (half dh))
def dxw : Sq F := nn bm (half dh)
def dwf : Sq F := mulf (mulf (dxw dh bm) (xdt x dt)) (toEnd al)
def dalA : Sq F := subf (mulf dy (mulf (exp al) (nn cm (half (prev hp))))) (dwf x dt al dh bm)
def dalLast : Vec F S1x128 .f32 :=
  addf (shapeCast S1x128 (multiReduction .add [0] S128 (dwf x dt al dh bm) 0x00000000#32 reduces_S128x128_S128 (.inl rfl) rfl) shapeCasts_S128_S1x128)
    (mulf (shapeCast S1x128 (multiReduction .add [0] S128 (mulf dh (prev hp)) 0x00000000#32 reduces_S128x128_S128 (.inl rfl) rfl) shapeCasts_S128_S1x128)
      (exp (lastRow al)))
def dhV : Sq F := addf (mulf (broadcastTo S128x128 (exp (lastRow al)) broadcasts_S1x128_S128x128) dh) (tn cm (dyE al dy))

/-- The decays between two rows of a chunk, for one head. -/
def decay (col : Sq F) (row : Vec F S1x128 .f32) : Sq F :=
  exp (select (cmpi .sge (iota .tc S128x128 32 [0] iota_S128x128_d0_w32) (iota .tc S128x128 32 [1] iota_S128x128_d1_w32))
    (subf col (broadcastTo S128x128 row broadcasts_S1x128_S128x128)) (broadcast S128x128 (Scalar.ofBits .f32 0xFF800000#32)))

/-- One of a pair's two heads: the lanes kept, the output's gradient on them, and the head's share of the results. -/
def dyh (mh : IVec S128x128 1) : Vec F S128x128 .bf16 := half (select mh dy (broadcast S128x128 (Scalar.ofBits .f32 0x00000000#32)))
def jh (mh : IVec S128x128 1) : Vec F S128x128 .bf16 :=
  half (select mh (broadcast S128x128 (Scalar.ofBits .f32 0x3C800000#32)) (broadcast S128x128 (Scalar.ofBits .f32 0x00000000#32)))
def dm (mh : IVec S128x128 1) : Sq F := nt (dyh dy mh) (half (xdt x dt))
def nV (mh : IVec S128x128 1) (col : Sq F) (row : Vec F S1x128 .f32) : Vec F S128x128 .bf16 :=
  half (mulf (dm x dt dy mh) (mulf gm (decay col row)))
def dxH (mh : IVec S128x128 1) (col : Sq F) (row : Vec F S1x128 .f32) : Sq F := tn (half (mulf gm (decay col row))) (dyh dy mh)
def other : IVec S128x128 1 := xori lanes (constantI S128x128 1 1#1)

def dxV : Sq F := addf (addf (mulf (dxw dh bm) (toEnd al)) (dxH dy gm lanes c0 r0)) (dxH dy gm other c1 r1)
def dgV (dg : Sq F) : Sq F :=
  addf (addf dg (mulf (dm x dt dy lanes) (decay c0 r0))) (mulf (dm x dt dy other) (decay c1 r1))
def daV : Sq F :=
  addf (subf (addf (subf (addf (dalA x dt al dy hp dh bm cm) (nn (nV x dt dy gm lanes c0 r0) (jh lanes))) (tn (nV x dt dy gm lanes c0 r0) (jh lanes)))
      (nn (nV x dt dy gm other c1 r1) (jh other))) (tn (nV x dt dy gm other c1 r1) (jh other)))
    (select (cmpi .eq (iota .tc S128x128 32 [0] iota_S128x128_d0_w32) (broadcast S128x128 127#32))
      (broadcastTo S128x128 (shapeCast S1x128 (dalLast x dt al hp dh bm) shapeCasts_S1x128_S1x128) broadcasts_S1x128_S128x128) (broadcast S128x128 (Scalar.ofBits .f32 0x00000000#32)))
end Terms

section Real
variable (x dt al dy H D bm cm gm : Fin 128 → Fin 128 → ℝ)

theorem bits_ninf : Ideal.ofBits .f32 0xFF800000#32 = (⊥ : EReal) := by simp [Ideal.ofBits, Ideal.ieee]
theorem bits_64th : Ideal.ofBits .f32 0x3C800000#32 = ((1 / 64 : ℝ) : EReal) := by
  simp [Ideal.ofBits, Ideal.ieee]; rw [← EReal.coe_mul]; norm_num
theorem slt64 (q : Fin 128) : IntOp.cmpi CmpIPredicate.slt (BitVec.ofNat 32 ↑q) 64#32 = if q.val < 64 then 1#1 else 0#1 := by
  revert q; decide +kernel
theorem sge (s l : Fin 128) : IntOp.cmpi CmpIPredicate.sge (BitVec.ofNat 32 ↑s) (BitVec.ofNat 32 ↑l) = if l.val ≤ s.val then 1#1 else 0#1 := by
  revert s l; decide +kernel
theorem eq127 (s : Fin 128) : IntOp.cmpi CmpIPredicate.eq (BitVec.ofNat 32 ↑s) 127#32 = if s.val = 127 then 1#1 else 0#1 := by
  revert s; decide +kernel
theorem select_ite {α : Type} (p : Prop) [Decidable p] (a b : α) : Scalar.select (if p then 1#1 else 0#1) a b = if p then a else b := by
  by_cases h : p <;> simp [h, Scalar.select]
theorem xor_ite (p : Prop) [Decidable p] : IntOp.xori (if p then 1#1 else 0#1) 1#1 = if p then 0#1 else 1#1 := by
  by_cases h : p <;> simp [h] <;> rfl
theorem select_ite' {α : Type} (p : Prop) [Decidable p] (a b : α) : Scalar.select (if p then 0#1 else 1#1) a b = if p then b else a := by
  by_cases h : p <;> simp [h, Scalar.select]
theorem coe_ite (p : Prop) [Decidable p] (a b : ℝ) : (if p then (a : EReal) else (b : EReal)) = ((if p then a else b : ℝ) : EReal) := by
  split <;> rfl
theorem coe_ite0 (p : Prop) [Decidable p] (a : ℝ) : (if p then (a : EReal) else 0) = ((if p then a else 0 : ℝ) : EReal) := coe_ite p a 0
theorem coe_ite0' (p : Prop) [Decidable p] (a : ℝ) : (if p then 0 else (a : EReal)) = ((if p then 0 else a : ℝ) : EReal) := coe_ite p 0 a
theorem exp_coe (a : ℝ) : Ideal.exp (a : EReal) = ((Real.exp a : ℝ) : EReal) := rfl

theorem nt_up (a b : Fin 128 → Fin 128 → ℝ) : nt (F := Ideal) (up2 a) (up2 b) = up2 fun s n => ∑ q, a s q * b n q := by
  funext i; idx_vars i
  pointwise [nt, zero, up2]
  simp only [← EReal.coe_mul, coe_sum]
theorem nn_up (a b : Fin 128 → Fin 128 → ℝ) : nn (F := Ideal) (up2 a) (up2 b) = up2 fun s q => ∑ n, a s n * b n q := by
  funext i; idx_vars i
  pointwise [nn, zero, up2]
  simp only [← EReal.coe_mul, coe_sum]
theorem tn_up (a b : Fin 128 → Fin 128 → ℝ) : tn (F := Ideal) (up2 a) (up2 b) = up2 fun n q => ∑ s, a s n * b s q := by
  funext i; idx_vars i
  pointwise [tn, zero, up2]
  simp only [← EReal.coe_mul, coe_sum]
theorem half_up (a : Fin 128 → Fin 128 → ℝ) : half (F := Ideal) (up2 a) = up2 a := rfl

/-- The decay from row `l` to row `s`. -/
def decR (c : Fin 128 → Fin 128 → ℝ) (r : Fin 1 → Fin 128 → ℝ) (s l : Fin 128) : ℝ := if l.val ≤ s.val then Real.exp (c s l - r 0 l) else 0

theorem decay_up (c : Fin 128 → Fin 128 → ℝ) (r : Fin 1 → Fin 128 → ℝ) : decay (F := Ideal) (up2 c) (up2 r) = up2 (decR c r) := by
  funext i; idx_vars i
  pointwise [decay, up2]
  simp only [sge, select_ite, bits_ninf, decR, ← EReal.coe_sub]
  split
  · rfl
  · rfl

def lo (a : Fin 128 → Fin 128 → ℝ) (s q : Fin 128) : ℝ := if q.val < 64 then a s q else 0
def hi (a : Fin 128 → Fin 128 → ℝ) (s q : Fin 128) : ℝ := if q.val < 64 then 0 else a s q

theorem dyh0_up : dyh (F := Ideal) (up2 dy) lanes = up2 (lo dy) := by
  funext i; idx_vars i
  pointwise [dyh, half, lanes, up2]
  simp only [slt64, select_ite, coe_ite0]; rfl
theorem dyh1_up : dyh (F := Ideal) (up2 dy) other = up2 (hi dy) := by
  funext i; idx_vars i
  pointwise [dyh, half, other, lanes, up2]
  simp only [slt64, xor_ite, select_ite', coe_ite0']; rfl
theorem jh0_up : jh (F := Ideal) lanes = up2 (lo fun _ _ => 1 / 64) := by
  funext i; idx_vars i
  pointwise [jh, half, lanes, up2]
  simp only [slt64, select_ite, bits_64th, coe_ite0]; rfl
theorem jh1_up : jh (F := Ideal) other = up2 (hi fun _ _ => 1 / 64) := by
  funext i; idx_vars i
  pointwise [jh, half, other, lanes, up2]
  simp only [slt64, xor_ite, select_ite', bits_64th, coe_ite0']; rfl

variable (c0 c1 : Fin 128 → Fin 128 → ℝ) (r0 r1 : Fin 1 → Fin 128 → ℝ)

/-- The same functions on real arrays. -/
def dcR (dc : Fin 128 → Fin 128 → ℝ) (s n : Fin 128) : ℝ := dc s n + ∑ q, dy s q * Real.exp (al s q) * H n q
def dbR (db : Fin 128 → Fin 128 → ℝ) (s n : Fin 128) : ℝ := db s n + ∑ q, Real.exp (al 127 q - al s q) * (x s q * dt s q) * D n q
def dxwR (s q : Fin 128) : ℝ := ∑ n, bm s n * D n q
def dwfR (s q : Fin 128) : ℝ := dxwR D bm s q * (x s q * dt s q) * Real.exp (al 127 q - al s q)
def lastR (q : Fin 128) : ℝ := ∑ s, dwfR x dt al D bm s q + (∑ n, D n q * H n q) * Real.exp (al 127 q)
def dhR (n q : Fin 128) : ℝ := Real.exp (al 127 q) * D n q + ∑ s, cm s n * (dy s q * Real.exp (al s q))
def dmR (a : Fin 128 → Fin 128 → ℝ) (s l : Fin 128) : ℝ := ∑ q, a s q * (x l q * dt l q)
def nR (a c : Fin 128 → Fin 128 → ℝ) (r : Fin 1 → Fin 128 → ℝ) (s l : Fin 128) : ℝ := dmR x dt a s l * (gm s l * decR c r s l)
def dxHR (a c : Fin 128 → Fin 128 → ℝ) (r : Fin 1 → Fin 128 → ℝ) (l q : Fin 128) : ℝ := ∑ s, gm s l * decR c r s l * a s q
def dxR (s q : Fin 128) : ℝ :=
  dxwR D bm s q * Real.exp (al 127 q - al s q) + dxHR gm (lo dy) c0 r0 s q + dxHR gm (hi dy) c1 r1 s q
def dgR (dg : Fin 128 → Fin 128 → ℝ) (s l : Fin 128) : ℝ :=
  dg s l + dmR x dt (lo dy) s l * decR c0 r0 s l + dmR x dt (hi dy) s l * decR c1 r1 s l
def daR (s q : Fin 128) : ℝ :=
  dy s q * (Real.exp (al s q) * ∑ n, cm s n * H n q) - dwfR x dt al D bm s q
    + (∑ l, nR x dt gm (lo dy) c0 r0 s l * lo (fun _ _ => 1 / 64) l q) - (∑ l, nR x dt gm (lo dy) c0 r0 l s * lo (fun _ _ => 1 / 64) l q)
    + (∑ l, nR x dt gm (hi dy) c1 r1 s l * hi (fun _ _ => 1 / 64) l q) - (∑ l, nR x dt gm (hi dy) c1 r1 l s * hi (fun _ _ => 1 / 64) l q)
    + (if s.val = 127 then lastR x dt al H D bm q else 0)

theorem toEnd_up : toEnd (F := Ideal) (up2 al) = up2 fun s q => Real.exp (al 127 q - al s q) := by
  funext i; idx_vars i
  pointwise [toEnd, lastRow, up2]
  simp only [← EReal.coe_sub, exp_coe]
theorem dxw_up : dxw (F := Ideal) (up2 D) (up2 bm) = up2 (dxwR D bm) := by
  rw [dxw, half_up, nn_up]; rfl
theorem dwf_up : dwf (F := Ideal) (up2 x) (up2 dt) (up2 al) (up2 D) (up2 bm) = up2 (dwfR x dt al D bm) := by
  funext i; idx_vars i
  pointwise [dwf, dxw_up, toEnd_up, xdt, up2]
  simp only [← EReal.coe_mul]; rfl
theorem dyE_up : dyE (F := Ideal) (up2 al) (up2 dy) = up2 fun s q => dy s q * Real.exp (al s q) := by
  funext i; idx_vars i
  pointwise [dyE, half, up2]
  simp only [exp_coe, ← EReal.coe_mul]
theorem dm_up (a : Fin 128 → Fin 128 → ℝ) (mh : IVec S128x128 1) (h : dyh (F := Ideal) (up2 dy) mh = up2 a) :
    dm (F := Ideal) (up2 x) (up2 dt) (up2 dy) mh = up2 (dmR x dt a) := by
  funext i; idx_vars i
  pointwise [dm, nt, zero, h, half, xdt, up2]
  simp only [← EReal.coe_mul, coe_sum]; rfl
theorem nV_up (a c : Fin 128 → Fin 128 → ℝ) (r : Fin 1 → Fin 128 → ℝ) (mh : IVec S128x128 1) (h : dyh (F := Ideal) (up2 dy) mh = up2 a) :
    nV (F := Ideal) (up2 x) (up2 dt) (up2 dy) (up2 gm) mh (up2 c) (up2 r) = up2 (nR x dt gm a c r) := by
  funext i; idx_vars i
  pointwise [nV, dm_up x dt dy a mh h, decay_up, half, up2]
  simp only [← EReal.coe_mul]; rfl
theorem dxH_up (a c : Fin 128 → Fin 128 → ℝ) (r : Fin 1 → Fin 128 → ℝ) (mh : IVec S128x128 1) (h : dyh (F := Ideal) (up2 dy) mh = up2 a) :
    dxH (F := Ideal) (up2 dy) (up2 gm) mh (up2 c) (up2 r) = up2 (dxHR gm a c r) := by
  funext i; idx_vars i
  pointwise [dxH, tn, zero, h, decay_up, half, up2]
  simp only [← EReal.coe_mul, coe_sum]; rfl
theorem dgV_up (dg : Fin 128 → Fin 128 → ℝ) : dgV (F := Ideal) (up2 x) (up2 dt) (up2 dy) (up2 c0) (up2 c1) (up2 r0) (up2 r1) (up2 dg) = up2 (dgR x dt dy c0 c1 r0 r1 dg) := by
  funext i; idx_vars i
  pointwise [dgV, dm_up x dt dy _ _ (dyh0_up dy), dm_up x dt dy _ _ (dyh1_up dy), decay_up, up2]
  simp only [← EReal.coe_mul, ← EReal.coe_add]; rfl
theorem dxV_up : dxV (F := Ideal) (up2 al) (up2 dy) (up2 D) (up2 bm) (up2 gm) (up2 c0) (up2 c1) (up2 r0) (up2 r1) = up2 (dxR al dy D bm gm c0 c1 r0 r1) := by
  funext i; idx_vars i
  pointwise [dxV, dxw_up, toEnd_up, dxH_up dy gm _ _ _ _ (dyh0_up dy), dxH_up dy gm _ _ _ _ (dyh1_up dy), up2]
  simp only [← EReal.coe_mul, ← EReal.coe_add]; rfl
theorem dbV_up (db : Fin 128 → Fin 128 → ℝ) : dbV (F := Ideal) (up2 x) (up2 dt) (up2 al) (up2 D) (up2 db) = up2 (dbR x dt al D db) := by
  funext i; idx_vars i
  pointwise [dbV, nt, zero, half, toEnd_up, xdt, up2]
  simp only [← EReal.coe_mul, coe_sum, ← EReal.coe_add]; rfl
theorem dhV_up : dhV (F := Ideal) (up2 al) (up2 dy) (up2 D) (up2 cm) = up2 (dhR al dy D cm) := by
  funext i; idx_vars i
  pointwise [dhV, tn, zero, dyE_up, lastRow, up2]
  simp only [exp_coe, ← EReal.coe_mul, coe_sum, ← EReal.coe_add]; rfl

section State
variable (hp : Vec Ideal S1x128x128 .f32) (hH : prev (F := Ideal) hp = up2 H)
include hH

theorem dcV_up (dc : Fin 128 → Fin 128 → ℝ) : dcV (F := Ideal) (up2 al) (up2 dy) hp (up2 dc) = up2 (dcR al dy H dc) := by
  funext i; idx_vars i
  pointwise [dcV, nt, zero, half, dyE_up, hH, up2]
  simp only [← EReal.coe_mul, coe_sum, ← EReal.coe_add]; rfl
theorem dalLast_up : dalLast (F := Ideal) (up2 x) (up2 dt) (up2 al) hp (up2 D) (up2 bm) = up2 fun (_ : Fin 1) q => lastR x dt al H D bm q := by
  funext i; idx_vars i
  pointwise [dalLast, dwf_up, hH, lastRow, up2]
  simp only [exp_coe, ← EReal.coe_mul, coe_sum, ← EReal.coe_add]; rfl
theorem dalA_up : dalA (F := Ideal) (up2 x) (up2 dt) (up2 al) (up2 dy) hp (up2 D) (up2 bm) (up2 cm) =
    up2 fun s q => dy s q * (Real.exp (al s q) * ∑ n, cm s n * H n q) - dwfR x dt al D bm s q := by
  funext i; idx_vars i
  pointwise [dalA, dwf_up, hH, half, nn, zero, up2]
  simp only [exp_coe, ← EReal.coe_mul, coe_sum, ← EReal.coe_sub]
theorem daV_up : daV (F := Ideal) (up2 x) (up2 dt) (up2 al) (up2 dy) hp (up2 D) (up2 bm) (up2 cm) (up2 gm) (up2 c0) (up2 c1) (up2 r0) (up2 r1) =
    up2 (daR x dt al dy H D bm cm gm c0 c1 r0 r1) := by
  funext i; idx_vars i
  pointwise [daV, dalA_up x dt al dy H D bm cm hp hH, dalLast_up x dt al H D bm hp hH, nV_up x dt dy gm _ _ _ _ (dyh0_up dy),
    nV_up x dt dy gm _ _ _ _ (dyh1_up dy), jh0_up, jh1_up, nn_up, tn_up, up2]
  simp only [eq127, select_ite, coe_ite0, ← EReal.coe_mul, coe_sum, ← EReal.coe_sub, ← EReal.coe_add]; rfl
end State
end Real

end Cert.Ssd.Pair

end
-- ==== Proof.Ssd.Chunk.lean ====
/- One chunk of the SSD backward kernel, written once over the values its body loads. -/
module

public import proofs.«01_k».proof.Proof.Ssd.Pair
public import proofs.«01_k».proof.Proof.Ssd.Data

@[expose] public section

set_option maxRecDepth 16384

noncomputable section

namespace Cert.Ssd.Chunk

open Idealize.ShloMosaic Idealize.ShloMosaic.TcCoe Idealize.SL.Sem
open Cert.SsdIdeal Cert.SsdIdeal.Gen Cert.Ssd.Pair Cert.SsdIdeal.Run

variable {F : FTy → Type} [FloatOps F]

variable (F) in
/-- What the body loads at one point. -/
structure Ld where
  cv : Vec F S128x1536 .f32
  dt : Vec F S128x128 .f32
  dtb : Vec F S1x128 .f32
  alog : Vec F S1x128 .f32
  e : Vec F S128x2048 .bf16
  y : Vec F S128x1024 .f32
  z : Vec F S128x1024 .f32
  dm : Vec F S128x1024 .f32
  w0 : Vec F S1x512 .f32
  w1 : Vec F S1x512 .f32
  hp : Fin 8 → Vec F S1x128x128 .f32
  d : Fin 8 → Sq F
  alf : Vec F S1x1024 .f32
  df : Vec F S1x1024 .f32
  f : Vec F S1024x128 .bf16
  k0 : Vec F S1x1536 .f32
  k1 : Vec F S1x1536 .f32
  k2 : Vec F S1x1536 .f32
  k3 : Vec F S1x1536 .f32
  h : Vec F S8x1536 .f32
  xs : Vec F S128x1024 .f32
  bc : Vec F S128x512 .f32

theorem in_cols : ∀ p : Fin 8, S128x1024.Slices ![0, 128 * p.val] S128x128 := by decide
theorem in_wide : ∀ p : Fin 8, S128x2048.Slices ![0, 128 * p.val] S128x128 := by decide
theorem in_wide' : ∀ p : Fin 8, S128x2048.Slices ![0, 1024 + 128 * p.val] S128x128 := by decide
theorem in_rows : ∀ p : Fin 8, S128x128.Slices ![2 * p.val, 0] S1x128 := by decide
theorem in_rows' : ∀ p : Fin 8, S128x128.Slices ![2 * p.val + 1, 0] S1x128 := by decide
theorem in_b : ∀ g : Fin 2, S128x1536.Slices ![0, 1024 + 128 * g.val] S128x128 := by decide
theorem in_c : ∀ g : Fin 2, S128x1536.Slices ![0, 1280 + 128 * g.val] S128x128 := by decide

/-- The block of a column and its place there. -/
def blockOf (k : Fin 1024) : Fin 8 := ⟨k.val / 128, by omega⟩
def laneOf (k : Fin 1024) : Fin 128 := ⟨k.val % 128, by omega⟩

/-- A pair's block of columns, and the blocks side by side. -/
def sl (p : Fin 8) (a : Vec F S128x1024 .f32) : Sq F := extractStridedSlice S128x128 ![0, 128 * p.val] a (in_cols p)
def glue (v : Fin 8 → Sq F) : Vec F S128x1024 .f32 := fun i => v (blockOf (i 1)) (ix2 (i 0) (laneOf (i 1)))

variable (L : Ld F)

def pre := k0_pay18 L.dt L.dtb
def al := k0_pay20 L.dt L.dtb L.alog
def alT := k0_pay21 L.dt L.dtb L.alog
def wide := k0_pay22 (al L) L.e
def dtf := k0_pay24 (k0_pay19 L.dt L.dtb) L.e
def alw := k0_pay25 (al L) L.e
def silz := k0_pay33 L.z
def n0 := k0_pay40 (k0_pay36 L.y L.z) (k0_pay37 L.y L.z) (k0_pay39 L.dm) L.w0
def n1 := k0_pay45 (k0_pay31 L.dm) (k0_pay34 L.y L.z) L.w1
def n2 := k0_pay46 (k0_pay34 L.y L.z)
def dy := k0_pay48 (silz L) (n0 L) (n1 L) (n2 L)
def dz := k0_pay49 (k0_pay29 L.y) (k0_pay30 L.z) (k0_pay32 L.z) (n0 L) (n1 L) (n2 L)
def x := k0_pay17 L.cv
def xa := k0_pay50 (x L)
def bm (g : Fin 2) : Vec F S128x128 .bf16 := half (extractStridedSlice S128x128 ![0, 1024 + 128 * g.val] (x L) (in_b g))
def cm (g : Fin 2) : Vec F S128x128 .bf16 := half (extractStridedSlice S128x128 ![0, 1280 + 128 * g.val] (x L) (in_c g))
def gm (g : Fin 2) : Sq F := nt (cm L g) (bm L g)

/-- The group of a pair. -/
abbrev gp (p : Fin 8) : Fin 2 := ⟨p.val / 4, by omega⟩

def c0 (p : Fin 8) : Sq F := extractStridedSlice S128x128 ![0, 128 * p.val] (wide L) (in_wide p)
def c1 (p : Fin 8) : Sq F := extractStridedSlice S128x128 ![0, 1024 + 128 * p.val] (wide L) (in_wide' p)
def r0 (p : Fin 8) : Vec F S1x128 .f32 := extractStridedSlice S1x128 ![2 * p.val, 0] (alT L) (in_rows p)
def r1 (p : Fin 8) : Vec F S1x128 .f32 := extractStridedSlice S1x128 ![2 * p.val + 1, 0] (alT L) (in_rows' p)

def dxP (p : Fin 8) : Sq F :=
  dxV (sl p (alw L)) (sl p (dy L)) (L.d p) (bm L (gp p)) (gm L (gp p)) (c0 L p) (c1 L p) (r0 L p) (r1 L p)
def daP (p : Fin 8) : Sq F :=
  daV (sl p (xa L)) (sl p (dtf L)) (sl p (alw L)) (sl p (dy L)) (L.hp p) (L.d p) (bm L (gp p)) (cm L (gp p)) (gm L (gp p)) (c0 L p) (c1 L p) (r0 L p) (r1 L p)
def dhP (p : Fin 8) : Sq F := dhV (sl p (alw L)) (sl p (dy L)) (L.d p) (cm L (gp p))
def dcP (p : Fin 8) (dc : Sq F) : Sq F := dcV (sl p (alw L)) (sl p (dy L)) (L.hp p) dc
def dbP (p : Fin 8) (db : Sq F) : Sq F := dbV (sl p (xa L)) (sl p (dtf L)) (sl p (alw L)) (L.d p) db
def dgP (p : Fin 8) (dg : Sq F) : Sq F := dgV (sl p (xa L)) (sl p (dtf L)) (sl p (dy L)) (c0 L p) (c1 L p) (r0 L p) (r1 L p) dg

def q0 (g : Fin 2) : Fin 8 := ⟨4 * g.val, by omega⟩
def q1 (g : Fin 2) : Fin 8 := ⟨4 * g.val + 1, by omega⟩
def q2 (g : Fin 2) : Fin 8 := ⟨4 * g.val + 2, by omega⟩
def q3 (g : Fin 2) : Fin 8 := ⟨4 * g.val + 3, by omega⟩
def nil : Sq F := broadcast S128x128 (Scalar.ofBits .f32 0x00000000#32)

/-- The chains over a group's four pairs. -/
def dcG (g : Fin 2) : Sq F := dcP L (q3 g) (dcP L (q2 g) (dcP L (q1 g) (dcP L (q0 g) nil)))
def dbG (g : Fin 2) : Sq F := dbP L (q3 g) (dbP L (q2 g) (dbP L (q1 g) (dbP L (q0 g) nil)))
def dgG (g : Fin 2) : Sq F := dgP L (q3 g) (dgP L (q2 g) (dgP L (q1 g) (dgP L (q0 g) nil)))
def dbO (g : Fin 2) : Sq F := addf (dbG L g) (tn (half (dgG L g)) (cm L g))
def dcO (g : Fin 2) : Sq F := addf (dcG L g) (nn (half (dgG L g)) (bm L g))
/-- The four blocks of the gradient of the convolution's last columns. -/
def bcs (v0 v1 v2 v3 : Sq F) : Vec F S128x512 .f32 := fun i =>
  (if (i 1).val < 128 then v0 else if (i 1).val < 256 then v1 else if (i 1).val < 384 then v2 else v3) (ix2 (i 0) ⟨(i 1).val % 128, Nat.mod_lt _ (by decide)⟩)
def dbc : Vec F S128x512 .f32 := bcs (dbO L 0) (dbO L 1) (dcO L 0) (dcO L 1)

def dadt := k0_pay362 (glue (daP L))
def expA := k0_pay363 L.alf
def dxa := k0_pay366 (dtf L) (dy L) (glue (dxP L)) L.df
def ddt := k0_pay367 (pre L) (xa L) (dadt L) (expA L) (glue (dxP L)) L.f
def dcx := k0_pay374 (k0_pay15 L.cv) (k0_pay16 L.cv) (dxa L)
def dcb := k0_pay375 (k0_pay15 L.cv) (k0_pay16 L.cv) (dbc L)
/-- The first rows' two parts, and the rows after them. -/
def rows3 {α : Type} (a : Fin 128 → Fin 1024 → α) (b : Fin 128 → Fin 512 → α) (h : Fin 8 → Fin 1536 → α) (s : Fin 136) (k : Fin 1536) : α :=
  if h0 : s.val < 128 then (if h1 : k.val < 1024 then a ⟨s.val, h0⟩ ⟨k.val, h1⟩ else b ⟨s.val, h0⟩ ⟨k.val - 1024, by omega⟩)
  else h ⟨s.val - 128, by omega⟩ k
/-- A chunk's gradient of the convolution's output, followed by the first rows of the chunk after it. -/
def pad3 (a : Vec F S128x1024 .f32) (b : Vec F S128x512 .f32) (h : Vec F S8x1536 .f32) : Vec F S136x1536 .f32 := fun i =>
  rows3 (fun s k => a (ix2 s k)) (fun s k => b (ix2 s k)) (fun s k => h (ix2 s k)) (i 0) (i 1)
def dcp : Vec F S136x1536 .f32 := pad3 (dcx L) (dcb L) (k0_pay376 L.h)
def dcv := k0_pay377 (dcp L)
def raw := k0_pay379 L.xs L.bc
def draw := k0_pay3 (k0_pay388 (dcp L) (k0_pay382 (dcp L) (dcv L) L.k3 L.k0) (k0_pay384 (dcp L)) L.k1 L.k2)

end Cert.Ssd.Chunk

end
-- ==== Proof.Ssd.Front.lean ====
/- What the SSD backward kernel computes before its heads: the gates, the norm's gradient and the decays. -/
module

public import proofs.«01_k».proof.Proof.Ssd.Pair
public import Mathlib.Analysis.SpecialFunctions.Log.Basic

@[expose] public section

set_option maxRecDepth 16384

noncomputable section

namespace Cert.Ssd.Front

open Idealize.ShloMosaic Idealize.ShloMosaic.TcCoe Idealize.SL.Sem
open Cert.SsdIdeal Cert.SsdIdeal.Gen Cert.Lift Cert.Ssd.Pair

theorem bits_one : Ideal.ofBits .f32 0x3F800000#32 = ((1 : ℝ) : EReal) := by
  simp [Ideal.ofBits, Ideal.ieee]; rw [← EReal.coe_mul]; norm_num
theorem bits_512 : Ideal.ofBits .f32 0x44000000#32 = ((512 : ℝ) : EReal) := by
  simp [Ideal.ofBits, Ideal.ieee]; rw [← EReal.coe_mul]; norm_num

/-- The logistic function, the gate and its derivative, and the softplus. -/
def sg (x : ℝ) : ℝ := (1 + Real.exp (-x))⁻¹
def silu (x : ℝ) : ℝ := x * sg x
def dsilu (x : ℝ) : ℝ := sg x * (1 + x * (1 - sg x))
def sp (x : ℝ) : ℝ := max x 0 + Real.log (1 + Real.exp (-|x|))

theorem sg_coe (x : ℝ) : Ideal.div (1 : EReal) (1 + Ideal.exp (0 - (x : EReal))) = ((sg x : ℝ) : EReal) := by
  have h : (1 : ℝ) + Real.exp (-x) ≠ 0 := by positivity
  rw [← EReal.coe_zero, ← EReal.coe_sub, exp_coe, ← EReal.coe_one, ← EReal.coe_add, zero_sub, div_coe_coe _ h, one_div]; rfl

theorem log1p_coe (x : ℝ) (h : 0 < 1 + x) : Ideal.log1p (x : EReal) = ((Real.log (1 + x) : ℝ) : EReal) := by
  rw [Ideal.log1p, ← EReal.coe_one, ← EReal.coe_add]
  exact if_neg (not_le.2 h)

theorem abs_coe (x : ℝ) : max (x : EReal) (-(x : EReal)) = ((|x| : ℝ) : EReal) := by
  rw [← EReal.coe_neg]; exact (EReal.coe_strictMono.monotone.map_max).symm

theorem sp_coe (x : ℝ) : max (x : EReal) 0 + Ideal.log1p (Ideal.exp (-((|x| : ℝ) : EReal))) = ((sp x : ℝ) : EReal) := by
  rw [← EReal.coe_neg, exp_coe, log1p_coe _ (by positivity), ← EReal.coe_zero, show max (x : EReal) ((0 : ℝ) : EReal) = ((max x 0 : ℝ) : EReal) from (EReal.coe_strictMono.monotone.map_max).symm, ← EReal.coe_add]; rfl

theorem sitofp_ite (p : Prop) [Decidable p] : FloatOps.sitofp (F := Ideal) FTy.f32 (BitVec.setWidth 32 (if p then 1#1 else 0#1)) = ((if p then 1 else 0 : ℝ) : EReal) := by
  split
  · show ((((BitVec.setWidth 32 1#1).toInt : ℤ) : ℝ) : EReal) = _; simp
  · show ((((BitVec.setWidth 32 0#1).toInt : ℤ) : ℝ) : EReal) = _; simp

section Sums
variable {M : Type} [AddCommMonoid M]
theorem sum_three (f : Fin 384 → M) : ∑ i, f i = ∑ i : Fin 128, f ⟨i.val, by omega⟩ + ∑ i : Fin 128, f ⟨128 + i.val, by omega⟩ + ∑ i : Fin 128, f ⟨256 + i.val, by omega⟩ := by
  have := Fin.sum_univ_add (a := 128 + 128) (b := 128) f
  rw [Fin.sum_univ_add (a := 128)] at this
  exact this
theorem sum_two {m N : ℕ} (hN : N = m + m) (f : Fin N → M) : ∑ i, f i = ∑ i : Fin m, f ⟨i.val, by omega⟩ + ∑ i : Fin m, f ⟨m + i.val, by omega⟩ := by
  subst hN
  rw [Fin.sum_univ_add]; rfl
end Sums

theorem self_sub (x : ℝ) : (x : EReal) - (x : EReal) = 0 := by rw [← EReal.coe_sub, sub_self]; rfl

variable (cv : Fin 128 → Fin 1536 → ℝ)

theorem p16 : k0_pay16 (F := Ideal) (up2 cv) = up2 fun s k => sg (cv s k) := by
  funext i; idx_vars i
  pointwise [k0_pay16, k0_pay15, up2]
  exact sg_coe _
theorem p17 : k0_pay17 (F := Ideal) (up2 cv) = up2 fun s k => silu (cv s k) := by
  funext i; idx_vars i
  pointwise [k0_pay17, k0_pay15, p16, up2]
  simp only [← EReal.coe_mul]; rfl
variable (dt : Fin 128 → Fin 128 → ℝ) (b al : Fin 1 → Fin 128 → ℝ)
theorem p18 : k0_pay18 (F := Ideal) (up2 dt) (up2 b) = up2 fun s k => dt s k + b 0 k := by
  funext i; idx_vars i
  pointwise [k0_pay18, up2]
  simp only [← EReal.coe_add]
theorem p19 : k0_pay19 (F := Ideal) (up2 dt) (up2 b) = up2 fun s k => sp (dt s k + b 0 k) := by
  funext i; idx_vars i
  pointwise [k0_pay19, p18, up2]
  rw [Ideal.absf_def, abs_coe, zero_sub]; exact sp_coe _

/-- The running sums of the steps' log decays, a head's in its lane. -/
def alR (s k : Fin 128) : ℝ := ∑ l : Fin 128, (if l.val ≤ s.val then 1 else 0) * (sp (dt l k + b 0 k) * (0 - Real.exp (al 0 k)))

theorem p20 : k0_pay20 (F := Ideal) (up2 dt) (up2 b) (up2 al) = up2 (alR dt b al) := by
  funext i; idx_vars i
  pointwise [k0_pay20, p19, up2]
  simp only [sge, sitofp_ite, exp_coe, ← EReal.coe_zero, ← EReal.coe_sub, ← EReal.coe_mul, coe_sum]; rfl
theorem p21 : k0_pay21 (F := Ideal) (up2 dt) (up2 b) (up2 al) = up2 fun k s => alR dt b al s k := by
  funext i; idx_vars i
  pointwise [k0_pay21, p20, up2]
theorem p22 (v : Fin 128 → Fin 128 → ℝ) (e : Fin 128 → Fin 2048 → ℝ) : k0_pay22 (F := Ideal) (up2 v) (up2 e) = up2 fun s l => ∑ i, v s i * e i l := by
  funext i; idx_vars i
  pointwise [k0_pay22, up2]
  rw [sum_three]
  have h1 (x : Fin 128) : ¬(128 + x.val < 128) := by omega
  have h2 (x : Fin 128) : (128 + x.val - 128 < 128) := by omega
  have h3 (x : Fin 128) : ¬(256 + x.val < 128) := by omega
  have h4 (x : Fin 128) : ¬(256 + x.val - 128 < 128) := by omega
  simp only [Fin.is_lt, dite_true, h1, h2, h3, h4, dite_false, self_sub, sub_zero, zero_mul, Finset.sum_const_zero, add_zero, Fin.eta]
  simp only [← EReal.coe_mul, coe_sum]

theorem lane_block : k0_pay4 = fun i : S128x2048.Idx => BitVec.ofNat 32 (2 * ((i 1).val % 1024 / 128)) := by
  funext i; idx_vars i
  pointwise [k0_pay4]
  clear i0; revert i1; decide +kernel

/-- The head whose decays the lane `l` of the widened row holds. -/
def headOf (l : Fin 2048) : Fin 128 := ⟨2 * (l.val % 1024 / 128) + l.val / 1024, by omega⟩

theorem eq_head (l : Fin 2048) (j : Fin 128) : ((j = headOf l) ↔ BitVec.ofNat 32 j.val = BitVec.ofNat 32 (headOf l).val) := by
  constructor
  · rintro rfl; rfl
  · intro h
    have := congrArg BitVec.toNat h
    simp only [BitVec.toNat_ofNat] at this
    ext; omega

def emR (j : Fin 128) (l : Fin 2048) : ℝ := if j = headOf l then 1 else 0

theorem emat : k0_pay6 (F := Ideal) (iota .tc S128x2048 32 [1] iota_S128x2048_d1_w32) (k0_pay4) 1024#32 (k0_pay5) = up2 emR := by
  funext i; idx_vars i
  pointwise [k0_pay6, lane_block, k0_pay5, up2]
  have h : ∀ l : Fin 2048, (IntOp.addi (BitVec.ofNat 32 (2 * (l.val % 1024 / 128)))
            (Scalar.select
              (IntOp.andi
                (IntOp.cmpi CmpIPredicate.ne
                  (IntOp.subi (BitVec.setWidth 32 (IntOp.cmpi CmpIPredicate.sgt (BitVec.ofNat 32 l.val) 0#32))
                    (BitVec.setWidth 32 (IntOp.cmpi CmpIPredicate.slt (BitVec.ofNat 32 l.val) 0#32)))
                  (Scalar.subi (Scalar.extui (Scalar.cmpi CmpIPredicate.sgt 1024#32 0#32))
                    (Scalar.extui (Scalar.cmpi CmpIPredicate.slt 1024#32 0#32))))
                (IntOp.cmpi CmpIPredicate.ne (IntOp.remsi ArithUnit.vector (BitVec.ofNat 32 l.val) 1024#32) 0#32))
              (IntOp.subi (IntOp.divsi ArithUnit.vector (BitVec.ofNat 32 l.val) 1024#32) 1#32)
              (IntOp.divsi ArithUnit.vector (BitVec.ofNat 32 l.val) 1024#32))) = BitVec.ofNat 32 (headOf l).val := by decide +kernel
  rw [h]
  have e : IntOp.cmpi CmpIPredicate.eq (BitVec.ofNat 32 i0.val) (BitVec.ofNat 32 (headOf i1).val) = if i0 = headOf i1 then 1#1 else 0#1 := by
    by_cases hc : i0 = headOf i1
    · rw [if_pos hc, hc]; simp [IntOp.cmpi]
    · rw [if_neg hc]; rw [eq_head] at hc; simp only [IntOp.cmpi]; rw [show (BitVec.ofNat 32 i0.val == BitVec.ofNat 32 (headOf i1).val) = false from beq_eq_false_iff_ne.2 hc]; rfl
  rw [e, sitofp_ite]; rfl

theorem em_pick (v : Fin 128 → Fin 128 → ℝ) (s : Fin 128) (l : Fin 2048) : ∑ i, v s i * emR i l = v s (headOf l) := by
  simp [emR]

def foldR (k : Fin 1024) (j : Fin 128) : ℝ := if k.val / 64 = j.val then 1 else 0

theorem fold_mat : k0_pay9 (F := Ideal) (iota .tc S1024x128 32 [0] iota_S1024x128_d0_w32) 64#32 (k0_pay7) (k0_pay8) 1#32 = up2 foldR := by
  funext i; idx_vars i
  pointwise [k0_pay9, k0_pay7, k0_pay8, up2]
  have h : ∀ l : Fin 1024, (Scalar.select
            (IntOp.andi
              (IntOp.cmpi CmpIPredicate.ne
                (IntOp.subi (BitVec.setWidth 32 (IntOp.cmpi CmpIPredicate.sgt (BitVec.ofNat 32 l.val) 0#32))
                  (BitVec.setWidth 32 (IntOp.cmpi CmpIPredicate.slt (BitVec.ofNat 32 l.val) 0#32)))
                1#32)
              (IntOp.cmpi CmpIPredicate.ne (IntOp.remsi ArithUnit.vector (BitVec.ofNat 32 l.val) 64#32) 0#32))
            (IntOp.subi (IntOp.divsi ArithUnit.vector (BitVec.ofNat 32 l.val) 64#32) 1#32)
            (IntOp.divsi ArithUnit.vector (BitVec.ofNat 32 l.val) 64#32)) = BitVec.ofNat 32 (l.val / 64) := by decide +kernel
  rw [h]
  have e : IntOp.cmpi CmpIPredicate.eq (BitVec.ofNat 32 (i0.val / 64)) (BitVec.ofNat 32 i1.val) = if i0.val / 64 = i1.val then 1#1 else 0#1 := by
    by_cases hc : i0.val / 64 = i1.val
    · rw [if_pos hc, hc]; simp [IntOp.cmpi]
    · rw [if_neg hc]
      have hn : ¬BitVec.ofNat 32 (i0.val / 64) = BitVec.ofNat 32 i1.val := by
        intro h
        have := congrArg BitVec.toNat h
        simp only [BitVec.toNat_ofNat] at this
        omega
      simp only [IntOp.cmpi]; rw [beq_eq_false_iff_ne.2 hn]; rfl
  rw [e, sitofp_ite]; rfl

variable (y z dm : Fin 128 → Fin 1024 → ℝ)
theorem p32 : k0_pay32 (F := Ideal) (up2 z) = up2 fun s k => sg (z s k) := by
  funext i; idx_vars i
  pointwise [k0_pay32, k0_pay30, up2]
  exact sg_coe _
theorem p33 : k0_pay33 (F := Ideal) (up2 z) = up2 fun s k => silu (z s k) := by
  funext i; idx_vars i
  pointwise [k0_pay33, k0_pay30, p32, up2]
  simp only [← EReal.coe_mul]; rfl
theorem p34 : k0_pay34 (F := Ideal) (up2 y) (up2 z) = up2 fun s k => y s k * silu (z s k) := by
  funext i; idx_vars i
  pointwise [k0_pay34, p33, k0_pay29, up2]
  simp only [← EReal.coe_mul]

/-- Column `j` of group `g`. -/
def gcol (g : Fin 2) (j : Fin 512) : Fin 1024 := ⟨512 * g.val + j.val, by omega⟩
/-- The reciprocal root mean square of a group of a row, the normalised row, and the norm's gradient. -/
def rms (u : Fin 128 → Fin 1024 → ℝ) (g : Fin 2) (s : Fin 128) : ℝ := (Real.sqrt ((∑ j, u s (gcol g j) * u s (gcol g j)) / 512 + eps))⁻¹
def grp (k : Fin 1024) : Fin 2 := ⟨k.val / 512, by omega⟩
def nh (u : Fin 128 → Fin 1024 → ℝ) (g : Fin 2) (s : Fin 128) (j : Fin 512) : ℝ := u s (gcol g j) * rms u g s
def dnw (dm : Fin 128 → Fin 1024 → ℝ) (w : Fin 1 → Fin 1024 → ℝ) (g : Fin 2) (s : Fin 128) (j : Fin 512) : ℝ := dm s (gcol g j) * w 0 (gcol g j)
def dnR (dm u : Fin 128 → Fin 1024 → ℝ) (w : Fin 1 → Fin 1024 → ℝ) (g : Fin 2) (s : Fin 128) (j : Fin 512) : ℝ :=
  dnw dm w g s j - nh u g s j * ((∑ i, dnw dm w g s i * nh u g s i) / 512)
def dyzR (dm u : Fin 128 → Fin 1024 → ℝ) (w : Fin 1 → Fin 1024 → ℝ) (s : Fin 128) (k : Fin 1024) : ℝ :=
  rms u (grp k) s * dnR dm u w (grp k) s ⟨k.val % 512, by omega⟩

theorem rms_pos (u : Fin 128 → Fin 1024 → ℝ) (g : Fin 2) (s : Fin 128) : 0 < (∑ j, u s (gcol g j) * u s (gcol g j)) / 512 + eps :=
  add_pos_of_nonneg_of_pos (div_nonneg (Finset.sum_nonneg fun _ _ => mul_self_nonneg _) (by norm_num)) eps_pos

theorem p36 : k0_pay36 (F := Ideal) (up2 y) (up2 z) = up2 fun s (_ : Fin 1) => rms (fun s k => y s k * silu (z s k)) 0 s := by
  funext i; idx_vars i
  pointwise [k0_pay36, k0_pay35, p34, up2]
  simp only [bits_512, bits_eps, ← EReal.coe_mul, coe_sum, div_coe_coe _ (by norm_num : (512 : ℝ) ≠ 0), ← EReal.coe_add]
  rw [rsqrt_coe (rms_pos (fun s k => y s k * silu (z s k)) 0 i0 |>.trans_eq (by simp [gcol]))]
  simp [rms, gcol]
theorem p42 (u : Fin 128 → Fin 1024 → ℝ) : k0_pay42 (F := Ideal) (up2 u) = up2 fun s (_ : Fin 1) => rms u 1 s := by
  funext i; idx_vars i
  pointwise [k0_pay42, k0_pay41, up2]
  simp only [bits_512, bits_eps, ← EReal.coe_mul, coe_sum, div_coe_coe _ (by norm_num : (512 : ℝ) ≠ 0), ← EReal.coe_add]
  exact rsqrt_coe (rms_pos u 1 i0)

def lowLane (k : Fin 1024) : BitVec 1 := if k.val % 128 < 64 then 1#1 else 0#1

theorem half_lane : k0_pay23 = fun i : S128x1024.Idx => lowLane (i 1) := by
  funext i; idx_vars i
  pointwise [k0_pay23]
  show _ = lowLane i1
  clear i0; revert i1; decide +kernel

/-- The lane of a column's head. -/
def hl (k : Fin 1024) : Fin 128 := ⟨k.val / 64, by omega⟩

theorem head_lo (k : Fin 1024) (h : k.val % 128 < 64) (hk : k.val < 2048) : headOf ⟨k.val, hk⟩ = hl k := by
  ext; simp only [headOf, hl]; omega
theorem head_hi (k : Fin 1024) (h : ¬k.val % 128 < 64) (hk : 1024 + k.val < 2048) : headOf ⟨1024 + k.val, hk⟩ = hl k := by
  ext; simp only [headOf, hl]; omega

theorem p22e (v : Fin 128 → Fin 128 → ℝ) : k0_pay22 (F := Ideal) (up2 v) (up2 emR) = up2 fun s l => v s (headOf l) := by
  rw [p22]; simp only [em_pick]
theorem p25 (v : Fin 128 → Fin 128 → ℝ) : k0_pay25 (F := Ideal) (up2 v) (up2 emR) = up2 fun s k => v s (hl k) := by
  funext i; idx_vars i
  pointwise [k0_pay25, p22e, half_lane, up2]
  show Scalar.select (lowLane i1) _ _ = _
  rw [lowLane, select_ite]
  split
  · next h => rw [head_lo _ h]
  · next h => rw [head_hi _ h]
theorem p24 (v : Fin 128 → Fin 128 → ℝ) : k0_pay24 (F := Ideal) (up2 v) (up2 emR) = up2 fun s k => v s (hl k) := p25 v

variable (w0 w1 : Fin 1 → Fin 512 → ℝ)
/-- The two halves of a norm's weights. -/
def both (w0 w1 : Fin 1 → Fin 512 → ℝ) (a : Fin 1) (k : Fin 1024) : ℝ := if h : k.val < 512 then w0 a ⟨k.val, h⟩ else w1 a ⟨k.val - 512, by omega⟩

theorem both0 (j : Fin 512) : both w0 w1 0 (gcol 0 j) = w0 0 j := by simp [both, gcol]
theorem both1 (j : Fin 512) : both w0 w1 0 (gcol 1 j) = w1 0 j := by simp [both, gcol]

abbrev yz (y z : Fin 128 → Fin 1024 → ℝ) (s : Fin 128) (k : Fin 1024) : ℝ := y s k * silu (z s k)

theorem g0 (j : Fin 512) (h : j.val < 1024) : (⟨j.val, h⟩ : Fin 1024) = gcol 0 j := by ext; simp [gcol]
theorem g1 (j : Fin 512) (h : 512 + j.val < 1024) : (⟨512 + j.val, h⟩ : Fin 1024) = gcol 1 j := by ext; simp [gcol]

theorem p37 : k0_pay37 (F := Ideal) (up2 y) (up2 z) = up2 (nh (yz y z) 0) := by
  funext i; idx_vars i
  pointwise [k0_pay37, k0_pay35, p36, p34, up2]
  simp only [← EReal.coe_mul, g0]; rfl
theorem p39 : k0_pay39 (F := Ideal) (up2 dm) = up2 fun s j => dm s (gcol 0 j) := by
  funext i; idx_vars i
  pointwise [k0_pay39, k0_pay31, up2]
  simp only [g0]
theorem p40 : k0_pay40 (F := Ideal) (k0_pay36 (up2 y) (up2 z)) (k0_pay37 (up2 y) (up2 z)) (k0_pay39 (up2 dm)) (up2 w0) =
    up2 fun s j => rms (yz y z) 0 s * dnR dm (yz y z) (both w0 w1) 0 s j := by
  rw [p36, p37, p39]
  funext i; idx_vars i
  pointwise [k0_pay40, up2]
  simp only [bits_512, ← EReal.coe_mul, coe_sum, div_coe_coe _ (by norm_num : (512 : ℝ) ≠ 0), ← EReal.coe_sub, ← both0 w0 w1]; rfl
theorem p43 (u : Fin 128 → Fin 1024 → ℝ) : k0_pay43 (F := Ideal) (up2 u) = up2 (nh u 1) := by
  funext i; idx_vars i
  pointwise [k0_pay43, k0_pay41, p42, up2]
  simp only [← EReal.coe_mul, g1]; rfl
theorem p45 (u : Fin 128 → Fin 1024 → ℝ) : k0_pay45 (F := Ideal) (k0_pay31 (up2 dm)) (up2 u) (up2 w1) = up2 (dnR dm u (both w0 w1) 1) := by
  funext i; idx_vars i
  pointwise [k0_pay45, k0_pay31, p43, up2]
  simp only [bits_512, ← EReal.coe_mul, coe_sum, div_coe_coe _ (by norm_num : (512 : ℝ) ≠ 0), ← EReal.coe_sub, ← both1 w0 w1, g1]; rfl
theorem p46 (u : Fin 128 → Fin 1024 → ℝ) : k0_pay46 (F := Ideal) (up2 u) = up2 fun s (_ : Fin 512) => rms u 1 s := by
  funext i; idx_vars i
  pointwise [k0_pay46, p42, up2]

theorem p47 (a b c : Fin 128 → Fin 512 → ℝ) (u : Fin 128 → Fin 1024 → ℝ) (w : Fin 1 → Fin 1024 → ℝ)
    (ha : a = fun s j => rms u 0 s * dnR dm u w 0 s j) (hb : b = dnR dm u w 1) (hc : c = fun s _ => rms u 1 s) :
    k0_pay47 (F := Ideal) (up2 a) (up2 b) (up2 c) = up2 (dyzR dm u w) := by
  subst ha hb hc
  funext i; idx_vars i
  pointwise [k0_pay47, up2]
  by_cases h : i1.val < 512
  · rw [dif_pos h]
    have e : grp i1 = 0 := by ext; simp [grp]; omega
    have e' : (⟨i1.val % 512, by omega⟩ : Fin 512) = ⟨i1.val, h⟩ := by ext; simp; omega
    rw [dyzR, e, e']
  · rw [dif_neg h]
    have e : grp i1 = 1 := by ext; simp [grp]; omega
    have e' : (⟨i1.val % 512, by omega⟩ : Fin 512) = ⟨i1.val - 512, by omega⟩ := by ext; simp; omega
    rw [dyzR, e, e', ← EReal.coe_mul]

section Gates
variable (a b c : Fin 128 → Fin 512 → ℝ) (u : Fin 128 → Fin 1024 → ℝ) (w : Fin 1 → Fin 1024 → ℝ)
    (ha : a = fun s j => rms u 0 s * dnR dm u w 0 s j) (hb : b = dnR dm u w 1) (hc : c = fun s _ => rms u 1 s)
include ha hb hc
/-- The gradients of the gated output and of the gate. -/
theorem p48 : k0_pay48 (F := Ideal) (k0_pay33 (up2 z)) (up2 a) (up2 b) (up2 c) = up2 fun s k => dyzR dm u w s k * silu (z s k) := by
  funext i; idx_vars i
  pointwise [k0_pay48, p33, p47 dm a b c u w ha hb hc, up2]
  simp only [← EReal.coe_mul]
theorem p49 : k0_pay49 (F := Ideal) (k0_pay29 (up2 y)) (k0_pay30 (up2 z)) (k0_pay32 (up2 z)) (up2 a) (up2 b) (up2 c) =
    up2 fun s k => dyzR dm u w s k * y s k * dsilu (z s k) := by
  funext i; idx_vars i
  pointwise [k0_pay49, k0_pay29, k0_pay30, p32, p47 dm a b c u w ha hb hc, up2]
  simp only [← EReal.coe_one, ← EReal.coe_mul, ← EReal.coe_sub, ← EReal.coe_add]; rfl
end Gates

/-- The norm weights' gradient of a chunk. -/
def dwR (dm u : Fin 128 → Fin 1024 → ℝ) (g : Fin 2) (j : Fin 512) : ℝ := ∑ s, dm s (gcol g j) * nh u g s j
theorem p38 (o : Fin 1 → Fin 512 → ℝ) : k0_pay38 (F := Ideal) (up2 y) (up2 z) (up2 dm) (up2 o) = up2 fun a j => o a j + dwR dm (yz y z) 0 j := by
  funext i; idx_vars i
  pointwise [k0_pay38, k0_pay31, p37, up2]
  simp only [g0, ← EReal.coe_mul, coe_sum, ← EReal.coe_add]; rfl
theorem p44 (u : Fin 128 → Fin 1024 → ℝ) (o : Fin 1 → Fin 512 → ℝ) : k0_pay44 (F := Ideal) (k0_pay31 (up2 dm)) (up2 u) (up2 o) = up2 fun a j => o a j + dwR dm u 1 j := by
  funext i; idx_vars i
  pointwise [k0_pay44, k0_pay31, p43, up2]
  simp only [g1, ← EReal.coe_mul, coe_sum, ← EReal.coe_add]; rfl
theorem p50 (x : Fin 128 → Fin 1536 → ℝ) : k0_pay50 (F := Ideal) (up2 x) = up2 fun s (k : Fin 1024) => x s ⟨k.val, by omega⟩ := by
  funext i; idx_vars i
  pointwise [k0_pay50, up2]
theorem p51 (x : Fin 128 → Fin 1536 → ℝ) (si : FVec Ideal S128x1024 .f32) (a b c : FVec Ideal S128x512 .f32) (d : Fin 128 → Fin 1024 → ℝ) (o : Fin 1 → Fin 1024 → ℝ)
    (h : k0_pay48 (F := Ideal) si a b c = up2 d) :
    k0_pay51 (F := Ideal) (up2 x) si a b c (up2 o) = up2 fun t (k : Fin 1024) => o t k + ∑ s, d s k * x s ⟨k.val, by omega⟩ := by
  funext i; idx_vars i
  pointwise [k0_pay51, h, p50, up2]
  simp only [← EReal.coe_mul, coe_sum, ← EReal.coe_add]

/-- What follows the heads. -/
theorem p362 (a : Fin 128 → Fin 1024 → ℝ) : k0_pay362 (F := Ideal) (up2 a) = up2 fun s k => ∑ l : Fin 128, if s.val ≤ l.val then a l k else 0 := by
  funext i; idx_vars i
  pointwise [k0_pay362, up2]
  simp only [self_sub, mul_zero, Finset.sum_const_zero, add_zero, sge, sitofp_ite]
  simp only [← EReal.coe_mul, coe_sum, ite_mul, one_mul, zero_mul]
theorem p363 (a : Fin 1 → Fin 1024 → ℝ) : k0_pay363 (F := Ideal) (up2 a) = up2 fun t k => Real.exp (a t k) := by
  funext i; idx_vars i
  pointwise [k0_pay363, up2]
  exact exp_coe _
theorem p364 (a : Fin 1 → Fin 1024 → ℝ) : k0_pay364 (F := Ideal) (up2 a) = up2 fun t k => - a t k := by
  funext i; idx_vars i
  pointwise [k0_pay364, up2]
  rw [← EReal.coe_zero, ← EReal.coe_sub, zero_sub]
theorem p365 (dt da : Fin 128 → Fin 1024 → ℝ) (e o : Fin 1 → Fin 1024 → ℝ) : k0_pay365 (F := Ideal) (up2 dt) (up2 da) (up2 e) (up2 o) =
    up2 fun t k => o t k + (∑ s, dt s k * da s k) * - e t k := by
  funext i; idx_vars i
  pointwise [k0_pay365, p364, up2]
  simp only [← EReal.coe_mul, coe_sum, ← EReal.coe_add]
theorem p366 (dt dy dx : Fin 128 → Fin 1024 → ℝ) (df : Fin 1 → Fin 1024 → ℝ) : k0_pay366 (F := Ideal) (up2 dt) (up2 dy) (up2 dx) (up2 df) =
    up2 fun s k => df 0 k * dy s k + dx s k * dt s k := by
  funext i; idx_vars i
  pointwise [k0_pay366, up2]
  simp only [← EReal.coe_mul, ← EReal.coe_add]
theorem p367 (pr : Fin 128 → Fin 128 → ℝ) (x da dx : Fin 128 → Fin 1024 → ℝ) (e : Fin 1 → Fin 1024 → ℝ) : k0_pay367 (F := Ideal) (up2 pr) (up2 x) (up2 da) (up2 e) (up2 dx) (up2 foldR) =
    up2 fun s j => (∑ k, (dx s k * x s k + - e 0 k * da s k) * foldR k j) * sg (pr s j) := by
  funext i; idx_vars i
  pointwise [k0_pay367, p364, up2]
  rw [sg_coe]
  simp only [← EReal.coe_mul, ← EReal.coe_add, self_sub, zero_mul, Finset.sum_const_zero, add_zero]
  simp only [← EReal.coe_mul, coe_sum]
theorem p373 (cv : Fin 128 → Fin 1536 → ℝ) : k0_pay373 (F := Ideal) (k0_pay15 (up2 cv)) (k0_pay16 (up2 cv)) = up2 fun s k => dsilu (cv s k) := by
  funext i; idx_vars i
  pointwise [k0_pay373, k0_pay15, p16, up2]
  simp only [← EReal.coe_one, ← EReal.coe_mul, ← EReal.coe_sub, ← EReal.coe_add]; rfl
theorem p374 (dx : Fin 128 → Fin 1024 → ℝ) : k0_pay374 (F := Ideal) (k0_pay15 (up2 cv)) (k0_pay16 (up2 cv)) (up2 dx) = up2 fun s (k : Fin 1024) => dx s k * dsilu (cv s ⟨k.val, by omega⟩) := by
  funext i; idx_vars i
  pointwise [k0_pay374, p373, up2]
  simp only [← EReal.coe_mul]
theorem p375 (dx : Fin 128 → Fin 512 → ℝ) : k0_pay375 (F := Ideal) (k0_pay15 (up2 cv)) (k0_pay16 (up2 cv)) (up2 dx) = up2 fun s (k : Fin 512) => dx s k * dsilu (cv s ⟨1024 + k.val, by omega⟩) := by
  funext i; idx_vars i
  pointwise [k0_pay375, p373, up2]
  simp only [← EReal.coe_mul]

section Conv
variable (q : Fin 136 → Fin 1536 → ℝ) (r : Fin 128 → Fin 1536 → ℝ) (xs : Fin 128 → Fin 1024 → ℝ) (bc : Fin 128 → Fin 512 → ℝ)
theorem p377 : k0_pay377 (F := Ideal) (up2 q) = up2 fun (s : Fin 128) k => q ⟨s.val, by omega⟩ k := by
  funext i; idx_vars i
  pointwise [k0_pay377, up2]
/-- The rows `j` below. -/
abbrev below (j : ℕ) (hj : j < 8) (s : Fin 128) (k : Fin 1536) : ℝ := q ⟨s.val + j, by omega⟩ k
theorem coe_row (a b : ℕ) (ha : a < 136) (hb : b < 136) (h : a = b) (k : Fin 1536) : ((q ⟨a, ha⟩ k : ℝ) : EReal) = ((q ⟨b, hb⟩ k : ℝ) : EReal) := by subst h; rfl
theorem p381 : k0_pay381 (F := Ideal) (up2 q) = up2 (below q 3 (by norm_num)) := by
  funext i; idx_vars i
  pointwise [k0_pay381, up2]
  exact coe_row _ _ _ _ _ (by omega) _
theorem p385 : k0_pay385 (F := Ideal) (k0_pay384 (up2 q)) = up2 (below q 2 (by norm_num)) := by
  funext i; idx_vars i
  pointwise [k0_pay385, k0_pay384, up2]
  exact coe_row _ _ _ _ _ (by omega) _
theorem p387 : k0_pay387 (F := Ideal) (up2 q) = up2 (below q 1 (by norm_num)) := by
  funext i; idx_vars i
  pointwise [k0_pay387, up2]
  exact coe_row _ _ _ _ _ (by omega) _

/-- The raw columns of the convolution. -/
def rawR (xs : Fin 128 → Fin 1024 → ℝ) (bc : Fin 128 → Fin 512 → ℝ) (s : Fin 128) (k : Fin 1536) : ℝ :=
  if h : k.val < 1024 then xs s ⟨k.val, h⟩ else bc s ⟨k.val - 1024, by omega⟩
theorem p379 : k0_pay379 (F := Ideal) (up2 xs) (up2 bc) = up2 (rawR xs bc) := by
  funext i; idx_vars i
  pointwise [k0_pay379, up2]
  unfold rawR
  split <;> rfl

variable (o : Fin 1 → Fin 1536 → ℝ)
theorem p378 : k0_pay378 (F := Ideal) (up2 r) (up2 o) = up2 fun t k => o t k + ∑ s, r s k := by
  funext i; idx_vars i
  pointwise [k0_pay378, up2]
  simp only [coe_sum, ← EReal.coe_add]
theorem p380 : k0_pay380 (F := Ideal) (up2 r) (up2 xs) (up2 bc) (up2 o) = up2 fun t k => o t k + ∑ s, r s k * rawR xs bc s k := by
  funext i; idx_vars i
  pointwise [k0_pay380, p379, up2]
  simp only [← EReal.coe_mul, coe_sum, ← EReal.coe_add]
theorem p383 : k0_pay383 (F := Ideal) (up2 q) (up2 xs) (up2 bc) (up2 o) = up2 fun t k => o t k + ∑ s, below q 3 (by norm_num) s k * rawR xs bc s k := by
  funext i; idx_vars i
  pointwise [k0_pay383, p379, p381, up2]
  simp only [← EReal.coe_mul, coe_sum, ← EReal.coe_add]
theorem p386 (x : Fin 128 → Fin 1536 → ℝ) : k0_pay386 (F := Ideal) (up2 x) (k0_pay384 (up2 q)) (up2 o) = up2 fun t k => o t k + ∑ s, below q 2 (by norm_num) s k * x s k := by
  funext i; idx_vars i
  pointwise [k0_pay386, p385, up2]
  simp only [← EReal.coe_mul, coe_sum, ← EReal.coe_add]
theorem p1 (x : Fin 128 → Fin 1536 → ℝ) : k0_pay1 (F := Ideal) (up2 x) (k0_pay387 (up2 q)) (up2 o) = up2 fun t k => o t k + ∑ s, below q 1 (by norm_num) s k * x s k := by
  funext i; idx_vars i
  pointwise [k0_pay1, p387, up2]
  simp only [← EReal.coe_mul, coe_sum, ← EReal.coe_add]
variable (k0 k1 k2 k3 : Fin 1 → Fin 1536 → ℝ)
/-- The gradient of the raw columns of a chunk. -/
theorem p388 : k0_pay3 (F := Ideal) (k0_pay388 (up2 q) (k0_pay382 (up2 q) (k0_pay377 (up2 q)) (up2 k3) (up2 k0)) (k0_pay384 (up2 q)) (up2 k1) (up2 k2)) =
    up2 fun s k => k3 0 k * q ⟨s.val, by omega⟩ k + k0 0 k * below q 3 (by norm_num) s k + k1 0 k * below q 2 (by norm_num) s k + k2 0 k * below q 1 (by norm_num) s k := by
  funext i; idx_vars i
  pointwise [k0_pay3, k0_pay388, k0_pay382, p377, p381, p385, p387, up2]
  simp only [← EReal.coe_mul, ← EReal.coe_add]
theorem p2 : k0_pay2 (F := Ideal) (k0_pay377 (up2 q)) = up2 fun (s : Fin 8) k => q ⟨s.val, by omega⟩ k := by
  funext i; idx_vars i
  pointwise [k0_pay2, p377, up2]
end Conv

end Cert.Ssd.Front

end
-- ==== Proof.Ssd.ChunkReal.lean ====
/- One chunk of the SSD backward kernel on real numbers, by columns and by heads. -/
module

public import proofs.«01_k».proof.Proof.Ssd.Chunk
public import proofs.«01_k».proof.Proof.Ssd.Front

@[expose] public section

set_option maxRecDepth 16384

noncomputable section

namespace Cert.Ssd.Chunk

open Idealize.ShloMosaic Idealize.ShloMosaic.TcCoe Idealize.SL.Sem
open Cert.SsdIdeal Cert.SsdIdeal.Gen Cert.Lift Cert.Ssd.Pair Cert.Ssd.Front

/-- A chunk's real values: its rows of the arrays, the state carried into it, and what the chunk after it left. -/
structure R where
  cv : Fin 128 → Fin 1536 → ℝ
  dt : Fin 128 → Fin 128 → ℝ
  dtb : Fin 1 → Fin 128 → ℝ
  alog : Fin 1 → Fin 128 → ℝ
  y : Fin 128 → Fin 1024 → ℝ
  z : Fin 128 → Fin 1024 → ℝ
  dm : Fin 128 → Fin 1024 → ℝ
  w : Fin 1 → Fin 1024 → ℝ
  H : Fin 128 → Fin 1024 → ℝ
  D : Fin 128 → Fin 1024 → ℝ
  df : Fin 1 → Fin 1024 → ℝ
  k0 : Fin 1 → Fin 1536 → ℝ
  k1 : Fin 1 → Fin 1536 → ℝ
  k2 : Fin 1 → Fin 1536 → ℝ
  k3 : Fin 1 → Fin 1536 → ℝ
  h : Fin 8 → Fin 1536 → ℝ
  xs : Fin 128 → Fin 1024 → ℝ
  bc : Fin 128 → Fin 512 → ℝ

/-- Column `q` of pair `p`. -/
def colp (p : Fin 8) (q : Fin 128) : Fin 1024 := ⟨128 * p.val + q.val, by omega⟩
/-- Column `q` of head `j`. -/
def colh (j : Fin 16) (q : Fin 64) : Fin 1024 := ⟨64 * j.val + q.val, by omega⟩

def up3 {a b c : ℕ} (f : Fin a → Fin b → Fin c → ℝ) : (⟨3, ![a, b, c]⟩ : Shape).Idx → EReal := fun i => ((f (i 0) (i 1) (i 2) : ℝ) : EReal)

namespace R
variable (r : R)

def ld : Ld Ideal where
  cv := up2 r.cv
  dt := up2 r.dt
  dtb := up2 r.dtb
  alog := up2 r.alog
  e := up2 emR
  y := up2 r.y
  z := up2 r.z
  dm := up2 r.dm
  w0 := up2 fun a j => r.w a (gcol 0 j)
  w1 := up2 fun a j => r.w a (gcol 1 j)
  hp p := up3 fun (_ : Fin 1) n q => r.H n (colp p q)
  d p := up2 fun n q => r.D n (colp p q)
  alf := up2 fun (_ : Fin 1) k => r.alog 0 (hl k)
  df := up2 r.df
  f := up2 foldR
  k0 := up2 r.k0
  k1 := up2 r.k1
  k2 := up2 r.k2
  k3 := up2 r.k3
  h := up2 r.h
  xs := up2 r.xs
  bc := up2 r.bc

/-- The steps, the running sums of their log decays, the inputs, and the two groups' projections. -/
def DT (s j : Fin 128) : ℝ := sp (r.dt s j + r.dtb 0 j)
def AL (s j : Fin 128) : ℝ := alR r.dt r.dtb r.alog s j
def X (s : Fin 128) (k : Fin 1536) : ℝ := silu (r.cv s k)
def xk (s : Fin 128) (k : Fin 1024) : ℝ := r.X s ⟨k.val, by omega⟩
def bR (g : Fin 2) (s n : Fin 128) : ℝ := r.X s ⟨1024 + 128 * g.val + n.val, by omega⟩
def cR (g : Fin 2) (s n : Fin 128) : ℝ := r.X s ⟨1280 + 128 * g.val + n.val, by omega⟩
def gR (g : Fin 2) (s l : Fin 128) : ℝ := ∑ n, r.cR g s n * r.bR g l n
def dyk (s : Fin 128) (k : Fin 1024) : ℝ := dyzR r.dm (yz r.y r.z) r.w s k * silu (r.z s k)
def dzk (s : Fin 128) (k : Fin 1024) : ℝ := dyzR r.dm (yz r.y r.z) r.w s k * r.y s k * dsilu (r.z s k)
/-- The decay from row `l` to row `s`, and from row `s` to the end. -/
def dec (j s l : Fin 128) : ℝ := if l.val ≤ s.val then Real.exp (r.AL s j - r.AL l j) else 0
def toE (j s : Fin 128) : ℝ := Real.exp (r.AL 127 j - r.AL s j)
def xd (s : Fin 128) (k : Fin 1024) : ℝ := r.xk s k * r.DT s (hl k)

/-- The gradient of the steps' inputs, by column. -/
def DX (s : Fin 128) (k : Fin 1024) : ℝ :=
  (∑ n, r.bR (grp k) s n * r.D n k) * r.toE (hl k) s + ∑ t, r.gR (grp k) t s * r.dec (hl k) t s * r.dyk t k
/-- The gradient of the state carried into the chunk. -/
def DH (n : Fin 128) (k : Fin 1024) : ℝ :=
  Real.exp (r.AL 127 (hl k)) * r.D n k + ∑ s, r.cR (grp k) s n * (r.dyk s k * Real.exp (r.AL s (hl k)))

theorem pre_up : pre r.ld = up2 fun s j => r.dt s j + r.dtb 0 j := by
  show k0_pay18 (F := Ideal) (up2 r.dt) (up2 r.dtb) = _
  rw [p18]
theorem al_up : al r.ld = up2 r.AL := by
  show k0_pay20 (F := Ideal) (up2 r.dt) (up2 r.dtb) (up2 r.alog) = _
  rw [p20]; rfl
theorem alT_up : alT r.ld = up2 fun j s => r.AL s j := by
  show k0_pay21 (F := Ideal) (up2 r.dt) (up2 r.dtb) (up2 r.alog) = _
  rw [p21]; rfl
theorem wide_up : wide r.ld = up2 fun s l => r.AL s (headOf l) := by
  rw [wide, al_up]
  show k0_pay22 (F := Ideal) (up2 r.AL) (up2 emR) = _
  rw [p22e]
theorem dtf_up : dtf r.ld = up2 fun s k => r.DT s (hl k) := by
  show k0_pay24 (F := Ideal) (k0_pay19 (F := Ideal) (up2 r.dt) (up2 r.dtb)) (up2 emR) = _
  rw [p19, p24]; rfl
theorem alw_up : alw r.ld = up2 fun s k => r.AL s (hl k) := by
  rw [alw, al_up]
  show k0_pay25 (F := Ideal) (up2 r.AL) (up2 emR) = _
  rw [p25]
theorem silz_up : silz r.ld = up2 fun s k => silu (r.z s k) := by
  show k0_pay33 (F := Ideal) (up2 r.z) = _
  rw [p33]

theorem both_w : both (fun a j => r.w a (gcol 0 j)) (fun a j => r.w a (gcol 1 j)) = r.w := by
  funext a k
  rw [both]
  split
  · next h => congr 1; ext; simp [gcol]
  · next h => congr 1; ext; simp [gcol]; omega
theorem n0_up : n0 r.ld = up2 fun s j => rms (yz r.y r.z) 0 s * dnR r.dm (yz r.y r.z) r.w 0 s j := by
  show k0_pay40 (F := Ideal) (k0_pay36 (F := Ideal) (up2 r.y) (up2 r.z)) (k0_pay37 (F := Ideal) (up2 r.y) (up2 r.z)) (k0_pay39 (F := Ideal) (up2 r.dm)) (up2 fun a j => r.w a (gcol 0 j)) = _
  rw [p40 r.y r.z r.dm _ (fun a j => r.w a (gcol 1 j)), both_w]
theorem n1_up : n1 r.ld = up2 (dnR r.dm (yz r.y r.z) r.w 1) := by
  show k0_pay45 (F := Ideal) (k0_pay31 (F := Ideal) (up2 r.dm)) (k0_pay34 (F := Ideal) (up2 r.y) (up2 r.z)) (up2 fun a j => r.w a (gcol 1 j)) = _
  rw [p34, p45 r.dm (fun a j => r.w a (gcol 0 j)), both_w]
theorem n2_up : n2 r.ld = up2 fun s (_ : Fin 512) => rms (yz r.y r.z) 1 s := by
  show k0_pay46 (F := Ideal) (k0_pay34 (F := Ideal) (up2 r.y) (up2 r.z)) = _
  rw [p34, p46]
theorem dy_up : dy r.ld = up2 r.dyk := by
  rw [dy, n0_up, n1_up, n2_up]
  show k0_pay48 (F := Ideal) (k0_pay33 (F := Ideal) (up2 r.z)) _ _ _ = _
  rw [p48 _ _ _ _ _ _ _ rfl rfl rfl]; rfl
theorem dz_up : dz r.ld = up2 r.dzk := by
  rw [dz, n0_up, n1_up, n2_up]
  show k0_pay49 (F := Ideal) (k0_pay29 (F := Ideal) (up2 r.y)) (k0_pay30 (F := Ideal) (up2 r.z)) (k0_pay32 (F := Ideal) (up2 r.z)) _ _ _ = _
  rw [p49 _ _ _ _ _ _ _ _ rfl rfl rfl]; rfl
theorem x_up : x r.ld = up2 r.X := by
  show k0_pay17 (F := Ideal) (up2 r.cv) = _
  rw [p17]; rfl
theorem xa_up : xa r.ld = up2 r.xk := by rw [xa, x_up, p50]; rfl

theorem bm_up (g : Fin 2) : bm r.ld g = up2 (r.bR g) := by
  funext i; idx_vars i
  pointwise [bm, half, x_up, up2]
  rfl
theorem cm_up (g : Fin 2) : cm r.ld g = up2 (r.cR g) := by
  funext i; idx_vars i
  pointwise [cm, half, x_up, up2]
  rfl
theorem gm_up (g : Fin 2) : gm r.ld g = up2 (r.gR g) := by rw [gm, bm_up, cm_up, nt_up]; rfl

theorem sl_up (p : Fin 8) (f : Fin 128 → Fin 1024 → ℝ) : sl (F := Ideal) p (up2 f) = up2 fun s q => f s (colp p q) := by
  funext i; idx_vars i
  pointwise [sl, up2]
  rfl
theorem glue_up (v : Fin 8 → Sq Ideal) (f : Fin 128 → Fin 1024 → ℝ) (h : ∀ p, v p = up2 fun s q => f s (colp p q)) : glue v = up2 f := by
  funext i; idx_vars i
  show v (blockOf i1) (ix2 i0 (laneOf i1)) = _
  rw [h]
  show ((f i0 (colp (blockOf i1) (laneOf i1)) : ℝ) : EReal) = ((f i0 i1 : ℝ) : EReal)
  congr 3; ext; simp only [colp, blockOf, laneOf]; omega

/-- The two heads of a pair. -/
def e0 (p : Fin 8) : Fin 128 := ⟨2 * p.val, by omega⟩
def e1 (p : Fin 8) : Fin 128 := ⟨2 * p.val + 1, by omega⟩
theorem c0_up (p : Fin 8) : c0 r.ld p = up2 fun s _ => r.AL s (e0 p) := by
  funext i; idx_vars i
  pointwise [c0, wide_up, up2]
  congr 3; ext; simp only [headOf, e0]; omega
theorem c1_up (p : Fin 8) : c1 r.ld p = up2 fun s _ => r.AL s (e1 p) := by
  funext i; idx_vars i
  pointwise [c1, wide_up, up2]
  congr 3; ext; simp only [headOf, e1]; omega
theorem r0_up (p : Fin 8) : r0 r.ld p = up2 fun (_ : Fin 1) s => r.AL s (e0 p) := by
  funext i; idx_vars i
  pointwise [r0, alT_up, up2]
  rfl
theorem r1_up (p : Fin 8) : r1 r.ld p = up2 fun (_ : Fin 1) s => r.AL s (e1 p) := by
  funext i; idx_vars i
  pointwise [r1, alT_up, up2]
  rfl
theorem hp_up (p : Fin 8) : prev (r.ld.hp p) = up2 fun n q => r.H n (colp p q) := by
  funext i; idx_vars i
  pointwise [prev, ld, up3, up2]

theorem hl_lo (p : Fin 8) (q : Fin 128) (h : q.val < 64) : hl (colp p q) = e0 p := by ext; simp only [hl, colp, e0]; omega
theorem hl_hi (p : Fin 8) (q : Fin 128) (h : ¬q.val < 64) : hl (colp p q) = e1 p := by ext; simp only [hl, colp, e1]; omega
theorem grp_col (p : Fin 8) (q : Fin 128) : grp (colp p q) = gp p := by ext; simp only [grp, colp, gp]; omega

theorem decR_lo (p : Fin 8) : decR (fun s _ => r.AL s (e0 p)) (fun (_ : Fin 1) s => r.AL s (e0 p)) = r.dec (e0 p) := rfl
theorem decR_hi (p : Fin 8) : decR (fun s _ => r.AL s (e1 p)) (fun (_ : Fin 1) s => r.AL s (e1 p)) = r.dec (e1 p) := rfl

theorem dxP_up (p : Fin 8) : dxP r.ld p = up2 fun s q => r.DX s (colp p q) := by
  rw [dxP, alw_up, dy_up, bm_up, gm_up, c0_up, c1_up, r0_up, r1_up, sl_up, sl_up]
  rw [show r.ld.d p = up2 fun n q => r.D n (colp p q) from rfl, dxV_up]
  congr 1; funext s q
  simp only [dxR, dxHR, decR_lo, decR_hi, DX, grp_col, lo, hi, dxwR, toE]
  by_cases h : q.val < 64
  · simp only [h, if_true, mul_zero, Finset.sum_const_zero, add_zero, hl_lo p q h]
  · simp only [h, if_false, mul_zero, Finset.sum_const_zero, add_zero, hl_hi p q h]
theorem dx_up : glue (dxP r.ld) = up2 r.DX := glue_up _ _ (dxP_up r)
theorem dhP_up (p : Fin 8) : dhP r.ld p = up2 fun n q => r.DH n (colp p q) := by
  rw [dhP, alw_up, dy_up, cm_up, sl_up, sl_up]
  rw [show r.ld.d p = up2 fun n q => r.D n (colp p q) from rfl, dhV_up]
  congr 1; funext n q
  simp only [dhR, DH, grp_col]

theorem sum_halves (f : Fin 128 → ℝ) : ∑ q, f q = (∑ q : Fin 64, f ⟨q.val, by omega⟩) + ∑ q : Fin 64, f ⟨64 + q.val, by omega⟩ :=
  Fin.sum_univ_add (a := 64) (b := 64) f
theorem sum_lo (f g : Fin 128 → Fin 128 → ℝ) (s l : Fin 128) : ∑ q, lo f s q * g l q = ∑ q : Fin 64, f s ⟨q.val, by omega⟩ * g l ⟨q.val, by omega⟩ := by
  rw [sum_halves]
  simp [lo]
theorem sum_hi (f g : Fin 128 → Fin 128 → ℝ) (s l : Fin 128) : ∑ q, hi f s q * g l q = ∑ q : Fin 64, f s ⟨64 + q.val, by omega⟩ * g l ⟨64 + q.val, by omega⟩ := by
  rw [sum_halves]
  simp [hi]

/-- The two heads of a pair, and the heads of a group. -/
def h0 (p : Fin 8) : Fin 16 := ⟨2 * p.val, by omega⟩
def h1 (p : Fin 8) : Fin 16 := ⟨2 * p.val + 1, by omega⟩
def hg (g : Fin 2) (i : Fin 8) : Fin 16 := ⟨8 * g.val + i.val, by omega⟩
/-- A head among the lanes, and its group. -/
def hn (j : Fin 16) : Fin 128 := ⟨j.val, by omega⟩
def gh (j : Fin 16) : Fin 2 := ⟨j.val / 8, by omega⟩
theorem colp_lo (p : Fin 8) (q : Fin 64) : colp p ⟨q.val, by omega⟩ = colh (h0 p) q := by ext; simp only [colp, colh, h0]; omega
theorem colp_hi (p : Fin 8) (q : Fin 64) : colp p ⟨64 + q.val, by omega⟩ = colh (h1 p) q := by ext; simp only [colp, colh, h1]; omega
theorem hl_colh (j : Fin 16) (q : Fin 64) : hl (colh j q) = hn j := by ext; simp only [hl, colh, hn]; omega
theorem grp_colh (j : Fin 16) (q : Fin 64) : grp (colh j q) = gh j := by ext; simp only [grp, colh, gh]; omega
theorem gh_hg (g : Fin 2) (i : Fin 8) : gh (hg g i) = g := by ext; simp only [gh, hg]; omega
theorem blockOf_colp (p : Fin 8) (q : Fin 128) : blockOf (colp p q) = p := by ext; simp only [blockOf, colp]; omega
theorem laneOf_colp (p : Fin 8) (q : Fin 128) : laneOf (colp p q) = q := by ext; simp only [laneOf, colp]; omega

/-- A group's columns, pair by pair and head by head. -/
theorem pair_sum (F : Fin 1024 → ℝ) (p : Fin 8) : ∑ q, F (colp p q) = (∑ q, F (colh (h0 p) q)) + ∑ q, F (colh (h1 p) q) := by
  rw [sum_halves]; simp only [colp_lo, colp_hi]
theorem group_sum (M : Fin 16 → ℝ) (g : Fin 2) :
    (M (h0 (q0 g)) + M (h1 (q0 g))) + (M (h0 (q1 g)) + M (h1 (q1 g))) + (M (h0 (q2 g)) + M (h1 (q2 g))) + (M (h0 (q3 g)) + M (h1 (q3 g))) = ∑ i, M (hg g i) := by
  have e : ∀ a b : Fin 16, a.val = b.val → M a = M b := fun a b h => congrArg M (Fin.ext h)
  rw [Fin.sum_univ_eight, e (h0 (q0 g)) (hg g 0) (by simp [h0, q0, hg]; omega), e (h1 (q0 g)) (hg g 1) (by simp [h1, q0, hg]; omega),
    e (h0 (q1 g)) (hg g 2) (by simp [h0, q1, hg]; omega), e (h1 (q1 g)) (hg g 3) (by simp [h1, q1, hg]; omega),
    e (h0 (q2 g)) (hg g 4) (by simp [h0, q2, hg]; omega), e (h1 (q2 g)) (hg g 5) (by simp [h1, q2, hg]; omega),
    e (h0 (q3 g)) (hg g 6) (by simp [h0, q3, hg]; omega), e (h1 (q3 g)) (hg g 7) (by simp [h1, q3, hg]; omega)]
  ring

theorem xd_blk (p : Fin 8) (s q : Fin 128) : r.xk s (colp p q) * r.DT s (hl (colp p q)) = r.xd s (colp p q) := rfl

/-- A head's product of the output's gradient with the inputs, masked. -/
def M (j : Fin 16) (s l : Fin 128) : ℝ := (∑ q, r.dyk s (colh j q) * r.xd l (colh j q)) * r.dec (hn j) s l
def DG (g : Fin 2) (s l : Fin 128) : ℝ := ∑ i, r.M (hg g i) s l
def CO (g : Fin 2) (s n : Fin 128) : ℝ := ∑ i, ∑ q, r.dyk s (colh (hg g i) q) * Real.exp (r.AL s (hn (hg g i))) * r.H n (colh (hg g i) q)
def BO (g : Fin 2) (s n : Fin 128) : ℝ := ∑ i, ∑ q, r.toE (hn (hg g i)) s * r.xd s (colh (hg g i) q) * r.D n (colh (hg g i) q)

theorem dm_lo (p : Fin 8) (s l : Fin 128) :
    dmR (fun s q => r.xk s (colp p q)) (fun s q => r.DT s (hl (colp p q))) (lo fun s q => r.dyk s (colp p q)) s l * r.dec (e0 p) s l = r.M (h0 p) s l := by
  rw [dmR, sum_lo (fun s q => r.dyk s (colp p q)) (fun l q => r.xk l (colp p q) * r.DT l (hl (colp p q)))]
  simp only [xd_blk, colp_lo]; rfl
theorem dm_hi (p : Fin 8) (s l : Fin 128) :
    dmR (fun s q => r.xk s (colp p q)) (fun s q => r.DT s (hl (colp p q))) (hi fun s q => r.dyk s (colp p q)) s l * r.dec (e1 p) s l = r.M (h1 p) s l := by
  rw [dmR, sum_hi (fun s q => r.dyk s (colp p q)) (fun l q => r.xk l (colp p q) * r.DT l (hl (colp p q)))]
  simp only [xd_blk, colp_hi]; rfl

theorem nil_up : nil (F := Ideal) = up2 fun _ _ => 0 := by
  funext i; idx_vars i
  pointwise [nil, up2]
  rfl
theorem dgP_up (p : Fin 8) (dg : Fin 128 → Fin 128 → ℝ) : dgP r.ld p (up2 dg) = up2 fun s l => dg s l + r.M (h0 p) s l + r.M (h1 p) s l := by
  rw [dgP, xa_up, dtf_up, dy_up, c0_up, c1_up, r0_up, r1_up, sl_up, sl_up, sl_up, dgV_up]
  congr 1; funext s l
  simp only [dgR, decR_lo, decR_hi, dm_lo, dm_hi]
theorem dcP_up (p : Fin 8) (dc : Fin 128 → Fin 128 → ℝ) : dcP r.ld p (up2 dc) =
    up2 fun s n => dc s n + ∑ q, r.dyk s (colp p q) * Real.exp (r.AL s (hl (colp p q))) * r.H n (colp p q) := by
  rw [dcP, alw_up, dy_up, sl_up, sl_up, dcV_up _ _ _ _ (hp_up r p)]; rfl
theorem dbP_up (p : Fin 8) (db : Fin 128 → Fin 128 → ℝ) : dbP r.ld p (up2 db) =
    up2 fun s n => db s n + ∑ q, r.toE (hl (colp p q)) s * r.xd s (colp p q) * r.D n (colp p q) := by
  rw [dbP, xa_up, dtf_up, alw_up, sl_up, sl_up, sl_up]
  rw [show r.ld.d p = up2 fun n q => r.D n (colp p q) from rfl, dbV_up]; rfl

theorem dgG_up (g : Fin 2) : dgG r.ld g = up2 (r.DG g) := by
  rw [dgG, nil_up, dgP_up, dgP_up, dgP_up, dgP_up]
  congr 1; funext s l
  rw [DG, ← group_sum (fun j => r.M j s l) g]; ring
theorem dcG_up (g : Fin 2) : dcG r.ld g = up2 (r.CO g) := by
  rw [dcG, nil_up, dcP_up, dcP_up, dcP_up, dcP_up]
  congr 1; funext s n
  have e := group_sum (fun j => ∑ q, r.dyk s (colh j q) * Real.exp (r.AL s (hn j)) * r.H n (colh j q)) g
  simp only [pair_sum (fun k => r.dyk s k * Real.exp (r.AL s (hl k)) * r.H n k), hl_colh]
  rw [CO, ← e]; ring
theorem dbG_up (g : Fin 2) : dbG r.ld g = up2 (r.BO g) := by
  rw [dbG, nil_up, dbP_up, dbP_up, dbP_up, dbP_up]
  congr 1; funext s n
  have e := group_sum (fun j => ∑ q, r.toE (hn j) s * r.xd s (colh j q) * r.D n (colh j q)) g
  simp only [pair_sum (fun k => r.toE (hl k) s * r.xd s k * r.D n k), hl_colh]
  rw [BO, ← e]; ring

def DB (g : Fin 2) (s n : Fin 128) : ℝ := r.BO g s n + ∑ l, r.DG g l s * r.cR g l n
def DC (g : Fin 2) (s n : Fin 128) : ℝ := r.CO g s n + ∑ l, r.DG g s l * r.bR g l n
theorem dbO_up (g : Fin 2) : dbO r.ld g = up2 (r.DB g) := by
  rw [dbO, dbG_up, dgG_up, cm_up, half_up, tn_up]
  funext i; idx_vars i
  pointwise [up2]
  rw [← EReal.coe_add]; rfl
theorem dcO_up (g : Fin 2) : dcO r.ld g = up2 (r.DC g) := by
  rw [dcO, dcG_up, dgG_up, bm_up, half_up, nn_up]
  funext i; idx_vars i
  pointwise [up2]
  rw [← EReal.coe_add]; rfl
/-- One of four blocks of columns. -/
def pick {α : Type} (k : Fin 512) (v0 v1 v2 v3 : α) : α := if k.val < 128 then v0 else if k.val < 256 then v1 else if k.val < 384 then v2 else v3
theorem pick_up (k : Fin 512) (v0 v1 v2 v3 : Fin 128 → Fin 128 → ℝ) : pick k (up2 v0) (up2 v1) (up2 v2) (up2 v3) = up2 (pick k v0 v1 v2 v3) := by
  unfold pick; split_ifs <;> rfl
theorem bcs_pick (v0 v1 v2 v3 : Sq Ideal) (s : Fin 128) (k : Fin 512) :
    bcs v0 v1 v2 v3 (ix2 s k) = pick k v0 v1 v2 v3 (ix2 s ⟨k.val % 128, Nat.mod_lt _ (by decide)⟩) := rfl
def DBC (s : Fin 128) (k : Fin 512) : ℝ := pick k (r.DB 0) (r.DB 1) (r.DC 0) (r.DC 1) s ⟨k.val % 128, Nat.mod_lt _ (by decide)⟩
theorem dbc_up : dbc r.ld = up2 r.DBC := by
  rw [dbc, dbO_up, dbO_up, dcO_up, dcO_up]
  funext i; idx_vars i
  rw [bcs_pick]
  exact congrFun (pick_up _ _ _ _ _) _

/-- The log decays' gradient, by head. -/
def W (s : Fin 128) (k : Fin 1024) : ℝ := (∑ n, r.bR (grp k) s n * r.D n k) * r.xd s k * r.toE (hl k) s
def LAST (k : Fin 1024) : ℝ := ∑ s, r.W s k + (∑ n, r.D n k * r.H n k) * Real.exp (r.AL 127 (hl k))
def OFF (s : Fin 128) (k : Fin 1024) : ℝ := r.dyk s k * (Real.exp (r.AL s (hl k)) * ∑ n, r.cR (grp k) s n * r.H n k)
def N (j : Fin 16) (s l : Fin 128) : ℝ := r.M j s l * r.gR (gh j) s l
def DA (j : Fin 16) (s : Fin 128) : ℝ :=
  (∑ q, r.OFF s (colh j q)) - (∑ q, r.W s (colh j q)) + (∑ l, r.N j s l) - (∑ l, r.N j l s) + (if s.val = 127 then ∑ q, r.LAST (colh j q) else 0)
def dap (p : Fin 8) : Fin 128 → Fin 128 → ℝ :=
  daR (fun s q => r.xk s (colp p q)) (fun s q => r.DT s (hl (colp p q))) (fun s q => r.AL s (hl (colp p q))) (fun s q => r.dyk s (colp p q))
    (fun n q => r.H n (colp p q)) (fun n q => r.D n (colp p q)) (r.bR (gp p)) (r.cR (gp p)) (r.gR (gp p))
    (fun s _ => r.AL s (e0 p)) (fun s _ => r.AL s (e1 p)) (fun (_ : Fin 1) s => r.AL s (e0 p)) (fun (_ : Fin 1) s => r.AL s (e1 p))
def dak (s : Fin 128) (k : Fin 1024) : ℝ := r.dap (blockOf k) s (laneOf k)
theorem da_up : glue (daP r.ld) = up2 r.dak := by
  refine glue_up _ _ fun p => ?_
  simp only [dak, blockOf_colp, laneOf_colp]
  rw [daP, xa_up, dtf_up, alw_up, dy_up, bm_up, cm_up, gm_up, c0_up, c1_up, r0_up, r1_up, sl_up, sl_up, sl_up, sl_up]
  rw [show r.ld.d p = up2 fun n q => r.D n (colp p q) from rfl, daV_up _ _ _ _ _ _ _ _ _ _ _ _ _ _ (hp_up r p)]; rfl

theorem nR_lo (p : Fin 8) (s l : Fin 128) : nR (fun s q => r.xk s (colp p q)) (fun s q => r.DT s (hl (colp p q))) (r.gR (gp p)) (lo fun s q => r.dyk s (colp p q))
    (fun s _ => r.AL s (e0 p)) (fun (_ : Fin 1) s => r.AL s (e0 p)) s l = r.N (h0 p) s l := by
  have e : gp p = gh (h0 p) := by ext; simp only [gp, gh, h0]; omega
  rw [nR, decR_lo, N, ← dm_lo, e]; ring
theorem nR_hi (p : Fin 8) (s l : Fin 128) : nR (fun s q => r.xk s (colp p q)) (fun s q => r.DT s (hl (colp p q))) (r.gR (gp p)) (hi fun s q => r.dyk s (colp p q))
    (fun s _ => r.AL s (e1 p)) (fun (_ : Fin 1) s => r.AL s (e1 p)) s l = r.N (h1 p) s l := by
  have e : gp p = gh (h1 p) := by ext; simp only [gp, gh, h1]; omega
  rw [nR, decR_hi, N, ← dm_hi, e]; ring

theorem dap_eq (p : Fin 8) (s q : Fin 128) : r.dap p s q =
    r.OFF s (colp p q) - r.W s (colp p q) + (∑ l, r.N (h0 p) s l * lo (fun _ _ => 1 / 64) l q) - (∑ l, r.N (h0 p) l s * lo (fun _ _ => 1 / 64) l q)
      + (∑ l, r.N (h1 p) s l * hi (fun _ _ => 1 / 64) l q) - (∑ l, r.N (h1 p) l s * hi (fun _ _ => 1 / 64) l q)
      + (if s.val = 127 then r.LAST (colp p q) else 0) := by
  unfold dap daR
  simp only [nR_lo, nR_hi, OFF, LAST, W, grp_col, lastR, dwfR, dxwR, toE, xd]
theorem spread (a : ℝ) : (∑ _q : Fin 64, a) * (1 / 64) = a := by
  rw [Finset.sum_const, Finset.card_univ, Fintype.card_fin]; simp only [nsmul_eq_mul]; push_cast; ring
theorem da_lo (p : Fin 8) (s : Fin 128) : ∑ q : Fin 64, r.dap p s ⟨q.val, by omega⟩ = r.DA (h0 p) s := by
  simp only [dap_eq, lo, hi, Fin.is_lt, if_true, mul_zero, Finset.sum_const_zero, add_zero, sub_zero, colp_lo, ← Finset.sum_mul,
    Finset.sum_add_distrib, Finset.sum_sub_distrib, DA]
  rw [spread (∑ l, r.N (h0 p) s l), spread (∑ l, r.N (h0 p) l s)]
  split <;> simp
theorem da_hi (p : Fin 8) (s : Fin 128) : ∑ q : Fin 64, r.dap p s ⟨64 + q.val, by omega⟩ = r.DA (h1 p) s := by
  have hq : ∀ q : Fin 64, ¬(64 + q.val < 64) := fun q => by omega
  simp only [dap_eq, lo, hi, hq, if_false, mul_zero, Finset.sum_const_zero, add_zero, sub_zero, colp_hi, ← Finset.sum_mul,
    Finset.sum_add_distrib, Finset.sum_sub_distrib, DA]
  rw [spread (∑ l, r.N (h1 p) s l), spread (∑ l, r.N (h1 p) l s)]
  split <;> simp
theorem da_head (j : Fin 16) (s : Fin 128) : ∑ q, r.dak s (colh j q) = r.DA j s := by
  obtain ⟨n, hn⟩ := j
  rcases Nat.even_or_odd' n with ⟨p, rfl | rfl⟩
  · rw [show (⟨2 * p, hn⟩ : Fin 16) = h0 ⟨p, by omega⟩ from rfl, ← da_lo]
    refine Finset.sum_congr rfl fun q _ => ?_
    rw [← colp_lo, dak, blockOf_colp, laneOf_colp]
  · rw [show (⟨2 * p + 1, hn⟩ : Fin 16) = h1 ⟨p, by omega⟩ from rfl, ← da_hi]
    refine Finset.sum_congr rfl fun q _ => ?_
    rw [← colp_hi, dak, blockOf_colp, laneOf_colp]

/-- The log decays' gradient, summed from each row to the end. -/
def DAS (j : Fin 16) (s : Fin 128) : ℝ := ∑ l : Fin 128, if s.val ≤ l.val then r.DA j l else 0
def das (s : Fin 128) (k : Fin 1024) : ℝ := ∑ l : Fin 128, if s.val ≤ l.val then r.dak l k else 0
theorem dadt_up : dadt r.ld = up2 r.das := by rw [dadt, da_up, p362]; rfl
theorem das_head (j : Fin 16) (s : Fin 128) : ∑ q, r.das s (colh j q) = r.DAS j s := by
  simp only [das, DAS]
  rw [Finset.sum_comm]
  refine Finset.sum_congr rfl fun l _ => ?_
  split
  · exact r.da_head j l
  · exact Finset.sum_const_zero
theorem expA_up : expA r.ld = up2 fun (_ : Fin 1) k => Real.exp (r.alog 0 (hl k)) := by
  show k0_pay363 (F := Ideal) (up2 fun (_ : Fin 1) k => r.alog 0 (hl k)) = _
  rw [p363]

def DXA (s : Fin 128) (k : Fin 1024) : ℝ := r.df 0 k * r.dyk s k + r.DX s k * r.DT s (hl k)
theorem dxa_up : dxa r.ld = up2 r.DXA := by
  rw [dxa, dtf_up, dy_up, dx_up]
  show k0_pay366 (F := Ideal) _ _ _ (up2 r.df) = _
  rw [p366]; rfl

theorem fold_sum (F : Fin 1024 → ℝ) (j : Fin 16) : ∑ k, F k * foldR k (hn j) = ∑ q, F (colh j q) := by
  rw [← sum_blocks 16 64 rfl (fun k => F k * foldR k (hn j)) colh (fun _ _ => rfl), Finset.sum_eq_single j]
  · refine Finset.sum_congr rfl fun q _ => ?_
    rw [foldR, if_pos (by simp only [colh, hn]; omega), mul_one]
  · intro i _ hi
    refine Finset.sum_eq_zero fun q _ => ?_
    rw [foldR, if_neg (by simp only [colh, hn]; intro h; exact hi (Fin.ext (by omega))), mul_zero]
  · intro h; exact absurd (Finset.mem_univ _) h
theorem fold_none (F : Fin 1024 → ℝ) (j : Fin 128) (hj : 16 ≤ j.val) : ∑ k, F k * foldR k j = 0 := by
  refine Finset.sum_eq_zero fun k _ => ?_
  rw [foldR, if_neg (by omega), mul_zero]
/-- The steps' gradient before the softplus, and after. -/
def DDT (s : Fin 128) (j : Fin 128) : ℝ :=
  if h : j.val < 16 then ((∑ q, r.DX s (colh ⟨j.val, h⟩ q) * r.xk s (colh ⟨j.val, h⟩ q)) + -Real.exp (r.alog 0 j) * r.DAS ⟨j.val, h⟩ s) * sg (r.dt s j + r.dtb 0 j) else 0
theorem ddt_up : ddt r.ld = up2 r.DDT := by
  rw [ddt, pre_up, xa_up, dadt_up, expA_up, dx_up]
  show k0_pay367 (F := Ideal) _ _ _ _ _ (up2 foldR) = _
  rw [p367]
  congr 1; funext s j
  rw [DDT]
  split
  · next h =>
    have e := fold_sum (fun k => r.DX s k * r.xk s k + -Real.exp (r.alog 0 (hl k)) * r.das s k) ⟨j.val, h⟩
    rw [show hn ⟨j.val, h⟩ = j from rfl] at e
    rw [e, Finset.sum_add_distrib]
    simp only [hl_colh, ← Finset.mul_sum, das_head]; rfl
  · next h => rw [fold_none _ _ (by omega), zero_mul]

/-- The convolution's output's gradient, and the rows after the chunk. -/
def DCV (s : Fin 128) (k : Fin 1536) : ℝ :=
  (if h : k.val < 1024 then r.DXA s ⟨k.val, h⟩ else r.DBC s ⟨k.val - 1024, by omega⟩) * dsilu (r.cv s k)
def NXT (s : Fin 136) (k : Fin 1536) : ℝ := if h : s.val < 128 then r.DCV ⟨s.val, h⟩ k else r.h ⟨s.val - 128, by omega⟩ k
theorem dcp_up : dcp r.ld = up2 r.NXT := by
  rw [dcp, dcx, dcb, dxa_up, dbc_up]
  show pad3 (F := Ideal) (k0_pay374 (F := Ideal) (k0_pay15 (F := Ideal) (up2 r.cv)) (k0_pay16 (F := Ideal) (up2 r.cv)) (up2 r.DXA))
    (k0_pay375 (F := Ideal) (k0_pay15 (F := Ideal) (up2 r.cv)) (k0_pay16 (F := Ideal) (up2 r.cv)) (up2 r.DBC)) (k0_pay376 (F := Ideal) (up2 r.h)) = _
  rw [p374, p375]
  funext i; idx_vars i
  show rows3 _ _ _ i0 i1 = ((r.NXT i0 i1 : ℝ) : EReal)
  unfold rows3 NXT DCV
  split
  · split
    · rfl
    · next h0 h1 =>
      have e : (⟨1024 + (i1.val - 1024), by omega⟩ : Fin 1536) = i1 := Fin.ext (by simp only; omega)
      show ((r.DBC ⟨i0.val, h0⟩ ⟨i1.val - 1024, by omega⟩ * dsilu (r.cv ⟨i0.val, h0⟩ ⟨1024 + (i1.val - 1024), by omega⟩) : ℝ) : EReal) = _
      rw [e]
  · show k0_pay376 (F := Ideal) (up2 r.h) _ = _
    pointwise [k0_pay376, up2]
theorem dcv_up : dcv r.ld = up2 r.DCV := by
  rw [dcv, dcp_up, p377]
  congr 1; funext s k
  simp only [NXT, s.isLt, dite_true]
def RAW (s : Fin 128) (k : Fin 1536) : ℝ := rawR r.xs r.bc s k
theorem raw_up : raw r.ld = up2 r.RAW := by
  show k0_pay379 (F := Ideal) (up2 r.xs) (up2 r.bc) = _
  rw [p379]; rfl
/-- The gradient of the convolution's input. -/
def DRAW (s : Fin 128) (k : Fin 1536) : ℝ :=
  r.k3 0 k * r.DCV s k + r.k0 0 k * r.NXT ⟨s.val + 3, by omega⟩ k + r.k1 0 k * r.NXT ⟨s.val + 2, by omega⟩ k + r.k2 0 k * r.NXT ⟨s.val + 1, by omega⟩ k
theorem draw_up : draw r.ld = up2 r.DRAW := by
  rw [draw, dcv, dcp_up]
  show k0_pay3 (F := Ideal) (k0_pay388 (F := Ideal) (up2 r.NXT) (k0_pay382 (F := Ideal) (up2 r.NXT) (k0_pay377 (F := Ideal) (up2 r.NXT)) (up2 r.k3) (up2 r.k0)) (k0_pay384 (F := Ideal) (up2 r.NXT)) (up2 r.k1) (up2 r.k2)) = _
  rw [p388]
  congr 1; funext s k
  simp only [DRAW, below, NXT, s.isLt, dite_true]

end R
end Cert.Ssd.Chunk

end
-- ==== Proof.Ssd.Ident.lean ====
/- The pieces the SSD backward kernel leaves, as one chunk's values. -/
module

public import proofs.«01_k».proof.Proof.Ssd.Chunk

@[expose] public section

set_option maxRecDepth 16384

noncomputable section

namespace Cert.Ssd.Chunk

open Idealize.ShloMosaic Idealize.ShloMosaic.TcCoe Idealize.SL.Sem
open Cert.SsdIdeal Cert.SsdIdeal.Gen Cert.Ssd.Pair Cert.SsdIdeal.Run

variable {F : FTy → Type} [FloatOps F]

/-- The load of a rectangle of a whole memref's contents. -/
abbrev ldAt {s : Shape} {e : EltTy} {a : Memref sig .tc .vmem s e} (h : a.IsWhole) (x : Vec F s e) (off size : Fin s.rank → ℕ)
    (inb : ∀ k, off k + size k ≤ s.size k) : (Rect.unit off size inb).shape.Idx → Elt F e :=
  View.readAt (Elt F) a.view (Rect.unit off size inb).toLoadRect (h.unread x)

theorem inb_h : ∀ p : Fin 8, ∀ k, (![0, 0, 128 * p.val] : Fin 3 → ℕ) k + S1x128x128.size k ≤ S1x128x1024.size k := by decide
theorem inb_d : ∀ p : Fin 8, ∀ k, (![0, 128 * p.val] : Fin 2 → ℕ) k + S128x128.size k ≤ S128x1024.size k := by decide

/-- What a later point loads. -/
def ldB (B : Bufs) (X : Ins F) (S : Acc F) : Ld F where
  cv := ldAt B.h17 X.x16 ![0, 0] S128x1536.size inb_S128x1536_S128x1536_0_0
  dt := ldAt B.h5 X.x4 ![0, 0] S128x128.size inb_S128x128_S128x128_0_0
  dtb := ldAt B.h12 X.x11 ![0, 0] S1x128.size inb_S1x128_S1x128_0_0
  alog := ldAt B.h13 X.x12 ![0, 0] S1x128.size inb_S1x128_S1x128_0_0
  e := ldAt B.h28 S.e ![0, 0] S128x2048.size inb_S128x2048_S128x2048_0_0
  y := ldAt B.h7 X.x6 ![0, 0] S128x1024.size inb_S128x1024_S128x1024_0_0
  z := ldAt B.h6 X.x5 ![0, 0] S128x1024.size inb_S128x1024_S128x1024_0_0
  dm := ldAt B.h9 X.x8 ![0, 0] S128x1024.size inb_S128x1024_S128x1024_0_0
  w0 := ldAt B.h16 X.x15 ![0, 0] S1x512.size inb_S1x1024_S1x512_0_0
  w1 := ldAt B.h16 X.x15 ![0, 512] S1x512.size inb_S1x1024_S1x512_0_512
  hp p := ldAt B.h8 X.x7 ![0, 0, 128 * p.val] S1x128x128.size (inb_h p)
  d p := ldAt B.h22 S.d ![0, 128 * p.val] S128x128.size (inb_d p)
  alf := ldAt B.h14 X.x13 ![0, 0] S1x1024.size inb_S1x1024_S1x1024_0_0
  df := ldAt B.h15 X.x14 ![0, 0] S1x1024.size inb_S1x1024_S1x1024_0_0
  f := ldAt B.h29 S.f ![0, 0] S1024x128.size inb_S1024x128_S1024x128_0_0
  k0 := ldAt B.h10 X.x9 ![0, 0] S1x1536.size inb_S4x1536_S1x1536_0_0
  k1 := ldAt B.h10 X.x9 ![1, 0] S1x1536.size inb_S4x1536_S1x1536_1_0
  k2 := ldAt B.h10 X.x9 ![2, 0] S1x1536.size inb_S4x1536_S1x1536_2_0
  k3 := ldAt B.h10 X.x9 ![3, 0] S1x1536.size inb_S4x1536_S1x1536_3_0
  h := ldAt B.h23 S.h ![0, 0] S8x1536.size inb_S8x1536_S8x1536_0_0
  xs := ldAt B.h1 X.x0 ![0, 0] S128x1024.size inb_S128x1024_S128x1024_0_0
  bc := ldAt B.h2 X.x1 ![0, 0] S128x512.size inb_S128x512_S128x512_0_0

/-- A block stored as it is, and the eight blocks of columns, the last one first. -/
def put (v : Sq F) : Sq F := shapeCast S128x128 v shapeCasts_S128x128_S128x128
def tiles (v : Fin 8 → Sq F) : List (View.Piece (Elt F) S128x1024 .f32) :=
  [⟨Rect.unit ![0, 896] S128x128.size inb_S128x1024_S128x128_0_896, put (v 7)⟩,
   ⟨Rect.unit ![0, 768] S128x128.size inb_S128x1024_S128x128_0_768, put (v 6)⟩,
   ⟨Rect.unit ![0, 640] S128x128.size inb_S128x1024_S128x128_0_640, put (v 5)⟩,
   ⟨Rect.unit ![0, 512] S128x128.size inb_S128x1024_S128x128_0_512, put (v 4)⟩,
   ⟨Rect.unit ![0, 384] S128x128.size inb_S128x1024_S128x128_0_384, put (v 3)⟩,
   ⟨Rect.unit ![0, 256] S128x128.size inb_S128x1024_S128x128_0_256, put (v 2)⟩,
   ⟨Rect.unit ![0, 128] S128x128.size inb_S128x1024_S128x128_0_128, put (v 1)⟩,
   ⟨Rect.unit ![0, 0] S128x128.size inb_S128x1024_S128x128_0_0, put (v 0)⟩]

theorem tiles_eq {v : Fin 8 → Sq F} {a0 a1 a2 a3 a4 a5 a6 a7 : Sq F} (h0 : a0 = put (v 0)) (h1 : a1 = put (v 1)) (h2 : a2 = put (v 2)) (h3 : a3 = put (v 3)) (h4 : a4 = put (v 4)) (h5 : a5 = put (v 5)) (h6 : a6 = put (v 6)) (h7 : a7 = put (v 7)) :
    [⟨Rect.unit ![0, 896] S128x128.size inb_S128x1024_S128x128_0_896, a7⟩,
     ⟨Rect.unit ![0, 768] S128x128.size inb_S128x1024_S128x128_0_768, a6⟩,
     ⟨Rect.unit ![0, 640] S128x128.size inb_S128x1024_S128x128_0_640, a5⟩,
     ⟨Rect.unit ![0, 512] S128x128.size inb_S128x1024_S128x128_0_512, a4⟩,
     ⟨Rect.unit ![0, 384] S128x128.size inb_S128x1024_S128x128_0_384, a3⟩,
     ⟨Rect.unit ![0, 256] S128x128.size inb_S128x1024_S128x128_0_256, a2⟩,
     ⟨Rect.unit ![0, 128] S128x128.size inb_S128x1024_S128x128_0_128, a1⟩,
     ⟨Rect.unit ![0, 0] S128x128.size inb_S128x1024_S128x128_0_0, a0⟩] = tiles v := by
  subst h0 h1 h2 h3 h4 h5 h6 h7; rfl

section B
variable (c : Dev nD) (i : grid0.Coords) (B : Bufs) (hc : ¬isFirst i) (X : Ins F) (S : Acc F)

set_option maxHeartbeats 8000000 in
theorem b_dx : runB.sl.HS4_8 c B X S = tiles (dxP (ldB B X S)) := tiles_eq rfl rfl rfl rfl rfl rfl rfl rfl
set_option maxHeartbeats 8000000 in
theorem b_da : runB.sl.HS3_8 c B X S = tiles (daP (ldB B X S)) := tiles_eq rfl rfl rfl rfl rfl rfl rfl rfl
set_option maxHeartbeats 8000000 in
theorem b_dh : (runB c i B hc X S).2.2.2.2.1 = tiles (dhP (ldB B X S)) := tiles_eq rfl rfl rfl rfl rfl rfl rfl rfl
end B

end Cert.Ssd.Chunk

end
-- ==== Proof.Ssd.Lists.lean ====
/- What the lists of stores of the SSD backward kernel leave. -/
module

public import proofs.«01_k».proof.Proof.Ssd.Ident
public import proofs.«01_k».proof.Proof.Stores
public import Idealize.ShloMosaic.Lib.Pipeline.ValueKit
public import Idealize.ShloMosaic.Lib.Pipeline.ReadBack

@[expose] public section

set_option maxRecDepth 16384

noncomputable section

namespace Cert.Ssd.Chunk

open Idealize.ShloMosaic Idealize.ShloMosaic.TcCoe Idealize.SL.Sem Idealize.ShloMosaic.Tactic
open Cert.SsdIdeal Cert.SsdIdeal.Gen Cert.Ssd.Pair Cert.SsdIdeal.Run Cert.Lift

variable {F : FTy → Type} [FloatOps F]

theorem fill_canon {s : Shape} {e : EltTy} (a : Memref sig .tc .vmem s e) (L : List (View.Piece (Elt F) s e)) (h : ∀ y : s.Idx, ∃ p ∈ L, y ∈ p.1.set) :
    fill a L = View.canon L := funext fun y => View.read_writes_apply_eq_canon a.view a.view.junk y L (h y)

/-- A load of a rectangle of what covering stores left. -/
theorem readCov_rect {n d k l o q : ℕ} {e : EltTy} (v : View sig .tc .vmem (⟨2, ![n, d]⟩ : Shape) e) (L : List (View.Piece (Elt F) (⟨2, ![n, d]⟩ : Shape) e))
    (inb : ∀ a, (![o, q] : Fin 2 → ℕ) a + (![k, l] : Fin 2 → ℕ) a ≤ (⟨2, ![n, d]⟩ : Shape).size a) (h : ∀ y, ∃ p ∈ L, y ∈ p.1.set) (r : Fin k) (c : Fin l) :
    v.readCov L (Rect.unit (s := ⟨2, ![n, d]⟩) ![o, q] ![k, l] inb).toLoadRect (ix2 r c) =
      View.canon L (ix2 ⟨o + r.val, Nat.lt_of_lt_of_le (Nat.add_lt_add_left r.isLt o) (inb 0)⟩ ⟨q + c.val, Nat.lt_of_lt_of_le (Nat.add_lt_add_left c.isLt q) (inb 1)⟩) := by
  rw [View.readCov_eq_canon v L _ fun j => h _]
  show View.canon L _ = _
  congr 1
  funext a
  match a with
  | ⟨0, _⟩ => exact Fin.ext (by show o + 1 * r.val = o + r.val; omega)
  | ⟨1, _⟩ => exact Fin.ext (by show q + 1 * c.val = q + c.val; omega)

theorem put_eq (v : Sq F) : put v = v := by
  funext i; idx_vars i
  pointwise [put]

theorem at_block (v : Fin 8 → Sq F) (p : Fin 8) (s : Fin 128) (k : Fin 1024) (a b : ℕ) (ha : a < 128) (hb : b < 128) (e : a = s.val) (h : k.val = 128 * p.val + b) :
    put (v p) (ix2 ⟨a, ha⟩ ⟨b, hb⟩) = glue v (ix2 s k) := by
  subst e
  rw [put_eq]
  show _ = v (blockOf k) (ix2 s (laneOf k))
  rw [show blockOf k = p from Fin.ext (by simp only [blockOf]; omega), show laneOf k = ⟨b, hb⟩ from Fin.ext (by simp only [laneOf]; omega)]

theorem canon_tiles (v : Fin 8 → Sq F) : View.canon (tiles v) = glue v := by
  funext i; idx_vars i
  simp only [tiles]
  iterate 8
    refine (canon_tile _ _ _ _ _).trans ?_
    split
    · exact at_block v _ _ _ _ _ _ _ (by omega) (by first | omega | simp | (simp; omega))
  omega
theorem cover_tiles (v : Fin 8 → Sq F) : ∀ y, ∃ p ∈ tiles v, y ∈ p.1.set := View.cover_of_tiledBy _ ![128, 128] (by sl_kernel_rfl)
theorem read_tiles (w : View sig .tc .vmem S128x1024 .f32) (v : Fin 8 → Sq F) :
    w.readCov (tiles v) (Rect.unit ![0, 0] S128x1024.size inb_S128x1024_S128x1024_0_0).toLoadRect = glue v := by
  funext i; idx_vars i
  refine (readCov_rect w (tiles v) inb_S128x1024_S128x1024_0_0 (cover_tiles v) i0 i1).trans ?_
  rw [canon_tiles]
  congr 1
  simp

/-- The four blocks of the gradient of the convolution's last columns, as they are stored. -/
def quad (b0 b1 c0 c1 : Sq F) : List (View.Piece (Elt F) S128x512 .f32) :=
  [⟨Rect.unit ![0, 384] S128x128.size inb_S128x512_S128x128_0_384, put c1⟩,
   ⟨Rect.unit ![0, 128] S128x128.size inb_S128x512_S128x128_0_128, put b1⟩,
   ⟨Rect.unit ![0, 256] S128x128.size inb_S128x512_S128x128_0_256, put c0⟩,
   ⟨Rect.unit ![0, 0] S128x128.size inb_S128x512_S128x128_0_0, put b0⟩]
theorem quad_eq {b0 b1 c0 c1 a0 a1 a2 a3 : Sq F} (h0 : a0 = put b0) (h1 : a1 = put b1) (h2 : a2 = put c0) (h3 : a3 = put c1) :
    ([⟨Rect.unit ![0, 384] S128x128.size inb_S128x512_S128x128_0_384, a3⟩,
     ⟨Rect.unit ![0, 128] S128x128.size inb_S128x512_S128x128_0_128, a1⟩,
     ⟨Rect.unit ![0, 256] S128x128.size inb_S128x512_S128x128_0_256, a2⟩,
     ⟨Rect.unit ![0, 0] S128x128.size inb_S128x512_S128x128_0_0, a0⟩] : List (View.Piece (Elt F) S128x512 .f32)) = quad b0 b1 c0 c1 := by
  subst h0 h1 h2 h3; rfl
theorem cover_quad (b0 b1 c0 c1 : Sq F) : ∀ y, ∃ p ∈ quad b0 b1 c0 c1, y ∈ p.1.set := View.cover_of_tiledBy _ ![128, 128] (by sl_kernel_rfl)
theorem at_lane (v : Sq F) (s : Fin 128) (k : Fin 512) (a b : ℕ) (ha : a < 128) (hb : b < 128) (e : a = s.val) (h : b = k.val % 128) :
    put v (ix2 ⟨a, ha⟩ ⟨b, hb⟩) = v (ix2 s ⟨k.val % 128, Nat.mod_lt _ (by decide)⟩) := by
  subst e h; rw [put_eq]
theorem canon_quad (b0 b1 c0 c1 : Sq F) : View.canon (quad b0 b1 c0 c1) = bcs b0 b1 c0 c1 := by
  funext i; idx_vars i
  simp only [quad]
  show _ = (if i1.val < 128 then b0 else if i1.val < 256 then b1 else if i1.val < 384 then c0 else c1) (ix2 i0 ⟨i1.val % 128, Nat.mod_lt _ (by decide)⟩)
  refine (canon_tile _ _ _ _ _).trans ?_
  split
  · rw [if_neg (by omega), if_neg (by omega), if_neg (by omega)]; exact at_lane _ _ _ _ _ _ _ (by omega) (by omega)
  refine (canon_tile _ _ _ _ _).trans ?_
  split
  · rw [if_neg (by omega), if_pos (by omega)]; exact at_lane _ _ _ _ _ _ _ (by omega) (by omega)
  refine (canon_tile _ _ _ _ _).trans ?_
  split
  · rw [if_neg (by omega), if_neg (by omega), if_pos (by omega)]; exact at_lane _ _ _ _ _ _ _ (by omega) (by omega)
  refine (canon_tile _ _ _ _ _).trans ?_
  split
  · rw [if_pos (by omega)]; exact at_lane _ _ _ _ _ _ _ (by omega) (by omega)
  omega
theorem read_quad (w : View sig .tc .vmem S128x512 .f32) (b0 b1 c0 c1 : Sq F) :
    w.readCov (quad b0 b1 c0 c1) (Rect.unit ![0, 0] S128x512.size inb_S128x512_S128x512_0_0).toLoadRect = bcs b0 b1 c0 c1 := by
  funext i; idx_vars i
  refine (readCov_rect w (quad b0 b1 c0 c1) inb_S128x512_S128x512_0_0 (cover_quad b0 b1 c0 c1) i0 i1).trans ?_
  rw [canon_quad]
  congr 1
  simp

/-- A chunk's gradient of the convolution's output and the rows after it, as they are stored. -/
def trip (a : Vec F S128x1024 .f32) (b : Vec F S128x512 .f32) (h : Vec F S8x1536 .f32) : List (View.Piece (Elt F) S136x1536 .f32) :=
  [⟨Rect.unit ![128, 0] S8x1536.size inb_S136x1536_S8x1536_128_0, h⟩,
   ⟨Rect.unit ![0, 1024] S128x512.size inb_S136x1536_S128x512_0_1024, b⟩,
   ⟨Rect.unit ![0, 0] S128x1024.size inb_S136x1536_S128x1024_0_0, a⟩]
theorem cover_trip (a : Vec F S128x1024 .f32) (b : Vec F S128x512 .f32) (h : Vec F S8x1536 .f32) : ∀ y, ∃ p ∈ trip a b h, y ∈ p.1.set :=
  View.cover_of_tiledBy _ ![8, 512] (by sl_kernel_rfl)
theorem canon_trip (a : Vec F S128x1024 .f32) (b : Vec F S128x512 .f32) (h : Vec F S8x1536 .f32) : View.canon (trip a b h) = pad3 a b h := by
  funext i; idx_vars i
  simp only [trip]
  show _ = rows3 (fun s k => a (ix2 s k)) (fun s k => b (ix2 s k)) (fun s k => h (ix2 s k)) i0 i1
  unfold rows3
  refine (canon_tile _ _ _ _ _).trans ?_
  split
  · rw [dif_neg (by omega)]; congr 2
  refine (canon_tile _ _ _ _ _).trans ?_
  split
  · rw [dif_pos (by omega), dif_neg (by omega)]; congr 2
  refine (canon_tile _ _ _ _ _).trans ?_
  split
  · rw [dif_pos (by omega), dif_pos (by omega)]; congr 2
  omega
theorem read_trip (w : View sig .tc .vmem S136x1536 .f32) (a : Vec F S128x1024 .f32) (b : Vec F S128x512 .f32) (h : Vec F S8x1536 .f32) :
    w.readCov (trip a b h) (Rect.unit ![0, 0] S136x1536.size inb_S136x1536_S136x1536_0_0).toLoadRect = pad3 a b h := by
  funext i; idx_vars i
  refine (readCov_rect w (trip a b h) inb_S136x1536_S136x1536_0_0 (cover_trip a b h) i0 i1).trans ?_
  rw [canon_trip]
  congr 1
  simp

variable (L : Ld F)
/-- The stores of a point: the block of columns, and the rows of the three sums. -/
def outL : List (View.Piece (Elt F) S128x3072 .bf16) :=
  [⟨Rect.unit ![0, 1024] S128x1536.size inb_S128x3072_S128x1536_0_1024, draw L⟩,
   ⟨Rect.unit ![0, 2688] S128x384.size inb_S128x3072_S128x384_0_2688, k0_pay372⟩,
   ⟨Rect.unit ![0, 2560] S128x128.size inb_S128x3072_S128x128_0_2560, k0_pay371 (ddt L)⟩,
   ⟨Rect.unit ![0, 0] S128x1024.size inb_S128x3072_S128x1024_0_0, dz L⟩]
def gL (o0 o1 o2 o3 o4 : Vec F S1x1536 .f32) (T : List (View.Piece (Elt F) S8x1536 .f32)) : List (View.Piece (Elt F) S8x1536 .f32) :=
  ⟨Rect.unit ![2, 0] S1x1536.size inb_S8x1536_S1x1536_2_0, k0_pay1 (raw L) (k0_pay387 (dcp L)) o2⟩ ::
  ⟨Rect.unit ![1, 0] S1x1536.size inb_S8x1536_S1x1536_1_0, k0_pay386 (raw L) (k0_pay384 (dcp L)) o1⟩ ::
  ⟨Rect.unit ![0, 0] S1x1536.size inb_S8x1536_S1x1536_0_0, k0_pay383 (dcp L) L.xs L.bc o0⟩ ::
  ⟨Rect.unit ![3, 0] S1x1536.size inb_S8x1536_S1x1536_3_0, k0_pay380 (dcv L) L.xs L.bc o3⟩ ::
  ⟨Rect.unit ![4, 0] S1x1536.size inb_S8x1536_S1x1536_4_0, k0_pay378 (dcv L) o4⟩ :: T
def vL (o00 o01 : Vec F S1x512 .f32) (o1 o2 : Vec F S1x1024 .f32) (T : List (View.Piece (Elt F) S8x1024 .f32)) : List (View.Piece (Elt F) S8x1024 .f32) :=
  ⟨Rect.unit ![1, 0] S1x1024.size inb_S8x1024_S1x1024_1_0, k0_pay365 (dtf L) (dadt L) (expA L) o1⟩ ::
  ⟨Rect.unit ![2, 0] S1x1024.size inb_S8x1024_S1x1024_2_0, k0_pay51 (x L) (silz L) (n0 L) (n1 L) (n2 L) o2⟩ ::
  ⟨Rect.unit ![0, 512] S1x512.size inb_S8x1024_S1x512_0_512, k0_pay44 (k0_pay31 L.dm) (k0_pay34 L.y L.z) o01⟩ ::
  ⟨Rect.unit ![0, 0] S1x512.size inb_S8x1024_S1x512_0_0, k0_pay38 L.y L.z L.dm o00⟩ :: T
def tL (o : Vec F S1x128 .f32) (T : List (View.Piece (Elt F) S8x128 .f32)) : List (View.Piece (Elt F) S8x128 .f32) :=
  ⟨Rect.unit ![0, 0] S1x128.size inb_S8x128_S1x128_0_0, k0_pay370 (k0_pay368 o) (k0_pay369 (pre L) (xa L) (dadt L) (expA L) (glue (dxP L)) L.f)⟩ :: T
def hL (T : List (View.Piece (Elt F) S8x1536 .f32)) : List (View.Piece (Elt F) S8x1536 .f32) :=
  ⟨Rect.unit ![0, 0] S8x1536.size inb_S8x1536_S8x1536_0_0, k0_pay2 (dcv L)⟩ :: T

end Cert.Ssd.Chunk

end
-- ==== Proof.Ssd.Acc.lean ====
/- What the stores of a point leave, on real numbers. -/
module

public import proofs.«01_k».proof.Proof.Ssd.ChunkReal
public import proofs.«01_k».proof.Proof.Ssd.Lists
public import Idealize.ShloMosaic.Lib.WholeRead

@[expose] public section

set_option maxRecDepth 16384

noncomputable section

namespace Cert.Ssd.Chunk

open Idealize.ShloMosaic Idealize.ShloMosaic.TcCoe Idealize.SL.Sem
open Cert.SsdIdeal Cert.SsdIdeal.Gen Cert.SsdIdeal.Run Cert.Lift Cert.Ssd.Pair Cert.Ssd.Front

/-- A load of a rectangle of an array. -/
theorem ldAt_at {n d k l o q : ℕ} {e : EltTy} {a : Memref sig .tc .vmem (⟨2, ![n, d]⟩ : Shape) e} (h : a.IsWhole) (X : Vec Ideal (⟨2, ![n, d]⟩ : Shape) e)
    (inb : ∀ a, (![o, q] : Fin 2 → ℕ) a + (![k, l] : Fin 2 → ℕ) a ≤ (⟨2, ![n, d]⟩ : Shape).size a) (r : Fin k) (c : Fin l) :
    ldAt (F := Ideal) h X ![o, q] ![k, l] inb (ix2 r c) =
      X (ix2 ⟨o + r.val, Nat.lt_of_lt_of_le (Nat.add_lt_add_left r.isLt o) (inb 0)⟩ ⟨q + c.val, Nat.lt_of_lt_of_le (Nat.add_lt_add_left c.isLt q) (inb 1)⟩) := by
  refine (h.readAt_unread _ _ _).trans ?_
  congr 1
  funext a
  match a with
  | ⟨0, _⟩ => exact Fin.ext (by show o + 1 * r.val = o + r.val; omega)
  | ⟨1, _⟩ => exact Fin.ext (by show q + 1 * c.val = q + c.val; omega)
theorem ldAt_up2 {n d k l o q : ℕ} {a : Memref sig .tc .vmem (⟨2, ![n, d]⟩ : Shape) .f32} (h : a.IsWhole) (f : Fin n → Fin d → ℝ)
    (inb : ∀ a, (![o, q] : Fin 2 → ℕ) a + (![k, l] : Fin 2 → ℕ) a ≤ (⟨2, ![n, d]⟩ : Shape).size a) :
    ldAt (F := Ideal) h (up2 f) ![o, q] ![k, l] inb =
      up2 (fun (r : Fin k) (c : Fin l) => f ⟨o + r.val, Nat.lt_of_lt_of_le (Nat.add_lt_add_left r.isLt o) (inb 0)⟩ ⟨q + c.val, Nat.lt_of_lt_of_le (Nat.add_lt_add_left c.isLt q) (inb 1)⟩) := by
  refine funext fun (i : (⟨2, ![k, l]⟩ : Shape).Idx) => ?_
  have e : i = ix2 (i 0) (i 1) := by
    funext a
    match a with
    | ⟨0, _⟩ => rfl
    | ⟨1, _⟩ => rfl
  rw [e]
  exact ldAt_at h _ inb (i 0) (i 1)
theorem ldAt_whole {n d : ℕ} {e : EltTy} {a : Memref sig .tc .vmem (⟨2, ![n, d]⟩ : Shape) e} (h : a.IsWhole) (X : Vec Ideal (⟨2, ![n, d]⟩ : Shape) e)
    (inb : ∀ a, (![0, 0] : Fin 2 → ℕ) a + (![n, d] : Fin 2 → ℕ) a ≤ (⟨2, ![n, d]⟩ : Shape).size a) :
    ldAt (F := Ideal) h X ![0, 0] ![n, d] inb = X := by
  refine funext fun (i : (⟨2, ![n, d]⟩ : Shape).Idx) => ?_
  have e : i = ix2 (i 0) (i 1) := by
    funext a
    match a with
    | ⟨0, _⟩ => rfl
    | ⟨1, _⟩ => rfl
  rw [e]
  refine (ldAt_at h X inb (i 0) (i 1)).trans ?_
  simp only [Nat.zero_add, Fin.eta]
  rfl

theorem p370 (pr : Fin 128 → Fin 128 → ℝ) (x da dx : Fin 128 → Fin 1024 → ℝ) (e : Fin 1 → Fin 1024 → ℝ) (o : Fin 1 → Fin 128 → ℝ) (g : Fin 128 → Fin 128 → ℝ)
    (h : k0_pay367 (F := Ideal) (up2 pr) (up2 x) (up2 da) (up2 e) (up2 dx) (up2 foldR) = up2 g) :
    k0_pay370 (F := Ideal) (k0_pay368 (up2 o)) (k0_pay369 (up2 pr) (up2 x) (up2 da) (up2 e) (up2 dx) (up2 foldR)) = up2 fun a k => o a k + ∑ s, g s k := by
  funext i; idx_vars i
  pointwise [k0_pay370, k0_pay368, k0_pay369, h, up2]
  simp only [coe_sum, ← EReal.coe_add]
theorem p371 (g : Fin 128 → Fin 128 → ℝ) : k0_pay371 (F := Ideal) (up2 g) = up2 g := rfl
theorem p372 : k0_pay372 (F := Ideal) = up2 fun (_ : Fin 128) (_ : Fin 384) => 0 := by
  funext i; idx_vars i
  pointwise [k0_pay372, up2]
  rfl
theorem p10 : k0_pay10 (F := Ideal) = up2 fun (_ : Fin 128) (_ : Fin 1024) => 0 := by
  funext i; idx_vars i
  pointwise [k0_pay10, up2]
  rfl
theorem p11 : k0_pay11 (F := Ideal) = up2 fun (_ : Fin 8) (_ : Fin 1536) => 0 := by
  funext i; idx_vars i
  pointwise [k0_pay11, up2]
  rfl
theorem p12 : k0_pay12 (F := Ideal) = up2 fun (_ : Fin 8) (_ : Fin 1536) => 0 := by
  funext i; idx_vars i
  pointwise [k0_pay12, up2]
  rfl
theorem p13 : k0_pay13 (F := Ideal) = up2 fun (_ : Fin 8) (_ : Fin 1024) => 0 := by
  funext i; idx_vars i
  pointwise [k0_pay13, up2]
  rfl
theorem p14 : k0_pay14 (F := Ideal) = up2 fun (_ : Fin 8) (_ : Fin 128) => 0 := by
  funext i; idx_vars i
  pointwise [k0_pay14, up2]
  rfl

/-- A row of an array as a one-row array. -/
abbrev rowOf {n d : ℕ} (f : Fin n → Fin d → ℝ) (j : Fin n) : Fin 1 → Fin d → ℝ := fun _ k => f j k

namespace R
variable (r : R)

/-- What a chunk adds to the convolution's gradients, to the columns' sums, and to the steps' sums. -/
def gAdd (j : Fin 8) (k : Fin 1536) : ℝ :=
  if j.val = 0 then ∑ s : Fin 128, r.NXT ⟨s.val + 3, by omega⟩ k * r.RAW s k
  else if j.val = 1 then ∑ s : Fin 128, r.NXT ⟨s.val + 2, by omega⟩ k * r.RAW s k
  else if j.val = 2 then ∑ s : Fin 128, r.NXT ⟨s.val + 1, by omega⟩ k * r.RAW s k
  else if j.val = 3 then ∑ s, r.DCV s k * r.RAW s k
  else if j.val = 4 then ∑ s, r.DCV s k else 0
def vw (k : Fin 1024) : ℝ := ∑ s, r.dm s k * nh (yz r.y r.z) (grp k) s ⟨k.val % 512, Nat.mod_lt _ (by decide)⟩
theorem vw_lo (j : Fin 512) : r.vw ⟨j.val, by omega⟩ = dwR r.dm (yz r.y r.z) 0 j := by
  rw [vw, dwR]
  refine Finset.sum_congr rfl fun s _ => ?_
  rw [show grp ⟨j.val, by omega⟩ = 0 from Fin.ext (by show j.val / 512 = 0; omega), show (⟨j.val % 512, Nat.mod_lt _ (by decide)⟩ : Fin 512) = j from Fin.ext (by show j.val % 512 = j.val; omega),
    show (⟨j.val, by omega⟩ : Fin 1024) = gcol 0 j from Fin.ext (by simp [gcol])]
theorem vw_hi (j : Fin 512) : r.vw ⟨512 + j.val, by omega⟩ = dwR r.dm (yz r.y r.z) 1 j := by
  rw [vw, dwR]
  refine Finset.sum_congr rfl fun s _ => ?_
  rw [show grp ⟨512 + j.val, by omega⟩ = 1 from Fin.ext (by show (512 + j.val) / 512 = 1; omega), show (⟨(512 + j.val) % 512, Nat.mod_lt _ (by decide)⟩ : Fin 512) = j from Fin.ext (by show (512 + j.val) % 512 = j.val; omega),
    show (⟨512 + j.val, by omega⟩ : Fin 1024) = gcol 1 j from Fin.ext (by simp [gcol])]
def vAdd (j : Fin 8) (k : Fin 1024) : ℝ :=
  if j.val = 0 then r.vw k
  else if j.val = 1 then (∑ s, r.DT s (hl k) * r.das s k) * -Real.exp (r.alog 0 (hl k))
  else if j.val = 2 then ∑ s, r.dyk s k * r.xk s k else 0
def tAdd (j : Fin 8) (k : Fin 128) : ℝ := if j.val = 0 then ∑ s, r.DDT s k else 0
def OUT (s : Fin 128) (k : Fin 3072) : ℝ :=
  if h : k.val < 1024 then r.dzk s ⟨k.val, h⟩ else if h : k.val < 2560 then r.DRAW s ⟨k.val - 1024, by omega⟩
  else if h : k.val < 2688 then r.DDT s ⟨k.val - 2560, by omega⟩ else 0

section Rows
variable (o : Fin 1 → Fin 1536 → ℝ)
theorem g0_up : k0_pay383 (F := Ideal) (dcp r.ld) r.ld.xs r.ld.bc (up2 o) = up2 fun a k => o a k + ∑ s : Fin 128, r.NXT ⟨s.val + 3, by omega⟩ k * r.RAW s k := by
  rw [dcp_up]; show k0_pay383 (F := Ideal) (up2 r.NXT) (up2 r.xs) (up2 r.bc) (up2 o) = _; rw [p383]; rfl
theorem g1_up : k0_pay386 (F := Ideal) (raw r.ld) (k0_pay384 (dcp r.ld)) (up2 o) = up2 fun a k => o a k + ∑ s : Fin 128, r.NXT ⟨s.val + 2, by omega⟩ k * r.RAW s k := by
  rw [dcp_up, raw_up, p386]
theorem g2_up : k0_pay1 (F := Ideal) (raw r.ld) (k0_pay387 (dcp r.ld)) (up2 o) = up2 fun a k => o a k + ∑ s : Fin 128, r.NXT ⟨s.val + 1, by omega⟩ k * r.RAW s k := by
  rw [dcp_up, raw_up, p1]
theorem g3_up : k0_pay380 (F := Ideal) (dcv r.ld) r.ld.xs r.ld.bc (up2 o) = up2 fun a k => o a k + ∑ s, r.DCV s k * r.RAW s k := by
  rw [dcv_up]; show k0_pay380 (F := Ideal) (up2 r.DCV) (up2 r.xs) (up2 r.bc) (up2 o) = _; rw [p380]; rfl
theorem g4_up : k0_pay378 (F := Ideal) (dcv r.ld) (up2 o) = up2 fun a k => o a k + ∑ s, r.DCV s k := by
  rw [dcv_up, p378]
variable (w : Fin 1 → Fin 1024 → ℝ) (u : Fin 1 → Fin 512 → ℝ)
theorem v00_up : k0_pay38 (F := Ideal) r.ld.y r.ld.z r.ld.dm (up2 u) = up2 fun a j => u a j + dwR r.dm (yz r.y r.z) 0 j := by
  show k0_pay38 (F := Ideal) (up2 r.y) (up2 r.z) (up2 r.dm) (up2 u) = _; rw [p38]
theorem v01_up : k0_pay44 (F := Ideal) (k0_pay31 r.ld.dm) (k0_pay34 r.ld.y r.ld.z) (up2 u) = up2 fun a j => u a j + dwR r.dm (yz r.y r.z) 1 j := by
  show k0_pay44 (F := Ideal) (k0_pay31 (F := Ideal) (up2 r.dm)) (k0_pay34 (F := Ideal) (up2 r.y) (up2 r.z)) (up2 u) = _; rw [p34, p44]
theorem v1_up : k0_pay365 (F := Ideal) (dtf r.ld) (dadt r.ld) (expA r.ld) (up2 w) = up2 fun a k => w a k + (∑ s, r.DT s (hl k) * r.das s k) * -Real.exp (r.alog 0 (hl k)) := by
  rw [dtf_up, dadt_up, expA_up, p365]
theorem v2_up : k0_pay51 (F := Ideal) (x r.ld) (silz r.ld) (n0 r.ld) (n1 r.ld) (n2 r.ld) (up2 w) = up2 fun a k => w a k + ∑ s, r.dyk s k * r.xk s k := by
  rw [x_up, p51 r.X _ _ _ _ r.dyk w (dy_up r)]; rfl
theorem t_up (o : Fin 1 → Fin 128 → ℝ) : k0_pay370 (F := Ideal) (k0_pay368 (up2 o)) (k0_pay369 (pre r.ld) (xa r.ld) (dadt r.ld) (expA r.ld) (glue (dxP r.ld)) r.ld.f) =
    up2 fun a k => o a k + ∑ s, r.DDT s k := by
  have h := ddt_up r
  rw [ddt] at h
  rw [pre_up, xa_up, dadt_up, expA_up, dx_up] at h ⊢
  exact p370 _ _ _ _ _ _ _ h
theorem h_up : k0_pay2 (F := Ideal) (dcv r.ld) = up2 fun (s : Fin 8) k => r.DCV ⟨s.val, by omega⟩ k := by
  rw [dcv, dcp_up, p2]
  congr 1; funext s k
  rw [NXT, dif_pos (show s.val < 128 by omega)]
end Rows

end R

theorem coe_at2 {n d : ℕ} (f : Fin n → Fin d → ℝ) (a b a' b' : ℕ) (ha hb ha' hb') (e : a = a') (e' : b = b') :
    ((f ⟨a, ha⟩ ⟨b, hb⟩ : ℝ) : EReal) = ((f ⟨a', ha'⟩ ⟨b', hb'⟩ : ℝ) : EReal) := by subst e e'; rfl

section Store
variable (r : R) {sp : Space}

theorem out_read (v : View sig .tc sp S128x3072 .bf16) (f : v.ty.Contents (Elt Ideal)) :
    v.read (Elt Ideal) (v.writes (Elt Ideal) f (outL r.ld)) = up2 r.OUT := by
  funext i; idx_vars i
  unfold outL
  show _ = ((r.OUT i0 i1 : ℝ) : EReal)
  unfold R.OUT
  refine (read_tile _ _ _ _ _ v f).trans ?_
  split
  · rw [dif_neg (by omega), dif_pos (by omega), R.draw_up]; exact coe_at2 r.DRAW _ _ _ _ _ _ _ _ (by omega) rfl
  refine (read_tile _ _ _ _ _ v f).trans ?_
  split
  · rw [dif_neg (by omega), dif_neg (by omega), dif_neg (by omega), p372]; rfl
  refine (read_tile _ _ _ _ _ v f).trans ?_
  split
  · rw [dif_neg (by omega), dif_neg (by omega), dif_pos (by omega), R.ddt_up, p371]; exact coe_at2 r.DDT _ _ _ _ _ _ _ _ (by omega) rfl
  refine (read_tile _ _ _ _ _ v f).trans ?_
  split
  · rw [dif_pos (by omega), R.dz_up]; exact coe_at2 r.dzk _ _ _ _ _ _ _ _ (by omega) (by omega)
  omega

variable (G : Fin 8 → Fin 1536 → ℝ)
theorem g_read (v : View sig .tc sp S8x1536 .f32) (f : v.ty.Contents (Elt Ideal)) (T : List (View.Piece (Elt Ideal) S8x1536 .f32))
    (hT : v.read (Elt Ideal) (v.writes (Elt Ideal) f T) = up2 G) :
    v.read (Elt Ideal) (v.writes (Elt Ideal) f (gL r.ld (up2 (rowOf G 0)) (up2 (rowOf G 1)) (up2 (rowOf G 2)) (up2 (rowOf G 3)) (up2 (rowOf G 4)) T)) =
      up2 fun j k => G j k + r.gAdd j k := by
  funext i; idx_vars i
  unfold gL
  rw [R.g0_up, R.g1_up, R.g2_up, R.g3_up, R.g4_up]
  show _ = ((G i0 i1 + r.gAdd i0 i1 : ℝ) : EReal)
  unfold R.gAdd
  refine (read_tile _ _ _ _ _ v f).trans ?_
  split
  · have e : i0 = 2 := Fin.ext (by show i0.val = 2; omega)
    subst e; rfl
  refine (read_tile _ _ _ _ _ v f).trans ?_
  split
  · have e : i0 = 1 := Fin.ext (by show i0.val = 1; omega)
    subst e; rfl
  refine (read_tile _ _ _ _ _ v f).trans ?_
  split
  · have e : i0 = 0 := Fin.ext (by show i0.val = 0; omega)
    subst e; rfl
  refine (read_tile _ _ _ _ _ v f).trans ?_
  split
  · have e : i0 = 3 := Fin.ext (by show i0.val = 3; omega)
    subst e; rfl
  refine (read_tile _ _ _ _ _ v f).trans ?_
  split
  · have e : i0 = 4 := Fin.ext (by show i0.val = 4; omega)
    subst e; rfl
  rw [hT, if_neg (by omega), if_neg (by omega), if_neg (by omega), if_neg (by omega), if_neg (by omega), add_zero]; rfl

variable (V : Fin 8 → Fin 1024 → ℝ)
theorem v_read (v : View sig .tc sp S8x1024 .f32) (f : v.ty.Contents (Elt Ideal)) (T : List (View.Piece (Elt Ideal) S8x1024 .f32))
    (hT : v.read (Elt Ideal) (v.writes (Elt Ideal) f T) = up2 V) :
    v.read (Elt Ideal) (v.writes (Elt Ideal) f (vL r.ld (up2 fun _ j => V 0 ⟨j.val, by omega⟩) (up2 fun _ j => V 0 ⟨512 + j.val, by omega⟩) (up2 (rowOf V 1)) (up2 (rowOf V 2)) T)) =
      up2 fun j k => V j k + r.vAdd j k := by
  funext i; idx_vars i
  unfold vL
  rw [R.v00_up, R.v01_up, R.v1_up, R.v2_up]
  show _ = ((V i0 i1 + r.vAdd i0 i1 : ℝ) : EReal)
  unfold R.vAdd
  refine (read_tile _ _ _ _ _ v f).trans ?_
  split
  · have e : i0 = 1 := Fin.ext (by show i0.val = 1; omega)
    subst e; rfl
  refine (read_tile _ _ _ _ _ v f).trans ?_
  split
  · have e : i0 = 2 := Fin.ext (by show i0.val = 2; omega)
    subst e; rfl
  refine (read_tile _ _ _ _ _ v f).trans ?_
  split
  · next h =>
    have e : i0 = 0 := Fin.ext (by show i0.val = 0; omega)
    subst e
    obtain ⟨k, hk⟩ := i1
    obtain ⟨j, rfl⟩ : ∃ j, k = 512 + j := ⟨k - 512, by simp only at h; omega⟩
    have hj : j < 512 := by omega
    have key : V 0 ⟨512 + (512 + j - 512), by omega⟩ + dwR r.dm (yz r.y r.z) 1 ⟨512 + j - 512, by omega⟩ = V 0 ⟨512 + j, hk⟩ + r.vw ⟨512 + j, hk⟩ := by
      simp only [Nat.add_sub_cancel_left]
      rw [← R.vw_hi r ⟨j, hj⟩]
    exact congrArg Real.toEReal key
  refine (read_tile _ _ _ _ _ v f).trans ?_
  split
  · next h =>
    have e : i0 = 0 := Fin.ext (by show i0.val = 0; omega)
    subst e
    have key : V 0 ⟨i1.val - 0, by omega⟩ + dwR r.dm (yz r.y r.z) 0 ⟨i1.val - 0, by omega⟩ = V 0 i1 + r.vw i1 := by
      rw [← R.vw_lo]
      simp only [Nat.sub_zero]
    exact congrArg Real.toEReal key
  rw [hT, if_neg (by omega), if_neg (by omega), if_neg (by omega), add_zero]; rfl

variable (W : Fin 8 → Fin 128 → ℝ)
theorem t_read (v : View sig .tc sp S8x128 .f32) (f : v.ty.Contents (Elt Ideal)) (T : List (View.Piece (Elt Ideal) S8x128 .f32))
    (hT : v.read (Elt Ideal) (v.writes (Elt Ideal) f T) = up2 W) :
    v.read (Elt Ideal) (v.writes (Elt Ideal) f (tL r.ld (up2 (rowOf W 0)) T)) = up2 fun j k => W j k + r.tAdd j k := by
  funext i; idx_vars i
  unfold tL
  rw [R.t_up]
  show _ = ((W i0 i1 + r.tAdd i0 i1 : ℝ) : EReal)
  unfold R.tAdd
  refine (read_tile _ _ _ _ _ v f).trans ?_
  split
  · have e : i0 = 0 := Fin.ext (by show i0.val = 0; omega)
    subst e; rfl
  rw [hT, if_neg (by omega), add_zero]; rfl

theorem h_read (v : View sig .tc sp S8x1536 .f32) (f : v.ty.Contents (Elt Ideal)) (T : List (View.Piece (Elt Ideal) S8x1536 .f32)) :
    v.read (Elt Ideal) (v.writes (Elt Ideal) f (hL r.ld T)) = up2 fun (s : Fin 8) k => r.DCV ⟨s.val, by omega⟩ k := by
  funext i; idx_vars i
  unfold hL
  rw [R.h_up]
  refine (read_tile _ _ _ _ _ v f).trans ?_
  rw [dif_pos (by omega)]
  rfl
end Store

end Cert.Ssd.Chunk

end
-- ==== Proof.Ssd.Global.lean ====
/- The whole backward pass on real numbers: the chunks from last to first, each handing the next the gradient of its state. -/
module

public import proofs.«01_k».proof.Proof.Ssd.Acc

@[expose] public section

set_option maxRecDepth 16384

noncomputable section

namespace Cert.Ssd

open Idealize.ShloMosaic Idealize.ShloMosaic.TcCoe Idealize.SL.Sem
open Cert.SsdIdeal Cert.SsdIdeal.Gen Cert.SsdIdeal.Run Cert.Lift Cert.Ssd.Pair Cert.Ssd.Front Cert.Ssd.Chunk

namespace Chunk

/-- What is carried from point to point. -/
structure Q where
  g : Fin 8 → Fin 1536 → ℝ
  v : Fin 8 → Fin 1024 → ℝ
  t : Fin 8 → Fin 128 → ℝ
  d : Fin 128 → Fin 1024 → ℝ
  h : Fin 8 → Fin 1536 → ℝ

def Q.acc (q : Q) : Run.Acc Ideal := ⟨up2 q.g, up2 q.v, up2 q.t, up2 q.d, up2 q.h, up2 emR, up2 foldR⟩
def Q.next (q : Q) (r : R) : Q where
  g j k := q.g j k + r.gAdd j k
  v j k := q.v j k + r.vAdd j k
  t j k := q.t j k + r.tAdd j k
  d := r.DH
  h s k := r.DCV ⟨s.val, by omega⟩ k
def Q.none : Q := ⟨fun _ _ => 0, fun _ _ => 0, fun _ _ => 0, fun _ _ => 0, fun _ _ => 0⟩

end Chunk

/-- Row `s` of chunk `c`. -/
def row (c : Fin 32) (s : Fin 128) : Fin 4096 := ⟨128 * c.val + s.val, by omega⟩

/-- The arguments, and the forward pass's output, states and convolution. -/
structure G where
  zx : Fin 4096 → Fin 2576 → ℝ
  dm : Fin 4096 → Fin 1024 → ℝ
  cw : Fin 4 → Fin 1536 → ℝ
  cb : Fin 1 → Fin 1536 → ℝ
  hs : Fin 3 → Fin 16 → ℝ
  nw : Fin 1 → Fin 1024 → ℝ
  cv : Fin 4096 → Fin 1536 → ℝ
  y : Fin 4096 → Fin 1024 → ℝ
  pv : Fin 32 → Fin 2 → Fin 8 → Fin 64 → Fin 128 → ℝ

namespace G

/-- The gate, the scan's input and the step sizes, side by side in the first argument; the rows of the per-head parameters. -/
def z (G : G) (s : Fin 4096) (k : Fin 1024) : ℝ := G.zx s ⟨k.val, by omega⟩
def xb (G : G) (s : Fin 4096) (k : Fin 1536) : ℝ := G.zx s ⟨1024 + k.val, by omega⟩
def dt (G : G) (s : Fin 4096) (j : Fin 16) : ℝ := G.zx s ⟨2560 + j.val, by omega⟩
def tb (G : G) (_ : Fin 1) (j : Fin 16) : ℝ := G.hs 0 j
def al (G : G) (_ : Fin 1) (j : Fin 16) : ℝ := G.hs 1 j
def ds (G : G) (_ : Fin 1) (j : Fin 16) : ℝ := G.hs 2 j

variable (G : G)

/-- A row of sixteen values on 128 lanes. -/
def lanes {n : ℕ} (f : Fin n → Fin 16 → ℝ) (s : Fin n) (j : Fin 128) : ℝ := if h : j.val < 16 then f s ⟨j.val, h⟩ else 0

/-- Chunk `c`, with what the chunks after it carry. -/
def at' (c : Fin 32) (q : Q) : R where
  cv s k := G.cv (row c s) k
  dt s j := lanes G.dt (row c s) j
  dtb := lanes G.tb
  alog := lanes G.al
  y s k := G.y (row c s) k
  z s k := G.z (row c s) k
  dm s k := G.dm (row c s) k
  w := G.nw
  H n k := G.pv c (grp k) ⟨k.val % 512 / 64, by omega⟩ ⟨k.val % 64, by omega⟩ n
  D := q.d
  df a k := G.ds 0 ⟨k.val / 64, by omega⟩
  k0 _ k := G.cw 0 k
  k1 _ k := G.cw 1 k
  k2 _ k := G.cw 2 k
  k3 _ k := G.cw 3 k
  h := q.h
  xs s k := G.xb (row c s) ⟨k.val, by omega⟩
  bc s k := G.xb (row c s) ⟨1024 + k.val, by omega⟩

/-- The chunk of a point, and what is carried into it. -/
def chunk (n : ℕ) : Fin 32 := ⟨31 - n, by omega⟩
def st : ℕ → Q
  | 0 => Q.none
  | n + 1 => (st n).next (G.at' (chunk n) (st n))
def r (c : Fin 32) : R := G.at' c (G.st (31 - c.val))

theorem r_chunk (n : ℕ) (h : n < 32) : G.at' (chunk n) (G.st n) = G.r (chunk n) := by
  unfold r
  congr 2
  show n = 31 - (31 - n)
  omega

theorem D_last : (G.r 31).D = fun _ _ => 0 := rfl
theorem h_last : (G.r 31).h = fun _ _ => 0 := rfl
theorem carry (c c' : Fin 32) (h : c'.val = c.val + 1) : G.st (31 - c.val) = (G.st (31 - c'.val)).next (G.r c') := by
  have e : 31 - c.val = (31 - c'.val) + 1 := by omega
  rw [e]
  show (G.st (31 - c'.val)).next (G.at' (chunk (31 - c'.val)) (G.st (31 - c'.val))) = _
  rw [r_chunk _ _ (by omega)]
  congr 2
  exact Fin.ext (by show 31 - (31 - c'.val) = c'.val; omega)
theorem D_step (c c' : Fin 32) (h : c'.val = c.val + 1) : (G.r c).D = (G.r c').DH := by
  show (G.st (31 - c.val)).d = _
  rw [carry G c c' h]; rfl
theorem h_step (c c' : Fin 32) (h : c'.val = c.val + 1) : (G.r c).h = fun s k => (G.r c').DCV ⟨s.val, by omega⟩ k := by
  show (G.st (31 - c.val)).h = _
  rw [carry G c c' h]; rfl

/-- A sum that grows from point to point is the sum over the chunks. -/
theorem total (f : ℕ → ℝ) (a : Fin 32 → ℝ) (h0 : f 0 = 0) (hs : ∀ n, n < 32 → f (n + 1) = f n + a (chunk n)) : f 32 = ∑ c, a c := by
  have key : ∀ n, n ≤ 32 → f n = ∑ i ∈ Finset.range n, a (chunk i) := by
    intro n
    induction n with
    | zero => intro _; rw [h0]; rfl
    | succ n ih => intro hn; rw [hs n (by omega), ih (by omega), Finset.sum_range_succ]
  rw [key 32 le_rfl, ← Finset.sum_range_reflect, ← Fin.sum_univ_eq_sum_range (fun i => a (chunk (32 - 1 - i)))]
  refine Finset.sum_congr rfl fun c _ => congrArg a (Fin.ext ?_)
  show 31 - (32 - 1 - c.val) = c.val
  omega
theorem g_total (j : Fin 8) (k : Fin 1536) : (G.st 32).g j k = ∑ c, (G.r c).gAdd j k :=
  total (fun n => (G.st n).g j k) _ rfl fun n hn => by rw [← r_chunk G n hn]; rfl
theorem v_total (j : Fin 8) (k : Fin 1024) : (G.st 32).v j k = ∑ c, (G.r c).vAdd j k :=
  total (fun n => (G.st n).v j k) _ rfl fun n hn => by rw [← r_chunk G n hn]; rfl
theorem t_total (j : Fin 8) (k : Fin 128) : (G.st 32).t j k = ∑ c, (G.r c).tAdd j k :=
  total (fun n => (G.st n).t j k) _ rfl fun n hn => by rw [← r_chunk G n hn]; rfl

end G

end Cert.Ssd

end
-- ==== Proof.Ssd.IdentB.lean ====
/- The SSD backward kernel's stores at a later point, as one chunk's values. -/
module

public import proofs.«01_k».proof.Proof.Ssd.Lists

@[expose] public section

set_option maxRecDepth 16384

noncomputable section

namespace Cert.Ssd.Chunk

open Idealize.ShloMosaic Idealize.ShloMosaic.TcCoe Idealize.SL.Sem
open Cert.SsdIdeal Cert.SsdIdeal.Gen Cert.Ssd.Pair Cert.SsdIdeal.Run

variable {F : FTy → Type} [FloatOps F] (c : Dev nD) (i : grid0.Coords) (B : Bufs) (hc : ¬isFirst i) (X : Ins F) (S : Acc F)

set_option maxHeartbeats 8000000 in
theorem b_bc : runB.sl.HS5_4 c B X S = quad (dbO (ldB B X S) 0) (dbO (ldB B X S) 1) (dcO (ldB B X S) 0) (dcO (ldB B X S) 1) := quad_eq rfl rfl rfl rfl

theorem b_1190 : runB.sl.v1190 c B X S = glue (daP (ldB B X S)) := by
  rw [← read_tiles B.a25.view, ← b_da c]; rfl
theorem b_1203 : runB.sl.v1203 c B X S = glue (dxP (ldB B X S)) := by
  rw [← read_tiles B.a26.view, ← b_dx c]; rfl
theorem b_1256 : runB.sl.v1256 c B X S = dbc (ldB B X S) := by
  rw [dbc, ← read_quad B.a27.view, ← b_bc c]; rfl

theorem b_x : runB.sl.r_2 c B X = x (ldB B X S) := rfl
theorem b_pre : runB.sl.r_3 c B X = pre (ldB B X S) := rfl
theorem b_dtf : runB.sl.r_8 c B X S = dtf (ldB B X S) := rfl
theorem b_dy : runB.sl.r_22 c B X = dy (ldB B X S) := rfl
theorem b_xa : runB.sl.r_23 c B X = xa (ldB B X S) := rfl
theorem b_184 : runB.sl.r_184 c B X S = dadt (ldB B X S) := congrArg k0_pay362 (b_1190 c B X S)
theorem b_185 : runB.sl.r_185 c B X = expA (ldB B X S) := rfl
theorem b_186 : runB.sl.r_186 c B X S = dxa (ldB B X S) := by
  show k0_pay366 (runB.sl.r_8 c B X S) (runB.sl.r_22 c B X) (runB.sl.v1203 c B X S) _ = _
  rw [b_dtf, b_dy c B X S, b_1203]; rfl
theorem b_187 : runB.sl.r_187 c B X S = ddt (ldB B X S) := by
  show k0_pay367 (runB.sl.r_3 c B X) (runB.sl.r_23 c B X) (runB.sl.r_184 c B X S) (runB.sl.r_185 c B X) (runB.sl.v1203 c B X S) _ = _
  rw [b_pre c B X S, b_xa c B X S, b_184, b_185 c B X S, b_1203]; rfl
theorem b_1269 : runB.sl.v1269 c B X S = dcp (ldB B X S) := by
  rw [dcp, ← read_trip B.a24.view]
  show B.a24.view.readCov (trip (k0_pay374 (runB.sl.r c B X) (runB.sl.r_1 c B X) (runB.sl.r_186 c B X S)) (k0_pay375 (runB.sl.r c B X) (runB.sl.r_1 c B X) (runB.sl.v1256 c B X S)) _) _ = _
  rw [b_186, b_1256]; rfl
theorem b_190 : runB.sl.r_190 c B X S = dcv (ldB B X S) := congrArg k0_pay377 (b_1269 c B X S)
theorem b_194 : runB.sl.r_194 c B X S = k0_pay384 (dcp (ldB B X S)) := congrArg k0_pay384 (b_1269 c B X S)
theorem b_195 : runB.sl.r_195 c B X S = k0_pay387 (dcp (ldB B X S)) := congrArg k0_pay387 (b_1269 c B X S)
theorem b_193 : runB.sl.r_193 c B X S = k0_pay382 (dcp (ldB B X S)) (dcv (ldB B X S)) (ldB B X S).k3 (ldB B X S).k0 := by
  show k0_pay382 (runB.sl.v1269 c B X S) (runB.sl.r_190 c B X S) _ _ = _
  rw [b_1269, b_190]; rfl
theorem b_draw : k0_pay3 (runB.sl.r_196 c B X S) = draw (ldB B X S) := by
  show k0_pay3 (k0_pay388 (runB.sl.v1269 c B X S) (runB.sl.r_193 c B X S) (runB.sl.r_194 c B X S) _ _) = _
  rw [b_1269, b_193, b_194]; rfl

end Cert.Ssd.Chunk

end
-- ==== Proof.Ssd.Parts.lean ====
/- The kernel's lists of stores by their rectangles. -/
module

public import proofs.«01_k».proof.Proof.Ssd.Lists

@[expose] public section

noncomputable section

namespace Cert.Ssd.Chunk

open Idealize.ShloMosaic Idealize.ShloMosaic.TcCoe Idealize.SL.Sem
open Cert.SsdIdeal Cert.SsdIdeal.Gen Cert.Ssd.Pair Cert.SsdIdeal.Run Cert.Lift

variable {F : FTy → Type} [FloatOps F]

def outP (a : Vec F S128x1536 .bf16) (b : Vec F S128x384 .bf16) (c : Vec F S128x128 .bf16) (d : Vec F S128x1024 .bf16) : List (View.Piece (Elt F) S128x3072 .bf16) :=
  [⟨Rect.unit ![0, 1024] S128x1536.size inb_S128x3072_S128x1536_0_1024, a⟩, ⟨Rect.unit ![0, 2688] S128x384.size inb_S128x3072_S128x384_0_2688, b⟩,
   ⟨Rect.unit ![0, 2560] S128x128.size inb_S128x3072_S128x128_0_2560, c⟩, ⟨Rect.unit ![0, 0] S128x1024.size inb_S128x3072_S128x1024_0_0, d⟩]
def gP (a2 a1 a0 a3 a4 : Vec F S1x1536 .f32) (T : List (View.Piece (Elt F) S8x1536 .f32)) : List (View.Piece (Elt F) S8x1536 .f32) :=
  ⟨Rect.unit ![2, 0] S1x1536.size inb_S8x1536_S1x1536_2_0, a2⟩ :: ⟨Rect.unit ![1, 0] S1x1536.size inb_S8x1536_S1x1536_1_0, a1⟩ ::
  ⟨Rect.unit ![0, 0] S1x1536.size inb_S8x1536_S1x1536_0_0, a0⟩ :: ⟨Rect.unit ![3, 0] S1x1536.size inb_S8x1536_S1x1536_3_0, a3⟩ ::
  ⟨Rect.unit ![4, 0] S1x1536.size inb_S8x1536_S1x1536_4_0, a4⟩ :: T
def vP (a1 a2 : Vec F S1x1024 .f32) (a01 a00 : Vec F S1x512 .f32) (T : List (View.Piece (Elt F) S8x1024 .f32)) : List (View.Piece (Elt F) S8x1024 .f32) :=
  ⟨Rect.unit ![1, 0] S1x1024.size inb_S8x1024_S1x1024_1_0, a1⟩ :: ⟨Rect.unit ![2, 0] S1x1024.size inb_S8x1024_S1x1024_2_0, a2⟩ ::
  ⟨Rect.unit ![0, 512] S1x512.size inb_S8x1024_S1x512_0_512, a01⟩ :: ⟨Rect.unit ![0, 0] S1x512.size inb_S8x1024_S1x512_0_0, a00⟩ :: T
def tP (a : Vec F S1x128 .f32) (T : List (View.Piece (Elt F) S8x128 .f32)) : List (View.Piece (Elt F) S8x128 .f32) :=
  ⟨Rect.unit ![0, 0] S1x128.size inb_S8x128_S1x128_0_0, a⟩ :: T
def hP (a : Vec F S8x1536 .f32) (T : List (View.Piece (Elt F) S8x1536 .f32)) : List (View.Piece (Elt F) S8x1536 .f32) :=
  ⟨Rect.unit ![0, 0] S8x1536.size inb_S8x1536_S8x1536_0_0, a⟩ :: T

end Cert.Ssd.Chunk

end
-- ==== Proof.Ssd.TailB.lean ====
/- The stores of a later point of the SSD backward kernel. -/
module

public import proofs.«01_k».proof.Proof.Ssd.IdentB
public import proofs.«01_k».proof.Proof.Ssd.Parts

@[expose] public section

set_option maxRecDepth 16384

noncomputable section

namespace Cert.Ssd.Chunk
open Idealize.ShloMosaic Idealize.ShloMosaic.TcCoe Idealize.SL.Sem
open Cert.SsdIdeal Cert.SsdIdeal.Gen Cert.Ssd.Pair Cert.SsdIdeal.Run
variable {F : FTy → Type} [FloatOps F] (c : Dev nD) (i : grid0.Coords) (B : Bufs) (hc : ¬isFirst i) (X : Ins F) (S : Acc F)

theorem b_out : (runB c i B hc X S).1 = outL (ldB B X S) := by
  show outP (k0_pay3 (runB.sl.r_196 c B X S)) k0_pay372 (k0_pay371 (runB.sl.r_187 c B X S)) _ = _
  rw [b_draw, b_187]; rfl
theorem b_g : (runB c i B hc X S).2.1 = gL (ldB B X S) (ldAt B.h19 S.g ![0, 0] S1x1536.size inb_S8x1536_S1x1536_0_0)
    (ldAt B.h19 S.g ![1, 0] S1x1536.size inb_S8x1536_S1x1536_1_0) (ldAt B.h19 S.g ![2, 0] S1x1536.size inb_S8x1536_S1x1536_2_0)
    (ldAt B.h19 S.g ![3, 0] S1x1536.size inb_S8x1536_S1x1536_3_0) (ldAt B.h19 S.g ![4, 0] S1x1536.size inb_S8x1536_S1x1536_4_0) [] := by
  show gP (k0_pay1 (runB.sl.r_192 c B X) (runB.sl.r_195 c B X S) _) (k0_pay386 (runB.sl.r_192 c B X) (runB.sl.r_194 c B X S) _) (k0_pay383 (runB.sl.v1269 c B X S) _ _ _) (k0_pay380 (runB.sl.r_190 c B X S) _ _ _) (k0_pay378 (runB.sl.r_190 c B X S) _) [] = _
  rw [b_195, b_194, b_1269, b_190]; rfl
theorem b_v : (runB c i B hc X S).2.2.1 = vL (ldB B X S) (ldAt B.h20 S.v ![0, 0] S1x512.size inb_S8x1024_S1x512_0_0)
    (ldAt B.h20 S.v ![0, 512] S1x512.size inb_S8x1024_S1x512_0_512) (ldAt B.h20 S.v ![1, 0] S1x1024.size inb_S8x1024_S1x1024_1_0)
    (ldAt B.h20 S.v ![2, 0] S1x1024.size inb_S8x1024_S1x1024_2_0) [] := by
  show vP (k0_pay365 (runB.sl.r_8 c B X S) (runB.sl.r_184 c B X S) (runB.sl.r_185 c B X) _) _ _ _ [] = _
  rw [b_184, b_dtf]; rfl
theorem b_t : (runB c i B hc X S).2.2.2.1 = tL (ldB B X S) (ldAt B.h21 S.t ![0, 0] S1x128.size inb_S8x128_S1x128_0_0) [] := by
  show tP (k0_pay370 _ (k0_pay369 (runB.sl.r_3 c B X) (runB.sl.r_23 c B X) (runB.sl.r_184 c B X S) (runB.sl.r_185 c B X) (runB.sl.v1203 c B X S) _)) [] = _
  rw [b_pre c B X S, b_xa c B X S, b_184, b_185 c B X S, b_1203]; rfl
theorem b_h : (runB c i B hc X S).2.2.2.2.2.1 = hL (ldB B X S) [] := by
  show hP (k0_pay2 (runB.sl.r_190 c B X S)) [] = _
  rw [b_190]; rfl

end Cert.Ssd.Chunk

end
-- ==== Proof.Ssd.StepB.lean ====
/- A later point of the SSD backward kernel on real numbers. -/
module

public import proofs.«01_k».proof.Proof.Ssd.Global
public import proofs.«01_k».proof.Proof.Ssd.TailB

@[expose] public section

set_option maxRecDepth 16384

noncomputable section

namespace Cert.Ssd.Chunk

open Idealize.ShloMosaic Idealize.ShloMosaic.TcCoe Idealize.SL.Sem Idealize.ShloMosaic.Tactic
open Cert.SsdIdeal Cert.SsdIdeal.Gen Cert.SsdIdeal.Run Cert.Lift Cert.Ssd.Pair Cert.Ssd.Front

/-- The blocks of a point are a chunk's real values. -/
structure InsOf (X : Ins Ideal) (r : R) : Prop where
  x0 : X.x0 = up2 r.xs
  x1 : X.x1 = up2 r.bc
  x4 : X.x4 = up2 r.dt
  x5 : X.x5 = up2 r.z
  x6 : X.x6 = up2 r.y
  x7 : X.x7 = up3 fun (_ : Fin 1) n k => r.H n k
  x8 : X.x8 = up2 r.dm
  x9 : X.x9 = up2 (![r.k0 0, r.k1 0, r.k2 0, r.k3 0] : Fin 4 → Fin 1536 → ℝ)
  x11 : X.x11 = up2 r.dtb
  x12 : X.x12 = up2 r.alog
  x13 : X.x13 = up2 fun (_ : Fin 1) k => r.alog 0 (hl k)
  x14 : X.x14 = up2 r.df
  x15 : X.x15 = up2 r.w
  x16 : X.x16 = up2 r.cv

theorem one_row {n : ℕ} (f : Fin 1 → Fin n → ℝ) : (fun (_ : Fin 1) k => f 0 k) = f := by
  funext a k; rw [Subsingleton.elim a 0]

/-- The four taps' rows. -/
theorem tap {a : Memref sig .tc .vmem S4x1536 .f32} (h : a.IsWhole) (f : Fin 4 → Fin 1536 → ℝ) (j : ℕ) (hj : j < 4)
    (inb : ∀ a, (![j, 0] : Fin 2 → ℕ) a + S1x1536.size a ≤ S4x1536.size a) (g : Fin 1 → Fin 1536 → ℝ) (e : f ⟨j, hj⟩ = g 0) :
    ldAt (F := Ideal) h (up2 f) ![j, 0] S1x1536.size inb = up2 g := by
  refine (ldAt_up2 h f inb).trans ?_
  congr 1
  funext r c
  rw [Subsingleton.elim r 0, ← e]
  congr 1
  exact Fin.ext (by simp)
theorem halves {a : Memref sig .tc .vmem S1x1024 .f32} (h : a.IsWhole) (f : Fin 1 → Fin 1024 → ℝ) (g : Fin 2) (q : ℕ) (hq : q = 512 * g.val)
    (inb : ∀ a, (![0, q] : Fin 2 → ℕ) a + S1x512.size a ≤ S1x1024.size a) :
    ldAt (F := Ideal) h (up2 f) ![0, q] S1x512.size inb = up2 fun a j => f a (gcol g j) := by
  subst hq
  refine (ldAt_up2 h f inb).trans ?_
  congr 1
  funext r c
  rw [Subsingleton.elim r 0]
  congr 1
theorem state {a : Memref sig .tc .vmem S1x128x1024 .f32} (h : a.IsWhole) (f : Fin 128 → Fin 1024 → ℝ) (p : Fin 8) :
    ldAt (F := Ideal) h (up3 fun (_ : Fin 1) n k => f n k) ![0, 0, 128 * p.val] S1x128x128.size (inb_h p) = up3 fun (_ : Fin 1) n q => f n (colp p q) := by
  funext i
  refine (h.readAt_unread _ _ i).trans ?_
  show ((f _ _ : ℝ) : EReal) = ((f _ _ : ℝ) : EReal)
  congr 2
  · exact Fin.ext (by show 0 + 1 * (i 1).val = (i 1).val; omega)
  · exact Fin.ext (by show 128 * p.val + 1 * (i 2).val = 128 * p.val + (i 2).val; omega)
theorem block {a : Memref sig .tc .vmem S128x1024 .f32} (h : a.IsWhole) (f : Fin 128 → Fin 1024 → ℝ) (p : Fin 8) :
    ldAt (F := Ideal) h (up2 f) ![0, 128 * p.val] S128x128.size (inb_d p) = up2 fun n q => f n (colp p q) := by
  refine (ldAt_up2 h f (inb_d p)).trans ?_
  congr 1
  funext r c
  congr 1
  exact Fin.ext (by simp)

variable (c : Dev nD) (i : grid0.Coords) (B : Bufs)

theorem ldB_up {X : Ins Ideal} {r : R} (h : InsOf X r) (q : Q) (hd : r.D = q.d) (hh : r.h = q.h) : ldB B X q.acc = r.ld := by
  unfold ldB R.ld Q.acc
  rw [h.x0, h.x1, h.x4, h.x5, h.x6, h.x7, h.x8, h.x9, h.x11, h.x12, h.x13, h.x14, h.x15, h.x16, hd, hh]
  congr 1
  all_goals first
    | exact ldAt_whole _ _ _
    | exact tap _ _ _ (by decide) _ _ rfl
    | exact halves _ _ 0 _ rfl _
    | exact halves _ _ 1 _ rfl _
    | exact funext fun p => state _ _ p
    | exact funext fun p => block _ _ p

theorem row_g {a : Memref sig .tc .vmem S8x1536 .f32} (h : a.IsWhole) (f : Fin 8 → Fin 1536 → ℝ) (j : ℕ) (hj : j < 8)
    (inb : ∀ a, (![j, 0] : Fin 2 → ℕ) a + S1x1536.size a ≤ S8x1536.size a) : ldAt (F := Ideal) h (up2 f) ![j, 0] S1x1536.size inb = up2 (rowOf f ⟨j, hj⟩) := by
  refine (ldAt_up2 h f inb).trans ?_
  congr 1
  funext r c
  rw [Subsingleton.elim r 0]
  congr 1
  exact Fin.ext (by simp)
theorem row_v {a : Memref sig .tc .vmem S8x1024 .f32} (h : a.IsWhole) (f : Fin 8 → Fin 1024 → ℝ) (j : ℕ) (hj : j < 8)
    (inb : ∀ a, (![j, 0] : Fin 2 → ℕ) a + S1x1024.size a ≤ S8x1024.size a) : ldAt (F := Ideal) h (up2 f) ![j, 0] S1x1024.size inb = up2 (rowOf f ⟨j, hj⟩) := by
  refine (ldAt_up2 h f inb).trans ?_
  congr 1
  funext r c
  rw [Subsingleton.elim r 0]
  congr 1
  exact Fin.ext (by simp)
theorem row_t {a : Memref sig .tc .vmem S8x128 .f32} (h : a.IsWhole) (f : Fin 8 → Fin 128 → ℝ)
    (inb : ∀ a, (![0, 0] : Fin 2 → ℕ) a + S1x128.size a ≤ S8x128.size a) : ldAt (F := Ideal) h (up2 f) ![0, 0] S1x128.size inb = up2 (rowOf f 0) := by
  refine (ldAt_up2 h f inb).trans ?_
  congr 1
  funext r c
  rw [Subsingleton.elim r 0]
  congr 1
  exact Fin.ext (by simp)
theorem half_v {a : Memref sig .tc .vmem S8x1024 .f32} (h : a.IsWhole) (f : Fin 8 → Fin 1024 → ℝ) (q : ℕ) (hq : q + 512 ≤ 1024)
    (inb : ∀ a, (![0, q] : Fin 2 → ℕ) a + S1x512.size a ≤ S8x1024.size a) : ldAt (F := Ideal) h (up2 f) ![0, q] S1x512.size inb = up2 fun (_ : Fin 1) (j : Fin 512) => f 0 ⟨q + j.val, by omega⟩ := by
  refine (ldAt_up2 h f inb).trans ?_
  congr 1
  funext r c
  rw [Subsingleton.elim r 0]
  congr 1

theorem base {s : Shape} {e : EltTy} {a : Memref sig .tc .vmem s e} (h : a.IsWhole) (x : Vec Ideal s e) :
    a.view.read (Elt Ideal) (a.view.writes (Elt Ideal) (h.unread x) []) = x := by
  rw [View.writes_nil]; exact h.read_unread x

theorem accB_up {X : Ins Ideal} {r : R} (hc : ¬isFirst i) (h : InsOf X r) (q : Q) (hd : r.D = q.d) (hh : r.h = q.h) :
    accB c i B X hc q.acc = (q.next r).acc := by
  have e := ldB_up B h q hd hh
  unfold accB
  simp only [b_g, b_v, b_t, b_h, b_dh, e]
  rw [fill_canon B.a22 _ (cover_tiles _), canon_tiles, R.glue_up _ _ (R.dhP_up r)]
  unfold Q.acc Q.next
  congr 1
  · simp only [row_g B.h19 q.g 0 (by decide), row_g B.h19 q.g 1 (by decide), row_g B.h19 q.g 2 (by decide), row_g B.h19 q.g 3 (by decide), row_g B.h19 q.g 4 (by decide)]
    exact g_read r q.g B.a19.view _ [] (base _ _)
  · simp only [row_v B.h20 q.v 1 (by decide), row_v B.h20 q.v 2 (by decide), half_v B.h20 q.v 0 (by decide), half_v B.h20 q.v 512 (by decide), Nat.zero_add]
    exact v_read r q.v B.a20.view _ [] (base _ _)
  · simp only [row_t B.h21 q.t]
    exact t_read r q.t B.a21.view _ [] (base _ _)
  · exact h_read r B.a23.view _ []
theorem tileB_up {X : Ins Ideal} {r : R} (hc : ¬isFirst i) (h : InsOf X r) (q : Q) (hd : r.D = q.d) (hh : r.h = q.h) :
    fill B.a18 (runB c i B hc X q.acc).1 = up2 r.OUT := by
  rw [b_out, ldB_up B h q hd hh]
  exact out_read r B.a18.view _

end Cert.Ssd.Chunk

end
-- ==== Proof.Ssd.IdentA.lean ====
/- The SSD backward kernel's stores at a first point, as one chunk's values. -/
module

public import proofs.«01_k».proof.Proof.Ssd.Lists

@[expose] public section

set_option maxRecDepth 16384

noncomputable section

namespace Cert.Ssd.Chunk

open Idealize.ShloMosaic Idealize.ShloMosaic.TcCoe Idealize.SL.Sem
open Cert.SsdIdeal Cert.SsdIdeal.Gen Cert.Ssd.Pair Cert.SsdIdeal.Run

variable {F : FTy → Type} [FloatOps F]

/-- Eight blocks by number. -/
def eight (a0 a1 a2 a3 a4 a5 a6 a7 : Sq F) : Fin 8 → Sq F
  | 0 => a0 | 1 => a1 | 2 => a2 | 3 => a3 | 4 => a4 | 5 => a5 | 6 => a6 | 7 => a7

/-- What the first point loads: the state it clears, read while its blocks are overwritten one by one. -/
def ldA (c : Dev nD) (B : Bufs) (X : Ins F) : Ld F where
  cv := ldAt B.h17 X.x16 ![0, 0] S128x1536.size inb_S128x1536_S128x1536_0_0
  dt := ldAt B.h5 X.x4 ![0, 0] S128x128.size inb_S128x128_S128x128_0_0
  dtb := ldAt B.h12 X.x11 ![0, 0] S1x128.size inb_S1x128_S1x128_0_0
  alog := ldAt B.h13 X.x12 ![0, 0] S1x128.size inb_S1x128_S1x128_0_0
  e := runA.sl.v41 c B
  y := ldAt B.h7 X.x6 ![0, 0] S128x1024.size inb_S128x1024_S128x1024_0_0
  z := ldAt B.h6 X.x5 ![0, 0] S128x1024.size inb_S128x1024_S128x1024_0_0
  dm := ldAt B.h9 X.x8 ![0, 0] S128x1024.size inb_S128x1024_S128x1024_0_0
  w0 := ldAt B.h16 X.x15 ![0, 0] S1x512.size inb_S1x1024_S1x512_0_0
  w1 := ldAt B.h16 X.x15 ![0, 512] S1x512.size inb_S1x1024_S1x512_0_512
  hp p := ldAt B.h8 X.x7 ![0, 0, 128 * p.val] S1x128x128.size (inb_h p)
  d := eight (runA.sl.v217 c B) (runA.sl.v336 c B X) (runA.sl.v455 c B X) (runA.sl.v574 c B X) (runA.sl.v712 c B X) (runA.sl.v831 c B X) (runA.sl.v950 c B X) (runA.sl.v1069 c B X)
  alf := ldAt B.h14 X.x13 ![0, 0] S1x1024.size inb_S1x1024_S1x1024_0_0
  df := ldAt B.h15 X.x14 ![0, 0] S1x1024.size inb_S1x1024_S1x1024_0_0
  f := runA.sl.v1222 c B
  k0 := ldAt B.h10 X.x9 ![0, 0] S1x1536.size inb_S4x1536_S1x1536_0_0
  k1 := ldAt B.h10 X.x9 ![1, 0] S1x1536.size inb_S4x1536_S1x1536_1_0
  k2 := ldAt B.h10 X.x9 ![2, 0] S1x1536.size inb_S4x1536_S1x1536_2_0
  k3 := ldAt B.h10 X.x9 ![3, 0] S1x1536.size inb_S4x1536_S1x1536_3_0
  h := runA.sl.v1265 c B
  xs := ldAt B.h1 X.x0 ![0, 0] S128x1024.size inb_S128x1024_S128x1024_0_0
  bc := ldAt B.h2 X.x1 ![0, 0] S128x512.size inb_S128x512_S128x512_0_0

variable (c : Dev nD) (i : grid0.Coords) (B : Bufs) (hc : isFirst i) (X : Ins F)

theorem tiles_tail {v : Fin 8 → Sq F} {a0 a1 a2 a3 a4 a5 a6 a7 : Sq F} (T : List (View.Piece (Elt F) S128x1024 .f32)) (h0 : a0 = put (v 0)) (h1 : a1 = put (v 1))
    (h2 : a2 = put (v 2)) (h3 : a3 = put (v 3)) (h4 : a4 = put (v 4)) (h5 : a5 = put (v 5)) (h6 : a6 = put (v 6)) (h7 : a7 = put (v 7)) :
    ⟨Rect.unit ![0, 896] S128x128.size inb_S128x1024_S128x128_0_896, a7⟩ ::
    ⟨Rect.unit ![0, 768] S128x128.size inb_S128x1024_S128x128_0_768, a6⟩ ::
    ⟨Rect.unit ![0, 640] S128x128.size inb_S128x1024_S128x128_0_640, a5⟩ ::
    ⟨Rect.unit ![0, 512] S128x128.size inb_S128x1024_S128x128_0_512, a4⟩ ::
    ⟨Rect.unit ![0, 384] S128x128.size inb_S128x1024_S128x128_0_384, a3⟩ ::
    ⟨Rect.unit ![0, 256] S128x128.size inb_S128x1024_S128x128_0_256, a2⟩ ::
    ⟨Rect.unit ![0, 128] S128x128.size inb_S128x1024_S128x128_0_128, a1⟩ ::
    ⟨Rect.unit ![0, 0] S128x128.size inb_S128x1024_S128x128_0_0, a0⟩ :: T = tiles v ++ T := by
  subst h0 h1 h2 h3 h4 h5 h6 h7; rfl

set_option maxHeartbeats 8000000 in
theorem a_dx : runA.sl.HS4_8 c B X = tiles (dxP (ldA c B X)) := tiles_eq rfl rfl rfl rfl rfl rfl rfl rfl
set_option maxHeartbeats 8000000 in
theorem a_da : runA.sl.HS3_8 c B X = tiles (daP (ldA c B X)) := tiles_eq rfl rfl rfl rfl rfl rfl rfl rfl
set_option maxHeartbeats 8000000 in
theorem a_dh : (runA c i B hc X).2.2.2.2.1 = tiles (dhP (ldA c B X)) ++ [⟨Rect.unit ![0, 0] S128x1024.size inb_S128x1024_S128x1024_0_0, k0_pay10⟩] :=
  tiles_tail _ rfl rfl rfl rfl rfl rfl rfl rfl
set_option maxHeartbeats 8000000 in
theorem a_bc : runA.sl.HS5_4 c B X = quad (dbO (ldA c B X) 0) (dbO (ldA c B X) 1) (dcO (ldA c B X) 0) (dcO (ldA c B X) 1) := quad_eq rfl rfl rfl rfl

theorem a_1190 : runA.sl.v1190 c B X = glue (daP (ldA c B X)) := by
  rw [← read_tiles B.a25.view, ← a_da c]; rfl
theorem a_1203 : runA.sl.v1203 c B X = glue (dxP (ldA c B X)) := by
  rw [← read_tiles B.a26.view, ← a_dx c]; rfl
theorem a_1256 : runA.sl.v1256 c B X = dbc (ldA c B X) := by
  rw [dbc, ← read_quad B.a27.view, ← a_bc c]; rfl

theorem a_x : runA.sl.r_2 c B X = x (ldA c B X) := rfl
theorem a_pre : runA.sl.r_3 c B X = pre (ldA c B X) := rfl
theorem a_dtf : runA.sl.r_8 c B X = dtf (ldA c B X) := rfl
theorem a_dy : runA.sl.r_22 c B X = dy (ldA c B X) := rfl
theorem a_xa : runA.sl.r_23 c B X = xa (ldA c B X) := rfl
theorem a_184 : runA.sl.r_184 c B X = dadt (ldA c B X) := congrArg k0_pay362 (a_1190 c B X)
theorem a_185 : runA.sl.r_185 c B X = expA (ldA c B X) := rfl
theorem a_186 : runA.sl.r_186 c B X = dxa (ldA c B X) := by
  show k0_pay366 (runA.sl.r_8 c B X) (runA.sl.r_22 c B X) (runA.sl.v1203 c B X) _ = _
  rw [a_dtf, a_dy c B X, a_1203]; rfl
theorem a_187 : runA.sl.r_187 c B X = ddt (ldA c B X) := by
  show k0_pay367 (runA.sl.r_3 c B X) (runA.sl.r_23 c B X) (runA.sl.r_184 c B X) (runA.sl.r_185 c B X) (runA.sl.v1203 c B X) _ = _
  rw [a_pre c B X, a_xa c B X, a_184, a_185 c B X, a_1203]; rfl
theorem a_1269 : runA.sl.v1269 c B X = dcp (ldA c B X) := by
  rw [dcp, ← read_trip B.a24.view]
  show B.a24.view.readCov (trip (k0_pay374 (runA.sl.r c B X) (runA.sl.r_1 c B X) (runA.sl.r_186 c B X)) (k0_pay375 (runA.sl.r c B X) (runA.sl.r_1 c B X) (runA.sl.v1256 c B X)) _) _ = _
  rw [a_186, a_1256]; rfl
theorem a_190 : runA.sl.r_190 c B X = dcv (ldA c B X) := congrArg k0_pay377 (a_1269 c B X)
theorem a_194 : runA.sl.r_193 c B X = k0_pay384 (dcp (ldA c B X)) := congrArg k0_pay384 (a_1269 c B X)
theorem a_195 : runA.sl.r_194 c B X = k0_pay387 (dcp (ldA c B X)) := congrArg k0_pay387 (a_1269 c B X)
theorem a_193 : runA.sl.r_192 c B X = k0_pay382 (dcp (ldA c B X)) (dcv (ldA c B X)) (ldA c B X).k3 (ldA c B X).k0 := by
  show k0_pay382 (runA.sl.v1269 c B X) (runA.sl.r_190 c B X) _ _ = _
  rw [a_1269, a_190]; rfl
theorem a_draw : k0_pay3 (runA.sl.r_195 c B X) = draw (ldA c B X) := by
  show k0_pay3 (k0_pay388 (runA.sl.v1269 c B X) (runA.sl.r_192 c B X) (runA.sl.r_193 c B X) _ _) = _
  rw [a_1269, a_193, a_194]; rfl

end Cert.Ssd.Chunk

end
-- ==== Proof.Ssd.TailA.lean ====
/- The stores of the first point of the SSD backward kernel. -/
module

public import proofs.«01_k».proof.Proof.Ssd.IdentA
public import proofs.«01_k».proof.Proof.Ssd.Parts

@[expose] public section

set_option maxRecDepth 16384

noncomputable section

namespace Cert.Ssd.Chunk
open Idealize.ShloMosaic Idealize.ShloMosaic.TcCoe Idealize.SL.Sem
open Cert.SsdIdeal Cert.SsdIdeal.Gen Cert.Ssd.Pair Cert.SsdIdeal.Run
variable {F : FTy → Type} [FloatOps F]
variable (c : Dev nD) (i : grid0.Coords) (B : Bufs) (hc : isFirst i) (X : Ins F)

theorem a_out : (runA c i B hc X).1 = outL (ldA c B X) := by
  show outP (k0_pay3 (runA.sl.r_195 c B X)) k0_pay372 (k0_pay371 (runA.sl.r_187 c B X)) _ = _
  rw [a_draw, a_187]; rfl
theorem a_g : (runA c i B hc X).2.1 = gL (ldA c B X) (runA.sl.v1298 c B X) (runA.sl.v1311 c B X) (runA.sl.v1324 c B X) (runA.sl.v1285 c B X) (runA.sl.v1271 c B) [⟨Rect.unit ![0, 0] S8x1536.size inb_S8x1536_S8x1536_0_0, k0_pay12⟩] := by
  show gP (k0_pay1 (runA.sl.r_191 c B X) (runA.sl.r_194 c B X) _) (k0_pay386 (runA.sl.r_191 c B X) (runA.sl.r_193 c B X) _) (k0_pay383 (runA.sl.v1269 c B X) _ _ _) (k0_pay380 (runA.sl.r_190 c B X) _ _ _) (k0_pay378 (runA.sl.r_190 c B X) _) _ = _
  rw [a_195, a_194, a_1269, a_190]; rfl
theorem a_v : (runA c i B hc X).2.2.1 = vL (ldA c B X) (runA.sl.v119 c B) (runA.sl.v152 c B X) (runA.sl.v1208 c B X) (runA.sl.v187 c B X) [⟨Rect.unit ![0, 0] S8x1024.size inb_S8x1024_S8x1024_0_0, k0_pay13⟩] := by
  show vP (k0_pay365 (runA.sl.r_8 c B X) (runA.sl.r_184 c B X) (runA.sl.r_185 c B X) _) _ _ _ _ = _
  rw [a_184, a_dtf]; rfl
theorem a_t : (runA c i B hc X).2.2.2.1 = tL (ldA c B X) (runA.sl.v1238 c B) [⟨Rect.unit ![0, 0] S8x128.size inb_S8x128_S8x128_0_0, k0_pay14⟩] := by
  show tP (k0_pay370 _ (k0_pay369 (runA.sl.r_3 c B X) (runA.sl.r_23 c B X) (runA.sl.r_184 c B X) (runA.sl.r_185 c B X) (runA.sl.v1203 c B X) _)) _ = _
  rw [a_pre c B X, a_xa c B X, a_184, a_185 c B X, a_1203]; rfl
theorem a_h : (runA c i B hc X).2.2.2.2.2.1 = hL (ldA c B X) [⟨Rect.unit ![0, 0] S8x1536.size inb_S8x1536_S8x1536_0_0, k0_pay11⟩] := by
  show hP (k0_pay2 (runA.sl.r_190 c B X)) _ = _
  rw [a_190]; rfl

end Cert.Ssd.Chunk

end
-- ==== Proof.Ssd.StepA.lean ====
/- The first point of the SSD backward kernel on real numbers. -/
module

public import proofs.«01_k».proof.Proof.Ssd.StepB
public import proofs.«01_k».proof.Proof.Ssd.TailA

@[expose] public section

set_option maxRecDepth 16384

noncomputable section

namespace Cert.Ssd.Chunk

open Idealize.ShloMosaic Idealize.ShloMosaic.TcCoe Idealize.SL.Sem Idealize.ShloMosaic.Tactic
open Cert.SsdIdeal Cert.SsdIdeal.Gen Cert.SsdIdeal.Run Cert.Lift Cert.Ssd.Pair Cert.Ssd.Front

/-- A load of what one whole store left. -/
theorem load_one {s : Shape} {e : EltTy} (v : View sig .tc .vmem s e) {o : Fin s.rank → ℕ} (inb : ∀ a, o a + s.size a ≤ s.size a) (w : Vec Ideal s e)
    (ho : ∀ a, o a = 0) (B : LoadRect s) : v.readCov [(⟨Rect.unit o s.size inb, w⟩ : View.Piece (Elt Ideal) s e)] B = fun j => w (B.idx j) := by
  rw [View.readCov_eq_canon', View.canon_cons_unit_lit inb w [] ho]
theorem fill_one {s : Shape} {e : EltTy} (a : Memref sig .tc .vmem s e) {o : Fin s.rank → ℕ} (inb : ∀ a, o a + s.size a ≤ s.size a) (w : Vec Ideal s e)
    (ho : ∀ a, o a = 0) : fill a [(⟨Rect.unit o s.size inb, w⟩ : View.Piece (Elt Ideal) s e)] = w := by
  funext j
  exact (View.read_writes_junk_apply_eq_canon a.view j _).trans (congrFun (View.canon_cons_unit_lit inb w [] ho) j)

/-- A piece away from a load does not change it. -/
theorem load_skip {s : Shape} {e : EltTy} (v : View sig .tc .vmem s e) (p : View.Piece (Elt Ideal) s e) (L : List (View.Piece (Elt Ideal) s e)) (B : LoadRect s)
    (h : Disjoint p.1.set B.set) {w : B.shape.Idx → Elt Ideal e} (e' : v.readCov L B = w) : v.readCov (p :: L) B = w :=
  (View.readCov_cons_of_disjoint v p L B h).trans e'

theorem load_past {s : Shape} {e : EltTy} (v : View sig .tc .vmem s e) (a : Fin s.rank) {o n o' n' : Fin s.rank → ℕ} (inb : ∀ a, o a + n a ≤ s.size a) (inb' : ∀ a, o' a + n' a ≤ s.size a)
    (w : Vec Ideal (Rect.unit o n inb).shape e) (L : List (View.Piece (Elt Ideal) s e)) {x : (Rect.unit o' n' inb').toLoadRect.shape.Idx → Elt Ideal e}
    (h : o a + n a ≤ o' a ∨ o' a + n' a ≤ o a) (e' : v.readCov L (Rect.unit o' n' inb').toLoadRect = x) :
    v.readCov ((⟨Rect.unit o n inb, w⟩ : View.Piece (Elt Ideal) s e) :: L) (Rect.unit o' n' inb').toLoadRect = x := by
  have hd : Disjoint (Rect.unit o n inb).toLoadRect.set (Rect.unit o' n' inb').toLoadRect.set := Rect.unit_disjoint a h
  exact load_skip v (⟨Rect.unit o n inb, w⟩ : View.Piece (Elt Ideal) s e) L (Rect.unit o' n' inb').toLoadRect hd e'

theorem canon_tail (v : Fin 8 → Sq Ideal) (T : List (View.Piece (Elt Ideal) S128x1024 .f32)) : View.canon (tiles v ++ T) = glue v := by
  funext i; idx_vars i
  simp only [tiles, List.cons_append, List.nil_append]
  iterate 8
    refine (canon_tile _ _ _ _ _).trans ?_
    split
    · exact at_block v _ _ _ _ _ _ _ (by omega) (by first | omega | simp | (simp; omega))
  omega

theorem fill_tiles (a : Memref sig .tc .vmem S128x1024 .f32) (v : Fin 8 → Sq Ideal) (T : List (View.Piece (Elt Ideal) S128x1024 .f32)) : fill a (tiles v ++ T) = glue v := by
  refine (fill_canon a _ fun y => ?_).trans (canon_tail v T)
  obtain ⟨p, hp, hy⟩ := cover_tiles v y
  exact ⟨p, List.mem_append_left _ hp, hy⟩

variable (c : Dev nD) (i : grid0.Coords) (B : Bufs) (X : Ins Ideal)

theorem z1271 : runA.sl.v1271 (F := Idealize.ShloMosaic.Ideal) c B = (up2 (rowOf (fun _ _ => 0) (4 : Fin 8))) := by
  refine (load_one B.a19.view inb_S8x1536_S8x1536_0_0 (k0_pay12 (F := Idealize.ShloMosaic.Ideal)) (by decide) _).trans ?_
  rw [p12]; rfl
theorem z1285 : runA.sl.v1285 c B X = up2 (rowOf (fun _ _ => 0) (3 : Fin 8)) := by
  refine load_past _ 0 _ _ _ _ (by decide) ?_
  refine (load_one B.a19.view inb_S8x1536_S8x1536_0_0 (k0_pay12 (F := Idealize.ShloMosaic.Ideal)) (by decide) _).trans ?_
  rw [p12]; rfl
theorem z1298 : runA.sl.v1298 c B X = up2 (rowOf (fun _ _ => 0) (0 : Fin 8)) := by
  refine load_past _ 0 _ _ _ _ (by decide) ?_
  refine load_past _ 0 _ _ _ _ (by decide) ?_
  refine (load_one B.a19.view inb_S8x1536_S8x1536_0_0 (k0_pay12 (F := Idealize.ShloMosaic.Ideal)) (by decide) _).trans ?_
  rw [p12]; rfl
theorem z1311 : runA.sl.v1311 c B X = up2 (rowOf (fun _ _ => 0) (1 : Fin 8)) := by
  iterate 3 refine load_past _ 0 _ _ _ _ (by decide) ?_
  refine (load_one B.a19.view inb_S8x1536_S8x1536_0_0 (k0_pay12 (F := Idealize.ShloMosaic.Ideal)) (by decide) _).trans ?_
  rw [p12]; rfl
theorem z1324 : runA.sl.v1324 c B X = up2 (rowOf (fun _ _ => 0) (2 : Fin 8)) := by
  iterate 4 refine load_past _ 0 _ _ _ _ (by decide) ?_
  refine (load_one B.a19.view inb_S8x1536_S8x1536_0_0 (k0_pay12 (F := Idealize.ShloMosaic.Ideal)) (by decide) _).trans ?_
  rw [p12]; rfl
theorem z119 : runA.sl.v119 (F := Idealize.ShloMosaic.Ideal) c B = (up2 fun (_ : Fin 1) (_ : Fin 512) => 0) := by
  refine (load_one B.a20.view inb_S8x1024_S8x1024_0_0 (k0_pay13 (F := Idealize.ShloMosaic.Ideal)) (by decide) _).trans ?_
  rw [p13]; rfl
theorem z152 : runA.sl.v152 c B X = up2 fun (_ : Fin 1) (_ : Fin 512) => 0 := by
  refine load_past _ 1 _ _ _ _ (by decide) ?_
  refine (load_one B.a20.view inb_S8x1024_S8x1024_0_0 (k0_pay13 (F := Idealize.ShloMosaic.Ideal)) (by decide) _).trans ?_
  rw [p13]; rfl
theorem z187 : runA.sl.v187 c B X = up2 (rowOf (fun _ _ => 0) (2 : Fin 8)) := by
  iterate 2 refine load_past _ 0 _ _ _ _ (by decide) ?_
  refine (load_one B.a20.view inb_S8x1024_S8x1024_0_0 (k0_pay13 (F := Idealize.ShloMosaic.Ideal)) (by decide) _).trans ?_
  rw [p13]; rfl
theorem z1208 : runA.sl.v1208 c B X = up2 (rowOf (fun _ _ => 0) (1 : Fin 8)) := by
  iterate 3 refine load_past _ 0 _ _ _ _ (by decide) ?_
  refine (load_one B.a20.view inb_S8x1024_S8x1024_0_0 (k0_pay13 (F := Idealize.ShloMosaic.Ideal)) (by decide) _).trans ?_
  rw [p13]; rfl
theorem z1238 : runA.sl.v1238 (F := Idealize.ShloMosaic.Ideal) c B = (up2 (rowOf (fun _ _ => 0) (0 : Fin 8))) := by
  refine (load_one B.a21.view inb_S8x128_S8x128_0_0 (k0_pay14 (F := Idealize.ShloMosaic.Ideal)) (by decide) _).trans ?_
  rw [p14]; rfl
theorem z1265 : runA.sl.v1265 (F := Idealize.ShloMosaic.Ideal) c B = (up2 fun (_ : Fin 8) (_ : Fin 1536) => 0) := by
  refine (load_one B.a23.view inb_S8x1536_S8x1536_0_0 (k0_pay11 (F := Idealize.ShloMosaic.Ideal)) (by decide) _).trans ?_
  rw [p11]; rfl
theorem z41 : runA.sl.v41 (F := Idealize.ShloMosaic.Ideal) c B = up2 emR :=
  (View.readCov_cons_toLoadRect B.a28.view _ _ []).trans emat
theorem z1222 : runA.sl.v1222 (F := Idealize.ShloMosaic.Ideal) c B = up2 foldR :=
  (View.readCov_cons_toLoadRect B.a29.view _ _ []).trans fold_mat
theorem z217 : runA.sl.v217 (F := Idealize.ShloMosaic.Ideal) c B = (up2 fun (_ _ : Fin 128) => 0) := by
  refine (load_one B.a22.view inb_S128x1024_S128x1024_0_0 (k0_pay10 (F := Idealize.ShloMosaic.Ideal)) (by decide) _).trans ?_
  rw [p10]; rfl
theorem z336 : runA.sl.v336 c B X = up2 fun (_ _ : Fin 128) => 0 := by
  iterate 1 refine load_past _ 1 _ _ _ _ (by decide) ?_
  refine (load_one B.a22.view inb_S128x1024_S128x1024_0_0 (k0_pay10 (F := Idealize.ShloMosaic.Ideal)) (by decide) _).trans ?_
  rw [p10]; rfl
theorem z455 : runA.sl.v455 c B X = up2 fun (_ _ : Fin 128) => 0 := by
  iterate 2 refine load_past _ 1 _ _ _ _ (by decide) ?_
  refine (load_one B.a22.view inb_S128x1024_S128x1024_0_0 (k0_pay10 (F := Idealize.ShloMosaic.Ideal)) (by decide) _).trans ?_
  rw [p10]; rfl
theorem z574 : runA.sl.v574 c B X = up2 fun (_ _ : Fin 128) => 0 := by
  iterate 3 refine load_past _ 1 _ _ _ _ (by decide) ?_
  refine (load_one B.a22.view inb_S128x1024_S128x1024_0_0 (k0_pay10 (F := Idealize.ShloMosaic.Ideal)) (by decide) _).trans ?_
  rw [p10]; rfl
theorem z712 : runA.sl.v712 c B X = up2 fun (_ _ : Fin 128) => 0 := by
  iterate 4 refine load_past _ 1 _ _ _ _ (by decide) ?_
  refine (load_one B.a22.view inb_S128x1024_S128x1024_0_0 (k0_pay10 (F := Idealize.ShloMosaic.Ideal)) (by decide) _).trans ?_
  rw [p10]; rfl
theorem z831 : runA.sl.v831 c B X = up2 fun (_ _ : Fin 128) => 0 := by
  iterate 5 refine load_past _ 1 _ _ _ _ (by decide) ?_
  refine (load_one B.a22.view inb_S128x1024_S128x1024_0_0 (k0_pay10 (F := Idealize.ShloMosaic.Ideal)) (by decide) _).trans ?_
  rw [p10]; rfl
theorem z950 : runA.sl.v950 c B X = up2 fun (_ _ : Fin 128) => 0 := by
  iterate 6 refine load_past _ 1 _ _ _ _ (by decide) ?_
  refine (load_one B.a22.view inb_S128x1024_S128x1024_0_0 (k0_pay10 (F := Idealize.ShloMosaic.Ideal)) (by decide) _).trans ?_
  rw [p10]; rfl
theorem z1069 : runA.sl.v1069 c B X = up2 fun (_ _ : Fin 128) => 0 := by
  iterate 7 refine load_past _ 1 _ _ _ _ (by decide) ?_
  refine (load_one B.a22.view inb_S128x1024_S128x1024_0_0 (k0_pay10 (F := Idealize.ShloMosaic.Ideal)) (by decide) _).trans ?_
  rw [p10]; rfl

theorem ldA_up {X : Ins Ideal} {r : R} (h : InsOf X r) (hd : r.D = Q.none.d) (hh : r.h = Q.none.h) : ldA c B X = r.ld := by
  unfold ldA R.ld
  rw [z41, z1222, z1265, z217, z336, z455, z574, z712, z831, z950, z1069]
  rw [h.x0, h.x1, h.x4, h.x5, h.x6, h.x7, h.x8, h.x9, h.x11, h.x12, h.x13, h.x14, h.x15, h.x16, hd, hh]
  congr 1
  all_goals first
    | exact ldAt_whole _ _ _
    | exact tap _ _ _ (by decide) _ _ rfl
    | exact halves _ _ 0 _ rfl _
    | exact halves _ _ 1 _ rfl _
    | exact funext fun p => state _ _ p
    | (funext p; fin_cases p <;> rfl)
    | rfl

theorem accA_up {X : Ins Ideal} {r : R} (hc : isFirst i) (h : InsOf X r) (hd : r.D = Q.none.d) (hh : r.h = Q.none.h) :
    accA c i B X hc = (Q.none.next r).acc := by
  have e := ldA_up c B h hd hh
  unfold accA
  simp only [a_g, a_v, a_t, a_h, a_dh, e, z1298, z1311, z1324, z1285, z1271, z119, z152, z187, z1208, z1238]
  unfold Q.acc Q.next
  congr 1
  · exact g_read r Q.none.g B.a19.view _ _ ((fill_one B.a19 inb_S8x1536_S8x1536_0_0 (k0_pay12 (F := Idealize.ShloMosaic.Ideal)) (by decide)).trans p12)
  · exact v_read r Q.none.v B.a20.view _ _ ((fill_one B.a20 inb_S8x1024_S8x1024_0_0 (k0_pay13 (F := Idealize.ShloMosaic.Ideal)) (by decide)).trans p13)
  · exact t_read r Q.none.t B.a21.view _ _ ((fill_one B.a21 inb_S8x128_S8x128_0_0 (k0_pay14 (F := Idealize.ShloMosaic.Ideal)) (by decide)).trans p14)
  · exact (fill_tiles B.a22 _ _).trans (R.glue_up _ _ (R.dhP_up r))
  · exact h_read r B.a23.view _ _
  · exact (fill_one B.a28 _ _ (by decide)).trans emat
  · exact (fill_one B.a29 _ _ (by decide)).trans fold_mat
theorem tileA_up {X : Ins Ideal} {r : R} (hc : isFirst i) (h : InsOf X r) (hd : r.D = Q.none.d) (hh : r.h = Q.none.h) :
    fill B.a18 (runA c i B hc X).1 = up2 r.OUT := by
  rw [a_out, ldA_up c B h hd hh]
  exact out_read r B.a18.view _

end Cert.Ssd.Chunk

end
-- ==== Proof.Ssd.RefA.lean ====
/- The reference's forward operations on real numbers, chunk by chunk. -/
module

public import proofs.«01_k».proof.Proof.Ssd.Global
public import proofs.«01_k».proof.Proof.Gen.SsdRefIdeal.Read

@[expose] public section

set_option maxRecDepth 16384

noncomputable section

namespace Cert.Ssd.Ref

open Idealize.ShloMosaic Idealize.ShloMosaic.TcCoe Idealize.SL.Sem
open Cert.SsdRefIdeal Cert.SsdRefIdeal.Gen Cert.SsdRefIdeal.Read Cert.Lift Cert.Ssd.Pair Cert.Ssd.Front Cert.Ssd.Chunk Cert.Ssd.Chunk.R

def up4 {a b c d : ℕ} (f : Fin a → Fin b → Fin c → Fin d → ℝ) : (⟨4, ![a, b, c, d]⟩ : Shape).Idx → EReal := fun i => ((f (i 0) (i 1) (i 2) (i 3) : ℝ) : EReal)
def up5 {a b c d e : ℕ} (f : Fin a → Fin b → Fin c → Fin d → Fin e → ℝ) : (⟨5, ![a, b, c, d, e]⟩ : Shape).Idx → EReal :=
  fun i => ((f (i 0) (i 1) (i 2) (i 3) (i 4) : ℝ) : EReal)

/-- Column `q` of head `j` of group `g`, and its head's lane. -/
def col (g : Fin 2) (j : Fin 8) (q : Fin 64) : Fin 1024 := colh (hg g j) q
def hd (g : Fin 2) (j : Fin 8) : Fin 128 := hn (hg g j)
theorem hl_col (g : Fin 2) (j : Fin 8) (q : Fin 64) : hl (col g j q) = hd g j := hl_colh _ _
theorem grp_col (g : Fin 2) (j : Fin 8) (q : Fin 64) : grp (col g j q) = g := by
  apply Fin.ext; show (64 * (8 * g.val + j.val) + q.val) / 512 = g.val; omega

theorem at_2 {n d : ℕ} (f : Fin n → Fin d → ℝ) {a a' : Fin n} {b b' : Fin d} (e : a.val = a'.val) (e' : b.val = b'.val) :
    ((f a b : ℝ) : EReal) = ((f a' b' : ℝ) : EReal) := by rw [Fin.ext e, Fin.ext e']

variable (G : G)

theorem pk0 : val_main_v0 (F := Ideal) (up2 G.zx) = up2 G.z := by
  funext i; idx_vars i
  rw [val_main_v0_apply]
  exact at_2 G.zx (by show _ = i0.val; simp [idx_main_v0]) (by show _ = i1.val; simp [idx_main_v0])
theorem pk1 : val_main_v1 (F := Ideal) (up2 G.zx) = up2 G.xb := by
  funext i; idx_vars i
  rw [val_main_v1_apply]
  exact at_2 G.zx (by show _ = i0.val; simp [idx_main_v1]) (by show _ = 1024 + i1.val; simp [idx_main_v1]; try omega)
theorem pk2 : val_main_v2 (F := Ideal) (up2 G.zx) = up2 G.dt := by
  funext i; idx_vars i
  rw [val_main_v2_apply]
  exact at_2 G.zx (by show _ = i0.val; simp [idx_main_v2]) (by show _ = 2560 + i1.val; simp [idx_main_v2]; try omega)
theorem pk3 : val_main_v3 (F := Ideal) (up2 G.hs) = up2 G.tb := by
  funext i; idx_vars i
  rw [val_main_v3_apply]
  exact at_2 G.hs (by have := i0.isLt; show _ = 0; simp [idx_main_v3]; try omega) (by show _ = i1.val; simp [idx_main_v3])
theorem pk4 : val_main_v4 (F := Ideal) (up2 G.hs) = up2 G.al := by
  funext i; idx_vars i
  rw [val_main_v4_apply]
  exact at_2 G.hs (by have := i0.isLt; show _ = 1; simp [idx_main_v4]; try omega) (by show _ = i1.val; simp [idx_main_v4])
theorem pk5 : val_main_v5 (F := Ideal) (up2 G.hs) = up2 G.ds := by
  funext i; idx_vars i
  rw [val_main_v5_apply]
  exact at_2 G.hs (by have := i0.isLt; show _ = 2; simp [idx_main_v5]; try omega) (by show _ = i1.val; simp [idx_main_v5])

/-- What is known of the arguments and the forward pass. -/
structure Known : Prop where
  cv : val_main_v28 (F := Ideal) (up2 G.zx) (up2 G.cw) (up2 G.cb) = up2 G.cv
  y : val_main_v327 (F := Ideal) (up2 G.zx) (up2 G.cw) (up2 G.cb) (up2 G.hs) = up2 G.y
  pv : val_main_v313 (F := Ideal) (up2 G.zx) (up2 G.cw) (up2 G.cb) (up2 G.hs) = up5 G.pv

section Conv
variable (hcv : val_main_v28 (F := Ideal) (up2 G.zx) (up2 G.cw) (up2 G.cb) = up2 G.cv)
include hcv

theorem v23_2 : val_main_v29_2 (F := Ideal) (up2 G.zx) (up2 G.cw) (up2 G.cb) = up2 fun s k => sg (G.cv s k) := by
  funext i; idx_vars i
  pointwise [val_main_v29_2, val_main_call0_v0, val_main_call0_v1, val_main_call0_cst, val_main_call0_v2, val_main_call0_v3, val_main_call0_cst_0, val_main_call0_v4, hcv, up2]
  rw [← zero_sub]; exact sg_coe _
theorem v23_1 : val_main_v29_1 (F := Ideal) (up2 G.zx) (up2 G.cw) (up2 G.cb) = up2 fun s k => sg (G.cv s k) * (1 - sg (G.cv s k)) := by
  funext i; idx_vars i
  pointwise [val_main_v29_1, val_main_call0_v7, val_main_call0_v6, val_main_call0_cst_1, v23_2 G hcv, up2]
  simp only [← EReal.coe_one, ← EReal.coe_sub, ← EReal.coe_mul]
theorem v23_0 : val_main_v29_0 (F := Ideal) (up2 G.zx) (up2 G.cw) (up2 G.cb) = up2 fun s k => silu (G.cv s k) := by
  funext i; idx_vars i
  pointwise [val_main_v29_0, hcv, v23_2 G hcv, up2]
  simp only [← EReal.coe_mul]; rfl
theorem v25 : val_main_v31 (F := Ideal) (up2 G.zx) (up2 G.cw) (up2 G.cb) = up5 fun c s g j q => (G.r c).xk s (col g j q) := by
  funext i; idx_vars i
  pointwise [val_main_v31, val_main_v30, v23_0 G hcv, up2, up5]
  exact at_2 (fun s k => silu (G.cv s k)) (by show _ = 128 * i0.val + i1.val; simp; omega) (by show _ = 64 * (8 * i2.val + i3.val) + i4.val; simp; omega)
theorem v27 : val_main_v33 (F := Ideal) (up2 G.zx) (up2 G.cw) (up2 G.cb) = up4 fun c s g n => (G.r c).bR g s n := by
  funext i; idx_vars i
  pointwise [val_main_v33, val_main_v32, v23_0 G hcv, up2, up4]
  exact at_2 (fun s k => silu (G.cv s k)) (by show _ = 128 * i0.val + i1.val; simp; omega) (by show _ = 1024 + 128 * i2.val + i3.val; simp; omega)
theorem v29 : val_main_v35 (F := Ideal) (up2 G.zx) (up2 G.cw) (up2 G.cb) = up4 fun c s g n => (G.r c).cR g s n := by
  funext i; idx_vars i
  pointwise [val_main_v35, val_main_v34, v23_0 G hcv, up2, up4]
  exact at_2 (fun s k => silu (G.cv s k)) (by show _ = 128 * i0.val + i1.val; simp; omega) (by show _ = 1280 + 128 * i2.val + i3.val; simp; omega)
end Conv

/-- The step of a row and head. -/
def pre (s : Fin 4096) (j : Fin 16) : ℝ := G.dt s j + G.tb 0 j
theorem v31 : val_main_v37 (F := Ideal) (up2 G.zx) (up2 G.hs) = up2 (pre G) := by
  funext i; idx_vars i
  pointwise [val_main_v37, val_main_v36, up2, pk2 G, pk3 G]
  simp only [← EReal.coe_add]; rfl
theorem v32_0 : val_main_v38_0 (F := Ideal) (up2 G.zx) (up2 G.hs) = up2 fun s j => sp (pre G s j) := by
  funext i; idx_vars i
  pointwise [val_main_v38_0, val_main_call1_v11, val_main_call1_v10, val_main_call1_v9, val_main_call1_v8, val_main_call1_v7, val_main_call1_v6, val_main_call1_v5,
    val_main_call1_v4, val_main_call1_v3, val_main_call1_v2, val_main_call1_v1, val_main_call1_v0, val_main_call1_cst, v31, up2]
  rw [if_neg (by simp), Ideal.absf_def, abs_coe]
  exact sp_coe _

/-- The slope of the step. -/
theorem exp_sub_sp (x : ℝ) : Real.exp (x - sp x) = sg x := by
  unfold sp sg
  have h : ∀ y : ℝ, 0 < 1 + Real.exp y := fun y => by positivity
  rw [← sub_sub, Real.exp_sub, Real.exp_log (h _)]
  rcases le_total 0 x with hx | hx
  · rw [max_eq_left hx, sub_self, Real.exp_zero, abs_of_nonneg hx, one_div]
  · rw [max_eq_right hx, sub_zero, abs_of_nonpos hx, neg_neg, div_eq_iff (h _).ne', eq_comm, inv_mul_eq_iff_eq_mul₀ (h _).ne', add_mul, one_mul, ← Real.exp_add,
      neg_add_cancel, Real.exp_zero, add_comm]
theorem v32_1 : val_main_v38_1 (F := Ideal) (up2 G.zx) (up2 G.hs) = up2 fun s j => sg (pre G s j) := by
  funext i; idx_vars i
  pointwise [val_main_v38_1, val_main_call1_v21, val_main_call1_v20, val_main_call1_v19, val_main_call1_cst_3, val_main_call1_v18, val_main_call1_v17, val_main_call1_cst_2,
    val_main_call1_v16, val_main_call1_v15, val_main_call1_cst_1, val_main_call1_v14, val_main_call1_v13, val_main_call1_cst_0, v32_0, v31, up2]
  rw [bits_inf, if_neg (EReal.coe_ne_top _), if_neg (EReal.coe_ne_top _), ← EReal.coe_sub, exp_coe, exp_sub_sp]

/-- A head's row of the steps' log decays. -/
theorem dt_row (c : Fin 32) (s : Fin 128) (j : Fin 16) : (G.r c).DT s (hn j) = sp (pre G (row c s) j) := by
  show sp (Ssd.G.lanes G.dt (row c s) (hn j) + Ssd.G.lanes G.tb 0 (hn j)) = _
  unfold Ssd.G.lanes
  rw [dif_pos (show (hn j).val < 16 from j.isLt), dif_pos (show (hn j).val < 16 from j.isLt)]
  rfl
theorem al_row (c : Fin 32) (s : Fin 128) (j : Fin 16) :
    (G.r c).AL s (hn j) = ∑ l : Fin 128, if l.val ≤ s.val then sp (pre G (row c l) j) * -Real.exp (G.al 0 j) else 0 := by
  show alR _ _ _ _ _ = _
  unfold alR
  refine Finset.sum_congr rfl fun l _ => ?_
  have e : Ssd.G.lanes G.al 0 (hn j) = G.al 0 j := dif_pos j.isLt
  have e' := dt_row G c l j
  rw [show (G.r c).alog 0 (hn j) = G.al 0 j from e, show sp ((G.r c).dt l (hn j) + (G.r c).dtb 0 (hn j)) = _ from e', zero_sub]
  split <;> simp
theorem v34 : val_main_v40 (F := Ideal) (up2 G.hs) = up2 fun a j => -Real.exp (G.al a j) := by
  funext i; idx_vars i
  pointwise [val_main_v40, val_main_v39, up2, pk4 G]
  rw [exp_coe, ← EReal.coe_neg]
theorem v35 : val_main_v41 (F := Ideal) (up2 G.zx) (up2 G.hs) = up5 fun c s g j (_ : Fin 1) => (G.r c).DT s (hd g j) := by
  funext i; idx_vars i
  pointwise [val_main_v41, v32_0, up2, up5]
  rw [show hd i2 i3 = hn (hg i2 i3) from rfl, dt_row]
  exact at_2 (fun s k => sp (pre G s k)) (by show _ = 128 * i0.val + i1.val; simp; omega) (by show _ = 8 * i2.val + i3.val; simp; omega)
theorem v41 : val_main_v47 (F := Ideal) (up2 G.zx) (up2 G.hs) = up4 fun c g j s => sp (pre G (row c s) (hg g j)) * -Real.exp (G.al 0 (hg g j)) := by
  funext i; idx_vars i
  pointwise [val_main_v47, val_main_v46, val_main_v45, val_main_v44, v34, v32_0, up2, up4]
  rw [← EReal.coe_mul]
  exact at_2 (fun s k => sp (pre G s k) * -Real.exp (G.al 0 k)) (by show _ = 128 * i0.val + i3.val; simp; omega) (by show _ = 8 * i1.val + i2.val; simp; omega)

/-- The causal mask. -/
def low (s l : Fin 128) : BitVec 1 := if l.val ≤ s.val then 1#1 else 0#1
theorem select_low {α : Type} (s l : Fin 128) (a b : α) : Scalar.select (low s l) a b = if l.val ≤ s.val then a else b := select_ite _ _ _
theorem v43 : val_main_v49 (F := Ideal) = fun i : S128x128.Idx => low (i 0) (i 1) := by
  funext i; idx_vars i
  pointwise [val_main_v49, val_main_v48, val_main_c, val_main_call2_v4, val_main_call2_v3, val_main_call2_v2, val_main_call2_v1, val_main_call2_v0, val_main_call2_c, val_main_call2_c_0, val_main_call2_v5]
  rw [show IntOp.addi (BitVec.ofNat 32 i0.val) 0#32 = BitVec.ofNat 32 i0.val from BitVec.add_zero _, sge, select_ite]; rfl
theorem zero3 : val_main_call3_v0 (F := Ideal) = fun _ => (0 : EReal) := by
  funext i; show Ideal.ofBits .f32 0#32 = 0; simp [Ideal.ofBits, Ideal.ieee]
theorem v46 : val_main_v52 (F := Ideal) (up2 G.zx) (up2 G.hs) = up4 fun c g j s => (G.r c).AL s (hd g j) := by
  funext i; idx_vars i
  pointwise [val_main_v52, val_main_v51_0, val_main_v51_1, val_main_v51_2, val_main_call3_v2, val_main_call3_v3, zero3, val_main_v50, val_main_cst_2, v43, v41, up4]
  rw [show hd i1 i2 = hn (hg i1 i2) from rfl, al_row]
  simp only [select_low, coe_ite0, coe_sum]
theorem bot4 : val_main_call4_v0 (F := Ideal) = fun _ => (⊥ : EReal) := by
  funext i; show Ideal.ofBits .f32 0xFF800000#32 = ⊥; simp [Ideal.ofBits, Ideal.ieee]
theorem v53 : val_main_v59 (F := Ideal) (up2 G.zx) (up2 G.hs) = up5 fun c g j s l => (G.r c).dec (hd g j) s l := by
  funext i; idx_vars i
  pointwise [val_main_v59, val_main_v58_0, val_main_v58_1, val_main_v58_2, val_main_call4_v2, bot4, val_main_v57, val_main_v56, val_main_v55, val_main_v54, val_main_v53, v43, v46, up4, up5]
  rw [select_low]; unfold R.dec
  split
  · rw [← EReal.coe_sub, exp_coe]
  · rfl
theorem v63 : val_main_v69 (F := Ideal) (up2 G.zx) (up2 G.hs) = up4 fun c g j s => (G.r c).toE (hd g j) s := by
  funext i; idx_vars i
  pointwise [val_main_v69, val_main_v68, val_main_v67, val_main_v66, v46, up4]
  rw [← EReal.coe_sub, exp_coe]; rfl
theorem v71 : val_main_v77 (F := Ideal) (up2 G.zx) (up2 G.hs) = up3 fun c g j => Real.exp ((G.r c).AL 127 (hd g j)) := by
  funext i; idx_vars i
  pointwise [val_main_v77, val_main_v76, val_main_v75, v46, up4, up3]
  rw [exp_coe]
theorem v73 : val_main_v79 (F := Ideal) (up2 G.zx) (up2 G.hs) = up5 fun c g j (_ : Fin 64) (_ : Fin 128) => Real.exp ((G.r c).AL 127 (hd g j)) := by
  funext i; idx_vars i
  pointwise [val_main_v79, val_main_v78, v71, up3, up5]
theorem v308 : val_main_v314 (F := Ideal) (up2 G.zx) (up2 G.hs) = up4 fun c g j s => Real.exp ((G.r c).AL s (hd g j)) := by
  funext i; idx_vars i
  pointwise [val_main_v314, v46, up4]
  rw [exp_coe]

section Conv2
variable (hcv : val_main_v28 (F := Ideal) (up2 G.zx) (up2 G.cw) (up2 G.cb) = up2 G.cv)
include hcv
theorem v37 : val_main_v43 (F := Ideal) (up2 G.zx) (up2 G.cw) (up2 G.cb) (up2 G.hs) = up5 fun c s g j q => (G.r c).xd s (col g j q) := by
  funext i; idx_vars i
  pointwise [val_main_v43, val_main_v42, v35, v25 G hcv, up5]
  rw [← EReal.coe_mul]; unfold R.xd; rw [hl_col]
theorem v54 : val_main_v60 (F := Ideal) (up2 G.zx) (up2 G.cw) (up2 G.cb) = up4 fun c g s l => (G.r c).gR g s l := by
  funext i; idx_vars i
  pointwise [val_main_v60, v27 G hcv, v29 G hcv, up4]
  simp only [← EReal.coe_mul, coe_sum]; rfl
theorem v57 : val_main_v63 (F := Ideal) (up2 G.zx) (up2 G.cw) (up2 G.cb) (up2 G.hs) = up5 fun c g j s l => (G.r c).gR g s l * (G.r c).dec (hd g j) s l := by
  funext i; idx_vars i
  pointwise [val_main_v63, val_main_v62, val_main_v61, v54 G hcv, v53, up4, up5]
  rw [← EReal.coe_mul]
theorem v67 : val_main_v73 (F := Ideal) (up2 G.zx) (up2 G.cw) (up2 G.cb) (up2 G.hs) = up5 fun c s g j q => (G.r c).toE (hd g j) s * (G.r c).xd s (col g j q) := by
  funext i; idx_vars i
  pointwise [val_main_v73, val_main_v72, val_main_v71, val_main_v70, v63, v37 G hcv, up4, up5]
  rw [← EReal.coe_mul]
end Conv2

end Cert.Ssd.Ref

end
-- ==== Proof.Ssd.Blocks.lean ====
/- The blocks every point of the SSD backward kernel reads, on real arrays. -/
module

public import proofs.«01_k».proof.Proof.Ssd.Operands
public import proofs.«01_k».proof.Proof.Ssd.StepA
public import proofs.«01_k».proof.Proof.Ssd.RefA
public import Idealize.ShloMosaic.Lib.Pipeline.ValueKit
public import Idealize.ShloMosaic.Lib.Pipeline.ReadBack
public import Idealize.ShloMosaic.Lib.Claim
public import Idealize.ShloMosaic.Lib.KernelVsHost

@[expose] public section

set_option maxRecDepth 16384

noncomputable section

namespace Cert.Ssd.Blocks

open Idealize.ShloMosaic Idealize.ShloMosaic.TcCoe Idealize.SL.Sem Idealize.ShloMosaic.Tactic
open Cert.SsdIdeal Cert.SsdIdeal.Gen Cert.SsdIdeal.Run Cert.Lift Cert.Ssd Cert.Ssd.Host Cert.Ssd.Chunk Cert.Ssd.Front

theorem idx : ∀ t : Fin cfg0.N, win0_0.index t = ![31 - t.val, 5] ∧ win0_1.index t = ![31 - t.val, 12] ∧ win0_4.index t = ![31 - t.val, 52] ∧
    win0_5.index t = ![31 - t.val, 4] ∧ win0_6.index t = ![31 - t.val, 0] ∧ win0_7.index t = ![31 - t.val, 0, 0] ∧ win0_8.index t = ![31 - t.val, 1] ∧
    win0_9.index t = ![0, 0] ∧ win0_11.index t = ![0, 0] ∧ win0_12.index t = ![0, 0] ∧ win0_13.index t = ![0, 0] ∧ win0_14.index t = ![0, 0] ∧
    win0_15.index t = ![0, 0] ∧ win0_16.index t = ![31 - t.val, 0] ∧ win0_17.index t = ![31 - t.val, 0] :=
  (by decide +kernel : ∀ t : Fin grid0.N, _)

variable (m : (ℓ : Loc nD τ sig) → Buf (Elt Ideal) ℓ) (c : Dev nD) (G : Ssd.G)

/-- The arguments are these real arrays. -/
structure ArgsOf : Prop where
  zx : m (c, Proc.devRef .tc main_arg0) = up2 G.zx
  dm : m (c, Proc.devRef .tc main_arg1) = up2 G.dm
  cw : m (c, Proc.devRef .tc main_arg2) = up2 G.cw
  cb : m (c, Proc.devRef .tc main_arg3) = up2 G.cb
  hs : m (c, Proc.devRef .tc main_arg4) = up2 G.hs
  nw : m (c, Proc.devRef .tc main_arg5) = up2 G.nw

/-- The packed activations. -/
def pk (s : Fin 4096) (k : Fin 7168) : ℝ :=
  if k.val < 4096 then 0 else if h : k.val < 5120 then G.z s ⟨k.val - 4096, by omega⟩ else if h : k.val < 6656 then G.xb s ⟨k.val - 5120, by omega⟩
  else if h : k.val < 6672 then G.dt s ⟨k.val - 6656, by omega⟩ else 0

theorem at_col {a b : ℕ} (f : Fin a → Fin b → ℝ) (s : Fin a) {k k' : Fin b} (h : k.val = k'.val) : ((f s k : ℝ) : EReal) = ((f s k' : ℝ) : EReal) := by
  rw [Fin.ext h]

theorem at_nat {a b : ℕ} (f : Fin a → Fin b → ℝ) (s : Fin a) (k k' : ℕ) (hk hk') (h : k = k') : ((f s ⟨k, hk⟩ : ℝ) : EReal) = ((f s ⟨k', hk'⟩ : ℝ) : EReal) := by
  subst h; rfl

theorem packed_up : packed (F := Ideal) (up2 G.z) (up2 G.xb) (up2 G.dt) = up2 (pk G) := by
  funext j; idx_vars j
  unfold packed
  pointwise [up2, zeros]
  unfold pk
  by_cases h0 : j1.val < 4096
  · rw [dif_pos h0, if_pos h0]; exact EReal.coe_zero.symm
  rw [dif_neg h0, if_neg h0]
  by_cases h1 : j1.val < 5120
  · rw [dif_pos (show j1.val - 4096 < 1024 by omega), dif_pos h1]
  rw [dif_neg (show ¬j1.val - 4096 < 1024 by omega), dif_neg h1]
  by_cases h2 : j1.val < 6656
  · rw [dif_pos (show j1.val - 4096 - 1024 < 1536 by omega), dif_pos h2]
    exact at_nat _ _ _ _ _ _ (by omega)
  rw [dif_neg (show ¬j1.val - 4096 - 1024 < 1536 by omega), dif_neg h2]
  by_cases h3 : j1.val < 6672
  · rw [dif_pos (show j1.val - 4096 - 1024 - 1536 < 16 by omega), dif_pos h3]
    exact at_nat _ _ _ _ _ _ (by omega)
  · rw [dif_neg (show ¬j1.val - 4096 - 1024 - 1536 < 16 by omega), dif_neg h3]; exact EReal.coe_zero.symm

theorem packedD_up : packedD (F := Ideal) (up2 G.dm) = up2 fun s (k : Fin 2048) => if h : k.val < 1024 then 0 else G.dm s ⟨k.val - 1024, by omega⟩ := by
  funext j; idx_vars j
  unfold packedD
  pointwise [up2, zeros]
  by_cases h0 : j1.val < 1024
  · rw [dif_pos h0, dif_pos h0]; exact EReal.coe_zero.symm
  · rw [dif_neg h0, dif_neg h0]

theorem wide_up (f : Fin 1 → Fin 16 → ℝ) : Host.wide (F := Ideal) (up2 f) = up2 (Ssd.G.lanes f) := by
  funext j; idx_vars j
  obtain rfl : j0 = 0 := Subsingleton.elim _ _
  unfold Host.wide
  pointwise [up2, Ssd.G.lanes]
  by_cases h0 : j1.val < 16
  · rw [dif_pos h0, dif_pos h0]
  · rw [dif_neg h0, dif_neg h0]; exact (sitofp_zero (φ := .f32)).trans EReal.coe_zero.symm

theorem spread_up (f : Fin 1 → Fin 16 → ℝ) : Host.spread (F := Ideal) (up2 f) = up2 fun (_ : Fin 1) (k : Fin 1024) => f 0 ⟨k.val / 64, by omega⟩ := by
  funext j; idx_vars j
  unfold Host.spread
  pointwise [up2]

theorem val_lt {n : ℕ} (k : Fin n) : k.val < n := k.isLt

theorem wide_alog (b : Fin 32) (q : Q) : (fun (_ : Fin 1) (k : Fin 1024) => (G.at' b q).alog 0 (hl k)) = fun _ k => G.al 0 ⟨k.val / 64, by omega⟩ := by
  funext a k
  show Ssd.G.lanes G.al 0 (hl k) = _
  exact dif_pos (show k.val / 64 < 16 by omega)

section Points

variable {m c G} (h : ArgsOf m c G) (hk : Ref.Known G) (p : Fin 32)
include h

theorem op2 : V m c main_v333 = up2 (pk G) := by
  refine (held m c).o2.trans ?_
  rw [h.zx, Ref.pk0, Ref.pk1, Ref.pk2]; exact packed_up G
theorem op4 : V m c main_v77 = up2 fun s (k : Fin 2048) => if h : k.val < 1024 then 0 else G.dm s ⟨k.val - 1024, by omega⟩ := by
  refine (held m c).o4.trans ?_
  rw [h.dm]; exact packedD_up G
theorem op5 : V m c main_v6 = up2 (Ssd.G.lanes G.tb) := by
  refine (held m c).o5.trans ?_
  rw [h.hs, Ref.pk3]; exact wide_up G.tb
theorem op6 : V m c main_v7 = up2 (Ssd.G.lanes G.al) := by
  refine (held m c).o6.trans ?_
  rw [h.hs, Ref.pk4]; exact wide_up G.al
theorem op8 : V m c main_v335 = up2 fun (_ : Fin 1) (k : Fin 1024) => G.al 0 ⟨k.val / 64, by omega⟩ := by
  refine (held m c).o8.trans ?_
  rw [h.hs, Ref.pk4]; exact spread_up G.al
theorem op10 : V m c main_v337 = up2 fun (_ : Fin 1) (k : Fin 1024) => G.ds 0 ⟨k.val / 64, by omega⟩ := by
  refine (held m c).o10.trans ?_
  rw [h.hs, Ref.pk5]; exact spread_up G.ds
theorem args : Args (up2 G.zx) (up2 G.cw) (up2 G.cb) (up2 G.hs) (fun b => m (c, b)) :=
  ⟨h.zx, h.cw, h.cb, h.hs⟩

theorem blk0 : iblk m c 0 p = up2 fun (s : Fin 128) (k : Fin 1024) => G.xb (row (Ssd.G.chunk p) s) ⟨k.val, by omega⟩ := by
  funext i; idx_vars i
  have e : iblk m c 0 p (ix2 i0 i1) = V m c main_v333 (ix2 (row (Ssd.G.chunk p) i0) ⟨5120 + i1.val, by omega⟩) := by blk_ext [iblk, idx p, row, Ssd.G.chunk]
  rw [e, op2 h]
  simp only [up2, pk]
  rw [if_neg (by show ¬5120 + i1.val < 4096; omega), dif_neg (by show ¬5120 + i1.val < 5120; omega), dif_pos (by show 5120 + i1.val < 6656; omega)]
  exact at_col _ _ (by show 5120 + i1.val - 5120 = i1.val; omega)
theorem blk1 : iblk m c 1 p = up2 fun (s : Fin 128) (k : Fin 512) => G.xb (row (Ssd.G.chunk p) s) ⟨1024 + k.val, by omega⟩ := by
  funext i; idx_vars i
  have e : iblk m c 1 p (ix2 i0 i1) = V m c main_v333 (ix2 (row (Ssd.G.chunk p) i0) ⟨6144 + i1.val, by omega⟩) := by blk_ext [iblk, idx p, row, Ssd.G.chunk]
  rw [e, op2 h]
  simp only [up2, pk]
  rw [if_neg (by show ¬6144 + i1.val < 4096; omega), dif_neg (by show ¬6144 + i1.val < 5120; omega), dif_pos (by show 6144 + i1.val < 6656; omega)]
  exact at_col _ _ (by show 6144 + i1.val - 5120 = 1024 + i1.val; omega)
theorem blk4 : iblk m c 4 p = up2 fun (s : Fin 128) (j : Fin 128) => Ssd.G.lanes G.dt (row (Ssd.G.chunk p) s) j := by
  funext i; idx_vars i
  have e : iblk m c 4 p (ix2 i0 i1) = V m c main_v333 (ix2 (row (Ssd.G.chunk p) i0) ⟨6656 + i1.val, by omega⟩) := by blk_ext [iblk, idx p, row, Ssd.G.chunk]
  rw [e, op2 h]
  simp only [up2, pk, Ssd.G.lanes]
  rw [if_neg (by show ¬6656 + i1.val < 4096; omega), dif_neg (by show ¬6656 + i1.val < 5120; omega), dif_neg (by show ¬6656 + i1.val < 6656; omega)]
  show _ = ((if h : i1.val < 16 then G.dt (row (Ssd.G.chunk p) i0) ⟨i1.val, h⟩ else 0 : ℝ) : EReal)
  by_cases h0 : i1.val < 16
  · rw [dif_pos (by show 6656 + i1.val < 6672; omega), dif_pos h0]
    exact at_col _ _ (by show 6656 + i1.val - 6656 = i1.val; omega)
  · rw [dif_neg (by show ¬6656 + i1.val < 6672; omega), dif_neg h0]
theorem blk5 : iblk m c 5 p = up2 fun (s : Fin 128) (k : Fin 1024) => G.z (row (Ssd.G.chunk p) s) k := by
  funext i; idx_vars i
  have e : iblk m c 5 p (ix2 i0 i1) = V m c main_v333 (ix2 (row (Ssd.G.chunk p) i0) ⟨4096 + i1.val, by omega⟩) := by blk_ext [iblk, idx p, row, Ssd.G.chunk]
  rw [e, op2 h]
  simp only [up2, pk]
  rw [if_neg (by show ¬4096 + i1.val < 4096; omega), dif_pos (by show 4096 + i1.val < 5120; omega)]
  exact at_col _ _ (by show 4096 + i1.val - 4096 = i1.val; omega)
theorem blk8 : iblk m c 8 p = up2 fun (s : Fin 128) (k : Fin 1024) => G.dm (row (Ssd.G.chunk p) s) k := by
  funext i; idx_vars i
  have e : iblk m c 8 p (ix2 i0 i1) = V m c main_v77 (ix2 (row (Ssd.G.chunk p) i0) ⟨1024 + i1.val, by omega⟩) := by blk_ext [iblk, idx p, row, Ssd.G.chunk]
  rw [e, op4 h]
  simp only [up2]
  rw [dif_neg (by show ¬1024 + i1.val < 1024; omega)]
  exact at_col _ _ (by show 1024 + i1.val - 1024 = i1.val; omega)
theorem blk9 : iblk m c 9 p = up2 (![G.cw 0, G.cw 1, G.cw 2, G.cw 3] : Fin 4 → Fin 1536 → ℝ) := by
  funext i; idx_vars i
  have e : iblk m c 9 p (ix2 i0 i1) = V m c main_arg2 (ix2 i0 i1) := by blk_ext [iblk, idx p]
  rw [e, V_main_arg2]
  refine (congrFun h.cw _).trans ?_
  fin_cases i0 <;> rfl
theorem blk11 : iblk m c 11 p = up2 (Ssd.G.lanes G.tb) := by
  funext i; idx_vars i
  have e : iblk m c 11 p (ix2 i0 i1) = V m c main_v6 (ix2 i0 i1) := by blk_ext [iblk, idx p]
  rw [e, op5 h]
theorem blk12 : iblk m c 12 p = up2 (Ssd.G.lanes G.al) := by
  funext i; idx_vars i
  have e : iblk m c 12 p (ix2 i0 i1) = V m c main_v7 (ix2 i0 i1) := by blk_ext [iblk, idx p]
  rw [e, op6 h]
theorem blk13 : iblk m c 13 p = up2 fun (_ : Fin 1) (k : Fin 1024) => G.al 0 ⟨k.val / 64, by omega⟩ := by
  funext i; idx_vars i
  have e : iblk m c 13 p (ix2 i0 i1) = V m c main_v335 (ix2 i0 i1) := by blk_ext [iblk, idx p]
  rw [e, op8 h]
theorem blk14 : iblk m c 14 p = up2 fun (_ : Fin 1) (k : Fin 1024) => G.ds 0 ⟨k.val / 64, by omega⟩ := by
  funext i; idx_vars i
  have e : iblk m c 14 p (ix2 i0 i1) = V m c main_v337 (ix2 i0 i1) := by blk_ext [iblk, idx p]
  rw [e, op10 h]
theorem blk15 : iblk m c 15 p = up2 G.nw := by
  funext i; idx_vars i
  have e : iblk m c 15 p (ix2 i0 i1) = V m c main_arg5 (ix2 i0 i1) := by blk_ext [iblk, idx p]
  rw [e, V_main_arg5]
  exact congrFun h.nw _

include hk

theorem blk6 : iblk m c 6 p = up2 fun (s : Fin 128) (k : Fin 1024) => G.y (row (Ssd.G.chunk p) s) k := by
  funext i; idx_vars i
  have e : iblk m c 6 p (ix2 i0 i1) = V m c main_v330 (ix2 (row (Ssd.G.chunk p) i0) i1) := by blk_ext [iblk, idx p, row, Ssd.G.chunk]
  rw [e, (ops_all _ _ _ _ m c (args h)).2.1, hk.y]; rfl
theorem blk16 : iblk m c 16 p = up2 fun (s : Fin 128) (k : Fin 1536) => G.cv (row (Ssd.G.chunk p) s) k := by
  funext i; idx_vars i
  have e : iblk m c 16 p (ix2 i0 i1) = V m c main_v29 (ix2 (row (Ssd.G.chunk p) i0) i1) := by blk_ext [iblk, idx p, row, Ssd.G.chunk]
  rw [e, (ops_all _ _ _ _ m c (args h)).1, hk.cv]; rfl
theorem op333 : V m c main_v339 = up3 fun (b : Fin 32) (n : Fin 128) (k : Fin 1024) => G.pv b (grp k) ⟨k.val % 512 / 64, by omega⟩ ⟨k.val % 64, by omega⟩ n := by
  refine (ops_all _ _ _ _ m c (args h)).2.2.trans ?_
  rw [hk.pv]
  funext j; idx_vars j
  pointwise [Ref.up5, up3]
  have e : (⟨j2.val / 64 % 8, by omega⟩ : Fin 8) = ⟨j2.val % 512 / 64, by omega⟩ := Fin.ext (by show j2.val / 64 % 8 = j2.val % 512 / 64; omega)
  exact congrArg (fun e => ((G.pv j0 (grp j2) e ⟨j2.val % 64, by omega⟩ j1 : ℝ) : EReal)) e
theorem blk7 : iblk m c 7 p = up3 fun (_ : Fin 1) (n : Fin 128) (k : Fin 1024) => G.pv (Ssd.G.chunk p) (grp k) ⟨k.val % 512 / 64, by omega⟩ ⟨k.val % 64, by omega⟩ n := by
  funext i; idx_vars i
  have e : iblk m c 7 p (ix3 i0 i1 i2) = V m c main_v339 (ix3 (Ssd.G.chunk p) i1 i2) := by blk_ext [iblk, idx p, Ssd.G.chunk]
  rw [e, op333 h hk]; rfl

theorem at_x0 (p : Fin cfg0.N) (q : Q) : (ins m c p).x0 = up2 (G.at' (Ssd.G.chunk p) q).xs := blk0 h p
theorem at_x1 (p : Fin cfg0.N) (q : Q) : (ins m c p).x1 = up2 (G.at' (Ssd.G.chunk p) q).bc := blk1 h p
theorem at_x4 (p : Fin cfg0.N) (q : Q) : (ins m c p).x4 = up2 (G.at' (Ssd.G.chunk p) q).dt := blk4 h p
theorem at_x5 (p : Fin cfg0.N) (q : Q) : (ins m c p).x5 = up2 (G.at' (Ssd.G.chunk p) q).z := blk5 h p
theorem at_x6 (p : Fin cfg0.N) (q : Q) : (ins m c p).x6 = up2 (G.at' (Ssd.G.chunk p) q).y := blk6 h hk p
theorem at_x8 (p : Fin cfg0.N) (q : Q) : (ins m c p).x8 = up2 (G.at' (Ssd.G.chunk p) q).dm := blk8 h p
theorem at_x11 (p : Fin cfg0.N) (q : Q) : (ins m c p).x11 = up2 (G.at' (Ssd.G.chunk p) q).dtb := blk11 h p
theorem at_x12 (p : Fin cfg0.N) (q : Q) : (ins m c p).x12 = up2 (G.at' (Ssd.G.chunk p) q).alog := blk12 h p
theorem at_x14 (p : Fin cfg0.N) (q : Q) : (ins m c p).x14 = up2 (G.at' (Ssd.G.chunk p) q).df := blk14 h p
theorem at_x15 (p : Fin cfg0.N) (q : Q) : (ins m c p).x15 = up2 (G.at' (Ssd.G.chunk p) q).w := blk15 h p
theorem at_x16 (p : Fin cfg0.N) (q : Q) : (ins m c p).x16 = up2 (G.at' (Ssd.G.chunk p) q).cv := blk16 h hk p
theorem at_x7 (p : Fin cfg0.N) (q : Q) : (ins m c p).x7 = up3 fun (_ : Fin 1) n k => (G.at' (Ssd.G.chunk p) q).H n k := blk7 h hk p
theorem at_x9 (p : Fin cfg0.N) (q : Q) : (ins m c p).x9 = up2 ![(G.at' (Ssd.G.chunk p) q).k0 0, (G.at' (Ssd.G.chunk p) q).k1 0, (G.at' (Ssd.G.chunk p) q).k2 0, (G.at' (Ssd.G.chunk p) q).k3 0] := blk9 h p
theorem at_x13 (p : Fin cfg0.N) (q : Q) : (ins m c p).x13 = up2 fun (_ : Fin 1) k => (G.at' (Ssd.G.chunk p) q).alog 0 (hl k) := by
  rw [wide_alog G]
  exact blk13 h p
theorem insOf (p : Fin cfg0.N) (q : Q) : InsOf (ins m c p) (G.at' (Ssd.G.chunk p) q) := by
  have e0 := at_x0 h hk p q
  have e1 := at_x1 h hk p q
  have e4 := at_x4 h hk p q
  have e5 := at_x5 h hk p q
  have e6 := at_x6 h hk p q
  have e7 := at_x7 h hk p q
  have e8 := at_x8 h hk p q
  have e9 := at_x9 h hk p q
  have e11 := at_x11 h hk p q
  have e12 := at_x12 h hk p q
  have e13 := at_x13 h hk p q
  have e14 := at_x14 h hk p q
  have e15 := at_x15 h hk p q
  have e16 := at_x16 h hk p q
  exact ⟨e0, e1, e4, e5, e6, e7, e8, e9, e11, e12, e13, e14, e15, e16⟩

end Points

end Cert.Ssd.Blocks

end
-- ==== Proof.Ssd.Final.lean ====
/- What the SSD backward kernel leaves in its five results, on real arrays. -/
module

public import proofs.«01_k».proof.Proof.Ssd.Blocks
public import proofs.«01_k».proof.Proof.Ssd.Launch
public import proofs.«01_k».proof.Proof.Stores

@[expose] public section

set_option maxRecDepth 16384

noncomputable section

namespace Cert.Ssd.Final

open Idealize.ShloMosaic Idealize.ShloMosaic.TcCoe Idealize.SL.Sem Idealize.ShloMosaic.Tactic
open Idealize.ShloMosaic.Pipeline (Dat)
open Cert.SsdIdeal Cert.SsdIdeal.Gen Cert.SsdIdeal.Run Cert.Lift Cert.Ssd Cert.Ssd.Chunk Cert.Ssd.Blocks Cert.Ssd.Front

variable {m : (ℓ : Loc nD τ sig) → Buf (Elt Ideal) ℓ} {c : Dev nD} {G : Ssd.G} (h : ArgsOf m c G) (hk : Ref.Known G)
include h hk

/-- What is carried after point `n`, and the block it writes. -/
theorem carried (n : ℕ) (hn : n < cfg0.N) : Run.acc m c n hn = (G.st (n + 1)).acc := by
  induction n with
  | zero => exact accA_up c _ _ _ (insOf h hk ⟨0, hn⟩ (G.st 0)) rfl rfl
  | succ n ih =>
    show accB c _ _ _ _ (Run.acc m c n _) = _
    rw [ih]
    exact accB_up c _ _ _ (insOf h hk ⟨n + 1, hn⟩ (G.st (n + 1))) _ rfl rfl
theorem written (n : ℕ) (hn : n < cfg0.N) : Run.tile m c n hn = up2 (G.r (Ssd.G.chunk n)).OUT := by
  rw [← Ssd.G.r_chunk G n hn]
  cases n with
  | zero => exact tileA_up c _ _ _ (insOf h hk ⟨0, hn⟩ (G.st 0)) rfl rfl
  | succ n =>
    show fill _ (runB c _ _ _ _ (Run.acc m c n _)).1 = _
    rw [carried h hk]
    exact tileB_up c _ _ _ (insOf h hk ⟨n + 1, hn⟩ (G.st (n + 1))) _ rfl rfl

/-- The last point. -/
abbrev last : Fin cfg0.N := ⟨31, by decide⟩

omit h hk in
theorem after17 (p : Fin cfg0.N) : (dats m 0 c).after 17 p = Run.tile m c p.val p.isLt := by dsimp only [dats]
omit h hk in
theorem after18 (p : Fin cfg0.N) : (dats m 0 c).after 18 p = (Run.acc m c p.val p.isLt).g := by dsimp only [dats]
omit h hk in
theorem after19 (p : Fin cfg0.N) : (dats m 0 c).after 19 p = (Run.acc m c p.val p.isLt).v := by dsimp only [dats]
omit h hk in
theorem after20 (p : Fin cfg0.N) : (dats m 0 c).after 20 p = (Run.acc m c p.val p.isLt).t := by dsimp only [dats]

theorem left18 : (dats m 0 c).arrAt 18 cfg0.N = up2 (G.st 32).g := by
  refine (dats m 0 c).arrAt_eq_of_after_last 18 last (by decide +kernel) _ fun j => ?_
  blk_simp
  rw [after18, carried h hk]
  rfl
theorem left19 : (dats m 0 c).arrAt 19 cfg0.N = up2 (G.st 32).v := by
  refine (dats m 0 c).arrAt_eq_of_after_last 19 last (by decide +kernel) _ fun j => ?_
  blk_simp
  rw [after19, carried h hk]
  rfl
theorem left20 : (dats m 0 c).arrAt 20 cfg0.N = up2 (G.st 32).t := by
  refine (dats m 0 c).arrAt_eq_of_after_last 20 last (by decide +kernel) _ fun j => ?_
  blk_simp
  rw [after20, carried h hk]
  rfl
theorem left17 : (dats m 0 c).arrAt 17 cfg0.N = up2 fun (r : Fin 4096) k => (G.r ⟨r.val / 128, by omega⟩).OUT ⟨r.val % 128, by omega⟩ k := by
  refine (dats m 0 c).arrAt_eq_of_covers 17 _ (by decide +kernel) fun p hf y => ?_
  have hv : up2 (G.r (Ssd.G.chunk p)).OUT y
      = up2 (fun (r : Fin 4096) k => (G.r ⟨r.val / 128, by omega⟩).OUT ⟨r.val % 128, by omega⟩ k) (((View.whole main_v340_0).slice (win0_17.rect p)).emb y) := by
    have e : ((View.whole main_v340_0).slice (win0_17.rect p)).emb y = ix2 (row (Ssd.G.chunk p) (y 0)) (y 1) := by blk_ext [idx p, row, Ssd.G.chunk]
    rw [e]
    have hy : (y 0).val < 128 := (y 0).isLt
    have e1 : (⟨(row (Ssd.G.chunk p) (y 0)).val / 128, by omega⟩ : Fin 32) = Ssd.G.chunk p := Fin.ext (by show (128 * (31 - p.val) + (y 0).val) / 128 = 31 - p.val; omega)
    have e2 : (⟨(row (Ssd.G.chunk p) (y 0)).val % 128, by omega⟩ : Fin 128) = y 0 := Fin.ext (by show (128 * (31 - p.val) + (y 0).val) % 128 = (y 0).val; omega)
    show ((_ : ℝ) : EReal) = (((G.r ⟨(row (Ssd.G.chunk p) (y 0)).val / 128, _⟩).OUT ⟨(row (Ssd.G.chunk p) (y 0)).val % 128, _⟩ (y 1) : ℝ) : EReal)
    rw [e1, e2]
  blk_simp
  rw [after17, written h hk, ← hv]

section Tail
omit h hk
variable (m c)

/-- The sixty-four lanes of every head summed, for the two rows of per-lane sums. -/
def heads (v : Vec Ideal S8x1024 .f32) : Vec Ideal S2x16 .f32 :=
  Host.reduceAdd (F := Ideal) (shapeCast S2x16x64 (extractStridedSlice S2x1024 ![1, 0] v slices_S8x1024_S2x1024_1_0) shapeCasts_S2x1024_S2x16x64 : Vec Ideal S2x16x64 .f32)
    (constant (F := Ideal) S_ .f32 0x00000000#32 : Vec Ideal S_ .f32) reducesTo_S2x16x64_S2x16_d2 h_S_

theorem tailOps (U : Valuation τ sig (Elt Ideal)) :
    StableHlo.after (hostOps1 (F := Ideal)) U (Proc.devRef .tc main_v343) = heads (U (Proc.devRef .tc main_v340_2)) ∧
    StableHlo.after (hostOps1 (F := Ideal)) U (Proc.devRef .tc main_v344) = extractStridedSlice S1x1024 ![0, 0] (U (Proc.devRef .tc main_v340_2)) slices_S8x1024_S1x1024_0_0 := by
  constructor <;> simp only [hostOps1] <;> entry_read <;> rfl

theorem arr19 : Pipeline.withArrays spec0 c (V0 m c) (fun w => (dats m 0 c).arrAt w cfg0.N) (Proc.devRef .tc main_v340_2) = (dats m 0 c).arrAt 19 cfg0.N :=
  Pipeline.withArrays_arr_shared spec0 c (V0 m c) _ ((dats m 0 c).arrAt_sharedIn sharedIn0 (V0 m c) (A_eq m c) cfg0.N) 19

theorem tail337 : Pipeline.afterTail₀ cfgs (dats m) 0 (V0 m) [hostOps1] c main_v343 = heads ((dats m 0 c).arrAt 19 cfg0.N) := by
  refine (tailOps _).1.trans ?_
  exact congrArg heads (arr19 m c)
theorem tail338 : Pipeline.afterTail₀ cfgs (dats m) 0 (V0 m) [hostOps1] c main_v344 = extractStridedSlice S1x1024 ![0, 0] ((dats m 0 c).arrAt 19 cfg0.N : Vec Ideal S8x1024 .f32) slices_S8x1024_S1x1024_0_0 := by
  refine (tailOps _).2.trans ?_
  exact congrArg (fun v : Vec Ideal S8x1024 .f32 => extractStridedSlice S1x1024 ![0, 0] v slices_S8x1024_S1x1024_0_0) (arr19 m c)

theorem run_blocks (ρ : Dev nD → PrngReg) : θ_run defs (onTc (τ := τ) (main (F := Ideal))) ⟨m, fun _ => 0, ρ⟩ fun r => ∀ c : Dev nD,
      r.2.mem ((c : Thread nD τ).loc main_v340_0) = (dats m 0 c).arrAt 17 cfg0.N
      ∧ r.2.mem ((c : Thread nD τ).loc main_v340_1) = (dats m 0 c).arrAt 18 cfg0.N
      ∧ r.2.mem ((c : Thread nD τ).loc main_v344) = extractStridedSlice S1x1024 ![0, 0] ((dats m 0 c).arrAt 19 cfg0.N : Vec Ideal S8x1024 .f32) slices_S8x1024_S1x1024_0_0
      ∧ r.2.mem ((c : Thread nD τ).loc main_v343) = heads ((dats m 0 c).arrAt 19 cfg0.N)
      ∧ r.2.mem ((c : Thread nD τ).loc main_v340_3) = (dats m 0 c).arrAt 20 cfg0.N :=
  (θ_run defs _ _).mono (fun r h c => ⟨(h.1 c).1 17, (h.1 c).1 18, ((h.1 c).2 main_v344 (by decide)).trans (tail338 m c),
    ((h.1 c).2 main_v343 (by decide)).trans (tail337 m c), (h.1 c).1 20⟩) (launch m ρ)
end Tail

theorem row0 : extractStridedSlice S1x1024 ![0, 0] ((dats m 0 c).arrAt 19 cfg0.N : Vec Ideal S8x1024 .f32) slices_S8x1024_S1x1024_0_0 = up2 fun (_ : Fin 1) k => (G.st 32).v 0 k := by
  rw [left19 h hk]
  funext i; idx_vars i
  obtain rfl : i0 = 0 := Subsingleton.elim _ _
  pointwise [up2]
theorem sums : heads ((dats m 0 c).arrAt 19 cfg0.N) = up2 fun (a : Fin 2) (j : Fin 16) => ∑ q, (G.st 32).v ⟨1 + a.val, by omega⟩ (colh j q) := by
  rw [left19 h hk]
  unfold heads
  funext i; idx_vars i
  pointwise [up2]
  simp only [← EReal.coe_mul, coe_sum]
  refine congrArg (fun z : ℝ => (z : EReal)) (Finset.sum_congr rfl fun q _ => congrArg ((G.st 32).v _) (Fin.ext ?_))
  show i1.val * 64 + q.val = 64 * i1.val + q.val
  omega

end Cert.Ssd.Final

end
-- ==== Proof.Ssd.RefB.lean ====
/- The reference's norm and gate gradients on real numbers. -/
module

public import proofs.«01_k».proof.Proof.Ssd.RefA
public import Mathlib.Tactic.FieldSimp

@[expose] public section

set_option maxRecDepth 16384

noncomputable section

namespace Cert.Ssd.Ref

open Idealize.ShloMosaic Idealize.ShloMosaic.TcCoe Idealize.SL.Sem
open Cert.SsdRefIdeal Cert.SsdRefIdeal.Gen Cert.SsdRefIdeal.Read Cert.Lift Cert.Ssd.Pair Cert.Ssd.Front Cert.Ssd.Chunk Cert.Ssd.Chunk.R

/-- The chunk of a row, and its place there. -/
def cr (r : Fin 4096) : Fin 32 := ⟨r.val / 128, by omega⟩
def sr (r : Fin 4096) : Fin 128 := ⟨r.val % 128, by omega⟩
theorem row_cr (r : Fin 4096) : row (cr r) (sr r) = r := by apply Fin.ext; show 128 * (r.val / 128) + r.val % 128 = r.val; omega
theorem cr_row (c : Fin 32) (s : Fin 128) : cr (row c s) = c := by apply Fin.ext; show (128 * c.val + s.val) / 128 = c.val; omega
theorem sr_row (c : Fin 32) (s : Fin 128) : sr (row c s) = s := by apply Fin.ext; show (128 * c.val + s.val) % 128 = s.val; omega

variable (G : G)

/-- The gated row, its mean square and reciprocal root, and the weighted gradient. -/
def gu (r : Fin 4096) (k : Fin 1024) : ℝ := G.y r k * silu (G.z r k)
def gm (g : Fin 2) (r : Fin 4096) : ℝ := (∑ j, gu G r (gcol g j) * gu G r (gcol g j)) / 512 + eps
def gs (g : Fin 2) (r : Fin 4096) : ℝ := (Real.sqrt (gm G g r))⁻¹
def ga (r : Fin 4096) (k : Fin 1024) : ℝ := G.dm r k * G.nw 0 k
def gt (g : Fin 2) (r : Fin 4096) : ℝ := (∑ j, gu G r (gcol g j) * ga G r (gcol g j)) * (-1 / 2 * (gs G g r / gm G g r)) / 512
def gd (r : Fin 4096) (k : Fin 1024) : ℝ := ga G r k * gs G (grp k) r + gu G r k * gt G (grp k) r + gt G (grp k) r * gu G r k

theorem gm_pos (g : Fin 2) (r : Fin 4096) : 0 < gm G g r :=
  add_pos_of_nonneg_of_pos (div_nonneg (Finset.sum_nonneg fun _ _ => mul_self_nonneg _) (by norm_num)) eps_pos
theorem gcol_grp (k : Fin 1024) : gcol (grp k) ⟨k.val % 512, by omega⟩ = k := by apply Fin.ext; show 512 * (k.val / 512) + k.val % 512 = k.val; omega

/-- The row's gradient is the chunk's. -/
theorem gd_eq (c : Fin 32) (s : Fin 128) (k : Fin 1024) : gd G (row c s) k = dyzR (G.r c).dm (yz (G.r c).y (G.r c).z) (G.r c).w s k := by
  have hm := gm_pos G (grp k) (row c s)
  have e1 : rms (yz (G.r c).y (G.r c).z) (grp k) s = gs G (grp k) (row c s) := rfl
  have hs : gs G (grp k) (row c s) * gs G (grp k) (row c s) = (gm G (grp k) (row c s))⁻¹ := by
    unfold gs; rw [← mul_inv, Real.mul_self_sqrt hm.le]
  unfold dyzR dnR nh dnw
  simp only [e1, gcol_grp]
  have e2 : (∑ i, (G.r c).dm s (gcol (grp k) i) * (G.r c).w 0 (gcol (grp k) i) * (yz (G.r c).y (G.r c).z s (gcol (grp k) i) * gs G (grp k) (row c s)))
      = (∑ j, gu G (row c s) (gcol (grp k) j) * ga G (row c s) (gcol (grp k) j)) * gs G (grp k) (row c s) := by
    rw [Finset.sum_mul]
    refine Finset.sum_congr rfl fun j _ => ?_
    show G.dm (row c s) _ * G.nw 0 _ * (gu G (row c s) _ * _) = gu G (row c s) _ * (G.dm (row c s) _ * G.nw 0 _) * _
    ring
  rw [e2]
  show gd G (row c s) k = gs G (grp k) (row c s) * (ga G (row c s) k - gu G (row c s) k * gs G (grp k) (row c s) * (_ / 512))
  unfold gd gt
  generalize (∑ j, gu G (row c s) (gcol (grp k) j) * ga G (row c s) (gcol (grp k) j)) = S
  rw [div_eq_mul_inv (gs G _ _), ← hs]
  ring

variable (h : Known G)
include h

theorem v322_2 : val_main_v328_2 (F := Ideal) (up2 G.zx) = up2 fun s k => sg (G.z s k) := by
  funext i; idx_vars i
  pointwise [val_main_v328_2, val_main_call5_v0, val_main_call5_v1, val_main_call5_cst, val_main_call5_v2, val_main_call5_v3, val_main_call5_cst_0, val_main_call5_v4, up2, pk0 G]
  rw [← zero_sub]; exact sg_coe _
theorem v322_1 : val_main_v328_1 (F := Ideal) (up2 G.zx) = up2 fun s k => sg (G.z s k) * (1 - sg (G.z s k)) := by
  funext i; idx_vars i
  pointwise [val_main_v328_1, val_main_call5_v7, val_main_call5_v6, val_main_call5_cst_1, v322_2 G h, up2]
  simp only [← EReal.coe_one, ← EReal.coe_sub, ← EReal.coe_mul]
theorem v322_0 : val_main_v328_0 (F := Ideal) (up2 G.zx) = up2 fun s k => silu (G.z s k) := by
  funext i; idx_vars i
  pointwise [val_main_v328_0, v322_2 G h, up2, pk0 G]
  simp only [← EReal.coe_mul]; rfl

theorem v324 : val_main_v330 (F := Ideal) (up2 G.zx) (up2 G.cw) (up2 G.cb) (up2 G.hs) = up3 fun r g j => gu G r (gcol g j) := by
  funext i; idx_vars i
  pointwise [val_main_v330, val_main_v329, h.y, v322_0 G h, up2, up3]
  rw [← EReal.coe_mul]
  exact at_2 (gu G) (by first | omega | (simp <;> omega)) (by show _ = 512 * i1.val + i2.val; simp; omega)
theorem v331 : val_main_v337 (F := Ideal) (up2 G.zx) (up2 G.cw) (up2 G.cb) (up2 G.hs) = up3 fun r g (_ : Fin 1) => gm G g r := by
  funext i; idx_vars i
  pointwise [val_main_v337, val_main_v336, val_main_v335, val_main_v334, val_main_v333, val_main_v332, val_main_v331, val_main_cst_6, val_main_cst_7, val_main_cst_8, v324 G h, up3]
  simp only [bits_512, bits_eps, ← EReal.coe_mul, coe_sum, div_coe_coe _ (by norm_num : (512 : ℝ) ≠ 0), ← EReal.coe_add]; rfl
theorem v332 : val_main_v338 (F := Ideal) (up2 G.zx) (up2 G.cw) (up2 G.cb) (up2 G.hs) = up3 fun r g (_ : Fin 1) => gs G g r := by
  funext i; idx_vars i
  pointwise [val_main_v338, v331 G h, up3]
  rw [rsqrt_coe (gm_pos G i1 i0)]; rfl
theorem v335 : val_main_v341 (F := Ideal) (up2 G.zx) (up2 G.cw) (up2 G.cb) (up2 G.hs) = up3 fun r g (_ : Fin 1) => -1 / 2 * (gs G g r / gm G g r) := by
  funext i; idx_vars i
  pointwise [val_main_v341, val_main_v340, val_main_v339, val_main_cst_9, v331 G h, v332 G h, up3]
  simp only [bits_neg_half, div_coe_coe _ (gm_pos G i1 i0).ne', ← EReal.coe_mul]
theorem v338 : val_main_v344 (F := Ideal) (up2 G.zx) (up2 G.cw) (up2 G.cb) (up2 G.hs) = up2 fun r k => gu G r k * gs G (grp k) r := by
  funext i; idx_vars i
  pointwise [val_main_v344, val_main_v343, val_main_v342, v324 G h, v332 G h, up2, up3]
  rw [← EReal.coe_mul]
  show ((gu G i0 (gcol (grp i1) ⟨i1.val % 512, _⟩) * gs G (grp i1) i0 : ℝ) : EReal) = _
  rw [gcol_grp]
theorem v344 : val_main_v350 (F := Ideal) (up2 G.zx) (up2 G.dm) (up2 G.cw) (up2 G.cb) (up2 G.hs) = up2 fun (_ : Fin 1) k => ∑ r, gu G r k * gs G (grp k) r * G.dm r k := by
  funext i; idx_vars i
  pointwise [val_main_v350, val_main_v349, val_main_v348, val_main_cst_11, v338 G h, up2]
  simp only [← EReal.coe_mul, coe_sum]
theorem v347 : val_main_v353 (F := Ideal) (up2 G.dm) (up2 G.nw) = up3 fun r g j => ga G r (gcol g j) := by
  funext i; idx_vars i
  pointwise [val_main_v353, val_main_v352, val_main_v351, up2, up3]
  rw [← EReal.coe_mul]
  exact at_2 (ga G) (by first | omega | (simp <;> omega)) (by show _ = 512 * i1.val + i2.val; simp; omega)
theorem v357 : val_main_v363 (F := Ideal) (up2 G.zx) (up2 G.dm) (up2 G.cw) (up2 G.cb) (up2 G.hs) (up2 G.nw) = up3 fun r g (_ : Fin 512) => gt G g r := by
  funext i; idx_vars i
  pointwise [val_main_v363, val_main_v362, val_main_v361, val_main_v360, val_main_v359, val_main_v356, val_main_v355, val_main_v354, val_main_cst_12, val_main_cst_13, val_main_cst_14, v324 G h, v347 G h, v335 G h, up3]
  simp only [Finset.univ_unique, Finset.sum_singleton, bits_512, ← EReal.coe_mul, coe_sum, div_coe_coe _ (by norm_num : (512 : ℝ) ≠ 0)]; rfl
theorem v362 : val_main_v368 (F := Ideal) (up2 G.zx) (up2 G.dm) (up2 G.cw) (up2 G.cb) (up2 G.hs) (up2 G.nw) = up2 (gd G) := by
  funext i; idx_vars i
  pointwise [val_main_v368, val_main_v367, val_main_v366, val_main_v365, val_main_v364, val_main_v358, val_main_v357, v357 G h, v324 G h, v332 G h, v347 G h, up2, up3]
  simp only [← EReal.coe_mul, ← EReal.coe_add]
  show ((ga G i0 (gcol (grp i1) ⟨i1.val % 512, _⟩) * gs G (grp i1) i0 + gu G i0 (gcol (grp i1) ⟨i1.val % 512, _⟩) * gt G (grp i1) i0
    + gt G (grp i1) i0 * gu G i0 (gcol (grp i1) ⟨i1.val % 512, _⟩) : ℝ) : EReal) = _
  rw [gcol_grp]; rfl
/-- The gradient of the scan's output, and the gate's. -/
theorem v364 : val_main_v370 (F := Ideal) (up2 G.zx) (up2 G.dm) (up2 G.cw) (up2 G.cb) (up2 G.hs) (up2 G.nw)
    = up2 fun r k => gd G r k * silu (G.z r k) := by
  funext i; idx_vars i
  pointwise [val_main_v370, v362 G h, v322_0 G h, up2]
  rw [← EReal.coe_mul]
theorem v365 : val_main_v371 (F := Ideal) (up2 G.zx) (up2 G.dm) (up2 G.cw) (up2 G.cb) (up2 G.hs) (up2 G.nw)
    = up2 fun r k => (G.r (cr r)).dzk (sr r) k := by
  funext i; idx_vars i
  pointwise [val_main_v371, val_main_call6_v0, val_main_call6_v1, val_main_call6_v2, val_main_v369, h.y, v362 G h, v322_1 G h, v322_2 G h, up2, pk0 G]
  simp only [← EReal.coe_mul, ← EReal.coe_add]
  congr 1
  show _ = dyzR _ _ _ _ _ * G.y (row (cr i0) (sr i0)) i1 * dsilu (G.z (row (cr i0) (sr i0)) i1)
  rw [← gd_eq, row_cr]; unfold dsilu; ring
theorem v366 : val_main_v372 (F := Ideal) (up2 G.zx) (up2 G.dm) (up2 G.cw) (up2 G.cb) (up2 G.hs) (up2 G.nw)
    = up5 fun c s g j q => (G.r c).dyk s (col g j q) := by
  funext i; idx_vars i
  pointwise [val_main_v372, v364 G h, up2, up5]
  unfold R.dyk
  rw [← gd_eq]
  exact at_2 (fun r k => gd G r k * silu (G.z r k)) (by show _ = 128 * i0.val + i1.val; simp; omega) (by show _ = 64 * (8 * i2.val + i3.val) + i4.val; simp; omega)

end Cert.Ssd.Ref

end
-- ==== Proof.Ssd.RefC.lean ====
/- The reference's gradients through the carried states, on real numbers. -/
module

public import proofs.«01_k».proof.Proof.Ssd.RefB

@[expose] public section

set_option maxRecDepth 16384

noncomputable section

namespace Cert.Ssd.Ref

open Idealize.ShloMosaic Idealize.ShloMosaic.TcCoe Idealize.SL.Sem
open Cert.SsdRefIdeal Cert.SsdRefIdeal.Gen Cert.SsdRefIdeal.Read Cert.Lift Cert.Ssd.Pair Cert.Ssd.Front Cert.Ssd.Chunk Cert.Ssd.Chunk.R

variable (G : G)

theorem H_col (c : Fin 32) (g : Fin 2) (j : Fin 8) (q : Fin 64) (n : Fin 128) : (G.r c).H n (col g j q) = G.pv c g j q n := by
  show G.pv c (grp (col g j q)) _ _ n = _
  rw [grp_col]
  congr 1
  · apply Fin.ext; show (64 * (8 * g.val + j.val) + q.val) % 512 / 64 = j.val; omega
  · apply Fin.ext; show (64 * (8 * g.val + j.val) + q.val) % 64 = q.val; omega

variable (h : Known G)
include h

theorem v312 : val_main_v318 (F := Ideal) (up2 G.zx) (up2 G.cw) (up2 G.cb) (up2 G.hs)
    = up5 fun c s g j q => ∑ n, (G.r c).cR g s n * (G.r c).H n (col g j q) := by
  funext i; idx_vars i
  pointwise [val_main_v318, val_main_v317, h.pv, v29 G h.cv, up4, up5]
  simp only [← EReal.coe_mul, coe_sum, H_col, mul_comm]
theorem v380 : val_main_v386 (F := Ideal) (up2 G.zx) (up2 G.dm) (up2 G.cw) (up2 G.cb) (up2 G.hs) (up2 G.nw)
    = up5 fun c g j q s => Real.exp ((G.r c).AL s (hd g j)) * (G.r c).dyk s (col g j q) := by
  funext i; idx_vars i
  pointwise [val_main_v386, val_main_v382, val_main_v381, val_main_v316, val_main_v315, v308, v366 G h, up4, up5]
  rw [← EReal.coe_mul]
theorem v382 : val_main_v388 (F := Ideal) (up2 G.zx) (up2 G.dm) (up2 G.cw) (up2 G.cb) (up2 G.hs) (up2 G.nw)
    = up4 fun c s g n => (G.r c).CO g s n := by
  funext i; idx_vars i
  pointwise [val_main_v388, val_main_v387, v380 G h, h.pv, up4, up5]
  simp only [← EReal.coe_mul, coe_sum, ← H_col]
  congr 1
  exact Finset.sum_congr rfl fun j _ => Finset.sum_congr rfl fun q _ => by rw [mul_comm (Real.exp _)]; rfl
theorem v383 : val_main_v389 (F := Ideal) (up2 G.zx) (up2 G.dm) (up2 G.cw) (up2 G.cb) (up2 G.hs) (up2 G.nw)
    = up5 fun c g j q n => ∑ s, (G.r c).cR g s n * ((G.r c).dyk s (col g j q) * Real.exp ((G.r c).AL s (hd g j))) := by
  funext i; idx_vars i
  pointwise [val_main_v389, v380 G h, v29 G h.cv, up4, up5]
  simp only [← EReal.coe_mul, coe_sum]
  congr 1
  exact Finset.sum_congr rfl fun s _ => by ring
theorem v386 : val_main_v392 (F := Ideal) (up2 G.zx) (up2 G.dm) (up2 G.cw) (up2 G.cb) (up2 G.hs) (up2 G.nw)
    = up4 fun c g j s => ∑ q, (G.r c).OFF s (col g j q) := by
  funext i; idx_vars i
  pointwise [val_main_v392, val_main_v391, val_main_v390, val_main_v385, val_main_v384, val_main_v383, val_main_cst_17, val_main_cst_18, v308, v312 G h, v366 G h, up4, up5]
  simp only [← EReal.coe_mul, coe_sum, Finset.univ_unique, Finset.sum_singleton, Finset.sum_mul]
  congr 1
  refine Finset.sum_congr rfl fun q _ => ?_
  unfold R.OFF
  rw [hl_col, grp_col]; ring

omit h

section Chain
variable (x0 : Vec Ideal S4096x2576 .f32) (x1 : Vec Ideal S4096x1024 .f32)
  (x2 : Vec Ideal S4x1536 .f32) (x3 : Vec Ideal S1x1536 .f32) (x4 : Vec Ideal S3x16 .f32) (x5 : Vec Ideal S1x1024 .f32)

/-- The states' gradients, from the last chunk's to the first's. -/
def chain : Fin 31 → FVec Ideal S2x8x64x128 .f32 :=
  ![val_main_v410 x0 x1 x2 x3 x4 x5, val_main_v419 x0 x1 x2 x3 x4 x5, val_main_v428 x0 x1 x2 x3 x4 x5, val_main_v437 x0 x1 x2 x3 x4 x5, val_main_v446 x0 x1 x2 x3 x4 x5, val_main_v455 x0 x1 x2 x3 x4 x5, val_main_v464 x0 x1 x2 x3 x4 x5, val_main_v473 x0 x1 x2 x3 x4 x5, val_main_v482 x0 x1 x2 x3 x4 x5, val_main_v491 x0 x1 x2 x3 x4 x5, val_main_v500 x0 x1 x2 x3 x4 x5, val_main_v509 x0 x1 x2 x3 x4 x5, val_main_v518 x0 x1 x2 x3 x4 x5, val_main_v527 x0 x1 x2 x3 x4 x5, val_main_v536 x0 x1 x2 x3 x4 x5, val_main_v545 x0 x1 x2 x3 x4 x5, val_main_v554 x0 x1 x2 x3 x4 x5, val_main_v563 x0 x1 x2 x3 x4 x5, val_main_v572 x0 x1 x2 x3 x4 x5, val_main_v581 x0 x1 x2 x3 x4 x5, val_main_v590 x0 x1 x2 x3 x4 x5, val_main_v599 x0 x1 x2 x3 x4 x5, val_main_v608 x0 x1 x2 x3 x4 x5, val_main_v617 x0 x1 x2 x3 x4 x5, val_main_v626 x0 x1 x2 x3 x4 x5, val_main_v635 x0 x1 x2 x3 x4 x5, val_main_v644 x0 x1 x2 x3 x4 x5, val_main_v653 x0 x1 x2 x3 x4 x5, val_main_v662 x0 x1 x2 x3 x4 x5, val_main_v671 x0 x1 x2 x3 x4 x5, val_main_v680 x0 x1 x2 x3 x4 x5]

theorem sl (c : Fin 32) : S32x2x8x64x128.Slices ![c.val, 0, 0, 0, 0] S1x2x8x64x128 := by revert c; decide
/-- A chunk's entry. -/
def entry (c : Fin 32) (v : Vec Ideal S32x2x8x64x128 .f32) : FVec Ideal S2x8x64x128 .f32 :=
  shapeCast _ (extractStridedSlice S1x2x8x64x128 ![c.val, 0, 0, 0, 0] v (sl c)) shapeCasts_S1x2x8x64x128_S2x8x64x128
theorem entry_at (c : Fin 32) (v : Vec Ideal S32x2x8x64x128 .f32) (g : Fin 2) (j : Fin 8) (q : Fin 64) (n : Fin 128) :
    entry c v (ix4 g j q n) = v (ix5 c g j q n) := by
  unfold entry
  rw [shapeCast_apply _ _ _ (ix5 0 g j q n) (by rw [Shape.rowMajor_val_five, Shape.rowMajor_val_four]; show (((0 * 2 + g.val) * 8 + j.val) * 64 + q.val) * 128 + n.val = _; rw [Nat.zero_mul, Nat.zero_add]; rfl)]
  exact extractStridedSlice_apply _ _ _ _ _ (fun a => match a with
    | ⟨0, _⟩ => by show c.val = c.val + 0; omega
    | ⟨1, _⟩ => by show g.val = 0 + g.val; omega
    | ⟨2, _⟩ => by show j.val = 0 + j.val; omega
    | ⟨3, _⟩ => by show q.val = 0 + q.val; omega
    | ⟨4, _⟩ => by show n.val = 0 + n.val; omega)

set_option maxHeartbeats 4000000 in
theorem chain_step (i : Fin 30) : chain x0 x1 x2 x3 x4 x5 i.succ
    = addf (entry ⟨30 - i.val, by omega⟩ (val_main_v394 x0 x1 x2 x3 x4 x5)) (mulf (chain x0 x1 x2 x3 x4 x5 i.castSucc) (entry ⟨30 - i.val, by omega⟩ (val_main_v396 x0 x4))) := by
  fin_cases i <;> rfl
theorem chain_first : chain x0 x1 x2 x3 x4 x5 0
    = addf (entry 31 (val_main_v394 x0 x1 x2 x3 x4 x5)) (mulf (val_main_v393 (F := Ideal)) (entry 31 (val_main_v396 x0 x4))) := rfl

set_option maxHeartbeats 4000000 in
theorem v754_at (c : Fin 32) (g : Fin 2) (j : Fin 8) (q : Fin 64) (n : Fin 128) : val_main_v760 (F := Ideal) x0 x1 x2 x3 x4 x5 (ix5 c g j q n)
    = if h : c.val < 31 then chain x0 x1 x2 x3 x4 x5 ⟨30 - c.val, by omega⟩ (ix4 g j q n) else 0 := by
  fin_cases c <;> (pointwise [val_main_v760, val_main_v724, val_main_v722, val_main_v723, val_main_v690, val_main_v691, val_main_v692, val_main_v693, val_main_v694, val_main_v695, val_main_v696, val_main_v697, val_main_v698, val_main_v699, val_main_v700, val_main_v701, val_main_v702, val_main_v703, val_main_v704, val_main_v705, val_main_v706, val_main_v707, val_main_v708, val_main_v709, val_main_v710, val_main_v711, val_main_v712, val_main_v713, val_main_v714, val_main_v715, val_main_v716, val_main_v717, val_main_v718, val_main_v719, val_main_v720, val_main_v721]; first | done | rfl | pointwise [val_main_v393, val_main_cst_19])
set_option maxHeartbeats 4000000 in
theorem v755_at (c : Fin 32) (g : Fin 2) (j : Fin 8) (q : Fin 64) (n : Fin 128) : val_main_v761 (F := Ideal) x0 x1 x2 x3 x4 x5 (ix5 c g j q n)
    = FloatOps.mulf (F := Ideal) (φ := .f32) (entry c (val_main_v398 (F := Ideal) x0 x2 x3 x4) (ix4 g j q n))
      (if h : c.val < 31 then chain x0 x1 x2 x3 x4 x5 ⟨30 - c.val, by omega⟩ (ix4 g j q n) else (val_main_v393 (F := Ideal) (ix4 g j q n))) := by
  fin_cases c <;> (pointwise [val_main_v761, val_main_v759, val_main_v757, val_main_v758, val_main_v725, val_main_v726, val_main_v727, val_main_v728, val_main_v729, val_main_v730, val_main_v731, val_main_v732, val_main_v733, val_main_v734, val_main_v735, val_main_v736, val_main_v737, val_main_v738, val_main_v739, val_main_v740, val_main_v741, val_main_v742, val_main_v743, val_main_v744, val_main_v745, val_main_v746, val_main_v747, val_main_v748, val_main_v749, val_main_v750, val_main_v751, val_main_v752, val_main_v753, val_main_v754, val_main_v755, val_main_v756]; rfl)
end Chain

theorem DH_col (c : Fin 32) (g : Fin 2) (j : Fin 8) (q : Fin 64) (n : Fin 128) : (G.r c).DH n (col g j q)
    = (∑ s, (G.r c).cR g s n * ((G.r c).dyk s (col g j q) * Real.exp ((G.r c).AL s (hd g j)))) + (G.r c).D n (col g j q) * Real.exp ((G.r c).AL 127 (hd g j)) := by
  unfold R.DH; rw [hl_col, grp_col]; ring
include h
theorem v388 : val_main_v394 (F := Ideal) (up2 G.zx) (up2 G.dm) (up2 G.cw) (up2 G.cb) (up2 G.hs) (up2 G.nw)
    = up5 fun c g j q n => ∑ s, (G.r c).cR g s n * ((G.r c).dyk s (col g j q) * Real.exp ((G.r c).AL s (hd g j))) := by
  funext i; idx_vars i
  pointwise [val_main_v394, v383 G h, up5]
theorem v390 : val_main_v396 (F := Ideal) (up2 G.zx) (up2 G.hs) = up5 fun c g j (_ : Fin 64) (_ : Fin 128) => Real.exp ((G.r c).AL 127 (hd g j)) := by
  funext i; idx_vars i
  pointwise [val_main_v396, v73, up5]
theorem v392 : val_main_v398 (F := Ideal) (up2 G.zx) (up2 G.cw) (up2 G.cb) (up2 G.hs) = up5 G.pv := by
  funext i; idx_vars i
  pointwise [val_main_v398, h.pv, up5]
theorem v387 : val_main_v393 (F := Ideal) = up4 fun (_ : Fin 2) (_ : Fin 8) (_ : Fin 64) (_ : Fin 128) => 0 := by
  funext i; idx_vars i
  pointwise [val_main_v393, val_main_cst_19, up4]
  exact EReal.coe_zero.symm
theorem chain_up (i : Fin 31) : chain (up2 G.zx) (up2 G.dm) (up2 G.cw) (up2 G.cb) (up2 G.hs) (up2 G.nw) i = up4 fun g j q n => (G.r ⟨30 - i.val, by omega⟩).D n (col g j q) := by
  induction i using Fin.induction with
  | zero =>
    rw [chain_first, v388 G h, v390 G h, v387 G h]
    funext i; idx_vars i
    show entry _ _ _ + _ * entry _ _ _ = _
    rw [entry_at, entry_at]
    have e : (G.r ⟨30 - (0 : Fin 31).val, by omega⟩).D = (G.r 31).DH := G.D_step _ 31 rfl
    show ((_ : ℝ) : EReal) + ((0 : ℝ) : EReal) * ((_ : ℝ) : EReal) = (((G.r ⟨30 - (0 : Fin 31).val, _⟩).D i3 (col i0 i1 i2) : ℝ) : EReal)
    rw [e, DH_col, G.D_last, ← EReal.coe_mul, ← EReal.coe_add]; rfl
  | succ i ih =>
    rw [chain_step, ih, v388 G h, v390 G h]
    funext k; idx_vars k
    show entry _ _ _ + _ * entry _ _ _ = _
    rw [entry_at, entry_at]
    have e := G.D_step ⟨30 - i.succ.val, by omega⟩ ⟨30 - i.val, by omega⟩ (by show 30 - i.val = 30 - (i.val + 1) + 1; omega)
    show ((_ : ℝ) : EReal) + ((_ : ℝ) : EReal) * ((_ : ℝ) : EReal) = (((G.r ⟨30 - i.succ.val, _⟩).D k3 (col k0 k1 k2) : ℝ) : EReal)
    rw [e, DH_col, ← EReal.coe_mul, ← EReal.coe_add]; rfl
theorem v754 : val_main_v760 (F := Ideal) (up2 G.zx) (up2 G.dm) (up2 G.cw) (up2 G.cb) (up2 G.hs) (up2 G.nw) = up5 fun c g j q n => (G.r c).D n (col g j q) := by
  funext i; idx_vars i
  rw [v754_at]
  show _ = (((G.r i0).D i4 (col i1 i2 i3) : ℝ) : EReal)
  by_cases hc : i0.val < 31
  · rw [dif_pos hc, chain_up G h]
    show (((G.r ⟨30 - (30 - i0.val), _⟩).D i4 (col i1 i2 i3) : ℝ) : EReal) = _
    rw [show (⟨30 - (30 - i0.val), by omega⟩ : Fin 32) = i0 from Fin.ext (by show 30 - (30 - i0.val) = i0.val; omega)]
  · rw [dif_neg hc, show i0 = 31 from Fin.ext (by show i0.val = 31; omega), G.D_last]; rfl
theorem v755 : val_main_v761 (F := Ideal) (up2 G.zx) (up2 G.dm) (up2 G.cw) (up2 G.cb) (up2 G.hs) (up2 G.nw) = up5 fun c g j q n => (G.r c).H n (col g j q) * (G.r c).D n (col g j q) := by
  funext i; idx_vars i
  rw [v755_at, v392 G h, entry_at]
  show _ = (((G.r i0).H i4 (col i1 i2 i3) * (G.r i0).D i4 (col i1 i2 i3) : ℝ) : EReal)
  rw [H_col, EReal.coe_mul]
  show ((G.pv i0 i1 i2 i3 i4 : ℝ) : EReal) * _ = _
  congr 1
  by_cases hc : i0.val < 31
  · rw [dif_pos hc, chain_up G h]
    show (((G.r ⟨30 - (30 - i0.val), _⟩).D i4 (col i1 i2 i3) : ℝ) : EReal) = _
    rw [show (⟨30 - (30 - i0.val), by omega⟩ : Fin 32) = i0 from Fin.ext (by show 30 - (30 - i0.val) = i0.val; omega)]
  · rw [dif_neg hc, v387 G h, show i0 = 31 from Fin.ext (by show i0.val = 31; omega), G.D_last]; rfl

end Cert.Ssd.Ref

end
-- ==== Proof.Ssd.Finite.lean ====
/- On real arguments the reference's convolution, carried states and output rows are real. -/
module

public import proofs.«01_k».proof.Proof.Ssd.RefC

@[expose] public section

set_option maxRecDepth 16384

noncomputable section

namespace Cert.Ssd.Ref

open Idealize.ShloMosaic Idealize.ShloMosaic.TcCoe Idealize.SL.Sem
open Cert.SsdRefIdeal Cert.SsdRefIdeal.Gen Cert.SsdRefIdeal.Read Cert.Lift Cert.Ssd.Pair Cert.Ssd.Front Cert.Ssd.Chunk Cert.Ssd.Chunk.R

/-- A value is a real number. -/
def IsReal (x : EReal) : Prop := ∃ r : ℝ, x = r
theorem IsReal.coe (r : ℝ) : IsReal r := ⟨r, rfl⟩
theorem IsReal.zero : IsReal 0 := ⟨0, rfl⟩
theorem IsReal.add {x y : EReal} : IsReal x → IsReal y → IsReal (x + y) := by rintro ⟨r, rfl⟩ ⟨s, rfl⟩; exact ⟨r + s, (EReal.coe_add r s).symm⟩
theorem IsReal.mul {x y : EReal} : IsReal x → IsReal y → IsReal (x * y) := by rintro ⟨r, rfl⟩ ⟨s, rfl⟩; exact ⟨r * s, (EReal.coe_mul r s).symm⟩
theorem IsReal.sum {n : ℕ} {f : Fin n → EReal} (h : ∀ i, IsReal (f i)) : IsReal (∑ i, f i) := by
  choose g e using h
  exact ⟨∑ i, g i, by rw [← coe_sum]; exact Finset.sum_congr rfl fun i _ => e i⟩
theorem real_up2 {a b : ℕ} {x : (⟨2, ![a, b]⟩ : Shape).Idx → EReal} (h : ∀ i, IsReal (x i)) : ∃ f : Fin a → Fin b → ℝ, x = up2 f := by
  choose g e using h
  refine ⟨fun i j => g (ix2 i j), funext fun i => ?_⟩
  rw [eq_ix2 i]; exact e _
theorem real_up5 {a b c d k : ℕ} {x : (⟨5, ![a, b, c, d, k]⟩ : Shape).Idx → EReal} (h : ∀ i, IsReal (x i)) :
    ∃ f : Fin a → Fin b → Fin c → Fin d → Fin k → ℝ, x = up5 f := by
  choose g e using h
  refine ⟨fun i j p q n => g (ix5 i j p q n), funext fun i => ?_⟩
  rw [eq_ix5 i]; exact e _

section States
variable (x0 : Vec Ideal S4096x2576 .f32)
  (x2 : Vec Ideal S4x1536 .f32) (x3 : Vec Ideal S1x1536 .f32) (x4 : Vec Ideal S3x16 .f32)

/-- The states carried into the chunks. -/
def states : Fin 32 → FVec Ideal S2x8x64x128 .f32 :=
  ![val_main_v80 (F := Ideal), val_main_v91 x0 x2 x3 x4, val_main_v97 x0 x2 x3 x4, val_main_v103 x0 x2 x3 x4, val_main_v109 x0 x2 x3 x4, val_main_v115 x0 x2 x3 x4, val_main_v121 x0 x2 x3 x4, val_main_v127 x0 x2 x3 x4, val_main_v133 x0 x2 x3 x4, val_main_v139 x0 x2 x3 x4, val_main_v145 x0 x2 x3 x4, val_main_v151 x0 x2 x3 x4, val_main_v157 x0 x2 x3 x4, val_main_v163 x0 x2 x3 x4, val_main_v169 x0 x2 x3 x4, val_main_v175 x0 x2 x3 x4, val_main_v181 x0 x2 x3 x4, val_main_v187 x0 x2 x3 x4, val_main_v193 x0 x2 x3 x4, val_main_v199 x0 x2 x3 x4, val_main_v205 x0 x2 x3 x4, val_main_v211 x0 x2 x3 x4, val_main_v217 x0 x2 x3 x4, val_main_v223 x0 x2 x3 x4, val_main_v229 x0 x2 x3 x4, val_main_v235 x0 x2 x3 x4, val_main_v241 x0 x2 x3 x4, val_main_v247 x0 x2 x3 x4, val_main_v253 x0 x2 x3 x4, val_main_v259 x0 x2 x3 x4, val_main_v265 x0 x2 x3 x4, val_main_v271 x0 x2 x3 x4]
set_option maxHeartbeats 4000000 in
theorem states_step (i : Fin 31) : states x0 x2 x3 x4 i.succ
    = addf (mulf (states x0 x2 x3 x4 i.castSucc) (entry ⟨i.val, by omega⟩ (val_main_v84 x0 x4))) (entry ⟨i.val, by omega⟩ (val_main_v82 x0 x2 x3 x4)) := by
  fin_cases i <;> rfl
set_option maxHeartbeats 4000000 in
theorem v307_at (c : Fin 32) (g : Fin 2) (j : Fin 8) (q : Fin 64) (n : Fin 128) :
    val_main_v313 (F := Ideal) x0 x2 x3 x4 (ix5 c g j q n) = states x0 x2 x3 x4 c (ix4 g j q n) := by
  fin_cases c <;> (pointwise [val_main_v313, val_main_v312, val_main_v310, val_main_v311, val_main_v278, val_main_v279, val_main_v280, val_main_v281, val_main_v282, val_main_v283, val_main_v284, val_main_v285, val_main_v286, val_main_v287, val_main_v288, val_main_v289, val_main_v290, val_main_v291, val_main_v292, val_main_v293, val_main_v294, val_main_v295, val_main_v296, val_main_v297, val_main_v298, val_main_v299, val_main_v300, val_main_v301, val_main_v302, val_main_v303, val_main_v304, val_main_v305, val_main_v306, val_main_v307, val_main_v308, val_main_v309]; first | done | rfl)
end States

variable (G : G)

theorem real_v22 (i : S4096x1536.Idx) : IsReal (val_main_v28 (F := Ideal) (up2 G.zx) (up2 G.cw) (up2 G.cb) i) := by
  have h1 : ∀ i, IsReal (val_main_v7 (F := Ideal) (up2 G.zx) i) := by
    intro i; idx_vars i
    pointwise [val_main_v7, val_main_v6, val_main_cst, pk1 G]
    split
    · exact IsReal.zero
    · exact IsReal.coe _
  idx_vars i
  pointwise [val_main_v28, val_main_v23, val_main_v18, val_main_v13, val_main_v11, val_main_v10, val_main_v9, val_main_v12, val_main_v17, val_main_v16, val_main_v15, val_main_v14, val_main_v22, val_main_v21, val_main_v20, val_main_v19, val_main_v27, val_main_v26, val_main_v25, val_main_v24, up2, pk1 G]
  exact (((((IsReal.coe _).mul (IsReal.coe _)).add (IsReal.coe _)).add ((IsReal.coe _).mul (h1 _))).add ((IsReal.coe _).mul (h1 _))).add ((IsReal.coe _).mul (h1 _))

section Conv
variable (hcv : val_main_v28 (F := Ideal) (up2 G.zx) (up2 G.cw) (up2 G.cb) = up2 G.cv)
include hcv

theorem v68 : ∃ f, val_main_v74 (F := Ideal) (up2 G.zx) (up2 G.cw) (up2 G.cb) (up2 G.hs) = up5 f := by
  refine real_up5 fun i => ?_
  idx_vars i
  pointwise [val_main_v74, v67 G hcv, v27 G hcv, up4, up5]
  exact IsReal.sum fun s => (IsReal.coe _).mul (IsReal.coe _)
theorem real_states (c : Fin 32) (i : S2x8x64x128.Idx) : IsReal (states (up2 G.zx) (up2 G.cw) (up2 G.cb) (up2 G.hs) c i) := by
  obtain ⟨f, e⟩ := v68 G hcv
  have e76 : val_main_v82 (F := Ideal) (up2 G.zx) (up2 G.cw) (up2 G.cb) (up2 G.hs) = up5 f := by
    funext i; idx_vars i
    pointwise [val_main_v82, e, up5]
  have e78 : val_main_v84 (F := Ideal) (up2 G.zx) (up2 G.hs) = up5 fun c g j (_ : Fin 64) (_ : Fin 128) => Real.exp ((G.r c).AL 127 (hd g j)) := by
    funext i; idx_vars i
    pointwise [val_main_v84, v73, up5]
  induction c using Fin.induction generalizing i with
  | zero =>
    idx_vars i
    show IsReal (val_main_v80 (F := Ideal) (ix4 i0 i1 i2 i3))
    pointwise [val_main_v80, val_main_cst_4]
    exact IsReal.zero
  | succ c ih =>
    rw [states_step, e76, e78]
    idx_vars i
    have hi := ih (ix4 i0 i1 i2 i3)
    show IsReal (_ * entry _ _ _ + entry _ _ _)
    rw [entry_at, entry_at]
    exact (hi.mul (IsReal.coe _)).add (IsReal.coe _)
theorem real_v307 (i : S32x2x8x64x128.Idx) : IsReal (val_main_v313 (F := Ideal) (up2 G.zx) (up2 G.cw) (up2 G.cb) (up2 G.hs) i) := by
  idx_vars i
  rw [v307_at]
  exact real_states G hcv _ _

theorem real_v321 {p} (hp : val_main_v313 (F := Ideal) (up2 G.zx) (up2 G.cw) (up2 G.cb) (up2 G.hs) = up5 p) (i : S4096x1024.Idx) :
    IsReal (val_main_v327 (F := Ideal) (up2 G.zx) (up2 G.cw) (up2 G.cb) (up2 G.hs) i) := by
  have h320 : ∀ i, IsReal (val_main_v326 (F := Ideal) (up2 G.zx) (up2 G.cw) (up2 G.cb) (up2 G.hs) i) := by
    intro i; idx_vars i
    pointwise [val_main_v326, val_main_v321, val_main_v325, val_main_v324, val_main_v323, val_main_v322, val_main_v320, val_main_v319, val_main_v318, val_main_v316, val_main_v315, val_main_v317,
      val_main_v65, val_main_v64, v308, v57 G hcv, v37 G hcv, v25 G hcv, v29 G hcv, hp, up4, up5, pk5 G]
    exact ((IsReal.sum fun s => (IsReal.coe _).mul (IsReal.coe _)).add ((IsReal.coe _).mul (IsReal.sum fun s => (IsReal.coe _).mul (IsReal.coe _)))).add ((IsReal.coe _).mul (IsReal.coe _))
  unfold val_main_v327
  exact h320 _
end Conv

/-- On real arguments there are a convolution, carried states and output rows as the reference computes them. -/
theorem known (zx : Fin 4096 → Fin 2576 → ℝ) (dm : Fin 4096 → Fin 1024 → ℝ) (cw : Fin 4 → Fin 1536 → ℝ)
    (cb : Fin 1 → Fin 1536 → ℝ) (hs : Fin 3 → Fin 16 → ℝ) (nw : Fin 1 → Fin 1024 → ℝ) : ∃ cv y pv, Known ⟨zx, dm, cw, cb, hs, nw, cv, y, pv⟩ := by
  obtain ⟨cv, e⟩ := real_up2 (real_v22 ⟨zx, dm, cw, cb, hs, nw, fun _ _ => 0, fun _ _ => 0, fun _ _ _ _ _ => 0⟩)
  let K : Cert.Ssd.G := ⟨zx, dm, cw, cb, hs, nw, cv, fun _ _ => 0, fun _ _ _ _ _ => 0⟩
  obtain ⟨pv, ep⟩ := real_up5 (real_v307 K e)
  obtain ⟨y, ey⟩ := real_up2 (real_v321 K e ep)
  exact ⟨cv, y, pv, e, ey, ep⟩

end Cert.Ssd.Ref

end
-- ==== Proof.Ssd.RefD.lean ====
/- The reference's gradients within the chunks, on real numbers. -/
module

public import proofs.«01_k».proof.Proof.Ssd.RefC
public import Idealize.ShloMosaic.Lib.IdealHost

@[expose] public section

set_option maxRecDepth 16384

noncomputable section

namespace Cert.Ssd.Ref

open Idealize.ShloMosaic Idealize.ShloMosaic.TcCoe Idealize.SL.Sem
open Cert.SsdRefIdeal Cert.SsdRefIdeal.Gen Cert.SsdRefIdeal.Read Cert.Lift Cert.Ssd.Pair Cert.Ssd.Front Cert.Ssd.Chunk Cert.Ssd.Chunk.R

/-- A host sum along the last two of five axes. -/
theorem red34 {n0 n1 n2 n3 n4 : ℕ} (h : (⟨5, ![n0, n1, n2, n3, n4]⟩ : Shape).ReducesTo [3, 4] (⟨3, ![n0, n1, n2]⟩ : Shape))
    (v : (⟨5, ![n0, n1, n2, n3, n4]⟩ : Shape).Idx → EReal) (init : EReal) (a : Fin n0) (b : Fin n1) (c : Fin n2) :
    Ideal.hostReduceAdd h v init (ix3 a b c) = init + ∑ k : Fin n3, ∑ l : Fin n4, v (ix5 a b c k l) := by
  refine congrArg (init + ·) ((Finset.sum_filter_eq_sum_of_fiber _ (fun k : Fin n3 × Fin n4 => ix5 a b c k.1 k.2)
    (fun _ _ e => Prod.ext (congrFun e 3) (congrFun e 4)) (fun i => ⟨fun e => ⟨(i 3, i 4), ?_⟩, ?_⟩) v).trans (by simp only [Fintype.sum_prod_type]))
  · funext d; fin_cases d <;> first | rfl | exact Fin.ext (congrArg Fin.val (congrFun e 0)).symm | exact Fin.ext (congrArg Fin.val (congrFun e 1)).symm | exact Fin.ext (congrArg Fin.val (congrFun e 2)).symm
  · rintro ⟨k, rfl⟩; funext d; fin_cases d <;> rfl
/-- A host sum along the first two and the last of five axes. -/
theorem red014 {n0 n1 n2 n3 n4 : ℕ} (h : (⟨5, ![n0, n1, n2, n3, n4]⟩ : Shape).ReducesTo [0, 1, 4] (⟨2, ![n2, n3]⟩ : Shape))
    (v : (⟨5, ![n0, n1, n2, n3, n4]⟩ : Shape).Idx → EReal) (init : EReal) (a : Fin n2) (b : Fin n3) :
    Ideal.hostReduceAdd h v init (ix2 a b) = init + ∑ k : Fin n0, ∑ l : Fin n1, ∑ q : Fin n4, v (ix5 k l a b q) := by
  refine congrArg (init + ·) ((Finset.sum_filter_eq_sum_of_fiber _ (fun k : Fin n0 × Fin n1 × Fin n4 => ix5 k.1 k.2.1 a b k.2.2)
    (fun _ _ e => Prod.ext (congrFun e 0) (Prod.ext (congrFun e 1) (congrFun e 4))) (fun i => ⟨fun e => ⟨(i 0, i 1, i 4), ?_⟩, ?_⟩) v).trans
    (by simp only [Fintype.sum_prod_type]))
  · funext d; fin_cases d <;> first | rfl | exact Fin.ext (congrArg Fin.val (congrFun e 0)).symm | exact Fin.ext (congrArg Fin.val (congrFun e 1)).symm | exact Fin.ext (congrArg Fin.val (congrFun e 2)).symm
  · rintro ⟨k, rfl⟩; funext d; fin_cases d <;> rfl

variable (G : G) (h : Known G)
include h

/-- The gradient of a chunk's whole decay. -/
theorem v759 : val_main_v765 (F := Ideal) (up2 G.zx) (up2 G.dm) (up2 G.cw) (up2 G.cb) (up2 G.hs) (up2 G.nw)
    = up3 fun c g j => (∑ q, ∑ n, (G.r c).D n (col g j q) * (G.r c).H n (col g j q)) * Real.exp ((G.r c).AL 127 (hd g j)) := by
  funext i; idx_vars i
  pointwise [val_main_v765, val_main_v764, val_main_v763, val_main_v762, val_main_cst_22, val_main_cst_23, v755 G h, v71, up3, up5]
  rw [red34]
  pointwise []
  simp only [red34, Finset.univ_unique, Finset.sum_singleton, coe_sum, ← EReal.coe_mul, up5]
  pointwise []
  simp only [coe_sum, ← EReal.coe_mul]
  simp only [mul_comm ((G.r i0).H _ _)]
theorem v766 : val_main_v772 (F := Ideal) (up2 G.zx) (up2 G.dm) (up2 G.cw) (up2 G.cb) (up2 G.hs) (up2 G.nw) = up5 fun c s g j q => ∑ n, (G.r c).bR g s n * (G.r c).D n (col g j q) := by
  funext i; idx_vars i
  pointwise [val_main_v772, val_main_v771, v754 G h, v27 G h.cv, up4, up5]
  simp only [← EReal.coe_mul, coe_sum, mul_comm]
theorem v764 : val_main_v770 (F := Ideal) (up2 G.zx) (up2 G.dm) (up2 G.cw) (up2 G.cb) (up2 G.hs) (up2 G.nw) = up4 fun c s g n => (G.r c).BO g s n := by
  funext i; idx_vars i
  pointwise [val_main_v770, val_main_v769, v754 G h, v67 G h.cv, up4, up5]
  simp only [← EReal.coe_mul, coe_sum]
  congr 1
  exact Finset.sum_congr rfl fun j _ => Finset.sum_congr rfl fun q _ => by rw [mul_comm]; rfl
theorem v774 : val_main_v780 (F := Ideal) (up2 G.zx) (up2 G.dm) (up2 G.cw) (up2 G.cb) (up2 G.hs) (up2 G.nw) = up4 fun c g j s => ∑ q, (G.r c).W s (col g j q) := by
  funext i; idx_vars i
  pointwise [val_main_v780, val_main_v779, val_main_v778, val_main_v777, val_main_v776, val_main_v775, val_main_cst_25, val_main_cst_26, v766 G h, v37 G h.cv, v63, up4, up5]
  simp only [Finset.univ_unique, Finset.sum_singleton, coe_sum, ← EReal.coe_mul, Finset.sum_mul]
  congr 1
  refine Finset.sum_congr rfl fun q _ => ?_
  unfold R.W; rw [hl_col, grp_col, Finset.sum_mul, Finset.sum_mul]
theorem v780 : val_main_v786 (F := Ideal) (up2 G.zx) (up2 G.dm) (up2 G.cw) (up2 G.cb) (up2 G.hs) (up2 G.nw)
    = up4 fun c g j s => (∑ q, (G.r c).OFF s (col g j q)) - (∑ q, (G.r c).W s (col g j q)) + (if s.val = 127 then ∑ q, (G.r c).LAST (col g j q) else 0) := by
  funext i; idx_vars i
  pointwise [val_main_v786, val_main_v785, val_main_v784, val_main_v783, val_main_v782, val_main_v781, val_main_v768, val_main_v767, val_main_v766, val_main_cst_24, val_main_cst_27, val_main_cst_28,
    v774 G h, v386 G h, v759 G h, up3, up4]
  simp only [coe_sum]
  by_cases e : i3.val = 127
  · rw [dif_pos (by omega), dif_pos (by omega), if_pos e]
    simp only [← EReal.coe_neg, ← EReal.coe_add]
    congr 1
    rw [show (∑ q, (G.r i0).LAST (col i1 i2 q)) = (∑ s, ∑ q, (G.r i0).W s (col i1 i2 q))
        + (∑ q, ∑ n, (G.r i0).D n (col i1 i2 q) * (G.r i0).H n (col i1 i2 q)) * Real.exp ((G.r i0).AL 127 (hd i1 i2)) from ?_]
    · ring
    · unfold R.LAST
      simp only [hl_col]
      rw [Finset.sum_add_distrib, Finset.sum_comm, Finset.sum_mul]
  · rw [dif_neg (by omega), dif_neg (by omega), if_neg e]
    simp only [← EReal.coe_neg, ← EReal.coe_add, ← EReal.coe_zero]
    congr 1
    ring
theorem v782 : val_main_v788 (F := Ideal) (up2 G.zx) (up2 G.dm) (up2 G.cw) (up2 G.cb) (up2 G.hs) (up2 G.nw) = up5 fun c g j s l => ∑ q, (G.r c).dyk s (col g j q) * (G.r c).xd l (col g j q) := by
  funext i; idx_vars i
  pointwise [val_main_v788, val_main_v787, v366 G h, v37 G h.cv, up5]
  simp only [← EReal.coe_mul, coe_sum]
theorem v785 : val_main_v791 (F := Ideal) (up2 G.zx) (up2 G.dm) (up2 G.cw) (up2 G.cb) (up2 G.hs) (up2 G.nw) = up5 fun c s g j q => (G.r c).DX s (col g j q) := by
  funext i; idx_vars i
  pointwise [val_main_v791, val_main_v790, val_main_v789, val_main_v787, val_main_v774, val_main_v773, val_main_v71, val_main_v70, v63, v766 G h, v366 G h, v57 G h.cv, up4, up5]
  simp only [← EReal.coe_mul, coe_sum, ← EReal.coe_add]
  congr 1
  unfold R.DX; rw [hl_col, grp_col]
  congr 1
  · rw [mul_comm]
  · exact Finset.sum_congr rfl fun t _ => by rw [mul_comm]
theorem v791 : val_main_v797 (F := Ideal) (up2 G.zx) (up2 G.dm) (up2 G.cw) (up2 G.cb) (up2 G.hs) (up2 G.nw) = up4 fun c g s l => (G.r c).DG g s l := by
  funext i; idx_vars i
  pointwise [val_main_v797, val_main_v796, val_main_v795, val_main_v794, val_main_cst_29, val_main_cst_30, v782 G h, v53, up4, up5]
  simp only [Finset.univ_unique, Finset.sum_singleton, coe_sum, ← EReal.coe_mul]
  rfl
theorem v794 : val_main_v800 (F := Ideal) (up2 G.zx) (up2 G.dm) (up2 G.cw) (up2 G.cb) (up2 G.hs) (up2 G.nw) = up4 fun c s g n => (G.r c).DB g s n := by
  funext i; idx_vars i
  pointwise [val_main_v800, val_main_v799, val_main_v798, v764 G h, v791 G h, v29 G h.cv, up4]
  simp only [coe_sum, ← EReal.coe_mul, ← EReal.coe_add]
  rfl
theorem v797 : val_main_v803 (F := Ideal) (up2 G.zx) (up2 G.dm) (up2 G.cw) (up2 G.cb) (up2 G.hs) (up2 G.nw) = up4 fun c s g n => (G.r c).DC g s n := by
  funext i; idx_vars i
  pointwise [val_main_v803, val_main_v802, val_main_v801, v382 G h, v791 G h, v27 G h.cv, up4]
  simp only [coe_sum, ← EReal.coe_mul, ← EReal.coe_add]
  rfl
theorem v798 : val_main_v804 (F := Ideal) (up2 G.zx) (up2 G.dm) (up2 G.cw) (up2 G.cb) (up2 G.hs) (up2 G.nw) = up5 fun c g j s l => (G.r c).N (hg g j) s l := by
  funext i; idx_vars i
  pointwise [val_main_v804, val_main_v793, val_main_v792, val_main_v61, v782 G h, v54 G h.cv, v53, up4, up5]
  simp only [← EReal.coe_mul]
  congr 1
  unfold R.N R.M
  rw [gh_hg]
  show (G.r i0).gR i1 i3 i4 * _ * (G.r i0).dec (hd i1 i2) i3 i4 = _
  rw [mul_assoc, mul_comm]; rfl
omit h in
theorem zero7 : val_main_call7_v0 (F := Ideal) = fun _ => (0 : EReal) := by
  funext i; show Ideal.ofBits .f32 0#32 = 0; simp [Ideal.ofBits, Ideal.ieee]
theorem v799 : val_main_v805 (F := Ideal) (up2 G.zx) (up2 G.dm) (up2 G.cw) (up2 G.cb) (up2 G.hs) (up2 G.nw) = up5 fun c g j s l => (G.r c).N (hg g j) s l := by
  funext i; idx_vars i
  pointwise [val_main_v805, val_main_v58_1, v43, v798 G h, zero7, up5]
  rw [select_low]
  split
  · rfl
  · next e => rw [show (G.r i0).N (hg i1 i2) i3 i4 = 0 from ?_]; · rfl
              unfold R.N R.M R.dec; rw [if_neg e, mul_zero, zero_mul]
theorem v808 : val_main_v814 (F := Ideal) (up2 G.zx) (up2 G.dm) (up2 G.cw) (up2 G.cb) (up2 G.hs) (up2 G.nw) = up4 fun c g j s => (G.r c).DA (hg g j) s := by
  funext i; idx_vars i
  pointwise [val_main_v814, val_main_v813, val_main_v812, val_main_v811, val_main_v810, val_main_v809, val_main_v808, val_main_v807, val_main_v806, val_main_cst_31, val_main_cst_32, val_main_cst_33, val_main_cst_34,
    v780 G h, v799 G h, up4, up5]
  simp only [Finset.univ_unique, Finset.sum_singleton, ← EReal.coe_neg, coe_sum, ← EReal.coe_add]
  congr 1
  unfold R.DA
  rw [Finset.sum_neg_distrib]
  show (∑ q, (G.r i0).OFF i3 (colh (hg i1 i2) q)) - (∑ q, (G.r i0).W i3 (colh (hg i1 i2) q)) + (if i3.val = 127 then ∑ q, (G.r i0).LAST (colh (hg i1 i2) q) else 0) + _ + _ = _
  ring
omit h in
theorem zero8 : val_main_call8_v0 (F := Ideal) = fun _ => (0 : EReal) := by
  funext i; show Ideal.ofBits .f32 0#32 = 0; simp [Ideal.ofBits, Ideal.ieee]
theorem v811 : val_main_v817 (F := Ideal) (up2 G.zx) (up2 G.dm) (up2 G.cw) (up2 G.cb) (up2 G.hs) (up2 G.nw) = up4 fun c g j s => (G.r c).DAS (hg g j) s := by
  funext i; idx_vars i
  pointwise [val_main_v817, val_main_v816, val_main_call8_v2, val_main_call8_v1, zero8, val_main_call8_cst_0, val_main_v51_1, val_main_v815, val_main_cst_35, v43, v808 G h, up4, up5]
  simp only [Finset.univ_unique, Finset.sum_singleton, select_low, coe_ite0, coe_sum]
  rfl
theorem v824 : val_main_v830 (F := Ideal) (up2 G.zx) (up2 G.dm) (up2 G.cw) (up2 G.cb) (up2 G.hs) (up2 G.nw) = up5 fun c s g j q => (G.r c).DXA s (col g j q) := by
  funext i; idx_vars i
  pointwise [val_main_v830, val_main_v829, val_main_v828, val_main_v374, val_main_v373, val_main_v323, val_main_v322, v785 G h, v35, v366 G h, up4, up5, up2, pk5 G]
  simp only [← EReal.coe_mul, ← EReal.coe_add]
  congr 1
  unfold R.DXA; rw [hl_col]
  congr 2
  show _ = G.ds 0 _
  congr 1; apply Fin.ext; show i2.val * 8 + i3.val = (64 * (8 * i2.val + i3.val) + i4.val) / 64; omega
theorem v820 : val_main_v826 (F := Ideal) (up2 G.zx) (up2 G.dm) (up2 G.cw) (up2 G.cb) (up2 G.hs) (up2 G.nw) = up4 fun c s g j => ∑ q, (G.r c).DX s (col g j q) * (G.r c).xk s (col g j q) := by
  funext i; idx_vars i
  pointwise [val_main_v826, val_main_v825, val_main_cst_37, v785 G h, v25 G h.cv, up4, up5]
  simp only [← EReal.coe_mul, coe_sum, mul_comm]

omit h in
theorem hg_dm (j : Fin 16) (a : j.val / 8 < 2) (b : j.val % 8 < 8) : hg ⟨j.val / 8, a⟩ ⟨j.val % 8, b⟩ = j := by
  apply Fin.ext; show 8 * (j.val / 8) + j.val % 8 = j.val; omega
omit h in
theorem col_dm (j : Fin 16) (a : j.val / 8 < 2) (b : j.val % 8 < 8) (q : Fin 64) : col ⟨j.val / 8, a⟩ ⟨j.val % 8, b⟩ q = colh j q :=
  congrArg (colh · q) (hg_dm j a b)
/-- The gradient of the log decays, by row and head. -/
def das (r : Fin 4096) (j : Fin 16) : ℝ := (G.r (cr r)).DAS j (sr r)
theorem v813 : val_main_v819 (F := Ideal) (up2 G.zx) (up2 G.dm) (up2 G.cw) (up2 G.cb) (up2 G.hs) (up2 G.nw) = up2 (das G) := by
  funext i; idx_vars i
  pointwise [val_main_v819, val_main_v818, v811 G h, up4, up2]
  rw [hg_dm]; rfl
def xdx (r : Fin 4096) (j : Fin 16) : ℝ := ∑ q, (G.r (cr r)).DX (sr r) (colh j q) * (G.r (cr r)).xk (sr r) (colh j q)
theorem v825 : val_main_v831 (F := Ideal) (up2 G.zx) (up2 G.dm) (up2 G.cw) (up2 G.cb) (up2 G.hs) (up2 G.nw) = up2 (xdx G) := by
  funext i; idx_vars i
  pointwise [val_main_v831, val_main_v827, v820 G h, up4, up2]
  simp only [col_dm]; rfl
/-- The gradient of the time steps before their gate. -/
def ddt (r : Fin 4096) (j : Fin 16) : ℝ := (xdx G r j + -Real.exp (G.al 0 j) * das G r j) * sg (pre G r j)
theorem v829 : val_main_v835 (F := Ideal) (up2 G.zx) (up2 G.dm) (up2 G.cw) (up2 G.cb) (up2 G.hs) (up2 G.nw) = up2 (ddt G) := by
  funext i; idx_vars i
  pointwise [val_main_v835, val_main_v832, val_main_v824, val_main_v823, v813 G h, v825 G h, v34, v32_1, up2]
  simp only [← EReal.coe_mul, ← EReal.coe_add]
  congr 1
  unfold ddt
  ring
theorem v828 : val_main_v834 (F := Ideal) (up2 G.zx) (up2 G.dm) (up2 G.cw) (up2 G.cb) (up2 G.hs) (up2 G.nw) = up2 fun _ j => -(∑ r, sp (pre G r j) * das G r j) * Real.exp (G.al 0 j) := by
  funext i; idx_vars i
  pointwise [val_main_v834, val_main_v833, val_main_v39, val_main_v822, val_main_v821, val_main_cst_36, val_main_v820, v813 G h, v32_0, up2, pk4 G]
  rw [exp_coe]
  simp only [← EReal.coe_mul, coe_sum, ← EReal.coe_neg]
  fin_cases i0; rfl
theorem v831 : val_main_v837 (F := Ideal) (up2 G.zx) (up2 G.dm) (up2 G.cw) (up2 G.cb) (up2 G.hs) (up2 G.nw) = up2 fun _ j => ∑ r, ddt G r j := by
  funext i; idx_vars i
  pointwise [val_main_v837, val_main_v836, val_main_cst_38, v829 G h, up2]
  simp only [coe_sum]
theorem v370 : val_main_v376 (F := Ideal) (up2 G.zx) (up2 G.dm) (up2 G.cw) (up2 G.cb) (up2 G.hs) (up2 G.nw) = up2 fun g j => ∑ c, ∑ s, ∑ q, (G.r c).dyk s (col g j q) * (G.r c).xk s (col g j q) := by
  funext i; idx_vars i
  show Ideal.hostReduceAdd _ _ _ _ = _
  refine (red014 _ _ _ _ _).trans ?_
  pointwise [val_main_v375, val_main_cst_15, v366 G h, v25 G h.cv, up5, up2]
  simp only [← EReal.coe_mul, coe_sum]
theorem v374 : val_main_v380 (F := Ideal) (up2 G.zx) (up2 G.dm) (up2 G.cw) (up2 G.cb) (up2 G.hs) (up2 G.nw) = up2 fun _ j => ∑ c, ∑ s, ∑ q, (G.r c).dyk s (colh j q) * (G.r c).xk s (colh j q) := by
  have e : val_main_v378 (F := Ideal) (up2 G.zx) (up2 G.dm) (up2 G.cw) (up2 G.cb) (up2 G.hs) (up2 G.nw) = up2 fun g j => ∑ c, ∑ s, ∑ q, (G.r c).dyk s (col g j q) * (G.r c).xk s (col g j q) := by
    funext i; idx_vars i
    show Ideal.hostReduceAdd _ _ _ _ = _
    refine (red014 _ _ _ _ _).trans ?_
    pointwise [val_main_v377, val_main_cst_16, v370 G h, up2]
    simp only [Finset.univ_unique, Finset.sum_singleton]
  funext i; idx_vars i
  pointwise [val_main_v380, val_main_v379, e, up2]
  simp only [col_dm]

end Cert.Ssd.Ref

end
-- ==== Proof.Ssd.RefE.lean ====
/- The reference's convolution gradients and its results, on real numbers. -/
module

public import proofs.«01_k».proof.Proof.Ssd.RefD
public import Idealize.ShloMosaic.Lib.KernelVsHost
public import Idealize.ShloMosaic.Lib.IdealHost

@[expose] public section

set_option maxRecDepth 16384

noncomputable section

namespace Cert.Ssd.Ref

open Idealize.ShloMosaic Idealize.ShloMosaic.TcCoe Idealize.SL.Sem
open Cert.SsdRefIdeal Cert.SsdRefIdeal.Gen Cert.SsdRefIdeal.Read Cert.Lift Cert.Ssd.Pair Cert.Ssd.Front Cert.Ssd.Chunk Cert.Ssd.Chunk.R

/-- A sum against a sequence moved down is the sum of the other one moved up. -/
theorem shift_sum {N : ℕ} (m : ℕ) (f x : Fin N → ℝ) :
    ∑ r, f r * (if h : m ≤ r.val then x ⟨r.val - m, by omega⟩ else 0) = ∑ r, (if h : r.val + m < N then f ⟨r.val + m, h⟩ else 0) * x r := by
  have e1 (r : Fin N) : (if h : m ≤ r.val then x ⟨r.val - m, by omega⟩ else 0) = ∑ t, if t.val + m = r.val then x t else 0 := by
    split
    · next h =>
      rw [Finset.sum_eq_single_of_mem ⟨r.val - m, by omega⟩ (Finset.mem_univ _) fun b _ hb => if_neg fun e => hb (Fin.ext (by show b.val = r.val - m; omega)),
        if_pos (by show r.val - m + m = r.val; omega)]
    · next h => exact (Finset.sum_eq_zero fun t _ => if_neg (by omega)).symm
  have e2 (r : Fin N) : (if h : r.val + m < N then f ⟨r.val + m, h⟩ else 0) = ∑ t, if r.val + m = t.val then f t else 0 := by
    split
    · next h =>
      rw [Finset.sum_eq_single_of_mem ⟨r.val + m, h⟩ (Finset.mem_univ _) fun b _ hb => if_neg fun e => hb (Fin.ext (by show b.val = r.val + m; omega)),
        if_pos rfl]
    · next h => exact (Finset.sum_eq_zero fun t _ => if_neg (by omega)).symm
  simp only [e1, e2, Finset.mul_sum, Finset.sum_mul]
  rw [Finset.sum_comm]
  refine Finset.sum_congr rfl fun t _ => Finset.sum_congr rfl fun r _ => ?_
  split <;> simp

theorem tap_at (w : ℝ) {p q : Prop} [Decidable p] [Decidable q] (hpq : p ↔ q) (f : p → ℝ) (g : q → ℝ) (hfg : ∀ a b, f a = g b) :
    (if h : p then (w : EReal) * ((f h : ℝ) : EReal) else 0) = ((w * (if h : q then g h else 0) : ℝ) : EReal) := by
  by_cases a : p
  · rw [dif_pos a, dif_pos (hpq.1 a), ← EReal.coe_mul, hfg a (hpq.1 a)]
  · rw [dif_neg a, dif_neg (fun b => a (hpq.2 b)), mul_zero, EReal.coe_zero]
theorem sum_at {N : ℕ} (m : ℕ) (f x : Fin N → ℝ) (y : Fin N → EReal)
    (hy : ∀ r, y r = ((if h : m ≤ r.val then x ⟨r.val - m, by omega⟩ else 0 : ℝ) : EReal)) :
    (∑ r, (f r : EReal) * y r) = ((∑ r, (if h : r.val + m < N then f ⟨r.val + m, h⟩ else 0) * x r : ℝ) : EReal) := by
  rw [← shift_sum]
  simp only [hy, ← EReal.coe_mul, coe_sum]
theorem old_at {p q : Prop} [Decidable p] [Decidable q] (hpq : ¬ p ↔ q) (f : ¬ p → ℝ) (g : q → ℝ) (hfg : ∀ a b, f a = g b) :
    (if h : p then (0 : EReal) else ((f h : ℝ) : EReal)) = ((if h : q then g h else 0 : ℝ) : EReal) := by
  by_cases a : p
  · rw [dif_pos a, dif_neg (fun b => (hpq.2 b) a), EReal.coe_zero]
  · rw [dif_neg a, dif_pos (hpq.1 a), hfg a (hpq.1 a)]

variable (G : G) (h : Known G)

/-- The gradient of the convolution's output, by row. -/
def dcv (r : Fin 4096) (k : Fin 1536) : ℝ := (G.r (cr r)).DCV (sr r) k
/-- It moved up by some rows. -/
def nx (m : ℕ) (r : Fin 4096) (k : Fin 1536) : ℝ := if h : r.val + m < 4096 then dcv G ⟨r.val + m, h⟩ k else 0
/-- The sum of two sequences' products by rows is the sum over the chunks and places. -/
theorem by_chunk (F : Fin 4096 → ℝ) : ∑ r, F r = ∑ c, ∑ s, F (row c s) := (sum_blocks 32 128 rfl F row fun _ _ => rfl).symm
theorem dcv_row (c : Fin 32) (s : Fin 128) (k : Fin 1536) : dcv G (row c s) k = (G.r c).DCV s k := by unfold dcv; rw [cr_row, sr_row]
theorem nx_row (m : ℕ) (hm : m < 4) (c : Fin 32) (s : Fin 128) (k : Fin 1536) : nx G m (row c s) k = (G.r c).NXT ⟨s.val + m, by omega⟩ k := by
  unfold nx R.NXT
  have e : (row c s).val = 128 * c.val + s.val := rfl
  by_cases a : s.val + m < 128
  · rw [dif_pos (by omega), dif_pos a, ← dcv_row]
    congr 1; apply Fin.ext; show (row c s).val + m = 128 * c.val + (s.val + m); omega
  · rw [dif_neg (show ¬ (s.val + m < 128) from a)]
    by_cases b : c.val = 31
    · rw [dif_neg (by omega)]
      obtain rfl : c = 31 := Fin.ext b
      rw [G.h_last]
    · rw [dif_pos (by omega), G.h_step c ⟨c.val + 1, by omega⟩ rfl]
      show _ = (G.r ⟨c.val + 1, _⟩).DCV ⟨s.val + m - 128, _⟩ k
      rw [← dcv_row]
      congr 1; apply Fin.ext; show (row c s).val + m = 128 * (c.val + 1) + (s.val + m - 128); omega

include h

def dxa (r : Fin 4096) (k : Fin 1024) : ℝ := (G.r (cr r)).DXA (sr r) k
theorem v837 : val_main_v843 (F := Ideal) (up2 G.zx) (up2 G.dm) (up2 G.cw) (up2 G.cb) (up2 G.hs) (up2 G.nw) = up2 (dxa G) := by
  funext i; idx_vars i
  pointwise [val_main_v843, v824 G h, up2, up5]
  congr 2
  apply Fin.ext; show 64 * (8 * (i1.val / 512) + i1.val / 64 % 8) + i1.val % 64 = i1.val; omega
theorem v832 : val_main_v838 (F := Ideal) (up2 G.zx) (up2 G.dm) (up2 G.cw) (up2 G.cb) (up2 G.hs) (up2 G.nw) = up2 fun r (k : Fin 256) => (G.r (cr r)).DC ⟨k.val / 128, by omega⟩ (sr r) ⟨k.val % 128, by omega⟩ := by
  funext i; idx_vars i
  pointwise [val_main_v838, v797 G h, up2, up4]
  rfl
theorem v834 : val_main_v840 (F := Ideal) (up2 G.zx) (up2 G.dm) (up2 G.cw) (up2 G.cb) (up2 G.hs) (up2 G.nw) = up2 fun r (k : Fin 256) => (G.r (cr r)).DB ⟨k.val / 128, by omega⟩ (sr r) ⟨k.val % 128, by omega⟩ := by
  funext i; idx_vars i
  pointwise [val_main_v840, v794 G h, up2, up4]
  rfl
theorem v839 : val_main_v845 (F := Ideal) (up2 G.zx) (up2 G.dm) (up2 G.cw) (up2 G.cb) (up2 G.hs) (up2 G.nw) = up2 fun r k => if h : k.val < 1024 then (G.r (cr r)).DXA (sr r) ⟨k.val, h⟩ else (G.r (cr r)).DBC (sr r) ⟨k.val - 1024, by omega⟩ := by
  funext i; idx_vars i
  pointwise [val_main_v845, val_main_v844, val_main_v842, val_main_v841, val_main_v839, val_main_cst_39, val_main_cst_40, val_main_cst_41, v832 G h, v834 G h, v837 G h, up2]
  by_cases a : i1.val < 1024
  · rw [dif_neg (by omega), dif_neg (by omega), dif_pos a, dif_pos a, add_zero, zero_add]; rfl
  · by_cases b : i1.val < 1280
    · rw [dif_neg (by omega), dif_pos (by omega), dif_neg a, dif_neg a, add_zero, zero_add]
      congr 1
      unfold R.DBC pick
      simp only []
      by_cases d : i1.val < 1152
      · rw [if_pos (by omega), show (⟨(i1.val - 1024) / 128, by omega⟩ : Fin 2) = 0 from Fin.ext (by show _ = 0; simp; omega)]
      · rw [if_neg (by omega), if_pos (by omega), show (⟨(i1.val - 1024) / 128, by omega⟩ : Fin 2) = 1 from Fin.ext (by show _ = 1; simp; omega)]
    · rw [dif_pos (by omega), dif_neg (by omega), dif_neg a, dif_neg a, add_zero, add_zero]
      congr 1
      have e : (⟨(i1.val - 1280) % 128, Nat.mod_lt _ (by decide)⟩ : Fin 128) = ⟨(i1.val - 1024) % 128, Nat.mod_lt _ (by decide)⟩ := Fin.ext (by show (i1.val - 1280) % 128 = (i1.val - 1024) % 128; omega)
      unfold R.DBC pick
      simp only []
      rw [e]
      by_cases d : i1.val < 1408
      · rw [if_neg (by omega), if_neg (by omega), if_pos (by omega), show (⟨(i1.val - 1280) / 128, by omega⟩ : Fin 2) = 0 from Fin.ext (by show _ = 0; simp; omega)]
      · rw [if_neg (by omega), if_neg (by omega), if_neg (by omega), show (⟨(i1.val - 1280) / 128, by omega⟩ : Fin 2) = 1 from Fin.ext (by show _ = 1; simp; omega)]
theorem v840 : val_main_v846 (F := Ideal) (up2 G.zx) (up2 G.dm) (up2 G.cw) (up2 G.cb) (up2 G.hs) (up2 G.nw) = up2 (dcv G) := by
  funext i; idx_vars i
  pointwise [val_main_v846, val_main_call10_v2, val_main_call10_v1, val_main_call10_v0, h.cv, v839 G h, v23_1 G h.cv, v23_2 G h.cv, up2]
  simp only [← EReal.coe_mul, ← EReal.coe_add]
  congr 1
  unfold dcv R.DCV
  rw [show (G.r (cr i0)).cv (sr i0) i1 = G.cv (row (cr i0) (sr i0)) i1 from rfl, row_cr]
  unfold dsilu; ring
theorem v844 : val_main_v850 (F := Ideal) (up2 G.zx) (up2 G.dm) (up2 G.cw) (up2 G.cb) (up2 G.hs) (up2 G.nw) = up1 fun k => ∑ r, nx G 1 r k * G.xb r k := by
  funext i; idx_vars i
  pointwise [val_main_v850, val_main_cst_42, val_main_v849, v840 G h, val_main_v25, val_main_v7, val_main_v6, val_main_cst, up2, up1, pk1 G]
  exact sum_at 1 (dcv G · i0) (G.xb · i0) _ fun r => old_at (by omega) _ _ fun _ _ => congrArg (G.xb · i0) (Fin.ext (by simp <;> omega))
theorem v851 : val_main_v857 (F := Ideal) (up2 G.zx) (up2 G.dm) (up2 G.cw) (up2 G.cb) (up2 G.hs) (up2 G.nw) = up1 fun k => ∑ r, nx G 2 r k * G.xb r k := by
  funext i; idx_vars i
  pointwise [val_main_v857, val_main_cst_45, val_main_v856, v840 G h, val_main_v20, val_main_v7, val_main_v6, val_main_cst, up2, up1, pk1 G]
  exact sum_at 2 (dcv G · i0) (G.xb · i0) _ fun r => old_at (by omega) _ _ fun _ _ => congrArg (G.xb · i0) (Fin.ext (by simp <;> omega))
omit h in
/-- The input three rows before. -/
def old3 (r : Fin 4096) (k : Fin 1536) : ℝ := if h : 3 ≤ r.val then G.xb ⟨r.val - 3, by omega⟩ k else 0
omit h in
theorem v9 : val_main_v15 (F := Ideal) (up2 G.zx) = up2 (old3 G) := by
  funext i; idx_vars i
  pointwise [val_main_v15, val_main_v7, val_main_v6, val_main_cst, up2, pk1 G]
  exact old_at (by omega) _ _ fun _ _ => rfl
theorem v860 : val_main_v866 (F := Ideal) (up2 G.zx) (up2 G.dm) (up2 G.cw) (up2 G.cb) (up2 G.hs) (up2 G.nw) = up1 fun k => ∑ r, nx G 3 r k * G.xb r k := by
  funext i; idx_vars i
  pointwise [val_main_v866, val_main_cst_48, val_main_v865, v840 G h, v9, up2, up1]
  exact sum_at 3 (dcv G · i0) (G.xb · i0) _ fun r => rfl
theorem v871 : val_main_v877 (F := Ideal) (up2 G.zx) (up2 G.dm) (up2 G.cw) (up2 G.cb) (up2 G.hs) (up2 G.nw) = up1 fun k => ∑ r, dcv G r k * G.xb r k := by
  funext i; idx_vars i
  pointwise [val_main_v877, val_main_cst_52, val_main_v876, v840 G h, up2, up1, pk1 G]
  simp only [← EReal.coe_mul, coe_sum]
theorem v866 : val_main_v872 (F := Ideal) (up2 G.zx) (up2 G.dm) (up2 G.cw) (up2 G.cb) (up2 G.hs) (up2 G.nw) = up1 fun k => ∑ r, dcv G r k := by
  funext i; idx_vars i
  pointwise [val_main_v872, val_main_cst_51, v840 G h, up2, up1]
  simp only [coe_sum]
theorem v876 : val_main_v882 (F := Ideal) (up2 G.zx) (up2 G.dm) (up2 G.cw) (up2 G.cb) (up2 G.hs) (up2 G.nw) = up2 fun r k => G.cw 2 k * nx G 1 r k + G.cw 1 k * nx G 2 r k + G.cw 0 k * nx G 3 r k := by
  funext i; idx_vars i
  pointwise [val_main_v882, val_main_v869, val_main_v868, val_main_cst_49, val_main_v864, val_main_v863, val_main_v14, val_main_v860, val_main_v859, val_main_cst_46, val_main_v855, val_main_v854, val_main_v19,
    val_main_v852, val_main_cst_43, val_main_v848, val_main_v847, val_main_v24, v840 G h, up2]
  rw [EReal.coe_add, EReal.coe_add]
  unfold nx
  refine congrArg₂ (· + ·) (congrArg₂ (· + ·) (tap_at _ ?_ _ _ fun _ _ => ?_) (tap_at _ ?_ _ _ fun _ _ => ?_)) (tap_at _ ?_ _ _ fun _ _ => ?_)
  all_goals first | omega | exact congrArg (dcv G · i1) (Fin.ext (by simp <;> omega))
theorem v877 : val_main_v883 (F := Ideal) (up2 G.zx) (up2 G.dm) (up2 G.cw) (up2 G.cb) (up2 G.hs) (up2 G.nw) = up2 fun r k => (G.r (cr r)).DRAW (sr r) k := by
  funext i; idx_vars i
  pointwise [val_main_v883, val_main_v875, val_main_v874, val_main_v9, v876 G h, v840 G h, up2]
  simp only [← EReal.coe_mul, ← EReal.coe_add]
  congr 1
  unfold R.DRAW
  rw [← nx_row G 1 (by decide), ← nx_row G 2 (by decide), ← nx_row G 3 (by decide), row_cr]
  show G.cw 3 i1 * dcv G i0 i1 + _ = G.cw 3 i1 * dcv G i0 i1 + G.cw 0 i1 * _ + G.cw 1 i1 * _ + G.cw 2 i1 * _
  ring

omit h in
theorem lanes_at {n : ℕ} (f : Fin n → Fin 16 → ℝ) (s : Fin n) (j : Fin 16) : Ssd.G.lanes f s ⟨j.val, by omega⟩ = f s j := by
  unfold Ssd.G.lanes; rw [dif_pos (show j.val < 16 from j.isLt)]
omit h in
/-- The chunk's time step gradient is the row's. -/
theorem ddt_at (r : Fin 4096) (j : Fin 16) : ddt G r j = (G.r (cr r)).DDT (sr r) ⟨j.val, by omega⟩ := by
  unfold R.DDT
  rw [dif_pos (show j.val < 16 from j.isLt)]
  show _ = (_ + -Real.exp (Ssd.G.lanes G.al 0 ⟨j.val, _⟩) * _) * sg (Ssd.G.lanes G.dt (row (cr r) (sr r)) ⟨j.val, _⟩ + Ssd.G.lanes G.tb 0 ⟨j.val, _⟩)
  rw [lanes_at, lanes_at, lanes_at, row_cr]
  rfl
/-- The gradients of the packed columns. -/
theorem v880 : val_main_v886 (F := Ideal) (up2 G.zx) (up2 G.dm) (up2 G.cw) (up2 G.cb) (up2 G.hs) (up2 G.nw) = up2 fun r k => (G.r (cr r)).OUT (sr r) k := by
  funext i; idx_vars i
  pointwise [val_main_v886, val_main_v885, val_main_v884, val_main_cst_54, v365 G h, v877 G h, v829 G h, up2]
  unfold R.OUT
  by_cases a : i1.val < 1024
  · rw [dif_pos a, dif_pos a]
  · by_cases b : i1.val < 2560
    · rw [dif_neg a, dif_neg a, dif_pos (by omega), dif_pos b]
    · rw [dif_neg a, dif_neg a, dif_neg (by omega), dif_neg b]
      by_cases d : i1.val < 2576
      · rw [dif_pos (by omega), dif_pos (by omega), ddt_at G i0 ⟨i1.val - 1024 - 1536, by omega⟩]
        congr 2
      · rw [dif_neg (by omega)]
        by_cases e : i1.val < 2688
        · rw [dif_pos e]; unfold R.DDT; rw [dif_neg (by show ¬ (i1.val - 2560 < 16); omega), EReal.coe_zero]
        · rw [dif_neg e, EReal.coe_zero]
omit h in
theorem raw_row (c : Fin 32) (s : Fin 128) (k : Fin 1536) : G.xb (row c s) k = (G.r c).RAW s k := by
  unfold R.RAW rawR
  split
  · rfl
  · next e => show _ = G.xb (row c s) ⟨1024 + (k.val - 1024), _⟩; congr 1; apply Fin.ext; show k.val = 1024 + (k.val - 1024); omega
theorem v882 : val_main_v888 (F := Ideal) (up2 G.zx) (up2 G.dm) (up2 G.cw) (up2 G.cb) (up2 G.hs) (up2 G.nw) = up2 (G.st 32).g := by
  funext i; idx_vars i
  show _ = (((G.st 32).g i0 i1 : ℝ) : EReal)
  rw [G.g_total]
  fin_cases i0
  all_goals pointwise [val_main_v888, val_main_v887, val_main_cst_55, val_main_v873, val_main_v880, val_main_v879, val_main_cst_53, val_main_v878, val_main_v871, val_main_v870, val_main_cst_50, val_main_v867,
    val_main_v862, val_main_v861, val_main_cst_47, val_main_v858, val_main_v853, val_main_cst_44, val_main_v851, v844 G h, v851 G h, v860 G h, v871 G h, v866 G h, up1]
  · simp only [by_chunk, nx_row G 3 (by decide), raw_row]; rfl
  · simp only [by_chunk, nx_row G 2 (by decide), raw_row]; rfl
  · simp only [by_chunk, nx_row G 1 (by decide), raw_row]; rfl
  · simp only [by_chunk, dcv_row, raw_row]; rfl
  · simp only [by_chunk, dcv_row]; rfl
  all_goals exact (congrArg Real.toEReal (Finset.sum_eq_zero fun _ _ => rfl)).symm
theorem v344_g : val_main_v350 (F := Ideal) (up2 G.zx) (up2 G.dm) (up2 G.cw) (up2 G.cb) (up2 G.hs) = up2 fun (_ : Fin 1) k => (G.st 32).v 0 k := by
  rw [v344 G h]
  funext i; idx_vars i
  show ((∑ r, gu G r i1 * gs G (grp i1) r * G.dm r i1 : ℝ) : EReal) = (((G.st 32).v 0 i1 : ℝ) : EReal)
  rw [G.v_total, by_chunk]
  congr 1
  refine Finset.sum_congr rfl fun c _ => ?_
  show _ = (G.r c).vw i1
  refine Finset.sum_congr rfl fun s _ => ?_
  show gu G (row c s) i1 * gs G (grp i1) (row c s) * G.dm (row c s) i1 = G.dm (row c s) i1 * (gu G (row c s) (gcol (grp i1) ⟨i1.val % 512, _⟩) * gs G (grp i1) (row c s))
  rw [show gcol (grp i1) ⟨i1.val % 512, Nat.mod_lt _ (by decide)⟩ = i1 from Fin.ext (by show 512 * (i1.val / 512) + i1.val % 512 = i1.val; omega)]
  ring
theorem v883 : val_main_v889 (F := Ideal) (up2 G.zx) (up2 G.dm) (up2 G.cw) (up2 G.cb) (up2 G.hs) (up2 G.nw) = up2 (G.st 32).t := by
  funext i; idx_vars i
  show _ = (((G.st 32).t i0 i1 : ℝ) : EReal)
  rw [G.t_total]
  pointwise [val_main_v889, val_main_call11_v0, v831 G h, val_main_c_56, up2]
  by_cases a : i0.val = 0
  · by_cases b : i1.val < 16
    · rw [dif_pos (by omega)]
      congr 1
      rw [by_chunk]
      refine Finset.sum_congr rfl fun c _ => ?_
      unfold R.tAdd; rw [if_pos a]
      refine Finset.sum_congr rfl fun s _ => ?_
      rw [ddt_at, cr_row, sr_row]
    · rw [dif_neg (by omega)]
      refine (sitofp_zero (φ := .f32)).trans (congrArg Real.toEReal (Finset.sum_eq_zero fun c _ => ?_)).symm
      unfold R.tAdd; rw [if_pos a]
      exact Finset.sum_eq_zero fun s _ => by unfold R.DDT; rw [dif_neg b]
  · rw [dif_neg (by omega)]
    refine (sitofp_zero (φ := .f32)).trans (congrArg Real.toEReal (Finset.sum_eq_zero fun c _ => ?_)).symm
    unfold R.tAdd; rw [if_neg a]
theorem v884 : val_main_v890 (F := Ideal) (up2 G.zx) (up2 G.dm) (up2 G.cw) (up2 G.cb) (up2 G.hs) (up2 G.nw) = up2 fun (a : Fin 2) (j : Fin 16) => ∑ q, (G.st 32).v ⟨1 + a.val, by omega⟩ (colh j q) := by
  funext i; idx_vars i
  show _ = ((∑ q, (G.st 32).v ⟨1 + i0.val, _⟩ (colh i1 q) : ℝ) : EReal)
  simp only [G.v_total]
  fin_cases i0
  all_goals pointwise [val_main_v890, v828 G h, v374 G h, up2]
  · congr 1
    rw [Finset.sum_comm, by_chunk, neg_mul, Finset.sum_mul, ← Finset.sum_neg_distrib]
    refine Finset.sum_congr rfl fun c _ => ?_
    show -((∑ s, sp (pre G (row c s) i1) * das G (row c s) i1) * _)
      = ∑ q, (∑ s, (G.r c).DT s (hl (colh i1 q)) * (G.r c).das s (colh i1 q)) * -Real.exp ((G.r c).alog 0 (hl (colh i1 q)))
    simp only [hl_colh, dt_row]
    rw [show (G.r c).alog 0 (hn i1) = G.al 0 i1 from lanes_at G.al 0 i1, ← Finset.sum_mul, Finset.sum_comm, mul_neg]
    congr 2
    refine Finset.sum_congr rfl fun s _ => ?_
    rw [← Finset.mul_sum, das_head]
    unfold das; rw [cr_row, sr_row]
  · congr 1
    conv_rhs => rw [Finset.sum_comm]
    refine Finset.sum_congr rfl fun c _ => ?_
    show _ = ∑ q, ∑ s, (G.r c).dyk s (colh i1 q) * (G.r c).xk s (colh i1 q)
    rw [Finset.sum_comm]

end Cert.Ssd.Ref

end
-- ==== Proof.Ssd.Args.lean ====
/- Finite arguments of the recurrence's gradient are real arrays. -/
module

public import proofs.«01_k».proof.Defs
public import proofs.«01_k».proof.Proof.Ssd.Final
public import proofs.«01_k».proof.Proof.Ssd.Finite
public import proofs.«01_k».proof.Proof.Ssd.RefE

@[expose] public section

set_option maxRecDepth 16384

noncomputable section

namespace Cert.Ssd

open Idealize.ShloMosaic Idealize.ShloMosaic.TcCoe Idealize.SL.Sem Cert.Lift

theorem preFacts : Cert.Pre_finite_ssd.Facts where
  bcast_S_S4096x2576 := by decide
  bcast_S_S4096x1024 := by decide
  bcast_S_S4x1536 := by decide
  bcast_S_S1x1536 := by decide
  bcast_S_S3x16 := by decide
  bcast_S_S1x1024 := by decide

/-- Finite arguments are real arrays, and on them the forward values are real. -/
theorem args_of_finite (m : (ℓ : Loc Cert.SsdIdeal.nD Cert.SsdIdeal.τ Cert.SsdIdeal.sig) → Buf (Elt Ideal) ℓ)
    (h : @Cert.Pre_SsdIdeal_finite_ssd preFacts m) (c : Dev Cert.SsdIdeal.nD) :
    ∃ K : Cert.Ssd.G, Blocks.ArgsOf m c K ∧ Ref.Known K := by
  obtain ⟨h0, h1, h2, h3, h4, h5⟩ := h c
  have ⟨zx, e0⟩ : ∃ f, m (c, Proc.devRef .tc Cert.SsdIdeal.main_arg0) = up2 f := ⟨_, eq_up2 _ (finite_of_cmp _ _ (fun _ => by first | exact bits_inf | exact bits_inf_bf16) h0)⟩
  have ⟨dm, e1⟩ : ∃ f, m (c, Proc.devRef .tc Cert.SsdIdeal.main_arg1) = up2 f := ⟨_, eq_up2 _ (finite_of_cmp _ _ (fun _ => by first | exact bits_inf | exact bits_inf_bf16) h1)⟩
  have ⟨cw, e2⟩ : ∃ f, m (c, Proc.devRef .tc Cert.SsdIdeal.main_arg2) = up2 f := ⟨_, eq_up2 _ (finite_of_cmp _ _ (fun _ => by first | exact bits_inf | exact bits_inf_bf16) h2)⟩
  have ⟨cb, e3⟩ : ∃ f, m (c, Proc.devRef .tc Cert.SsdIdeal.main_arg3) = up2 f := ⟨_, eq_up2 _ (finite_of_cmp _ _ (fun _ => by first | exact bits_inf | exact bits_inf_bf16) h3)⟩
  have ⟨hs, e4⟩ : ∃ f, m (c, Proc.devRef .tc Cert.SsdIdeal.main_arg4) = up2 f := ⟨_, eq_up2 _ (finite_of_cmp _ _ (fun _ => by first | exact bits_inf | exact bits_inf_bf16) h4)⟩
  have ⟨nw, e5⟩ : ∃ f, m (c, Proc.devRef .tc Cert.SsdIdeal.main_arg5) = up2 f := ⟨_, eq_up2 _ (finite_of_cmp _ _ (fun _ => by first | exact bits_inf | exact bits_inf_bf16) h5)⟩
  obtain ⟨cv, y, pv, hk⟩ := Ref.known zx dm cw cb hs nw
  exact ⟨_, ⟨e0, e1, e2, e3, e4, e5⟩, hk⟩

end Cert.Ssd

end
-- ==== Proof.Ssd.RunAll.lean ====
/- The kernel's run with its five results named. -/
module

public import proofs.«01_k».proof.Proof.Ssd.Final
public import Idealize.ShloMosaic.Lib.Claim

@[expose] public section

set_option maxRecDepth 16384

noncomputable section

namespace Cert.Ssd

open Idealize.ShloMosaic Idealize.ShloMosaic.TcCoe Idealize.SL.Sem Cert.Lift Cert.SsdIdeal Cert.SsdIdeal.Gen Cert.SsdIdeal.Run

set_option maxHeartbeats 2000000 in
/-- The kernel's run: its five results, its arguments unchanged. -/
theorem run_all (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v340_0) = (dats m 0 c).arrAt 17 cfg0.N
      ∧ r.2.mem ((c : Thread nD τ).loc main_v340_1) = (dats m 0 c).arrAt 18 cfg0.N
      ∧ r.2.mem ((c : Thread nD τ).loc main_v344) = extractStridedSlice S1x1024 ![0, 0] ((dats m 0 c).arrAt 19 cfg0.N : Vec Ideal S8x1024 .f32) facts.slices_S8x1024_S1x1024_0_0
      ∧ r.2.mem ((c : Thread nD τ).loc main_v343) = Final.heads ((dats m 0 c).arrAt 19 cfg0.N)
      ∧ r.2.mem ((c : Thread nD τ).loc main_v340_3) = (dats m 0 c).arrAt 20 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h.1 c).1, (h.1 c).2.1, (h.1 c).2.2.1, (h.1 c).2.2.2.1, (h.1 c).2.2.2.2, h.2 c⟩)
    (θ_run_and (Final.run_blocks m ρ) (frame_of m ρ (dats m) (A_eq m)
      ((θ_run defs _ _).mono (fun _ h => h.1) (launch m ρ))))

end Cert.Ssd

end
-- ==== Proof.Ssd.RunRef.lean ====
/- The reference's run with its five results named by the reference's stages. -/
module

public import proofs.«01_k».proof.Proof.Gen.SsdRefIdeal.Read
public import proofs.«01_k».proof.Proof.Gen.SsdRefIdeal.Run
public import Idealize.ShloMosaic.Lib.Claim

@[expose] public section

set_option maxRecDepth 16384

noncomputable section

namespace Cert.Ssd

open Idealize.ShloMosaic Idealize.ShloMosaic.TcCoe Idealize.SL.Sem Idealize.ShloMosaic.StableHlo
open Cert.SsdRefIdeal Cert.SsdRefIdeal.Gen Cert.SsdRefIdeal.Read

set_option maxHeartbeats 2000000 in
/-- The reference's run: its five results, its arguments unchanged. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v886) = val_main_v886 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v888) = val_main_v888 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v350) = val_main_v350 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v890) = val_main_v890 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v889) = val_main_v889 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (val_main_v886_eq (launchContents m c)),
    (h c).2.1.trans (val_main_v888_eq (launchContents m c)),
    (h c).2.2.1.trans (val_main_v350_eq (launchContents m c)),
    (h c).2.2.2.1.trans (val_main_v890_eq (launchContents m c)),
    (h c).2.2.2.2.1.trans (val_main_v889_eq (launchContents m c)),
    (h c).2.2.2.2.2⟩) (Cert.SsdRefIdeal.Value.run (F := Ideal) m ρ)

end Cert.Ssd

end
-- ==== Proof.Ssd.Values.lean ====
/- Each of the reference's five results is the kernel's. -/
module

public import proofs.«01_k».proof.Proof.Ssd.Final
public import proofs.«01_k».proof.Proof.Ssd.RefE

@[expose] public section

set_option maxRecDepth 16384

noncomputable section

namespace Cert.Ssd

open Idealize.ShloMosaic Idealize.ShloMosaic.TcCoe Idealize.SL.Sem Cert.Lift
open Cert.SsdIdeal Cert.SsdIdeal.Gen Cert.SsdIdeal.Run

variable {m : (ℓ : Loc nD τ sig) → Buf (Elt Ideal) ℓ} {c : Dev nD} {K : Cert.Ssd.G} (h : Blocks.ArgsOf m c K) (hk : Ref.Known K)

include h hk in
theorem value886 : Cert.SsdRefIdeal.Read.val_main_v886 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = (dats m 0 c).arrAt 17 cfg0.N := by
  rw [h.zx, h.dm, h.cw, h.cb, h.hs, h.nw, Final.left17 h hk]
  exact Ref.v880 K hk

include h hk in
theorem value888 : Cert.SsdRefIdeal.Read.val_main_v888 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = (dats m 0 c).arrAt 18 cfg0.N := by
  rw [h.zx, h.dm, h.cw, h.cb, h.hs, h.nw, Final.left18 h hk]
  exact Ref.v882 K hk

include h hk in
theorem value350 : Cert.SsdRefIdeal.Read.val_main_v350 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = extractStridedSlice S1x1024 ![0, 0] ((dats m 0 c).arrAt 19 cfg0.N : Vec Ideal S8x1024 .f32) facts.slices_S8x1024_S1x1024_0_0 := by
  rw [h.zx, h.dm, h.cw, h.cb, h.hs, Final.row0 h hk]
  exact Ref.v344_g K hk

include h hk in
theorem value890 : Cert.SsdRefIdeal.Read.val_main_v890 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = Final.heads ((dats m 0 c).arrAt 19 cfg0.N) := by
  rw [h.zx, h.dm, h.cw, h.cb, h.hs, h.nw, Final.sums h hk]
  exact Ref.v884 K hk

include h hk in
theorem value889 : Cert.SsdRefIdeal.Read.val_main_v889 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = (dats m 0 c).arrAt 20 cfg0.N := by
  rw [h.zx, h.dm, h.cw, h.cb, h.hs, h.nw, Final.left20 h hk]
  exact Ref.v883 K hk

end Cert.Ssd

end
-- ==== Proof.Ssd.Claim.lean ====
/- The two programs of the recurrence's gradient agree. -/
module

public import proofs.«01_k».proof.Defs
public import proofs.«01_k».proof.Proof.Ssd.Args
public import proofs.«01_k».proof.Proof.Ssd.RunAll
public import proofs.«01_k».proof.Proof.Ssd.RunRef
public import proofs.«01_k».proof.Proof.Ssd.Values
public import proofs.«01_k».proof.Proof.Ssd.Frame
public import proofs.«01_k».proof.Proof.Ssd.KernelFrame

@[expose] public section

set_option maxRecDepth 16384

noncomputable section

namespace Cert.Ssd

open Idealize.ShloMosaic Idealize.ShloMosaic.TcCoe Idealize.SL.Sem Cert.Lift

set_option maxHeartbeats 4000000 in
theorem algebraic : @Cert.algebraic_SsdIdeal_SsdRefIdeal_pre_finite_ssd Cert.SsdIdeal.Gen.facts Cert.SsdRefIdeal.Gen.facts preFacts := by
  pair_intro
  · run_from run_all m g
  · run_from run_ref m' g'
    all_goals obtain ⟨K, h, hk⟩ := args_of_finite m hpre c
    · exact value886 h hk
    · exact value888 h hk
    · exact value350 h hk
    · exact value890 h hk
    · exact value889 h hk

end Cert.Ssd

end
-- ==== Proof.Prenorm.Run.lean ====
/- One grid point of the pre-norm and projection kernel. -/
module

public import proofs.«01_k».proof.Proof.Gen.PrenormIdeal.Frame
public import proofs.«01_k».proof.Proof.Gen.PrenormIdeal.Skeleton
public import proofs.«01_k».proof.Proof.Stores
public import Idealize.ShloMosaic.Lib.Pipeline.FrameBody
public import Idealize.ShloMosaic.Lib.Pipeline.FrameSuffix
public import Idealize.ShloMosaic.Lib.Tactic
public import Idealize.ShloMosaic.Lib.WordCmp
public import Idealize.ShloMosaic.Lib.VecWindow

@[expose] public section

set_option maxRecDepth 16384

noncomputable section

namespace Cert.PrenormIdeal.Run

open Cert.PrenormIdeal Cert.PrenormIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The memrefs the body is called with: the three inputs and the two outputs. -/
structure Bufs where
  (a2 : Memref sig .tc .vmem S1024x1024 .f32) (h2 : a2.IsWhole)
  (a3 : Memref sig .tc .vmem S1x1024 .f32) (h3 : a3.IsWhole)
  (a4 : Memref sig .tc .vmem S7168x1024 .bf16) (h4 : a4.IsWhole)
  (a5 : Memref sig .tc .vmem S1024x1024 .f32) (h5 : a5.IsWhole)
  (a6 : Memref sig .tc .vmem S1024x1024 .bf16) (h6 : a6.IsWhole)

variable (F) in
/-- What the inputs hold: rows of the hidden state, the norm's weight, the projection's weight. -/
structure Ins where
  x : Vec F S1024x1024 .f32
  n : Vec F S1x1024 .f32
  w : Vec F S7168x1024 .bf16

/-- A whole memref with its contents. -/
abbrev own (c : Dev nD) {s : Shape} {e : EltTy} (a : Memref sig .tc .vmem s e) (x : Vec F s e) : sProp 𝕄 :=
  owns (c : Thread nD τ) a fullShare x

/-- The inputs at their contents. -/
def inputs (c : Dev nD) (B : Bufs) (X : Ins F) : sProp 𝕄 :=
  iprop(own c B.a2 X.x ∗ own c B.a3 X.n ∗ own c B.a4 X.w)

theorem own_unread (c : Dev nD) {s : Shape} {e : EltTy} {a : Memref sig .tc .vmem s e} (h : a.IsWhole) (x : Vec F s e) :
    (a.view.loc (c : Thread nD τ) ↦[a.view.set]{fullShare} h.unread x : sProp 𝕄)
      ⊢ iprop(∃ f, ⌜View.read (Elt F) a.view f = x⌝ ∗ a.view.loc (c : Thread nD τ) ↦[a.view.set]{fullShare} f) := by
  iintro H; iexists _; isplitr
  · ipureintro; exact h.read_unread _
  · iexact H

theorem own_of_read (c : Dev nD) {s : Shape} {e : EltTy} (a : Memref sig .tc .vmem s e) (f) (x : Vec F s e)
    (h : View.read (Elt F) a.view f = x) :
    (a.view.loc (c : Thread nD τ) ↦[a.view.set]{fullShare} f : sProp 𝕄)
      ⊢ iprop(∃ f, ⌜View.read (Elt F) a.view f = x⌝ ∗ a.view.loc (c : Thread nD τ) ↦[a.view.set]{fullShare} f) := by
  iintro H; iexists _; isplitr; swap
  · iexact H
  · ipureintro; exact h

/-- The body on the buffers `B`. -/
abbrev body (i : grid0.Coords) (B : Bufs) : Prog (TpuEff nD τ sig (Elt F) Λ₀ .tc) PUnit :=
  cc0_prenorm_inproj i B.a2 B.h2 B.a3 B.h3 B.a4 B.h4 B.a5 B.h5 B.a6 B.h6

/-- The rows of the weight that grid point `i` multiplies by. -/
def band (i : grid0.Coords) (w : Vec F S7168x1024 .bf16) : Vec F S1024x1024 .bf16 :=
  View.ld w (Rect.unit (s := S7168x1024) (k0_off1 i) S1024x1024.size (k0_off1_inb i))

set_option maxHeartbeats 1000000 in
/-- A point of the first column: it normalises the rows, then multiplies. -/
theorem runA (c : Dev nD) (i : grid0.Coords) (B : Bufs) (hc : k0_cond1 i = 1#1) (X : Ins F) (E : Set ℕ) (K : PUnit → sProp 𝕄) :
    iprop(inputs c B X ∗ (∃ d, own c B.a5 d) ∗ (∃ d, own c B.a6 d)
        ∗ (iprop(inputs c B X ∗ own c B.a5 (k0_pay2 (k0_pay1 X.x X.n) (band i X.w)) ∗ own c B.a6 (k0_pay1 X.x X.n)) -∗ K ⟨⟩))
      ⊢ wp frame (wpE (defs₀ (F := F)) Variants.none c none) E (body i B) K := by
  unfold body; simp only [cc0_prenorm_inproj_eq_skeleton]; unfold cc0_prenorm_inproj_skel
  unfold inputs own owns
  iintro ⟨⟨⟨%f0, %e0, H0⟩, ⟨%f1, %e1, H1⟩, ⟨%f2, %e2, H2⟩⟩, ⟨%d3, %f3, %e3, H3⟩, ⟨%d4, %f4, %e4, H4⟩, Hk⟩
  obtain rfl := B.h2.eq_unread e0; obtain rfl := B.h3.eq_unread e1; obtain rfl := B.h4.eq_unread e2
  sl_exec (disch := first | sl_exact hc)
  sl_step
  iapply Hk
  isplitl [H0 H1 H2]
  · isplitl [H0]; · exact own_unread c B.h2 _
    isplitl [H1]; · exact own_unread c B.h3 _
    exact own_unread c B.h4 _
  isplitl [H3]
  · refine own_of_read c _ _ _ ?_
    dsimp only [runA.sl.v3, runA.sl.H4_1]
    rw [View.read_writes_full, View.readCov_full, View.readAt_full, View.readAt_full, B.h2.read_unread, B.h3.read_unread, View.readAt_eq_ld, B.h4.read_unread]
    rfl
  · refine own_of_read c _ _ _ ?_
    dsimp only [runA.sl.H4_1]
    rw [View.read_writes_full, View.readAt_full, View.readAt_full, B.h2.read_unread, B.h3.read_unread]

set_option maxHeartbeats 1000000 in
/-- A later point of a row: it multiplies the rows normalised before. -/
theorem runB (c : Dev nD) (i : grid0.Coords) (B : Bufs) (hc : ¬k0_cond1 i = 1#1) (X : Ins F) (u : Vec F S1024x1024 .bf16) (E : Set ℕ) (K : PUnit → sProp 𝕄) :
    iprop(inputs c B X ∗ (∃ d, own c B.a5 d) ∗ own c B.a6 u
        ∗ (iprop(inputs c B X ∗ own c B.a5 (k0_pay2 u (band i X.w)) ∗ own c B.a6 u) -∗ K ⟨⟩))
      ⊢ wp frame (wpE (defs₀ (F := F)) Variants.none c none) E (body i B) K := by
  unfold body; simp only [cc0_prenorm_inproj_eq_skeleton]; unfold cc0_prenorm_inproj_skel
  unfold inputs own owns
  iintro ⟨⟨⟨%f0, %e0, H0⟩, ⟨%f1, %e1, H1⟩, ⟨%f2, %e2, H2⟩⟩, ⟨%d3, %f3, %e3, H3⟩, ⟨%f4, %e4, H4⟩, Hk⟩
  obtain rfl := B.h2.eq_unread e0; obtain rfl := B.h3.eq_unread e1; obtain rfl := B.h4.eq_unread e2; obtain rfl := B.h6.eq_unread e4
  sl_exec (disch := first | sl_exact hc)
  sl_step
  iapply Hk
  isplitl [H0 H1 H2]
  · isplitl [H0]; · exact own_unread c B.h2 _
    isplitl [H1]; · exact own_unread c B.h3 _
    exact own_unread c B.h4 _
  isplitl [H3]
  · refine own_of_read c _ _ _ ?_
    rw [View.read_writes_full, View.readAt_full, B.h6.read_unread, View.readAt_eq_ld, B.h4.read_unread]
    rfl
  · exact own_unread c B.h6 _

end Cert.PrenormIdeal.Run

end
-- ==== Proof.Prenorm.Launch.lean ====
/- What the pre-norm and projection kernel leaves after every grid point, and its launch. -/
module

public import proofs.«01_k».proof.Proof.Prenorm.Run
public import Idealize.ShloMosaic.Lib.Pipeline.TableIdle

@[expose] public section

set_option maxRecDepth 16384

noncomputable section

namespace Cert.PrenormIdeal.Run

open Cert.PrenormIdeal Cert.PrenormIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers of point `t`. -/
abbrev bufs (t : Fin cfg0.N) : Bufs :=
  ⟨win0_0.stage (cfg0.slots t 0), hstage0_0 ((cfg0.slots t 0).cast nbuf0_0), win0_1.stage (cfg0.slots t 1), hstage0_1 ((cfg0.slots t 1).cast nbuf0_1),
    win0_2.stage (cfg0.slots t 2), hstage0_2 ((cfg0.slots t 2).cast nbuf0_2), win0_3.stage (cfg0.slots t 3), hstage0_3 ((cfg0.slots t 3).cast nbuf0_3),
    win0_4.stage (cfg0.slots t 4), hstage0_4 ((cfg0.slots t 4).cast nbuf0_4)⟩

/-- The inputs of point `t`. -/
abbrev ins (c : Dev nD) (t : Fin cfg0.N) : Ins F := ⟨iblk m c 0 t, iblk m c 1 t, iblk m c 2 t⟩

/-- The rows are normalised at the first point of every row of the grid. -/
theorem first_iff : ∀ t : Fin cfg0.N, k0_cond1 (grid0.coords t) = 1#1 ↔ t.val % 7 = 0 :=
  (fun t => by
    have ht : t.val < 28 := Nat.lt_of_lt_of_eq t.isLt N_0
    have e0 : (grid0.coords t 1).val = t.val / 1 % 7 := Pipeline.Grid.coords_val t 1 (by decide) rfl
    simp only [k0_cond1, e0]
    word_cmp
   : ∀ t : Fin grid0.N, k0_cond1 (grid0.coords t) = 1#1 ↔ t.val % 7 = 0)

/-- The normalised rows after point `n`. -/
def nrm (c : Dev nD) : (n : ℕ) → n < cfg0.N → Vec F S1024x1024 .bf16
  | 0, h => k0_pay1 (iblk m c 0 ⟨0, h⟩) (iblk m c 1 ⟨0, h⟩)
  | n + 1, h => if (n + 1) % 7 = 0 then k0_pay1 (iblk m c 0 ⟨n + 1, h⟩) (iblk m c 1 ⟨n + 1, h⟩) else nrm c n (Nat.lt_of_succ_lt h)

/-- The block of the product that point `t` leaves. -/
def prod (c : Dev nD) (t : Fin cfg0.N) : Vec F S1024x1024 .f32 :=
  k0_pay2 (nrm m c t.val t.isLt) (band (grid0.coords t) (iblk m c 2 t))

/-- The proof data: every input at its block, the outputs at the block of the product and at the normalised rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => prod m c t
    | ⟨4, _⟩ => nrm m c t.val t.isLt
    | ⟨_ + 5, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem before0 (c : Dev nD) (t : Fin cfg0.N) (d) : (dats m 0 c).before 0 t d = iblk m c 0 t :=
  before0_0_of m (dats m 0 c) (A_eq m c 0) (fun t => by dsimp only [dats]) t d
theorem before1 (c : Dev nD) (t : Fin cfg0.N) (d) : (dats m 0 c).before 1 t d = iblk m c 1 t :=
  before0_1_of m (dats m 0 c) (A_eq m c 1) (fun t => by dsimp only [dats]) t d
theorem before2 (c : Dev nD) (t : Fin cfg0.N) (d) : (dats m 0 c).before 2 t d = iblk m c 2 t :=
  before0_2_of m (dats m 0 c) (A_eq m c 2) (fun t => by dsimp only [dats]) t d

/-- A point is idle for the normalised rows when it is not the first of its row. -/
theorem idle_iff (t : Fin cfg0.N) : cfg0.idle 4 (cfg0.grid.coords t) = true ↔ ¬t.val % 7 = 0 := by
  rw [← first_iff t]
  show (!(k0_cond1 (grid0.coords t) == 1#1)) = true ↔ _
  simp

theorem fresh_iff (n : ℕ) (h : n ≤ cfg0.N) : cfg0.fresh 4 n = decide (n % 7 = 0) := by
  refine Pipeline.Cfg.fresh_tab cfg0 4 (fun n => decide (n % 7 = 0)) rfl (fun t => ?_) n h
  have hf := flush0_4 t
  have hi := idle_iff t
  by_cases h7 : t.val % 7 = 0
  · have e : (cfg0.win 4).flush t = false := Bool.eq_false_iff.mpr fun e => by have := hf.1 e; omega
    have e' : cfg0.idle 4 (cfg0.grid.coords t) = false := Bool.eq_false_iff.mpr fun e => hi.1 e h7
    rw [e, e']
    simp only [Bool.false_or, Bool.false_and, decide_eq_false_iff_not]; omega
  · by_cases h6 : t.val % 7 = 6
    · rw [hf.2 h6]
      simp only [Bool.true_or, decide_eq_true_eq]; omega
    · have e : (cfg0.win 4).flush t = false := Bool.eq_false_iff.mpr fun e => h6 (hf.1 e)
      rw [e]
      simp only [h7, Bool.false_or, decide_false, Bool.and_false, decide_eq_false_iff_not]; omega

theorem nrm_succ (c : Dev nD) (n : ℕ) (h : n + 1 < cfg0.N) (h7 : ¬(n + 1) % 7 = 0) :
    nrm m c (n + 1) h = nrm m c n (Nat.lt_of_succ_lt h) := by
  show (if (n + 1) % 7 = 0 then _ else _) = _
  rw [if_neg h7]

/-- The normalised rows stay through a row of the grid. -/
theorem before4 (c : Dev nD) (n : ℕ) (h : n + 1 < cfg0.N) (h7 : ¬(n + 1) % 7 = 0) (d) :
    (dats m 0 c).before 4 ⟨n + 1, h⟩ d = nrm m c n (Nat.lt_of_succ_lt h) := by
  refine ((dats m 0 c).before_out_traj 4 rfl (fun _ _ => rfl) (fun t ht hi _ => ?_) (n + 1) ⟨n + 1, h⟩ rfl d).trans ?_
  · obtain ⟨_ | k, hk⟩ := t
    · exact absurd rfl ht
    · dsimp only [dats]
      exact nrm_succ m c k hk ((idle_iff _).1 hi)
  · rw [fresh_iff _ (Nat.le_of_lt h), if_neg (by simpa using h7)]
    dsimp only [dats]; rfl

/-- What the body is called with at point `t`, window by window. -/
def pre (c : Dev nD) (t : Fin cfg0.N) : sProp 𝕄 :=
  iprop((dats m 0 c).Φ t.castSucc ∗ (dats m 0 c).owesAt () t.castSucc
    ∗ (∃ d, own c (bufs t).a2 ((dats m 0 c).before 0 t d))
    ∗ (∃ d, own c (bufs t).a3 ((dats m 0 c).before 1 t d))
    ∗ (∃ d, own c (bufs t).a4 ((dats m 0 c).before 2 t d))
    ∗ (∃ d, own c (bufs t).a5 ((dats m 0 c).before 3 t d))
    ∗ (∃ d, own c (bufs t).a6 ((dats m 0 c).before 4 t d)))

/-- What it returns. -/
def post (c : Dev nD) (t : Fin cfg0.N) : sProp 𝕄 :=
  iprop((dats m 0 c).Φ t.succ ∗ (dats m 0 c).owesAt () t.succ
    ∗ own c (bufs t).a2 ((dats m 0 c).after 0 t)
    ∗ own c (bufs t).a3 ((dats m 0 c).after 1 t)
    ∗ own c (bufs t).a4 ((dats m 0 c).after 2 t)
    ∗ own c (bufs t).a5 ((dats m 0 c).after 3 t)
    ∗ own c (bufs t).a6 ((dats m 0 c).after 4 t))

theorem post_eq (c : Dev nD) (t : Fin cfg0.N) (u : Vec F S1024x1024 .bf16) (hu : nrm m c t.val t.isLt = u) :
    iprop((dats m 0 c).Φ t.castSucc ∗ (dats m 0 c).owesAt () t.castSucc ∗ inputs c (bufs t) (ins m c t)
      ∗ own c (bufs t).a5 (k0_pay2 u (band (grid0.coords t) (iblk m c 2 t))) ∗ own c (bufs t).a6 u) ⊢ post m c t := by
  subst hu
  unfold post inputs
  rw [show (dats m 0 c).owesAt () t.succ = (dats m 0 c).owesAt () t.castSucc from rfl,
    show (dats m 0 c).Φ t.succ = (dats m 0 c).Φ t.castSucc from rfl]
  dsimp only [dats, prod]
  iintro ⟨HΦ, Ho, ⟨H0, H1, H2⟩, H3, H4⟩
  iframe HΦ Ho H0 H1 H2 H3 H4

theorem first_point (c : Dev nD) (t : Fin cfg0.N) (h7 : t.val % 7 = 0) :
    pre m c t ⊢ wp frame (wpE (defs₀ (F := F)) Variants.none c none) Set.univ (body (grid0.coords t) (bufs t)) (fun _ => post m c t) := by
  have hu : nrm m c t.val t.isLt = k0_pay1 (iblk m c 0 t) (iblk m c 1 t) := by
    obtain ⟨_ | n, h⟩ := t
    · rfl
    · show (if (n + 1) % 7 = 0 then _ else _) = _
      rw [if_pos h7]
  unfold pre
  simp only [before0, before1, before2]
  iintro ⟨HΦ, Ho, ⟨%d0, H0⟩, ⟨%d1, H1⟩, ⟨%d2, H2⟩, ⟨%d3, H3⟩, ⟨%d4, H4⟩⟩
  iapply (runA c (grid0.coords t) (bufs t) ((first_iff t).2 h7) (ins m c t) _ _)
  unfold inputs
  iframe H0 H1 H2
  isplitl [H3]; · iexists _; iexact H3
  isplitl [H4]; · iexists _; iexact H4
  iintro ⟨⟨H0, H1, H2⟩, H3, H4⟩
  iapply (post_eq m c t _ hu)
  unfold inputs
  iframe HΦ Ho H0 H1 H2 H3 H4

theorem later_point (c : Dev nD) (n : ℕ) (h : n + 1 < cfg0.N) (h7 : ¬(n + 1) % 7 = 0) :
    pre m c ⟨n + 1, h⟩ ⊢ wp frame (wpE (defs₀ (F := F)) Variants.none c none) Set.univ
      (body (grid0.coords ⟨n + 1, h⟩) (bufs ⟨n + 1, h⟩)) (fun _ => post m c ⟨n + 1, h⟩) := by
  have hu := nrm_succ m c n h h7
  unfold pre
  simp only [before0, before1, before2, before4 m c n h h7]
  iintro ⟨HΦ, Ho, ⟨%d0, H0⟩, ⟨%d1, H1⟩, ⟨%d2, H2⟩, ⟨%d3, H3⟩, ⟨%d4, H4⟩⟩
  iapply (runB c (grid0.coords ⟨n + 1, h⟩) (bufs ⟨n + 1, h⟩) (fun e => h7 ((first_iff ⟨n + 1, h⟩).1 e)) (ins m c ⟨n + 1, h⟩)
    (nrm m c n (Nat.lt_of_succ_lt h)) _ _)
  unfold inputs
  iframe H0 H1 H2 H4
  isplitl [H3]; · iexists _; iexact H3
  iintro ⟨⟨H0, H1, H2⟩, H3, H4⟩
  iapply (post_eq m c ⟨n + 1, h⟩ _ hu)
  unfold inputs
  iframe HΦ Ho H0 H1 H2 H3 H4

theorem point (c : Dev nD) (t : Fin cfg0.N) :
    pre m c t ⊢ wp frame (wpE (defs₀ (F := F)) Variants.none c none) Set.univ (bodyAt0 t) (fun _ => post m c t) := by
  by_cases h7 : t.val % 7 = 0
  · exact first_point m c t h7
  · obtain ⟨_ | n, h⟩ := t
    · exact absurd rfl h7
    · exact later_point m c n h h7

theorem row (t : Fin cfg0.N) : defs₀ (F := F) .tc cfg0.body (cfg0.bodyArgs t (cfg0.slots t)) = bodyAt0 t := by
  unfold defs₀; rw [Defs.onTc_tc]

/-- At an idle point the buffer of the normalised rows is handed back as it was found. -/
theorem close4 (c : Dev nD) (t : Fin cfg0.N) :
    own c (bufs t).a6 ((dats m 0 c).after 4 t) ⊢
      (match cfg0.idle 4 (cfg0.grid.coords t) with
      | true => match (cfg0.win 4).flush t with
        | false => iprop(∃ d, own c (bufs t).a6 ((dats m 0 c).before 4 t d))
        | true => own c (bufs t).a6 ((dats m 0 c).after 4 t)
      | false => own c (bufs t).a6 ((dats m 0 c).after 4 t) : sProp 𝕄) := by
  cases hi : cfg0.idle 4 (cfg0.grid.coords t)
  · exact .rfl
  · cases hf : (cfg0.win 4).flush t
    · have h7 := (idle_iff t).1 hi
      obtain ⟨_ | n, h⟩ := t
      · exact absurd rfl h7
      · have e : (dats m 0 c).after 4 ⟨n + 1, h⟩ = (dats m 0 c).before 4 ⟨n + 1, h⟩ (nrm m c n (Nat.lt_of_succ_lt h)) := by
          rw [before4 m c n h h7]; dsimp only [dats]; exact nrm_succ m c n h h7
        rw [e]
        iintro H; iexists _; iexact H
    · exact .rfl

theorem obligation (c : Dev nD) : BodyObligation (dats (F := F) m 0 c) (defs₀ (F := F)) Variants.none () Set.univ := fun t => by
  rw [bigSep_W0, bigSep_W0, row]
  exact triple_restated (point m c t) rfl .rfl fun _ =>
    sep_mono .rfl (sep_mono .rfl (sep_mono .rfl (sep_mono .rfl (sep_mono .rfl (sep_mono .rfl (close4 m c t))))))

set_option backward.isDefEq.respectTransparency.types false in
set_option maxHeartbeats 800000 in
/-- The launch: every execution ends with the arrays at what the proof data computes and every counter at zero. -/
theorem launch : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch0.to₀ defs₀ Variants.none m ρ main
    (hbody := fun c => (obligation m c).loose) (hq := fun _ _ _ => rfl) (howed := fun _ _ => rfl) (V := V m) (hmain := hmain m Variants.none)
    (hA := A_eq m) (hin := fun _ => .rfl) (hout := fun _ => .rfl)

end Cert.PrenormIdeal.Run

end
-- ==== Proof.Prenorm.Final.lean ====
/- What the pre-norm and projection kernel leaves in its two results, on extended reals. -/
module

public import proofs.«01_k».proof.Proof.Prenorm.Launch
public import proofs.«01_k».proof.Proof.Lift
public import proofs.«01_k».proof.Proof.Stores
public import proofs.«01_k».proof.Proof.Gen.PrenormRefIdeal.Read
public import proofs.«01_k».proof.Proof.Gen.PrenormRefIdeal.Run
public import Idealize.ShloMosaic.Lib.Pipeline.ValueKit
public import Idealize.ShloMosaic.Lib.Pipeline.ReadBack
public import Idealize.ShloMosaic.Lib.Claim
public import Idealize.ShloMosaic.Lib.StableHlo.RunRead
public import Idealize.ShloMosaic.Lib.KernelVsHost

@[expose] public section

set_option maxRecDepth 16384

noncomputable section

namespace Cert.Prenorm

open Idealize.ShloMosaic Idealize.ShloMosaic.TcCoe Idealize.SL.Sem

/-- A matrix of extended reals as an array. -/
def mat {n k : ℕ} (a : Fin n → Fin k → EReal) : (⟨2, ![n, k]⟩ : Shape).Idx → EReal := fun i => a (i 0) (i 1)

theorem eq_mat {n k : ℕ} (X : (⟨2, ![n, k]⟩ : Shape).Idx → EReal) : X = mat fun a b => X (ix2 a b) := by
  funext i; rw [eq_ix2 i]; rfl

/-- The normalised rows: `x / √(mean x² + ε) · g`. -/
def nrm {n : ℕ} (x : Fin n → Fin 1024 → EReal) (g : Fin 1 → Fin 1024 → EReal) : Fin n → Fin 1024 → EReal := fun r d =>
  x r d * Ideal.rsqrt (Ideal.div (∑ e, x r e * x r e) (Ideal.ofBits .f32 0x44800000#32) + Ideal.ofBits .f32 0x358637BD#32) * g 0 d

/-- The weight with columns of zeros after it. -/
def padded (w : Fin 1024 → Fin 6672 → EReal) : Fin 1024 → Fin 7168 → EReal := fun d e => if h : e.val < 6672 then w d ⟨e.val, h⟩ else 0

/-- The projection. -/
def proj {n : ℕ} (u : Fin n → Fin 1024 → EReal) (w : Fin 1024 → Fin 6672 → EReal) : Fin n → Fin 7168 → EReal := fun r e =>
  ∑ d, u r d * padded w d e

section Reference
open Cert.PrenormRefIdeal Cert.PrenormRefIdeal.Gen Cert.PrenormRefIdeal.Read
variable (x : Fin 4096 → Fin 1024 → EReal) (g : Fin 1 → Fin 1024 → EReal) (w : Fin 1024 → Fin 6672 → EReal)

theorem v11 : val_main_v11 (F := Ideal) (mat x) (mat g) = mat (nrm x g) := by
  funext i; idx_vars i
  pointwise [val_main_v11, val_main_v10, val_main_v9, val_main_v8, val_main_v7, val_main_v6, val_main_v5, val_main_v4, val_main_v3, val_main_v2,
    val_main_v1, val_main_v0, val_main_cst, val_main_cst_0, val_main_cst_1, mat]
  rfl

theorem v14 : val_main_v14 (F := Ideal) (mat x) (mat g) = mat (nrm x g) := by
  funext i; idx_vars i
  pointwise [val_main_v14, v11]

theorem v12 : val_main_v12 (F := Ideal) (mat w) = mat (padded w) := by
  funext i; idx_vars i
  pointwise [val_main_v12, val_main_call0_v0, val_main_c, mat]
  unfold padded
  by_cases h0 : i1.val < 6672
  · rw [dif_pos h0, dif_pos h0]
  · rw [dif_neg h0, dif_neg h0]; exact Idealize.ShloMosaic.sitofp_zero (φ := .f32)

theorem v13 : val_main_v13 (F := Ideal) (mat x) (mat g) (mat w) = mat (proj (nrm x g) w) := by
  funext i; idx_vars i
  pointwise [val_main_v13, v11, v12, mat]
  rfl

end Reference

section Kernel
open Idealize.ShloMosaic.Pipeline (Dat)
open Cert.PrenormIdeal Cert.PrenormIdeal.Gen Cert.PrenormIdeal.Run

theorem p1 (x : Fin 1024 → Fin 1024 → EReal) (g : Fin 1 → Fin 1024 → EReal) : k0_pay1 (F := Ideal) (mat x) (mat g) = mat (nrm x g) := by
  funext i; idx_vars i
  pointwise [k0_pay1, mat]
  rfl

theorem p2 (a b : Fin 1024 → Fin 1024 → EReal) : k0_pay2 (F := Ideal) (mat a) (mat b) = mat fun r e => ∑ d, a r d * b e d := by
  funext i; idx_vars i
  pointwise [k0_pay2, mat]

theorem idx : ∀ t : Fin cfg0.N, win0_0.index t = ![t.val / 7, 0] ∧ win0_1.index t = ![0, 0] ∧ win0_2.index t = ![0, 0] ∧
    win0_3.index t = ![t.val / 7, t.val % 7] ∧ win0_4.index t = ![t.val / 7, 0] :=
  (by decide +kernel : ∀ t : Fin grid0.N, _)

/-- A row of a block as a row of the array. -/
def row (p : Fin 28) (r : Fin 1024) : Fin 4096 := ⟨1024 * (p.val / 7) + r.val, by omega⟩

/-- A column of the block of columns one grid point works on. -/
def col (p : Fin 28) (e : Fin 1024) : Fin 7168 := ⟨1024 * (p.val % 7) + e.val, by omega⟩

variable (m : (ℓ : Loc nD τ sig) → Buf (Elt Ideal) ℓ) (c : Dev nD)
  (x : Fin 4096 → Fin 1024 → EReal) (g : Fin 1 → Fin 1024 → EReal) (w : Fin 1024 → Fin 6672 → EReal)

/-- The arguments are these arrays. -/
structure Args : Prop where
  x : m ((c.tc : Thread nD τ).loc main_arg0) = mat x
  g : m ((c.tc : Thread nD τ).loc main_arg1) = mat g
  w : m ((c.tc : Thread nD τ).loc main_arg2) = mat w

/-- The weight the kernel reads is the transposed weight over zeros. -/
theorem opW_eq : V m c main_v2 = pad S7168x1024 ![0, 0] ![496, 0] ![0, 0]
    (truncf (F := Ideal) .bf16 (transpose S6672x1024 [1, 0] (m ((c.tc : Thread nD τ).loc main_arg2) : Vec Ideal S1024x6672 .f32) transposes_S1024x6672_S6672x1024_1_0) bitsLt_bf16_f32)
    (sitofp (F := Ideal) .bf16 (constantI S_ 32 0#32)) pads_S6672x1024_S7168x1024_04960_000 h_S_ := by
  simp only [V, hostOps0, hostOps0_1, List.flatten_cons, List.flatten_nil, List.append_nil, List.cons_append, List.nil_append]
  entry_read
  rfl

variable {m c x g w} (h : Args m c x g w) (p : Fin cfg0.N)

include h in
theorem opW : V m c main_v2 = mat fun e d => padded w d e := by
  rw [opW_eq, h.w]
  funext j; idx_vars j
  pointwise [mat]
  unfold padded
  by_cases h0 : j0.val < 6672
  · rw [dif_pos h0, dif_pos h0]
  · rw [dif_neg h0, dif_neg h0]; exact Idealize.ShloMosaic.sitofp_zero

include h in
theorem blk0 : iblk m c 0 p = mat fun r => x (row p r) := by
  funext i; idx_vars i
  have e : iblk m c 0 p (ix2 i0 i1) = m ((c.tc : Thread nD τ).loc main_arg0) (ix2 (row p i0) i1) := by blk_ext [iblk, V, idx p, row]
  rw [e, h.x]; rfl

include h in
theorem blk1 : iblk m c 1 p = mat g := by
  funext i; idx_vars i
  have e : iblk m c 1 p (ix2 i0 i1) = m ((c.tc : Thread nD τ).loc main_arg1) (ix2 i0 i1) := by blk_ext [iblk, V, idx p]
  rw [e, h.g]

include h in
theorem blk2 : iblk m c 2 p = mat fun e d => padded w d e := by
  funext i; idx_vars i
  have e : iblk m c 2 p (ix2 i0 i1) = V m c main_v2 (ix2 i0 i1) := by blk_ext [iblk, idx p]
  rw [e, opW h]

theorem off (p : Fin cfg0.N) : k0_off1 (grid0.coords p) = ![1024 * (p.val % 7), 0] := by
  revert p
  exact (by decide +kernel : ∀ t : Fin grid0.N, k0_off1 (grid0.coords t) = ![1024 * (t.val % 7), 0])

theorem band_eq (W : Fin 7168 → Fin 1024 → EReal) (p : Fin cfg0.N) : band (F := Ideal) (grid0.coords p) (mat W) = mat fun e d => W (col p e) d := by
  funext i; idx_vars i
  unfold band
  refine (View.ld_unit_apply_of (Val := Elt Ideal) (e := .bf16) (mat W) _ _ (k0_off1_inb (grid0.coords p)) (ix2 i0 i1) (ix2 (col p i0) i1) fun a => ?_).trans rfl
  match a with
  | ⟨0, _⟩ => exact (congrArg (· + i0.val) (congrFun (off p) 0)).symm
  | ⟨1, _⟩ => exact (Nat.zero_add i1.val).symm.trans (congrArg (· + i1.val) (congrFun (off p) 1)).symm

include h in
/-- The normalised rows after every point. -/
theorem nrm_eq (n : ℕ) (hn : n < cfg0.N) : Run.nrm m c n hn = mat fun r => nrm x g (row ⟨n, hn⟩ r) := by
  induction n with
  | zero => show k0_pay1 _ _ = _; rw [blk0 h, blk1 h, p1]; rfl
  | succ n ih =>
    by_cases h7 : (n + 1) % 7 = 0
    · show (if (n + 1) % 7 = 0 then _ else _) = _
      rw [if_pos h7, blk0 h, blk1 h, p1]; rfl
    · rw [nrm_succ m c n hn h7, ih]
      funext i
      simp only [mat, row, show (n + 1) / 7 = n / 7 by omega]

include h in
theorem prod_eq : prod m c p = mat fun r e => proj (nrm x g) w (row p r) (col p e) := by
  unfold prod
  rw [nrm_eq h, blk2 h, band_eq, p2]; rfl

include h in
theorem final3 : (dats m 0 c).arrAt 3 cfg0.N = mat (proj (nrm x g) w) := by
  refine (dats m 0 c).arrAt_eq_of_covers 3 _ (by decide +kernel) fun p hf y => ?_
  have e : ((View.whole main_v3_0).slice (win0_3.rect p)).emb y = ix2 (row p (y 0)) (col p (y 1)) := by blk_ext [idx p, row, col]
  have e3 : (dats m 0 c).after 3 p = prod m c p := by dsimp only [dats]
  blk_simp
  rw [e3, prod_eq h]
  rw [e]; rfl

include h in
theorem final4 : (dats m 0 c).arrAt 4 cfg0.N = mat (nrm x g) := by
  refine (dats m 0 c).arrAt_eq_of_covers 4 _ (by decide +kernel) fun p hf y => ?_
  have e : ((View.whole main_v3_1).slice (win0_4.rect p)).emb y = ix2 (row p (y 0)) (y 1) := by blk_ext [idx p, row]
  have e4 : (dats m 0 c).after 4 p = Run.nrm m c p.val p.isLt := by dsimp only [dats]
  blk_simp
  rw [e4, nrm_eq h]
  rw [e]; rfl

/-- The kernel's run: its two results, its arguments unchanged. -/
theorem run_all (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3_0) = (dats m 0 c).arrAt 3 cfg0.N
      ∧ r.2.mem ((c : Thread nD τ).loc main_v3_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1.1 c).1 3, (h.1.1 c).1 4, h.2 c⟩)
    (θ_run_and (launch m ρ) (frame_of m ρ (dats m) (A_eq m) ((θ_run defs _ _).mono (fun _ h => h.1) (launch m ρ))))

variable (m) in
/-- The reference's projection is the kernel's. -/
theorem value13 (c : Dev nD) : Cert.PrenormRefIdeal.Read.val_main_v13 (F := Ideal) (m ((c.tc : Thread nD τ).loc main_arg0)) (m ((c.tc : Thread nD τ).loc main_arg1))
    (m ((c.tc : Thread nD τ).loc main_arg2)) = (dats m 0 c).arrAt 3 cfg0.N := by
  have h : Args m c _ _ _ := ⟨eq_mat _, eq_mat _, eq_mat _⟩
  rw [final3 h]
  exact (congr (congrArg₂ _ h.x h.g) h.w).trans (v13 _ _ _)

variable (m) in
/-- The reference's normalised rows are the kernel's. -/
theorem value14 (c : Dev nD) : Cert.PrenormRefIdeal.Read.val_main_v14 (F := Ideal) (m ((c.tc : Thread nD τ).loc main_arg0)) (m ((c.tc : Thread nD τ).loc main_arg1))
    = (dats m 0 c).arrAt 4 cfg0.N := by
  have h : Args m c _ _ _ := ⟨eq_mat _, eq_mat _, eq_mat _⟩
  rw [final4 h]
  exact (congrArg₂ _ h.x h.g).trans (v14 _ _)

end Kernel

section ReferenceRun
open Cert.PrenormRefIdeal Cert.PrenormRefIdeal.Gen Cert.PrenormRefIdeal.Read

/-- The reference's run: its two results named by its stages, its arguments unchanged. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = val_main_v13 (F := Ideal) (m ((c.tc : Thread nD τ).loc main_arg0)) (m ((c.tc : Thread nD τ).loc main_arg1)) (m ((c.tc : Thread nD τ).loc main_arg2))
      ∧ r.2.mem ((c.tc : Thread nD τ).loc main_v14) = val_main_v14 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (val_main_v13_eq _ _ _), (h c).2.1.trans (val_main_v14_eq _ _), (h c).2.2⟩)
    (Cert.PrenormRefIdeal.Value.run (F := Ideal) m ρ)

end ReferenceRun

end Cert.Prenorm

end
-- ==== Proof.Prenorm.Claim.lean ====
/- The pre-norm and projection: the kernel changes none of its arguments, and its two results are the reference's. The
printed program and its idealized one have the same text; each is run at its own names. -/
module

public import proofs.«01_k».proof.Defs
public import proofs.«01_k».proof.Proof.Prenorm.Final
public import proofs.«01_k».proof.Proof.PrenormBits.Launch
public import proofs.«01_k».proof.Proof.Gen.PrenormRefIdeal.Run
public import Idealize.ShloMosaic.Lib.Claim

@[expose] public section

set_option maxRecDepth 16384

noncomputable section

namespace Cert.Prenorm

open Idealize.ShloMosaic Idealize.ShloMosaic.TcCoe Idealize.SL.Sem

/-- The kernel changes none of its arguments and ends with every counter at zero. -/
theorem frameIdeal : @Cert.quiescent_PrenormIdeal Cert.PrenormIdeal.Gen.facts := fun m ρ _ =>
  θ_run_and (Cert.PrenormIdeal.Gen.frame_of m ρ (Cert.PrenormIdeal.Run.dats m) (Cert.PrenormIdeal.Run.A_eq m)
      ((θ_run Cert.PrenormIdeal.defs _ _).mono (fun _ h => h.1) (Cert.PrenormIdeal.Run.launch m ρ)))
    ((θ_run Cert.PrenormIdeal.defs _ _).mono (fun _ h => h.2) (Cert.PrenormIdeal.Run.launch m ρ))

/-- The same of the printed program. -/
theorem frame : @Cert.quiescent_Prenorm Cert.Prenorm.Gen.facts := fun m ρ _ =>
  θ_run_and (Cert.Prenorm.Gen.frame_of m ρ (Cert.Prenorm.Run.dats m) (Cert.Prenorm.Run.A_eq m)
      ((θ_run Cert.Prenorm.defs _ _).mono (fun _ h => h.1) (Cert.Prenorm.Run.launch m ρ)))
    ((θ_run Cert.Prenorm.defs _ _).mono (fun _ h => h.2) (Cert.Prenorm.Run.launch m ρ))

/-- The reference writes none of its arguments and declares no semaphore. -/
theorem frameRef : @Cert.quiescent_PrenormRefIdeal Cert.PrenormRefIdeal.Gen.facts := fun m ρ _ =>
  (θ_run Cert.PrenormRefIdeal.defs _ _).mono
    (fun r h => ⟨fun c => (h c).2.2, sem_eq_zero_of_no_sems (by decide) r.2⟩) (Cert.PrenormRefIdeal.Value.run (F := Ideal) m ρ)

theorem algebraic : @Cert.algebraic_PrenormIdeal_PrenormRefIdeal Cert.PrenormIdeal.Gen.facts Cert.PrenormRefIdeal.Gen.facts := by
  pair_intro
  · run_from run_all m g
  · run_from run_ref m' g'
    · exact value13 m c
    · exact value14 m c

end Cert.Prenorm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojIdeal.Value
public import proofs.«01_k».proof.Proof.Gen.InprojRefIdeal
public import proofs.«01_k».proof.Proof.Gen.InprojRefIdeal.Run
public import proofs.«01_k».proof.Proof.Gen.InprojRefIdeal.Read
public import proofs.«01_k».proof.Proof.Gen.Ssd
public import proofs.«01_k».proof.Proof.Gen.Ssd.Skeleton
public import proofs.«01_k».proof.Proof.Gen.Ssd.Launch
public import proofs.«01_k».proof.Proof.Gen.Ssd.Points
public import proofs.«01_k».proof.Proof.Gen.Ssd.Frame
public import proofs.«01_k».proof.Proof.Gen.SsdIdeal
public import proofs.«01_k».proof.Proof.Gen.SsdIdeal.Skeleton
public import proofs.«01_k».proof.Proof.Gen.SsdIdeal.Launch
public import proofs.«01_k».proof.Proof.Gen.SsdIdeal.Points
public import proofs.«01_k».proof.Proof.Gen.SsdIdeal.Frame
public import proofs.«01_k».proof.Proof.Gen.SsdRefIdeal
public import proofs.«01_k».proof.Proof.Gen.SsdRefIdeal.Run
public import proofs.«01_k».proof.Proof.Gen.SsdRefIdeal.Read
public import proofs.«01_k».proof.Proof.Gen.Prenorm
public import proofs.«01_k».proof.Proof.Gen.Prenorm.Skeleton
public import proofs.«01_k».proof.Proof.Gen.Prenorm.Launch
public import proofs.«01_k».proof.Proof.Gen.Prenorm.Points
public import proofs.«01_k».proof.Proof.Gen.Prenorm.Frame
public import proofs.«01_k».proof.Proof.Gen.PrenormIdeal
public import proofs.«01_k».proof.Proof.Gen.PrenormIdeal.Skeleton
public import proofs.«01_k».proof.Proof.Gen.PrenormIdeal.Launch
public import proofs.«01_k».proof.Proof.Gen.PrenormIdeal.Points
public import proofs.«01_k».proof.Proof.Gen.PrenormIdeal.Frame
public import proofs.«01_k».proof.Proof.Gen.PrenormRefIdeal
public import proofs.«01_k».proof.Proof.Gen.PrenormRefIdeal.Run
public import proofs.«01_k».proof.Proof.Gen.PrenormRefIdeal.Read
public import proofs.«01_k».proof.Proof.Outproj.Claim
public import proofs.«01_k».proof.Proof.Inproj.Claim
public import proofs.«01_k».proof.Proof.Ssd.Frame
public import proofs.«01_k».proof.Proof.Ssd.KernelFrame
public import proofs.«01_k».proof.Proof.Ssd.Claim
public import proofs.«01_k».proof.Proof.Prenorm.Claim
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Inproj.Gen.facts, Cert.InprojIdeal.Gen.facts, Cert.InprojRefIdeal.Gen.facts,
    Cert.Ssd.Gen.facts, Cert.SsdIdeal.Gen.facts, Cert.SsdRefIdeal.Gen.facts,
    Cert.Prenorm.Gen.facts, Cert.PrenormIdeal.Gen.facts, Cert.PrenormRefIdeal.Gen.facts, Cert.Outproj.preFacts, Cert.Inproj.preFacts, Cert.Ssd.preFacts,
    fun m ρ _ => Cert.Kernel.Gen.frame m ρ, fun m ρ _ => Cert.KernelIdeal.Gen.frame m ρ, fun m ρ _ => Cert.KernelIdeal.Gen.frame m ρ,
    Cert.Outproj.frameRef, fun m ρ _ => Cert.Outproj.frameRef m ρ trivial,
    fun m ρ _ => Cert.Inproj.Gen.frame m ρ, fun m ρ _ => Cert.InprojIdeal.Gen.frame m ρ, fun m ρ _ => Cert.InprojIdeal.Gen.frame m ρ,
    Cert.Inproj.frameRef, fun m ρ _ => Cert.Inproj.frameRef m ρ trivial,
    Cert.Ssd.frame, Cert.Ssd.frameIdeal, fun m ρ _ => Cert.Ssd.frameIdeal m ρ trivial,
    Cert.Ssd.frameRef, fun m ρ _ => Cert.Ssd.frameRef m ρ trivial,
    Cert.Prenorm.frame, Cert.Prenorm.frameIdeal, Cert.Prenorm.frameRef,
    trivial, Cert.Outproj.algebraic, trivial, Cert.Inproj.algebraic, trivial, Cert.Ssd.algebraic,
    trivial, Cert.Prenorm.algebraic⟩

end Cert.Proof

end
